-- ==== Defs.lean ====
def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_in_bwd_finite [hPre_in_bwd_finite : Cert.Pre_in_bwd_finite.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_in_bwd_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3))) = (fun _ => 1#1)

def Pre_InRefIdeal (m : (ℓ : Loc Cert.InRefIdeal.nD Cert.InRefIdeal.τ Cert.InRefIdeal.sig) → Buf (Elt Ideal) ℓ) : Prop :=
  True

def Pre_InRefIdeal_in_bwd_finite [hPre_in_bwd_finite : Cert.Pre_in_bwd_finite.Facts] (m : (ℓ : Loc Cert.InRefIdeal.nD Cert.InRefIdeal.τ Cert.InRefIdeal.sig) → Buf (Elt Ideal) ℓ) : Prop :=
  ∀ c : Dev Cert.InRefIdeal.nD,
    (Cert.Pre_in_bwd_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_PleBwd (m : (ℓ : Loc Cert.PleBwd.nD Cert.PleBwd.τ Cert.PleBwd.sig) → Buf (Elt Bits) ℓ) : Prop :=
  True

def Pre_PleBwdIdeal (m : (ℓ : Loc Cert.PleBwdIdeal.nD Cert.PleBwdIdeal.τ Cert.PleBwdIdeal.sig) → Buf (Elt Ideal) ℓ) : Prop :=
  True

def Pre_PleBwdIdeal_ple_finite [hPre_ple_finite : Cert.Pre_ple_finite.Facts] (m : (ℓ : Loc Cert.PleBwdIdeal.nD Cert.PleBwdIdeal.τ Cert.PleBwdIdeal.sig) → Buf (Elt Ideal) ℓ) : Prop :=
  ∀ c : Dev Cert.PleBwdIdeal.nD,
    (Cert.Pre_ple_finite.fn (F := Ideal) (m ((c.tc : Thread Cert.PleBwdIdeal.nD Cert.PleBwdIdeal.τ).loc Cert.PleBwdIdeal.main_arg0)) (m ((c.tc : Thread Cert.PleBwdIdeal.nD Cert.PleBwdIdeal.τ).loc Cert.PleBwdIdeal.main_arg1)) (m ((c.tc : Thread Cert.PleBwdIdeal.nD Cert.PleBwdIdeal.τ).loc Cert.PleBwdIdeal.main_arg2)) (m ((c.tc : Thread Cert.PleBwdIdeal.nD Cert.PleBwdIdeal.τ).loc Cert.PleBwdIdeal.main_arg3)) (m ((c.tc : Thread Cert.PleBwdIdeal.nD Cert.PleBwdIdeal.τ).loc Cert.PleBwdIdeal.main_arg4))) = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_ple_finite [hPre_ple_finite : Cert.Pre_ple_finite.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_tail_finite [hPre_tail_finite : Cert.Pre_tail_finite.Facts] (m : (ℓ : Loc Cert.TailIdeal.nD Cert.TailIdeal.τ Cert.TailIdeal.sig) → Buf (Elt Ideal) ℓ) : Prop :=
  ∀ c : Dev Cert.TailIdeal.nD,
    (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5))) = (fun _ => 1#1)

def Pre_TailRefIdeal (m : (ℓ : Loc Cert.TailRefIdeal.nD Cert.TailRefIdeal.τ Cert.TailRefIdeal.sig) → Buf (Elt Ideal) ℓ) : Prop :=
  True

def Pre_TailRefIdeal_tail_finite [hPre_tail_finite : Cert.Pre_tail_finite.Facts] (m : (ℓ : Loc Cert.TailRefIdeal.nD Cert.TailRefIdeal.τ Cert.TailRefIdeal.sig) → Buf (Elt Ideal) ℓ) : Prop :=
  ∀ c : Dev Cert.TailRefIdeal.nD,
    (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5))) = (fun _ => 1#1)

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdIdeal_mix_finite [hPre_mix_finite : Cert.Pre_mix_finite.Facts] (m : (ℓ : Loc Cert.MixBwdIdeal.nD Cert.MixBwdIdeal.τ Cert.MixBwdIdeal.sig) → Buf (Elt Ideal) ℓ) : Prop :=
  ∀ c : Dev Cert.MixBwdIdeal.nD,
    (Cert.Pre_mix_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))) = (fun _ => 1#1)

def Pre_GeluBwd (m : (ℓ : Loc Cert.GeluBwd.nD Cert.GeluBwd.τ Cert.GeluBwd.sig) → Buf (Elt Bits) ℓ) : Prop :=
  True

def Pre_GeluBwdIdeal (m : (ℓ : Loc Cert.GeluBwdIdeal.nD Cert.GeluBwdIdeal.τ Cert.GeluBwdIdeal.sig) → Buf (Elt Ideal) ℓ) : Prop :=
  True

def Pre_GeluBwdIdeal_gelu_finite [hPre_gelu_finite : Cert.Pre_gelu_finite.Facts] (m : (ℓ : Loc Cert.GeluBwdIdeal.nD Cert.GeluBwdIdeal.τ Cert.GeluBwdIdeal.sig) → Buf (Elt Ideal) ℓ) : Prop :=
  ∀ c : Dev Cert.GeluBwdIdeal.nD,
    (Cert.Pre_gelu_finite.fn (F := Ideal) (m ((c.tc : Thread Cert.GeluBwdIdeal.nD Cert.GeluBwdIdeal.τ).loc Cert.GeluBwdIdeal.main_arg0)) (m ((c.tc : Thread Cert.GeluBwdIdeal.nD Cert.GeluBwdIdeal.τ).loc Cert.GeluBwdIdeal.main_arg1)) (m ((c.tc : Thread Cert.GeluBwdIdeal.nD Cert.GeluBwdIdeal.τ).loc Cert.GeluBwdIdeal.main_arg2))) = (fun _ => 1#1)

def Pre_GeluRefIdeal (m : (ℓ : Loc Cert.GeluRefIdeal.nD Cert.GeluRefIdeal.τ Cert.GeluRefIdeal.sig) → Buf (Elt Ideal) ℓ) : Prop :=
  True

def Pre_GeluRefIdeal_gelu_finite [hPre_gelu_finite : Cert.Pre_gelu_finite.Facts] (m : (ℓ : Loc Cert.GeluRefIdeal.nD Cert.GeluRefIdeal.τ Cert.GeluRefIdeal.sig) → Buf (Elt Ideal) ℓ) : Prop :=
  ∀ c : Dev Cert.GeluRefIdeal.nD,
    (Cert.Pre_gelu_finite.fn (F := Ideal) (m ((c.tc : Thread Cert.GeluRefIdeal.nD Cert.GeluRefIdeal.τ).loc Cert.GeluRefIdeal.main_arg0)) (m ((c.tc : Thread Cert.GeluRefIdeal.nD Cert.GeluRefIdeal.τ).loc Cert.GeluRefIdeal.main_arg1)) (m ((c.tc : Thread Cert.GeluRefIdeal.nD Cert.GeluRefIdeal.τ).loc Cert.GeluRefIdeal.main_arg2))) = (fun _ => 1#1)

def Pre_QkvBwd (m : (ℓ : Loc Cert.QkvBwd.nD Cert.QkvBwd.τ Cert.QkvBwd.sig) → Buf (Elt Bits) ℓ) : Prop :=
  True

def Pre_QkvBwdIdeal (m : (ℓ : Loc Cert.QkvBwdIdeal.nD Cert.QkvBwdIdeal.τ Cert.QkvBwdIdeal.sig) → Buf (Elt Ideal) ℓ) : Prop :=
  True

def Pre_QkvBwdIdeal_qkv_finite [hPre_qkv_finite : Cert.Pre_qkv_finite.Facts] (m : (ℓ : Loc Cert.QkvBwdIdeal.nD Cert.QkvBwdIdeal.τ Cert.QkvBwdIdeal.sig) → Buf (Elt Ideal) ℓ) : Prop :=
  ∀ c : Dev Cert.QkvBwdIdeal.nD,
    (Cert.Pre_qkv_finite.fn (F := Ideal) (m ((c.tc : Thread Cert.QkvBwdIdeal.nD Cert.QkvBwdIdeal.τ).loc Cert.QkvBwdIdeal.main_arg0)) (m ((c.tc : Thread Cert.QkvBwdIdeal.nD Cert.QkvBwdIdeal.τ).loc Cert.QkvBwdIdeal.main_arg1)) (m ((c.tc : Thread Cert.QkvBwdIdeal.nD Cert.QkvBwdIdeal.τ).loc Cert.QkvBwdIdeal.main_arg2)) (m ((c.tc : Thread Cert.QkvBwdIdeal.nD Cert.QkvBwdIdeal.τ).loc Cert.QkvBwdIdeal.main_arg3)) (m ((c.tc : Thread Cert.QkvBwdIdeal.nD Cert.QkvBwdIdeal.τ).loc Cert.QkvBwdIdeal.main_arg4)) (m ((c.tc : Thread Cert.QkvBwdIdeal.nD Cert.QkvBwdIdeal.τ).loc Cert.QkvBwdIdeal.main_arg5)) (m ((c.tc : Thread Cert.QkvBwdIdeal.nD Cert.QkvBwdIdeal.τ).loc Cert.QkvBwdIdeal.main_arg6)) (m ((c.tc : Thread Cert.QkvBwdIdeal.nD Cert.QkvBwdIdeal.τ).loc Cert.QkvBwdIdeal.main_arg7)) (m ((c.tc : Thread Cert.QkvBwdIdeal.nD Cert.QkvBwdIdeal.τ).loc Cert.QkvBwdIdeal.main_arg8)) (m ((c.tc : Thread Cert.QkvBwdIdeal.nD Cert.QkvBwdIdeal.τ).loc Cert.QkvBwdIdeal.main_arg9)) (m ((c.tc : Thread Cert.QkvBwdIdeal.nD Cert.QkvBwdIdeal.τ).loc Cert.QkvBwdIdeal.main_arg10))) = (fun _ => 1#1)

def Pre_QkvRefIdeal (m : (ℓ : Loc Cert.QkvRefIdeal.nD Cert.QkvRefIdeal.τ Cert.QkvRefIdeal.sig) → Buf (Elt Ideal) ℓ) : Prop :=
  True

def Pre_QkvRefIdeal_qkv_finite [hPre_qkv_finite : Cert.Pre_qkv_finite.Facts] (m : (ℓ : Loc Cert.QkvRefIdeal.nD Cert.QkvRefIdeal.τ Cert.QkvRefIdeal.sig) → Buf (Elt Ideal) ℓ) : Prop :=
  ∀ c : Dev Cert.QkvRefIdeal.nD,
    (Cert.Pre_qkv_finite.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4)) (m ((c.tc : Thread Cert.QkvRefIdeal.nD Cert.QkvRefIdeal.τ).loc Cert.QkvRefIdeal.main_arg5)) (m ((c.tc : Thread Cert.QkvRefIdeal.nD Cert.QkvRefIdeal.τ).loc Cert.QkvRefIdeal.main_arg6)) (m ((c.tc : Thread Cert.QkvRefIdeal.nD Cert.QkvRefIdeal.τ).loc Cert.QkvRefIdeal.main_arg7)) (m ((c.tc : Thread Cert.QkvRefIdeal.nD Cert.QkvRefIdeal.τ).loc Cert.QkvRefIdeal.main_arg8)) (m ((c.tc : Thread Cert.QkvRefIdeal.nD Cert.QkvRefIdeal.τ).loc Cert.QkvRefIdeal.main_arg9)) (m ((c.tc : Thread Cert.QkvRefIdeal.nD Cert.QkvRefIdeal.τ).loc Cert.QkvRefIdeal.main_arg10))) = (fun _ => 1#1)

def Pre_SsmParam (m : (ℓ : Loc Cert.SsmParam.nD Cert.SsmParam.τ Cert.SsmParam.sig) → Buf (Elt Bits) ℓ) : Prop :=
  True

def Pre_SsmParamIdeal (m : (ℓ : Loc Cert.SsmParamIdeal.nD Cert.SsmParamIdeal.τ Cert.SsmParamIdeal.sig) → Buf (Elt Ideal) ℓ) : Prop :=
  True

def Pre_SsmParamIdeal_ssm_param_finite [hPre_ssm_param_finite : Cert.Pre_ssm_param_finite.Facts] (m : (ℓ : Loc Cert.SsmParamIdeal.nD Cert.SsmParamIdeal.τ Cert.SsmParamIdeal.sig) → Buf (Elt Ideal) ℓ) : Prop :=
  ∀ c : Dev Cert.SsmParamIdeal.nD,
    (Cert.Pre_ssm_param_finite.fn (F := Ideal) (m ((c.tc : Thread Cert.SsmParamIdeal.nD Cert.SsmParamIdeal.τ).loc Cert.SsmParamIdeal.main_arg0)) (m ((c.tc : Thread Cert.SsmParamIdeal.nD Cert.SsmParamIdeal.τ).loc Cert.SsmParamIdeal.main_arg1)) (m ((c.tc : Thread Cert.SsmParamIdeal.nD Cert.SsmParamIdeal.τ).loc Cert.SsmParamIdeal.main_arg2)) (m ((c.tc : Thread Cert.SsmParamIdeal.nD Cert.SsmParamIdeal.τ).loc Cert.SsmParamIdeal.main_arg3)) (m ((c.tc : Thread Cert.SsmParamIdeal.nD Cert.SsmParamIdeal.τ).loc Cert.SsmParamIdeal.main_arg4)) (m ((c.tc : Thread Cert.SsmParamIdeal.nD Cert.SsmParamIdeal.τ).loc Cert.SsmParamIdeal.main_arg5)) (m ((c.tc : Thread Cert.SsmParamIdeal.nD Cert.SsmParamIdeal.τ).loc Cert.SsmParamIdeal.main_arg6)) (m ((c.tc : Thread Cert.SsmParamIdeal.nD Cert.SsmParamIdeal.τ).loc Cert.SsmParamIdeal.main_arg7)) (m ((c.tc : Thread Cert.SsmParamIdeal.nD Cert.SsmParamIdeal.τ).loc Cert.SsmParamIdeal.main_arg8)) (m ((c.tc : Thread Cert.SsmParamIdeal.nD Cert.SsmParamIdeal.τ).loc Cert.SsmParamIdeal.main_arg9)) (m ((c.tc : Thread Cert.SsmParamIdeal.nD Cert.SsmParamIdeal.τ).loc Cert.SsmParamIdeal.main_arg10)) (m ((c.tc : Thread Cert.SsmParamIdeal.nD Cert.SsmParamIdeal.τ).loc Cert.SsmParamIdeal.main_arg11))) = (fun _ => 1#1)

def Pre_SsmParamRefIdeal (m : (ℓ : Loc Cert.SsmParamRefIdeal.nD Cert.SsmParamRefIdeal.τ Cert.SsmParamRefIdeal.sig) → Buf (Elt Ideal) ℓ) : Prop :=
  True

def Pre_SsmParamRefIdeal_ssm_param_finite [hPre_ssm_param_finite : Cert.Pre_ssm_param_finite.Facts] (m : (ℓ : Loc Cert.SsmParamRefIdeal.nD Cert.SsmParamRefIdeal.τ Cert.SsmParamRefIdeal.sig) → Buf (Elt Ideal) ℓ) : Prop :=
  ∀ c : Dev Cert.SsmParamRefIdeal.nD,
    (Cert.Pre_ssm_param_finite.fn (F := Ideal) (m ((c.tc : Thread Cert.SsmParamRefIdeal.nD Cert.SsmParamRefIdeal.τ).loc Cert.SsmParamRefIdeal.main_arg0)) (m ((c.tc : Thread Cert.SsmParamRefIdeal.nD Cert.SsmParamRefIdeal.τ).loc Cert.SsmParamRefIdeal.main_arg1)) (m ((c.tc : Thread Cert.SsmParamRefIdeal.nD Cert.SsmParamRefIdeal.τ).loc Cert.SsmParamRefIdeal.main_arg2)) (m ((c.tc : Thread Cert.SsmParamRefIdeal.nD Cert.SsmParamRefIdeal.τ).loc Cert.SsmParamRefIdeal.main_arg3)) (m ((c.tc : Thread Cert.SsmParamRefIdeal.nD Cert.SsmParamRefIdeal.τ).loc Cert.SsmParamRefIdeal.main_arg4)) (m ((c.tc : Thread Cert.SsmParamRefIdeal.nD Cert.SsmParamRefIdeal.τ).loc Cert.SsmParamRefIdeal.main_arg5)) (m ((c.tc : Thread Cert.SsmParamRefIdeal.nD Cert.SsmParamRefIdeal.τ).loc Cert.SsmParamRefIdeal.main_arg6)) (m ((c.tc : Thread Cert.SsmParamRefIdeal.nD Cert.SsmParamRefIdeal.τ).loc Cert.SsmParamRefIdeal.main_arg7)) (m ((c.tc : Thread Cert.SsmParamRefIdeal.nD Cert.SsmParamRefIdeal.τ).loc Cert.SsmParamRefIdeal.main_arg8)) (m ((c.tc : Thread Cert.SsmParamRefIdeal.nD Cert.SsmParamRefIdeal.τ).loc Cert.SsmParamRefIdeal.main_arg9)) (m ((c.tc : Thread Cert.SsmParamRefIdeal.nD Cert.SsmParamRefIdeal.τ).loc Cert.SsmParamRefIdeal.main_arg10)) (m ((c.tc : Thread Cert.SsmParamRefIdeal.nD Cert.SsmParamRefIdeal.τ).loc Cert.SsmParamRefIdeal.main_arg11))) = (fun _ => 1#1)

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_QkvPrep (m : (ℓ : Loc Cert.QkvPrep.nD Cert.QkvPrep.τ Cert.QkvPrep.sig) → Buf (Elt Bits) ℓ) : Prop :=
  True

def Pre_QkvPrepIdeal (m : (ℓ : Loc Cert.QkvPrepIdeal.nD Cert.QkvPrepIdeal.τ Cert.QkvPrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_SsmBwd (m : (ℓ : Loc Cert.SsmBwd.nD Cert.SsmBwd.τ Cert.SsmBwd.sig) → Buf (Elt Bits) ℓ) : Prop :=
  True

def Pre_SsmBwdIdeal (m : (ℓ : Loc Cert.SsmBwdIdeal.nD Cert.SsmBwdIdeal.τ Cert.SsmBwdIdeal.sig) → Buf (Elt Ideal) ℓ) : Prop :=
  True

def Pre_SsmFwd (m : (ℓ : Loc Cert.SsmFwd.nD Cert.SsmFwd.τ Cert.SsmFwd.sig) → Buf (Elt Bits) ℓ) : Prop :=
  True

def Pre_SsmFwdIdeal (m : (ℓ : Loc Cert.SsmFwdIdeal.nD Cert.SsmFwdIdeal.τ Cert.SsmFwdIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamC (m : (ℓ : Loc Cert.AdamC.nD Cert.AdamC.τ Cert.AdamC.sig) → Buf (Elt Bits) ℓ) : Prop :=
  True

def Pre_AdamCIdeal (m : (ℓ : Loc Cert.AdamCIdeal.nD Cert.AdamCIdeal.τ Cert.AdamCIdeal.sig) → Buf (Elt Ideal) ℓ) : Prop :=
  True

def Pre_AdamCRefIdeal (m : (ℓ : Loc Cert.AdamCRefIdeal.nD Cert.AdamCRefIdeal.τ Cert.AdamCRefIdeal.sig) → Buf (Elt Ideal) ℓ) : Prop :=
  True

def Pre_SumBlocks (m : (ℓ : Loc Cert.SumBlocks.nD Cert.SumBlocks.τ Cert.SumBlocks.sig) → Buf (Elt Bits) ℓ) : Prop :=
  True

def Pre_SumBlocksIdeal (m : (ℓ : Loc Cert.SumBlocksIdeal.nD Cert.SumBlocksIdeal.τ Cert.SumBlocksIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_DOutProj (m : (ℓ : Loc Cert.DOutProj.nD Cert.DOutProj.τ Cert.DOutProj.sig) → Buf (Elt Bits) ℓ) : Prop :=
  True

def Pre_DOutProjIdeal (m : (ℓ : Loc Cert.DOutProjIdeal.nD Cert.DOutProjIdeal.τ Cert.DOutProjIdeal.sig) → Buf (Elt Ideal) ℓ) : Prop :=
  True

def Pre_DOutRefIdeal (m : (ℓ : Loc Cert.DOutRefIdeal.nD Cert.DOutRefIdeal.τ Cert.DOutRefIdeal.sig) → Buf (Elt Ideal) ℓ) : Prop :=
  True

def Pre_PairSum [hPre_own_core : Cert.Pre_own_core.Facts] (m : (ℓ : Loc Cert.PairSum.nD Cert.PairSum.τ Cert.PairSum.sig) → Buf (Elt Bits) ℓ) : Prop :=
  ∀ c : Dev Cert.PairSum.nD,
    (Cert.Pre_own_core.fn (F := Bits) (m ((c.tc : Thread Cert.PairSum.nD Cert.PairSum.τ).loc Cert.PairSum.main_arg0)) (m ((c.tc : Thread Cert.PairSum.nD Cert.PairSum.τ).loc Cert.PairSum.main_arg1)) (m ((c.tc : Thread Cert.PairSum.nD Cert.PairSum.τ).loc Cert.PairSum.main_arg2))) = (fun _ => 1#1)

def Pre_PairSumIdeal [hPre_own_core : Cert.Pre_own_core.Facts] (m : (ℓ : Loc Cert.PairSumIdeal.nD Cert.PairSumIdeal.τ Cert.PairSumIdeal.sig) → Buf (Elt Ideal) ℓ) : Prop :=
  ∀ c : Dev Cert.PairSumIdeal.nD,
    (Cert.Pre_own_core.fn (F := Ideal) (m ((c.tc : Thread Cert.PairSumIdeal.nD Cert.PairSumIdeal.τ).loc Cert.PairSumIdeal.main_arg0)) (m ((c.tc : Thread Cert.PairSumIdeal.nD Cert.PairSumIdeal.τ).loc Cert.PairSumIdeal.main_arg1)) (m ((c.tc : Thread Cert.PairSumIdeal.nD Cert.PairSumIdeal.τ).loc Cert.PairSumIdeal.main_arg2))) = (fun _ => 1#1)

def Pre_PairRefIdeal (m : (ℓ : Loc Cert.PairRefIdeal.nD Cert.PairRefIdeal.τ Cert.PairRefIdeal.sig) → Buf (Elt Ideal) ℓ) : Prop :=
  True

def Pre_PairRefIdeal_own_core [hPre_own_core : Cert.Pre_own_core.Facts] (m : (ℓ : Loc Cert.PairRefIdeal.nD Cert.PairRefIdeal.τ Cert.PairRefIdeal.sig) → Buf (Elt Ideal) ℓ) : Prop :=
  ∀ c : Dev Cert.PairRefIdeal.nD,
    (Cert.Pre_own_core.fn (F := Ideal) (m ((c.tc : Thread Cert.PairRefIdeal.nD Cert.PairRefIdeal.τ).loc Cert.PairRefIdeal.main_arg0)) (m ((c.tc : Thread Cert.PairRefIdeal.nD Cert.PairRefIdeal.τ).loc Cert.PairRefIdeal.main_arg1)) (m ((c.tc : Thread Cert.PairRefIdeal.nD Cert.PairRefIdeal.τ).loc Cert.PairRefIdeal.main_arg2))) = (fun _ => 1#1)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3))
      ∧ r.2.sem = fun _ => 0)

def quiescent_InBwdIdeal_pre_in_bwd_finite [hInBwdIdeal : Cert.InBwdIdeal.Facts] [hPre_in_bwd_finite : Cert.Pre_in_bwd_finite.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_in_bwd_finite m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3))
      ∧ r.2.sem = fun _ => 0)

def quiescent_InRefIdeal_pre_in_bwd_finite [hInRefIdeal : Cert.InRefIdeal.Facts] [hPre_in_bwd_finite : Cert.Pre_in_bwd_finite.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_in_bwd_finite m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_PleBwd [hPleBwd : Cert.PleBwd.Facts] : Prop :=
  ∀ (m : (ℓ : Loc Cert.PleBwd.nD Cert.PleBwd.τ Cert.PleBwd.sig) → Buf (Elt Bits) ℓ) (g : Dev Cert.PleBwd.nD → PrngReg), Pre_PleBwd m →
    θ_run (Cert.PleBwd.defs (F := Bits)) (onTc (τ := Cert.PleBwd.τ) (Cert.PleBwd.main (F := Bits))) ⟨m, fun _ => 0, g⟩ (fun r => (∀ c : Dev Cert.PleBwd.nD,
      r.2.mem ((c.tc : Thread Cert.PleBwd.nD Cert.PleBwd.τ).loc Cert.PleBwd.main_arg0) = m ((c.tc : Thread Cert.PleBwd.nD Cert.PleBwd.τ).loc Cert.PleBwd.main_arg0)
      ∧ r.2.mem ((c.tc : Thread Cert.PleBwd.nD Cert.PleBwd.τ).loc Cert.PleBwd.main_arg1) = m ((c.tc : Thread Cert.PleBwd.nD Cert.PleBwd.τ).loc Cert.PleBwd.main_arg1)
      ∧ r.2.mem ((c.tc : Thread Cert.PleBwd.nD Cert.PleBwd.τ).loc Cert.PleBwd.main_arg2) = m ((c.tc : Thread Cert.PleBwd.nD Cert.PleBwd.τ).loc Cert.PleBwd.main_arg2)
      ∧ r.2.mem ((c.tc : Thread Cert.PleBwd.nD Cert.PleBwd.τ).loc Cert.PleBwd.main_arg3) = m ((c.tc : Thread Cert.PleBwd.nD Cert.PleBwd.τ).loc Cert.PleBwd.main_arg3)
      ∧ r.2.mem ((c.tc : Thread Cert.PleBwd.nD Cert.PleBwd.τ).loc Cert.PleBwd.main_arg4) = m ((c.tc : Thread Cert.PleBwd.nD Cert.PleBwd.τ).loc Cert.PleBwd.main_arg4))
      ∧ r.2.sem = fun _ => 0)

def quiescent_PleBwdIdeal [hPleBwdIdeal : Cert.PleBwdIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
      ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
      ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4))
      ∧ r.2.sem = fun _ => 0)

def quiescent_PleBwdIdeal_pre_ple_finite [hPleBwdIdeal : Cert.PleBwdIdeal.Facts] [hPre_ple_finite : Cert.Pre_ple_finite.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal_ple_finite m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
      ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
      ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_PleRefIdeal_pre_ple_finite [hPleRefIdeal : Cert.PleRefIdeal.Facts] [hPre_ple_finite : Cert.Pre_ple_finite.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_ple_finite m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5))
      ∧ r.2.sem = fun _ => 0)

def quiescent_TailIdeal_pre_tail_finite [hTailIdeal : Cert.TailIdeal.Facts] [hPre_tail_finite : Cert.Pre_tail_finite.Facts] : Prop :=
  ∀ (m : (ℓ : Loc Cert.TailIdeal.nD Cert.TailIdeal.τ Cert.TailIdeal.sig) → Buf (Elt Ideal) ℓ) (g : Dev Cert.TailIdeal.nD → PrngReg), Pre_TailIdeal_tail_finite m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5))
      ∧ r.2.sem = fun _ => 0)

def quiescent_TailRefIdeal_pre_tail_finite [hTailRefIdeal : Cert.TailRefIdeal.Facts] [hPre_tail_finite : Cert.Pre_tail_finite.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal_tail_finite m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5))
      ∧ r.2.sem = fun _ => 0)

def quiescent_MixBwdIdeal_pre_mix_finite [hMixBwdIdeal : Cert.MixBwdIdeal.Facts] [hPre_mix_finite : Cert.Pre_mix_finite.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal_mix_finite m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_GeluBwd [hGeluBwd : Cert.GeluBwd.Facts] : Prop :=
  ∀ (m : (ℓ : Loc Cert.GeluBwd.nD Cert.GeluBwd.τ Cert.GeluBwd.sig) → Buf (Elt Bits) ℓ) (g : Dev Cert.GeluBwd.nD → PrngReg), Pre_GeluBwd m →
    θ_run (Cert.GeluBwd.defs (F := Bits)) (onTc (τ := Cert.GeluBwd.τ) (Cert.GeluBwd.main (F := Bits))) ⟨m, fun _ => 0, g⟩ (fun r => (∀ c : Dev Cert.GeluBwd.nD,
      r.2.mem ((c.tc : Thread Cert.GeluBwd.nD Cert.GeluBwd.τ).loc Cert.GeluBwd.main_arg0) = m ((c.tc : Thread Cert.GeluBwd.nD Cert.GeluBwd.τ).loc Cert.GeluBwd.main_arg0)
      ∧ r.2.mem ((c.tc : Thread Cert.GeluBwd.nD Cert.GeluBwd.τ).loc Cert.GeluBwd.main_arg1) = m ((c.tc : Thread Cert.GeluBwd.nD Cert.GeluBwd.τ).loc Cert.GeluBwd.main_arg1)
      ∧ r.2.mem ((c.tc : Thread Cert.GeluBwd.nD Cert.GeluBwd.τ).loc Cert.GeluBwd.main_arg2) = m ((c.tc : Thread Cert.GeluBwd.nD Cert.GeluBwd.τ).loc Cert.GeluBwd.main_arg2))
      ∧ r.2.sem = fun _ => 0)

def quiescent_GeluBwdIdeal [hGeluBwdIdeal : Cert.GeluBwdIdeal.Facts] : Prop :=
  ∀ (m : (ℓ : Loc Cert.GeluBwdIdeal.nD Cert.GeluBwdIdeal.τ Cert.GeluBwdIdeal.sig) → Buf (Elt Ideal) ℓ) (g : Dev Cert.GeluBwdIdeal.nD → PrngReg), Pre_GeluBwdIdeal m →
    θ_run (Cert.GeluBwdIdeal.defs (F := Ideal)) (onTc (τ := Cert.GeluBwdIdeal.τ) (Cert.GeluBwdIdeal.main (F := Ideal))) ⟨m, fun _ => 0, g⟩ (fun r => (∀ c : Dev Cert.GeluBwdIdeal.nD,
      r.2.mem ((c.tc : Thread Cert.GeluBwdIdeal.nD Cert.GeluBwdIdeal.τ).loc Cert.GeluBwdIdeal.main_arg0) = m ((c.tc : Thread Cert.GeluBwdIdeal.nD Cert.GeluBwdIdeal.τ).loc Cert.GeluBwdIdeal.main_arg0)
      ∧ r.2.mem ((c.tc : Thread Cert.GeluBwdIdeal.nD Cert.GeluBwdIdeal.τ).loc Cert.GeluBwdIdeal.main_arg1) = m ((c.tc : Thread Cert.GeluBwdIdeal.nD Cert.GeluBwdIdeal.τ).loc Cert.GeluBwdIdeal.main_arg1)
      ∧ r.2.mem ((c.tc : Thread Cert.GeluBwdIdeal.nD Cert.GeluBwdIdeal.τ).loc Cert.GeluBwdIdeal.main_arg2) = m ((c.tc : Thread Cert.GeluBwdIdeal.nD Cert.GeluBwdIdeal.τ).loc Cert.GeluBwdIdeal.main_arg2))
      ∧ r.2.sem = fun _ => 0)

def quiescent_GeluBwdIdeal_pre_gelu_finite [hGeluBwdIdeal : Cert.GeluBwdIdeal.Facts] [hPre_gelu_finite : Cert.Pre_gelu_finite.Facts] : Prop :=
  ∀ (m : (ℓ : Loc Cert.GeluBwdIdeal.nD Cert.GeluBwdIdeal.τ Cert.GeluBwdIdeal.sig) → Buf (Elt Ideal) ℓ) (g : Dev Cert.GeluBwdIdeal.nD → PrngReg), Pre_GeluBwdIdeal_gelu_finite m →
    θ_run (Cert.GeluBwdIdeal.defs (F := Ideal)) (onTc (τ := Cert.GeluBwdIdeal.τ) (Cert.GeluBwdIdeal.main (F := Ideal))) ⟨m, fun _ => 0, g⟩ (fun r => (∀ c : Dev Cert.GeluBwdIdeal.nD,
      r.2.mem ((c.tc : Thread Cert.GeluBwdIdeal.nD Cert.GeluBwdIdeal.τ).loc Cert.GeluBwdIdeal.main_arg0) = m ((c.tc : Thread Cert.GeluBwdIdeal.nD Cert.GeluBwdIdeal.τ).loc Cert.GeluBwdIdeal.main_arg0)
      ∧ r.2.mem ((c.tc : Thread Cert.GeluBwdIdeal.nD Cert.GeluBwdIdeal.τ).loc Cert.GeluBwdIdeal.main_arg1) = m ((c.tc : Thread Cert.GeluBwdIdeal.nD Cert.GeluBwdIdeal.τ).loc Cert.GeluBwdIdeal.main_arg1)
      ∧ r.2.mem ((c.tc : Thread Cert.GeluBwdIdeal.nD Cert.GeluBwdIdeal.τ).loc Cert.GeluBwdIdeal.main_arg2) = m ((c.tc : Thread Cert.GeluBwdIdeal.nD Cert.GeluBwdIdeal.τ).loc Cert.GeluBwdIdeal.main_arg2))
      ∧ r.2.sem = fun _ => 0)

def quiescent_GeluRefIdeal [hGeluRefIdeal : Cert.GeluRefIdeal.Facts] : Prop :=
  ∀ (m : (ℓ : Loc Cert.GeluRefIdeal.nD Cert.GeluRefIdeal.τ Cert.GeluRefIdeal.sig) → Buf (Elt Ideal) ℓ) (g : Dev Cert.GeluRefIdeal.nD → PrngReg), Pre_GeluRefIdeal m →
    θ_run (Cert.GeluRefIdeal.defs (F := Ideal)) (onTc (τ := Cert.GeluRefIdeal.τ) (Cert.GeluRefIdeal.main (F := Ideal))) ⟨m, fun _ => 0, g⟩ (fun r => (∀ c : Dev Cert.GeluRefIdeal.nD,
      r.2.mem ((c.tc : Thread Cert.GeluRefIdeal.nD Cert.GeluRefIdeal.τ).loc Cert.GeluRefIdeal.main_arg0) = m ((c.tc : Thread Cert.GeluRefIdeal.nD Cert.GeluRefIdeal.τ).loc Cert.GeluRefIdeal.main_arg0)
      ∧ r.2.mem ((c.tc : Thread Cert.GeluRefIdeal.nD Cert.GeluRefIdeal.τ).loc Cert.GeluRefIdeal.main_arg1) = m ((c.tc : Thread Cert.GeluRefIdeal.nD Cert.GeluRefIdeal.τ).loc Cert.GeluRefIdeal.main_arg1)
      ∧ r.2.mem ((c.tc : Thread Cert.GeluRefIdeal.nD Cert.GeluRefIdeal.τ).loc Cert.GeluRefIdeal.main_arg2) = m ((c.tc : Thread Cert.GeluRefIdeal.nD Cert.GeluRefIdeal.τ).loc Cert.GeluRefIdeal.main_arg2))
      ∧ r.2.sem = fun _ => 0)

def quiescent_GeluRefIdeal_pre_gelu_finite [hGeluRefIdeal : Cert.GeluRefIdeal.Facts] [hPre_gelu_finite : Cert.Pre_gelu_finite.Facts] : Prop :=
  ∀ (m : (ℓ : Loc Cert.GeluRefIdeal.nD Cert.GeluRefIdeal.τ Cert.GeluRefIdeal.sig) → Buf (Elt Ideal) ℓ) (g : Dev Cert.GeluRefIdeal.nD → PrngReg), Pre_GeluRefIdeal_gelu_finite m →
    θ_run (Cert.GeluRefIdeal.defs (F := Ideal)) (onTc (τ := Cert.GeluRefIdeal.τ) (Cert.GeluRefIdeal.main (F := Ideal))) ⟨m, fun _ => 0, g⟩ (fun r => (∀ c : Dev Cert.GeluRefIdeal.nD,
      r.2.mem ((c.tc : Thread Cert.GeluRefIdeal.nD Cert.GeluRefIdeal.τ).loc Cert.GeluRefIdeal.main_arg0) = m ((c.tc : Thread Cert.GeluRefIdeal.nD Cert.GeluRefIdeal.τ).loc Cert.GeluRefIdeal.main_arg0)
      ∧ r.2.mem ((c.tc : Thread Cert.GeluRefIdeal.nD Cert.GeluRefIdeal.τ).loc Cert.GeluRefIdeal.main_arg1) = m ((c.tc : Thread Cert.GeluRefIdeal.nD Cert.GeluRefIdeal.τ).loc Cert.GeluRefIdeal.main_arg1)
      ∧ r.2.mem ((c.tc : Thread Cert.GeluRefIdeal.nD Cert.GeluRefIdeal.τ).loc Cert.GeluRefIdeal.main_arg2) = m ((c.tc : Thread Cert.GeluRefIdeal.nD Cert.GeluRefIdeal.τ).loc Cert.GeluRefIdeal.main_arg2))
      ∧ r.2.sem = fun _ => 0)

def quiescent_QkvBwd [hQkvBwd : Cert.QkvBwd.Facts] : Prop :=
  ∀ (m : (ℓ : Loc Cert.QkvBwd.nD Cert.QkvBwd.τ Cert.QkvBwd.sig) → Buf (Elt Bits) ℓ) (g : Dev Cert.QkvBwd.nD → PrngReg), Pre_QkvBwd m →
    θ_run (Cert.QkvBwd.defs (F := Bits)) (onTc (τ := Cert.QkvBwd.τ) (Cert.QkvBwd.main (F := Bits))) ⟨m, fun _ => 0, g⟩ (fun r => (∀ c : Dev Cert.QkvBwd.nD,
      r.2.mem ((c.tc : Thread Cert.QkvBwd.nD Cert.QkvBwd.τ).loc Cert.QkvBwd.main_arg0) = m ((c.tc : Thread Cert.QkvBwd.nD Cert.QkvBwd.τ).loc Cert.QkvBwd.main_arg0)
      ∧ r.2.mem ((c.tc : Thread Cert.QkvBwd.nD Cert.QkvBwd.τ).loc Cert.QkvBwd.main_arg1) = m ((c.tc : Thread Cert.QkvBwd.nD Cert.QkvBwd.τ).loc Cert.QkvBwd.main_arg1)
      ∧ r.2.mem ((c.tc : Thread Cert.QkvBwd.nD Cert.QkvBwd.τ).loc Cert.QkvBwd.main_arg2) = m ((c.tc : Thread Cert.QkvBwd.nD Cert.QkvBwd.τ).loc Cert.QkvBwd.main_arg2)
      ∧ r.2.mem ((c.tc : Thread Cert.QkvBwd.nD Cert.QkvBwd.τ).loc Cert.QkvBwd.main_arg3) = m ((c.tc : Thread Cert.QkvBwd.nD Cert.QkvBwd.τ).loc Cert.QkvBwd.main_arg3)
      ∧ r.2.mem ((c.tc : Thread Cert.QkvBwd.nD Cert.QkvBwd.τ).loc Cert.QkvBwd.main_arg4) = m ((c.tc : Thread Cert.QkvBwd.nD Cert.QkvBwd.τ).loc Cert.QkvBwd.main_arg4)
      ∧ r.2.mem ((c.tc : Thread Cert.QkvBwd.nD Cert.QkvBwd.τ).loc Cert.QkvBwd.main_arg5) = m ((c.tc : Thread Cert.QkvBwd.nD Cert.QkvBwd.τ).loc Cert.QkvBwd.main_arg5)
      ∧ r.2.mem ((c.tc : Thread Cert.QkvBwd.nD Cert.QkvBwd.τ).loc Cert.QkvBwd.main_arg6) = m ((c.tc : Thread Cert.QkvBwd.nD Cert.QkvBwd.τ).loc Cert.QkvBwd.main_arg6)
      ∧ r.2.mem ((c.tc : Thread Cert.QkvBwd.nD Cert.QkvBwd.τ).loc Cert.QkvBwd.main_arg7) = m ((c.tc : Thread Cert.QkvBwd.nD Cert.QkvBwd.τ).loc Cert.QkvBwd.main_arg7)
      ∧ r.2.mem ((c.tc : Thread Cert.QkvBwd.nD Cert.QkvBwd.τ).loc Cert.QkvBwd.main_arg8) = m ((c.tc : Thread Cert.QkvBwd.nD Cert.QkvBwd.τ).loc Cert.QkvBwd.main_arg8)
      ∧ r.2.mem ((c.tc : Thread Cert.QkvBwd.nD Cert.QkvBwd.τ).loc Cert.QkvBwd.main_arg9) = m ((c.tc : Thread Cert.QkvBwd.nD Cert.QkvBwd.τ).loc Cert.QkvBwd.main_arg9)
      ∧ r.2.mem ((c.tc : Thread Cert.QkvBwd.nD Cert.QkvBwd.τ).loc Cert.QkvBwd.main_arg10) = m ((c.tc : Thread Cert.QkvBwd.nD Cert.QkvBwd.τ).loc Cert.QkvBwd.main_arg10))
      ∧ r.2.sem = fun _ => 0)

def quiescent_QkvBwdIdeal [hQkvBwdIdeal : Cert.QkvBwdIdeal.Facts] : Prop :=
  ∀ (m : (ℓ : Loc Cert.QkvBwdIdeal.nD Cert.QkvBwdIdeal.τ Cert.QkvBwdIdeal.sig) → Buf (Elt Ideal) ℓ) (g : Dev Cert.QkvBwdIdeal.nD → PrngReg), Pre_QkvBwdIdeal m →
    θ_run (Cert.QkvBwdIdeal.defs (F := Ideal)) (onTc (τ := Cert.QkvBwdIdeal.τ) (Cert.QkvBwdIdeal.main (F := Ideal))) ⟨m, fun _ => 0, g⟩ (fun r => (∀ c : Dev Cert.QkvBwdIdeal.nD,
      r.2.mem ((c.tc : Thread Cert.QkvBwdIdeal.nD Cert.QkvBwdIdeal.τ).loc Cert.QkvBwdIdeal.main_arg0) = m ((c.tc : Thread Cert.QkvBwdIdeal.nD Cert.QkvBwdIdeal.τ).loc Cert.QkvBwdIdeal.main_arg0)
      ∧ r.2.mem ((c.tc : Thread Cert.QkvBwdIdeal.nD Cert.QkvBwdIdeal.τ).loc Cert.QkvBwdIdeal.main_arg1) = m ((c.tc : Thread Cert.QkvBwdIdeal.nD Cert.QkvBwdIdeal.τ).loc Cert.QkvBwdIdeal.main_arg1)
      ∧ r.2.mem ((c.tc : Thread Cert.QkvBwdIdeal.nD Cert.QkvBwdIdeal.τ).loc Cert.QkvBwdIdeal.main_arg2) = m ((c.tc : Thread Cert.QkvBwdIdeal.nD Cert.QkvBwdIdeal.τ).loc Cert.QkvBwdIdeal.main_arg2)
      ∧ r.2.mem ((c.tc : Thread Cert.QkvBwdIdeal.nD Cert.QkvBwdIdeal.τ).loc Cert.QkvBwdIdeal.main_arg3) = m ((c.tc : Thread Cert.QkvBwdIdeal.nD Cert.QkvBwdIdeal.τ).loc Cert.QkvBwdIdeal.main_arg3)
      ∧ r.2.mem ((c.tc : Thread Cert.QkvBwdIdeal.nD Cert.QkvBwdIdeal.τ).loc Cert.QkvBwdIdeal.main_arg4) = m ((c.tc : Thread Cert.QkvBwdIdeal.nD Cert.QkvBwdIdeal.τ).loc Cert.QkvBwdIdeal.main_arg4)
      ∧ r.2.mem ((c.tc : Thread Cert.QkvBwdIdeal.nD Cert.QkvBwdIdeal.τ).loc Cert.QkvBwdIdeal.main_arg5) = m ((c.tc : Thread Cert.QkvBwdIdeal.nD Cert.QkvBwdIdeal.τ).loc Cert.QkvBwdIdeal.main_arg5)
      ∧ r.2.mem ((c.tc : Thread Cert.QkvBwdIdeal.nD Cert.QkvBwdIdeal.τ).loc Cert.QkvBwdIdeal.main_arg6) = m ((c.tc : Thread Cert.QkvBwdIdeal.nD Cert.QkvBwdIdeal.τ).loc Cert.QkvBwdIdeal.main_arg6)
      ∧ r.2.mem ((c.tc : Thread Cert.QkvBwdIdeal.nD Cert.QkvBwdIdeal.τ).loc Cert.QkvBwdIdeal.main_arg7) = m ((c.tc : Thread Cert.QkvBwdIdeal.nD Cert.QkvBwdIdeal.τ).loc Cert.QkvBwdIdeal.main_arg7)
      ∧ r.2.mem ((c.tc : Thread Cert.QkvBwdIdeal.nD Cert.QkvBwdIdeal.τ).loc Cert.QkvBwdIdeal.main_arg8) = m ((c.tc : Thread Cert.QkvBwdIdeal.nD Cert.QkvBwdIdeal.τ).loc Cert.QkvBwdIdeal.main_arg8)
      ∧ r.2.mem ((c.tc : Thread Cert.QkvBwdIdeal.nD Cert.QkvBwdIdeal.τ).loc Cert.QkvBwdIdeal.main_arg9) = m ((c.tc : Thread Cert.QkvBwdIdeal.nD Cert.QkvBwdIdeal.τ).loc Cert.QkvBwdIdeal.main_arg9)
      ∧ r.2.mem ((c.tc : Thread Cert.QkvBwdIdeal.nD Cert.QkvBwdIdeal.τ).loc Cert.QkvBwdIdeal.main_arg10) = m ((c.tc : Thread Cert.QkvBwdIdeal.nD Cert.QkvBwdIdeal.τ).loc Cert.QkvBwdIdeal.main_arg10))
      ∧ r.2.sem = fun _ => 0)

def quiescent_QkvBwdIdeal_pre_qkv_finite [hQkvBwdIdeal : Cert.QkvBwdIdeal.Facts] [hPre_qkv_finite : Cert.Pre_qkv_finite.Facts] : Prop :=
  ∀ (m : (ℓ : Loc Cert.QkvBwdIdeal.nD Cert.QkvBwdIdeal.τ Cert.QkvBwdIdeal.sig) → Buf (Elt Ideal) ℓ) (g : Dev Cert.QkvBwdIdeal.nD → PrngReg), Pre_QkvBwdIdeal_qkv_finite m →
    θ_run (Cert.QkvBwdIdeal.defs (F := Ideal)) (onTc (τ := Cert.QkvBwdIdeal.τ) (Cert.QkvBwdIdeal.main (F := Ideal))) ⟨m, fun _ => 0, g⟩ (fun r => (∀ c : Dev Cert.QkvBwdIdeal.nD,
      r.2.mem ((c.tc : Thread Cert.QkvBwdIdeal.nD Cert.QkvBwdIdeal.τ).loc Cert.QkvBwdIdeal.main_arg0) = m ((c.tc : Thread Cert.QkvBwdIdeal.nD Cert.QkvBwdIdeal.τ).loc Cert.QkvBwdIdeal.main_arg0)
      ∧ r.2.mem ((c.tc : Thread Cert.QkvBwdIdeal.nD Cert.QkvBwdIdeal.τ).loc Cert.QkvBwdIdeal.main_arg1) = m ((c.tc : Thread Cert.QkvBwdIdeal.nD Cert.QkvBwdIdeal.τ).loc Cert.QkvBwdIdeal.main_arg1)
      ∧ r.2.mem ((c.tc : Thread Cert.QkvBwdIdeal.nD Cert.QkvBwdIdeal.τ).loc Cert.QkvBwdIdeal.main_arg2) = m ((c.tc : Thread Cert.QkvBwdIdeal.nD Cert.QkvBwdIdeal.τ).loc Cert.QkvBwdIdeal.main_arg2)
      ∧ r.2.mem ((c.tc : Thread Cert.QkvBwdIdeal.nD Cert.QkvBwdIdeal.τ).loc Cert.QkvBwdIdeal.main_arg3) = m ((c.tc : Thread Cert.QkvBwdIdeal.nD Cert.QkvBwdIdeal.τ).loc Cert.QkvBwdIdeal.main_arg3)
      ∧ r.2.mem ((c.tc : Thread Cert.QkvBwdIdeal.nD Cert.QkvBwdIdeal.τ).loc Cert.QkvBwdIdeal.main_arg4) = m ((c.tc : Thread Cert.QkvBwdIdeal.nD Cert.QkvBwdIdeal.τ).loc Cert.QkvBwdIdeal.main_arg4)
      ∧ r.2.mem ((c.tc : Thread Cert.QkvBwdIdeal.nD Cert.QkvBwdIdeal.τ).loc Cert.QkvBwdIdeal.main_arg5) = m ((c.tc : Thread Cert.QkvBwdIdeal.nD Cert.QkvBwdIdeal.τ).loc Cert.QkvBwdIdeal.main_arg5)
      ∧ r.2.mem ((c.tc : Thread Cert.QkvBwdIdeal.nD Cert.QkvBwdIdeal.τ).loc Cert.QkvBwdIdeal.main_arg6) = m ((c.tc : Thread Cert.QkvBwdIdeal.nD Cert.QkvBwdIdeal.τ).loc Cert.QkvBwdIdeal.main_arg6)
      ∧ r.2.mem ((c.tc : Thread Cert.QkvBwdIdeal.nD Cert.QkvBwdIdeal.τ).loc Cert.QkvBwdIdeal.main_arg7) = m ((c.tc : Thread Cert.QkvBwdIdeal.nD Cert.QkvBwdIdeal.τ).loc Cert.QkvBwdIdeal.main_arg7)
      ∧ r.2.mem ((c.tc : Thread Cert.QkvBwdIdeal.nD Cert.QkvBwdIdeal.τ).loc Cert.QkvBwdIdeal.main_arg8) = m ((c.tc : Thread Cert.QkvBwdIdeal.nD Cert.QkvBwdIdeal.τ).loc Cert.QkvBwdIdeal.main_arg8)
      ∧ r.2.mem ((c.tc : Thread Cert.QkvBwdIdeal.nD Cert.QkvBwdIdeal.τ).loc Cert.QkvBwdIdeal.main_arg9) = m ((c.tc : Thread Cert.QkvBwdIdeal.nD Cert.QkvBwdIdeal.τ).loc Cert.QkvBwdIdeal.main_arg9)
      ∧ r.2.mem ((c.tc : Thread Cert.QkvBwdIdeal.nD Cert.QkvBwdIdeal.τ).loc Cert.QkvBwdIdeal.main_arg10) = m ((c.tc : Thread Cert.QkvBwdIdeal.nD Cert.QkvBwdIdeal.τ).loc Cert.QkvBwdIdeal.main_arg10))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10))
      ∧ r.2.sem = fun _ => 0)

def quiescent_QkvRefIdeal_pre_qkv_finite [hQkvRefIdeal : Cert.QkvRefIdeal.Facts] [hPre_qkv_finite : Cert.Pre_qkv_finite.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal_qkv_finite m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10))
      ∧ r.2.sem = fun _ => 0)

def quiescent_SsmParam [hSsmParam : Cert.SsmParam.Facts] : Prop :=
  ∀ (m : (ℓ : Loc Cert.SsmParam.nD Cert.SsmParam.τ Cert.SsmParam.sig) → Buf (Elt Bits) ℓ) (g : Dev Cert.SsmParam.nD → PrngReg), Pre_SsmParam m →
    θ_run (Cert.SsmParam.defs (F := Bits)) (onTc (τ := Cert.SsmParam.τ) (Cert.SsmParam.main (F := Bits))) ⟨m, fun _ => 0, g⟩ (fun r => (∀ c : Dev Cert.SsmParam.nD,
      r.2.mem ((c.tc : Thread Cert.SsmParam.nD Cert.SsmParam.τ).loc Cert.SsmParam.main_arg0) = m ((c.tc : Thread Cert.SsmParam.nD Cert.SsmParam.τ).loc Cert.SsmParam.main_arg0)
      ∧ r.2.mem ((c.tc : Thread Cert.SsmParam.nD Cert.SsmParam.τ).loc Cert.SsmParam.main_arg1) = m ((c.tc : Thread Cert.SsmParam.nD Cert.SsmParam.τ).loc Cert.SsmParam.main_arg1)
      ∧ r.2.mem ((c.tc : Thread Cert.SsmParam.nD Cert.SsmParam.τ).loc Cert.SsmParam.main_arg2) = m ((c.tc : Thread Cert.SsmParam.nD Cert.SsmParam.τ).loc Cert.SsmParam.main_arg2)
      ∧ r.2.mem ((c.tc : Thread Cert.SsmParam.nD Cert.SsmParam.τ).loc Cert.SsmParam.main_arg3) = m ((c.tc : Thread Cert.SsmParam.nD Cert.SsmParam.τ).loc Cert.SsmParam.main_arg3)
      ∧ r.2.mem ((c.tc : Thread Cert.SsmParam.nD Cert.SsmParam.τ).loc Cert.SsmParam.main_arg4) = m ((c.tc : Thread Cert.SsmParam.nD Cert.SsmParam.τ).loc Cert.SsmParam.main_arg4)
      ∧ r.2.mem ((c.tc : Thread Cert.SsmParam.nD Cert.SsmParam.τ).loc Cert.SsmParam.main_arg5) = m ((c.tc : Thread Cert.SsmParam.nD Cert.SsmParam.τ).loc Cert.SsmParam.main_arg5)
      ∧ r.2.mem ((c.tc : Thread Cert.SsmParam.nD Cert.SsmParam.τ).loc Cert.SsmParam.main_arg6) = m ((c.tc : Thread Cert.SsmParam.nD Cert.SsmParam.τ).loc Cert.SsmParam.main_arg6)
      ∧ r.2.mem ((c.tc : Thread Cert.SsmParam.nD Cert.SsmParam.τ).loc Cert.SsmParam.main_arg7) = m ((c.tc : Thread Cert.SsmParam.nD Cert.SsmParam.τ).loc Cert.SsmParam.main_arg7)
      ∧ r.2.mem ((c.tc : Thread Cert.SsmParam.nD Cert.SsmParam.τ).loc Cert.SsmParam.main_arg8) = m ((c.tc : Thread Cert.SsmParam.nD Cert.SsmParam.τ).loc Cert.SsmParam.main_arg8)
      ∧ r.2.mem ((c.tc : Thread Cert.SsmParam.nD Cert.SsmParam.τ).loc Cert.SsmParam.main_arg9) = m ((c.tc : Thread Cert.SsmParam.nD Cert.SsmParam.τ).loc Cert.SsmParam.main_arg9)
      ∧ r.2.mem ((c.tc : Thread Cert.SsmParam.nD Cert.SsmParam.τ).loc Cert.SsmParam.main_arg10) = m ((c.tc : Thread Cert.SsmParam.nD Cert.SsmParam.τ).loc Cert.SsmParam.main_arg10)
      ∧ r.2.mem ((c.tc : Thread Cert.SsmParam.nD Cert.SsmParam.τ).loc Cert.SsmParam.main_arg11) = m ((c.tc : Thread Cert.SsmParam.nD Cert.SsmParam.τ).loc Cert.SsmParam.main_arg11))
      ∧ r.2.sem = fun _ => 0)

def quiescent_SsmParamIdeal [hSsmParamIdeal : Cert.SsmParamIdeal.Facts] : Prop :=
  ∀ (m : (ℓ : Loc Cert.SsmParamIdeal.nD Cert.SsmParamIdeal.τ Cert.SsmParamIdeal.sig) → Buf (Elt Ideal) ℓ) (g : Dev Cert.SsmParamIdeal.nD → PrngReg), Pre_SsmParamIdeal m →
    θ_run (Cert.SsmParamIdeal.defs (F := Ideal)) (onTc (τ := Cert.SsmParamIdeal.τ) (Cert.SsmParamIdeal.main (F := Ideal))) ⟨m, fun _ => 0, g⟩ (fun r => (∀ c : Dev Cert.SsmParamIdeal.nD,
      r.2.mem ((c.tc : Thread Cert.SsmParamIdeal.nD Cert.SsmParamIdeal.τ).loc Cert.SsmParamIdeal.main_arg0) = m ((c.tc : Thread Cert.SsmParamIdeal.nD Cert.SsmParamIdeal.τ).loc Cert.SsmParamIdeal.main_arg0)
      ∧ r.2.mem ((c.tc : Thread Cert.SsmParamIdeal.nD Cert.SsmParamIdeal.τ).loc Cert.SsmParamIdeal.main_arg1) = m ((c.tc : Thread Cert.SsmParamIdeal.nD Cert.SsmParamIdeal.τ).loc Cert.SsmParamIdeal.main_arg1)
      ∧ r.2.mem ((c.tc : Thread Cert.SsmParamIdeal.nD Cert.SsmParamIdeal.τ).loc Cert.SsmParamIdeal.main_arg2) = m ((c.tc : Thread Cert.SsmParamIdeal.nD Cert.SsmParamIdeal.τ).loc Cert.SsmParamIdeal.main_arg2)
      ∧ r.2.mem ((c.tc : Thread Cert.SsmParamIdeal.nD Cert.SsmParamIdeal.τ).loc Cert.SsmParamIdeal.main_arg3) = m ((c.tc : Thread Cert.SsmParamIdeal.nD Cert.SsmParamIdeal.τ).loc Cert.SsmParamIdeal.main_arg3)
      ∧ r.2.mem ((c.tc : Thread Cert.SsmParamIdeal.nD Cert.SsmParamIdeal.τ).loc Cert.SsmParamIdeal.main_arg4) = m ((c.tc : Thread Cert.SsmParamIdeal.nD Cert.SsmParamIdeal.τ).loc Cert.SsmParamIdeal.main_arg4)
      ∧ r.2.mem ((c.tc : Thread Cert.SsmParamIdeal.nD Cert.SsmParamIdeal.τ).loc Cert.SsmParamIdeal.main_arg5) = m ((c.tc : Thread Cert.SsmParamIdeal.nD Cert.SsmParamIdeal.τ).loc Cert.SsmParamIdeal.main_arg5)
      ∧ r.2.mem ((c.tc : Thread Cert.SsmParamIdeal.nD Cert.SsmParamIdeal.τ).loc Cert.SsmParamIdeal.main_arg6) = m ((c.tc : Thread Cert.SsmParamIdeal.nD Cert.SsmParamIdeal.τ).loc Cert.SsmParamIdeal.main_arg6)
      ∧ r.2.mem ((c.tc : Thread Cert.SsmParamIdeal.nD Cert.SsmParamIdeal.τ).loc Cert.SsmParamIdeal.main_arg7) = m ((c.tc : Thread Cert.SsmParamIdeal.nD Cert.SsmParamIdeal.τ).loc Cert.SsmParamIdeal.main_arg7)
      ∧ r.2.mem ((c.tc : Thread Cert.SsmParamIdeal.nD Cert.SsmParamIdeal.τ).loc Cert.SsmParamIdeal.main_arg8) = m ((c.tc : Thread Cert.SsmParamIdeal.nD Cert.SsmParamIdeal.τ).loc Cert.SsmParamIdeal.main_arg8)
      ∧ r.2.mem ((c.tc : Thread Cert.SsmParamIdeal.nD Cert.SsmParamIdeal.τ).loc Cert.SsmParamIdeal.main_arg9) = m ((c.tc : Thread Cert.SsmParamIdeal.nD Cert.SsmParamIdeal.τ).loc Cert.SsmParamIdeal.main_arg9)
      ∧ r.2.mem ((c.tc : Thread Cert.SsmParamIdeal.nD Cert.SsmParamIdeal.τ).loc Cert.SsmParamIdeal.main_arg10) = m ((c.tc : Thread Cert.SsmParamIdeal.nD Cert.SsmParamIdeal.τ).loc Cert.SsmParamIdeal.main_arg10)
      ∧ r.2.mem ((c.tc : Thread Cert.SsmParamIdeal.nD Cert.SsmParamIdeal.τ).loc Cert.SsmParamIdeal.main_arg11) = m ((c.tc : Thread Cert.SsmParamIdeal.nD Cert.SsmParamIdeal.τ).loc Cert.SsmParamIdeal.main_arg11))
      ∧ r.2.sem = fun _ => 0)

def quiescent_SsmParamIdeal_pre_ssm_param_finite [hSsmParamIdeal : Cert.SsmParamIdeal.Facts] [hPre_ssm_param_finite : Cert.Pre_ssm_param_finite.Facts] : Prop :=
  ∀ (m : (ℓ : Loc Cert.SsmParamIdeal.nD Cert.SsmParamIdeal.τ Cert.SsmParamIdeal.sig) → Buf (Elt Ideal) ℓ) (g : Dev Cert.SsmParamIdeal.nD → PrngReg), Pre_SsmParamIdeal_ssm_param_finite m →
    θ_run (Cert.SsmParamIdeal.defs (F := Ideal)) (onTc (τ := Cert.SsmParamIdeal.τ) (Cert.SsmParamIdeal.main (F := Ideal))) ⟨m, fun _ => 0, g⟩ (fun r => (∀ c : Dev Cert.SsmParamIdeal.nD,
      r.2.mem ((c.tc : Thread Cert.SsmParamIdeal.nD Cert.SsmParamIdeal.τ).loc Cert.SsmParamIdeal.main_arg0) = m ((c.tc : Thread Cert.SsmParamIdeal.nD Cert.SsmParamIdeal.τ).loc Cert.SsmParamIdeal.main_arg0)
      ∧ r.2.mem ((c.tc : Thread Cert.SsmParamIdeal.nD Cert.SsmParamIdeal.τ).loc Cert.SsmParamIdeal.main_arg1) = m ((c.tc : Thread Cert.SsmParamIdeal.nD Cert.SsmParamIdeal.τ).loc Cert.SsmParamIdeal.main_arg1)
      ∧ r.2.mem ((c.tc : Thread Cert.SsmParamIdeal.nD Cert.SsmParamIdeal.τ).loc Cert.SsmParamIdeal.main_arg2) = m ((c.tc : Thread Cert.SsmParamIdeal.nD Cert.SsmParamIdeal.τ).loc Cert.SsmParamIdeal.main_arg2)
      ∧ r.2.mem ((c.tc : Thread Cert.SsmParamIdeal.nD Cert.SsmParamIdeal.τ).loc Cert.SsmParamIdeal.main_arg3) = m ((c.tc : Thread Cert.SsmParamIdeal.nD Cert.SsmParamIdeal.τ).loc Cert.SsmParamIdeal.main_arg3)
      ∧ r.2.mem ((c.tc : Thread Cert.SsmParamIdeal.nD Cert.SsmParamIdeal.τ).loc Cert.SsmParamIdeal.main_arg4) = m ((c.tc : Thread Cert.SsmParamIdeal.nD Cert.SsmParamIdeal.τ).loc Cert.SsmParamIdeal.main_arg4)
      ∧ r.2.mem ((c.tc : Thread Cert.SsmParamIdeal.nD Cert.SsmParamIdeal.τ).loc Cert.SsmParamIdeal.main_arg5) = m ((c.tc : Thread Cert.SsmParamIdeal.nD Cert.SsmParamIdeal.τ).loc Cert.SsmParamIdeal.main_arg5)
      ∧ r.2.mem ((c.tc : Thread Cert.SsmParamIdeal.nD Cert.SsmParamIdeal.τ).loc Cert.SsmParamIdeal.main_arg6) = m ((c.tc : Thread Cert.SsmParamIdeal.nD Cert.SsmParamIdeal.τ).loc Cert.SsmParamIdeal.main_arg6)
      ∧ r.2.mem ((c.tc : Thread Cert.SsmParamIdeal.nD Cert.SsmParamIdeal.τ).loc Cert.SsmParamIdeal.main_arg7) = m ((c.tc : Thread Cert.SsmParamIdeal.nD Cert.SsmParamIdeal.τ).loc Cert.SsmParamIdeal.main_arg7)
      ∧ r.2.mem ((c.tc : Thread Cert.SsmParamIdeal.nD Cert.SsmParamIdeal.τ).loc Cert.SsmParamIdeal.main_arg8) = m ((c.tc : Thread Cert.SsmParamIdeal.nD Cert.SsmParamIdeal.τ).loc Cert.SsmParamIdeal.main_arg8)
      ∧ r.2.mem ((c.tc : Thread Cert.SsmParamIdeal.nD Cert.SsmParamIdeal.τ).loc Cert.SsmParamIdeal.main_arg9) = m ((c.tc : Thread Cert.SsmParamIdeal.nD Cert.SsmParamIdeal.τ).loc Cert.SsmParamIdeal.main_arg9)
      ∧ r.2.mem ((c.tc : Thread Cert.SsmParamIdeal.nD Cert.SsmParamIdeal.τ).loc Cert.SsmParamIdeal.main_arg10) = m ((c.tc : Thread Cert.SsmParamIdeal.nD Cert.SsmParamIdeal.τ).loc Cert.SsmParamIdeal.main_arg10)
      ∧ r.2.mem ((c.tc : Thread Cert.SsmParamIdeal.nD Cert.SsmParamIdeal.τ).loc Cert.SsmParamIdeal.main_arg11) = m ((c.tc : Thread Cert.SsmParamIdeal.nD Cert.SsmParamIdeal.τ).loc Cert.SsmParamIdeal.main_arg11))
      ∧ r.2.sem = fun _ => 0)

def quiescent_SsmParamRefIdeal [hSsmParamRefIdeal : Cert.SsmParamRefIdeal.Facts] : Prop :=
  ∀ (m : (ℓ : Loc Cert.SsmParamRefIdeal.nD Cert.SsmParamRefIdeal.τ Cert.SsmParamRefIdeal.sig) → Buf (Elt Ideal) ℓ) (g : Dev Cert.SsmParamRefIdeal.nD → PrngReg), Pre_SsmParamRefIdeal m →
    θ_run (Cert.SsmParamRefIdeal.defs (F := Ideal)) (onTc (τ := Cert.SsmParamRefIdeal.τ) (Cert.SsmParamRefIdeal.main (F := Ideal))) ⟨m, fun _ => 0, g⟩ (fun r => (∀ c : Dev Cert.SsmParamRefIdeal.nD,
      r.2.mem ((c.tc : Thread Cert.SsmParamRefIdeal.nD Cert.SsmParamRefIdeal.τ).loc Cert.SsmParamRefIdeal.main_arg0) = m ((c.tc : Thread Cert.SsmParamRefIdeal.nD Cert.SsmParamRefIdeal.τ).loc Cert.SsmParamRefIdeal.main_arg0)
      ∧ r.2.mem ((c.tc : Thread Cert.SsmParamRefIdeal.nD Cert.SsmParamRefIdeal.τ).loc Cert.SsmParamRefIdeal.main_arg1) = m ((c.tc : Thread Cert.SsmParamRefIdeal.nD Cert.SsmParamRefIdeal.τ).loc Cert.SsmParamRefIdeal.main_arg1)
      ∧ r.2.mem ((c.tc : Thread Cert.SsmParamRefIdeal.nD Cert.SsmParamRefIdeal.τ).loc Cert.SsmParamRefIdeal.main_arg2) = m ((c.tc : Thread Cert.SsmParamRefIdeal.nD Cert.SsmParamRefIdeal.τ).loc Cert.SsmParamRefIdeal.main_arg2)
      ∧ r.2.mem ((c.tc : Thread Cert.SsmParamRefIdeal.nD Cert.SsmParamRefIdeal.τ).loc Cert.SsmParamRefIdeal.main_arg3) = m ((c.tc : Thread Cert.SsmParamRefIdeal.nD Cert.SsmParamRefIdeal.τ).loc Cert.SsmParamRefIdeal.main_arg3)
      ∧ r.2.mem ((c.tc : Thread Cert.SsmParamRefIdeal.nD Cert.SsmParamRefIdeal.τ).loc Cert.SsmParamRefIdeal.main_arg4) = m ((c.tc : Thread Cert.SsmParamRefIdeal.nD Cert.SsmParamRefIdeal.τ).loc Cert.SsmParamRefIdeal.main_arg4)
      ∧ r.2.mem ((c.tc : Thread Cert.SsmParamRefIdeal.nD Cert.SsmParamRefIdeal.τ).loc Cert.SsmParamRefIdeal.main_arg5) = m ((c.tc : Thread Cert.SsmParamRefIdeal.nD Cert.SsmParamRefIdeal.τ).loc Cert.SsmParamRefIdeal.main_arg5)
      ∧ r.2.mem ((c.tc : Thread Cert.SsmParamRefIdeal.nD Cert.SsmParamRefIdeal.τ).loc Cert.SsmParamRefIdeal.main_arg6) = m ((c.tc : Thread Cert.SsmParamRefIdeal.nD Cert.SsmParamRefIdeal.τ).loc Cert.SsmParamRefIdeal.main_arg6)
      ∧ r.2.mem ((c.tc : Thread Cert.SsmParamRefIdeal.nD Cert.SsmParamRefIdeal.τ).loc Cert.SsmParamRefIdeal.main_arg7) = m ((c.tc : Thread Cert.SsmParamRefIdeal.nD Cert.SsmParamRefIdeal.τ).loc Cert.SsmParamRefIdeal.main_arg7)
      ∧ r.2.mem ((c.tc : Thread Cert.SsmParamRefIdeal.nD Cert.SsmParamRefIdeal.τ).loc Cert.SsmParamRefIdeal.main_arg8) = m ((c.tc : Thread Cert.SsmParamRefIdeal.nD Cert.SsmParamRefIdeal.τ).loc Cert.SsmParamRefIdeal.main_arg8)
      ∧ r.2.mem ((c.tc : Thread Cert.SsmParamRefIdeal.nD Cert.SsmParamRefIdeal.τ).loc Cert.SsmParamRefIdeal.main_arg9) = m ((c.tc : Thread Cert.SsmParamRefIdeal.nD Cert.SsmParamRefIdeal.τ).loc Cert.SsmParamRefIdeal.main_arg9)
      ∧ r.2.mem ((c.tc : Thread Cert.SsmParamRefIdeal.nD Cert.SsmParamRefIdeal.τ).loc Cert.SsmParamRefIdeal.main_arg10) = m ((c.tc : Thread Cert.SsmParamRefIdeal.nD Cert.SsmParamRefIdeal.τ).loc Cert.SsmParamRefIdeal.main_arg10)
      ∧ r.2.mem ((c.tc : Thread Cert.SsmParamRefIdeal.nD Cert.SsmParamRefIdeal.τ).loc Cert.SsmParamRefIdeal.main_arg11) = m ((c.tc : Thread Cert.SsmParamRefIdeal.nD Cert.SsmParamRefIdeal.τ).loc Cert.SsmParamRefIdeal.main_arg11))
      ∧ r.2.sem = fun _ => 0)

def quiescent_SsmParamRefIdeal_pre_ssm_param_finite [hSsmParamRefIdeal : Cert.SsmParamRefIdeal.Facts] [hPre_ssm_param_finite : Cert.Pre_ssm_param_finite.Facts] : Prop :=
  ∀ (m : (ℓ : Loc Cert.SsmParamRefIdeal.nD Cert.SsmParamRefIdeal.τ Cert.SsmParamRefIdeal.sig) → Buf (Elt Ideal) ℓ) (g : Dev Cert.SsmParamRefIdeal.nD → PrngReg), Pre_SsmParamRefIdeal_ssm_param_finite m →
    θ_run (Cert.SsmParamRefIdeal.defs (F := Ideal)) (onTc (τ := Cert.SsmParamRefIdeal.τ) (Cert.SsmParamRefIdeal.main (F := Ideal))) ⟨m, fun _ => 0, g⟩ (fun r => (∀ c : Dev Cert.SsmParamRefIdeal.nD,
      r.2.mem ((c.tc : Thread Cert.SsmParamRefIdeal.nD Cert.SsmParamRefIdeal.τ).loc Cert.SsmParamRefIdeal.main_arg0) = m ((c.tc : Thread Cert.SsmParamRefIdeal.nD Cert.SsmParamRefIdeal.τ).loc Cert.SsmParamRefIdeal.main_arg0)
      ∧ r.2.mem ((c.tc : Thread Cert.SsmParamRefIdeal.nD Cert.SsmParamRefIdeal.τ).loc Cert.SsmParamRefIdeal.main_arg1) = m ((c.tc : Thread Cert.SsmParamRefIdeal.nD Cert.SsmParamRefIdeal.τ).loc Cert.SsmParamRefIdeal.main_arg1)
      ∧ r.2.mem ((c.tc : Thread Cert.SsmParamRefIdeal.nD Cert.SsmParamRefIdeal.τ).loc Cert.SsmParamRefIdeal.main_arg2) = m ((c.tc : Thread Cert.SsmParamRefIdeal.nD Cert.SsmParamRefIdeal.τ).loc Cert.SsmParamRefIdeal.main_arg2)
      ∧ r.2.mem ((c.tc : Thread Cert.SsmParamRefIdeal.nD Cert.SsmParamRefIdeal.τ).loc Cert.SsmParamRefIdeal.main_arg3) = m ((c.tc : Thread Cert.SsmParamRefIdeal.nD Cert.SsmParamRefIdeal.τ).loc Cert.SsmParamRefIdeal.main_arg3)
      ∧ r.2.mem ((c.tc : Thread Cert.SsmParamRefIdeal.nD Cert.SsmParamRefIdeal.τ).loc Cert.SsmParamRefIdeal.main_arg4) = m ((c.tc : Thread Cert.SsmParamRefIdeal.nD Cert.SsmParamRefIdeal.τ).loc Cert.SsmParamRefIdeal.main_arg4)
      ∧ r.2.mem ((c.tc : Thread Cert.SsmParamRefIdeal.nD Cert.SsmParamRefIdeal.τ).loc Cert.SsmParamRefIdeal.main_arg5) = m ((c.tc : Thread Cert.SsmParamRefIdeal.nD Cert.SsmParamRefIdeal.τ).loc Cert.SsmParamRefIdeal.main_arg5)
      ∧ r.2.mem ((c.tc : Thread Cert.SsmParamRefIdeal.nD Cert.SsmParamRefIdeal.τ).loc Cert.SsmParamRefIdeal.main_arg6) = m ((c.tc : Thread Cert.SsmParamRefIdeal.nD Cert.SsmParamRefIdeal.τ).loc Cert.SsmParamRefIdeal.main_arg6)
      ∧ r.2.mem ((c.tc : Thread Cert.SsmParamRefIdeal.nD Cert.SsmParamRefIdeal.τ).loc Cert.SsmParamRefIdeal.main_arg7) = m ((c.tc : Thread Cert.SsmParamRefIdeal.nD Cert.SsmParamRefIdeal.τ).loc Cert.SsmParamRefIdeal.main_arg7)
      ∧ r.2.mem ((c.tc : Thread Cert.SsmParamRefIdeal.nD Cert.SsmParamRefIdeal.τ).loc Cert.SsmParamRefIdeal.main_arg8) = m ((c.tc : Thread Cert.SsmParamRefIdeal.nD Cert.SsmParamRefIdeal.τ).loc Cert.SsmParamRefIdeal.main_arg8)
      ∧ r.2.mem ((c.tc : Thread Cert.SsmParamRefIdeal.nD Cert.SsmParamRefIdeal.τ).loc Cert.SsmParamRefIdeal.main_arg9) = m ((c.tc : Thread Cert.SsmParamRefIdeal.nD Cert.SsmParamRefIdeal.τ).loc Cert.SsmParamRefIdeal.main_arg9)
      ∧ r.2.mem ((c.tc : Thread Cert.SsmParamRefIdeal.nD Cert.SsmParamRefIdeal.τ).loc Cert.SsmParamRefIdeal.main_arg10) = m ((c.tc : Thread Cert.SsmParamRefIdeal.nD Cert.SsmParamRefIdeal.τ).loc Cert.SsmParamRefIdeal.main_arg10)
      ∧ r.2.mem ((c.tc : Thread Cert.SsmParamRefIdeal.nD Cert.SsmParamRefIdeal.τ).loc Cert.SsmParamRefIdeal.main_arg11) = m ((c.tc : Thread Cert.SsmParamRefIdeal.nD Cert.SsmParamRefIdeal.τ).loc Cert.SsmParamRefIdeal.main_arg11))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_QkvPrep [hQkvPrep : Cert.QkvPrep.Facts] : Prop :=
  ∀ (m : (ℓ : Loc Cert.QkvPrep.nD Cert.QkvPrep.τ Cert.QkvPrep.sig) → Buf (Elt Bits) ℓ) (g : Dev Cert.QkvPrep.nD → PrngReg), Pre_QkvPrep m →
    θ_run (Cert.QkvPrep.defs (F := Bits)) (onTc (τ := Cert.QkvPrep.τ) (Cert.QkvPrep.main (F := Bits))) ⟨m, fun _ => 0, g⟩ (fun r => (∀ c : Dev Cert.QkvPrep.nD,
      r.2.mem ((c.tc : Thread Cert.QkvPrep.nD Cert.QkvPrep.τ).loc Cert.QkvPrep.main_arg0) = m ((c.tc : Thread Cert.QkvPrep.nD Cert.QkvPrep.τ).loc Cert.QkvPrep.main_arg0)
      ∧ r.2.mem ((c.tc : Thread Cert.QkvPrep.nD Cert.QkvPrep.τ).loc Cert.QkvPrep.main_arg1) = m ((c.tc : Thread Cert.QkvPrep.nD Cert.QkvPrep.τ).loc Cert.QkvPrep.main_arg1)
      ∧ r.2.mem ((c.tc : Thread Cert.QkvPrep.nD Cert.QkvPrep.τ).loc Cert.QkvPrep.main_arg2) = m ((c.tc : Thread Cert.QkvPrep.nD Cert.QkvPrep.τ).loc Cert.QkvPrep.main_arg2)
      ∧ r.2.mem ((c.tc : Thread Cert.QkvPrep.nD Cert.QkvPrep.τ).loc Cert.QkvPrep.main_arg3) = m ((c.tc : Thread Cert.QkvPrep.nD Cert.QkvPrep.τ).loc Cert.QkvPrep.main_arg3)
      ∧ r.2.mem ((c.tc : Thread Cert.QkvPrep.nD Cert.QkvPrep.τ).loc Cert.QkvPrep.main_arg4) = m ((c.tc : Thread Cert.QkvPrep.nD Cert.QkvPrep.τ).loc Cert.QkvPrep.main_arg4))
      ∧ r.2.sem = fun _ => 0)

def quiescent_QkvPrepIdeal [hQkvPrepIdeal : Cert.QkvPrepIdeal.Facts] : Prop :=
  ∀ (m : (ℓ : Loc Cert.QkvPrepIdeal.nD Cert.QkvPrepIdeal.τ Cert.QkvPrepIdeal.sig) → Buf (Elt Ideal) ℓ) (g : Dev Cert.QkvPrepIdeal.nD → PrngReg), Pre_QkvPrepIdeal m →
    θ_run (Cert.QkvPrepIdeal.defs (F := Ideal)) (onTc (τ := Cert.QkvPrepIdeal.τ) (Cert.QkvPrepIdeal.main (F := Ideal))) ⟨m, fun _ => 0, g⟩ (fun r => (∀ c : Dev Cert.QkvPrepIdeal.nD,
      r.2.mem ((c.tc : Thread Cert.QkvPrepIdeal.nD Cert.QkvPrepIdeal.τ).loc Cert.QkvPrepIdeal.main_arg0) = m ((c.tc : Thread Cert.QkvPrepIdeal.nD Cert.QkvPrepIdeal.τ).loc Cert.QkvPrepIdeal.main_arg0)
      ∧ r.2.mem ((c.tc : Thread Cert.QkvPrepIdeal.nD Cert.QkvPrepIdeal.τ).loc Cert.QkvPrepIdeal.main_arg1) = m ((c.tc : Thread Cert.QkvPrepIdeal.nD Cert.QkvPrepIdeal.τ).loc Cert.QkvPrepIdeal.main_arg1)
      ∧ r.2.mem ((c.tc : Thread Cert.QkvPrepIdeal.nD Cert.QkvPrepIdeal.τ).loc Cert.QkvPrepIdeal.main_arg2) = m ((c.tc : Thread Cert.QkvPrepIdeal.nD Cert.QkvPrepIdeal.τ).loc Cert.QkvPrepIdeal.main_arg2)
      ∧ r.2.mem ((c.tc : Thread Cert.QkvPrepIdeal.nD Cert.QkvPrepIdeal.τ).loc Cert.QkvPrepIdeal.main_arg3) = m ((c.tc : Thread Cert.QkvPrepIdeal.nD Cert.QkvPrepIdeal.τ).loc Cert.QkvPrepIdeal.main_arg3)
      ∧ r.2.mem ((c.tc : Thread Cert.QkvPrepIdeal.nD Cert.QkvPrepIdeal.τ).loc Cert.QkvPrepIdeal.main_arg4) = m ((c.tc : Thread Cert.QkvPrepIdeal.nD Cert.QkvPrepIdeal.τ).loc Cert.QkvPrepIdeal.main_arg4))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4))
      ∧ r.2.sem = fun _ => 0)

def quiescent_SsmBwd [hSsmBwd : Cert.SsmBwd.Facts] : Prop :=
  ∀ (m : (ℓ : Loc Cert.SsmBwd.nD Cert.SsmBwd.τ Cert.SsmBwd.sig) → Buf (Elt Bits) ℓ) (g : Dev Cert.SsmBwd.nD → PrngReg), Pre_SsmBwd m →
    θ_run (Cert.SsmBwd.defs (F := Bits)) (onTc (τ := Cert.SsmBwd.τ) (Cert.SsmBwd.main (F := Bits))) ⟨m, fun _ => 0, g⟩ (fun r => (∀ c : Dev Cert.SsmBwd.nD,
      r.2.mem ((c.tc : Thread Cert.SsmBwd.nD Cert.SsmBwd.τ).loc Cert.SsmBwd.main_arg0) = m ((c.tc : Thread Cert.SsmBwd.nD Cert.SsmBwd.τ).loc Cert.SsmBwd.main_arg0)
      ∧ r.2.mem ((c.tc : Thread Cert.SsmBwd.nD Cert.SsmBwd.τ).loc Cert.SsmBwd.main_arg1) = m ((c.tc : Thread Cert.SsmBwd.nD Cert.SsmBwd.τ).loc Cert.SsmBwd.main_arg1)
      ∧ r.2.mem ((c.tc : Thread Cert.SsmBwd.nD Cert.SsmBwd.τ).loc Cert.SsmBwd.main_arg2) = m ((c.tc : Thread Cert.SsmBwd.nD Cert.SsmBwd.τ).loc Cert.SsmBwd.main_arg2)
      ∧ r.2.mem ((c.tc : Thread Cert.SsmBwd.nD Cert.SsmBwd.τ).loc Cert.SsmBwd.main_arg3) = m ((c.tc : Thread Cert.SsmBwd.nD Cert.SsmBwd.τ).loc Cert.SsmBwd.main_arg3)
      ∧ r.2.mem ((c.tc : Thread Cert.SsmBwd.nD Cert.SsmBwd.τ).loc Cert.SsmBwd.main_arg4) = m ((c.tc : Thread Cert.SsmBwd.nD Cert.SsmBwd.τ).loc Cert.SsmBwd.main_arg4)
      ∧ r.2.mem ((c.tc : Thread Cert.SsmBwd.nD Cert.SsmBwd.τ).loc Cert.SsmBwd.main_arg5) = m ((c.tc : Thread Cert.SsmBwd.nD Cert.SsmBwd.τ).loc Cert.SsmBwd.main_arg5)
      ∧ r.2.mem ((c.tc : Thread Cert.SsmBwd.nD Cert.SsmBwd.τ).loc Cert.SsmBwd.main_arg6) = m ((c.tc : Thread Cert.SsmBwd.nD Cert.SsmBwd.τ).loc Cert.SsmBwd.main_arg6)
      ∧ r.2.mem ((c.tc : Thread Cert.SsmBwd.nD Cert.SsmBwd.τ).loc Cert.SsmBwd.main_arg7) = m ((c.tc : Thread Cert.SsmBwd.nD Cert.SsmBwd.τ).loc Cert.SsmBwd.main_arg7)
      ∧ r.2.mem ((c.tc : Thread Cert.SsmBwd.nD Cert.SsmBwd.τ).loc Cert.SsmBwd.main_arg8) = m ((c.tc : Thread Cert.SsmBwd.nD Cert.SsmBwd.τ).loc Cert.SsmBwd.main_arg8)
      ∧ r.2.mem ((c.tc : Thread Cert.SsmBwd.nD Cert.SsmBwd.τ).loc Cert.SsmBwd.main_arg9) = m ((c.tc : Thread Cert.SsmBwd.nD Cert.SsmBwd.τ).loc Cert.SsmBwd.main_arg9)
      ∧ r.2.mem ((c.tc : Thread Cert.SsmBwd.nD Cert.SsmBwd.τ).loc Cert.SsmBwd.main_arg10) = m ((c.tc : Thread Cert.SsmBwd.nD Cert.SsmBwd.τ).loc Cert.SsmBwd.main_arg10))
      ∧ r.2.sem = fun _ => 0)

def quiescent_SsmBwdIdeal [hSsmBwdIdeal : Cert.SsmBwdIdeal.Facts] : Prop :=
  ∀ (m : (ℓ : Loc Cert.SsmBwdIdeal.nD Cert.SsmBwdIdeal.τ Cert.SsmBwdIdeal.sig) → Buf (Elt Ideal) ℓ) (g : Dev Cert.SsmBwdIdeal.nD → PrngReg), Pre_SsmBwdIdeal m →
    θ_run (Cert.SsmBwdIdeal.defs (F := Ideal)) (onTc (τ := Cert.SsmBwdIdeal.τ) (Cert.SsmBwdIdeal.main (F := Ideal))) ⟨m, fun _ => 0, g⟩ (fun r => (∀ c : Dev Cert.SsmBwdIdeal.nD,
      r.2.mem ((c.tc : Thread Cert.SsmBwdIdeal.nD Cert.SsmBwdIdeal.τ).loc Cert.SsmBwdIdeal.main_arg0) = m ((c.tc : Thread Cert.SsmBwdIdeal.nD Cert.SsmBwdIdeal.τ).loc Cert.SsmBwdIdeal.main_arg0)
      ∧ r.2.mem ((c.tc : Thread Cert.SsmBwdIdeal.nD Cert.SsmBwdIdeal.τ).loc Cert.SsmBwdIdeal.main_arg1) = m ((c.tc : Thread Cert.SsmBwdIdeal.nD Cert.SsmBwdIdeal.τ).loc Cert.SsmBwdIdeal.main_arg1)
      ∧ r.2.mem ((c.tc : Thread Cert.SsmBwdIdeal.nD Cert.SsmBwdIdeal.τ).loc Cert.SsmBwdIdeal.main_arg2) = m ((c.tc : Thread Cert.SsmBwdIdeal.nD Cert.SsmBwdIdeal.τ).loc Cert.SsmBwdIdeal.main_arg2)
      ∧ r.2.mem ((c.tc : Thread Cert.SsmBwdIdeal.nD Cert.SsmBwdIdeal.τ).loc Cert.SsmBwdIdeal.main_arg3) = m ((c.tc : Thread Cert.SsmBwdIdeal.nD Cert.SsmBwdIdeal.τ).loc Cert.SsmBwdIdeal.main_arg3)
      ∧ r.2.mem ((c.tc : Thread Cert.SsmBwdIdeal.nD Cert.SsmBwdIdeal.τ).loc Cert.SsmBwdIdeal.main_arg4) = m ((c.tc : Thread Cert.SsmBwdIdeal.nD Cert.SsmBwdIdeal.τ).loc Cert.SsmBwdIdeal.main_arg4)
      ∧ r.2.mem ((c.tc : Thread Cert.SsmBwdIdeal.nD Cert.SsmBwdIdeal.τ).loc Cert.SsmBwdIdeal.main_arg5) = m ((c.tc : Thread Cert.SsmBwdIdeal.nD Cert.SsmBwdIdeal.τ).loc Cert.SsmBwdIdeal.main_arg5)
      ∧ r.2.mem ((c.tc : Thread Cert.SsmBwdIdeal.nD Cert.SsmBwdIdeal.τ).loc Cert.SsmBwdIdeal.main_arg6) = m ((c.tc : Thread Cert.SsmBwdIdeal.nD Cert.SsmBwdIdeal.τ).loc Cert.SsmBwdIdeal.main_arg6)
      ∧ r.2.mem ((c.tc : Thread Cert.SsmBwdIdeal.nD Cert.SsmBwdIdeal.τ).loc Cert.SsmBwdIdeal.main_arg7) = m ((c.tc : Thread Cert.SsmBwdIdeal.nD Cert.SsmBwdIdeal.τ).loc Cert.SsmBwdIdeal.main_arg7)
      ∧ r.2.mem ((c.tc : Thread Cert.SsmBwdIdeal.nD Cert.SsmBwdIdeal.τ).loc Cert.SsmBwdIdeal.main_arg8) = m ((c.tc : Thread Cert.SsmBwdIdeal.nD Cert.SsmBwdIdeal.τ).loc Cert.SsmBwdIdeal.main_arg8)
      ∧ r.2.mem ((c.tc : Thread Cert.SsmBwdIdeal.nD Cert.SsmBwdIdeal.τ).loc Cert.SsmBwdIdeal.main_arg9) = m ((c.tc : Thread Cert.SsmBwdIdeal.nD Cert.SsmBwdIdeal.τ).loc Cert.SsmBwdIdeal.main_arg9)
      ∧ r.2.mem ((c.tc : Thread Cert.SsmBwdIdeal.nD Cert.SsmBwdIdeal.τ).loc Cert.SsmBwdIdeal.main_arg10) = m ((c.tc : Thread Cert.SsmBwdIdeal.nD Cert.SsmBwdIdeal.τ).loc Cert.SsmBwdIdeal.main_arg10))
      ∧ r.2.sem = fun _ => 0)

def quiescent_SsmFwd [hSsmFwd : Cert.SsmFwd.Facts] : Prop :=
  ∀ (m : (ℓ : Loc Cert.SsmFwd.nD Cert.SsmFwd.τ Cert.SsmFwd.sig) → Buf (Elt Bits) ℓ) (g : Dev Cert.SsmFwd.nD → PrngReg), Pre_SsmFwd m →
    θ_run (Cert.SsmFwd.defs (F := Bits)) (onTc (τ := Cert.SsmFwd.τ) (Cert.SsmFwd.main (F := Bits))) ⟨m, fun _ => 0, g⟩ (fun r => (∀ c : Dev Cert.SsmFwd.nD,
      r.2.mem ((c.tc : Thread Cert.SsmFwd.nD Cert.SsmFwd.τ).loc Cert.SsmFwd.main_arg0) = m ((c.tc : Thread Cert.SsmFwd.nD Cert.SsmFwd.τ).loc Cert.SsmFwd.main_arg0)
      ∧ r.2.mem ((c.tc : Thread Cert.SsmFwd.nD Cert.SsmFwd.τ).loc Cert.SsmFwd.main_arg1) = m ((c.tc : Thread Cert.SsmFwd.nD Cert.SsmFwd.τ).loc Cert.SsmFwd.main_arg1)
      ∧ r.2.mem ((c.tc : Thread Cert.SsmFwd.nD Cert.SsmFwd.τ).loc Cert.SsmFwd.main_arg2) = m ((c.tc : Thread Cert.SsmFwd.nD Cert.SsmFwd.τ).loc Cert.SsmFwd.main_arg2)
      ∧ r.2.mem ((c.tc : Thread Cert.SsmFwd.nD Cert.SsmFwd.τ).loc Cert.SsmFwd.main_arg3) = m ((c.tc : Thread Cert.SsmFwd.nD Cert.SsmFwd.τ).loc Cert.SsmFwd.main_arg3)
      ∧ r.2.mem ((c.tc : Thread Cert.SsmFwd.nD Cert.SsmFwd.τ).loc Cert.SsmFwd.main_arg4) = m ((c.tc : Thread Cert.SsmFwd.nD Cert.SsmFwd.τ).loc Cert.SsmFwd.main_arg4)
      ∧ r.2.mem ((c.tc : Thread Cert.SsmFwd.nD Cert.SsmFwd.τ).loc Cert.SsmFwd.main_arg5) = m ((c.tc : Thread Cert.SsmFwd.nD Cert.SsmFwd.τ).loc Cert.SsmFwd.main_arg5)
      ∧ r.2.mem ((c.tc : Thread Cert.SsmFwd.nD Cert.SsmFwd.τ).loc Cert.SsmFwd.main_arg6) = m ((c.tc : Thread Cert.SsmFwd.nD Cert.SsmFwd.τ).loc Cert.SsmFwd.main_arg6)
      ∧ r.2.mem ((c.tc : Thread Cert.SsmFwd.nD Cert.SsmFwd.τ).loc Cert.SsmFwd.main_arg7) = m ((c.tc : Thread Cert.SsmFwd.nD Cert.SsmFwd.τ).loc Cert.SsmFwd.main_arg7)
      ∧ r.2.mem ((c.tc : Thread Cert.SsmFwd.nD Cert.SsmFwd.τ).loc Cert.SsmFwd.main_arg8) = m ((c.tc : Thread Cert.SsmFwd.nD Cert.SsmFwd.τ).loc Cert.SsmFwd.main_arg8))
      ∧ r.2.sem = fun _ => 0)

def quiescent_SsmFwdIdeal [hSsmFwdIdeal : Cert.SsmFwdIdeal.Facts] : Prop :=
  ∀ (m : (ℓ : Loc Cert.SsmFwdIdeal.nD Cert.SsmFwdIdeal.τ Cert.SsmFwdIdeal.sig) → Buf (Elt Ideal) ℓ) (g : Dev Cert.SsmFwdIdeal.nD → PrngReg), Pre_SsmFwdIdeal m →
    θ_run (Cert.SsmFwdIdeal.defs (F := Ideal)) (onTc (τ := Cert.SsmFwdIdeal.τ) (Cert.SsmFwdIdeal.main (F := Ideal))) ⟨m, fun _ => 0, g⟩ (fun r => (∀ c : Dev Cert.SsmFwdIdeal.nD,
      r.2.mem ((c.tc : Thread Cert.SsmFwdIdeal.nD Cert.SsmFwdIdeal.τ).loc Cert.SsmFwdIdeal.main_arg0) = m ((c.tc : Thread Cert.SsmFwdIdeal.nD Cert.SsmFwdIdeal.τ).loc Cert.SsmFwdIdeal.main_arg0)
      ∧ r.2.mem ((c.tc : Thread Cert.SsmFwdIdeal.nD Cert.SsmFwdIdeal.τ).loc Cert.SsmFwdIdeal.main_arg1) = m ((c.tc : Thread Cert.SsmFwdIdeal.nD Cert.SsmFwdIdeal.τ).loc Cert.SsmFwdIdeal.main_arg1)
      ∧ r.2.mem ((c.tc : Thread Cert.SsmFwdIdeal.nD Cert.SsmFwdIdeal.τ).loc Cert.SsmFwdIdeal.main_arg2) = m ((c.tc : Thread Cert.SsmFwdIdeal.nD Cert.SsmFwdIdeal.τ).loc Cert.SsmFwdIdeal.main_arg2)
      ∧ r.2.mem ((c.tc : Thread Cert.SsmFwdIdeal.nD Cert.SsmFwdIdeal.τ).loc Cert.SsmFwdIdeal.main_arg3) = m ((c.tc : Thread Cert.SsmFwdIdeal.nD Cert.SsmFwdIdeal.τ).loc Cert.SsmFwdIdeal.main_arg3)
      ∧ r.2.mem ((c.tc : Thread Cert.SsmFwdIdeal.nD Cert.SsmFwdIdeal.τ).loc Cert.SsmFwdIdeal.main_arg4) = m ((c.tc : Thread Cert.SsmFwdIdeal.nD Cert.SsmFwdIdeal.τ).loc Cert.SsmFwdIdeal.main_arg4)
      ∧ r.2.mem ((c.tc : Thread Cert.SsmFwdIdeal.nD Cert.SsmFwdIdeal.τ).loc Cert.SsmFwdIdeal.main_arg5) = m ((c.tc : Thread Cert.SsmFwdIdeal.nD Cert.SsmFwdIdeal.τ).loc Cert.SsmFwdIdeal.main_arg5)
      ∧ r.2.mem ((c.tc : Thread Cert.SsmFwdIdeal.nD Cert.SsmFwdIdeal.τ).loc Cert.SsmFwdIdeal.main_arg6) = m ((c.tc : Thread Cert.SsmFwdIdeal.nD Cert.SsmFwdIdeal.τ).loc Cert.SsmFwdIdeal.main_arg6)
      ∧ r.2.mem ((c.tc : Thread Cert.SsmFwdIdeal.nD Cert.SsmFwdIdeal.τ).loc Cert.SsmFwdIdeal.main_arg7) = m ((c.tc : Thread Cert.SsmFwdIdeal.nD Cert.SsmFwdIdeal.τ).loc Cert.SsmFwdIdeal.main_arg7)
      ∧ r.2.mem ((c.tc : Thread Cert.SsmFwdIdeal.nD Cert.SsmFwdIdeal.τ).loc Cert.SsmFwdIdeal.main_arg8) = m ((c.tc : Thread Cert.SsmFwdIdeal.nD Cert.SsmFwdIdeal.τ).loc Cert.SsmFwdIdeal.main_arg8))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamC [hAdamC : Cert.AdamC.Facts] : Prop :=
  ∀ (m : (ℓ : Loc Cert.AdamC.nD Cert.AdamC.τ Cert.AdamC.sig) → Buf (Elt Bits) ℓ) (g : Dev Cert.AdamC.nD → PrngReg), Pre_AdamC m →
    θ_run (Cert.AdamC.defs (F := Bits)) (onTc (τ := Cert.AdamC.τ) (Cert.AdamC.main (F := Bits))) ⟨m, fun _ => 0, g⟩ (fun r => (∀ c : Dev Cert.AdamC.nD,
      r.2.mem ((c.tc : Thread Cert.AdamC.nD Cert.AdamC.τ).loc Cert.AdamC.main_arg0) = m ((c.tc : Thread Cert.AdamC.nD Cert.AdamC.τ).loc Cert.AdamC.main_arg0)
      ∧ r.2.mem ((c.tc : Thread Cert.AdamC.nD Cert.AdamC.τ).loc Cert.AdamC.main_arg1) = m ((c.tc : Thread Cert.AdamC.nD Cert.AdamC.τ).loc Cert.AdamC.main_arg1)
      ∧ r.2.mem ((c.tc : Thread Cert.AdamC.nD Cert.AdamC.τ).loc Cert.AdamC.main_arg2) = m ((c.tc : Thread Cert.AdamC.nD Cert.AdamC.τ).loc Cert.AdamC.main_arg2)
      ∧ r.2.mem ((c.tc : Thread Cert.AdamC.nD Cert.AdamC.τ).loc Cert.AdamC.main_arg3) = m ((c.tc : Thread Cert.AdamC.nD Cert.AdamC.τ).loc Cert.AdamC.main_arg3))
      ∧ r.2.sem = fun _ => 0)

def quiescent_AdamCIdeal [hAdamCIdeal : Cert.AdamCIdeal.Facts] : Prop :=
  ∀ (m : (ℓ : Loc Cert.AdamCIdeal.nD Cert.AdamCIdeal.τ Cert.AdamCIdeal.sig) → Buf (Elt Ideal) ℓ) (g : Dev Cert.AdamCIdeal.nD → PrngReg), Pre_AdamCIdeal m →
    θ_run (Cert.AdamCIdeal.defs (F := Ideal)) (onTc (τ := Cert.AdamCIdeal.τ) (Cert.AdamCIdeal.main (F := Ideal))) ⟨m, fun _ => 0, g⟩ (fun r => (∀ c : Dev Cert.AdamCIdeal.nD,
      r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
      ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
      ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
      ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3))
      ∧ r.2.sem = fun _ => 0)

def quiescent_AdamCRefIdeal [hAdamCRefIdeal : Cert.AdamCRefIdeal.Facts] : Prop :=
  ∀ (m : (ℓ : Loc Cert.AdamCRefIdeal.nD Cert.AdamCRefIdeal.τ Cert.AdamCRefIdeal.sig) → Buf (Elt Ideal) ℓ) (g : Dev Cert.AdamCRefIdeal.nD → PrngReg), Pre_AdamCRefIdeal m →
    θ_run (Cert.AdamCRefIdeal.defs (F := Ideal)) (onTc (τ := Cert.AdamCRefIdeal.τ) (Cert.AdamCRefIdeal.main (F := Ideal))) ⟨m, fun _ => 0, g⟩ (fun r => (∀ c : Dev Cert.AdamCRefIdeal.nD,
      r.2.mem ((c.tc : Thread Cert.AdamCRefIdeal.nD Cert.AdamCRefIdeal.τ).loc Cert.AdamCRefIdeal.main_arg0) = m ((c.tc : Thread Cert.AdamCRefIdeal.nD Cert.AdamCRefIdeal.τ).loc Cert.AdamCRefIdeal.main_arg0)
      ∧ r.2.mem ((c.tc : Thread Cert.AdamCRefIdeal.nD Cert.AdamCRefIdeal.τ).loc Cert.AdamCRefIdeal.main_arg1) = m ((c.tc : Thread Cert.AdamCRefIdeal.nD Cert.AdamCRefIdeal.τ).loc Cert.AdamCRefIdeal.main_arg1)
      ∧ r.2.mem ((c.tc : Thread Cert.AdamCRefIdeal.nD Cert.AdamCRefIdeal.τ).loc Cert.AdamCRefIdeal.main_arg2) = m ((c.tc : Thread Cert.AdamCRefIdeal.nD Cert.AdamCRefIdeal.τ).loc Cert.AdamCRefIdeal.main_arg2)
      ∧ r.2.mem ((c.tc : Thread Cert.AdamCRefIdeal.nD Cert.AdamCRefIdeal.τ).loc Cert.AdamCRefIdeal.main_arg3) = m ((c.tc : Thread Cert.AdamCRefIdeal.nD Cert.AdamCRefIdeal.τ).loc Cert.AdamCRefIdeal.main_arg3))
      ∧ r.2.sem = fun _ => 0)

def quiescent_SumBlocks [hSumBlocks : Cert.SumBlocks.Facts] : Prop :=
  ∀ (m : (ℓ : Loc Cert.SumBlocks.nD Cert.SumBlocks.τ Cert.SumBlocks.sig) → Buf (Elt Bits) ℓ) (g : Dev Cert.SumBlocks.nD → PrngReg), Pre_SumBlocks m →
    θ_run (Cert.SumBlocks.defs (F := Bits)) (onTc (τ := Cert.SumBlocks.τ) (Cert.SumBlocks.main (F := Bits))) ⟨m, fun _ => 0, g⟩ (fun r => (∀ c : Dev Cert.SumBlocks.nD,
      r.2.mem ((c.tc : Thread Cert.SumBlocks.nD Cert.SumBlocks.τ).loc Cert.SumBlocks.main_arg0) = m ((c.tc : Thread Cert.SumBlocks.nD Cert.SumBlocks.τ).loc Cert.SumBlocks.main_arg0))
      ∧ r.2.sem = fun _ => 0)

def quiescent_SumBlocksIdeal [hSumBlocksIdeal : Cert.SumBlocksIdeal.Facts] : Prop :=
  ∀ (m : (ℓ : Loc Cert.SumBlocksIdeal.nD Cert.SumBlocksIdeal.τ Cert.SumBlocksIdeal.sig) → Buf (Elt Ideal) ℓ) (g : Dev Cert.SumBlocksIdeal.nD → PrngReg), Pre_SumBlocksIdeal m →
    θ_run (Cert.SumBlocksIdeal.defs (F := Ideal)) (onTc (τ := Cert.SumBlocksIdeal.τ) (Cert.SumBlocksIdeal.main (F := Ideal))) ⟨m, fun _ => 0, g⟩ (fun r => (∀ c : Dev Cert.SumBlocksIdeal.nD,
      r.2.mem ((c.tc : Thread Cert.SumBlocksIdeal.nD Cert.SumBlocksIdeal.τ).loc Cert.SumBlocksIdeal.main_arg0) = m ((c.tc : Thread Cert.SumBlocksIdeal.nD Cert.SumBlocksIdeal.τ).loc Cert.SumBlocksIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def quiescent_DOutProj [hDOutProj : Cert.DOutProj.Facts] : Prop :=
  ∀ (m : (ℓ : Loc Cert.DOutProj.nD Cert.DOutProj.τ Cert.DOutProj.sig) → Buf (Elt Bits) ℓ) (g : Dev Cert.DOutProj.nD → PrngReg), Pre_DOutProj m →
    θ_run (Cert.DOutProj.defs (F := Bits)) (onTc (τ := Cert.DOutProj.τ) (Cert.DOutProj.main (F := Bits))) ⟨m, fun _ => 0, g⟩ (fun r => (∀ c : Dev Cert.DOutProj.nD,
      r.2.mem ((c.tc : Thread Cert.DOutProj.nD Cert.DOutProj.τ).loc Cert.DOutProj.main_arg0) = m ((c.tc : Thread Cert.DOutProj.nD Cert.DOutProj.τ).loc Cert.DOutProj.main_arg0)
      ∧ r.2.mem ((c.tc : Thread Cert.DOutProj.nD Cert.DOutProj.τ).loc Cert.DOutProj.main_arg1) = m ((c.tc : Thread Cert.DOutProj.nD Cert.DOutProj.τ).loc Cert.DOutProj.main_arg1))
      ∧ r.2.sem = fun _ => 0)

def quiescent_DOutProjIdeal [hDOutProjIdeal : Cert.DOutProjIdeal.Facts] : Prop :=
  ∀ (m : (ℓ : Loc Cert.DOutProjIdeal.nD Cert.DOutProjIdeal.τ Cert.DOutProjIdeal.sig) → Buf (Elt Ideal) ℓ) (g : Dev Cert.DOutProjIdeal.nD → PrngReg), Pre_DOutProjIdeal m →
    θ_run (Cert.DOutProjIdeal.defs (F := Ideal)) (onTc (τ := Cert.DOutProjIdeal.τ) (Cert.DOutProjIdeal.main (F := Ideal))) ⟨m, fun _ => 0, g⟩ (fun r => (∀ c : Dev Cert.DOutProjIdeal.nD,
      r.2.mem ((c.tc : Thread Cert.DOutProjIdeal.nD Cert.DOutProjIdeal.τ).loc Cert.DOutProjIdeal.main_arg0) = m ((c.tc : Thread Cert.DOutProjIdeal.nD Cert.DOutProjIdeal.τ).loc Cert.DOutProjIdeal.main_arg0)
      ∧ r.2.mem ((c.tc : Thread Cert.DOutProjIdeal.nD Cert.DOutProjIdeal.τ).loc Cert.DOutProjIdeal.main_arg1) = m ((c.tc : Thread Cert.DOutProjIdeal.nD Cert.DOutProjIdeal.τ).loc Cert.DOutProjIdeal.main_arg1))
      ∧ r.2.sem = fun _ => 0)

def quiescent_DOutRefIdeal [hDOutRefIdeal : Cert.DOutRefIdeal.Facts] : Prop :=
  ∀ (m : (ℓ : Loc Cert.DOutRefIdeal.nD Cert.DOutRefIdeal.τ Cert.DOutRefIdeal.sig) → Buf (Elt Ideal) ℓ) (g : Dev Cert.DOutRefIdeal.nD → PrngReg), Pre_DOutRefIdeal m →
    θ_run (Cert.DOutRefIdeal.defs (F := Ideal)) (onTc (τ := Cert.DOutRefIdeal.τ) (Cert.DOutRefIdeal.main (F := Ideal))) ⟨m, fun _ => 0, g⟩ (fun r => (∀ c : Dev Cert.DOutRefIdeal.nD,
      r.2.mem ((c.tc : Thread Cert.DOutRefIdeal.nD Cert.DOutRefIdeal.τ).loc Cert.DOutRefIdeal.main_arg0) = m ((c.tc : Thread Cert.DOutRefIdeal.nD Cert.DOutRefIdeal.τ).loc Cert.DOutRefIdeal.main_arg0)
      ∧ r.2.mem ((c.tc : Thread Cert.DOutRefIdeal.nD Cert.DOutRefIdeal.τ).loc Cert.DOutRefIdeal.main_arg1) = m ((c.tc : Thread Cert.DOutRefIdeal.nD Cert.DOutRefIdeal.τ).loc Cert.DOutRefIdeal.main_arg1))
      ∧ r.2.sem = fun _ => 0)

def quiescent_PairSum [hPairSum : Cert.PairSum.Facts] [hPre_own_core : Cert.Pre_own_core.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0)
      ∧ r.2.mem ((c.tc : Thread Cert.PairSum.nD Cert.PairSum.τ).loc Cert.PairSum.main_arg1) = m ((c.tc : Thread Cert.PairSum.nD Cert.PairSum.τ).loc Cert.PairSum.main_arg1)
      ∧ r.2.mem ((c.tc : Thread Cert.PairSum.nD Cert.PairSum.τ).loc Cert.PairSum.main_arg2) = m ((c.tc : Thread Cert.PairSum.nD Cert.PairSum.τ).loc Cert.PairSum.main_arg2))
      ∧ r.2.sem = fun _ => 0)

def quiescent_PairSumIdeal [hPairSumIdeal : Cert.PairSumIdeal.Facts] [hPre_own_core : Cert.Pre_own_core.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
      ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1)
      ∧ r.2.mem ((c.tc : Thread Cert.PairSumIdeal.nD Cert.PairSumIdeal.τ).loc Cert.PairSumIdeal.main_arg2) = m ((c.tc : Thread Cert.PairSumIdeal.nD Cert.PairSumIdeal.τ).loc Cert.PairSumIdeal.main_arg2))
      ∧ r.2.sem = fun _ => 0)

def quiescent_PairRefIdeal [hPairRefIdeal : Cert.PairRefIdeal.Facts] : Prop :=
  ∀ (m : (ℓ : Loc Cert.PairRefIdeal.nD Cert.PairRefIdeal.τ Cert.PairRefIdeal.sig) → Buf (Elt Ideal) ℓ) (g : Dev Cert.PairRefIdeal.nD → PrngReg), Pre_PairRefIdeal m →
    θ_run (Cert.PairRefIdeal.defs (F := Ideal)) (onTc (τ := Cert.PairRefIdeal.τ) (Cert.PairRefIdeal.main (F := Ideal))) ⟨m, fun _ => 0, g⟩ (fun r => (∀ c : Dev Cert.PairRefIdeal.nD,
      r.2.mem ((c.tc : Thread Cert.PairRefIdeal.nD Cert.PairRefIdeal.τ).loc Cert.PairRefIdeal.main_arg0) = m ((c.tc : Thread Cert.PairRefIdeal.nD Cert.PairRefIdeal.τ).loc Cert.PairRefIdeal.main_arg0)
      ∧ r.2.mem ((c.tc : Thread Cert.PairRefIdeal.nD Cert.PairRefIdeal.τ).loc Cert.PairRefIdeal.main_arg1) = m ((c.tc : Thread Cert.PairRefIdeal.nD Cert.PairRefIdeal.τ).loc Cert.PairRefIdeal.main_arg1)
      ∧ r.2.mem ((c.tc : Thread Cert.PairRefIdeal.nD Cert.PairRefIdeal.τ).loc Cert.PairRefIdeal.main_arg2) = m ((c.tc : Thread Cert.PairRefIdeal.nD Cert.PairRefIdeal.τ).loc Cert.PairRefIdeal.main_arg2))
      ∧ r.2.sem = fun _ => 0)

def quiescent_PairRefIdeal_pre_own_core [hPairRefIdeal : Cert.PairRefIdeal.Facts] [hPre_own_core : Cert.Pre_own_core.Facts] : Prop :=
  ∀ (m : (ℓ : Loc Cert.PairRefIdeal.nD Cert.PairRefIdeal.τ Cert.PairRefIdeal.sig) → Buf (Elt Ideal) ℓ) (g : Dev Cert.PairRefIdeal.nD → PrngReg), Pre_PairRefIdeal_own_core m →
    θ_run (Cert.PairRefIdeal.defs (F := Ideal)) (onTc (τ := Cert.PairRefIdeal.τ) (Cert.PairRefIdeal.main (F := Ideal))) ⟨m, fun _ => 0, g⟩ (fun r => (∀ c : Dev Cert.PairRefIdeal.nD,
      r.2.mem ((c.tc : Thread Cert.PairRefIdeal.nD Cert.PairRefIdeal.τ).loc Cert.PairRefIdeal.main_arg0) = m ((c.tc : Thread Cert.PairRefIdeal.nD Cert.PairRefIdeal.τ).loc Cert.PairRefIdeal.main_arg0)
      ∧ r.2.mem ((c.tc : Thread Cert.PairRefIdeal.nD Cert.PairRefIdeal.τ).loc Cert.PairRefIdeal.main_arg1) = m ((c.tc : Thread Cert.PairRefIdeal.nD Cert.PairRefIdeal.τ).loc Cert.PairRefIdeal.main_arg1)
      ∧ r.2.mem ((c.tc : Thread Cert.PairRefIdeal.nD Cert.PairRefIdeal.τ).loc Cert.PairRefIdeal.main_arg2) = m ((c.tc : Thread Cert.PairRefIdeal.nD Cert.PairRefIdeal.τ).loc Cert.PairRefIdeal.main_arg2))
      ∧ r.2.sem = fun _ => 0)

def preserves_InBwd_InBwdIdeal : Prop :=
  True

def algebraic_InBwdIdeal_InRefIdeal_pre_in_bwd_finite [hInBwdIdeal : Cert.InBwdIdeal.Facts] [hInRefIdeal : Cert.InRefIdeal.Facts] [hPre_in_bwd_finite : Cert.Pre_in_bwd_finite.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InRefIdeal.nD Cert.InRefIdeal.τ Cert.InRefIdeal.sig) → Buf (Elt Ideal) ℓ) (g' : Dev Cert.InRefIdeal.nD → PrngReg), Pre_InBwdIdeal_in_bwd_finite m →
    (∀ c : Dev Cert.InBwdIdeal.nD,
      m' ((c.tc : Thread Cert.InRefIdeal.nD Cert.InRefIdeal.τ).loc Cert.InRefIdeal.main_arg0) = m ((c.tc : Thread Cert.InBwdIdeal.nD Cert.InBwdIdeal.τ).loc Cert.InBwdIdeal.main_arg0)
      ∧ m' ((c.tc : Thread Cert.InRefIdeal.nD Cert.InRefIdeal.τ).loc Cert.InRefIdeal.main_arg1) = m ((c.tc : Thread Cert.InBwdIdeal.nD Cert.InBwdIdeal.τ).loc Cert.InBwdIdeal.main_arg1)
      ∧ m' ((c.tc : Thread Cert.InRefIdeal.nD Cert.InRefIdeal.τ).loc Cert.InRefIdeal.main_arg2) = m ((c.tc : Thread Cert.InBwdIdeal.nD Cert.InBwdIdeal.τ).loc Cert.InBwdIdeal.main_arg2)
      ∧ m' ((c.tc : Thread Cert.InRefIdeal.nD Cert.InRefIdeal.τ).loc Cert.InRefIdeal.main_arg3) = m ((c.tc : Thread Cert.InBwdIdeal.nD Cert.InBwdIdeal.τ).loc Cert.InBwdIdeal.main_arg3)) →
    ∃ (v0 : (c : Dev Cert.InBwdIdeal.nD) → Buf (Elt Ideal) ((c.tc : Thread Cert.InBwdIdeal.nD Cert.InBwdIdeal.τ).loc Cert.InBwdIdeal.main_v1_0)) (v1 : (c : Dev Cert.InBwdIdeal.nD) → Buf (Elt Ideal) ((c.tc : Thread Cert.InBwdIdeal.nD Cert.InBwdIdeal.τ).loc Cert.InBwdIdeal.main_v1_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v1_0) = v0 c
          ∧ r.2.mem ((c.tc : Thread Cert.InBwdIdeal.nD Cert.InBwdIdeal.τ).loc Cert.InBwdIdeal.main_v1_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v43) = v0 c
          ∧ r.2.mem ((c.tc : Thread Cert.InRefIdeal.nD Cert.InRefIdeal.τ).loc Cert.InRefIdeal.main_v42) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v5_0)) (v1 : (c : Dev Cert.AttnIdeal.nD) → Buf (Elt Ideal) ((c.tc : Thread Cert.AttnIdeal.nD Cert.AttnIdeal.τ).loc Cert.AttnIdeal.main_v8)) (v2 : (c : Dev Cert.AttnIdeal.nD) → Buf (Elt Ideal) ((c.tc : Thread Cert.AttnIdeal.nD Cert.AttnIdeal.τ).loc Cert.AttnIdeal.main_v6_1)) (v3 : (c : Dev Cert.AttnIdeal.nD) → Buf (Elt Ideal) ((c.tc : Thread Cert.AttnIdeal.nD Cert.AttnIdeal.τ).loc Cert.AttnIdeal.main_v6_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v5_0) = v0 c
          ∧ r.2.mem ((c.tc : Thread Cert.AttnIdeal.nD Cert.AttnIdeal.τ).loc Cert.AttnIdeal.main_v8) = v1 c
          ∧ r.2.mem ((c.tc : Thread Cert.AttnIdeal.nD Cert.AttnIdeal.τ).loc Cert.AttnIdeal.main_v6_1) = v2 c
          ∧ r.2.mem ((c.tc : Thread Cert.AttnIdeal.nD Cert.AttnIdeal.τ).loc Cert.AttnIdeal.main_v6_2) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v71) = v0 c
          ∧ r.2.mem ((c.tc : Thread Cert.AttnRefIdeal.nD Cert.AttnRefIdeal.τ).loc Cert.AttnRefIdeal.main_v72) = v1 c
          ∧ r.2.mem ((c.tc : Thread Cert.AttnRefIdeal.nD Cert.AttnRefIdeal.τ).loc Cert.AttnRefIdeal.main_v73) = v2 c
          ∧ r.2.mem ((c.tc : Thread Cert.AttnRefIdeal.nD Cert.AttnRefIdeal.τ).loc Cert.AttnRefIdeal.main_v74) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_PleBwd_PleBwdIdeal : Prop :=
  True

def algebraic_PleBwdIdeal_PleRefIdeal_pre_ple_finite [hPleBwdIdeal : Cert.PleBwdIdeal.Facts] [hPleRefIdeal : Cert.PleRefIdeal.Facts] [hPre_ple_finite : Cert.Pre_ple_finite.Facts] : Prop :=
  ∀ (m : (ℓ : Loc Cert.PleBwdIdeal.nD Cert.PleBwdIdeal.τ Cert.PleBwdIdeal.sig) → Buf (Elt Ideal) ℓ) (g : Dev Cert.PleBwdIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleBwdIdeal_ple_finite m →
    (∀ c : Dev Cert.PleBwdIdeal.nD,
      m' ((c.tc : Thread Cert.PleRefIdeal.nD Cert.PleRefIdeal.τ).loc Cert.PleRefIdeal.main_arg0) = m ((c.tc : Thread Cert.PleBwdIdeal.nD Cert.PleBwdIdeal.τ).loc Cert.PleBwdIdeal.main_arg0)
      ∧ m' ((c.tc : Thread Cert.PleRefIdeal.nD Cert.PleRefIdeal.τ).loc Cert.PleRefIdeal.main_arg1) = m ((c.tc : Thread Cert.PleBwdIdeal.nD Cert.PleBwdIdeal.τ).loc Cert.PleBwdIdeal.main_arg1)
      ∧ m' ((c.tc : Thread Cert.PleRefIdeal.nD Cert.PleRefIdeal.τ).loc Cert.PleRefIdeal.main_arg2) = m ((c.tc : Thread Cert.PleBwdIdeal.nD Cert.PleBwdIdeal.τ).loc Cert.PleBwdIdeal.main_arg2)
      ∧ m' ((c.tc : Thread Cert.PleRefIdeal.nD Cert.PleRefIdeal.τ).loc Cert.PleRefIdeal.main_arg3) = m ((c.tc : Thread Cert.PleBwdIdeal.nD Cert.PleBwdIdeal.τ).loc Cert.PleBwdIdeal.main_arg3)
      ∧ m' ((c.tc : Thread Cert.PleRefIdeal.nD Cert.PleRefIdeal.τ).loc Cert.PleRefIdeal.main_arg4) = m ((c.tc : Thread Cert.PleBwdIdeal.nD Cert.PleBwdIdeal.τ).loc Cert.PleBwdIdeal.main_arg4)) →
    ∃ (v0 : (c : Dev Cert.PleBwdIdeal.nD) → Buf (Elt Ideal) ((c.tc : Thread Cert.PleBwdIdeal.nD Cert.PleBwdIdeal.τ).loc Cert.PleBwdIdeal.main_v0_0)) (v1 : (c : Dev Cert.PleBwdIdeal.nD) → Buf (Elt Ideal) ((c.tc : Thread Cert.PleBwdIdeal.nD Cert.PleBwdIdeal.τ).loc Cert.PleBwdIdeal.main_v0_1)) (v2 : (c : Dev Cert.PleBwdIdeal.nD) → Buf (Elt Ideal) ((c.tc : Thread Cert.PleBwdIdeal.nD Cert.PleBwdIdeal.τ).loc Cert.PleBwdIdeal.main_v0_2)),
      θ_run (Cert.PleBwdIdeal.defs (F := Ideal)) (onTc (τ := Cert.PleBwdIdeal.τ) (Cert.PleBwdIdeal.main (F := Ideal))) ⟨m, fun _ => 0, g⟩ (fun r => ∀ c : Dev Cert.PleBwdIdeal.nD,
          r.2.mem ((c.tc : Thread Cert.PleBwdIdeal.nD Cert.PleBwdIdeal.τ).loc Cert.PleBwdIdeal.main_v0_0) = v0 c
          ∧ r.2.mem ((c.tc : Thread Cert.PleBwdIdeal.nD Cert.PleBwdIdeal.τ).loc Cert.PleBwdIdeal.main_v0_1) = v1 c
          ∧ r.2.mem ((c.tc : Thread Cert.PleBwdIdeal.nD Cert.PleBwdIdeal.τ).loc Cert.PleBwdIdeal.main_v0_2) = v2 c
          ∧ r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
          ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
          ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
          ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
          ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v41) = v0 c
          ∧ r.2.mem ((c.tc : Thread Cert.PleRefIdeal.nD Cert.PleRefIdeal.τ).loc Cert.PleRefIdeal.main_v43) = v1 c
          ∧ r.2.mem ((c.tc : Thread Cert.PleRefIdeal.nD Cert.PleRefIdeal.τ).loc Cert.PleRefIdeal.main_v42) = v2 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_Tail_TailIdeal : Prop :=
  True

def algebraic_TailIdeal_TailRefIdeal_pre_tail_finite [hTailIdeal : Cert.TailIdeal.Facts] [hTailRefIdeal : Cert.TailRefIdeal.Facts] [hPre_tail_finite : Cert.Pre_tail_finite.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal_tail_finite m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)) →
    ∃ (v0 : (c : Dev Cert.TailIdeal.nD) → Buf (Elt Ideal) ((c.tc : Thread Cert.TailIdeal.nD Cert.TailIdeal.τ).loc Cert.TailIdeal.main_v1_0)) (v1 : (c : Dev Cert.TailIdeal.nD) → Buf (Elt Ideal) ((c.tc : Thread Cert.TailIdeal.nD Cert.TailIdeal.τ).loc Cert.TailIdeal.main_v1_1)) (v2 : (c : Dev Cert.TailIdeal.nD) → Buf (Elt Ideal) ((c.tc : Thread Cert.TailIdeal.nD Cert.TailIdeal.τ).loc Cert.TailIdeal.main_v1_2)) (v3 : (c : Dev Cert.TailIdeal.nD) → Buf (Elt Ideal) ((c.tc : Thread Cert.TailIdeal.nD Cert.TailIdeal.τ).loc Cert.TailIdeal.main_v1_3)) (v4 : (c : Dev Cert.TailIdeal.nD) → Buf (Elt Ideal) ((c.tc : Thread Cert.TailIdeal.nD Cert.TailIdeal.τ).loc Cert.TailIdeal.main_v1_4)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v1_0) = v0 c
          ∧ r.2.mem ((c.tc : Thread Cert.TailIdeal.nD Cert.TailIdeal.τ).loc Cert.TailIdeal.main_v1_1) = v1 c
          ∧ r.2.mem ((c.tc : Thread Cert.TailIdeal.nD Cert.TailIdeal.τ).loc Cert.TailIdeal.main_v1_2) = v2 c
          ∧ r.2.mem ((c.tc : Thread Cert.TailIdeal.nD Cert.TailIdeal.τ).loc Cert.TailIdeal.main_v1_3) = v3 c
          ∧ r.2.mem ((c.tc : Thread Cert.TailIdeal.nD Cert.TailIdeal.τ).loc Cert.TailIdeal.main_v1_4) = v4 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v65) = v0 c
          ∧ r.2.mem ((c.tc : Thread Cert.TailRefIdeal.nD Cert.TailRefIdeal.τ).loc Cert.TailRefIdeal.main_v69) = v1 c
          ∧ r.2.mem ((c.tc : Thread Cert.TailRefIdeal.nD Cert.TailRefIdeal.τ).loc Cert.TailRefIdeal.main_v70) = v2 c
          ∧ r.2.mem ((c.tc : Thread Cert.TailRefIdeal.nD Cert.TailRefIdeal.τ).loc Cert.TailRefIdeal.main_v71) = v3 c
          ∧ r.2.mem ((c.tc : Thread Cert.TailRefIdeal.nD Cert.TailRefIdeal.τ).loc Cert.TailRefIdeal.main_v72) = v4 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5))

def preserves_MixBwd_MixBwdIdeal : Prop :=
  True

def algebraic_MixBwdIdeal_MixRefIdeal_pre_mix_finite [hMixBwdIdeal : Cert.MixBwdIdeal.Facts] [hMixRefIdeal : Cert.MixRefIdeal.Facts] [hPre_mix_finite : Cert.Pre_mix_finite.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixBwdIdeal_mix_finite m →
    (∀ c : Dev Cert.MixBwdIdeal.nD,
      m' ((c.tc : Thread Cert.MixRefIdeal.nD Cert.MixRefIdeal.τ).loc Cert.MixRefIdeal.main_arg0) = m ((c.tc : Thread Cert.MixBwdIdeal.nD Cert.MixBwdIdeal.τ).loc Cert.MixBwdIdeal.main_arg0)
      ∧ m' ((c.tc : Thread Cert.MixRefIdeal.nD Cert.MixRefIdeal.τ).loc Cert.MixRefIdeal.main_arg1) = m ((c.tc : Thread Cert.MixBwdIdeal.nD Cert.MixBwdIdeal.τ).loc Cert.MixBwdIdeal.main_arg1)
      ∧ m' ((c.tc : Thread Cert.MixRefIdeal.nD Cert.MixRefIdeal.τ).loc Cert.MixRefIdeal.main_arg2) = m ((c.tc : Thread Cert.MixBwdIdeal.nD Cert.MixBwdIdeal.τ).loc Cert.MixBwdIdeal.main_arg2)
      ∧ m' ((c.tc : Thread Cert.MixRefIdeal.nD Cert.MixRefIdeal.τ).loc Cert.MixRefIdeal.main_arg3) = m ((c.tc : Thread Cert.MixBwdIdeal.nD Cert.MixBwdIdeal.τ).loc Cert.MixBwdIdeal.main_arg3)
      ∧ m' ((c.tc : Thread Cert.MixRefIdeal.nD Cert.MixRefIdeal.τ).loc Cert.MixRefIdeal.main_arg4) = m ((c.tc : Thread Cert.MixBwdIdeal.nD Cert.MixBwdIdeal.τ).loc Cert.MixBwdIdeal.main_arg4)
      ∧ m' ((c.tc : Thread Cert.MixRefIdeal.nD Cert.MixRefIdeal.τ).loc Cert.MixRefIdeal.main_arg5) = m ((c.tc : Thread Cert.MixBwdIdeal.nD Cert.MixBwdIdeal.τ).loc Cert.MixBwdIdeal.main_arg5)) →
    ∃ (v0 : (c : Dev Cert.MixBwdIdeal.nD) → Buf (Elt Ideal) ((c.tc : Thread Cert.MixBwdIdeal.nD Cert.MixBwdIdeal.τ).loc Cert.MixBwdIdeal.main_v7_0)) (v1 : (c : Dev Cert.MixBwdIdeal.nD) → Buf (Elt Ideal) ((c.tc : Thread Cert.MixBwdIdeal.nD Cert.MixBwdIdeal.τ).loc Cert.MixBwdIdeal.main_v7_1)) (v2 : (c : Dev Cert.MixBwdIdeal.nD) → Buf (Elt Ideal) ((c.tc : Thread Cert.MixBwdIdeal.nD Cert.MixBwdIdeal.τ).loc Cert.MixBwdIdeal.main_v7_2)) (v3 : (c : Dev Cert.MixBwdIdeal.nD) → Buf (Elt Ideal) ((c.tc : Thread Cert.MixBwdIdeal.nD Cert.MixBwdIdeal.τ).loc Cert.MixBwdIdeal.main_v7_3)) (v4 : (c : Dev Cert.MixBwdIdeal.nD) → Buf (Elt Ideal) ((c.tc : Thread Cert.MixBwdIdeal.nD Cert.MixBwdIdeal.τ).loc Cert.MixBwdIdeal.main_v7_4)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v7_0) = v0 c
          ∧ r.2.mem ((c.tc : Thread Cert.MixBwdIdeal.nD Cert.MixBwdIdeal.τ).loc Cert.MixBwdIdeal.main_v7_1) = v1 c
          ∧ r.2.mem ((c.tc : Thread Cert.MixBwdIdeal.nD Cert.MixBwdIdeal.τ).loc Cert.MixBwdIdeal.main_v7_2) = v2 c
          ∧ r.2.mem ((c.tc : Thread Cert.MixBwdIdeal.nD Cert.MixBwdIdeal.τ).loc Cert.MixBwdIdeal.main_v7_3) = v3 c
          ∧ r.2.mem ((c.tc : Thread Cert.MixBwdIdeal.nD Cert.MixBwdIdeal.τ).loc Cert.MixBwdIdeal.main_v7_4) = v4 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v51) = v0 c
          ∧ r.2.mem ((c.tc : Thread Cert.MixRefIdeal.nD Cert.MixRefIdeal.τ).loc Cert.MixRefIdeal.main_v52) = v1 c
          ∧ r.2.mem ((c.tc : Thread Cert.MixRefIdeal.nD Cert.MixRefIdeal.τ).loc Cert.MixRefIdeal.main_v53) = v2 c
          ∧ r.2.mem ((c.tc : Thread Cert.MixRefIdeal.nD Cert.MixRefIdeal.τ).loc Cert.MixRefIdeal.main_v54) = v3 c
          ∧ r.2.mem ((c.tc : Thread Cert.MixRefIdeal.nD Cert.MixRefIdeal.τ).loc Cert.MixRefIdeal.main_v47) = v4 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_GeluBwd_GeluBwdIdeal : Prop :=
  IdealRules.named_const.Statement Cert.GeluBwdIdeal.κ "gelu_k" .f32 0x3D372713#32 ((8943 / 200000 : ℝ) : EReal)
  ∧ IdealRules.named_const.Statement Cert.GeluBwdIdeal.κ "gelu_3k" .f32 0x3E095D4F#32 ((26829 / 200000 : ℝ) : EReal)

def algebraic_GeluBwdIdeal_GeluRefIdeal_pre_gelu_finite [hGeluBwdIdeal : Cert.GeluBwdIdeal.Facts] [hGeluRefIdeal : Cert.GeluRefIdeal.Facts] [hPre_gelu_finite : Cert.Pre_gelu_finite.Facts] : Prop :=
  ∀ (m : (ℓ : Loc Cert.GeluBwdIdeal.nD Cert.GeluBwdIdeal.τ Cert.GeluBwdIdeal.sig) → Buf (Elt Ideal) ℓ) (g : Dev Cert.GeluBwdIdeal.nD → PrngReg)
    (m' : (ℓ : Loc Cert.GeluRefIdeal.nD Cert.GeluRefIdeal.τ Cert.GeluRefIdeal.sig) → Buf (Elt Ideal) ℓ) (g' : Dev Cert.GeluRefIdeal.nD → PrngReg), Pre_GeluBwdIdeal_gelu_finite m →
    (∀ c : Dev Cert.GeluBwdIdeal.nD,
      m' ((c.tc : Thread Cert.GeluRefIdeal.nD Cert.GeluRefIdeal.τ).loc Cert.GeluRefIdeal.main_arg0) = m ((c.tc : Thread Cert.GeluBwdIdeal.nD Cert.GeluBwdIdeal.τ).loc Cert.GeluBwdIdeal.main_arg0)
      ∧ m' ((c.tc : Thread Cert.GeluRefIdeal.nD Cert.GeluRefIdeal.τ).loc Cert.GeluRefIdeal.main_arg1) = m ((c.tc : Thread Cert.GeluBwdIdeal.nD Cert.GeluBwdIdeal.τ).loc Cert.GeluBwdIdeal.main_arg1)
      ∧ m' ((c.tc : Thread Cert.GeluRefIdeal.nD Cert.GeluRefIdeal.τ).loc Cert.GeluRefIdeal.main_arg2) = m ((c.tc : Thread Cert.GeluBwdIdeal.nD Cert.GeluBwdIdeal.τ).loc Cert.GeluBwdIdeal.main_arg2)) →
    ∃ (v0 : (c : Dev Cert.GeluBwdIdeal.nD) → Buf (Elt Ideal) ((c.tc : Thread Cert.GeluBwdIdeal.nD Cert.GeluBwdIdeal.τ).loc Cert.GeluBwdIdeal.main_v2)),
      θ_run (Cert.GeluBwdIdeal.defs (F := Ideal)) (onTc (τ := Cert.GeluBwdIdeal.τ) (Cert.GeluBwdIdeal.main (F := Ideal))) ⟨m, fun _ => 0, g⟩ (fun r => ∀ c : Dev Cert.GeluBwdIdeal.nD,
          r.2.mem ((c.tc : Thread Cert.GeluBwdIdeal.nD Cert.GeluBwdIdeal.τ).loc Cert.GeluBwdIdeal.main_v2) = v0 c
          ∧ r.2.mem ((c.tc : Thread Cert.GeluBwdIdeal.nD Cert.GeluBwdIdeal.τ).loc Cert.GeluBwdIdeal.main_arg0) = m ((c.tc : Thread Cert.GeluBwdIdeal.nD Cert.GeluBwdIdeal.τ).loc Cert.GeluBwdIdeal.main_arg0)
          ∧ r.2.mem ((c.tc : Thread Cert.GeluBwdIdeal.nD Cert.GeluBwdIdeal.τ).loc Cert.GeluBwdIdeal.main_arg1) = m ((c.tc : Thread Cert.GeluBwdIdeal.nD Cert.GeluBwdIdeal.τ).loc Cert.GeluBwdIdeal.main_arg1)
          ∧ r.2.mem ((c.tc : Thread Cert.GeluBwdIdeal.nD Cert.GeluBwdIdeal.τ).loc Cert.GeluBwdIdeal.main_arg2) = m ((c.tc : Thread Cert.GeluBwdIdeal.nD Cert.GeluBwdIdeal.τ).loc Cert.GeluBwdIdeal.main_arg2))
      ∧ θ_run (Cert.GeluRefIdeal.defs (F := Ideal)) (onTc (τ := Cert.GeluRefIdeal.τ) (Cert.GeluRefIdeal.main (F := Ideal))) ⟨m', fun _ => 0, g'⟩ (fun r => ∀ c : Dev Cert.GeluRefIdeal.nD,
          r.2.mem ((c.tc : Thread Cert.GeluRefIdeal.nD Cert.GeluRefIdeal.τ).loc Cert.GeluRefIdeal.main_v37) = v0 c
          ∧ r.2.mem ((c.tc : Thread Cert.GeluRefIdeal.nD Cert.GeluRefIdeal.τ).loc Cert.GeluRefIdeal.main_arg0) = m' ((c.tc : Thread Cert.GeluRefIdeal.nD Cert.GeluRefIdeal.τ).loc Cert.GeluRefIdeal.main_arg0)
          ∧ r.2.mem ((c.tc : Thread Cert.GeluRefIdeal.nD Cert.GeluRefIdeal.τ).loc Cert.GeluRefIdeal.main_arg1) = m' ((c.tc : Thread Cert.GeluRefIdeal.nD Cert.GeluRefIdeal.τ).loc Cert.GeluRefIdeal.main_arg1)
          ∧ r.2.mem ((c.tc : Thread Cert.GeluRefIdeal.nD Cert.GeluRefIdeal.τ).loc Cert.GeluRefIdeal.main_arg2) = m' ((c.tc : Thread Cert.GeluRefIdeal.nD Cert.GeluRefIdeal.τ).loc Cert.GeluRefIdeal.main_arg2))

def preserves_QkvBwd_QkvBwdIdeal : Prop :=
  True

def algebraic_QkvBwdIdeal_QkvRefIdeal_pre_qkv_finite [hQkvBwdIdeal : Cert.QkvBwdIdeal.Facts] [hQkvRefIdeal : Cert.QkvRefIdeal.Facts] [hPre_qkv_finite : Cert.Pre_qkv_finite.Facts] : Prop :=
  ∀ (m : (ℓ : Loc Cert.QkvBwdIdeal.nD Cert.QkvBwdIdeal.τ Cert.QkvBwdIdeal.sig) → Buf (Elt Ideal) ℓ) (g : Dev Cert.QkvBwdIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvBwdIdeal_qkv_finite m →
    (∀ c : Dev Cert.QkvBwdIdeal.nD,
      m' ((c.tc : Thread Cert.QkvRefIdeal.nD Cert.QkvRefIdeal.τ).loc Cert.QkvRefIdeal.main_arg0) = m ((c.tc : Thread Cert.QkvBwdIdeal.nD Cert.QkvBwdIdeal.τ).loc Cert.QkvBwdIdeal.main_arg0)
      ∧ m' ((c.tc : Thread Cert.QkvRefIdeal.nD Cert.QkvRefIdeal.τ).loc Cert.QkvRefIdeal.main_arg1) = m ((c.tc : Thread Cert.QkvBwdIdeal.nD Cert.QkvBwdIdeal.τ).loc Cert.QkvBwdIdeal.main_arg1)
      ∧ m' ((c.tc : Thread Cert.QkvRefIdeal.nD Cert.QkvRefIdeal.τ).loc Cert.QkvRefIdeal.main_arg2) = m ((c.tc : Thread Cert.QkvBwdIdeal.nD Cert.QkvBwdIdeal.τ).loc Cert.QkvBwdIdeal.main_arg2)
      ∧ m' ((c.tc : Thread Cert.QkvRefIdeal.nD Cert.QkvRefIdeal.τ).loc Cert.QkvRefIdeal.main_arg3) = m ((c.tc : Thread Cert.QkvBwdIdeal.nD Cert.QkvBwdIdeal.τ).loc Cert.QkvBwdIdeal.main_arg3)
      ∧ m' ((c.tc : Thread Cert.QkvRefIdeal.nD Cert.QkvRefIdeal.τ).loc Cert.QkvRefIdeal.main_arg4) = m ((c.tc : Thread Cert.QkvBwdIdeal.nD Cert.QkvBwdIdeal.τ).loc Cert.QkvBwdIdeal.main_arg4)
      ∧ m' ((c.tc : Thread Cert.QkvRefIdeal.nD Cert.QkvRefIdeal.τ).loc Cert.QkvRefIdeal.main_arg5) = m ((c.tc : Thread Cert.QkvBwdIdeal.nD Cert.QkvBwdIdeal.τ).loc Cert.QkvBwdIdeal.main_arg5)
      ∧ m' ((c.tc : Thread Cert.QkvRefIdeal.nD Cert.QkvRefIdeal.τ).loc Cert.QkvRefIdeal.main_arg6) = m ((c.tc : Thread Cert.QkvBwdIdeal.nD Cert.QkvBwdIdeal.τ).loc Cert.QkvBwdIdeal.main_arg6)
      ∧ m' ((c.tc : Thread Cert.QkvRefIdeal.nD Cert.QkvRefIdeal.τ).loc Cert.QkvRefIdeal.main_arg7) = m ((c.tc : Thread Cert.QkvBwdIdeal.nD Cert.QkvBwdIdeal.τ).loc Cert.QkvBwdIdeal.main_arg7)
      ∧ m' ((c.tc : Thread Cert.QkvRefIdeal.nD Cert.QkvRefIdeal.τ).loc Cert.QkvRefIdeal.main_arg8) = m ((c.tc : Thread Cert.QkvBwdIdeal.nD Cert.QkvBwdIdeal.τ).loc Cert.QkvBwdIdeal.main_arg8)
      ∧ m' ((c.tc : Thread Cert.QkvRefIdeal.nD Cert.QkvRefIdeal.τ).loc Cert.QkvRefIdeal.main_arg9) = m ((c.tc : Thread Cert.QkvBwdIdeal.nD Cert.QkvBwdIdeal.τ).loc Cert.QkvBwdIdeal.main_arg9)
      ∧ m' ((c.tc : Thread Cert.QkvRefIdeal.nD Cert.QkvRefIdeal.τ).loc Cert.QkvRefIdeal.main_arg10) = m ((c.tc : Thread Cert.QkvBwdIdeal.nD Cert.QkvBwdIdeal.τ).loc Cert.QkvBwdIdeal.main_arg10)) →
    ∃ (v0 : (c : Dev Cert.QkvBwdIdeal.nD) → Buf (Elt Ideal) ((c.tc : Thread Cert.QkvBwdIdeal.nD Cert.QkvBwdIdeal.τ).loc Cert.QkvBwdIdeal.main_v12_0)) (v1 : (c : Dev Cert.QkvBwdIdeal.nD) → Buf (Elt Ideal) ((c.tc : Thread Cert.QkvBwdIdeal.nD Cert.QkvBwdIdeal.τ).loc Cert.QkvBwdIdeal.main_v12_1)) (v2 : (c : Dev Cert.QkvBwdIdeal.nD) → Buf (Elt Ideal) ((c.tc : Thread Cert.QkvBwdIdeal.nD Cert.QkvBwdIdeal.τ).loc Cert.QkvBwdIdeal.main_v12_2)),
      θ_run (Cert.QkvBwdIdeal.defs (F := Ideal)) (onTc (τ := Cert.QkvBwdIdeal.τ) (Cert.QkvBwdIdeal.main (F := Ideal))) ⟨m, fun _ => 0, g⟩ (fun r => ∀ c : Dev Cert.QkvBwdIdeal.nD,
          r.2.mem ((c.tc : Thread Cert.QkvBwdIdeal.nD Cert.QkvBwdIdeal.τ).loc Cert.QkvBwdIdeal.main_v12_0) = v0 c
          ∧ r.2.mem ((c.tc : Thread Cert.QkvBwdIdeal.nD Cert.QkvBwdIdeal.τ).loc Cert.QkvBwdIdeal.main_v12_1) = v1 c
          ∧ r.2.mem ((c.tc : Thread Cert.QkvBwdIdeal.nD Cert.QkvBwdIdeal.τ).loc Cert.QkvBwdIdeal.main_v12_2) = v2 c
          ∧ r.2.mem ((c.tc : Thread Cert.QkvBwdIdeal.nD Cert.QkvBwdIdeal.τ).loc Cert.QkvBwdIdeal.main_arg0) = m ((c.tc : Thread Cert.QkvBwdIdeal.nD Cert.QkvBwdIdeal.τ).loc Cert.QkvBwdIdeal.main_arg0)
          ∧ r.2.mem ((c.tc : Thread Cert.QkvBwdIdeal.nD Cert.QkvBwdIdeal.τ).loc Cert.QkvBwdIdeal.main_arg1) = m ((c.tc : Thread Cert.QkvBwdIdeal.nD Cert.QkvBwdIdeal.τ).loc Cert.QkvBwdIdeal.main_arg1)
          ∧ r.2.mem ((c.tc : Thread Cert.QkvBwdIdeal.nD Cert.QkvBwdIdeal.τ).loc Cert.QkvBwdIdeal.main_arg2) = m ((c.tc : Thread Cert.QkvBwdIdeal.nD Cert.QkvBwdIdeal.τ).loc Cert.QkvBwdIdeal.main_arg2)
          ∧ r.2.mem ((c.tc : Thread Cert.QkvBwdIdeal.nD Cert.QkvBwdIdeal.τ).loc Cert.QkvBwdIdeal.main_arg3) = m ((c.tc : Thread Cert.QkvBwdIdeal.nD Cert.QkvBwdIdeal.τ).loc Cert.QkvBwdIdeal.main_arg3)
          ∧ r.2.mem ((c.tc : Thread Cert.QkvBwdIdeal.nD Cert.QkvBwdIdeal.τ).loc Cert.QkvBwdIdeal.main_arg4) = m ((c.tc : Thread Cert.QkvBwdIdeal.nD Cert.QkvBwdIdeal.τ).loc Cert.QkvBwdIdeal.main_arg4)
          ∧ r.2.mem ((c.tc : Thread Cert.QkvBwdIdeal.nD Cert.QkvBwdIdeal.τ).loc Cert.QkvBwdIdeal.main_arg5) = m ((c.tc : Thread Cert.QkvBwdIdeal.nD Cert.QkvBwdIdeal.τ).loc Cert.QkvBwdIdeal.main_arg5)
          ∧ r.2.mem ((c.tc : Thread Cert.QkvBwdIdeal.nD Cert.QkvBwdIdeal.τ).loc Cert.QkvBwdIdeal.main_arg6) = m ((c.tc : Thread Cert.QkvBwdIdeal.nD Cert.QkvBwdIdeal.τ).loc Cert.QkvBwdIdeal.main_arg6)
          ∧ r.2.mem ((c.tc : Thread Cert.QkvBwdIdeal.nD Cert.QkvBwdIdeal.τ).loc Cert.QkvBwdIdeal.main_arg7) = m ((c.tc : Thread Cert.QkvBwdIdeal.nD Cert.QkvBwdIdeal.τ).loc Cert.QkvBwdIdeal.main_arg7)
          ∧ r.2.mem ((c.tc : Thread Cert.QkvBwdIdeal.nD Cert.QkvBwdIdeal.τ).loc Cert.QkvBwdIdeal.main_arg8) = m ((c.tc : Thread Cert.QkvBwdIdeal.nD Cert.QkvBwdIdeal.τ).loc Cert.QkvBwdIdeal.main_arg8)
          ∧ r.2.mem ((c.tc : Thread Cert.QkvBwdIdeal.nD Cert.QkvBwdIdeal.τ).loc Cert.QkvBwdIdeal.main_arg9) = m ((c.tc : Thread Cert.QkvBwdIdeal.nD Cert.QkvBwdIdeal.τ).loc Cert.QkvBwdIdeal.main_arg9)
          ∧ r.2.mem ((c.tc : Thread Cert.QkvBwdIdeal.nD Cert.QkvBwdIdeal.τ).loc Cert.QkvBwdIdeal.main_arg10) = m ((c.tc : Thread Cert.QkvBwdIdeal.nD Cert.QkvBwdIdeal.τ).loc Cert.QkvBwdIdeal.main_arg10))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v238) = v0 c
          ∧ r.2.mem ((c.tc : Thread Cert.QkvRefIdeal.nD Cert.QkvRefIdeal.τ).loc Cert.QkvRefIdeal.main_v235) = v1 c
          ∧ r.2.mem ((c.tc : Thread Cert.QkvRefIdeal.nD Cert.QkvRefIdeal.τ).loc Cert.QkvRefIdeal.main_v178) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9)
          ∧ r.2.mem ((c.tc : Thread Cert.QkvRefIdeal.nD Cert.QkvRefIdeal.τ).loc Cert.QkvRefIdeal.main_arg10) = m' ((c.tc : Thread Cert.QkvRefIdeal.nD Cert.QkvRefIdeal.τ).loc Cert.QkvRefIdeal.main_arg10))

def preserves_SsmParam_SsmParamIdeal : Prop :=
  True

def algebraic_SsmParamIdeal_SsmParamRefIdeal_pre_ssm_param_finite [hSsmParamIdeal : Cert.SsmParamIdeal.Facts] [hSsmParamRefIdeal : Cert.SsmParamRefIdeal.Facts] [hPre_ssm_param_finite : Cert.Pre_ssm_param_finite.Facts] : Prop :=
  ∀ (m : (ℓ : Loc Cert.SsmParamIdeal.nD Cert.SsmParamIdeal.τ Cert.SsmParamIdeal.sig) → Buf (Elt Ideal) ℓ) (g : Dev Cert.SsmParamIdeal.nD → PrngReg)
    (m' : (ℓ : Loc Cert.SsmParamRefIdeal.nD Cert.SsmParamRefIdeal.τ Cert.SsmParamRefIdeal.sig) → Buf (Elt Ideal) ℓ) (g' : Dev Cert.SsmParamRefIdeal.nD → PrngReg), Pre_SsmParamIdeal_ssm_param_finite m →
    (∀ c : Dev Cert.SsmParamIdeal.nD,
      m' ((c.tc : Thread Cert.SsmParamRefIdeal.nD Cert.SsmParamRefIdeal.τ).loc Cert.SsmParamRefIdeal.main_arg0) = m ((c.tc : Thread Cert.SsmParamIdeal.nD Cert.SsmParamIdeal.τ).loc Cert.SsmParamIdeal.main_arg0)
      ∧ m' ((c.tc : Thread Cert.SsmParamRefIdeal.nD Cert.SsmParamRefIdeal.τ).loc Cert.SsmParamRefIdeal.main_arg1) = m ((c.tc : Thread Cert.SsmParamIdeal.nD Cert.SsmParamIdeal.τ).loc Cert.SsmParamIdeal.main_arg1)
      ∧ m' ((c.tc : Thread Cert.SsmParamRefIdeal.nD Cert.SsmParamRefIdeal.τ).loc Cert.SsmParamRefIdeal.main_arg2) = m ((c.tc : Thread Cert.SsmParamIdeal.nD Cert.SsmParamIdeal.τ).loc Cert.SsmParamIdeal.main_arg2)
      ∧ m' ((c.tc : Thread Cert.SsmParamRefIdeal.nD Cert.SsmParamRefIdeal.τ).loc Cert.SsmParamRefIdeal.main_arg3) = m ((c.tc : Thread Cert.SsmParamIdeal.nD Cert.SsmParamIdeal.τ).loc Cert.SsmParamIdeal.main_arg3)
      ∧ m' ((c.tc : Thread Cert.SsmParamRefIdeal.nD Cert.SsmParamRefIdeal.τ).loc Cert.SsmParamRefIdeal.main_arg4) = m ((c.tc : Thread Cert.SsmParamIdeal.nD Cert.SsmParamIdeal.τ).loc Cert.SsmParamIdeal.main_arg4)
      ∧ m' ((c.tc : Thread Cert.SsmParamRefIdeal.nD Cert.SsmParamRefIdeal.τ).loc Cert.SsmParamRefIdeal.main_arg5) = m ((c.tc : Thread Cert.SsmParamIdeal.nD Cert.SsmParamIdeal.τ).loc Cert.SsmParamIdeal.main_arg5)
      ∧ m' ((c.tc : Thread Cert.SsmParamRefIdeal.nD Cert.SsmParamRefIdeal.τ).loc Cert.SsmParamRefIdeal.main_arg6) = m ((c.tc : Thread Cert.SsmParamIdeal.nD Cert.SsmParamIdeal.τ).loc Cert.SsmParamIdeal.main_arg6)
      ∧ m' ((c.tc : Thread Cert.SsmParamRefIdeal.nD Cert.SsmParamRefIdeal.τ).loc Cert.SsmParamRefIdeal.main_arg7) = m ((c.tc : Thread Cert.SsmParamIdeal.nD Cert.SsmParamIdeal.τ).loc Cert.SsmParamIdeal.main_arg7)
      ∧ m' ((c.tc : Thread Cert.SsmParamRefIdeal.nD Cert.SsmParamRefIdeal.τ).loc Cert.SsmParamRefIdeal.main_arg8) = m ((c.tc : Thread Cert.SsmParamIdeal.nD Cert.SsmParamIdeal.τ).loc Cert.SsmParamIdeal.main_arg8)
      ∧ m' ((c.tc : Thread Cert.SsmParamRefIdeal.nD Cert.SsmParamRefIdeal.τ).loc Cert.SsmParamRefIdeal.main_arg9) = m ((c.tc : Thread Cert.SsmParamIdeal.nD Cert.SsmParamIdeal.τ).loc Cert.SsmParamIdeal.main_arg9)
      ∧ m' ((c.tc : Thread Cert.SsmParamRefIdeal.nD Cert.SsmParamRefIdeal.τ).loc Cert.SsmParamRefIdeal.main_arg10) = m ((c.tc : Thread Cert.SsmParamIdeal.nD Cert.SsmParamIdeal.τ).loc Cert.SsmParamIdeal.main_arg10)
      ∧ m' ((c.tc : Thread Cert.SsmParamRefIdeal.nD Cert.SsmParamRefIdeal.τ).loc Cert.SsmParamRefIdeal.main_arg11) = m ((c.tc : Thread Cert.SsmParamIdeal.nD Cert.SsmParamIdeal.τ).loc Cert.SsmParamIdeal.main_arg11)) →
    ∃ (v0 : (c : Dev Cert.SsmParamIdeal.nD) → Buf (Elt Ideal) ((c.tc : Thread Cert.SsmParamIdeal.nD Cert.SsmParamIdeal.τ).loc Cert.SsmParamIdeal.main_v25_0)) (v1 : (c : Dev Cert.SsmParamIdeal.nD) → Buf (Elt Ideal) ((c.tc : Thread Cert.SsmParamIdeal.nD Cert.SsmParamIdeal.τ).loc Cert.SsmParamIdeal.main_v25_1)) (v2 : (c : Dev Cert.SsmParamIdeal.nD) → Buf (Elt Ideal) ((c.tc : Thread Cert.SsmParamIdeal.nD Cert.SsmParamIdeal.τ).loc Cert.SsmParamIdeal.main_v25_2)) (v3 : (c : Dev Cert.SsmParamIdeal.nD) → Buf (Elt Ideal) ((c.tc : Thread Cert.SsmParamIdeal.nD Cert.SsmParamIdeal.τ).loc Cert.SsmParamIdeal.main_v25_3)) (v4 : (c : Dev Cert.SsmParamIdeal.nD) → Buf (Elt Ideal) ((c.tc : Thread Cert.SsmParamIdeal.nD Cert.SsmParamIdeal.τ).loc Cert.SsmParamIdeal.main_v25_4)) (v5 : (c : Dev Cert.SsmParamIdeal.nD) → Buf (Elt Ideal) ((c.tc : Thread Cert.SsmParamIdeal.nD Cert.SsmParamIdeal.τ).loc Cert.SsmParamIdeal.main_v25_5)) (v6 : (c : Dev Cert.SsmParamIdeal.nD) → Buf (Elt Ideal) ((c.tc : Thread Cert.SsmParamIdeal.nD Cert.SsmParamIdeal.τ).loc Cert.SsmParamIdeal.main_v25_6)) (v7 : (c : Dev Cert.SsmParamIdeal.nD) → Buf (Elt Ideal) ((c.tc : Thread Cert.SsmParamIdeal.nD Cert.SsmParamIdeal.τ).loc Cert.SsmParamIdeal.main_v25_7)),
      θ_run (Cert.SsmParamIdeal.defs (F := Ideal)) (onTc (τ := Cert.SsmParamIdeal.τ) (Cert.SsmParamIdeal.main (F := Ideal))) ⟨m, fun _ => 0, g⟩ (fun r => ∀ c : Dev Cert.SsmParamIdeal.nD,
          r.2.mem ((c.tc : Thread Cert.SsmParamIdeal.nD Cert.SsmParamIdeal.τ).loc Cert.SsmParamIdeal.main_v25_0) = v0 c
          ∧ r.2.mem ((c.tc : Thread Cert.SsmParamIdeal.nD Cert.SsmParamIdeal.τ).loc Cert.SsmParamIdeal.main_v25_1) = v1 c
          ∧ r.2.mem ((c.tc : Thread Cert.SsmParamIdeal.nD Cert.SsmParamIdeal.τ).loc Cert.SsmParamIdeal.main_v25_2) = v2 c
          ∧ r.2.mem ((c.tc : Thread Cert.SsmParamIdeal.nD Cert.SsmParamIdeal.τ).loc Cert.SsmParamIdeal.main_v25_3) = v3 c
          ∧ r.2.mem ((c.tc : Thread Cert.SsmParamIdeal.nD Cert.SsmParamIdeal.τ).loc Cert.SsmParamIdeal.main_v25_4) = v4 c
          ∧ r.2.mem ((c.tc : Thread Cert.SsmParamIdeal.nD Cert.SsmParamIdeal.τ).loc Cert.SsmParamIdeal.main_v25_5) = v5 c
          ∧ r.2.mem ((c.tc : Thread Cert.SsmParamIdeal.nD Cert.SsmParamIdeal.τ).loc Cert.SsmParamIdeal.main_v25_6) = v6 c
          ∧ r.2.mem ((c.tc : Thread Cert.SsmParamIdeal.nD Cert.SsmParamIdeal.τ).loc Cert.SsmParamIdeal.main_v25_7) = v7 c
          ∧ r.2.mem ((c.tc : Thread Cert.SsmParamIdeal.nD Cert.SsmParamIdeal.τ).loc Cert.SsmParamIdeal.main_arg0) = m ((c.tc : Thread Cert.SsmParamIdeal.nD Cert.SsmParamIdeal.τ).loc Cert.SsmParamIdeal.main_arg0)
          ∧ r.2.mem ((c.tc : Thread Cert.SsmParamIdeal.nD Cert.SsmParamIdeal.τ).loc Cert.SsmParamIdeal.main_arg1) = m ((c.tc : Thread Cert.SsmParamIdeal.nD Cert.SsmParamIdeal.τ).loc Cert.SsmParamIdeal.main_arg1)
          ∧ r.2.mem ((c.tc : Thread Cert.SsmParamIdeal.nD Cert.SsmParamIdeal.τ).loc Cert.SsmParamIdeal.main_arg2) = m ((c.tc : Thread Cert.SsmParamIdeal.nD Cert.SsmParamIdeal.τ).loc Cert.SsmParamIdeal.main_arg2)
          ∧ r.2.mem ((c.tc : Thread Cert.SsmParamIdeal.nD Cert.SsmParamIdeal.τ).loc Cert.SsmParamIdeal.main_arg3) = m ((c.tc : Thread Cert.SsmParamIdeal.nD Cert.SsmParamIdeal.τ).loc Cert.SsmParamIdeal.main_arg3)
          ∧ r.2.mem ((c.tc : Thread Cert.SsmParamIdeal.nD Cert.SsmParamIdeal.τ).loc Cert.SsmParamIdeal.main_arg4) = m ((c.tc : Thread Cert.SsmParamIdeal.nD Cert.SsmParamIdeal.τ).loc Cert.SsmParamIdeal.main_arg4)
          ∧ r.2.mem ((c.tc : Thread Cert.SsmParamIdeal.nD Cert.SsmParamIdeal.τ).loc Cert.SsmParamIdeal.main_arg5) = m ((c.tc : Thread Cert.SsmParamIdeal.nD Cert.SsmParamIdeal.τ).loc Cert.SsmParamIdeal.main_arg5)
          ∧ r.2.mem ((c.tc : Thread Cert.SsmParamIdeal.nD Cert.SsmParamIdeal.τ).loc Cert.SsmParamIdeal.main_arg6) = m ((c.tc : Thread Cert.SsmParamIdeal.nD Cert.SsmParamIdeal.τ).loc Cert.SsmParamIdeal.main_arg6)
          ∧ r.2.mem ((c.tc : Thread Cert.SsmParamIdeal.nD Cert.SsmParamIdeal.τ).loc Cert.SsmParamIdeal.main_arg7) = m ((c.tc : Thread Cert.SsmParamIdeal.nD Cert.SsmParamIdeal.τ).loc Cert.SsmParamIdeal.main_arg7)
          ∧ r.2.mem ((c.tc : Thread Cert.SsmParamIdeal.nD Cert.SsmParamIdeal.τ).loc Cert.SsmParamIdeal.main_arg8) = m ((c.tc : Thread Cert.SsmParamIdeal.nD Cert.SsmParamIdeal.τ).loc Cert.SsmParamIdeal.main_arg8)
          ∧ r.2.mem ((c.tc : Thread Cert.SsmParamIdeal.nD Cert.SsmParamIdeal.τ).loc Cert.SsmParamIdeal.main_arg9) = m ((c.tc : Thread Cert.SsmParamIdeal.nD Cert.SsmParamIdeal.τ).loc Cert.SsmParamIdeal.main_arg9)
          ∧ r.2.mem ((c.tc : Thread Cert.SsmParamIdeal.nD Cert.SsmParamIdeal.τ).loc Cert.SsmParamIdeal.main_arg10) = m ((c.tc : Thread Cert.SsmParamIdeal.nD Cert.SsmParamIdeal.τ).loc Cert.SsmParamIdeal.main_arg10)
          ∧ r.2.mem ((c.tc : Thread Cert.SsmParamIdeal.nD Cert.SsmParamIdeal.τ).loc Cert.SsmParamIdeal.main_arg11) = m ((c.tc : Thread Cert.SsmParamIdeal.nD Cert.SsmParamIdeal.τ).loc Cert.SsmParamIdeal.main_arg11))
      ∧ θ_run (Cert.SsmParamRefIdeal.defs (F := Ideal)) (onTc (τ := Cert.SsmParamRefIdeal.τ) (Cert.SsmParamRefIdeal.main (F := Ideal))) ⟨m', fun _ => 0, g'⟩ (fun r => ∀ c : Dev Cert.SsmParamRefIdeal.nD,
          r.2.mem ((c.tc : Thread Cert.SsmParamRefIdeal.nD Cert.SsmParamRefIdeal.τ).loc Cert.SsmParamRefIdeal.main_v153) = v0 c
          ∧ r.2.mem ((c.tc : Thread Cert.SsmParamRefIdeal.nD Cert.SsmParamRefIdeal.τ).loc Cert.SsmParamRefIdeal.main_v154) = v1 c
          ∧ r.2.mem ((c.tc : Thread Cert.SsmParamRefIdeal.nD Cert.SsmParamRefIdeal.τ).loc Cert.SsmParamRefIdeal.main_arg4) = v2 c
          ∧ r.2.mem ((c.tc : Thread Cert.SsmParamRefIdeal.nD Cert.SsmParamRefIdeal.τ).loc Cert.SsmParamRefIdeal.main_arg5) = v3 c
          ∧ r.2.mem ((c.tc : Thread Cert.SsmParamRefIdeal.nD Cert.SsmParamRefIdeal.τ).loc Cert.SsmParamRefIdeal.main_v152) = v4 c
          ∧ r.2.mem ((c.tc : Thread Cert.SsmParamRefIdeal.nD Cert.SsmParamRefIdeal.τ).loc Cert.SsmParamRefIdeal.main_v141) = v5 c
          ∧ r.2.mem ((c.tc : Thread Cert.SsmParamRefIdeal.nD Cert.SsmParamRefIdeal.τ).loc Cert.SsmParamRefIdeal.main_v155) = v6 c
          ∧ r.2.mem ((c.tc : Thread Cert.SsmParamRefIdeal.nD Cert.SsmParamRefIdeal.τ).loc Cert.SsmParamRefIdeal.main_v156) = v7 c
          ∧ r.2.mem ((c.tc : Thread Cert.SsmParamRefIdeal.nD Cert.SsmParamRefIdeal.τ).loc Cert.SsmParamRefIdeal.main_arg0) = m' ((c.tc : Thread Cert.SsmParamRefIdeal.nD Cert.SsmParamRefIdeal.τ).loc Cert.SsmParamRefIdeal.main_arg0)
          ∧ r.2.mem ((c.tc : Thread Cert.SsmParamRefIdeal.nD Cert.SsmParamRefIdeal.τ).loc Cert.SsmParamRefIdeal.main_arg1) = m' ((c.tc : Thread Cert.SsmParamRefIdeal.nD Cert.SsmParamRefIdeal.τ).loc Cert.SsmParamRefIdeal.main_arg1)
          ∧ r.2.mem ((c.tc : Thread Cert.SsmParamRefIdeal.nD Cert.SsmParamRefIdeal.τ).loc Cert.SsmParamRefIdeal.main_arg2) = m' ((c.tc : Thread Cert.SsmParamRefIdeal.nD Cert.SsmParamRefIdeal.τ).loc Cert.SsmParamRefIdeal.main_arg2)
          ∧ r.2.mem ((c.tc : Thread Cert.SsmParamRefIdeal.nD Cert.SsmParamRefIdeal.τ).loc Cert.SsmParamRefIdeal.main_arg3) = m' ((c.tc : Thread Cert.SsmParamRefIdeal.nD Cert.SsmParamRefIdeal.τ).loc Cert.SsmParamRefIdeal.main_arg3)
          ∧ r.2.mem ((c.tc : Thread Cert.SsmParamRefIdeal.nD Cert.SsmParamRefIdeal.τ).loc Cert.SsmParamRefIdeal.main_arg4) = m' ((c.tc : Thread Cert.SsmParamRefIdeal.nD Cert.SsmParamRefIdeal.τ).loc Cert.SsmParamRefIdeal.main_arg4)
          ∧ r.2.mem ((c.tc : Thread Cert.SsmParamRefIdeal.nD Cert.SsmParamRefIdeal.τ).loc Cert.SsmParamRefIdeal.main_arg5) = m' ((c.tc : Thread Cert.SsmParamRefIdeal.nD Cert.SsmParamRefIdeal.τ).loc Cert.SsmParamRefIdeal.main_arg5)
          ∧ r.2.mem ((c.tc : Thread Cert.SsmParamRefIdeal.nD Cert.SsmParamRefIdeal.τ).loc Cert.SsmParamRefIdeal.main_arg6) = m' ((c.tc : Thread Cert.SsmParamRefIdeal.nD Cert.SsmParamRefIdeal.τ).loc Cert.SsmParamRefIdeal.main_arg6)
          ∧ r.2.mem ((c.tc : Thread Cert.SsmParamRefIdeal.nD Cert.SsmParamRefIdeal.τ).loc Cert.SsmParamRefIdeal.main_arg7) = m' ((c.tc : Thread Cert.SsmParamRefIdeal.nD Cert.SsmParamRefIdeal.τ).loc Cert.SsmParamRefIdeal.main_arg7)
          ∧ r.2.mem ((c.tc : Thread Cert.SsmParamRefIdeal.nD Cert.SsmParamRefIdeal.τ).loc Cert.SsmParamRefIdeal.main_arg8) = m' ((c.tc : Thread Cert.SsmParamRefIdeal.nD Cert.SsmParamRefIdeal.τ).loc Cert.SsmParamRefIdeal.main_arg8)
          ∧ r.2.mem ((c.tc : Thread Cert.SsmParamRefIdeal.nD Cert.SsmParamRefIdeal.τ).loc Cert.SsmParamRefIdeal.main_arg9) = m' ((c.tc : Thread Cert.SsmParamRefIdeal.nD Cert.SsmParamRefIdeal.τ).loc Cert.SsmParamRefIdeal.main_arg9)
          ∧ r.2.mem ((c.tc : Thread Cert.SsmParamRefIdeal.nD Cert.SsmParamRefIdeal.τ).loc Cert.SsmParamRefIdeal.main_arg10) = m' ((c.tc : Thread Cert.SsmParamRefIdeal.nD Cert.SsmParamRefIdeal.τ).loc Cert.SsmParamRefIdeal.main_arg10)
          ∧ r.2.mem ((c.tc : Thread Cert.SsmParamRefIdeal.nD Cert.SsmParamRefIdeal.τ).loc Cert.SsmParamRefIdeal.main_arg11) = m' ((c.tc : Thread Cert.SsmParamRefIdeal.nD Cert.SsmParamRefIdeal.τ).loc Cert.SsmParamRefIdeal.main_arg11))

def preserves_NormIn_NormInIdeal : Prop :=
  True

def algebraic_NormInIdeal_NormRefIdeal [hNormInIdeal : Cert.NormInIdeal.Facts] [hNormRefIdeal : Cert.NormRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormInIdeal m →
    (∀ c : Dev Cert.NormInIdeal.nD,
      m' ((c.tc : Thread Cert.NormRefIdeal.nD Cert.NormRefIdeal.τ).loc Cert.NormRefIdeal.main_arg0) = m ((c.tc : Thread Cert.NormInIdeal.nD Cert.NormInIdeal.τ).loc Cert.NormInIdeal.main_arg0)
      ∧ m' ((c.tc : Thread Cert.NormRefIdeal.nD Cert.NormRefIdeal.τ).loc Cert.NormRefIdeal.main_arg1) = m ((c.tc : Thread Cert.NormInIdeal.nD Cert.NormInIdeal.τ).loc Cert.NormInIdeal.main_arg1)) →
    ∃ (v0 : (c : Dev Cert.NormInIdeal.nD) → Buf (Elt Ideal) ((c.tc : Thread Cert.NormInIdeal.nD Cert.NormInIdeal.τ).loc Cert.NormInIdeal.main_v0)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0) = v0 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)) →
    ∃ (v0 : (c : Dev Cert.MixFwdIdeal.nD) → Buf (Elt Ideal) ((c.tc : Thread Cert.MixFwdIdeal.nD Cert.MixFwdIdeal.τ).loc Cert.MixFwdIdeal.main_v4_0)) (v1 : (c : Dev Cert.MixFwdIdeal.nD) → Buf (Elt Ideal) ((c.tc : Thread Cert.MixFwdIdeal.nD Cert.MixFwdIdeal.τ).loc Cert.MixFwdIdeal.main_v4_1)) (v2 : (c : Dev Cert.MixFwdIdeal.nD) → Buf (Elt Ideal) ((c.tc : Thread Cert.MixFwdIdeal.nD Cert.MixFwdIdeal.τ).loc Cert.MixFwdIdeal.main_v4_2)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v4_0) = v0 c
          ∧ r.2.mem ((c.tc : Thread Cert.MixFwdIdeal.nD Cert.MixFwdIdeal.τ).loc Cert.MixFwdIdeal.main_v4_1) = v1 c
          ∧ r.2.mem ((c.tc : Thread Cert.MixFwdIdeal.nD Cert.MixFwdIdeal.τ).loc Cert.MixFwdIdeal.main_v4_2) = v2 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v40) = v0 c
          ∧ r.2.mem ((c.tc : Thread Cert.MixFwdRefIdeal.nD Cert.MixFwdRefIdeal.τ).loc Cert.MixFwdRefIdeal.main_v41) = v1 c
          ∧ r.2.mem ((c.tc : Thread Cert.MixFwdRefIdeal.nD Cert.MixFwdRefIdeal.τ).loc Cert.MixFwdRefIdeal.main_v43) = v2 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4))

def preserves_OutProj_OutProjIdeal : Prop :=
  True

def algebraic_OutProjIdeal_OutRefIdeal [hOutProjIdeal : Cert.OutProjIdeal.Facts] [hOutRefIdeal : Cert.OutRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutProjIdeal m →
    (∀ c : Dev Cert.OutProjIdeal.nD,
      m' ((c.tc : Thread Cert.OutRefIdeal.nD Cert.OutRefIdeal.τ).loc Cert.OutRefIdeal.main_arg0) = m ((c.tc : Thread Cert.OutProjIdeal.nD Cert.OutProjIdeal.τ).loc Cert.OutProjIdeal.main_arg0)
      ∧ m' ((c.tc : Thread Cert.OutRefIdeal.nD Cert.OutRefIdeal.τ).loc Cert.OutRefIdeal.main_arg1) = m ((c.tc : Thread Cert.OutProjIdeal.nD Cert.OutProjIdeal.τ).loc Cert.OutProjIdeal.main_arg1)
      ∧ m' ((c.tc : Thread Cert.OutRefIdeal.nD Cert.OutRefIdeal.τ).loc Cert.OutRefIdeal.main_arg2) = m ((c.tc : Thread Cert.OutProjIdeal.nD Cert.OutProjIdeal.τ).loc Cert.OutProjIdeal.main_arg2)
      ∧ m' ((c.tc : Thread Cert.OutRefIdeal.nD Cert.OutRefIdeal.τ).loc Cert.OutRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_v18) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_QkvPrep_QkvPrepIdeal : Prop :=
  True

def algebraic_QkvPrepIdeal_PrepRefIdeal [hQkvPrepIdeal : Cert.QkvPrepIdeal.Facts] [hPrepRefIdeal : Cert.PrepRefIdeal.Facts] : Prop :=
  ∀ (m : (ℓ : Loc Cert.QkvPrepIdeal.nD Cert.QkvPrepIdeal.τ Cert.QkvPrepIdeal.sig) → Buf (Elt Ideal) ℓ) (g : Dev Cert.QkvPrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_QkvPrepIdeal m →
    (∀ c : Dev Cert.QkvPrepIdeal.nD,
      m' ((c.tc : Thread Cert.PrepRefIdeal.nD Cert.PrepRefIdeal.τ).loc Cert.PrepRefIdeal.main_arg0) = m ((c.tc : Thread Cert.QkvPrepIdeal.nD Cert.QkvPrepIdeal.τ).loc Cert.QkvPrepIdeal.main_arg0)
      ∧ m' ((c.tc : Thread Cert.PrepRefIdeal.nD Cert.PrepRefIdeal.τ).loc Cert.PrepRefIdeal.main_arg1) = m ((c.tc : Thread Cert.QkvPrepIdeal.nD Cert.QkvPrepIdeal.τ).loc Cert.QkvPrepIdeal.main_arg1)
      ∧ m' ((c.tc : Thread Cert.PrepRefIdeal.nD Cert.PrepRefIdeal.τ).loc Cert.PrepRefIdeal.main_arg2) = m ((c.tc : Thread Cert.QkvPrepIdeal.nD Cert.QkvPrepIdeal.τ).loc Cert.QkvPrepIdeal.main_arg2)
      ∧ m' ((c.tc : Thread Cert.PrepRefIdeal.nD Cert.PrepRefIdeal.τ).loc Cert.PrepRefIdeal.main_arg3) = m ((c.tc : Thread Cert.QkvPrepIdeal.nD Cert.QkvPrepIdeal.τ).loc Cert.QkvPrepIdeal.main_arg3)
      ∧ m' ((c.tc : Thread Cert.PrepRefIdeal.nD Cert.PrepRefIdeal.τ).loc Cert.PrepRefIdeal.main_arg4) = m ((c.tc : Thread Cert.QkvPrepIdeal.nD Cert.QkvPrepIdeal.τ).loc Cert.QkvPrepIdeal.main_arg4)) →
    ∃ (v0 : (c : Dev Cert.QkvPrepIdeal.nD) → Buf (Elt Ideal) ((c.tc : Thread Cert.QkvPrepIdeal.nD Cert.QkvPrepIdeal.τ).loc Cert.QkvPrepIdeal.main_v12_0)) (v1 : (c : Dev Cert.QkvPrepIdeal.nD) → Buf (Elt Ideal) ((c.tc : Thread Cert.QkvPrepIdeal.nD Cert.QkvPrepIdeal.τ).loc Cert.QkvPrepIdeal.main_v12_1)) (v2 : (c : Dev Cert.QkvPrepIdeal.nD) → Buf (Elt Ideal) ((c.tc : Thread Cert.QkvPrepIdeal.nD Cert.QkvPrepIdeal.τ).loc Cert.QkvPrepIdeal.main_v12_2)) (v3 : (c : Dev Cert.QkvPrepIdeal.nD) → Buf (Elt Ideal) ((c.tc : Thread Cert.QkvPrepIdeal.nD Cert.QkvPrepIdeal.τ).loc Cert.QkvPrepIdeal.main_v12_3)),
      θ_run (Cert.QkvPrepIdeal.defs (F := Ideal)) (onTc (τ := Cert.QkvPrepIdeal.τ) (Cert.QkvPrepIdeal.main (F := Ideal))) ⟨m, fun _ => 0, g⟩ (fun r => ∀ c : Dev Cert.QkvPrepIdeal.nD,
          r.2.mem ((c.tc : Thread Cert.QkvPrepIdeal.nD Cert.QkvPrepIdeal.τ).loc Cert.QkvPrepIdeal.main_v12_0) = v0 c
          ∧ r.2.mem ((c.tc : Thread Cert.QkvPrepIdeal.nD Cert.QkvPrepIdeal.τ).loc Cert.QkvPrepIdeal.main_v12_1) = v1 c
          ∧ r.2.mem ((c.tc : Thread Cert.QkvPrepIdeal.nD Cert.QkvPrepIdeal.τ).loc Cert.QkvPrepIdeal.main_v12_2) = v2 c
          ∧ r.2.mem ((c.tc : Thread Cert.QkvPrepIdeal.nD Cert.QkvPrepIdeal.τ).loc Cert.QkvPrepIdeal.main_v12_3) = v3 c
          ∧ r.2.mem ((c.tc : Thread Cert.QkvPrepIdeal.nD Cert.QkvPrepIdeal.τ).loc Cert.QkvPrepIdeal.main_arg0) = m ((c.tc : Thread Cert.QkvPrepIdeal.nD Cert.QkvPrepIdeal.τ).loc Cert.QkvPrepIdeal.main_arg0)
          ∧ r.2.mem ((c.tc : Thread Cert.QkvPrepIdeal.nD Cert.QkvPrepIdeal.τ).loc Cert.QkvPrepIdeal.main_arg1) = m ((c.tc : Thread Cert.QkvPrepIdeal.nD Cert.QkvPrepIdeal.τ).loc Cert.QkvPrepIdeal.main_arg1)
          ∧ r.2.mem ((c.tc : Thread Cert.QkvPrepIdeal.nD Cert.QkvPrepIdeal.τ).loc Cert.QkvPrepIdeal.main_arg2) = m ((c.tc : Thread Cert.QkvPrepIdeal.nD Cert.QkvPrepIdeal.τ).loc Cert.QkvPrepIdeal.main_arg2)
          ∧ r.2.mem ((c.tc : Thread Cert.QkvPrepIdeal.nD Cert.QkvPrepIdeal.τ).loc Cert.QkvPrepIdeal.main_arg3) = m ((c.tc : Thread Cert.QkvPrepIdeal.nD Cert.QkvPrepIdeal.τ).loc Cert.QkvPrepIdeal.main_arg3)
          ∧ r.2.mem ((c.tc : Thread Cert.QkvPrepIdeal.nD Cert.QkvPrepIdeal.τ).loc Cert.QkvPrepIdeal.main_arg4) = m ((c.tc : Thread Cert.QkvPrepIdeal.nD Cert.QkvPrepIdeal.τ).loc Cert.QkvPrepIdeal.main_arg4))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v115) = v0 c
          ∧ r.2.mem ((c.tc : Thread Cert.PrepRefIdeal.nD Cert.PrepRefIdeal.τ).loc Cert.PrepRefIdeal.main_v116) = v1 c
          ∧ r.2.mem ((c.tc : Thread Cert.PrepRefIdeal.nD Cert.PrepRefIdeal.τ).loc Cert.PrepRefIdeal.main_v117) = v2 c
          ∧ r.2.mem ((c.tc : Thread Cert.PrepRefIdeal.nD Cert.PrepRefIdeal.τ).loc Cert.PrepRefIdeal.main_v119) = v3 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4))

def preserves_SsmBwd_SsmBwdIdeal : Prop :=
  True

def preserves_SsmFwd_SsmFwdIdeal : Prop :=
  True

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamC_AdamCIdeal : Prop :=
  True

def algebraic_AdamCIdeal_AdamCRefIdeal [hAdamCIdeal : Cert.AdamCIdeal.Facts] [hAdamCRefIdeal : Cert.AdamCRefIdeal.Facts] : Prop :=
  ∀ (m : (ℓ : Loc Cert.AdamCIdeal.nD Cert.AdamCIdeal.τ Cert.AdamCIdeal.sig) → Buf (Elt Ideal) ℓ) (g : Dev Cert.AdamCIdeal.nD → PrngReg)
    (m' : (ℓ : Loc Cert.AdamCRefIdeal.nD Cert.AdamCRefIdeal.τ Cert.AdamCRefIdeal.sig) → Buf (Elt Ideal) ℓ) (g' : Dev Cert.AdamCRefIdeal.nD → PrngReg), Pre_AdamCIdeal m →
    (∀ c : Dev Cert.AdamCIdeal.nD,
      m' ((c.tc : Thread Cert.AdamCRefIdeal.nD Cert.AdamCRefIdeal.τ).loc Cert.AdamCRefIdeal.main_arg0) = m ((c.tc : Thread Cert.AdamCIdeal.nD Cert.AdamCIdeal.τ).loc Cert.AdamCIdeal.main_arg0)
      ∧ m' ((c.tc : Thread Cert.AdamCRefIdeal.nD Cert.AdamCRefIdeal.τ).loc Cert.AdamCRefIdeal.main_arg1) = m ((c.tc : Thread Cert.AdamCIdeal.nD Cert.AdamCIdeal.τ).loc Cert.AdamCIdeal.main_arg1)
      ∧ m' ((c.tc : Thread Cert.AdamCRefIdeal.nD Cert.AdamCRefIdeal.τ).loc Cert.AdamCRefIdeal.main_arg2) = m ((c.tc : Thread Cert.AdamCIdeal.nD Cert.AdamCIdeal.τ).loc Cert.AdamCIdeal.main_arg2)
      ∧ m' ((c.tc : Thread Cert.AdamCRefIdeal.nD Cert.AdamCRefIdeal.τ).loc Cert.AdamCRefIdeal.main_arg3) = m ((c.tc : Thread Cert.AdamCIdeal.nD Cert.AdamCIdeal.τ).loc Cert.AdamCIdeal.main_arg3)) →
    ∃ (v0 : (c : Dev Cert.AdamCIdeal.nD) → Buf (Elt Ideal) ((c.tc : Thread Cert.AdamCIdeal.nD Cert.AdamCIdeal.τ).loc Cert.AdamCIdeal.main_v4_0)) (v1 : (c : Dev Cert.AdamCIdeal.nD) → Buf (Elt Ideal) ((c.tc : Thread Cert.AdamCIdeal.nD Cert.AdamCIdeal.τ).loc Cert.AdamCIdeal.main_v4_1)) (v2 : (c : Dev Cert.AdamCIdeal.nD) → Buf (Elt Ideal) ((c.tc : Thread Cert.AdamCIdeal.nD Cert.AdamCIdeal.τ).loc Cert.AdamCIdeal.main_v4_2)),
      θ_run (Cert.AdamCIdeal.defs (F := Ideal)) (onTc (τ := Cert.AdamCIdeal.τ) (Cert.AdamCIdeal.main (F := Ideal))) ⟨m, fun _ => 0, g⟩ (fun r => ∀ c : Dev Cert.AdamCIdeal.nD,
          r.2.mem ((c.tc : Thread Cert.AdamCIdeal.nD Cert.AdamCIdeal.τ).loc Cert.AdamCIdeal.main_v4_0) = v0 c
          ∧ r.2.mem ((c.tc : Thread Cert.AdamCIdeal.nD Cert.AdamCIdeal.τ).loc Cert.AdamCIdeal.main_v4_1) = v1 c
          ∧ r.2.mem ((c.tc : Thread Cert.AdamCIdeal.nD Cert.AdamCIdeal.τ).loc Cert.AdamCIdeal.main_v4_2) = v2 c
          ∧ r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
          ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
          ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
          ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3))
      ∧ θ_run (Cert.AdamCRefIdeal.defs (F := Ideal)) (onTc (τ := Cert.AdamCRefIdeal.τ) (Cert.AdamCRefIdeal.main (F := Ideal))) ⟨m', fun _ => 0, g'⟩ (fun r => ∀ c : Dev Cert.AdamCRefIdeal.nD,
          r.2.mem ((c.tc : Thread Cert.AdamCRefIdeal.nD Cert.AdamCRefIdeal.τ).loc Cert.AdamCRefIdeal.main_v24) = v0 c
          ∧ r.2.mem ((c.tc : Thread Cert.AdamCRefIdeal.nD Cert.AdamCRefIdeal.τ).loc Cert.AdamCRefIdeal.main_v25) = v1 c
          ∧ r.2.mem ((c.tc : Thread Cert.AdamCRefIdeal.nD Cert.AdamCRefIdeal.τ).loc Cert.AdamCRefIdeal.main_v26) = v2 c
          ∧ r.2.mem ((c.tc : Thread Cert.AdamCRefIdeal.nD Cert.AdamCRefIdeal.τ).loc Cert.AdamCRefIdeal.main_arg0) = m' ((c.tc : Thread Cert.AdamCRefIdeal.nD Cert.AdamCRefIdeal.τ).loc Cert.AdamCRefIdeal.main_arg0)
          ∧ r.2.mem ((c.tc : Thread Cert.AdamCRefIdeal.nD Cert.AdamCRefIdeal.τ).loc Cert.AdamCRefIdeal.main_arg1) = m' ((c.tc : Thread Cert.AdamCRefIdeal.nD Cert.AdamCRefIdeal.τ).loc Cert.AdamCRefIdeal.main_arg1)
          ∧ r.2.mem ((c.tc : Thread Cert.AdamCRefIdeal.nD Cert.AdamCRefIdeal.τ).loc Cert.AdamCRefIdeal.main_arg2) = m' ((c.tc : Thread Cert.AdamCRefIdeal.nD Cert.AdamCRefIdeal.τ).loc Cert.AdamCRefIdeal.main_arg2)
          ∧ r.2.mem ((c.tc : Thread Cert.AdamCRefIdeal.nD Cert.AdamCRefIdeal.τ).loc Cert.AdamCRefIdeal.main_arg3) = m' ((c.tc : Thread Cert.AdamCRefIdeal.nD Cert.AdamCRefIdeal.τ).loc Cert.AdamCRefIdeal.main_arg3))

def preserves_SumBlocks_SumBlocksIdeal : Prop :=
  True

def algebraic_SumBlocksIdeal_SumRefIdeal [hSumBlocksIdeal : Cert.SumBlocksIdeal.Facts] [hSumRefIdeal : Cert.SumRefIdeal.Facts] : Prop :=
  ∀ (m : (ℓ : Loc Cert.SumBlocksIdeal.nD Cert.SumBlocksIdeal.τ Cert.SumBlocksIdeal.sig) → Buf (Elt Ideal) ℓ) (g : Dev Cert.SumBlocksIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumBlocksIdeal m →
    (∀ c : Dev Cert.SumBlocksIdeal.nD,
      m' ((c.tc : Thread Cert.SumRefIdeal.nD Cert.SumRefIdeal.τ).loc Cert.SumRefIdeal.main_arg0) = m ((c.tc : Thread Cert.SumBlocksIdeal.nD Cert.SumBlocksIdeal.τ).loc Cert.SumBlocksIdeal.main_arg0)) →
    ∃ (v0 : (c : Dev Cert.SumBlocksIdeal.nD) → Buf (Elt Ideal) ((c.tc : Thread Cert.SumBlocksIdeal.nD Cert.SumBlocksIdeal.τ).loc Cert.SumBlocksIdeal.main_v0)),
      θ_run (Cert.SumBlocksIdeal.defs (F := Ideal)) (onTc (τ := Cert.SumBlocksIdeal.τ) (Cert.SumBlocksIdeal.main (F := Ideal))) ⟨m, fun _ => 0, g⟩ (fun r => ∀ c : Dev Cert.SumBlocksIdeal.nD,
          r.2.mem ((c.tc : Thread Cert.SumBlocksIdeal.nD Cert.SumBlocksIdeal.τ).loc Cert.SumBlocksIdeal.main_v0) = v0 c
          ∧ r.2.mem ((c.tc : Thread Cert.SumBlocksIdeal.nD Cert.SumBlocksIdeal.τ).loc Cert.SumBlocksIdeal.main_arg0) = m ((c.tc : Thread Cert.SumBlocksIdeal.nD Cert.SumBlocksIdeal.τ).loc Cert.SumBlocksIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v0) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def preserves_DOutProj_DOutProjIdeal : Prop :=
  True

def algebraic_DOutProjIdeal_DOutRefIdeal [hDOutProjIdeal : Cert.DOutProjIdeal.Facts] [hDOutRefIdeal : Cert.DOutRefIdeal.Facts] : Prop :=
  ∀ (m : (ℓ : Loc Cert.DOutProjIdeal.nD Cert.DOutProjIdeal.τ Cert.DOutProjIdeal.sig) → Buf (Elt Ideal) ℓ) (g : Dev Cert.DOutProjIdeal.nD → PrngReg)
    (m' : (ℓ : Loc Cert.DOutRefIdeal.nD Cert.DOutRefIdeal.τ Cert.DOutRefIdeal.sig) → Buf (Elt Ideal) ℓ) (g' : Dev Cert.DOutRefIdeal.nD → PrngReg), Pre_DOutProjIdeal m →
    (∀ c : Dev Cert.DOutProjIdeal.nD,
      m' ((c.tc : Thread Cert.DOutRefIdeal.nD Cert.DOutRefIdeal.τ).loc Cert.DOutRefIdeal.main_arg0) = m ((c.tc : Thread Cert.DOutProjIdeal.nD Cert.DOutProjIdeal.τ).loc Cert.DOutProjIdeal.main_arg0)
      ∧ m' ((c.tc : Thread Cert.DOutRefIdeal.nD Cert.DOutRefIdeal.τ).loc Cert.DOutRefIdeal.main_arg1) = m ((c.tc : Thread Cert.DOutProjIdeal.nD Cert.DOutProjIdeal.τ).loc Cert.DOutProjIdeal.main_arg1)) →
    ∃ (v0 : (c : Dev Cert.DOutProjIdeal.nD) → Buf (Elt Ideal) ((c.tc : Thread Cert.DOutProjIdeal.nD Cert.DOutProjIdeal.τ).loc Cert.DOutProjIdeal.main_v0)),
      θ_run (Cert.DOutProjIdeal.defs (F := Ideal)) (onTc (τ := Cert.DOutProjIdeal.τ) (Cert.DOutProjIdeal.main (F := Ideal))) ⟨m, fun _ => 0, g⟩ (fun r => ∀ c : Dev Cert.DOutProjIdeal.nD,
          r.2.mem ((c.tc : Thread Cert.DOutProjIdeal.nD Cert.DOutProjIdeal.τ).loc Cert.DOutProjIdeal.main_v0) = v0 c
          ∧ r.2.mem ((c.tc : Thread Cert.DOutProjIdeal.nD Cert.DOutProjIdeal.τ).loc Cert.DOutProjIdeal.main_arg0) = m ((c.tc : Thread Cert.DOutProjIdeal.nD Cert.DOutProjIdeal.τ).loc Cert.DOutProjIdeal.main_arg0)
          ∧ r.2.mem ((c.tc : Thread Cert.DOutProjIdeal.nD Cert.DOutProjIdeal.τ).loc Cert.DOutProjIdeal.main_arg1) = m ((c.tc : Thread Cert.DOutProjIdeal.nD Cert.DOutProjIdeal.τ).loc Cert.DOutProjIdeal.main_arg1))
      ∧ θ_run (Cert.DOutRefIdeal.defs (F := Ideal)) (onTc (τ := Cert.DOutRefIdeal.τ) (Cert.DOutRefIdeal.main (F := Ideal))) ⟨m', fun _ => 0, g'⟩ (fun r => ∀ c : Dev Cert.DOutRefIdeal.nD,
          r.2.mem ((c.tc : Thread Cert.DOutRefIdeal.nD Cert.DOutRefIdeal.τ).loc Cert.DOutRefIdeal.main_v6) = v0 c
          ∧ r.2.mem ((c.tc : Thread Cert.DOutRefIdeal.nD Cert.DOutRefIdeal.τ).loc Cert.DOutRefIdeal.main_arg0) = m' ((c.tc : Thread Cert.DOutRefIdeal.nD Cert.DOutRefIdeal.τ).loc Cert.DOutRefIdeal.main_arg0)
          ∧ r.2.mem ((c.tc : Thread Cert.DOutRefIdeal.nD Cert.DOutRefIdeal.τ).loc Cert.DOutRefIdeal.main_arg1) = m' ((c.tc : Thread Cert.DOutRefIdeal.nD Cert.DOutRefIdeal.τ).loc Cert.DOutRefIdeal.main_arg1))

def preserves_PairSum_PairSumIdeal : Prop :=
  True

def algebraic_PairSumIdeal_PairRefIdeal [hPairSumIdeal : Cert.PairSumIdeal.Facts] [hPairRefIdeal : Cert.PairRefIdeal.Facts] [hPre_own_core : Cert.Pre_own_core.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.PairRefIdeal.nD Cert.PairRefIdeal.τ Cert.PairRefIdeal.sig) → Buf (Elt Ideal) ℓ) (g' : Dev Cert.PairRefIdeal.nD → PrngReg), Pre_PairSumIdeal m →
    (∀ c : Dev Cert.PairSumIdeal.nD,
      m' ((c.tc : Thread Cert.PairRefIdeal.nD Cert.PairRefIdeal.τ).loc Cert.PairRefIdeal.main_arg0) = m ((c.tc : Thread Cert.PairSumIdeal.nD Cert.PairSumIdeal.τ).loc Cert.PairSumIdeal.main_arg0)
      ∧ m' ((c.tc : Thread Cert.PairRefIdeal.nD Cert.PairRefIdeal.τ).loc Cert.PairRefIdeal.main_arg1) = m ((c.tc : Thread Cert.PairSumIdeal.nD Cert.PairSumIdeal.τ).loc Cert.PairSumIdeal.main_arg1)
      ∧ m' ((c.tc : Thread Cert.PairRefIdeal.nD Cert.PairRefIdeal.τ).loc Cert.PairRefIdeal.main_arg2) = m ((c.tc : Thread Cert.PairSumIdeal.nD Cert.PairSumIdeal.τ).loc Cert.PairSumIdeal.main_arg2)) →
    ∃ (v0 : (c : Dev Cert.PairSumIdeal.nD) → Buf (Elt Ideal) ((c.tc : Thread Cert.PairSumIdeal.nD Cert.PairSumIdeal.τ).loc Cert.PairSumIdeal.main_v0)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          r.2.mem ((c.tc : Thread Cert.PairSumIdeal.nD Cert.PairSumIdeal.τ).loc Cert.PairSumIdeal.main_v0) = v0 c
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
          ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1)
          ∧ r.2.mem ((c.tc : Thread Cert.PairSumIdeal.nD Cert.PairSumIdeal.τ).loc Cert.PairSumIdeal.main_arg2) = m ((c.tc : Thread Cert.PairSumIdeal.nD Cert.PairSumIdeal.τ).loc Cert.PairSumIdeal.main_arg2))
      ∧ θ_run (Cert.PairRefIdeal.defs (F := Ideal)) (onTc (τ := Cert.PairRefIdeal.τ) (Cert.PairRefIdeal.main (F := Ideal))) ⟨m', fun _ => 0, g'⟩ (fun r => ∀ c : Dev Cert.PairRefIdeal.nD,
          r.2.mem ((c.tc : Thread Cert.PairRefIdeal.nD Cert.PairRefIdeal.τ).loc Cert.PairRefIdeal.main_v12) = v0 c
          ∧ r.2.mem ((c.tc : Thread Cert.PairRefIdeal.nD Cert.PairRefIdeal.τ).loc Cert.PairRefIdeal.main_arg0) = m' ((c.tc : Thread Cert.PairRefIdeal.nD Cert.PairRefIdeal.τ).loc Cert.PairRefIdeal.main_arg0)
          ∧ r.2.mem ((c.tc : Thread Cert.PairRefIdeal.nD Cert.PairRefIdeal.τ).loc Cert.PairRefIdeal.main_arg1) = m' ((c.tc : Thread Cert.PairRefIdeal.nD Cert.PairRefIdeal.τ).loc Cert.PairRefIdeal.main_arg1)
          ∧ r.2.mem ((c.tc : Thread Cert.PairRefIdeal.nD Cert.PairRefIdeal.τ).loc Cert.PairRefIdeal.main_arg2) = m' ((c.tc : Thread Cert.PairRefIdeal.nD Cert.PairRefIdeal.τ).loc Cert.PairRefIdeal.main_arg2))

def Claim : Prop :=
  ∃ (hInBwd : Cert.InBwd.Facts) (hInBwdIdeal : Cert.InBwdIdeal.Facts) (hInRefIdeal : Cert.InRefIdeal.Facts) (hAttn : Cert.Attn.Facts) (hAttnIdeal : Cert.AttnIdeal.Facts) (hAttnRefIdeal : Cert.AttnRefIdeal.Facts) (hPleBwd : Cert.PleBwd.Facts) (hPleBwdIdeal : Cert.PleBwdIdeal.Facts) (hPleRefIdeal : Cert.PleRefIdeal.Facts) (hTail : Cert.Tail.Facts) (hTailIdeal : Cert.TailIdeal.Facts) (hTailRefIdeal : Cert.TailRefIdeal.Facts) (hMixBwd : Cert.MixBwd.Facts) (hMixBwdIdeal : Cert.MixBwdIdeal.Facts) (hMixRefIdeal : Cert.MixRefIdeal.Facts) (hGeluBwd : Cert.GeluBwd.Facts) (hGeluBwdIdeal : Cert.GeluBwdIdeal.Facts) (hGeluRefIdeal : Cert.GeluRefIdeal.Facts) (hQkvBwd : Cert.QkvBwd.Facts) (hQkvBwdIdeal : Cert.QkvBwdIdeal.Facts) (hQkvRefIdeal : Cert.QkvRefIdeal.Facts) (hSsmParam : Cert.SsmParam.Facts) (hSsmParamIdeal : Cert.SsmParamIdeal.Facts) (hSsmParamRefIdeal : Cert.SsmParamRefIdeal.Facts) (hNormIn : Cert.NormIn.Facts) (hNormInIdeal : Cert.NormInIdeal.Facts) (hNormRefIdeal : Cert.NormRefIdeal.Facts) (hMixFwd : Cert.MixFwd.Facts) (hMixFwdIdeal : Cert.MixFwdIdeal.Facts) (hMixFwdRefIdeal : Cert.MixFwdRefIdeal.Facts) (hOutProj : Cert.OutProj.Facts) (hOutProjIdeal : Cert.OutProjIdeal.Facts) (hOutRefIdeal : Cert.OutRefIdeal.Facts) (hQkvPrep : Cert.QkvPrep.Facts) (hQkvPrepIdeal : Cert.QkvPrepIdeal.Facts) (hPrepRefIdeal : Cert.PrepRefIdeal.Facts) (hSsmBwd : Cert.SsmBwd.Facts) (hSsmBwdIdeal : Cert.SsmBwdIdeal.Facts) (hSsmFwd : Cert.SsmFwd.Facts) (hSsmFwdIdeal : Cert.SsmFwdIdeal.Facts) (hAdamOut : Cert.AdamOut.Facts) (hAdamOutIdeal : Cert.AdamOutIdeal.Facts) (hAdamOutRefIdeal : Cert.AdamOutRefIdeal.Facts) (hAdamC : Cert.AdamC.Facts) (hAdamCIdeal : Cert.AdamCIdeal.Facts) (hAdamCRefIdeal : Cert.AdamCRefIdeal.Facts) (hSumBlocks : Cert.SumBlocks.Facts) (hSumBlocksIdeal : Cert.SumBlocksIdeal.Facts) (hSumRefIdeal : Cert.SumRefIdeal.Facts) (hDOutProj : Cert.DOutProj.Facts) (hDOutProjIdeal : Cert.DOutProjIdeal.Facts) (hDOutRefIdeal : Cert.DOutRefIdeal.Facts) (hPairSum : Cert.PairSum.Facts) (hPairSumIdeal : Cert.PairSumIdeal.Facts) (hPairRefIdeal : Cert.PairRefIdeal.Facts) (hPre_in_bwd_finite : Cert.Pre_in_bwd_finite.Facts) (hPre_attn_finite : Cert.Pre_attn_finite.Facts) (hPre_ple_finite : Cert.Pre_ple_finite.Facts) (hPre_tail_finite : Cert.Pre_tail_finite.Facts) (hPre_mix_finite : Cert.Pre_mix_finite.Facts) (hPre_gelu_finite : Cert.Pre_gelu_finite.Facts) (hPre_qkv_finite : Cert.Pre_qkv_finite.Facts) (hPre_ssm_param_finite : Cert.Pre_ssm_param_finite.Facts) (hPre_own_core : Cert.Pre_own_core.Facts),
    quiescent_InBwd (hInBwd := hInBwd)
    ∧ quiescent_InBwdIdeal (hInBwdIdeal := hInBwdIdeal)
    ∧ quiescent_InBwdIdeal_pre_in_bwd_finite (hInBwdIdeal := hInBwdIdeal) (hPre_in_bwd_finite := hPre_in_bwd_finite)
    ∧ quiescent_InRefIdeal (hInRefIdeal := hInRefIdeal)
    ∧ quiescent_InRefIdeal_pre_in_bwd_finite (hInRefIdeal := hInRefIdeal) (hPre_in_bwd_finite := hPre_in_bwd_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_PleBwd (hPleBwd := hPleBwd)
    ∧ quiescent_PleBwdIdeal (hPleBwdIdeal := hPleBwdIdeal)
    ∧ quiescent_PleBwdIdeal_pre_ple_finite (hPleBwdIdeal := hPleBwdIdeal) (hPre_ple_finite := hPre_ple_finite)
    ∧ quiescent_PleRefIdeal (hPleRefIdeal := hPleRefIdeal)
    ∧ quiescent_PleRefIdeal_pre_ple_finite (hPleRefIdeal := hPleRefIdeal) (hPre_ple_finite := hPre_ple_finite)
    ∧ quiescent_Tail (hTail := hTail)
    ∧ quiescent_TailIdeal (hTailIdeal := hTailIdeal)
    ∧ quiescent_TailIdeal_pre_tail_finite (hTailIdeal := hTailIdeal) (hPre_tail_finite := hPre_tail_finite)
    ∧ quiescent_TailRefIdeal (hTailRefIdeal := hTailRefIdeal)
    ∧ quiescent_TailRefIdeal_pre_tail_finite (hTailRefIdeal := hTailRefIdeal) (hPre_tail_finite := hPre_tail_finite)
    ∧ quiescent_MixBwd (hMixBwd := hMixBwd)
    ∧ quiescent_MixBwdIdeal (hMixBwdIdeal := hMixBwdIdeal)
    ∧ quiescent_MixBwdIdeal_pre_mix_finite (hMixBwdIdeal := hMixBwdIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ quiescent_GeluBwd (hGeluBwd := hGeluBwd)
    ∧ quiescent_GeluBwdIdeal (hGeluBwdIdeal := hGeluBwdIdeal)
    ∧ quiescent_GeluBwdIdeal_pre_gelu_finite (hGeluBwdIdeal := hGeluBwdIdeal) (hPre_gelu_finite := hPre_gelu_finite)
    ∧ quiescent_GeluRefIdeal (hGeluRefIdeal := hGeluRefIdeal)
    ∧ quiescent_GeluRefIdeal_pre_gelu_finite (hGeluRefIdeal := hGeluRefIdeal) (hPre_gelu_finite := hPre_gelu_finite)
    ∧ quiescent_QkvBwd (hQkvBwd := hQkvBwd)
    ∧ quiescent_QkvBwdIdeal (hQkvBwdIdeal := hQkvBwdIdeal)
    ∧ quiescent_QkvBwdIdeal_pre_qkv_finite (hQkvBwdIdeal := hQkvBwdIdeal) (hPre_qkv_finite := hPre_qkv_finite)
    ∧ quiescent_QkvRefIdeal (hQkvRefIdeal := hQkvRefIdeal)
    ∧ quiescent_QkvRefIdeal_pre_qkv_finite (hQkvRefIdeal := hQkvRefIdeal) (hPre_qkv_finite := hPre_qkv_finite)
    ∧ quiescent_SsmParam (hSsmParam := hSsmParam)
    ∧ quiescent_SsmParamIdeal (hSsmParamIdeal := hSsmParamIdeal)
    ∧ quiescent_SsmParamIdeal_pre_ssm_param_finite (hSsmParamIdeal := hSsmParamIdeal) (hPre_ssm_param_finite := hPre_ssm_param_finite)
    ∧ quiescent_SsmParamRefIdeal (hSsmParamRefIdeal := hSsmParamRefIdeal)
    ∧ quiescent_SsmParamRefIdeal_pre_ssm_param_finite (hSsmParamRefIdeal := hSsmParamRefIdeal) (hPre_ssm_param_finite := hPre_ssm_param_finite)
    ∧ quiescent_NormIn (hNormIn := hNormIn)
    ∧ quiescent_NormInIdeal (hNormInIdeal := hNormInIdeal)
    ∧ quiescent_NormRefIdeal (hNormRefIdeal := hNormRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_OutProj (hOutProj := hOutProj)
    ∧ quiescent_OutProjIdeal (hOutProjIdeal := hOutProjIdeal)
    ∧ quiescent_OutRefIdeal (hOutRefIdeal := hOutRefIdeal)
    ∧ quiescent_QkvPrep (hQkvPrep := hQkvPrep)
    ∧ quiescent_QkvPrepIdeal (hQkvPrepIdeal := hQkvPrepIdeal)
    ∧ quiescent_PrepRefIdeal (hPrepRefIdeal := hPrepRefIdeal)
    ∧ quiescent_SsmBwd (hSsmBwd := hSsmBwd)
    ∧ quiescent_SsmBwdIdeal (hSsmBwdIdeal := hSsmBwdIdeal)
    ∧ quiescent_SsmFwd (hSsmFwd := hSsmFwd)
    ∧ quiescent_SsmFwdIdeal (hSsmFwdIdeal := hSsmFwdIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamC (hAdamC := hAdamC)
    ∧ quiescent_AdamCIdeal (hAdamCIdeal := hAdamCIdeal)
    ∧ quiescent_AdamCRefIdeal (hAdamCRefIdeal := hAdamCRefIdeal)
    ∧ quiescent_SumBlocks (hSumBlocks := hSumBlocks)
    ∧ quiescent_SumBlocksIdeal (hSumBlocksIdeal := hSumBlocksIdeal)
    ∧ quiescent_SumRefIdeal (hSumRefIdeal := hSumRefIdeal)
    ∧ quiescent_DOutProj (hDOutProj := hDOutProj)
    ∧ quiescent_DOutProjIdeal (hDOutProjIdeal := hDOutProjIdeal)
    ∧ quiescent_DOutRefIdeal (hDOutRefIdeal := hDOutRefIdeal)
    ∧ quiescent_PairSum (hPairSum := hPairSum) (hPre_own_core := hPre_own_core)
    ∧ quiescent_PairSumIdeal (hPairSumIdeal := hPairSumIdeal) (hPre_own_core := hPre_own_core)
    ∧ quiescent_PairRefIdeal (hPairRefIdeal := hPairRefIdeal)
    ∧ quiescent_PairRefIdeal_pre_own_core (hPairRefIdeal := hPairRefIdeal) (hPre_own_core := hPre_own_core)
    ∧ preserves_InBwd_InBwdIdeal
    ∧ algebraic_InBwdIdeal_InRefIdeal_pre_in_bwd_finite (hInBwdIdeal := hInBwdIdeal) (hInRefIdeal := hInRefIdeal) (hPre_in_bwd_finite := hPre_in_bwd_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_PleBwd_PleBwdIdeal
    ∧ algebraic_PleBwdIdeal_PleRefIdeal_pre_ple_finite (hPleBwdIdeal := hPleBwdIdeal) (hPleRefIdeal := hPleRefIdeal) (hPre_ple_finite := hPre_ple_finite)
    ∧ preserves_Tail_TailIdeal
    ∧ algebraic_TailIdeal_TailRefIdeal_pre_tail_finite (hTailIdeal := hTailIdeal) (hTailRefIdeal := hTailRefIdeal) (hPre_tail_finite := hPre_tail_finite)
    ∧ preserves_MixBwd_MixBwdIdeal
    ∧ algebraic_MixBwdIdeal_MixRefIdeal_pre_mix_finite (hMixBwdIdeal := hMixBwdIdeal) (hMixRefIdeal := hMixRefIdeal) (hPre_mix_finite := hPre_mix_finite)
    ∧ preserves_GeluBwd_GeluBwdIdeal
    ∧ algebraic_GeluBwdIdeal_GeluRefIdeal_pre_gelu_finite (hGeluBwdIdeal := hGeluBwdIdeal) (hGeluRefIdeal := hGeluRefIdeal) (hPre_gelu_finite := hPre_gelu_finite)
    ∧ preserves_QkvBwd_QkvBwdIdeal
    ∧ algebraic_QkvBwdIdeal_QkvRefIdeal_pre_qkv_finite (hQkvBwdIdeal := hQkvBwdIdeal) (hQkvRefIdeal := hQkvRefIdeal) (hPre_qkv_finite := hPre_qkv_finite)
    ∧ preserves_SsmParam_SsmParamIdeal
    ∧ algebraic_SsmParamIdeal_SsmParamRefIdeal_pre_ssm_param_finite (hSsmParamIdeal := hSsmParamIdeal) (hSsmParamRefIdeal := hSsmParamRefIdeal) (hPre_ssm_param_finite := hPre_ssm_param_finite)
    ∧ preserves_NormIn_NormInIdeal
    ∧ algebraic_NormInIdeal_NormRefIdeal (hNormInIdeal := hNormInIdeal) (hNormRefIdeal := hNormRefIdeal)
    ∧ preserves_MixFwd_MixFwdIdeal
    ∧ algebraic_MixFwdIdeal_MixFwdRefIdeal (hMixFwdIdeal := hMixFwdIdeal) (hMixFwdRefIdeal := hMixFwdRefIdeal)
    ∧ preserves_OutProj_OutProjIdeal
    ∧ algebraic_OutProjIdeal_OutRefIdeal (hOutProjIdeal := hOutProjIdeal) (hOutRefIdeal := hOutRefIdeal)
    ∧ preserves_QkvPrep_QkvPrepIdeal
    ∧ algebraic_QkvPrepIdeal_PrepRefIdeal (hQkvPrepIdeal := hQkvPrepIdeal) (hPrepRefIdeal := hPrepRefIdeal)
    ∧ preserves_SsmBwd_SsmBwdIdeal
    ∧ preserves_SsmFwd_SsmFwdIdeal
    ∧ preserves_AdamOut_AdamOutIdeal
    ∧ algebraic_AdamOutIdeal_AdamOutRefIdeal (hAdamOutIdeal := hAdamOutIdeal) (hAdamOutRefIdeal := hAdamOutRefIdeal)
    ∧ preserves_AdamC_AdamCIdeal
    ∧ algebraic_AdamCIdeal_AdamCRefIdeal (hAdamCIdeal := hAdamCIdeal) (hAdamCRefIdeal := hAdamCRefIdeal)
    ∧ preserves_SumBlocks_SumBlocksIdeal
    ∧ algebraic_SumBlocksIdeal_SumRefIdeal (hSumBlocksIdeal := hSumBlocksIdeal) (hSumRefIdeal := hSumRefIdeal)
    ∧ preserves_DOutProj_DOutProjIdeal
    ∧ algebraic_DOutProjIdeal_DOutRefIdeal (hDOutProjIdeal := hDOutProjIdeal) (hDOutRefIdeal := hDOutRefIdeal)
    ∧ preserves_PairSum_PairSumIdeal
    ∧ algebraic_PairSumIdeal_PairRefIdeal (hPairSumIdeal := hPairSumIdeal) (hPairRefIdeal := hPairRefIdeal) (hPre_own_core := hPre_own_core)
-- ==== Pre_attn_finite.lean ====
abbrev S4096x1024 : Shape := ⟨2, ![4096, 1024]⟩
abbrev S4096x256 : Shape := ⟨2, ![4096, 256]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn_part1 {F : FTy → Type} [FloatOps F] (main_v16 : IVec S_ 1) (main_v17 : FVec F S4096x1024 .f32) : IVec S_ 1 :=
  let main_v18 : FVec F S4096x1024 .f32 := Host.absf main_v17
  let main_cst_4 : FVec F S_ .f32 := constant S_ .f32 0x7F800000#32
  let main_v19 : FVec F S4096x1024 .f32 := broadcastInDim S4096x1024 ![] bcast_S_S4096x1024 main_cst_4
  let main_v20 : IVec S4096x1024 1 := cmpf .olt main_v18 main_v19
  let main_c_5 : IVec S_ 1 := constantI S_ 1 1#1
  let main_v21 : IVec S_ 1 := (fun x v => Host.reduce IntOp.andi x v reducesTo_S4096x1024_S_d0_1 h_S_) main_v20 main_c_5
  let main_v22 : IVec S_ 1 := andi main_v16 main_v21
  main_v22

def fn {F : FTy → Type} [FloatOps F] (main_arg0 : FVec F S4096x1024 .bf16) (main_arg1 : FVec F S4096x256 .bf16) (main_arg2 : FVec F S4096x256 .bf16) (main_arg3 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x256 .f32 := (extf .f32 · bitsLt_bf16_f32) main_arg1
  let main_v6 : FVec F S4096x256 .f32 := Host.absf main_v5
  let main_cst_0 : FVec F S_ .f32 := constant S_ .f32 0x7F800000#32
  let main_v7 : FVec F S4096x256 .f32 := broadcastInDim S4096x256 ![] bcast_S_S4096x256 main_cst_0
  let main_v8 : IVec S4096x256 1 := cmpf .olt main_v6 main_v7
  let main_c_1 : IVec S_ 1 := constantI S_ 1 1#1
  let main_v9 : IVec S_ 1 := (fun x v => Host.reduce IntOp.andi x v reducesTo_S4096x256_S_d0_1 h_S_) main_v8 main_c_1
  let main_v10 : IVec S_ 1 := andi main_v4 main_v9
  let main_v11 : FVec F S4096x256 .f32 := (extf .f32 · bitsLt_bf16_f32) main_arg2
  let main_v12 : FVec F S4096x256 .f32 := Host.absf main_v11
  let main_cst_2 : FVec F S_ .f32 := constant S_ .f32 0x7F800000#32
  let main_v13 : FVec F S4096x256 .f32 := broadcastInDim S4096x256 ![] bcast_S_S4096x256 main_cst_2
  let main_v14 : IVec S4096x256 1 := cmpf .olt main_v12 main_v13
  let main_c_3 : IVec S_ 1 := constantI S_ 1 1#1
  let main_v15 : IVec S_ 1 := (fun x v => Host.reduce IntOp.andi x v reducesTo_S4096x256_S_d0_1 h_S_) main_v14 main_c_3
  let main_v16 : IVec S_ 1 := andi main_v10 main_v15
  let main_v17 : FVec F S4096x1024 .f32 := (extf .f32 · bitsLt_bf16_f32) main_arg3
  fn_part1 (F := F) main_v16 main_v17
-- ==== Pre_gelu_finite.lean ====
abbrev S4096x2048 : Shape := ⟨2, ![4096, 2048]⟩
abbrev S1024x2048 : Shape := ⟨2, ![1024, 2048]⟩
abbrev S4096x1024 : Shape := ⟨2, ![4096, 1024]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x2048 .bf16) (main_arg1 : FVec F S1024x2048 .bf16) (main_arg2 : FVec F S4096x1024 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S1024x2048 .f32 := (extf .f32 · bitsLt_bf16_f32) main_arg1
  let main_v6 : FVec F S1024x2048 .f32 := Host.absf main_v5
  let main_cst_0 : FVec F S_ .f32 := constant S_ .f32 0x7F800000#32
  let main_v7 : FVec F S1024x2048 .f32 := broadcastInDim S1024x2048 ![] bcast_S_S1024x2048 main_cst_0
  let main_v8 : IVec S1024x2048 1 := cmpf .olt main_v6 main_v7
  let main_c_1 : IVec S_ 1 := constantI S_ 1 1#1
  let main_v9 : IVec S_ 1 := (fun x v => Host.reduce IntOp.andi x v reducesTo_S1024x2048_S_d0_1 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  main_v15
-- ==== Pre_in_bwd_finite.lean ====
abbrev S1x4096x2048 : Shape := ⟨3, ![1, 4096, 2048]⟩
abbrev S1x2048 : Shape := ⟨2, ![1, 2048]⟩
abbrev S4096x2048 : Shape := ⟨2, ![4096, 2048]⟩
abbrev S_ : Shape := ⟨0, ![]⟩

class Facts : Prop where
  bcast_S_S1x4096x2048 : S_.BroadcastsInDim S1x4096x2048 (![] : Fin 0 → Fin S1x4096x2048.rank)
  reducesTo_S1x4096x2048_S_d0_1_2 : S1x4096x2048.ReducesTo [0, 1, 2] S_
  h_S_ : 0 < S_.numel
  bcast_S_S1x2048 : S_.BroadcastsInDim S1x2048 (![] : Fin 0 → Fin S1x2048.rank)
  reducesTo_S1x2048_S_d0_1 : S1x2048.ReducesTo [0, 1] S_
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S1x4096x2048 .f32) (main_arg1 : FVec F S1x2048 .f32) (main_arg2 : FVec F S4096x2048 .bf16) (main_arg3 : FVec F S4096x2048 .f32) : IVec S_ 1 :=
  let main_v0 : FVec F S1x4096x2048 .f32 := Host.absf main_arg0
  let main_cst : FVec F S_ .f32 := constant S_ .f32 0x7F800000#32
  let main_v1 : FVec F S1x4096x2048 .f32 := broadcastInDim S1x4096x2048 ![] bcast_S_S1x4096x2048 main_cst
  let main_v2 : IVec S1x4096x2048 1 := cmpf .olt main_v0 main_v1
  let main_c : IVec S_ 1 := constantI S_ 1 1#1
  let main_v3 : IVec S_ 1 := (fun x v => Host.reduce IntOp.andi x v reducesTo_S1x4096x2048_S_d0_1_2 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S4096x2048 .f32 := (extf .f32 · bitsLt_bf16_f32) main_arg2
  let main_v10 : FVec F S4096x2048 .f32 := Host.absf main_v9
  let main_cst_2 : FVec F S_ .f32 := constant S_ .f32 0x7F800000#32
  let main_v11 : FVec F S4096x2048 .f32 := broadcastInDim S4096x2048 ![] bcast_S_S4096x2048 main_cst_2
  let main_v12 : IVec S4096x2048 1 := cmpf .olt main_v10 main_v11
  let main_c_3 : IVec S_ 1 := constantI S_ 1 1#1
  let main_v13 : IVec S_ 1 := (fun x v => Host.reduce IntOp.andi x v reducesTo_S4096x2048_S_d0_1 h_S_) main_v12 main_c_3
  let main_v14 : IVec S_ 1 := andi main_v8 main_v13
  main_v14
-- ==== Pre_mix_finite.lean ====
abbrev S4096x2048 : Shape := ⟨2, ![4096, 2048]⟩
abbrev S2048x2048 : Shape := ⟨2, ![2048, 2048]⟩
abbrev S4096x1024 : Shape := ⟨2, ![4096, 1024]⟩
abbrev S4096x4608 : Shape := ⟨2, ![4096, 4608]⟩
abbrev S1x2048 : Shape := ⟨2, ![1, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096x4608 : S_.BroadcastsInDim S4096x4608 (![] : Fin 0 → Fin S4096x4608.rank)
  reducesTo_S4096x4608_S_d0_1 : S4096x4608.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S4096x2048 .f32) (main_arg5 : FVec F S1x2048 .f32) (main_v16 : IVec S_ 1) (main_v17 : FVec F S4096x4608 .f32) : IVec S_ 1 :=
  let main_v18 : FVec F S4096x4608 .f32 := Host.absf main_v17
  let main_cst_4 : FVec F S_ .f32 := constant S_ .f32 0x7F800000#32
  let main_v19 : FVec F S4096x4608 .f32 := broadcastInDim S4096x4608 ![] bcast_S_S4096x4608 main_cst_4
  let main_v20 : IVec S4096x4608 1 := cmpf .olt main_v18 main_v19
  let main_c_5 : IVec S_ 1 := constantI S_ 1 1#1
  let main_v21 : IVec S_ 1 := (fun x v => Host.reduce IntOp.andi x v reducesTo_S4096x4608_S_d0_1 h_S_) main_v20 main_c_5
  let main_v22 : IVec S_ 1 := andi main_v16 main_v21
  let main_v23 : FVec F S4096x2048 .f32 := Host.absf main_arg4
  let main_cst_6 : FVec F S_ .f32 := constant S_ .f32 0x7F800000#32
  let main_v24 : FVec F S4096x2048 .f32 := broadcastInDim S4096x2048 ![] bcast_S_S4096x2048 main_cst_6
  let main_v25 : IVec S4096x2048 1 := cmpf .olt main_v23 main_v24
  let main_c_7 : IVec S_ 1 := constantI S_ 1 1#1
  let main_v26 : IVec S_ 1 := (fun x v => Host.reduce IntOp.andi x v reducesTo_S4096x2048_S_d0_1 h_S_) main_v25 main_c_7
  let main_v27 : IVec S_ 1 := andi main_v22 main_v26
  let main_v28 : FVec F S1x2048 .f32 := Host.absf main_arg5
  let main_cst_8 : FVec F S_ .f32 := constant S_ .f32 0x7F800000#32
  let main_v29 : FVec F S1x2048 .f32 := broadcastInDim S1x2048 ![] bcast_S_S1x2048 main_cst_8
  let main_v30 : IVec S1x2048 1 := cmpf .olt main_v28 main_v29
  let main_c_9 : IVec S_ 1 := constantI S_ 1 1#1
  let main_v31 : IVec S_ 1 := (fun x v => Host.reduce IntOp.andi x v reducesTo_S1x2048_S_d0_1 h_S_) main_v30 main_c_9
  let main_v32 : IVec S_ 1 := andi main_v27 main_v31
  main_v32

def fn {F : FTy → Type} [FloatOps F] (main_arg0 : FVec F S4096x2048 .bf16) (main_arg1 : FVec F S2048x2048 .bf16) (main_arg2 : FVec F S4096x1024 .bf16) (main_arg3 : FVec F S4096x4608 .bf16) (main_arg4 : FVec F S4096x2048 .f32) (main_arg5 : FVec F S1x2048 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S2048x2048 .f32 := (extf .f32 · bitsLt_bf16_f32) main_arg1
  let main_v6 : FVec F S2048x2048 .f32 := Host.absf main_v5
  let main_cst_0 : FVec F S_ .f32 := constant S_ .f32 0x7F800000#32
  let main_v7 : FVec F S2048x2048 .f32 := broadcastInDim S2048x2048 ![] bcast_S_S2048x2048 main_cst_0
  let main_v8 : IVec S2048x2048 1 := cmpf .olt main_v6 main_v7
  let main_c_1 : IVec S_ 1 := constantI S_ 1 1#1
  let main_v9 : IVec S_ 1 := (fun x v => Host.reduce IntOp.andi x v reducesTo_S2048x2048_S_d0_1 h_S_) main_v8 main_c_1
  let main_v10 : IVec S_ 1 := andi main_v4 main_v9
  let main_v11 : FVec F S4096x1024 .f32 := (extf .f32 · bitsLt_bf16_f32) main_arg2
  let main_v12 : FVec F S4096x1024 .f32 := Host.absf main_v11
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v10 main_v15
  let main_v17 : FVec F S4096x4608 .f32 := (extf .f32 · bitsLt_bf16_f32) main_arg3
  fn_part1 (F := F) main_arg4 main_arg5 main_v16 main_v17
-- ==== Pre_own_core.lean ====
abbrev S1 : Shape := ⟨1, ![1]⟩
abbrev S8x576x2048 : Shape := ⟨3, ![8, 576, 2048]⟩
abbrev S4x576x2048 : Shape := ⟨3, ![4, 576, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x576x2048 .bf16) (main_arg2 : FVec F S4x576x2048 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 2#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_ple_finite.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v15 : IVec S_ 1) (main_v16 : FVec F S1x2048 .f32) (main_cst_4 : FVec F S_ .f32) : IVec S_ 1 :=
  let main_v17 : FVec F S1x2048 .f32 := broadcastInDim S1x2048 ![] bcast_S_S1x2048 main_cst_4
  let main_v18 : IVec S1x2048 1 := cmpf .olt main_v16 main_v17
  let main_c_5 : IVec S_ 1 := constantI S_ 1 1#1
  let main_v19 : IVec S_ 1 := (fun x v => Host.reduce IntOp.andi x v reducesTo_S1x2048_S_d0_1 h_S_) main_v18 main_c_5
  let main_v20 : IVec S_ 1 := andi main_v15 main_v19
  main_v20

def fn {F : FTy → Type} [FloatOps F] (main_arg0 : FVec F S4096x2048 .bf16) (main_arg1 : FVec F S2048x2048 .bf16) (main_arg2 : FVec F S4096x2048 .f32) (main_arg3 : FVec F S4096x2048 .f32) (main_arg4 : FVec F S1x2048 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S2048x2048 .f32 := (extf .f32 · bitsLt_bf16_f32) main_arg1
  let main_v6 : FVec F S2048x2048 .f32 := Host.absf main_v5
  let main_cst_0 : FVec F S_ .f32 := constant S_ .f32 0x7F800000#32
  let main_v7 : FVec F S2048x2048 .f32 := broadcastInDim S2048x2048 ![] bcast_S_S2048x2048 main_cst_0
  let main_v8 : IVec S2048x2048 1 := cmpf .olt main_v6 main_v7
  let main_c_1 : IVec S_ 1 := constantI S_ 1 1#1
  let main_v9 : IVec S_ 1 := (fun x v => Host.reduce IntOp.andi x v reducesTo_S2048x2048_S_d0_1 h_S_) main_v8 main_c_1
  let main_v10 : IVec S_ 1 := andi main_v4 main_v9
  let main_v11 : FVec F S4096x2048 .f32 := Host.absf main_arg2
  let main_cst_2 : FVec F S_ .f32 := constant S_ .f32 0x7F800000#32
  let main_v12 : FVec F S4096x2048 .f32 := broadcastInDim S4096x2048 ![] bcast_S_S4096x2048 main_cst_2
  let main_v13 : IVec S4096x2048 1 := cmpf .olt main_v11 main_v12
  let main_c_3 : IVec S_ 1 := constantI S_ 1 1#1
  let main_v14 : IVec S_ 1 := (fun x v => Host.reduce IntOp.andi x v reducesTo_S4096x2048_S_d0_1 h_S_) main_v13 main_c_3
  let main_v15 : IVec S_ 1 := andi main_v10 main_v14
  let main_v16 : FVec F S1x2048 .f32 := Host.absf main_arg4
  let main_cst_4 : FVec F S_ .f32 := constant S_ .f32 0x7F800000#32
  fn_part1 (F := F) main_v15 main_v16 main_cst_4
-- ==== Pre_qkv_finite.lean ====
abbrev S4096x1024 : Shape := ⟨2, ![4096, 1024]⟩
abbrev S4096x256 : Shape := ⟨2, ![4096, 256]⟩
abbrev S4096x4608 : Shape := ⟨2, ![4096, 4608]⟩
abbrev S4096x32 : Shape := ⟨2, ![4096, 32]⟩
abbrev S1x128 : Shape := ⟨2, ![1, 128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bitsLt_bf16_f32 : FTy.bits .bf16 < FTy.bits .f32
  bcast_S_S4096x4608 : S_.BroadcastsInDim S4096x4608 (![] : Fin 0 → Fin S4096x4608.rank)
  reducesTo_S4096x4608_S_d0_1 : S4096x4608.ReducesTo [0, 1] S_
  bcast_S_S4096x32 : S_.BroadcastsInDim S4096x32 (![] : Fin 0 → Fin S4096x32.rank)
  reducesTo_S4096x32_S_d0_1 : S4096x32.ReducesTo [0, 1] S_
  bcast_S_S1x128 : S_.BroadcastsInDim S1x128 (![] : Fin 0 → Fin S1x128.rank)
  reducesTo_S1x128_S_d0_1 : S1x128.ReducesTo [0, 1] S_

variable [Facts]

def fn_part2 {F : FTy → Type} [FloatOps F] (main_v29 : IVec S_ 1) (main_v33 : IVec S_ 1) : IVec S_ 1 :=
  let main_v34 : IVec S_ 1 := andi main_v29 main_v33
  main_v34

def fn_part1 {F : FTy → Type} [FloatOps F] (main_arg5 : FVec F S4096x32 .f32) (main_arg6 : FVec F S1x128 .f32) (main_arg7 : FVec F S1x128 .f32) (main_v14 : IVec S_ 1) (main_v15 : FVec F S4096x32 .f32) (main_v16 : FVec F S4096x32 .f32) : IVec S_ 1 :=
  let main_v17 : IVec S4096x32 1 := cmpf .olt main_v15 main_v16
  let main_c_5 : IVec S_ 1 := constantI S_ 1 1#1
  let main_v18 : IVec S_ 1 := (fun x v => Host.reduce IntOp.andi x v reducesTo_S4096x32_S_d0_1 h_S_) main_v17 main_c_5
  let main_v19 : IVec S_ 1 := andi main_v14 main_v18
  let main_v20 : FVec F S4096x32 .f32 := Host.absf main_arg5
  let main_cst_6 : FVec F S_ .f32 := constant S_ .f32 0x7F800000#32
  let main_v21 : FVec F S4096x32 .f32 := broadcastInDim S4096x32 ![] bcast_S_S4096x32 main_cst_6
  let main_v22 : IVec S4096x32 1 := cmpf .olt main_v20 main_v21
  let main_c_7 : IVec S_ 1 := constantI S_ 1 1#1
  let main_v23 : IVec S_ 1 := (fun x v => Host.reduce IntOp.andi x v reducesTo_S4096x32_S_d0_1 h_S_) main_v22 main_c_7
  let main_v24 : IVec S_ 1 := andi main_v19 main_v23
  let main_v25 : FVec F S1x128 .f32 := Host.absf main_arg6
  let main_cst_8 : FVec F S_ .f32 := constant S_ .f32 0x7F800000#32
  let main_v26 : FVec F S1x128 .f32 := broadcastInDim S1x128 ![] bcast_S_S1x128 main_cst_8
  let main_v27 : IVec S1x128 1 := cmpf .olt main_v25 main_v26
  let main_c_9 : IVec S_ 1 := constantI S_ 1 1#1
  let main_v28 : IVec S_ 1 := (fun x v => Host.reduce IntOp.andi x v reducesTo_S1x128_S_d0_1 h_S_) main_v27 main_c_9
  let main_v29 : IVec S_ 1 := andi main_v24 main_v28
  let main_v30 : FVec F S1x128 .f32 := Host.absf main_arg7
  let main_cst_10 : FVec F S_ .f32 := constant S_ .f32 0x7F800000#32
  let main_v31 : FVec F S1x128 .f32 := broadcastInDim S1x128 ![] bcast_S_S1x128 main_cst_10
  let main_v32 : IVec S1x128 1 := cmpf .olt main_v30 main_v31
  let main_c_11 : IVec S_ 1 := constantI S_ 1 1#1
  let main_v33 : IVec S_ 1 := (fun x v => Host.reduce IntOp.andi x v reducesTo_S1x128_S_d0_1 h_S_) main_v32 main_c_11
  fn_part2 (F := F) main_v29 main_v33

def fn {F : FTy → Type} [FloatOps F] (main_arg0 : FVec F S4096x1024 .f32) (main_arg1 : FVec F S4096x256 .f32) (main_arg2 : FVec F S4096x256 .f32) (main_arg3 : FVec F S4096x4608 .bf16) (main_arg4 : FVec F S4096x32 .f32) (main_arg5 : FVec F S4096x32 .f32) (main_arg6 : FVec F S1x128 .f32) (main_arg7 : FVec F S1x128 .f32) (main_arg8 : FVec F S4096x1024 .bf16) (main_arg9 : FVec F S4096x1024 .f32) (main_arg10 : FVec F S4096x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x4608 .f32 := (extf .f32 · bitsLt_bf16_f32) main_arg3
  let main_v10 : FVec F S4096x4608 .f32 := Host.absf main_v9
  let main_cst_2 : FVec F S_ .f32 := constant S_ .f32 0x7F800000#32
  let main_v11 : FVec F S4096x4608 .f32 := broadcastInDim S4096x4608 ![] bcast_S_S4096x4608 main_cst_2
  let main_v12 : IVec S4096x4608 1 := cmpf .olt main_v10 main_v11
  let main_c_3 : IVec S_ 1 := constantI S_ 1 1#1
  let main_v13 : IVec S_ 1 := (fun x v => Host.reduce IntOp.andi x v reducesTo_S4096x4608_S_d0_1 h_S_) main_v12 main_c_3
  let main_v14 : IVec S_ 1 := andi main_v8 main_v13
  let main_v15 : FVec F S4096x32 .f32 := Host.absf main_arg4
  let main_cst_4 : FVec F S_ .f32 := constant S_ .f32 0x7F800000#32
  let main_v16 : FVec F S4096x32 .f32 := broadcastInDim S4096x32 ![] bcast_S_S4096x32 main_cst_4
  fn_part1 (F := F) main_arg5 main_arg6 main_arg7 main_v14 main_v15 main_v16
-- ==== Pre_ssm_param_finite.lean ====
abbrev S2x64x64 : Shape := ⟨3, ![2, 64, 64]⟩
abbrev S2x64x64x16 : Shape := ⟨4, ![2, 64, 64, 16]⟩
abbrev S2x64x16x64 : Shape := ⟨4, ![2, 64, 16, 64]⟩
abbrev S1024 : Shape := ⟨1, ![1024]⟩
abbrev S2x64 : Shape := ⟨2, ![2, 64]⟩
abbrev S_ : Shape := ⟨0, ![]⟩

class Facts : Prop where
  bcast_S_S2x64x64 : S_.BroadcastsInDim S2x64x64 (![] : Fin 0 → Fin S2x64x64.rank)
  reducesTo_S2x64x64_S_d0_1_2 : S2x64x64.ReducesTo [0, 1, 2] S_
  h_S_ : 0 < S_.numel
  bcast_S_S2x64x64x16 : S_.BroadcastsInDim S2x64x64x16 (![] : Fin 0 → Fin S2x64x64x16.rank)
  reducesTo_S2x64x64x16_S_d0_1_2_3 : S2x64x64x16.ReducesTo [0, 1, 2, 3] S_
  bcast_S_S2x64 : S_.BroadcastsInDim S2x64 (![] : Fin 0 → Fin S2x64.rank)
  reducesTo_S2x64_S_d0_1 : S2x64.ReducesTo [0, 1] S_

variable [Facts]

def fn_part2 {F : FTy → Type} [FloatOps F] (main_arg10 : FVec F S2x64x64x16 .f32) (main_arg11 : FVec F S2x64x64x16 .f32) (main_v33 : IVec S_ 1) : IVec S_ 1 :=
  let main_v34 : FVec F S2x64x64x16 .f32 := Host.absf main_arg10
  let main_cst_12 : FVec F S_ .f32 := constant S_ .f32 0x7F800000#32
  let main_v35 : FVec F S2x64x64x16 .f32 := broadcastInDim S2x64x64x16 ![] bcast_S_S2x64x64x16 main_cst_12
  let main_v36 : IVec S2x64x64x16 1 := cmpf .olt main_v34 main_v35
  let main_c_13 : IVec S_ 1 := constantI S_ 1 1#1
  let main_v37 : IVec S_ 1 := (fun x v => Host.reduce IntOp.andi x v reducesTo_S2x64x64x16_S_d0_1_2_3 h_S_) main_v36 main_c_13
  let main_v38 : IVec S_ 1 := andi main_v33 main_v37
  let main_v39 : FVec F S2x64x64x16 .f32 := Host.absf main_arg11
  let main_cst_14 : FVec F S_ .f32 := constant S_ .f32 0x7F800000#32
  let main_v40 : FVec F S2x64x64x16 .f32 := broadcastInDim S2x64x64x16 ![] bcast_S_S2x64x64x16 main_cst_14
  let main_v41 : IVec S2x64x64x16 1 := cmpf .olt main_v39 main_v40
  let main_c_15 : IVec S_ 1 := constantI S_ 1 1#1
  let main_v42 : IVec S_ 1 := (fun x v => Host.reduce IntOp.andi x v reducesTo_S2x64x64x16_S_d0_1_2_3 h_S_) main_v41 main_c_15
  let main_v43 : IVec S_ 1 := andi main_v38 main_v42
  main_v43

def fn_part1 {F : FTy → Type} [FloatOps F] (main_arg7 : FVec F S2x64x64 .f32) (main_arg8 : FVec F S2x64x64 .f32) (main_arg9 : FVec F S2x64 .f32) (main_arg10 : FVec F S2x64x64x16 .f32) (main_arg11 : FVec F S2x64x64x16 .f32) (main_v13 : IVec S_ 1) (main_v16 : IVec S2x64x64x16 1) : IVec S_ 1 :=
  let main_c_5 : IVec S_ 1 := constantI S_ 1 1#1
  let main_v17 : IVec S_ 1 := (fun x v => Host.reduce IntOp.andi x v reducesTo_S2x64x64x16_S_d0_1_2_3 h_S_) main_v16 main_c_5
  let main_v18 : IVec S_ 1 := andi main_v13 main_v17
  let main_v19 : FVec F S2x64x64 .f32 := Host.absf main_arg7
  let main_cst_6 : FVec F S_ .f32 := constant S_ .f32 0x7F800000#32
  let main_v20 : FVec F S2x64x64 .f32 := broadcastInDim S2x64x64 ![] bcast_S_S2x64x64 main_cst_6
  let main_v21 : IVec S2x64x64 1 := cmpf .olt main_v19 main_v20
  let main_c_7 : IVec S_ 1 := constantI S_ 1 1#1
  let main_v22 : IVec S_ 1 := (fun x v => Host.reduce IntOp.andi x v reducesTo_S2x64x64_S_d0_1_2 h_S_) main_v21 main_c_7
  let main_v23 : IVec S_ 1 := andi main_v18 main_v22
  let main_v24 : FVec F S2x64x64 .f32 := Host.absf main_arg8
  let main_cst_8 : FVec F S_ .f32 := constant S_ .f32 0x7F800000#32
  let main_v25 : FVec F S2x64x64 .f32 := broadcastInDim S2x64x64 ![] bcast_S_S2x64x64 main_cst_8
  let main_v26 : IVec S2x64x64 1 := cmpf .olt main_v24 main_v25
  let main_c_9 : IVec S_ 1 := constantI S_ 1 1#1
  let main_v27 : IVec S_ 1 := (fun x v => Host.reduce IntOp.andi x v reducesTo_S2x64x64_S_d0_1_2 h_S_) main_v26 main_c_9
  let main_v28 : IVec S_ 1 := andi main_v23 main_v27
  let main_v29 : FVec F S2x64 .f32 := Host.absf main_arg9
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg10 main_arg11 main_v33

def fn {F : FTy → Type} [FloatOps F] (main_arg0 : FVec F S2x64x64 .f32) (main_arg1 : FVec F S2x64x64 .f32) (main_arg2 : FVec F S2x64x64x16 .f32) (main_arg3 : FVec F S2x64x64x16 .f32) (main_arg4 : FVec F S2x64x16x64 .f32) (main_arg5 : FVec F S2x64x16x64 .f32) (main_arg6 : FVec F S1024 .f32) (main_arg7 : FVec F S2x64x64 .f32) (main_arg8 : FVec F S2x64x64 .f32) (main_arg9 : FVec F S2x64 .f32) (main_arg10 : FVec F S2x64x64x16 .f32) (main_arg11 : FVec F S2x64x64x16 .f32) : IVec S_ 1 :=
  let main_v0 : FVec F S2x64x64 .f32 := Host.absf main_arg0
  let main_cst : FVec F S_ .f32 := constant S_ .f32 0x7F800000#32
  let main_v1 : FVec F S2x64x64 .f32 := broadcastInDim S2x64x64 ![] bcast_S_S2x64x64 main_cst
  let main_v2 : IVec S2x64x64 1 := cmpf .olt main_v0 main_v1
  let main_c : IVec S_ 1 := constantI S_ 1 1#1
  let main_v3 : IVec S_ 1 := (fun x v => Host.reduce IntOp.andi x v reducesTo_S2x64x64_S_d0_1_2 h_S_) main_v2 main_c
  let main_v4 : FVec F S2x64x64 .f32 := Host.absf main_arg1
  let main_cst_0 : FVec F S_ .f32 := constant S_ .f32 0x7F800000#32
  let main_v5 : FVec F S2x64x64 .f32 := broadcastInDim S2x64x64 ![] bcast_S_S2x64x64 main_cst_0
  let main_v6 : IVec S2x64x64 1 := cmpf .olt main_v4 main_v5
  let main_c_1 : IVec S_ 1 := constantI S_ 1 1#1
  let main_v7 : IVec S_ 1 := (fun x v => Host.reduce IntOp.andi x v reducesTo_S2x64x64_S_d0_1_2 h_S_) main_v6 main_c_1
  let main_v8 : IVec S_ 1 := andi main_v3 main_v7
  let main_v9 : FVec F S2x64x64x16 .f32 := Host.absf main_arg2
  let main_cst_2 : FVec F S_ .f32 := constant S_ .f32 0x7F800000#32
  let main_v10 : FVec F S2x64x64x16 .f32 := broadcastInDim S2x64x64x16 ![] bcast_S_S2x64x64x16 main_cst_2
  let main_v11 : IVec S2x64x64x16 1 := cmpf .olt main_v9 main_v10
  let main_c_3 : IVec S_ 1 := constantI S_ 1 1#1
  let main_v12 : IVec S_ 1 := (fun x v => Host.reduce IntOp.andi x v reducesTo_S2x64x64x16_S_d0_1_2_3 h_S_) main_v11 main_c_3
  let main_v13 : IVec S_ 1 := andi main_v8 main_v12
  let main_v14 : FVec F S2x64x64x16 .f32 := Host.absf main_arg3
  let main_cst_4 : FVec F S_ .f32 := constant S_ .f32 0x7F800000#32
  let main_v15 : FVec F S2x64x64x16 .f32 := broadcastInDim S2x64x64x16 ![] bcast_S_S2x64x64x16 main_cst_4
  let main_v16 : IVec S2x64x64x16 1 := cmpf .olt main_v14 main_v15
  fn_part1 (F := F) main_arg7 main_arg8 main_arg9 main_arg10 main_arg11 main_v13 main_v16
-- ==== Pre_tail_finite.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bitsLt_bf16_f32 : FTy.bits .bf16 < FTy.bits .f32
  bcast_S_S2048 : S_.BroadcastsInDim S2048 (![] : Fin 0 → Fin S2048.rank)
  reducesTo_S2048_S_d0 : S2048.ReducesTo [0] S_

variable [Facts]

def fn_part1 {F : FTy → Type} [FloatOps F] (main_v14 : IVec S_ 1) (main_v15 : FVec F S2048 .f32) (main_v16 : FVec F S2048 .f32) : IVec S_ 1 :=
  let main_v17 : IVec S2048 1 := cmpf .olt main_v15 main_v16
  let main_c_5 : IVec S_ 1 := constantI S_ 1 1#1
  let main_v18 : IVec S_ 1 := (fun x v => Host.reduce IntOp.andi x v reducesTo_S2048_S_d0 h_S_) main_v17 main_c_5
  let main_v19 : IVec S_ 1 := andi main_v14 main_v18
  main_v19

def fn {F : FTy → Type} [FloatOps F] (main_arg0 : FVec F S4096x2048 .bf16) (main_arg1 : FVec F S2048x2048 .bf16) (main_arg2 : FVec F S4096x2048 .f32) (main_arg3 : FVec F S4096x2048 .bf16) (main_arg4 : FVec F S4096x2048 .f32) (main_arg5 : FVec F S2048 .f32) : IVec S_ 1 :=
  let main_v0 : FVec F S4096x2048 .f32 := Host.absf main_arg2
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := (extf .f32 · bitsLt_bf16_f32) main_arg3
  let main_v5 : FVec F S4096x2048 .f32 := Host.absf main_v4
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  let main_c_1 : IVec S_ 1 := constantI S_ 1 1#1
  let main_v8 : IVec S_ 1 := (fun x v => Host.reduce IntOp.andi x v reducesTo_S4096x2048_S_d0_1 h_S_) main_v7 main_c_1
  let main_v9 : IVec S_ 1 := andi main_v3 main_v8
  let main_v10 : FVec F S4096x2048 .f32 := Host.absf main_arg4
  let main_cst_2 : FVec F S_ .f32 := constant S_ .f32 0x7F800000#32
  let main_v11 : FVec F S4096x2048 .f32 := broadcastInDim S4096x2048 ![] bcast_S_S4096x2048 main_cst_2
  let main_v12 : IVec S4096x2048 1 := cmpf .olt main_v10 main_v11
  let main_c_3 : IVec S_ 1 := constantI S_ 1 1#1
  let main_v13 : IVec S_ 1 := (fun x v => Host.reduce IntOp.andi x v reducesTo_S4096x2048_S_d0_1 h_S_) main_v12 main_c_3
  let main_v14 : IVec S_ 1 := andi main_v9 main_v13
  let main_v15 : FVec F S2048 .f32 := Host.absf main_arg5
  let main_cst_4 : FVec F S_ .f32 := constant S_ .f32 0x7F800000#32
  let main_v16 : FVec F S2048 .f32 := broadcastInDim S2048 ![] bcast_S_S2048 main_cst_4
  fn_part1 (F := F) main_v14 main_v15 main_v16
-- ==== InBwd.lean ====
abbrev S1x4096x2048 : Shape := ⟨3, ![1, 4096, 2048]⟩
abbrev S1x2048 : Shape := ⟨2, ![1, 2048]⟩
abbrev S4096x2048 : Shape := ⟨2, ![4096, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 10
  | .smem => 0
  | _ => 0

abbrev bufTy : (tb : Table) → Fin (tcTables nBuf tb) → BufTy
  | .hbm, ⟨0, _⟩ => ⟨S1x4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== InRefIdeal.lean ====
abbrev S1x4096x2048 : Shape := ⟨3, ![1, 4096, 2048]⟩
abbrev S1x2048 : Shape := ⟨2, ![1, 2048]⟩
abbrev S4096x2048 : Shape := ⟨2, ![4096, 2048]⟩
abbrev S2048 : Shape := ⟨1, ![2048]⟩
abbrev S_ : Shape := ⟨0, ![]⟩
abbrev S1x4096 : Shape := ⟨2, ![1, 4096]⟩
abbrev S1x4096x1 : Shape := ⟨3, ![1, 4096, 1]⟩
abbrev S1x1x2048 : Shape := ⟨3, ![1, 1, 2048]⟩
abbrev S4096 : Shape := ⟨1, ![4096]⟩

abbrev nBuf : Space → Nat
  | .hbm => 57
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S1x4096x2048, .bf16⟩
  | .hbm, ⟨5, _⟩ => ⟨S1x4096x2048, .f32⟩
  | .hbm, ⟨6, _⟩ => ⟨S1x4096x2048, .f32⟩
  | .hbm, ⟨7, _⟩ => ⟨S2048, .f32⟩
  | .hbm, ⟨8, _⟩ => ⟨S1x4096x2048, .f32⟩
  | .hbm, ⟨9, _⟩ => ⟨S_, .f32⟩
  | .hbm, ⟨10, _⟩ => ⟨S1x4096, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S1x4096x1, .f32⟩
  | .hbm, ⟨20, _⟩ => ⟨S_, .f32⟩
  | .hbm, ⟨21, _⟩ => ⟨S1x4096x1, .f32⟩
  | .hbm, ⟨22, _⟩ => ⟨S1x4096x1, .f32⟩
  | .hbm, ⟨23, _⟩ => ⟨S1x4096x2048, .f32⟩
  | .hbm, ⟨24, _⟩ => ⟨S1x4096x2048, .f32⟩
  | .hbm, ⟨25, _⟩ => ⟨S1x1x2048, .f32⟩
  | .hbm, ⟨26, _⟩ => ⟨S1x4096x2048, .f32⟩
  | .hbm, ⟨27, _⟩ => ⟨S1x4096x2048, .f32⟩
  | .hbm, ⟨28, _⟩ => ⟨S1x4096x2048, .f32⟩
  | .hbm, ⟨29, _⟩ => ⟨S_, .f32⟩
  | .hbm, ⟨30, _⟩ => ⟨S1x2048, .f32⟩
  | .hbm, ⟨31, _⟩ => ⟨S1x1x2048, .f32⟩
  | .hbm, ⟨32, _⟩ => ⟨S1x4096x2048, .f32⟩
  | .hbm, ⟨33, _⟩ => ⟨S1x4096x2048, .f32⟩
  | .hbm, ⟨34, _⟩ => ⟨S_, .f32⟩
  | .hbm, ⟨35, _⟩ => ⟨S2048, .f32⟩
  | .hbm, ⟨36, _⟩ => ⟨S1x4096x2048, .f32⟩
  | .hbm, ⟨37, _⟩ => ⟨S_, .f32⟩
  | .hbm, ⟨38, _⟩ => ⟨S1x4096, .f32⟩
  | .hbm, ⟨39, _⟩ => ⟨S1x4096x1, .f32⟩
  | .hbm, ⟨40, _⟩ => ⟨S1x4096x2048, .f32⟩
  | .hbm, ⟨41, _⟩ => ⟨S1x4096x2048, .f32⟩
  | .hbm, ⟨42, _⟩ => ⟨S1x4096x2048, .f32⟩
  | .hbm, ⟨43, _⟩ => ⟨S1x4096x1, .f32⟩
  | .hbm, ⟨44, _⟩ => ⟨S_, .f32⟩
  | .hbm, ⟨45, _⟩ => ⟨S1x4096x1, .f32⟩
  | .hbm, ⟨46, _⟩ => ⟨S1x4096x1, .f32⟩
  | .hbm, ⟨47, _⟩ => ⟨S_, .f32⟩
  | .hbm, ⟨48, _⟩ => ⟨S4096, .f32⟩
  | .hbm, ⟨49, _⟩ => ⟨S1x4096, .f32⟩
  | .hbm, ⟨50, _⟩ => ⟨S1x4096x2048, .f32⟩
  | .hbm, ⟨51, _⟩ => ⟨S1x4096x2048, .f32⟩
  | .hbm, ⟨52, _⟩ => ⟨S1x4096x2048, .f32⟩
  | .hbm, ⟨53, _⟩ => ⟨S1x4096x2048, .f32⟩
  | .hbm, ⟨54, _⟩ => ⟨S1x4096x2048, .f32⟩
  | .hbm, ⟨55, _⟩ => ⟨S1x2048, .f32⟩
  | .hbm, ⟨56, _⟩ => ⟨S4096x2048, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Attn.lean ====
abbrev S4096x1024 : Shape := ⟨2, ![4096, 1024]⟩
abbrev S4096x256 : Shape := ⟨2, ![4096, 256]⟩
abbrev S_ : Shape := ⟨0, ![]⟩
abbrev S256x4096 : Shape := ⟨2, ![256, 4096]⟩
abbrev S8x1x4096 : Shape := ⟨3, ![8, 1, 4096]⟩
abbrev S256x128 : Shape := ⟨2, ![256, 128]⟩
abbrev S4096x128 : Shape := ⟨2, ![4096, 128]⟩
abbrev S1x1x256 : Shape := ⟨3, ![1, 1, 256]⟩
abbrev S256 : Shape := ⟨1, ![256]⟩
abbrev S256x1 : Shape := ⟨2, ![256, 1]⟩
abbrev S256x256 : Shape := ⟨2, ![256, 256]⟩
abbrev S1x256 : Shape := ⟨2, ![1, 256]⟩
abbrev S128x4096 : Shape := ⟨2, ![128, 4096]⟩
abbrev S128x256 : Shape := ⟨2, ![128, 256]⟩
abbrev S512x128 : Shape := ⟨2, ![512, 128]⟩
abbrev S512x256 : Shape := ⟨2, ![512, 256]⟩
abbrev S128x512 : Shape := ⟨2, ![128, 512]⟩

abbrev nBuf : Space → Nat
  | .hbm => 18
  | .vmem => 30
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S4096x1024, .bf16⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S256x4096, .bf16⟩
  | .hbm, ⟨10, _⟩ => ⟨S4096x1024, .bf16⟩
  | .hbm, ⟨11, _⟩ => ⟨S8x1x4096, .f32⟩
  | .hbm, ⟨12, _⟩ => ⟨S4096x1024, .f32⟩
  | .hbm, ⟨13, _⟩ => ⟨S4096x256, .f32⟩
  | .hbm, ⟨14, _⟩ => ⟨S4096x256, .f32⟩
  | .hbm, ⟨15, _⟩ => ⟨S_, .f32⟩
  | .hbm, ⟨16, _⟩ => ⟨S4096x1024, .f32⟩
  | .hbm, ⟨17, _⟩ => ⟨S4096x1024, .f32⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | .local _ .vmem, ⟨8, _⟩ => ⟨S1x1x256, .f32⟩
  | .local _ .vmem, ⟨9, _⟩ => ⟨S1x1x256, .f32⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S256x128, .bf16⟩
  | .local _ .vmem, ⟨15, _⟩ => ⟨S256x128, .bf16⟩
  | .local _ .vmem, ⟨16, _⟩ => ⟨S1x1x256, .f32⟩
  | .local _ .vmem, ⟨17, _⟩ => ⟨S1x1x256, .f32⟩
  | .local _ .vmem, ⟨18, _⟩ => ⟨S4096x128, .bf16⟩
  | .local _ .vmem, ⟨19, _⟩ => ⟨S4096x128, .bf16⟩
  | .local _ .vmem, ⟨20, _⟩ => ⟨S4096x128, .bf16⟩
  | .local _ .vmem, ⟨21, _⟩ => ⟨S4096x128, .bf16⟩
  | .local _ .vmem, ⟨22, _⟩ => ⟨S128x4096, .bf16⟩
  | .local _ .vmem, ⟨23, _⟩ => ⟨S128x4096, .bf16⟩
  | .local _ .vmem, ⟨24, _⟩ => ⟨S256x128, .f32⟩
  | .local _ .vmem, ⟨25, _⟩ => ⟨S256x128, .f32⟩
  | .local _ .vmem, ⟨26, _⟩ => ⟨S4096x128, .f32⟩
  | .local _ .vmem, ⟨27, _⟩ => ⟨S4096x128, .f32⟩
  | .local _ .vmem, ⟨28, _⟩ => ⟨S4096x128, .f32⟩
  | .local _ .vmem, ⟨29, _⟩ => ⟨S4096x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![2, 4, 16], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage1_0 : Fin 2 → Memref sig .tc .vmem S256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S256x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S256x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S4096x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S4096x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

abbrev stage1_6 : Fin 2 → Memref sig .tc .vmem S128x4096 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, false]

abbrev stage1_7 : Fin 2 → Memref sig .tc .vmem S256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]

abbrev stage1_8 : Fin 2 → Memref sig .tc .vmem S4096x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false, false]

abbrev stage1_9 : Fin 2 → Memref sig .tc .vmem S4096x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false, false]
-- ==== AttnRefIdeal.lean ====
abbrev S4096x1024 : Shape := ⟨2, ![4096, 1024]⟩
abbrev S4096x256 : Shape := ⟨2, ![4096, 256]⟩
abbrev S1x4096x8x128 : Shape := ⟨4, ![1, 4096, 8, 128]⟩
abbrev S1x4096x2x128 : Shape := ⟨4, ![1, 4096, 2, 128]⟩
abbrev S1x4096x2x4x128 : Shape := ⟨5, ![1, 4096, 2, 4, 128]⟩
abbrev S1x2x4096x4096x4 : Shape := ⟨5, ![1, 2, 4096, 4096, 4]⟩
abbrev S1x2x4x4096x4096 : Shape := ⟨5, ![1, 2, 4, 4096, 4096]⟩
abbrev S_ : Shape := ⟨0, ![]⟩
abbrev S1x2x4x4096 : Shape := ⟨4, ![1, 2, 4, 4096]⟩
abbrev S1x2x4x4096x1 : Shape := ⟨5, ![1, 2, 4, 4096, 1]⟩
abbrev S1x2x128x4x4096 : Shape := ⟨5, ![1, 2, 128, 4, 4096]⟩
abbrev S1x4096x1024 : Shape := ⟨3, ![1, 4096, 1024]⟩
abbrev S1x2x128x4096 : Shape := ⟨4, ![1, 2, 128, 4096]⟩
abbrev S2x4x4096 : Shape := ⟨3, ![2, 4, 4096]⟩
abbrev S1x2x4096x4x128 : Shape := ⟨5, ![1, 2, 4096, 4, 128]⟩
abbrev S1x2x4096x128 : Shape := ⟨4, ![1, 2, 4096, 128]⟩

abbrev nBuf : Space → Nat
  | .hbm => 93
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S4096x1024, .bf16⟩
  | .hbm, ⟨4, _⟩ => ⟨S4096x1024, .f32⟩
  | .hbm, ⟨5, _⟩ => ⟨S1x4096x8x128, .f32⟩
  | .hbm, ⟨6, _⟩ => ⟨S4096x256, .f32⟩
  | .hbm, ⟨7, _⟩ => ⟨S1x4096x2x128, .f32⟩
  | .hbm, ⟨8, _⟩ => ⟨S4096x256, .f32⟩
  | .hbm, ⟨9, _⟩ => ⟨S1x4096x2x128, .f32⟩
  | .hbm, ⟨10, _⟩ => ⟨S1x4096x2x4x128, .f32⟩
  | .hbm, ⟨11, _⟩ => ⟨S1x2x4096x4096x4, .f32⟩
  | .hbm, ⟨12, _⟩ => ⟨S1x2x4x4096x4096, .f32⟩
  | .hbm, ⟨13, _⟩ => ⟨S_, .f32⟩
  | .hbm, ⟨14, _⟩ => ⟨S1x2x4x4096x4096, .f32⟩
  | .hbm, ⟨15, _⟩ => ⟨S1x2x4x4096x4096, .f32⟩
  | .hbm, ⟨16, _⟩ => ⟨S_, .f32⟩
  | .hbm, ⟨17, _⟩ => ⟨S1x2x4x4096, .f32⟩
  | .hbm, ⟨18, _⟩ => ⟨S1x2x4x4096x1, .f32⟩
  | .hbm, ⟨19, _⟩ => ⟨S1x2x4x4096x4096, .f32⟩
  | .hbm, ⟨20, _⟩ => ⟨S1x2x4x4096x4096, .i1⟩
  | .hbm, ⟨21, _⟩ => ⟨S1x2x4x4096x4096, .f32⟩
  | .hbm, ⟨22, _⟩ => ⟨S_, .f32⟩
  | .hbm, ⟨23, _⟩ => ⟨S1x2x4x4096, .f32⟩
  | .hbm, ⟨24, _⟩ => ⟨S_, .f32⟩
  | .hbm, ⟨25, _⟩ => ⟨S1x2x4x4096, .f32⟩
  | .hbm, ⟨26, _⟩ => ⟨S1x2x4x4096, .f32⟩
  | .hbm, ⟨27, _⟩ => ⟨S_, .f32⟩
  | .hbm, ⟨28, _⟩ => ⟨S1x2x4x4096, .f32⟩
  | .hbm, ⟨29, _⟩ => ⟨S1x2x4x4096, .i1⟩
  | .hbm, ⟨30, _⟩ => ⟨S_, .f32⟩
  | .hbm, ⟨31, _⟩ => ⟨S1x2x4x4096, .f32⟩
  | .hbm, ⟨32, _⟩ => ⟨S1x2x4x4096, .i1⟩
  | .hbm, ⟨33, _⟩ => ⟨S_, .f32⟩
  | .hbm, ⟨34, _⟩ => ⟨S1x2x4x4096, .f32⟩
  | .hbm, ⟨35, _⟩ => ⟨S_, .f32⟩
  | .hbm, ⟨36, _⟩ => ⟨S1x2x4x4096, .f32⟩
  | .hbm, ⟨37, _⟩ => ⟨S_, .f32⟩
  | .hbm, ⟨38, _⟩ => ⟨S1x2x4x4096, .f32⟩
  | .hbm, ⟨39, _⟩ => ⟨S1x2x4x4096, .f32⟩
  | .hbm, ⟨40, _⟩ => ⟨S1x2x4x4096, .f32⟩
  | .hbm, ⟨41, _⟩ => ⟨S1x2x4x4096x1, .f32⟩
  | .hbm, ⟨42, _⟩ => ⟨S1x2x4x4096x4096, .f32⟩
  | .hbm, ⟨43, _⟩ => ⟨S1x2x4x4096x4096, .f32⟩
  | .hbm, ⟨44, _⟩ => ⟨S1x2x4x4096x4096, .f32⟩
  | .hbm, ⟨45, _⟩ => ⟨S_, .f32⟩
  | .hbm, ⟨46, _⟩ => ⟨S1x2x4x4096, .f32⟩
  | .hbm, ⟨47, _⟩ => ⟨S1x2x4x4096x1, .f32⟩
  | .hbm, ⟨48, _⟩ => ⟨S1x2x4x4096x4096, .f32⟩
  | .hbm, ⟨49, _⟩ => ⟨S1x2x4x4096x4096, .f32⟩
  | .hbm, ⟨50, _⟩ => ⟨S1x2x4x4096x1, .f32⟩
  | .hbm, ⟨51, _⟩ => ⟨S_, .f32⟩
  | .hbm, ⟨52, _⟩ => ⟨S1x2x4x4096x1, .f32⟩
  | .hbm, ⟨53, _⟩ => ⟨S1x2x4x4096x1, .f32⟩
  | .hbm, ⟨54, _⟩ => ⟨S1x2x128x4x4096, .f32⟩
  | .hbm, ⟨55, _⟩ => ⟨S1x4096x2x4x128, .f32⟩
  | .hbm, ⟨56, _⟩ => ⟨S1x4096x1024, .f32⟩
  | .hbm, ⟨57, _⟩ => ⟨S4096x1024, .f32⟩
  | .hbm, ⟨58, _⟩ => ⟨S1x4096x1024, .f32⟩
  | .hbm, ⟨59, _⟩ => ⟨S1x4096x2x4x128, .f32⟩
  | .hbm, ⟨60, _⟩ => ⟨S1x2x128x4x4096, .f32⟩
  | .hbm, ⟨61, _⟩ => ⟨S1x2x4x4096x4096, .f32⟩
  | .hbm, ⟨62, _⟩ => ⟨S1x2x128x4096, .f32⟩
  | .hbm, ⟨63, _⟩ => ⟨S1x4096x2x128, .f32⟩
  | .hbm, ⟨64, _⟩ => ⟨S1x2x4x4096x4096, .f32⟩
  | .hbm, ⟨65, _⟩ => ⟨S1x2x4x4096x4096, .f32⟩
  | .hbm, ⟨66, _⟩ => ⟨S1x2x4x4096x4096, .f32⟩
  | .hbm, ⟨67, _⟩ => ⟨S_, .f32⟩
  | .hbm, ⟨68, _⟩ => ⟨S1x2x4x4096, .f32⟩
  | .hbm, ⟨69, _⟩ => ⟨S1x2x4x4096x1, .f32⟩
  | .hbm, ⟨70, _⟩ => ⟨S1x2x4x4096x1, .f32⟩
  | .hbm, ⟨71, _⟩ => ⟨S1x2x4x4096x4096, .f32⟩
  | .hbm, ⟨72, _⟩ => ⟨S1x2x4x4096x4096, .f32⟩
  | .hbm, ⟨73, _⟩ => ⟨S_, .f32⟩
  | .hbm, ⟨74, _⟩ => ⟨S2x4x4096, .f32⟩
  | .hbm, ⟨75, _⟩ => ⟨S1x2x4x4096, .f32⟩
  | .hbm, ⟨76, _⟩ => ⟨S1x2x4x4096x4096, .f32⟩
  | .hbm, ⟨77, _⟩ => ⟨S1x2x4x4096x4096, .f32⟩
  | .hbm, ⟨78, _⟩ => ⟨S1x2x4x4096x4096, .f32⟩
  | .hbm, ⟨79, _⟩ => ⟨S_, .f32⟩
  | .hbm, ⟨80, _⟩ => ⟨S1x2x4x4096x4096, .f32⟩
  | .hbm, ⟨81, _⟩ => ⟨S1x2x4x4096x4096, .f32⟩
  | .hbm, ⟨82, _⟩ => ⟨S1x2x4096x4096x4, .f32⟩
  | .hbm, ⟨83, _⟩ => ⟨S1x2x4096x4x128, .f32⟩
  | .hbm, ⟨84, _⟩ => ⟨S1x4096x2x4x128, .f32⟩
  | .hbm, ⟨85, _⟩ => ⟨S1x2x4096x128, .f32⟩
  | .hbm, ⟨86, _⟩ => ⟨S1x4096x2x128, .f32⟩
  | .hbm, ⟨87, _⟩ => ⟨S1x4096x8x128, .f32⟩
  | .hbm, ⟨88, _⟩ => ⟨S4096x1024, .f32⟩
  | .hbm, ⟨89, _⟩ => ⟨S4096x1024, .bf16⟩
  | .hbm, ⟨90, _⟩ => ⟨S4096x1024, .f32⟩
  | .hbm, ⟨91, _⟩ => ⟨S4096x256, .f32⟩
  | .hbm, ⟨92, _⟩ => ⟨S4096x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩

abbrev nD : Nat := 1
abbrev τ : Topo := Topo.v7x

variable {F : FTy → Type} [FloatOps F]
-- ==== PleBwd.lean ====
abbrev S4096x2048 : Shape := ⟨2, ![4096, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PleRefIdeal.lean ====
abbrev S4096x2048 : Shape := ⟨2, ![4096, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S2048x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S4096x2048, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S1x2048, .f32⟩
  | .hbm, ⟨57, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Tail.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 12
  | .vmem => 18
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S2048, .f32⟩
  | .hbm, ⟨6, _⟩ => ⟨S1x2048, .f32⟩
  | .hbm, ⟨7, _⟩ => ⟨S4096x2048, .f32⟩
  | .hbm, ⟨8, _⟩ => ⟨S4096x2048, .bf16⟩
  | .hbm, ⟨9, _⟩ => ⟨S4096x2048, .bf16⟩
  | .hbm, ⟨10, _⟩ => ⟨S1x128, .f32⟩
  | .hbm, ⟨11, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S256x2048, .bf16⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S1x128, .f32⟩
  | .local _ .vmem, ⟨17, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== TailRefIdeal.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x128 : Shape := ⟨2, ![1, 128]⟩

abbrev nBuf : Space → Nat
  | .hbm => 99
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S2048, .f32⟩
  | .hbm, ⟨6, _⟩ => ⟨S4096x2048, .f32⟩
  | .hbm, ⟨7, _⟩ => ⟨S2048x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S1x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S4096, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S_, .f32⟩
  | .hbm, ⟨69, _⟩ => ⟨S2048, .f32⟩
  | .hbm, ⟨70, _⟩ => ⟨S1x2048, .f32⟩
  | .hbm, ⟨71, _⟩ => ⟨S4096x2048, .f32⟩
  | .hbm, ⟨72, _⟩ => ⟨S4096x2048, .f32⟩
  | .hbm, ⟨73, _⟩ => ⟨S_, .f32⟩
  | .hbm, ⟨74, _⟩ => ⟨S2048, .f32⟩
  | .hbm, ⟨75, _⟩ => ⟨S4096x2048, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S4096x2048, .f32⟩
  | .hbm, ⟨80, _⟩ => ⟨S4096x2048, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096, .f32⟩
  | .hbm, ⟨87, _⟩ => ⟨S4096x2048, .f32⟩
  | .hbm, ⟨88, _⟩ => ⟨S4096x2048, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S4096x2048, .f32⟩
  | .hbm, ⟨93, _⟩ => ⟨S4096x2048, .f32⟩
  | .hbm, ⟨94, _⟩ => ⟨S4096x2048, .f32⟩
  | .hbm, ⟨95, _⟩ => ⟨S4096x2048, .bf16⟩
  | .hbm, ⟨96, _⟩ => ⟨S4096x2048, .bf16⟩
  | .hbm, ⟨97, _⟩ => ⟨S1x128, .f32⟩
  | .hbm, ⟨98, _⟩ => ⟨S1x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_cst_11 : Ref sig .tc := ⟨.hbm, 58, rfl⟩
abbrev main_cst_12 : Ref sig .tc := ⟨.hbm, 59, rfl⟩
abbrev main_v40 : Ref sig .tc := ⟨.hbm, 60, rfl⟩
abbrev main_v41 : Ref sig .tc := ⟨.hbm, 61, rfl⟩
abbrev main_cst_13 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_14 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_15 : Ref sig .tc := ⟨.hbm, 73, rfl⟩
abbrev main_v51 : Ref sig .tc := ⟨.hbm, 74, rfl⟩
abbrev main_v52 : Ref sig .tc := ⟨.hbm, 75, rfl⟩
abbrev main_cst_16 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_17 : Ref sig .tc := ⟨.hbm, 82, rfl⟩
abbrev main_v58 : Ref sig .tc := ⟨.hbm, 83, rfl⟩
abbrev main_v59 : Ref sig .tc := ⟨.hbm, 84, rfl⟩
abbrev main_cst_18 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]
-- ==== MixBwd.lean ====
abbrev S4096x2048 : Shape := ⟨2, ![4096, 2048]⟩
abbrev S2048x2048 : Shape := ⟨2, ![2048, 2048]⟩
abbrev S4096x1024 : Shape := ⟨2, ![4096, 1024]⟩
abbrev S4096x4608 : Shape := ⟨2, ![4096, 4608]⟩
abbrev S1x2048 : Shape := ⟨2, ![1, 2048]⟩
abbrev S4096x3072 : Shape := ⟨2, ![4096, 3072]⟩
abbrev S4096x512 : Shape := ⟨2, ![4096, 512]⟩
abbrev S256x2048 : Shape := ⟨2, ![256, 2048]⟩
abbrev S256x1024 : Shape := ⟨2, ![256, 1024]⟩
abbrev S1024 : Shape := ⟨1, ![1024]⟩
abbrev S1x1024 : Shape := ⟨2, ![1, 1024]⟩

abbrev nBuf : Space → Nat
  | .hbm => 18
  | .vmem => 20
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x1024, .bf16⟩
  | .hbm, ⟨3, _⟩ => ⟨S4096x4608, .bf16⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | .hbm, ⟨9, _⟩ => ⟨S4096x1024, .bf16⟩
  | .hbm, ⟨10, _⟩ => ⟨S4096x3072, .bf16⟩
  | .hbm, ⟨11, _⟩ => ⟨S4096x512, .bf16⟩
  | .hbm, ⟨12, _⟩ => ⟨S4096x4608, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x2048, .bf16⟩
  | .hbm, ⟨17, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x2048, .bf16⟩
  | .local _ .vmem, ⟨8, _⟩ => ⟨S256x2048, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x2048, .bf16⟩
  | .local _ .vmem, ⟨18, _⟩ => ⟨S256x2048, .bf16⟩
  | .local _ .vmem, ⟨19, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MixRefIdeal.lean ====
abbrev S4096x2048 : Shape := ⟨2, ![4096, 2048]⟩
abbrev S2048x2048 : Shape := ⟨2, ![2048, 2048]⟩
abbrev S4096x1024 : Shape := ⟨2, ![4096, 1024]⟩
abbrev S4096x4608 : Shape := ⟨2, ![4096, 4608]⟩
abbrev S1x2048 : Shape := ⟨2, ![1, 2048]⟩
abbrev S4096x256 : Shape := ⟨2, ![4096, 256]⟩
abbrev S_ : Shape := ⟨0, ![]⟩
abbrev S2048 : Shape := ⟨1, ![2048]⟩

abbrev nBuf : Space → Nat
  | .hbm => 98
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x1024, .bf16⟩
  | .hbm, ⟨3, _⟩ => ⟨S4096x4608, .bf16⟩
  | .hbm, ⟨4, _⟩ => ⟨S4096x2048, .f32⟩
  | .hbm, ⟨5, _⟩ => ⟨S1x2048, .f32⟩
  | .hbm, ⟨6, _⟩ => ⟨S4096x4608, .f32⟩
  | .hbm, ⟨7, _⟩ => ⟨S4096x1024, .f32⟩
  | .hbm, ⟨8, _⟩ => ⟨S4096x256, .f32⟩
  | .hbm, ⟨9, _⟩ => ⟨S4096x256, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S2048x2048, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S4096x2048, .f32⟩
  | .hbm, ⟨79, _⟩ => ⟨S_, .f32⟩
  | .hbm, ⟨80, _⟩ => ⟨S4096x2048, .f32⟩
  | .hbm, ⟨81, _⟩ => ⟨S4096x2048, .f32⟩
  | .hbm, ⟨82, _⟩ => ⟨S_, .f32⟩
  | .hbm, ⟨83, _⟩ => ⟨S2048, .f32⟩
  | .hbm, ⟨84, _⟩ => ⟨S1x2048, .f32⟩
  | .hbm, ⟨85, _⟩ => ⟨S_, .f32⟩
  | .hbm, ⟨86, _⟩ => ⟨S2048, .f32⟩
  | .hbm, ⟨87, _⟩ => ⟨S1x2048, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .bf16⟩
  | .hbm, ⟨95, _⟩ => ⟨S4096x1024, .bf16⟩
  | .hbm, ⟨96, _⟩ => ⟨S4096x1024, .bf16⟩
  | .hbm, ⟨97, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_v9_2 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_v9_1 : Ref sig .tc := ⟨.hbm, 26, rfl⟩
abbrev main_v9_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_cst_0 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_v27_2 : Ref sig .tc := ⟨.hbm, 55, rfl⟩
abbrev main_call1_cst_1 : Ref sig .tc := ⟨.hbm, 56, rfl⟩
abbrev main_call1_v6 : Ref sig .tc := ⟨.hbm, 57, rfl⟩
abbrev main_call1_v7 : Ref sig .tc := ⟨.hbm, 58, rfl⟩
abbrev main_v27_1 : Ref sig .tc := ⟨.hbm, 59, rfl⟩
abbrev main_v27_0 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_2 : Ref sig .tc := ⟨.hbm, 77, rfl⟩
abbrev main_v41 : Ref sig .tc := ⟨.hbm, 78, rfl⟩
abbrev main_cst_3 : Ref sig .tc := ⟨.hbm, 79, rfl⟩
abbrev main_v42 : Ref sig .tc := ⟨.hbm, 80, rfl⟩
abbrev main_v43 : Ref sig .tc := ⟨.hbm, 81, rfl⟩
abbrev main_cst_4 : Ref sig .tc := ⟨.hbm, 82, rfl⟩
abbrev main_v44 : Ref sig .tc := ⟨.hbm, 83, rfl⟩
abbrev main_v45 : Ref sig .tc := ⟨.hbm, 84, rfl⟩
abbrev main_cst_5 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩

abbrev nD : Nat := 1
abbrev τ : Topo := Topo.v7x

variable {F : FTy → Type} [FloatOps F]
-- ==== GeluBwd.lean ====
abbrev S4096x2048 : Shape := ⟨2, ![4096, 2048]⟩
abbrev S1024x2048 : Shape := ⟨2, ![1024, 2048]⟩
abbrev S4096x1024 : Shape := ⟨2, ![4096, 1024]⟩
abbrev S1024x8x256 : Shape := ⟨3, ![1024, 8, 256]⟩
abbrev S8x1024x256 : Shape := ⟨3, ![8, 1024, 256]⟩
abbrev S1024x256 : Shape := ⟨2, ![1024, 256]⟩
abbrev S1x1024x256 : Shape := ⟨3, ![1, 1024, 256]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S1024x8x256, .bf16⟩
  | .hbm, ⟨4, _⟩ => ⟨S8x1024x256, .bf16⟩
  | .hbm, ⟨5, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GeluBwdIdeal.lean ====
variable {F : FTy → Type} [FloatOps F] [Named F]
def κ : String → Option EReal := fun
  | "gelu_3k" => some ((26829 / 200000 : ℝ) : EReal)
  | "gelu_k" => some ((8943 / 200000 : ℝ) : EReal)
  | _ => none
-- ==== GeluRefIdeal.lean ====
abbrev S4096x2048 : Shape := ⟨2, ![4096, 2048]⟩
abbrev S1024x2048 : Shape := ⟨2, ![1024, 2048]⟩
abbrev S4096x1024 : Shape := ⟨2, ![4096, 1024]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x2048, .f32⟩
  | .hbm, ⟨35, _⟩ => ⟨S4096x2048, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== QkvBwd.lean ====
abbrev S4096x1024 : Shape := ⟨2, ![4096, 1024]⟩
abbrev S4096x256 : Shape := ⟨2, ![4096, 256]⟩
abbrev S4096x4608 : Shape := ⟨2, ![4096, 4608]⟩
abbrev S4096x32 : Shape := ⟨2, ![4096, 32]⟩
abbrev S1x128 : Shape := ⟨2, ![1, 128]⟩
abbrev S4096x3072 : Shape := ⟨2, ![4096, 3072]⟩
abbrev S4096x512 : Shape := ⟨2, ![4096, 512]⟩
abbrev S4096x128 : Shape := ⟨2, ![4096, 128]⟩
abbrev S256x1024 : Shape := ⟨2, ![256, 1024]⟩
abbrev S256x256 : Shape := ⟨2, ![256, 256]⟩
abbrev S256x128 : Shape := ⟨2, ![256, 128]⟩
abbrev S256x4608 : Shape := ⟨2, ![256, 4608]⟩
abbrev S256 : Shape := ⟨1, ![256]⟩
abbrev S256x1 : Shape := ⟨2, ![256, 1]⟩
abbrev S128 : Shape := ⟨1, ![128]⟩

abbrev nBuf : Space → Nat
  | .hbm => 26
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x4608, .bf16⟩
  | .hbm, ⟨4, _⟩ => ⟨S4096x32, .f32⟩
  | .hbm, ⟨5, _⟩ => ⟨S4096x32, .f32⟩
  | .hbm, ⟨6, _⟩ => ⟨S1x128, .f32⟩
  | .hbm, ⟨7, _⟩ => ⟨S1x128, .f32⟩
  | .hbm, ⟨8, _⟩ => ⟨S4096x1024, .bf16⟩
  | .hbm, ⟨9, _⟩ => ⟨S4096x1024, .f32⟩
  | .hbm, ⟨10, _⟩ => ⟨S4096x1024, .bf16⟩
  | .hbm, ⟨11, _⟩ => ⟨S4096x1024, .bf16⟩
  | .hbm, ⟨12, _⟩ => ⟨S4096x3072, .bf16⟩
  | .hbm, ⟨13, _⟩ => ⟨S4096x512, .bf16⟩
  | .hbm, ⟨14, _⟩ => ⟨S4096x4608, .bf16⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x128, .f32⟩
  | .hbm, ⟨20, _⟩ => ⟨S4096x32, .f32⟩
  | .hbm, ⟨21, _⟩ => ⟨S4096x32, .f32⟩
  | .hbm, ⟨22, _⟩ => ⟨S4096x128, .f32⟩
  | .hbm, ⟨23, _⟩ => ⟨S4096x4608, .bf16⟩
  | .hbm, ⟨24, _⟩ => ⟨S1x128, .f32⟩
  | .hbm, ⟨25, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x1024, .bf16⟩
  | .local _ .vmem, ⟨7, _⟩ => ⟨S256x1024, .bf16⟩
  | .local _ .vmem, ⟨8, _⟩ => ⟨S256x256, .bf16⟩
  | .local _ .vmem, ⟨9, _⟩ => ⟨S256x256, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1x128, .f32⟩
  | .local _ .vmem, ⟨15, _⟩ => ⟨S1x128, .f32⟩
  | .local _ .vmem, ⟨16, _⟩ => ⟨S256x1024, .bf16⟩
  | .local _ .vmem, ⟨17, _⟩ => ⟨S256x1024, .bf16⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S256x4608, .bf16⟩
  | .local _ .vmem, ⟨23, _⟩ => ⟨S256x4608, .bf16⟩
  | .local _ .vmem, ⟨24, _⟩ => ⟨S1x128, .f32⟩
  | .local _ .vmem, ⟨25, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4608 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== QkvRefIdeal.lean ====
abbrev S4096x1024 : Shape := ⟨2, ![4096, 1024]⟩
abbrev S4096x256 : Shape := ⟨2, ![4096, 256]⟩
abbrev S4096x4608 : Shape := ⟨2, ![4096, 4608]⟩
abbrev S4096x32 : Shape := ⟨2, ![4096, 32]⟩
abbrev S1x128 : Shape := ⟨2, ![1, 128]⟩
abbrev S4096x8x128 : Shape := ⟨3, ![4096, 8, 128]⟩
abbrev S128 : Shape := ⟨1, ![128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩
abbrev S4096x8x64 : Shape := ⟨3, ![4096, 8, 64]⟩
abbrev S4096x8x32 : Shape := ⟨3, ![4096, 8, 32]⟩
abbrev S4096x1x32 : Shape := ⟨3, ![4096, 1, 32]⟩
abbrev S4096x2x128 : Shape := ⟨3, ![4096, 2, 128]⟩
abbrev S4096x2 : Shape := ⟨2, ![4096, 2]⟩
abbrev S4096x2x1 : Shape := ⟨3, ![4096, 2, 1]⟩
abbrev S4096x2x64 : Shape := ⟨3, ![4096, 2, 64]⟩
abbrev S4096x2x32 : Shape := ⟨3, ![4096, 2, 32]⟩

abbrev nBuf : Space → Nat
  | .hbm => 274
  | .vmem => 0
  | .smem => 0
  | _ => 0

abbrev hbmTy0_0 (i : Nat) : BufTy := match i % 128 with
  | 0 => ⟨S4096x1024, .f32⟩
  | 1 => ⟨S4096x256, .f32⟩
  | 2 => ⟨S4096x256, .f32⟩
  | 3 => ⟨S4096x4608, .bf16⟩
  | 4 => ⟨S4096x32, .f32⟩
  | 5 => ⟨S4096x32, .f32⟩
  | 6 => ⟨S1x128, .f32⟩
  | 7 => ⟨S1x128, .f32⟩
  | 8 => ⟨S4096x1024, .bf16⟩
  | 9 => ⟨S4096x1024, .f32⟩
  | 10 => ⟨S4096x1024, .bf16⟩
  | 11 => ⟨S4096x4608, .f32⟩
  | 12 => ⟨S4096x1024, .f32⟩
  | 13 => ⟨S4096x256, .f32⟩
  | 14 => ⟨S4096x256, .f32⟩
  | 15 => ⟨S4096x1024, .f32⟩
  | 16 => ⟨S4096x1024, .f32⟩
  | 17 => ⟨S4096x1024, .f32⟩
  | 18 => ⟨S4096x8x128, .f32⟩
  | 19 => ⟨S128, .f32⟩
  | 20 => ⟨S4096x8x128, .f32⟩
  | 21 => ⟨S_, .f32⟩
  | 22 => ⟨S4096x8, .f32⟩
  | 23 => ⟨S4096x8x1, .f32⟩
  | 24 => ⟨S_, .f32⟩
  | 25 => ⟨S4096x8x1, .f32⟩
  | 26 => ⟨S4096x8x1, .f32⟩
  | 27 => ⟨S_, .f32⟩
  | 28 => ⟨S4096x8x1, .f32⟩
  | 29 => ⟨S4096x8x1, .f32⟩
  | 30 => ⟨S4096x8x1, .f32⟩
  | 31 => ⟨S4096x8x1, .f32⟩
  | 32 => ⟨S_, .f32⟩
  | 33 => ⟨S4096x8x1, .f32⟩
  | 34 => ⟨S4096x8x1, .f32⟩
  | 35 => ⟨S4096x8x128, .f32⟩
  | 36 => ⟨S4096x8x128, .f32⟩
  | 37 => ⟨S1x1x128, .f32⟩
  | 38 => ⟨S4096x8x128, .f32⟩
  | 39 => ⟨S4096x8x128, .f32⟩
  | 40 => ⟨S4096x8x64, .f32⟩
  | 41 => ⟨S4096x8x32, .f32⟩
  | 42 => ⟨S4096x8x32, .f32⟩
  | 43 => ⟨S4096x32, .f32⟩
  | 44 => ⟨S4096x1x32, .f32⟩
  | 45 => ⟨S4096x32, .f32⟩
  | 46 => ⟨S4096x1x32, .f32⟩
  | 47 => ⟨S4096x8x32, .f32⟩
  | 48 => ⟨S4096x8x32, .f32⟩
  | 49 => ⟨S4096x8x32, .f32⟩
  | 50 => ⟨S4096x8x32, .f32⟩
  | 51 => ⟨S4096x8x32, .f32⟩
  | 52 => ⟨S4096x8x32, .f32⟩
  | 53 => ⟨S4096x8x32, .f32⟩
  | 54 => ⟨S4096x8x32, .f32⟩
  | 55 => ⟨S4096x8x32, .f32⟩
  | 56 => ⟨S4096x8x32, .f32⟩
  | 57 => ⟨S4096x8x64, .f32⟩
  | 58 => ⟨S4096x8x64, .f32⟩
  | 59 => ⟨S4096x8x32, .f32⟩
  | 60 => ⟨S4096x8x32, .f32⟩
  | 61 => ⟨S4096x32, .f32⟩
  | 62 => ⟨S4096x1x32, .f32⟩
  | 63 => ⟨S4096x32, .f32⟩
  | 64 => ⟨S4096x1x32, .f32⟩
  | 65 => ⟨S4096x8x32, .f32⟩
  | 66 => ⟨S4096x8x32, .f32⟩
  | 67 => ⟨S4096x8x32, .f32⟩
  | 68 => ⟨S4096x8x32, .f32⟩
  | 69 => ⟨S4096x8x32, .f32⟩
  | 70 => ⟨S4096x8x32, .f32⟩
  | 71 => ⟨S4096x8x32, .f32⟩
  | 72 => ⟨S4096x8x32, .f32⟩
  | 73 => ⟨S4096x8x32, .f32⟩
  | 74 => ⟨S4096x8x32, .f32⟩
  | 75 => ⟨S4096x8x64, .f32⟩
  | 76 => ⟨S4096x8x128, .f32⟩
  | 77 => ⟨S_, .f32⟩
  | 78 => ⟨S4096x8x128, .f32⟩
  | 79 => ⟨S4096x8x128, .f32⟩
  | 80 => ⟨S4096x2x128, .f32⟩
  | 81 => ⟨S128, .f32⟩
  | 82 => ⟨S4096x2x128, .f32⟩
  | 83 => ⟨S_, .f32⟩
  | 84 => ⟨S4096x2, .f32⟩
  | 85 => ⟨S4096x2x1, .f32⟩
  | 86 => ⟨S_, .f32⟩
  | 87 => ⟨S4096x2x1, .f32⟩
  | 88 => ⟨S4096x2x1, .f32⟩
  | 89 => ⟨S_, .f32⟩
  | 90 => ⟨S4096x2x1, .f32⟩
  | 91 => ⟨S4096x2x1, .f32⟩
  | 92 => ⟨S4096x2x1, .f32⟩
  | 93 => ⟨S4096x2x1, .f32⟩
  | 94 => ⟨S_, .f32⟩
  | 95 => ⟨S4096x2x1, .f32⟩
  | 96 => ⟨S4096x2x1, .f32⟩
  | 97 => ⟨S4096x2x128, .f32⟩
  | 98 => ⟨S4096x2x128, .f32⟩
  | 99 => ⟨S1x1x128, .f32⟩
  | 100 => ⟨S4096x2x128, .f32⟩
  | 101 => ⟨S4096x2x128, .f32⟩
  | 102 => ⟨S4096x2x64, .f32⟩
  | 103 => ⟨S4096x2x32, .f32⟩
  | 104 => ⟨S4096x2x32, .f32⟩
  | 105 => ⟨S4096x32, .f32⟩
  | 106 => ⟨S4096x1x32, .f32⟩
  | 107 => ⟨S4096x32, .f32⟩
  | 108 => ⟨S4096x1x32, .f32⟩
  | 109 => ⟨S4096x2x32, .f32⟩
  | 110 => ⟨S4096x2x32, .f32⟩
  | 111 => ⟨S4096x2x32, .f32⟩
  | 112 => ⟨S4096x2x32, .f32⟩
  | 113 => ⟨S4096x2x32, .f32⟩
  | 114 => ⟨S4096x2x32, .f32⟩
  | 115 => ⟨S4096x2x32, .f32⟩
  | 116 => ⟨S4096x2x32, .f32⟩
  | 117 => ⟨S4096x2x32, .f32⟩
  | 118 => ⟨S4096x2x32, .f32⟩
  | 119 => ⟨S4096x2x64, .f32⟩
  | 120 => ⟨S4096x2x64, .f32⟩
  | 121 => ⟨S4096x2x32, .f32⟩
  | 122 => ⟨S4096x2x32, .f32⟩
  | 123 => ⟨S4096x32, .f32⟩
  | 124 => ⟨S4096x1x32, .f32⟩
  | 125 => ⟨S4096x32, .f32⟩
  | 126 => ⟨S4096x1x32, .f32⟩
  | 127 => ⟨S4096x2x32, .f32⟩
  | _ => ⟨S4096x1024, .f32⟩

abbrev hbmTy0_1 (i : Nat) : BufTy := match i % 128 with
  | 0 => ⟨S4096x2x32, .f32⟩
  | 1 => ⟨S4096x2x32, .f32⟩
  | 2 => ⟨S4096x2x32, .f32⟩
  | 3 => ⟨S4096x2x32, .f32⟩
  | 4 => ⟨S4096x2x32, .f32⟩
  | 5 => ⟨S4096x2x32, .f32⟩
  | 6 => ⟨S4096x2x32, .f32⟩
  | 7 => ⟨S4096x2x32, .f32⟩
  | 8 => ⟨S4096x2x32, .f32⟩
  | 9 => ⟨S4096x2x64, .f32⟩
  | 10 => ⟨S4096x2x128, .f32⟩
  | 11 => ⟨S4096x1024, .f32⟩
  | 12 => ⟨S4096x256, .f32⟩
  | 13 => ⟨S4096x1024, .f32⟩
  | 14 => ⟨S4096x1024, .f32⟩
  | 15 => ⟨S4096x2x128, .f32⟩
  | 16 => ⟨S4096x8x128, .f32⟩
  | 17 => ⟨S4096x2x64, .f32⟩
  | 18 => ⟨S4096x2x64, .f32⟩
  | 19 => ⟨S4096x2x32, .f32⟩
  | 20 => ⟨S4096x2x32, .f32⟩
  | 21 => ⟨S4096x2x32, .f32⟩
  | 22 => ⟨S4096x2x32, .f32⟩
  | 23 => ⟨S4096x2x32, .f32⟩
  | 24 => ⟨S4096x2x32, .f32⟩
  | 25 => ⟨S4096x2x32, .f32⟩
  | 26 => ⟨S4096x2x32, .f32⟩
  | 27 => ⟨S4096x2x32, .f32⟩
  | 28 => ⟨S4096x2x32, .f32⟩
  | 29 => ⟨S4096x2x32, .f32⟩
  | 30 => ⟨S4096x2x32, .f32⟩
  | 31 => ⟨S4096x2x32, .f32⟩
  | 32 => ⟨S4096x2x64, .f32⟩
  | 33 => ⟨S_, .f32⟩
  | 34 => ⟨S4096x2x128, .f32⟩
  | 35 => ⟨S4096x2x32, .f32⟩
  | 36 => ⟨S4096x2x32, .f32⟩
  | 37 => ⟨S4096x2x32, .f32⟩
  | 38 => ⟨S4096x2x32, .f32⟩
  | 39 => ⟨S4096x2x32, .f32⟩
  | 40 => ⟨S4096x2x32, .f32⟩
  | 41 => ⟨S4096x2x32, .f32⟩
  | 42 => ⟨S4096x2x32, .f32⟩
  | 43 => ⟨S4096x2x32, .f32⟩
  | 44 => ⟨S4096x2x32, .f32⟩
  | 45 => ⟨S4096x2x32, .f32⟩
  | 46 => ⟨S4096x2x32, .f32⟩
  | 47 => ⟨S4096x2x32, .f32⟩
  | 48 => ⟨S4096x2x64, .f32⟩
  | 49 => ⟨S_, .f32⟩
  | 50 => ⟨S4096x2x128, .f32⟩
  | 51 => ⟨S4096x2x128, .f32⟩
  | 52 => ⟨S4096x2x128, .f32⟩
  | 53 => ⟨S_, .f32⟩
  | 54 => ⟨S128, .f32⟩
  | 55 => ⟨S1x1x128, .f32⟩
  | 56 => ⟨S4096x2x128, .f32⟩
  | 57 => ⟨S4096x2x128, .f32⟩
  | 58 => ⟨S_, .f32⟩
  | 59 => ⟨S128, .f32⟩
  | 60 => ⟨S4096x2x128, .f32⟩
  | 61 => ⟨S_, .f32⟩
  | 62 => ⟨S4096x2, .f32⟩
  | 63 => ⟨S4096x2x1, .f32⟩
  | 64 => ⟨S4096x2x128, .f32⟩
  | 65 => ⟨S4096x2x128, .f32⟩
  | 66 => ⟨S4096x2x1, .f32⟩
  | 67 => ⟨S_, .f32⟩
  | 68 => ⟨S4096x2x1, .f32⟩
  | 69 => ⟨S4096x2x1, .f32⟩
  | 70 => ⟨S_, .f32⟩
  | 71 => ⟨S4096x2, .f32⟩
  | 72 => ⟨S4096x2x128, .f32⟩
  | 73 => ⟨S4096x2x128, .f32⟩
  | 74 => ⟨S4096x2x128, .f32⟩
  | 75 => ⟨S4096x2x128, .f32⟩
  | 76 => ⟨S4096x2x128, .f32⟩
  | 77 => ⟨S1x128, .f32⟩
  | 78 => ⟨S4096x256, .f32⟩
  | 79 => ⟨S_, .f32⟩
  | 80 => ⟨S4096x8x128, .f32⟩
  | 81 => ⟨S4096x8x128, .f32⟩
  | 82 => ⟨S4096x8x64, .f32⟩
  | 83 => ⟨S4096x8x64, .f32⟩
  | 84 => ⟨S4096x8x32, .f32⟩
  | 85 => ⟨S4096x8x32, .f32⟩
  | 86 => ⟨S4096x8x32, .f32⟩
  | 87 => ⟨S4096x8x32, .f32⟩
  | 88 => ⟨S4096x8x32, .f32⟩
  | 89 => ⟨S4096x8x32, .f32⟩
  | 90 => ⟨S4096x8x32, .f32⟩
  | 91 => ⟨S4096x8x32, .f32⟩
  | 92 => ⟨S4096x8x32, .f32⟩
  | 93 => ⟨S4096x8x32, .f32⟩
  | 94 => ⟨S4096x8x32, .f32⟩
  | 95 => ⟨S4096x8x32, .f32⟩
  | 96 => ⟨S4096x8x32, .f32⟩
  | 97 => ⟨S4096x8x64, .f32⟩
  | 98 => ⟨S_, .f32⟩
  | 99 => ⟨S4096x8x128, .f32⟩
  | 100 => ⟨S4096x8x32, .f32⟩
  | 101 => ⟨S4096x8x32, .f32⟩
  | 102 => ⟨S4096x8x32, .f32⟩
  | 103 => ⟨S4096x8x32, .f32⟩
  | 104 => ⟨S4096x8x32, .f32⟩
  | 105 => ⟨S4096x8x32, .f32⟩
  | 106 => ⟨S4096x8x32, .f32⟩
  | 107 => ⟨S4096x8x32, .f32⟩
  | 108 => ⟨S4096x8x32, .f32⟩
  | 109 => ⟨S4096x8x32, .f32⟩
  | 110 => ⟨S4096x8x32, .f32⟩
  | 111 => ⟨S4096x8x32, .f32⟩
  | 112 => ⟨S4096x8x32, .f32⟩
  | 113 => ⟨S4096x8x64, .f32⟩
  | 114 => ⟨S_, .f32⟩
  | 115 => ⟨S4096x8x128, .f32⟩
  | 116 => ⟨S4096x8x128, .f32⟩
  | 117 => ⟨S4096x8x128, .f32⟩
  | 118 => ⟨S_, .f32⟩
  | 119 => ⟨S128, .f32⟩
  | 120 => ⟨S1x1x128, .f32⟩
  | 121 => ⟨S4096x8x128, .f32⟩
  | 122 => ⟨S4096x8x128, .f32⟩
  | 123 => ⟨S_, .f32⟩
  | 124 => ⟨S128, .f32⟩
  | 125 => ⟨S4096x8x128, .f32⟩
  | 126 => ⟨S_, .f32⟩
  | 127 => ⟨S4096x8, .f32⟩
  | _ => ⟨S4096x1024, .f32⟩

abbrev hbmTy0_2 (i : Nat) : BufTy := match i % 128 with
  | 0 => ⟨S4096x8x1, .f32⟩
  | 1 => ⟨S4096x8x128, .f32⟩
  | 2 => ⟨S4096x8x128, .f32⟩
  | 3 => ⟨S4096x8x1, .f32⟩
  | 4 => ⟨S_, .f32⟩
  | 5 => ⟨S4096x8x1, .f32⟩
  | 6 => ⟨S4096x8x1, .f32⟩
  | 7 => ⟨S_, .f32⟩
  | 8 => ⟨S4096x8, .f32⟩
  | 9 => ⟨S4096x8x128, .f32⟩
  | 10 => ⟨S4096x8x128, .f32⟩
  | 11 => ⟨S4096x8x128, .f32⟩
  | 12 => ⟨S4096x8x128, .f32⟩
  | 13 => ⟨S4096x8x128, .f32⟩
  | 14 => ⟨S1x128, .f32⟩
  | 15 => ⟨S4096x1024, .f32⟩
  | 16 => ⟨S4096x4608, .f32⟩
  | 17 => ⟨S4096x4608, .bf16⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_3 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_4 : Ref sig .tc := ⟨.hbm, 83, rfl⟩
abbrev main_v67 : Ref sig .tc := ⟨.hbm, 84, rfl⟩
abbrev main_v68 : Ref sig .tc := ⟨.hbm, 85, rfl⟩
abbrev main_cst_5 : Ref sig .tc := ⟨.hbm, 86, rfl⟩
abbrev main_v69 : Ref sig .tc := ⟨.hbm, 87, rfl⟩
abbrev main_v70 : Ref sig .tc := ⟨.hbm, 88, rfl⟩
abbrev main_cst_6 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_7 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_cst_8 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_cst_9 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_cst_10 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_cst_11 : Ref sig .tc := ⟨.hbm, 186, rfl⟩
abbrev main_v163 : Ref sig .tc := ⟨.hbm, 187, rfl⟩
abbrev main_v164 : Ref sig .tc := ⟨.hbm, 188, rfl⟩
abbrev main_cst_12 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_cst_13 : Ref sig .tc := ⟨.hbm, 195, rfl⟩
abbrev main_v170 : Ref sig .tc := ⟨.hbm, 196, rfl⟩
abbrev main_v171 : Ref sig .tc := ⟨.hbm, 197, rfl⟩
abbrev main_cst_14 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_cst_15 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_cst_16 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_cst_17 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_cst_18 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_cst_19 : Ref sig .tc := ⟨.hbm, 251, rfl⟩
abbrev main_v220 : Ref sig .tc := ⟨.hbm, 252, rfl⟩
abbrev main_v221 : Ref sig .tc := ⟨.hbm, 253, rfl⟩
abbrev main_cst_20 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_cst_21 : Ref sig .tc := ⟨.hbm, 260, rfl⟩
abbrev main_v227 : Ref sig .tc := ⟨.hbm, 261, rfl⟩
abbrev main_v228 : Ref sig .tc := ⟨.hbm, 262, rfl⟩
abbrev main_cst_22 : Ref sig .tc := ⟨.hbm, 263, rfl⟩
abbrev main_v229 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩

abbrev nD : Nat := 1
abbrev τ : Topo := Topo.v7x

variable {F : FTy → Type} [FloatOps F]
-- ==== SsmParam.lean ====
abbrev S2x64x64 : Shape := ⟨3, ![2, 64, 64]⟩
abbrev S2x64x64x16 : Shape := ⟨4, ![2, 64, 64, 16]⟩
abbrev S2x64x16x64 : Shape := ⟨4, ![2, 64, 16, 64]⟩
abbrev S1024 : Shape := ⟨1, ![1024]⟩
abbrev S2x64 : Shape := ⟨2, ![2, 64]⟩
abbrev S8x1x1x128 : Shape := ⟨4, ![8, 1, 1, 128]⟩
abbrev S_ : Shape := ⟨0, ![]⟩
abbrev S8x2x1x512 : Shape := ⟨4, ![8, 2, 1, 512]⟩
abbrev S2x8x8x16x64 : Shape := ⟨5, ![2, 8, 8, 16, 64]⟩
abbrev S8x2x16x8x64 : Shape := ⟨5, ![8, 2, 16, 8, 64]⟩
abbrev S8x2x16x512 : Shape := ⟨4, ![8, 2, 16, 512]⟩
abbrev S2x8x1x512 : Shape := ⟨4, ![2, 8, 1, 512]⟩
abbrev S8x2x5x512 : Shape := ⟨4, ![8, 2, 5, 512]⟩
abbrev S8x2x72x512 : Shape := ⟨4, ![8, 2, 72, 512]⟩
abbrev S2x64x1 : Shape := ⟨3, ![2, 64, 1]⟩
abbrev S1x1024 : Shape := ⟨2, ![1, 1024]⟩
abbrev S1x2x72x512 : Shape := ⟨4, ![1, 2, 72, 512]⟩
abbrev S2x8x64 : Shape := ⟨3, ![2, 8, 64]⟩
abbrev S2x8x1 : Shape := ⟨3, ![2, 8, 1]⟩
abbrev S2x8x16x64 : Shape := ⟨4, ![2, 8, 16, 64]⟩
abbrev S1x128 : Shape := ⟨2, ![1, 128]⟩
abbrev S1x1x1x128 : Shape := ⟨4, ![1, 1, 1, 128]⟩
abbrev S1x8x64 : Shape := ⟨3, ![1, 8, 64]⟩
abbrev S8x64 : Shape := ⟨2, ![8, 64]⟩
abbrev S1x8x1 : Shape := ⟨3, ![1, 8, 1]⟩
abbrev S8x1 : Shape := ⟨2, ![8, 1]⟩
abbrev S1x1x16x64 : Shape := ⟨4, ![1, 1, 16, 64]⟩
abbrev S16x64 : Shape := ⟨2, ![16, 64]⟩
abbrev S1x64 : Shape := ⟨2, ![1, 64]⟩
abbrev S64 : Shape := ⟨1, ![64]⟩
abbrev S1x1x1x64 : Shape := ⟨4, ![1, 1, 1, 64]⟩
abbrev S8 : Shape := ⟨1, ![8]⟩

abbrev nBuf : Space → Nat
  | .hbm => 48
  | .vmem => 28
  | .smem => 0
  | _ => 0

abbrev bufTy : (tb : Table) → Fin (tcTables nBuf tb) → BufTy
  | .hbm, ⟨0, _⟩ => ⟨S2x64x64, .f32⟩
  | .hbm, ⟨1, _⟩ => ⟨S2x64x64, .f32⟩
  | .hbm, ⟨2, _⟩ => ⟨S2x64x64x16, .f32⟩
  | .hbm, ⟨3, _⟩ => ⟨S2x64x64x16, .f32⟩
  | .hbm, ⟨4, _⟩ => ⟨S2x64x16x64, .f32⟩
  | .hbm, ⟨5, _⟩ => ⟨S2x64x16x64, .f32⟩
  | .hbm, ⟨6, _⟩ => ⟨S1024, .f32⟩
  | .hbm, ⟨7, _⟩ => ⟨S2x64x64, .f32⟩
  | .hbm, ⟨8, _⟩ => ⟨S2x64x64, .f32⟩
  | .hbm, ⟨9, _⟩ => ⟨S2x64, .f32⟩
  | .hbm, ⟨10, _⟩ => ⟨S2x64x64x16, .f32⟩
  | .hbm, ⟨11, _⟩ => ⟨S2x64x64x16, .f32⟩
  | .hbm, ⟨12, _⟩ => ⟨S8x1x1x128, .f32⟩
  | .hbm, ⟨13, _⟩ => ⟨S_, .i32⟩
  | .hbm, ⟨14, _⟩ => ⟨S_, .f32⟩
  | .hbm, ⟨15, _⟩ => ⟨S8x2x1x512, .f32⟩
  | .hbm, ⟨16, _⟩ => ⟨S2x64x16x64, .f32⟩
  | .hbm, ⟨17, _⟩ => ⟨S2x8x8x16x64, .f32⟩
  | .hbm, ⟨18, _⟩ => ⟨S8x2x16x8x64, .f32⟩
  | .hbm, ⟨19, _⟩ => ⟨S8x2x16x512, .f32⟩
  | .hbm, ⟨20, _⟩ => ⟨S2x64x16x64, .f32⟩
  | .hbm, ⟨21, _⟩ => ⟨S2x8x8x16x64, .f32⟩
  | .hbm, ⟨22, _⟩ => ⟨S8x2x16x8x64, .f32⟩
  | .hbm, ⟨23, _⟩ => ⟨S8x2x16x512, .f32⟩
  | .hbm, ⟨24, _⟩ => ⟨S2x8x8x16x64, .f32⟩
  | .hbm, ⟨25, _⟩ => ⟨S8x2x16x8x64, .f32⟩
  | .hbm, ⟨26, _⟩ => ⟨S8x2x16x512, .f32⟩
  | .hbm, ⟨27, _⟩ => ⟨S2x8x8x16x64, .f32⟩
  | .hbm, ⟨28, _⟩ => ⟨S8x2x16x8x64, .f32⟩
  | .hbm, ⟨29, _⟩ => ⟨S8x2x16x512, .f32⟩
  | .hbm, ⟨30, _⟩ => ⟨S2x8x1x512, .f32⟩
  | .hbm, ⟨31, _⟩ => ⟨S8x2x1x512, .f32⟩
  | .hbm, ⟨32, _⟩ => ⟨S2x8x1x512, .f32⟩
  | .hbm, ⟨33, _⟩ => ⟨S8x2x1x512, .f32⟩
  | .hbm, ⟨34, _⟩ => ⟨S_, .f32⟩
  | .hbm, ⟨35, _⟩ => ⟨S8x2x5x512, .f32⟩
  | .hbm, ⟨36, _⟩ => ⟨S8x2x72x512, .f32⟩
  | .hbm, ⟨37, _⟩ => ⟨S2x64x1, .f32⟩
  | .hbm, ⟨38, _⟩ => ⟨S2x64x16x64, .f32⟩
  | .hbm, ⟨39, _⟩ => ⟨S2x64x16x64, .f32⟩
  | .hbm, ⟨40, _⟩ => ⟨S2x64x16x64, .f32⟩
  | .hbm, ⟨41, _⟩ => ⟨S2x64x16x64, .f32⟩
  | .hbm, ⟨42, _⟩ => ⟨S2x64x16x64, .f32⟩
  | .hbm, ⟨43, _⟩ => ⟨S2x64x16x64, .f32⟩
  | .hbm, ⟨44, _⟩ => ⟨S2x64x64, .f32⟩
  | .hbm, ⟨45, _⟩ => ⟨S2x64x64, .f32⟩
  | .hbm, ⟨46, _⟩ => ⟨S2x64x1, .f32⟩
  | .hbm, ⟨47, _⟩ => ⟨S1x1024, .f32⟩
  | .local _ .vmem, ⟨0, _⟩ => ⟨S1x2x72x512, .f32⟩
  | .local _ .vmem, ⟨1, _⟩ => ⟨S1x2x72x512, .f32⟩
  | .local _ .vmem, ⟨2, _⟩ => ⟨S2x8x64, .f32⟩
  | .local _ .vmem, ⟨3, _⟩ => ⟨S2x8x64, .f32⟩
  | .local _ .vmem, ⟨4, _⟩ => ⟨S2x8x64, .f32⟩
  | .local _ .vmem, ⟨5, _⟩ => ⟨S2x8x64, .f32⟩
  | .local _ .vmem, ⟨6, _⟩ => ⟨S2x8x1, .f32⟩
  | .local _ .vmem, ⟨7, _⟩ => ⟨S2x8x1, .f32⟩
  | .local _ .vmem, ⟨8, _⟩ => ⟨S2x8x16x64, .f32⟩
  | .local _ .vmem, ⟨9, _⟩ => ⟨S2x8x16x64, .f32⟩
  | .local _ .vmem, ⟨10, _⟩ => ⟨S2x8x16x64, .f32⟩
  | .local _ .vmem, ⟨11, _⟩ => ⟨S2x8x16x64, .f32⟩
  | .local _ .vmem, ⟨12, _⟩ => ⟨S2x8x16x64, .f32⟩
  | .local _ .vmem, ⟨13, _⟩ => ⟨S2x8x16x64, .f32⟩
  | .local _ .vmem, ⟨14, _⟩ => ⟨S2x8x16x64, .f32⟩
  | .local _ .vmem, ⟨15, _⟩ => ⟨S2x8x16x64, .f32⟩
  | .local _ .vmem, ⟨16, _⟩ => ⟨S2x8x16x64, .f32⟩
  | .local _ .vmem, ⟨17, _⟩ => ⟨S2x8x16x64, .f32⟩
  | .local _ .vmem, ⟨18, _⟩ => ⟨S2x8x16x64, .f32⟩
  | .local _ .vmem, ⟨19, _⟩ => ⟨S2x8x16x64, .f32⟩
  | .local _ .vmem, ⟨20, _⟩ => ⟨S2x8x64, .f32⟩
  | .local _ .vmem, ⟨21, _⟩ => ⟨S2x8x64, .f32⟩
  | .local _ .vmem, ⟨22, _⟩ => ⟨S2x8x64, .f32⟩
  | .local _ .vmem, ⟨23, _⟩ => ⟨S2x8x64, .f32⟩
  | .local _ .vmem, ⟨24, _⟩ => ⟨S2x8x1, .f32⟩
  | .local _ .vmem, ⟨25, _⟩ => ⟨S2x8x1, .f32⟩
  | .local _ .vmem, ⟨26, _⟩ => ⟨S1x128, .f32⟩
  | .local _ .vmem, ⟨27, _⟩ => ⟨S1x128, .f32⟩
  | _, _ => ⟨S2x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25_0 : Ref sig .tc := ⟨.hbm, 40, rfl⟩
abbrev main_v25_1 : Ref sig .tc := ⟨.hbm, 41, rfl⟩
abbrev main_v25_2 : Ref sig .tc := ⟨.hbm, 42, rfl⟩
abbrev main_v25_3 : Ref sig .tc := ⟨.hbm, 43, rfl⟩
abbrev main_v25_4 : Ref sig .tc := ⟨.hbm, 44, rfl⟩
abbrev main_v25_5 : Ref sig .tc := ⟨.hbm, 45, rfl⟩
abbrev main_v25_6 : Ref sig .tc := ⟨.hbm, 46, rfl⟩
abbrev main_v25_7 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2x72x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x8x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x8x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x8x16x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x8x16x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x8x16x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x8x16x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x8x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x8x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x8x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== SsmParamRefIdeal.lean ====
abbrev S2x64x64 : Shape := ⟨3, ![2, 64, 64]⟩
abbrev S2x64x64x16 : Shape := ⟨4, ![2, 64, 64, 16]⟩
abbrev S2x64x16x64 : Shape := ⟨4, ![2, 64, 16, 64]⟩
abbrev S1024 : Shape := ⟨1, ![1024]⟩
abbrev S2x64 : Shape := ⟨2, ![2, 64]⟩
abbrev S_ : Shape := ⟨0, ![]⟩
abbrev S2x64x1 : Shape := ⟨3, ![2, 64, 1]⟩
abbrev S2x64x64x1 : Shape := ⟨4, ![2, 64, 64, 1]⟩
abbrev S1x1024 : Shape := ⟨2, ![1, 1024]⟩

abbrev nBuf : Space → Nat
  | .hbm => 189
  | .vmem => 0
  | .smem => 0
  | _ => 0

abbrev hbmTy0_0 (i : Nat) : BufTy := match i % 128 with
  | 0 => ⟨S2x64x64, .f32⟩
  | 1 => ⟨S2x64x64, .f32⟩
  | 2 => ⟨S2x64x64x16, .f32⟩
  | 3 => ⟨S2x64x64x16, .f32⟩
  | 4 => ⟨S2x64x16x64, .f32⟩
  | 5 => ⟨S2x64x16x64, .f32⟩
  | 6 => ⟨S1024, .f32⟩
  | 7 => ⟨S2x64x64, .f32⟩
  | 8 => ⟨S2x64x64, .f32⟩
  | 9 => ⟨S2x64, .f32⟩
  | 10 => ⟨S2x64x64x16, .f32⟩
  | 11 => ⟨S2x64x64x16, .f32⟩
  | 12 => ⟨S_, .f32⟩
  | 13 => ⟨S2x64x64, .f32⟩
  | 14 => ⟨S2x64x64, .f32⟩
  | 15 => ⟨S_, .f32⟩
  | 16 => ⟨S2x64x64, .f32⟩
  | 17 => ⟨S2x64x64, .i1⟩
  | 18 => ⟨S_, .f32⟩
  | 19 => ⟨S2x64x64, .f32⟩
  | 20 => ⟨S2x64x64, .i1⟩
  | 21 => ⟨S_, .f32⟩
  | 22 => ⟨S2x64x64, .f32⟩
  | 23 => ⟨S_, .f32⟩
  | 24 => ⟨S2x64x64, .f32⟩
  | 25 => ⟨S_, .f32⟩
  | 26 => ⟨S2x64x64, .f32⟩
  | 27 => ⟨S2x64x64, .f32⟩
  | 28 => ⟨S2x64x64, .f32⟩
  | 29 => ⟨S2x64, .f32⟩
  | 30 => ⟨S2x64x1, .f32⟩
  | 31 => ⟨S2x64x64, .f32⟩
  | 32 => ⟨S2x64x64, .f32⟩
  | 33 => ⟨S2x64x64, .f32⟩
  | 34 => ⟨S2x64x64, .f32⟩
  | 35 => ⟨S2x64x64, .f32⟩
  | 36 => ⟨S2x64x64, .f32⟩
  | 37 => ⟨S2x64x64, .f32⟩
  | 38 => ⟨S2x64x64, .f32⟩
  | 39 => ⟨S2x64x64, .f32⟩
  | 40 => ⟨S2x64x64, .f32⟩
  | 41 => ⟨S2x64x64, .f32⟩
  | 42 => ⟨S2x64x64, .f32⟩
  | 43 => ⟨S2x64x64, .f32⟩
  | 44 => ⟨S2x64x64, .f32⟩
  | 45 => ⟨S2x64x64, .f32⟩
  | 46 => ⟨S2x64x64, .f32⟩
  | 47 => ⟨S_, .f32⟩
  | 48 => ⟨S2x64x64, .f32⟩
  | 49 => ⟨S2x64x64, .f32⟩
  | 50 => ⟨S2x64x64, .f32⟩
  | 51 => ⟨S2x64x64, .f32⟩
  | 52 => ⟨S2x64x64, .f32⟩
  | 53 => ⟨S2x64x64, .f32⟩
  | 54 => ⟨S2x64x64, .f32⟩
  | 55 => ⟨S_, .f32⟩
  | 56 => ⟨S2x64x64, .f32⟩
  | 57 => ⟨S2x64x64, .f32⟩
  | 58 => ⟨S2x64x64, .f32⟩
  | 59 => ⟨S_, .f32⟩
  | 60 => ⟨S2x64x64, .f32⟩
  | 61 => ⟨S2x64x64, .f32⟩
  | 62 => ⟨S2x64x64, .f32⟩
  | 63 => ⟨S2x64x64, .f32⟩
  | 64 => ⟨S2x64x64, .f32⟩
  | 65 => ⟨S2x64x64, .f32⟩
  | 66 => ⟨S_, .f32⟩
  | 67 => ⟨S2x64x64, .f32⟩
  | 68 => ⟨S2x64x64, .f32⟩
  | 69 => ⟨S2x64x64x1, .f32⟩
  | 70 => ⟨S2x64x64x1, .f32⟩
  | 71 => ⟨S2x64x64x16, .f32⟩
  | 72 => ⟨S2x64x64x16, .f32⟩
  | 73 => ⟨S2x64x64x16, .f32⟩
  | 74 => ⟨S2x64x64x16, .f32⟩
  | 75 => ⟨S2x64x64x16, .f32⟩
  | 76 => ⟨S2x64x64x16, .f32⟩
  | 77 => ⟨S2x64x64x16, .f32⟩
  | 78 => ⟨S2x64x64x16, .f32⟩
  | 79 => ⟨S2x64x64x16, .f32⟩
  | 80 => ⟨S2x64x64x16, .f32⟩
  | 81 => ⟨S2x64x64x16, .f32⟩
  | 82 => ⟨S2x64x64x16, .f32⟩
  | 83 => ⟨S2x64x64x16, .f32⟩
  | 84 => ⟨S2x64x64x16, .f32⟩
  | 85 => ⟨S2x64x64x16, .f32⟩
  | 86 => ⟨S_, .f32⟩
  | 87 => ⟨S2x64x64, .f32⟩
  | 88 => ⟨S2x64x64x1, .f32⟩
  | 89 => ⟨S2x64x64x16, .f32⟩
  | 90 => ⟨S2x64x64x16, .f32⟩
  | 91 => ⟨S2x64x64x16, .f32⟩
  | 92 => ⟨S_, .f32⟩
  | 93 => ⟨S2x64x64, .f32⟩
  | 94 => ⟨S2x64x64x1, .f32⟩
  | 95 => ⟨S2x64x64x16, .f32⟩
  | 96 => ⟨S2x64x64x16, .f32⟩
  | 97 => ⟨S2x64x64x16, .f32⟩
  | 98 => ⟨S2x64x64x16, .f32⟩
  | 99 => ⟨S2x64x64x16, .f32⟩
  | 100 => ⟨S2x64x64x16, .f32⟩
  | 101 => ⟨S_, .f32⟩
  | 102 => ⟨S2x64x64, .f32⟩
  | 103 => ⟨S2x64x64x1, .f32⟩
  | 104 => ⟨S2x64x64x1, .f32⟩
  | 105 => ⟨S2x64x64x16, .f32⟩
  | 106 => ⟨S2x64x64x16, .f32⟩
  | 107 => ⟨S2x64x64x16, .f32⟩
  | 108 => ⟨S2x64x64x16, .f32⟩
  | 109 => ⟨S_, .f32⟩
  | 110 => ⟨S2x64x64, .f32⟩
  | 111 => ⟨S2x64x64x1, .f32⟩
  | 112 => ⟨S2x64x64x1, .f32⟩
  | 113 => ⟨S_, .f32⟩
  | 114 => ⟨S2x64x64, .f32⟩
  | 115 => ⟨S_, .f32⟩
  | 116 => ⟨S2x64x64, .f32⟩
  | 117 => ⟨S2x64x64, .f32⟩
  | 118 => ⟨S2x64x64, .f32⟩
  | 119 => ⟨S2x64x64, .f32⟩
  | 120 => ⟨S2x64x64, .f32⟩
  | 121 => ⟨S2x64x64, .f32⟩
  | 122 => ⟨S2x64x64, .f32⟩
  | 123 => ⟨S2x64x64, .f32⟩
  | 124 => ⟨S2x64x64, .f32⟩
  | 125 => ⟨S2x64x64, .f32⟩
  | 126 => ⟨S2x64x64, .f32⟩
  | 127 => ⟨S2x64x64, .f32⟩
  | _ => ⟨S2x64x64, .f32⟩

abbrev hbmTy0_1 (i : Nat) : BufTy := match i % 128 with
  | 0 => ⟨S2x64x64, .f32⟩
  | 1 => ⟨S2x64x64, .f32⟩
  | 2 => ⟨S2x64x64, .f32⟩
  | 3 => ⟨S2x64x64, .f32⟩
  | 4 => ⟨S2x64x64, .f32⟩
  | 5 => ⟨S2x64x64, .f32⟩
  | 6 => ⟨S2x64x64, .f32⟩
  | 7 => ⟨S2x64x64, .f32⟩
  | 8 => ⟨S2x64x64, .f32⟩
  | 9 => ⟨S2x64x64, .f32⟩
  | 10 => ⟨S2x64x64, .f32⟩
  | 11 => ⟨S2x64x64, .f32⟩
  | 12 => ⟨S2x64x64, .f32⟩
  | 13 => ⟨S2x64x64, .f32⟩
  | 14 => ⟨S2x64x64, .f32⟩
  | 15 => ⟨S2x64x64, .f32⟩
  | 16 => ⟨S2x64x64, .f32⟩
  | 17 => ⟨S2x64x64, .f32⟩
  | 18 => ⟨S2x64x64, .f32⟩
  | 19 => ⟨S2x64x64, .f32⟩
  | 20 => ⟨S2x64x64, .f32⟩
  | 21 => ⟨S2x64x64, .f32⟩
  | 22 => ⟨S2x64x64, .f32⟩
  | 23 => ⟨S2x64x64, .f32⟩
  | 24 => ⟨S2x64x64, .f32⟩
  | 25 => ⟨S_, .f32⟩
  | 26 => ⟨S2x64, .f32⟩
  | 27 => ⟨S2x64x1, .f32⟩
  | 28 => ⟨S2x64x64, .f32⟩
  | 29 => ⟨S2x64x64, .f32⟩
  | 30 => ⟨S2x64x64, .f32⟩
  | 31 => ⟨S2x64x64, .f32⟩
  | 32 => ⟨S2x64x64, .f32⟩
  | 33 => ⟨S2x64x64, .f32⟩
  | 34 => ⟨S2x64x64, .f32⟩
  | 35 => ⟨S2x64x64, .f32⟩
  | 36 => ⟨S2x64x64, .f32⟩
  | 37 => ⟨S_, .f32⟩
  | 38 => ⟨S2x64, .f32⟩
  | 39 => ⟨S2x64x1, .f32⟩
  | 40 => ⟨S2x64x1, .f32⟩
  | 41 => ⟨S2x64x64, .f32⟩
  | 42 => ⟨S2x64x64, .f32⟩
  | 43 => ⟨S2x64x64, .f32⟩
  | 44 => ⟨S2x64x64, .f32⟩
  | 45 => ⟨S2x64x64, .f32⟩
  | 46 => ⟨S_, .f32⟩
  | 47 => ⟨S2x64, .f32⟩
  | 48 => ⟨S2x64x1, .f32⟩
  | 49 => ⟨S2x64x1, .f32⟩
  | 50 => ⟨S2x64x64, .f32⟩
  | 51 => ⟨S2x64x64, .f32⟩
  | 52 => ⟨S2x64x64, .f32⟩
  | 53 => ⟨S_, .f32⟩
  | 54 => ⟨S2x64, .f32⟩
  | 55 => ⟨S2x64, .f32⟩
  | 56 => ⟨S2x64x64, .f32⟩
  | 57 => ⟨S2x64x16x64, .f32⟩
  | 58 => ⟨S2x64x16x64, .f32⟩
  | 59 => ⟨S2x64x1, .f32⟩
  | 60 => ⟨S1x1024, .f32⟩
  | _ => ⟨S2x64x64, .f32⟩

abbrev hbmTy (i : Nat) : BufTy := match i / 128 with
  | 0 => hbmTy0_0 i
  | 1 => hbmTy0_1 i
  | _ => ⟨S2x64x64, .f32⟩

abbrev bufTy : (tb : Table) → Fin (tcTables nBuf tb) → BufTy
  | .hbm, ⟨i, _⟩ => hbmTy i
  | _, _ => ⟨S2x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_cst_3 : Ref sig .tc := ⟨.hbm, 23, rfl⟩
abbrev main_v7 : Ref sig .tc := ⟨.hbm, 24, rfl⟩
abbrev main_cst_4 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_9 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_10 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_11 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_12 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_13 : Ref sig .tc := ⟨.hbm, 113, rfl⟩
abbrev main_v87 : Ref sig .tc := ⟨.hbm, 114, rfl⟩
abbrev main_cst_14 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_cst_15 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_cst_16 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_cst_17 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_cst_18 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩

abbrev nD : Nat := 1
abbrev τ : Topo := Topo.v7x

variable {F : FTy → Type} [FloatOps F]
-- ==== NormIn.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== MixFwd.lean ====
abbrev S4096x1024 : Shape := ⟨2, ![4096, 1024]⟩
abbrev S1024x2048 : Shape := ⟨2, ![1024, 2048]⟩
abbrev S4096x4608 : Shape := ⟨2, ![4096, 4608]⟩
abbrev S1x2048 : Shape := ⟨2, ![1, 2048]⟩
abbrev S4096x3072 : Shape := ⟨2, ![4096, 3072]⟩
abbrev S4096x512 : Shape := ⟨2, ![4096, 512]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 12
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024x2048, .bf16⟩
  | .hbm, ⟨2, _⟩ => ⟨S4096x1024, .bf16⟩
  | .hbm, ⟨3, _⟩ => ⟨S4096x4608, .bf16⟩
  | .hbm, ⟨4, _⟩ => ⟨S1x2048, .f32⟩
  | .hbm, ⟨5, _⟩ => ⟨S4096x1024, .bf16⟩
  | .hbm, ⟨6, _⟩ => ⟨S4096x3072, .bf16⟩
  | .hbm, ⟨7, _⟩ => ⟨S4096x512, .bf16⟩
  | .hbm, ⟨8, _⟩ => ⟨S4096x4608, .bf16⟩
  | .hbm, ⟨9, _⟩ => ⟨S4096x1024, .bf16⟩
  | .hbm, ⟨10, _⟩ => ⟨S4096x2048, .bf16⟩
  | .hbm, ⟨11, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1x2048, .f32⟩
  | .local _ .vmem, ⟨10, _⟩ => ⟨S512x1024, .bf16⟩
  | .local _ .vmem, ⟨11, _⟩ => ⟨S512x1024, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixFwdRefIdeal.lean ====
abbrev S4096x1024 : Shape := ⟨2, ![4096, 1024]⟩
abbrev S1024x2048 : Shape := ⟨2, ![1024, 2048]⟩
abbrev S4096x4608 : Shape := ⟨2, ![4096, 4608]⟩
abbrev S1x2048 : Shape := ⟨2, ![1, 2048]⟩
abbrev S4096x256 : Shape := ⟨2, ![4096, 256]⟩
abbrev S_ : Shape := ⟨0, ![]⟩
abbrev S4096x2048 : Shape := ⟨2, ![4096, 2048]⟩
abbrev S2048 : Shape := ⟨1, ![2048]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .bf16⟩
  | .hbm, ⟨2, _⟩ => ⟨S4096x1024, .bf16⟩
  | .hbm, ⟨3, _⟩ => ⟨S4096x4608, .bf16⟩
  | .hbm, ⟨4, _⟩ => ⟨S1x2048, .f32⟩
  | .hbm, ⟨5, _⟩ => ⟨S4096x4608, .f32⟩
  | .hbm, ⟨6, _⟩ => ⟨S4096x1024, .f32⟩
  | .hbm, ⟨7, _⟩ => ⟨S4096x256, .f32⟩
  | .hbm, ⟨8, _⟩ => ⟨S4096x256, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S1024x2048, .f32⟩
  | .hbm, ⟨41, _⟩ => ⟨S4096x2048, .f32⟩
  | .hbm, ⟨42, _⟩ => ⟨S2048, .f32⟩
  | .hbm, ⟨43, _⟩ => ⟨S1x2048, .f32⟩
  | .hbm, ⟨44, _⟩ => ⟨S4096x2048, .f32⟩
  | .hbm, ⟨45, _⟩ => ⟨S4096x2048, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .bf16⟩
  | .hbm, ⟨68, _⟩ => ⟨S4096x2048, .bf16⟩
  | .hbm, ⟨69, _⟩ => ⟨S4096x2048, .f32⟩
  | .hbm, ⟨70, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S4096x2048 : Shape := ⟨2, ![4096, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== QkvPrep.lean ====
abbrev S4096x4608 : Shape := ⟨2, ![4096, 4608]⟩
abbrev S4096x32 : Shape := ⟨2, ![4096, 32]⟩
abbrev S1x128 : Shape := ⟨2, ![1, 128]⟩
abbrev S4096x1024 : Shape := ⟨2, ![4096, 1024]⟩
abbrev S4096x3072 : Shape := ⟨2, ![4096, 3072]⟩
abbrev S4096x512 : Shape := ⟨2, ![4096, 512]⟩
abbrev S4096x128 : Shape := ⟨2, ![4096, 128]⟩
abbrev S4096x256 : Shape := ⟨2, ![4096, 256]⟩
abbrev S256x4096 : Shape := ⟨2, ![256, 4096]⟩
abbrev S512x1024 : Shape := ⟨2, ![512, 1024]⟩
abbrev S512x256 : Shape := ⟨2, ![512, 256]⟩
abbrev S512x128 : Shape := ⟨2, ![512, 128]⟩
abbrev S256x512 : Shape := ⟨2, ![256, 512]⟩
abbrev S512 : Shape := ⟨1, ![512]⟩
abbrev S512x1 : Shape := ⟨2, ![512, 1]⟩
abbrev S128x512 : Shape := ⟨2, ![128, 512]⟩

abbrev nBuf : Space → Nat
  | .hbm => 21
  | .vmem => 20
  | .smem => 0
  | _ => 0

abbrev bufTy : (tb : Table) → Fin (tcTables nBuf tb) → BufTy
  | .hbm, ⟨0, _⟩ => ⟨S4096x4608, .bf16⟩
  | .hbm, ⟨1, _⟩ => ⟨S4096x32, .f32⟩
  | .hbm, ⟨2, _⟩ => ⟨S4096x32, .f32⟩
  | .hbm, ⟨3, _⟩ => ⟨S1x128, .f32⟩
  | .hbm, ⟨4, _⟩ => ⟨S1x128, .f32⟩
  | .hbm, ⟨5, _⟩ => ⟨S4096x1024, .bf16⟩
  | .hbm, ⟨6, _⟩ => ⟨S4096x3072, .bf16⟩
  | .hbm, ⟨7, _⟩ => ⟨S4096x512, .bf16⟩
  | .hbm, ⟨8, _⟩ => ⟨S4096x4608, .bf16⟩
  | .hbm, ⟨9, _⟩ => ⟨S4096x32, .f32⟩
  | .hbm, ⟨10, _⟩ => ⟨S4096x32, .f32⟩
  | .hbm, ⟨11, _⟩ => ⟨S4096x32, .f32⟩
  | .hbm, ⟨12, _⟩ => ⟨S4096x32, .f32⟩
  | .hbm, ⟨13, _⟩ => ⟨S4096x128, .f32⟩
  | .hbm, ⟨14, _⟩ => ⟨S4096x32, .f32⟩
  | .hbm, ⟨15, _⟩ => ⟨S4096x32, .f32⟩
  | .hbm, ⟨16, _⟩ => ⟨S4096x128, .f32⟩
  | .hbm, ⟨17, _⟩ => ⟨S4096x1024, .bf16⟩
  | .hbm, ⟨18, _⟩ => ⟨S4096x256, .bf16⟩
  | .hbm, ⟨19, _⟩ => ⟨S4096x256, .bf16⟩
  | .hbm, ⟨20, _⟩ => ⟨S256x4096, .bf16⟩
  | .local _ .vmem, ⟨0, _⟩ => ⟨S512x1024, .bf16⟩
  | .local _ .vmem, ⟨1, _⟩ => ⟨S512x1024, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x128, .f32⟩
  | .local _ .vmem, ⟨11, _⟩ => ⟨S1x128, .f32⟩
  | .local _ .vmem, ⟨12, _⟩ => ⟨S512x1024, .bf16⟩
  | .local _ .vmem, ⟨13, _⟩ => ⟨S512x1024, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S256x512, .bf16⟩
  | .local _ .vmem, ⟨19, _⟩ => ⟨S256x512, .bf16⟩
  | _, _ => ⟨S4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_2 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PrepRefIdeal.lean ====
abbrev S4096x4608 : Shape := ⟨2, ![4096, 4608]⟩
abbrev S4096x32 : Shape := ⟨2, ![4096, 32]⟩
abbrev S1x128 : Shape := ⟨2, ![1, 128]⟩
abbrev S4096x1024 : Shape := ⟨2, ![4096, 1024]⟩
abbrev S4096x256 : Shape := ⟨2, ![4096, 256]⟩
abbrev S4096x8x128 : Shape := ⟨3, ![4096, 8, 128]⟩
abbrev S128 : Shape := ⟨1, ![128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩
abbrev S4096x8x64 : Shape := ⟨3, ![4096, 8, 64]⟩
abbrev S4096x8x32 : Shape := ⟨3, ![4096, 8, 32]⟩
abbrev S4096x1x32 : Shape := ⟨3, ![4096, 1, 32]⟩
abbrev S4096x2x128 : Shape := ⟨3, ![4096, 2, 128]⟩
abbrev S4096x2 : Shape := ⟨2, ![4096, 2]⟩
abbrev S4096x2x1 : Shape := ⟨3, ![4096, 2, 1]⟩
abbrev S4096x2x64 : Shape := ⟨3, ![4096, 2, 64]⟩
abbrev S4096x2x32 : Shape := ⟨3, ![4096, 2, 32]⟩
abbrev S256x4096 : Shape := ⟨2, ![256, 4096]⟩

abbrev nBuf : Space → Nat
  | .hbm => 132
  | .vmem => 0
  | .smem => 0
  | _ => 0

abbrev hbmTy0_0 (i : Nat) : BufTy := match i % 128 with
  | 0 => ⟨S4096x4608, .bf16⟩
  | 1 => ⟨S4096x32, .f32⟩
  | 2 => ⟨S4096x32, .f32⟩
  | 3 => ⟨S1x128, .f32⟩
  | 4 => ⟨S1x128, .f32⟩
  | 5 => ⟨S4096x4608, .f32⟩
  | 6 => ⟨S4096x1024, .f32⟩
  | 7 => ⟨S4096x256, .f32⟩
  | 8 => ⟨S4096x256, .f32⟩
  | 9 => ⟨S4096x1024, .f32⟩
  | 10 => ⟨S4096x1024, .f32⟩
  | 11 => ⟨S4096x1024, .f32⟩
  | 12 => ⟨S4096x8x128, .f32⟩
  | 13 => ⟨S128, .f32⟩
  | 14 => ⟨S4096x8x128, .f32⟩
  | 15 => ⟨S_, .f32⟩
  | 16 => ⟨S4096x8, .f32⟩
  | 17 => ⟨S4096x8x1, .f32⟩
  | 18 => ⟨S_, .f32⟩
  | 19 => ⟨S4096x8x1, .f32⟩
  | 20 => ⟨S4096x8x1, .f32⟩
  | 21 => ⟨S_, .f32⟩
  | 22 => ⟨S4096x8x1, .f32⟩
  | 23 => ⟨S4096x8x1, .f32⟩
  | 24 => ⟨S4096x8x1, .f32⟩
  | 25 => ⟨S4096x8x128, .f32⟩
  | 26 => ⟨S4096x8x128, .f32⟩
  | 27 => ⟨S1x1x128, .f32⟩
  | 28 => ⟨S4096x8x128, .f32⟩
  | 29 => ⟨S4096x8x128, .f32⟩
  | 30 => ⟨S4096x8x64, .f32⟩
  | 31 => ⟨S4096x8x32, .f32⟩
  | 32 => ⟨S4096x8x32, .f32⟩
  | 33 => ⟨S4096x32, .f32⟩
  | 34 => ⟨S4096x1x32, .f32⟩
  | 35 => ⟨S4096x32, .f32⟩
  | 36 => ⟨S4096x1x32, .f32⟩
  | 37 => ⟨S4096x8x32, .f32⟩
  | 38 => ⟨S4096x8x32, .f32⟩
  | 39 => ⟨S4096x8x32, .f32⟩
  | 40 => ⟨S4096x8x32, .f32⟩
  | 41 => ⟨S4096x8x32, .f32⟩
  | 42 => ⟨S4096x8x32, .f32⟩
  | 43 => ⟨S4096x8x32, .f32⟩
  | 44 => ⟨S4096x8x32, .f32⟩
  | 45 => ⟨S4096x8x32, .f32⟩
  | 46 => ⟨S4096x8x32, .f32⟩
  | 47 => ⟨S4096x8x64, .f32⟩
  | 48 => ⟨S4096x8x64, .f32⟩
  | 49 => ⟨S4096x8x32, .f32⟩
  | 50 => ⟨S4096x8x32, .f32⟩
  | 51 => ⟨S4096x32, .f32⟩
  | 52 => ⟨S4096x1x32, .f32⟩
  | 53 => ⟨S4096x32, .f32⟩
  | 54 => ⟨S4096x1x32, .f32⟩
  | 55 => ⟨S4096x8x32, .f32⟩
  | 56 => ⟨S4096x8x32, .f32⟩
  | 57 => ⟨S4096x8x32, .f32⟩
  | 58 => ⟨S4096x8x32, .f32⟩
  | 59 => ⟨S4096x8x32, .f32⟩
  | 60 => ⟨S4096x8x32, .f32⟩
  | 61 => ⟨S4096x8x32, .f32⟩
  | 62 => ⟨S4096x8x32, .f32⟩
  | 63 => ⟨S4096x8x32, .f32⟩
  | 64 => ⟨S4096x8x32, .f32⟩
  | 65 => ⟨S4096x8x64, .f32⟩
  | 66 => ⟨S4096x8x128, .f32⟩
  | 67 => ⟨S_, .f32⟩
  | 68 => ⟨S4096x8x128, .f32⟩
  | 69 => ⟨S4096x8x128, .f32⟩
  | 70 => ⟨S4096x2x128, .f32⟩
  | 71 => ⟨S128, .f32⟩
  | 72 => ⟨S4096x2x128, .f32⟩
  | 73 => ⟨S_, .f32⟩
  | 74 => ⟨S4096x2, .f32⟩
  | 75 => ⟨S4096x2x1, .f32⟩
  | 76 => ⟨S_, .f32⟩
  | 77 => ⟨S4096x2x1, .f32⟩
  | 78 => ⟨S4096x2x1, .f32⟩
  | 79 => ⟨S_, .f32⟩
  | 80 => ⟨S4096x2x1, .f32⟩
  | 81 => ⟨S4096x2x1, .f32⟩
  | 82 => ⟨S4096x2x1, .f32⟩
  | 83 => ⟨S4096x2x128, .f32⟩
  | 84 => ⟨S4096x2x128, .f32⟩
  | 85 => ⟨S1x1x128, .f32⟩
  | 86 => ⟨S4096x2x128, .f32⟩
  | 87 => ⟨S4096x2x128, .f32⟩
  | 88 => ⟨S4096x2x64, .f32⟩
  | 89 => ⟨S4096x2x32, .f32⟩
  | 90 => ⟨S4096x2x32, .f32⟩
  | 91 => ⟨S4096x32, .f32⟩
  | 92 => ⟨S4096x1x32, .f32⟩
  | 93 => ⟨S4096x32, .f32⟩
  | 94 => ⟨S4096x1x32, .f32⟩
  | 95 => ⟨S4096x2x32, .f32⟩
  | 96 => ⟨S4096x2x32, .f32⟩
  | 97 => ⟨S4096x2x32, .f32⟩
  | 98 => ⟨S4096x2x32, .f32⟩
  | 99 => ⟨S4096x2x32, .f32⟩
  | 100 => ⟨S4096x2x32, .f32⟩
  | 101 => ⟨S4096x2x32, .f32⟩
  | 102 => ⟨S4096x2x32, .f32⟩
  | 103 => ⟨S4096x2x32, .f32⟩
  | 104 => ⟨S4096x2x32, .f32⟩
  | 105 => ⟨S4096x2x64, .f32⟩
  | 106 => ⟨S4096x2x64, .f32⟩
  | 107 => ⟨S4096x2x32, .f32⟩
  | 108 => ⟨S4096x2x32, .f32⟩
  | 109 => ⟨S4096x32, .f32⟩
  | 110 => ⟨S4096x1x32, .f32⟩
  | 111 => ⟨S4096x32, .f32⟩
  | 112 => ⟨S4096x1x32, .f32⟩
  | 113 => ⟨S4096x2x32, .f32⟩
  | 114 => ⟨S4096x2x32, .f32⟩
  | 115 => ⟨S4096x2x32, .f32⟩
  | 116 => ⟨S4096x2x32, .f32⟩
  | 117 => ⟨S4096x2x32, .f32⟩
  | 118 => ⟨S4096x2x32, .f32⟩
  | 119 => ⟨S4096x2x32, .f32⟩
  | 120 => ⟨S4096x2x32, .f32⟩
  | 121 => ⟨S4096x2x32, .f32⟩
  | 122 => ⟨S4096x2x32, .f32⟩
  | 123 => ⟨S4096x2x64, .f32⟩
  | 124 => ⟨S4096x2x128, .f32⟩
  | 125 => ⟨S4096x1024, .f32⟩
  | 126 => ⟨S4096x256, .f32⟩
  | 127 => ⟨S4096x1024, .bf16⟩
  | _ => ⟨S4096x4608, .bf16⟩

abbrev hbmTy0_1 (i : Nat) : BufTy := match i % 128 with
  | 0 => ⟨S4096x256, .bf16⟩
  | 1 => ⟨S4096x256, .bf16⟩
  | 2 => ⟨S256x4096, .f32⟩
  | 3 => ⟨S256x4096, .bf16⟩
  | _ => ⟨S4096x4608, .bf16⟩

abbrev hbmTy (i : Nat) : BufTy := match i / 128 with
  | 0 => hbmTy0_0 i
  | 1 => hbmTy0_1 i
  | _ => ⟨S4096x4608, .bf16⟩

abbrev bufTy : (tb : Table) → Fin (tcTables nBuf tb) → BufTy
  | .hbm, ⟨i, _⟩ => hbmTy i
  | _, _ => ⟨S4096x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst_2 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_cst_3 : Ref sig .tc := ⟨.hbm, 73, rfl⟩
abbrev main_v64 : Ref sig .tc := ⟨.hbm, 74, rfl⟩
abbrev main_v65 : Ref sig .tc := ⟨.hbm, 75, rfl⟩
abbrev main_cst_4 : Ref sig .tc := ⟨.hbm, 76, rfl⟩
abbrev main_v66 : Ref sig .tc := ⟨.hbm, 77, rfl⟩
abbrev main_v67 : Ref sig .tc := ⟨.hbm, 78, rfl⟩
abbrev main_cst_5 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩

abbrev nD : Nat := 1
abbrev τ : Topo := Topo.v7x

variable {F : FTy → Type} [FloatOps F]
-- ==== SsmBwd.lean ====
abbrev S4096x1024 : Shape := ⟨2, ![4096, 1024]⟩
abbrev S8x2x4x8x512 : Shape := ⟨5, ![8, 2, 4, 8, 512]⟩
abbrev S2x64x64 : Shape := ⟨3, ![2, 64, 64]⟩
abbrev S2x64x1 : Shape := ⟨3, ![2, 64, 1]⟩
abbrev S2x64x16x64 : Shape := ⟨4, ![2, 64, 16, 64]⟩
abbrev S1x1024 : Shape := ⟨2, ![1, 1024]⟩
abbrev S8x2x72x512 : Shape := ⟨4, ![8, 2, 72, 512]⟩
abbrev S4096x128 : Shape := ⟨2, ![4096, 128]⟩
abbrev S1x2x4x8x512 : Shape := ⟨5, ![1, 2, 4, 8, 512]⟩
abbrev S2x8x64 : Shape := ⟨3, ![2, 8, 64]⟩
abbrev S2x8x1 : Shape := ⟨3, ![2, 8, 1]⟩
abbrev S2x8x16x64 : Shape := ⟨4, ![2, 8, 16, 64]⟩
abbrev S1x128 : Shape := ⟨2, ![1, 128]⟩
abbrev S1x2x72x512 : Shape := ⟨4, ![1, 2, 72, 512]⟩
abbrev S128x512 : Shape := ⟨2, ![128, 512]⟩
abbrev S4x128x512 : Shape := ⟨3, ![4, 128, 512]⟩
abbrev S4096x512 : Shape := ⟨2, ![4096, 512]⟩
abbrev S128 : Shape := ⟨1, ![128]⟩
abbrev S1x1x1x128 : Shape := ⟨4, ![1, 1, 1, 128]⟩
abbrev S1x8x64 : Shape := ⟨3, ![1, 8, 64]⟩
abbrev S8x64 : Shape := ⟨2, ![8, 64]⟩
abbrev S1x8x1 : Shape := ⟨3, ![1, 8, 1]⟩
abbrev S8x1 : Shape := ⟨2, ![8, 1]⟩
abbrev S1x64 : Shape := ⟨2, ![1, 64]⟩
abbrev S1x1x16x64 : Shape := ⟨4, ![1, 1, 16, 64]⟩
abbrev S16x64 : Shape := ⟨2, ![16, 64]⟩
abbrev S1x512 : Shape := ⟨2, ![1, 512]⟩
abbrev S2048x128 : Shape := ⟨2, ![2048, 128]⟩
abbrev S2048x512 : Shape := ⟨2, ![2048, 512]⟩
abbrev S8x512 : Shape := ⟨2, ![8, 512]⟩
abbrev S1x1x1x8x512 : Shape := ⟨5, ![1, 1, 1, 8, 512]⟩
abbrev S512 : Shape := ⟨1, ![512]⟩
abbrev S1x1x1x512 : Shape := ⟨4, ![1, 1, 1, 512]⟩
abbrev S128x2048 : Shape := ⟨2, ![128, 2048]⟩
abbrev S1x128x512 : Shape := ⟨3, ![1, 128, 512]⟩
abbrev S1x16x64 : Shape := ⟨3, ![1, 16, 64]⟩

abbrev nBuf : Space → Nat
  | .hbm => 13
  | .vmem => 36
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S8x2x4x8x512, .f32⟩
  | .hbm, ⟨3, _⟩ => ⟨S2x64x64, .f32⟩
  | .hbm, ⟨4, _⟩ => ⟨S2x64x64, .f32⟩
  | .hbm, ⟨5, _⟩ => ⟨S2x64x1, .f32⟩
  | .hbm, ⟨6, _⟩ => ⟨S2x64x16x64, .f32⟩
  | .hbm, ⟨7, _⟩ => ⟨S2x64x16x64, .f32⟩
  | .hbm, ⟨8, _⟩ => ⟨S2x64x16x64, .f32⟩
  | .hbm, ⟨9, _⟩ => ⟨S2x64x16x64, .f32⟩
  | .hbm, ⟨10, _⟩ => ⟨S1x1024, .f32⟩
  | .hbm, ⟨11, _⟩ => ⟨S4096x1024, .f32⟩
  | .hbm, ⟨12, _⟩ => ⟨S8x2x72x512, .f32⟩
  | .local _ .vmem, ⟨0, _⟩ => ⟨S4096x128, .bf16⟩
  | .local _ .vmem, ⟨1, _⟩ => ⟨S4096x128, .bf16⟩
  | .local _ .vmem, ⟨2, _⟩ => ⟨S4096x128, .f32⟩
  | .local _ .vmem, ⟨3, _⟩ => ⟨S4096x128, .f32⟩
  | .local _ .vmem, ⟨4, _⟩ => ⟨S1x2x4x8x512, .f32⟩
  | .local _ .vmem, ⟨5, _⟩ => ⟨S1x2x4x8x512, .f32⟩
  | .local _ .vmem, ⟨6, _⟩ => ⟨S2x8x64, .f32⟩
  | .local _ .vmem, ⟨7, _⟩ => ⟨S2x8x64, .f32⟩
  | .local _ .vmem, ⟨8, _⟩ => ⟨S2x8x64, .f32⟩
  | .local _ .vmem, ⟨9, _⟩ => ⟨S2x8x64, .f32⟩
  | .local _ .vmem, ⟨10, _⟩ => ⟨S2x8x1, .f32⟩
  | .local _ .vmem, ⟨11, _⟩ => ⟨S2x8x1, .f32⟩
  | .local _ .vmem, ⟨12, _⟩ => ⟨S2x8x16x64, .f32⟩
  | .local _ .vmem, ⟨13, _⟩ => ⟨S2x8x16x64, .f32⟩
  | .local _ .vmem, ⟨14, _⟩ => ⟨S2x8x16x64, .f32⟩
  | .local _ .vmem, ⟨15, _⟩ => ⟨S2x8x16x64, .f32⟩
  | .local _ .vmem, ⟨16, _⟩ => ⟨S2x8x16x64, .f32⟩
  | .local _ .vmem, ⟨17, _⟩ => ⟨S2x8x16x64, .f32⟩
  | .local _ .vmem, ⟨18, _⟩ => ⟨S2x8x16x64, .f32⟩
  | .local _ .vmem, ⟨19, _⟩ => ⟨S2x8x16x64, .f32⟩
  | .local _ .vmem, ⟨20, _⟩ => ⟨S1x128, .f32⟩
  | .local _ .vmem, ⟨21, _⟩ => ⟨S1x128, .f32⟩
  | .local _ .vmem, ⟨22, _⟩ => ⟨S4096x128, .f32⟩
  | .local _ .vmem, ⟨23, _⟩ => ⟨S4096x128, .f32⟩
  | .local _ .vmem, ⟨24, _⟩ => ⟨S1x2x72x512, .f32⟩
  | .local _ .vmem, ⟨25, _⟩ => ⟨S1x2x72x512, .f32⟩
  | .local _ .vmem, ⟨26, _⟩ => ⟨S128x512, .f32⟩
  | .local _ .vmem, ⟨27, _⟩ => ⟨S128x512, .bf16⟩
  | .local _ .vmem, ⟨28, _⟩ => ⟨S128x512, .bf16⟩
  | .local _ .vmem, ⟨29, _⟩ => ⟨S128x512, .bf16⟩
  | .local _ .vmem, ⟨30, _⟩ => ⟨S128x512, .bf16⟩
  | .local _ .vmem, ⟨31, _⟩ => ⟨S4x128x512, .f32⟩
  | .local _ .vmem, ⟨32, _⟩ => ⟨S4096x512, .f32⟩
  | .local _ .vmem, ⟨33, _⟩ => ⟨S4096x512, .f32⟩
  | .local _ .vmem, ⟨34, _⟩ => ⟨S4096x512, .f32⟩
  | .local _ .vmem, ⟨35, _⟩ => ⟨S4096x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_scratch8 : Ref sig .tc := ⟨.vmem, 34, rfl⟩
abbrev cc0_scratch9 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c2_i32 : BitVec 32 := 2#32
  let v407 : BitVec 32 := Scalar.addi c0_i32 c2_i32
  let c1_i32 : BitVec 32 := 1#32
  ⟨c0_i32, v407, c1_i32⟩
def k0_mult1 (k0_t1 : Fin k0_t1_loop.trips) : BitVec 32 :=
  let c0_i32 : BitVec 32 := 0#32
  let c1_i32 : BitVec 32 := 1#32
  let arg24 : BitVec 32 := Scf.iv c0_i32 c1_i32 k0_t1
  let c2048_i32 : BitVec 32 := 2048#32
  let v3048 : BitVec 32 := Scalar.muli arg24 c2048_i32
  v3048
def k0_off1 (k0_t1 : Fin k0_t1_loop.trips) : Fin 2 → Nat :=
  let c0_i32 : BitVec 32 := 0#32
  let c1_i32 : BitVec 32 := 1#32
  let arg24 : BitVec 32 := Scf.iv c0_i32 c1_i32 k0_t1
  let c2048_i32 : BitVec 32 := 2048#32
  let v3048 : BitVec 32 := Scalar.muli arg24 c2048_i32
  let v3049 : BitVec 32 := v3048
  let v3050 : Index := Scalar.indexCast v3049
  let c0_1842 : Index := 0#32
  ![v3050.toNat, 0]
def k0_off2 (k0_t1 : Fin k0_t1_loop.trips) : Fin 2 → Nat :=
  let c0_i32 : BitVec 32 := 0#32
  let c1_i32 : BitVec 32 := 1#32
  let arg24 : BitVec 32 := Scf.iv c0_i32 c1_i32 k0_t1
  let c2048_i32 : BitVec 32 := 2048#32
  let v3048 : BitVec 32 := Scalar.muli arg24 c2048_i32
  let v3049 : BitVec 32 := v3048
  let v3057 : Index := Scalar.indexCast v3049
  let c0_1847 : Index := 0#32
  ![v3057.toNat, 0]
@[reducible] def k0_t2_loop : Scf.Loop 32 :=
  let c0_i32_313 : BitVec 32 := 0#32
  let c31_i32 : BitVec 32 := 31#32
  let v420 : BitVec 32 := Scalar.addi c0_i32_313 c31_i32
  let c1_i32_314 : BitVec 32 := 1#32
  ⟨c0_i32_313, v420, c1_i32_314⟩
def k0_mult2 (k0_t2 : Fin k0_t2_loop.trips) : BitVec 32 :=
  let c0_i32_1843 : BitVec 32 := 0#32
  let c0_i32_313 : BitVec 32 := 0#32
  let c1_i32_314 : BitVec 32 := 1#32
  let arg24 : BitVec 32 := Scf.iv c0_i32_313 c1_i32_314 k0_t2
  let c8_i32 : BitVec 32 := 8#32
  let v3048 : BitVec 32 := Scalar.muli arg24 c8_i32
  let c0_i32_1842 : BitVec 32 := 0#32
  let v3049 : BitVec 32 := Scalar.addi v3048 c0_i32_1842
  let v3050 : BitVec 32 := Scalar.addi c0_i32_1843 v3049
  let c8_i32_1844 : BitVec 32 := 8#32
  let v3051 : BitVec 32 := Scalar.muli v3050 c8_i32_1844
  v3051
def k0_off3 (k0_t2 : Fin k0_t2_loop.trips) (c0_i32_1843 : BitVec 32) (c0_i32_1842 : BitVec 32) : Fin 2 → Nat :=
  let c0_i32_313 : BitVec 32 := 0#32
  let c1_i32_314 : BitVec 32 := 1#32
  let arg24 : BitVec 32 := Scf.iv c0_i32_313 c1_i32_314 k0_t2
  let c8_i32 : BitVec 32 := 8#32
  let v3048 : BitVec 32 := Scalar.muli arg24 c8_i32
  let v3049 : BitVec 32 := Scalar.addi v3048 c0_i32_1842
  let v3050 : BitVec 32 := Scalar.addi c0_i32_1843 v3049
  let c8_i32_1844 : BitVec 32 := 8#32
  let v3051 : BitVec 32 := Scalar.muli v3050 c8_i32_1844
  let v3052 : BitVec 32 := v3051
  let v3059 : Index := Scalar.indexCast v3052
  let c0_1845 : Index := 0#32
  ![v3059.toNat, 0]
def k0_mult3 (k0_t2 : Fin k0_t2_loop.trips) : BitVec 32 :=
  let c256_i32 : BitVec 32 := 256#32
  let c0_i32_313 : BitVec 32 := 0#32
  let c1_i32_314 : BitVec 32 := 1#32
  let arg24 : BitVec 32 := Scf.iv c0_i32_313 c1_i32_314 k0_t2
  let c8_i32 : BitVec 32 := 8#32
  let v3048 : BitVec 32 := Scalar.muli arg24 c8_i32
  let c0_i32_1842 : BitVec 32 := 0#32
  let v3049 : BitVec 32 := Scalar.addi v3048 c0_i32_1842
  let v3073 : BitVec 32 := Scalar.addi c256_i32 v3049
  let c8_i32_1849 : BitVec 32 := 8#32
  let v3074 : BitVec 32 := Scalar.muli v3073 c8_i32_1849
  v3074
def k0_mult4 (k0_t2 : Fin k0_t2_loop.trips) : BitVec 32 :=
  let c0_i32_1856 : BitVec 32 := 0#32
  let c0_i32_313 : BitVec 32 := 0#32
  let c1_i32_314 : BitVec 32 := 1#32
  let arg24 : BitVec 32 := Scf.iv c0_i32_313 c1_i32_314 k0_t2
  let c8_i32_1854 : BitVec 32 := 8#32
  let v3096 : BitVec 32 := Scalar.muli arg24 c8_i32_1854
  let c1_i32_1855 : BitVec 32 := 1#32
  let v3097 : BitVec 32 := Scalar.addi v3096 c1_i32_1855
  let v3098 : BitVec 32 := Scalar.addi c0_i32_1856 v3097
  let c8_i32_1857 : BitVec 32 := 8#32
  let v3099 : BitVec 32 := Scalar.muli v3098 c8_i32_1857
  v3099
def k0_mult5 (k0_t2 : Fin k0_t2_loop.trips) : BitVec 32 :=
  let c256_i32_1862 : BitVec 32 := 256#32
  let c0_i32_313 : BitVec 32 := 0#32
  let c1_i32_314 : BitVec 32 := 1#32
  let arg24 : BitVec 32 := Scf.iv c0_i32_313 c1_i32_314 k0_t2
  let c8_i32_1854 : BitVec 32 := 8#32
  let v3096 : BitVec 32 := Scalar.muli arg24 c8_i32_1854
  let c1_i32_1855 : BitVec 32 := 1#32
  let v3097 : BitVec 32 := Scalar.addi v3096 c1_i32_1855
  let v3121 : BitVec 32 := Scalar.addi c256_i32_1862 v3097
  let c8_i32_1863 : BitVec 32 := 8#32
  let v3122 : BitVec 32 := Scalar.muli v3121 c8_i32_1863
  v3122
def k0_mult6 (k0_t2 : Fin k0_t2_loop.trips) : BitVec 32 :=
  let c0_i32_1870 : BitVec 32 := 0#32
  let c0_i32_313 : BitVec 32 := 0#32
  let c1_i32_314 : BitVec 32 := 1#32
  let arg24 : BitVec 32 := Scf.iv c0_i32_313 c1_i32_314 k0_t2
  let c8_i32_1868 : BitVec 32 := 8#32
  let v3144 : BitVec 32 := Scalar.muli arg24 c8_i32_1868
  let c2_i32_1869 : BitVec 32 := 2#32
  let v3145 : BitVec 32 := Scalar.addi v3144 c2_i32_1869
  let v3146 : BitVec 32 := Scalar.addi c0_i32_1870 v3145
  let c8_i32_1871 : BitVec 32 := 8#32
  let v3147 : BitVec 32 := Scalar.muli v3146 c8_i32_1871
  v3147
def k0_mult7 (k0_t2 : Fin k0_t2_loop.trips) : BitVec 32 :=
  let c256_i32_1876 : BitVec 32 := 256#32
  let c0_i32_313 : BitVec 32 := 0#32
  let c1_i32_314 : BitVec 32 := 1#32
  let arg24 : BitVec 32 := Scf.iv c0_i32_313 c1_i32_314 k0_t2
  let c8_i32_1868 : BitVec 32 := 8#32
  let v3144 : BitVec 32 := Scalar.muli arg24 c8_i32_1868
  let c2_i32_1869 : BitVec 32 := 2#32
  let v3145 : BitVec 32 := Scalar.addi v3144 c2_i32_1869
  let v3169 : BitVec 32 := Scalar.addi c256_i32_1876 v3145
  let c8_i32_1877 : BitVec 32 := 8#32
  let v3170 : BitVec 32 := Scalar.muli v3169 c8_i32_1877
  v3170
def k0_mult8 (k0_t2 : Fin k0_t2_loop.trips) : BitVec 32 :=
  let c0_i32_1883 : BitVec 32 := 0#32
  let c0_i32_313 : BitVec 32 := 0#32
  let c1_i32_314 : BitVec 32 := 1#32
  let arg24 : BitVec 32 := Scf.iv c0_i32_313 c1_i32_314 k0_t2
  let c8_i32_1882 : BitVec 32 := 8#32
  let v3192 : BitVec 32 := Scalar.muli arg24 c8_i32_1882
  let c3_i32 : BitVec 32 := 3#32
  let v3193 : BitVec 32 := Scalar.addi v3192 c3_i32
  let v3194 : BitVec 32 := Scalar.addi c0_i32_1883 v3193
  let c8_i32_1884 : BitVec 32 := 8#32
  let v3195 : BitVec 32 := Scalar.muli v3194 c8_i32_1884
  v3195
def k0_mult9 (k0_t2 : Fin k0_t2_loop.trips) : BitVec 32 :=
  let c256_i32_1889 : BitVec 32 := 256#32
  let c0_i32_313 : BitVec 32 := 0#32
  let c1_i32_314 : BitVec 32 := 1#32
  let arg24 : BitVec 32 := Scf.iv c0_i32_313 c1_i32_314 k0_t2
  let c8_i32_1882 : BitVec 32 := 8#32
  let v3192 : BitVec 32 := Scalar.muli arg24 c8_i32_1882
  let c3_i32 : BitVec 32 := 3#32
  let v3193 : BitVec 32 := Scalar.addi v3192 c3_i32
  let v3217 : BitVec 32 := Scalar.addi c256_i32_1889 v3193
  let c8_i32_1890 : BitVec 32 := 8#32
  let v3218 : BitVec 32 := Scalar.muli v3217 c8_i32_1890
  v3218
def k0_mult10 (k0_t2 : Fin k0_t2_loop.trips) : BitVec 32 :=
  let c0_i32_1896 : BitVec 32 := 0#32
  let c0_i32_313 : BitVec 32 := 0#32
  let c1_i32_314 : BitVec 32 := 1#32
  let arg24 : BitVec 32 := Scf.iv c0_i32_313 c1_i32_314 k0_t2
  let c8_i32_1895 : BitVec 32 := 8#32
  let v3240 : BitVec 32 := Scalar.muli arg24 c8_i32_1895
  let c4_i32 : BitVec 32 := 4#32
  let v3241 : BitVec 32 := Scalar.addi v3240 c4_i32
  let v3242 : BitVec 32 := Scalar.addi c0_i32_1896 v3241
  let c8_i32_1897 : BitVec 32 := 8#32
  let v3243 : BitVec 32 := Scalar.muli v3242 c8_i32_1897
  v3243
def k0_mult11 (k0_t2 : Fin k0_t2_loop.trips) : BitVec 32 :=
  let c256_i32_1902 : BitVec 32 := 256#32
  let c0_i32_313 : BitVec 32 := 0#32
  let c1_i32_314 : BitVec 32 := 1#32
  let arg24 : BitVec 32 := Scf.iv c0_i32_313 c1_i32_314 k0_t2
  let c8_i32_1895 : BitVec 32 := 8#32
  let v3240 : BitVec 32 := Scalar.muli arg24 c8_i32_1895
  let c4_i32 : BitVec 32 := 4#32
  let v3241 : BitVec 32 := Scalar.addi v3240 c4_i32
  let v3265 : BitVec 32 := Scalar.addi c256_i32_1902 v3241
  let c8_i32_1903 : BitVec 32 := 8#32
  let v3266 : BitVec 32 := Scalar.muli v3265 c8_i32_1903
  v3266
def k0_mult12 (k0_t2 : Fin k0_t2_loop.trips) : BitVec 32 :=
  let c0_i32_1909 : BitVec 32 := 0#32
  let c0_i32_313 : BitVec 32 := 0#32
  let c1_i32_314 : BitVec 32 := 1#32
  let arg24 : BitVec 32 := Scf.iv c0_i32_313 c1_i32_314 k0_t2
  let c8_i32_1908 : BitVec 32 := 8#32
  let v3288 : BitVec 32 := Scalar.muli arg24 c8_i32_1908
  let c5_i32 : BitVec 32 := 5#32
  let v3289 : BitVec 32 := Scalar.addi v3288 c5_i32
  let v3290 : BitVec 32 := Scalar.addi c0_i32_1909 v3289
  let c8_i32_1910 : BitVec 32 := 8#32
  let v3291 : BitVec 32 := Scalar.muli v3290 c8_i32_1910
  v3291
def k0_mult13 (k0_t2 : Fin k0_t2_loop.trips) : BitVec 32 :=
  let c256_i32_1915 : BitVec 32 := 256#32
  let c0_i32_313 : BitVec 32 := 0#32
  let c1_i32_314 : BitVec 32 := 1#32
  let arg24 : BitVec 32 := Scf.iv c0_i32_313 c1_i32_314 k0_t2
  let c8_i32_1908 : BitVec 32 := 8#32
  let v3288 : BitVec 32 := Scalar.muli arg24 c8_i32_1908
  let c5_i32 : BitVec 32 := 5#32
  let v3289 : BitVec 32 := Scalar.addi v3288 c5_i32
  let v3313 : BitVec 32 := Scalar.addi c256_i32_1915 v3289
  let c8_i32_1916 : BitVec 32 := 8#32
  let v3314 : BitVec 32 := Scalar.muli v3313 c8_i32_1916
  v3314
def k0_mult14 (k0_t2 : Fin k0_t2_loop.trips) : BitVec 32 :=
  let c0_i32_1922 : BitVec 32 := 0#32
  let c0_i32_313 : BitVec 32 := 0#32
  let c1_i32_314 : BitVec 32 := 1#32
  let arg24 : BitVec 32 := Scf.iv c0_i32_313 c1_i32_314 k0_t2
  let c8_i32_1921 : BitVec 32 := 8#32
  let v3336 : BitVec 32 := Scalar.muli arg24 c8_i32_1921
  let c6_i32 : BitVec 32 := 6#32
  let v3337 : BitVec 32 := Scalar.addi v3336 c6_i32
  let v3338 : BitVec 32 := Scalar.addi c0_i32_1922 v3337
  let c8_i32_1923 : BitVec 32 := 8#32
  let v3339 : BitVec 32 := Scalar.muli v3338 c8_i32_1923
  v3339
def k0_mult15 (k0_t2 : Fin k0_t2_loop.trips) : BitVec 32 :=
  let c256_i32_1928 : BitVec 32 := 256#32
  let c0_i32_313 : BitVec 32 := 0#32
  let c1_i32_314 : BitVec 32 := 1#32
  let arg24 : BitVec 32 := Scf.iv c0_i32_313 c1_i32_314 k0_t2
  let c8_i32_1921 : BitVec 32 := 8#32
  let v3336 : BitVec 32 := Scalar.muli arg24 c8_i32_1921
  let c6_i32 : BitVec 32 := 6#32
  let v3337 : BitVec 32 := Scalar.addi v3336 c6_i32
  let v3361 : BitVec 32 := Scalar.addi c256_i32_1928 v3337
  let c8_i32_1929 : BitVec 32 := 8#32
  let v3362 : BitVec 32 := Scalar.muli v3361 c8_i32_1929
  v3362
def k0_mult16 (k0_t2 : Fin k0_t2_loop.trips) : BitVec 32 :=
  let c0_i32_1936 : BitVec 32 := 0#32
  let c0_i32_313 : BitVec 32 := 0#32
  let c1_i32_314 : BitVec 32 := 1#32
  let arg24 : BitVec 32 := Scf.iv c0_i32_313 c1_i32_314 k0_t2
  let c8_i32_1934 : BitVec 32 := 8#32
  let v3384 : BitVec 32 := Scalar.muli arg24 c8_i32_1934
  let c7_i32_1935 : BitVec 32 := 7#32
  let v3385 : BitVec 32 := Scalar.addi v3384 c7_i32_1935
  let v3386 : BitVec 32 := Scalar.addi c0_i32_1936 v3385
  let c8_i32_1937 : BitVec 32 := 8#32
  let v3387 : BitVec 32 := Scalar.muli v3386 c8_i32_1937
  v3387
def k0_mult17 (k0_t2 : Fin k0_t2_loop.trips) : BitVec 32 :=
  let c256_i32_1942 : BitVec 32 := 256#32
  let c0_i32_313 : BitVec 32 := 0#32
  let c1_i32_314 : BitVec 32 := 1#32
  let arg24 : BitVec 32 := Scf.iv c0_i32_313 c1_i32_314 k0_t2
  let c8_i32_1934 : BitVec 32 := 8#32
  let v3384 : BitVec 32 := Scalar.muli arg24 c8_i32_1934
  let c7_i32_1935 : BitVec 32 := 7#32
  let v3385 : BitVec 32 := Scalar.addi v3384 c7_i32_1935
  let v3409 : BitVec 32 := Scalar.addi c256_i32_1942 v3385
  let c8_i32_1943 : BitVec 32 := 8#32
  let v3410 : BitVec 32 := Scalar.muli v3409 c8_i32_1943
  v3410
@[reducible] def k0_t3_loop : Scf.Loop 32 :=
  let c0_i32_431 : BitVec 32 := 0#32
  let c32_i32 : BitVec 32 := 32#32
  let v682 : BitVec 32 := Scalar.addi c0_i32_431 c32_i32
  let c1_i32_432 : BitVec 32 := 1#32
  ⟨c0_i32_431, v682, c1_i32_432⟩
def k0_mult18 (k0_t3 : Fin k0_t3_loop.trips) : BitVec 32 :=
  let c511_i32 : BitVec 32 := 511#32
  let c0_i32_1843 : BitVec 32 := 0#32
  let c0_i32_431 : BitVec 32 := 0#32
  let c1_i32_432 : BitVec 32 := 1#32
  let arg24 : BitVec 32 := Scf.iv c0_i32_431 c1_i32_432 k0_t3
  let c8_i32 : BitVec 32 := 8#32
  let v3048 : BitVec 32 := Scalar.muli arg24 c8_i32
  let c0_i32_1842 : BitVec 32 := 0#32
  let v3049 : BitVec 32 := Scalar.addi v3048 c0_i32_1842
  let v3050 : BitVec 32 := Scalar.addi c0_i32_1843 v3049
  let v3051 : BitVec 32 := Scalar.subi c511_i32 v3050
  let c8_i32_1844 : BitVec 32 := 8#32
  let v3052 : BitVec 32 := Scalar.muli v3051 c8_i32_1844
  v3052
def k0_off4 (k0_t3 : Fin k0_t3_loop.trips) (c0_i32_1843 : BitVec 32) (c0_i32_1842 : BitVec 32) : Fin 2 → Nat :=
  let c511_i32 : BitVec 32 := 511#32
  let c0_i32_431 : BitVec 32 := 0#32
  let c1_i32_432 : BitVec 32 := 1#32
  let arg24 : BitVec 32 := Scf.iv c0_i32_431 c1_i32_432 k0_t3
  let c8_i32 : BitVec 32 := 8#32
  let v3048 : BitVec 32 := Scalar.muli arg24 c8_i32
  let v3049 : BitVec 32 := Scalar.addi v3048 c0_i32_1842
  let v3050 : BitVec 32 := Scalar.addi c0_i32_1843 v3049
  let v3051 : BitVec 32 := Scalar.subi c511_i32 v3050
  let c8_i32_1844 : BitVec 32 := 8#32
  let v3052 : BitVec 32 := Scalar.muli v3051 c8_i32_1844
  let v3053 : BitVec 32 := v3052
  let v3060 : Index := Scalar.indexCast v3053
  let c0_1845 : Index := 0#32
  ![v3060.toNat, 0]
def k0_mult19 (k0_t3 : Fin k0_t3_loop.trips) : BitVec 32 :=
  let c511_i32_1847 : BitVec 32 := 511#32
  let c256_i32 : BitVec 32 := 256#32
  let c0_i32_431 : BitVec 32 := 0#32
  let c1_i32_432 : BitVec 32 := 1#32
  let arg24 : BitVec 32 := Scf.iv c0_i32_431 c1_i32_432 k0_t3
  let c8_i32 : BitVec 32 := 8#32
  let v3048 : BitVec 32 := Scalar.muli arg24 c8_i32
  let c0_i32_1842 : BitVec 32 := 0#32
  let v3049 : BitVec 32 := Scalar.addi v3048 c0_i32_1842
  let v3066 : BitVec 32 := Scalar.addi c256_i32 v3049
  let v3067 : BitVec 32 := Scalar.subi c511_i32_1847 v3066
  let c8_i32_1848 : BitVec 32 := 8#32
  let v3068 : BitVec 32 := Scalar.muli v3067 c8_i32_1848
  v3068
def k0_mult20 (k0_t3 : Fin k0_t3_loop.trips) : BitVec 32 :=
  let c511_i32_1854 : BitVec 32 := 511#32
  let c0_i32_1853 : BitVec 32 := 0#32
  let c0_i32_431 : BitVec 32 := 0#32
  let c1_i32_432 : BitVec 32 := 1#32
  let arg24 : BitVec 32 := Scf.iv c0_i32_431 c1_i32_432 k0_t3
  let c8_i32_1851 : BitVec 32 := 8#32
  let v3082 : BitVec 32 := Scalar.muli arg24 c8_i32_1851
  let c1_i32_1852 : BitVec 32 := 1#32
  let v3083 : BitVec 32 := Scalar.addi v3082 c1_i32_1852
  let v3084 : BitVec 32 := Scalar.addi c0_i32_1853 v3083
  let v3085 : BitVec 32 := Scalar.subi c511_i32_1854 v3084
  let c8_i32_1855 : BitVec 32 := 8#32
  let v3086 : BitVec 32 := Scalar.muli v3085 c8_i32_1855
  v3086
def k0_mult21 (k0_t3 : Fin k0_t3_loop.trips) : BitVec 32 :=
  let c511_i32_1859 : BitVec 32 := 511#32
  let c256_i32_1858 : BitVec 32 := 256#32
  let c0_i32_431 : BitVec 32 := 0#32
  let c1_i32_432 : BitVec 32 := 1#32
  let arg24 : BitVec 32 := Scf.iv c0_i32_431 c1_i32_432 k0_t3
  let c8_i32_1851 : BitVec 32 := 8#32
  let v3082 : BitVec 32 := Scalar.muli arg24 c8_i32_1851
  let c1_i32_1852 : BitVec 32 := 1#32
  let v3083 : BitVec 32 := Scalar.addi v3082 c1_i32_1852
  let v3100 : BitVec 32 := Scalar.addi c256_i32_1858 v3083
  let v3101 : BitVec 32 := Scalar.subi c511_i32_1859 v3100
  let c8_i32_1860 : BitVec 32 := 8#32
  let v3102 : BitVec 32 := Scalar.muli v3101 c8_i32_1860
  v3102
def k0_mult22 (k0_t3 : Fin k0_t3_loop.trips) : BitVec 32 :=
  let c511_i32_1866 : BitVec 32 := 511#32
  let c0_i32_1865 : BitVec 32 := 0#32
  let c0_i32_431 : BitVec 32 := 0#32
  let c1_i32_432 : BitVec 32 := 1#32
  let arg24 : BitVec 32 := Scf.iv c0_i32_431 c1_i32_432 k0_t3
  let c8_i32_1863 : BitVec 32 := 8#32
  let v3116 : BitVec 32 := Scalar.muli arg24 c8_i32_1863
  let c2_i32_1864 : BitVec 32 := 2#32
  let v3117 : BitVec 32 := Scalar.addi v3116 c2_i32_1864
  let v3118 : BitVec 32 := Scalar.addi c0_i32_1865 v3117
  let v3119 : BitVec 32 := Scalar.subi c511_i32_1866 v3118
  let c8_i32_1867 : BitVec 32 := 8#32
  let v3120 : BitVec 32 := Scalar.muli v3119 c8_i32_1867
  v3120
def k0_mult23 (k0_t3 : Fin k0_t3_loop.trips) : BitVec 32 :=
  let c511_i32_1871 : BitVec 32 := 511#32
  let c256_i32_1870 : BitVec 32 := 256#32
  let c0_i32_431 : BitVec 32 := 0#32
  let c1_i32_432 : BitVec 32 := 1#32
  let arg24 : BitVec 32 := Scf.iv c0_i32_431 c1_i32_432 k0_t3
  let c8_i32_1863 : BitVec 32 := 8#32
  let v3116 : BitVec 32 := Scalar.muli arg24 c8_i32_1863
  let c2_i32_1864 : BitVec 32 := 2#32
  let v3117 : BitVec 32 := Scalar.addi v3116 c2_i32_1864
  let v3134 : BitVec 32 := Scalar.addi c256_i32_1870 v3117
  let v3135 : BitVec 32 := Scalar.subi c511_i32_1871 v3134
  let c8_i32_1872 : BitVec 32 := 8#32
  let v3136 : BitVec 32 := Scalar.muli v3135 c8_i32_1872
  v3136
def k0_mult24 (k0_t3 : Fin k0_t3_loop.trips) : BitVec 32 :=
  let c511_i32_1877 : BitVec 32 := 511#32
  let c0_i32_1876 : BitVec 32 := 0#32
  let c0_i32_431 : BitVec 32 := 0#32
  let c1_i32_432 : BitVec 32 := 1#32
  let arg24 : BitVec 32 := Scf.iv c0_i32_431 c1_i32_432 k0_t3
  let c8_i32_1875 : BitVec 32 := 8#32
  let v3150 : BitVec 32 := Scalar.muli arg24 c8_i32_1875
  let c3_i32 : BitVec 32 := 3#32
  let v3151 : BitVec 32 := Scalar.addi v3150 c3_i32
  let v3152 : BitVec 32 := Scalar.addi c0_i32_1876 v3151
  let v3153 : BitVec 32 := Scalar.subi c511_i32_1877 v3152
  let c8_i32_1878 : BitVec 32 := 8#32
  let v3154 : BitVec 32 := Scalar.muli v3153 c8_i32_1878
  v3154
def k0_mult25 (k0_t3 : Fin k0_t3_loop.trips) : BitVec 32 :=
  let c511_i32_1882 : BitVec 32 := 511#32
  let c256_i32_1881 : BitVec 32 := 256#32
  let c0_i32_431 : BitVec 32 := 0#32
  let c1_i32_432 : BitVec 32 := 1#32
  let arg24 : BitVec 32 := Scf.iv c0_i32_431 c1_i32_432 k0_t3
  let c8_i32_1875 : BitVec 32 := 8#32
  let v3150 : BitVec 32 := Scalar.muli arg24 c8_i32_1875
  let c3_i32 : BitVec 32 := 3#32
  let v3151 : BitVec 32 := Scalar.addi v3150 c3_i32
  let v3168 : BitVec 32 := Scalar.addi c256_i32_1881 v3151
  let v3169 : BitVec 32 := Scalar.subi c511_i32_1882 v3168
  let c8_i32_1883 : BitVec 32 := 8#32
  let v3170 : BitVec 32 := Scalar.muli v3169 c8_i32_1883
  v3170
def k0_mult26 (k0_t3 : Fin k0_t3_loop.trips) : BitVec 32 :=
  let c511_i32_1888 : BitVec 32 := 511#32
  let c0_i32_1887 : BitVec 32 := 0#32
  let c0_i32_431 : BitVec 32 := 0#32
  let c1_i32_432 : BitVec 32 := 1#32
  let arg24 : BitVec 32 := Scf.iv c0_i32_431 c1_i32_432 k0_t3
  let c8_i32_1886 : BitVec 32 := 8#32
  let v3184 : BitVec 32 := Scalar.muli arg24 c8_i32_1886
  let c4_i32 : BitVec 32 := 4#32
  let v3185 : BitVec 32 := Scalar.addi v3184 c4_i32
  let v3186 : BitVec 32 := Scalar.addi c0_i32_1887 v3185
  let v3187 : BitVec 32 := Scalar.subi c511_i32_1888 v3186
  let c8_i32_1889 : BitVec 32 := 8#32
  let v3188 : BitVec 32 := Scalar.muli v3187 c8_i32_1889
  v3188
def k0_mult27 (k0_t3 : Fin k0_t3_loop.trips) : BitVec 32 :=
  let c511_i32_1893 : BitVec 32 := 511#32
  let c256_i32_1892 : BitVec 32 := 256#32
  let c0_i32_431 : BitVec 32 := 0#32
  let c1_i32_432 : BitVec 32 := 1#32
  let arg24 : BitVec 32 := Scf.iv c0_i32_431 c1_i32_432 k0_t3
  let c8_i32_1886 : BitVec 32 := 8#32
  let v3184 : BitVec 32 := Scalar.muli arg24 c8_i32_1886
  let c4_i32 : BitVec 32 := 4#32
  let v3185 : BitVec 32 := Scalar.addi v3184 c4_i32
  let v3202 : BitVec 32 := Scalar.addi c256_i32_1892 v3185
  let v3203 : BitVec 32 := Scalar.subi c511_i32_1893 v3202
  let c8_i32_1894 : BitVec 32 := 8#32
  let v3204 : BitVec 32 := Scalar.muli v3203 c8_i32_1894
  v3204
def k0_mult28 (k0_t3 : Fin k0_t3_loop.trips) : BitVec 32 :=
  let c511_i32_1899 : BitVec 32 := 511#32
  let c0_i32_1898 : BitVec 32 := 0#32
  let c0_i32_431 : BitVec 32 := 0#32
  let c1_i32_432 : BitVec 32 := 1#32
  let arg24 : BitVec 32 := Scf.iv c0_i32_431 c1_i32_432 k0_t3
  let c8_i32_1897 : BitVec 32 := 8#32
  let v3218 : BitVec 32 := Scalar.muli arg24 c8_i32_1897
  let c5_i32 : BitVec 32 := 5#32
  let v3219 : BitVec 32 := Scalar.addi v3218 c5_i32
  let v3220 : BitVec 32 := Scalar.addi c0_i32_1898 v3219
  let v3221 : BitVec 32 := Scalar.subi c511_i32_1899 v3220
  let c8_i32_1900 : BitVec 32 := 8#32
  let v3222 : BitVec 32 := Scalar.muli v3221 c8_i32_1900
  v3222
def k0_mult29 (k0_t3 : Fin k0_t3_loop.trips) : BitVec 32 :=
  let c511_i32_1904 : BitVec 32 := 511#32
  let c256_i32_1903 : BitVec 32 := 256#32
  let c0_i32_431 : BitVec 32 := 0#32
  let c1_i32_432 : BitVec 32 := 1#32
  let arg24 : BitVec 32 := Scf.iv c0_i32_431 c1_i32_432 k0_t3
  let c8_i32_1897 : BitVec 32 := 8#32
  let v3218 : BitVec 32 := Scalar.muli arg24 c8_i32_1897
  let c5_i32 : BitVec 32 := 5#32
  let v3219 : BitVec 32 := Scalar.addi v3218 c5_i32
  let v3236 : BitVec 32 := Scalar.addi c256_i32_1903 v3219
  let v3237 : BitVec 32 := Scalar.subi c511_i32_1904 v3236
  let c8_i32_1905 : BitVec 32 := 8#32
  let v3238 : BitVec 32 := Scalar.muli v3237 c8_i32_1905
  v3238
def k0_mult30 (k0_t3 : Fin k0_t3_loop.trips) : BitVec 32 :=
  let c511_i32_1910 : BitVec 32 := 511#32
  let c0_i32_1909 : BitVec 32 := 0#32
  let c0_i32_431 : BitVec 32 := 0#32
  let c1_i32_432 : BitVec 32 := 1#32
  let arg24 : BitVec 32 := Scf.iv c0_i32_431 c1_i32_432 k0_t3
  let c8_i32_1908 : BitVec 32 := 8#32
  let v3252 : BitVec 32 := Scalar.muli arg24 c8_i32_1908
  let c6_i32 : BitVec 32 := 6#32
  let v3253 : BitVec 32 := Scalar.addi v3252 c6_i32
  let v3254 : BitVec 32 := Scalar.addi c0_i32_1909 v3253
  let v3255 : BitVec 32 := Scalar.subi c511_i32_1910 v3254
  let c8_i32_1911 : BitVec 32 := 8#32
  let v3256 : BitVec 32 := Scalar.muli v3255 c8_i32_1911
  v3256
def k0_mult31 (k0_t3 : Fin k0_t3_loop.trips) : BitVec 32 :=
  let c511_i32_1915 : BitVec 32 := 511#32
  let c256_i32_1914 : BitVec 32 := 256#32
  let c0_i32_431 : BitVec 32 := 0#32
  let c1_i32_432 : BitVec 32 := 1#32
  let arg24 : BitVec 32 := Scf.iv c0_i32_431 c1_i32_432 k0_t3
  let c8_i32_1908 : BitVec 32 := 8#32
  let v3252 : BitVec 32 := Scalar.muli arg24 c8_i32_1908
  let c6_i32 : BitVec 32 := 6#32
  let v3253 : BitVec 32 := Scalar.addi v3252 c6_i32
  let v3270 : BitVec 32 := Scalar.addi c256_i32_1914 v3253
  let v3271 : BitVec 32 := Scalar.subi c511_i32_1915 v3270
  let c8_i32_1916 : BitVec 32 := 8#32
  let v3272 : BitVec 32 := Scalar.muli v3271 c8_i32_1916
  v3272
def k0_mult32 (k0_t3 : Fin k0_t3_loop.trips) : BitVec 32 :=
  let c511_i32_1922 : BitVec 32 := 511#32
  let c0_i32_1921 : BitVec 32 := 0#32
  let c0_i32_431 : BitVec 32 := 0#32
  let c1_i32_432 : BitVec 32 := 1#32
  let arg24 : BitVec 32 := Scf.iv c0_i32_431 c1_i32_432 k0_t3
  let c8_i32_1919 : BitVec 32 := 8#32
  let v3286 : BitVec 32 := Scalar.muli arg24 c8_i32_1919
  let c7_i32_1920 : BitVec 32 := 7#32
  let v3287 : BitVec 32 := Scalar.addi v3286 c7_i32_1920
  let v3288 : BitVec 32 := Scalar.addi c0_i32_1921 v3287
  let v3289 : BitVec 32 := Scalar.subi c511_i32_1922 v3288
  let c8_i32_1923 : BitVec 32 := 8#32
  let v3290 : BitVec 32 := Scalar.muli v3289 c8_i32_1923
  v3290
def k0_mult33 (k0_t3 : Fin k0_t3_loop.trips) : BitVec 32 :=
  let c511_i32_1927 : BitVec 32 := 511#32
  let c256_i32_1926 : BitVec 32 := 256#32
  let c0_i32_431 : BitVec 32 := 0#32
  let c1_i32_432 : BitVec 32 := 1#32
  let arg24 : BitVec 32 := Scf.iv c0_i32_431 c1_i32_432 k0_t3
  let c8_i32_1919 : BitVec 32 := 8#32
  let v3286 : BitVec 32 := Scalar.muli arg24 c8_i32_1919
  let c7_i32_1920 : BitVec 32 := 7#32
  let v3287 : BitVec 32 := Scalar.addi v3286 c7_i32_1920
  let v3304 : BitVec 32 := Scalar.addi c256_i32_1926 v3287
  let v3305 : BitVec 32 := Scalar.subi c511_i32_1927 v3304
  let c8_i32_1928 : BitVec 32 := 8#32
  let v3306 : BitVec 32 := Scalar.muli v3305 c8_i32_1928
  v3306
@[reducible] def k0_t4_loop : Scf.Loop 32 :=
  let c0_i32_481 : BitVec 32 := 0#32
  let c31_i32_482 : BitVec 32 := 31#32
  let v941 : BitVec 32 := Scalar.addi c0_i32_481 c31_i32_482
  let c1_i32_483 : BitVec 32 := 1#32
  ⟨c0_i32_481, v941, c1_i32_483⟩
def k0_mult34 (k0_t4 : Fin k0_t4_loop.trips) : BitVec 32 :=
  let c511_i32 : BitVec 32 := 511#32
  let c0_i32_1843 : BitVec 32 := 0#32
  let c0_i32_481 : BitVec 32 := 0#32
  let c1_i32_483 : BitVec 32 := 1#32
  let arg24 : BitVec 32 := Scf.iv c0_i32_481 c1_i32_483 k0_t4
  let c8_i32 : BitVec 32 := 8#32
  let v3048 : BitVec 32 := Scalar.muli arg24 c8_i32
  let c0_i32_1842 : BitVec 32 := 0#32
  let v3049 : BitVec 32 := Scalar.addi v3048 c0_i32_1842
  let v3050 : BitVec 32 := Scalar.addi c0_i32_1843 v3049
  let v3051 : BitVec 32 := Scalar.subi c511_i32 v3050
  let c8_i32_1844 : BitVec 32 := 8#32
  let v3052 : BitVec 32 := Scalar.muli v3051 c8_i32_1844
  v3052
def k0_off5 (k0_t4 : Fin k0_t4_loop.trips) (c0_i32_1843 : BitVec 32) (c0_i32_1842 : BitVec 32) : Fin 2 → Nat :=
  let c511_i32 : BitVec 32 := 511#32
  let c0_i32_481 : BitVec 32 := 0#32
  let c1_i32_483 : BitVec 32 := 1#32
  let arg24 : BitVec 32 := Scf.iv c0_i32_481 c1_i32_483 k0_t4
  let c8_i32 : BitVec 32 := 8#32
  let v3048 : BitVec 32 := Scalar.muli arg24 c8_i32
  let v3049 : BitVec 32 := Scalar.addi v3048 c0_i32_1842
  let v3050 : BitVec 32 := Scalar.addi c0_i32_1843 v3049
  let v3051 : BitVec 32 := Scalar.subi c511_i32 v3050
  let c8_i32_1844 : BitVec 32 := 8#32
  let v3052 : BitVec 32 := Scalar.muli v3051 c8_i32_1844
  let v3053 : BitVec 32 := v3052
  let v3060 : Index := Scalar.indexCast v3053
  let c0_1845 : Index := 0#32
  ![v3060.toNat, 0]
def k0_mult35 (k0_t4 : Fin k0_t4_loop.trips) : BitVec 32 :=
  let c511_i32 : BitVec 32 := 511#32
  let c0_i32_1843 : BitVec 32 := 0#32
  let c0_i32_481 : BitVec 32 := 0#32
  let c1_i32_483 : BitVec 32 := 1#32
  let arg24 : BitVec 32 := Scf.iv c0_i32_481 c1_i32_483 k0_t4
  let c8_i32 : BitVec 32 := 8#32
  let v3048 : BitVec 32 := Scalar.muli arg24 c8_i32
  let c0_i32_1842 : BitVec 32 := 0#32
  let v3049 : BitVec 32 := Scalar.addi v3048 c0_i32_1842
  let v3050 : BitVec 32 := Scalar.addi c0_i32_1843 v3049
  let v3051 : BitVec 32 := Scalar.subi c511_i32 v3050
  let c1_i32_1849 : BitVec 32 := 1#32
  let v3074 : BitVec 32 := Scalar.subi v3051 c1_i32_1849
  let c8_i32_1850 : BitVec 32 := 8#32
  let v3075 : BitVec 32 := Scalar.muli v3074 c8_i32_1850
  v3075
def k0_off6 (k0_t4 : Fin k0_t4_loop.trips) (c0_i32_1843 : BitVec 32) (c0_i32_1842 : BitVec 32) : Fin 2 → Nat :=
  let c511_i32 : BitVec 32 := 511#32
  let c0_i32_481 : BitVec 32 := 0#32
  let c1_i32_483 : BitVec 32 := 1#32
  let arg24 : BitVec 32 := Scf.iv c0_i32_481 c1_i32_483 k0_t4
  let c8_i32 : BitVec 32 := 8#32
  let v3048 : BitVec 32 := Scalar.muli arg24 c8_i32
  let v3049 : BitVec 32 := Scalar.addi v3048 c0_i32_1842
  let v3050 : BitVec 32 := Scalar.addi c0_i32_1843 v3049
  let v3051 : BitVec 32 := Scalar.subi c511_i32 v3050
  let c1_i32_1849 : BitVec 32 := 1#32
  let v3074 : BitVec 32 := Scalar.subi v3051 c1_i32_1849
  let c8_i32_1850 : BitVec 32 := 8#32
  let v3075 : BitVec 32 := Scalar.muli v3074 c8_i32_1850
  let v3076 : BitVec 32 := v3075
  let v3077 : Index := Scalar.indexCast v3076
  let c0_1851 : Index := 0#32
  ![v3077.toNat, 0]
def k0_mult36 (k0_t4 : Fin k0_t4_loop.trips) : BitVec 32 :=
  let c511_i32_1853 : BitVec 32 := 511#32
  let c256_i32 : BitVec 32 := 256#32
  let c0_i32_481 : BitVec 32 := 0#32
  let c1_i32_483 : BitVec 32 := 1#32
  let arg24 : BitVec 32 := Scf.iv c0_i32_481 c1_i32_483 k0_t4
  let c8_i32 : BitVec 32 := 8#32
  let v3048 : BitVec 32 := Scalar.muli arg24 c8_i32
  let c0_i32_1842 : BitVec 32 := 0#32
  let v3049 : BitVec 32 := Scalar.addi v3048 c0_i32_1842
  let v3089 : BitVec 32 := Scalar.addi c256_i32 v3049
  let v3090 : BitVec 32 := Scalar.subi c511_i32_1853 v3089
  let c8_i32_1854 : BitVec 32 := 8#32
  let v3091 : BitVec 32 := Scalar.muli v3090 c8_i32_1854
  v3091
def k0_mult37 (k0_t4 : Fin k0_t4_loop.trips) : BitVec 32 :=
  let c511_i32_1853 : BitVec 32 := 511#32
  let c256_i32 : BitVec 32 := 256#32
  let c0_i32_481 : BitVec 32 := 0#32
  let c1_i32_483 : BitVec 32 := 1#32
  let arg24 : BitVec 32 := Scf.iv c0_i32_481 c1_i32_483 k0_t4
  let c8_i32 : BitVec 32 := 8#32
  let v3048 : BitVec 32 := Scalar.muli arg24 c8_i32
  let c0_i32_1842 : BitVec 32 := 0#32
  let v3049 : BitVec 32 := Scalar.addi v3048 c0_i32_1842
  let v3089 : BitVec 32 := Scalar.addi c256_i32 v3049
  let v3090 : BitVec 32 := Scalar.subi c511_i32_1853 v3089
  let c1_i32_1859 : BitVec 32 := 1#32
  let v3113 : BitVec 32 := Scalar.subi v3090 c1_i32_1859
  let c8_i32_1860 : BitVec 32 := 8#32
  let v3114 : BitVec 32 := Scalar.muli v3113 c8_i32_1860
  v3114
def k0_mult38 (k0_t4 : Fin k0_t4_loop.trips) : BitVec 32 :=
  let c511_i32_1866 : BitVec 32 := 511#32
  let c0_i32_1865 : BitVec 32 := 0#32
  let c0_i32_481 : BitVec 32 := 0#32
  let c1_i32_483 : BitVec 32 := 1#32
  let arg24 : BitVec 32 := Scf.iv c0_i32_481 c1_i32_483 k0_t4
  let c8_i32_1863 : BitVec 32 := 8#32
  let v3128 : BitVec 32 := Scalar.muli arg24 c8_i32_1863
  let c1_i32_1864 : BitVec 32 := 1#32
  let v3129 : BitVec 32 := Scalar.addi v3128 c1_i32_1864
  let v3130 : BitVec 32 := Scalar.addi c0_i32_1865 v3129
  let v3131 : BitVec 32 := Scalar.subi c511_i32_1866 v3130
  let c8_i32_1867 : BitVec 32 := 8#32
  let v3132 : BitVec 32 := Scalar.muli v3131 c8_i32_1867
  v3132
def k0_mult39 (k0_t4 : Fin k0_t4_loop.trips) : BitVec 32 :=
  let c511_i32_1866 : BitVec 32 := 511#32
  let c0_i32_1865 : BitVec 32 := 0#32
  let c0_i32_481 : BitVec 32 := 0#32
  let c1_i32_483 : BitVec 32 := 1#32
  let arg24 : BitVec 32 := Scf.iv c0_i32_481 c1_i32_483 k0_t4
  let c8_i32_1863 : BitVec 32 := 8#32
  let v3128 : BitVec 32 := Scalar.muli arg24 c8_i32_1863
  let c1_i32_1864 : BitVec 32 := 1#32
  let v3129 : BitVec 32 := Scalar.addi v3128 c1_i32_1864
  let v3130 : BitVec 32 := Scalar.addi c0_i32_1865 v3129
  let v3131 : BitVec 32 := Scalar.subi c511_i32_1866 v3130
  let c1_i32_1872 : BitVec 32 := 1#32
  let v3154 : BitVec 32 := Scalar.subi v3131 c1_i32_1872
  let c8_i32_1873 : BitVec 32 := 8#32
  let v3155 : BitVec 32 := Scalar.muli v3154 c8_i32_1873
  v3155
def k0_mult40 (k0_t4 : Fin k0_t4_loop.trips) : BitVec 32 :=
  let c511_i32_1877 : BitVec 32 := 511#32
  let c256_i32_1876 : BitVec 32 := 256#32
  let c0_i32_481 : BitVec 32 := 0#32
  let c1_i32_483 : BitVec 32 := 1#32
  let arg24 : BitVec 32 := Scf.iv c0_i32_481 c1_i32_483 k0_t4
  let c8_i32_1863 : BitVec 32 := 8#32
  let v3128 : BitVec 32 := Scalar.muli arg24 c8_i32_1863
  let c1_i32_1864 : BitVec 32 := 1#32
  let v3129 : BitVec 32 := Scalar.addi v3128 c1_i32_1864
  let v3169 : BitVec 32 := Scalar.addi c256_i32_1876 v3129
  let v3170 : BitVec 32 := Scalar.subi c511_i32_1877 v3169
  let c8_i32_1878 : BitVec 32 := 8#32
  let v3171 : BitVec 32 := Scalar.muli v3170 c8_i32_1878
  v3171
def k0_mult41 (k0_t4 : Fin k0_t4_loop.trips) : BitVec 32 :=
  let c511_i32_1877 : BitVec 32 := 511#32
  let c256_i32_1876 : BitVec 32 := 256#32
  let c0_i32_481 : BitVec 32 := 0#32
  let c1_i32_483 : BitVec 32 := 1#32
  let arg24 : BitVec 32 := Scf.iv c0_i32_481 c1_i32_483 k0_t4
  let c8_i32_1863 : BitVec 32 := 8#32
  let v3128 : BitVec 32 := Scalar.muli arg24 c8_i32_1863
  let c1_i32_1864 : BitVec 32 := 1#32
  let v3129 : BitVec 32 := Scalar.addi v3128 c1_i32_1864
  let v3169 : BitVec 32 := Scalar.addi c256_i32_1876 v3129
  let v3170 : BitVec 32 := Scalar.subi c511_i32_1877 v3169
  let c1_i32_1883 : BitVec 32 := 1#32
  let v3193 : BitVec 32 := Scalar.subi v3170 c1_i32_1883
  let c8_i32_1884 : BitVec 32 := 8#32
  let v3194 : BitVec 32 := Scalar.muli v3193 c8_i32_1884
  v3194
def k0_mult42 (k0_t4 : Fin k0_t4_loop.trips) : BitVec 32 :=
  let c511_i32_1890 : BitVec 32 := 511#32
  let c0_i32_1889 : BitVec 32 := 0#32
  let c0_i32_481 : BitVec 32 := 0#32
  let c1_i32_483 : BitVec 32 := 1#32
  let arg24 : BitVec 32 := Scf.iv c0_i32_481 c1_i32_483 k0_t4
  let c8_i32_1887 : BitVec 32 := 8#32
  let v3208 : BitVec 32 := Scalar.muli arg24 c8_i32_1887
  let c2_i32_1888 : BitVec 32 := 2#32
  let v3209 : BitVec 32 := Scalar.addi v3208 c2_i32_1888
  let v3210 : BitVec 32 := Scalar.addi c0_i32_1889 v3209
  let v3211 : BitVec 32 := Scalar.subi c511_i32_1890 v3210
  let c8_i32_1891 : BitVec 32 := 8#32
  let v3212 : BitVec 32 := Scalar.muli v3211 c8_i32_1891
  v3212
def k0_mult43 (k0_t4 : Fin k0_t4_loop.trips) : BitVec 32 :=
  let c511_i32_1890 : BitVec 32 := 511#32
  let c0_i32_1889 : BitVec 32 := 0#32
  let c0_i32_481 : BitVec 32 := 0#32
  let c1_i32_483 : BitVec 32 := 1#32
  let arg24 : BitVec 32 := Scf.iv c0_i32_481 c1_i32_483 k0_t4
  let c8_i32_1887 : BitVec 32 := 8#32
  let v3208 : BitVec 32 := Scalar.muli arg24 c8_i32_1887
  let c2_i32_1888 : BitVec 32 := 2#32
  let v3209 : BitVec 32 := Scalar.addi v3208 c2_i32_1888
  let v3210 : BitVec 32 := Scalar.addi c0_i32_1889 v3209
  let v3211 : BitVec 32 := Scalar.subi c511_i32_1890 v3210
  let c1_i32_1896 : BitVec 32 := 1#32
  let v3234 : BitVec 32 := Scalar.subi v3211 c1_i32_1896
  let c8_i32_1897 : BitVec 32 := 8#32
  let v3235 : BitVec 32 := Scalar.muli v3234 c8_i32_1897
  v3235
def k0_mult44 (k0_t4 : Fin k0_t4_loop.trips) : BitVec 32 :=
  let c511_i32_1901 : BitVec 32 := 511#32
  let c256_i32_1900 : BitVec 32 := 256#32
  let c0_i32_481 : BitVec 32 := 0#32
  let c1_i32_483 : BitVec 32 := 1#32
  let arg24 : BitVec 32 := Scf.iv c0_i32_481 c1_i32_483 k0_t4
  let c8_i32_1887 : BitVec 32 := 8#32
  let v3208 : BitVec 32 := Scalar.muli arg24 c8_i32_1887
  let c2_i32_1888 : BitVec 32 := 2#32
  let v3209 : BitVec 32 := Scalar.addi v3208 c2_i32_1888
  let v3249 : BitVec 32 := Scalar.addi c256_i32_1900 v3209
  let v3250 : BitVec 32 := Scalar.subi c511_i32_1901 v3249
  let c8_i32_1902 : BitVec 32 := 8#32
  let v3251 : BitVec 32 := Scalar.muli v3250 c8_i32_1902
  v3251
def k0_mult45 (k0_t4 : Fin k0_t4_loop.trips) : BitVec 32 :=
  let c511_i32_1901 : BitVec 32 := 511#32
  let c256_i32_1900 : BitVec 32 := 256#32
  let c0_i32_481 : BitVec 32 := 0#32
  let c1_i32_483 : BitVec 32 := 1#32
  let arg24 : BitVec 32 := Scf.iv c0_i32_481 c1_i32_483 k0_t4
  let c8_i32_1887 : BitVec 32 := 8#32
  let v3208 : BitVec 32 := Scalar.muli arg24 c8_i32_1887
  let c2_i32_1888 : BitVec 32 := 2#32
  let v3209 : BitVec 32 := Scalar.addi v3208 c2_i32_1888
  let v3249 : BitVec 32 := Scalar.addi c256_i32_1900 v3209
  let v3250 : BitVec 32 := Scalar.subi c511_i32_1901 v3249
  let c1_i32_1907 : BitVec 32 := 1#32
  let v3273 : BitVec 32 := Scalar.subi v3250 c1_i32_1907
  let c8_i32_1908 : BitVec 32 := 8#32
  let v3274 : BitVec 32 := Scalar.muli v3273 c8_i32_1908
  v3274
def k0_mult46 (k0_t4 : Fin k0_t4_loop.trips) : BitVec 32 :=
  let c511_i32_1913 : BitVec 32 := 511#32
  let c0_i32_1912 : BitVec 32 := 0#32
  let c0_i32_481 : BitVec 32 := 0#32
  let c1_i32_483 : BitVec 32 := 1#32
  let arg24 : BitVec 32 := Scf.iv c0_i32_481 c1_i32_483 k0_t4
  let c8_i32_1911 : BitVec 32 := 8#32
  let v3288 : BitVec 32 := Scalar.muli arg24 c8_i32_1911
  let c3_i32 : BitVec 32 := 3#32
  let v3289 : BitVec 32 := Scalar.addi v3288 c3_i32
  let v3290 : BitVec 32 := Scalar.addi c0_i32_1912 v3289
  let v3291 : BitVec 32 := Scalar.subi c511_i32_1913 v3290
  let c8_i32_1914 : BitVec 32 := 8#32
  let v3292 : BitVec 32 := Scalar.muli v3291 c8_i32_1914
  v3292
def k0_mult47 (k0_t4 : Fin k0_t4_loop.trips) : BitVec 32 :=
  let c511_i32_1913 : BitVec 32 := 511#32
  let c0_i32_1912 : BitVec 32 := 0#32
  let c0_i32_481 : BitVec 32 := 0#32
  let c1_i32_483 : BitVec 32 := 1#32
  let arg24 : BitVec 32 := Scf.iv c0_i32_481 c1_i32_483 k0_t4
  let c8_i32_1911 : BitVec 32 := 8#32
  let v3288 : BitVec 32 := Scalar.muli arg24 c8_i32_1911
  let c3_i32 : BitVec 32 := 3#32
  let v3289 : BitVec 32 := Scalar.addi v3288 c3_i32
  let v3290 : BitVec 32 := Scalar.addi c0_i32_1912 v3289
  let v3291 : BitVec 32 := Scalar.subi c511_i32_1913 v3290
  let c1_i32_1919 : BitVec 32 := 1#32
  let v3314 : BitVec 32 := Scalar.subi v3291 c1_i32_1919
  let c8_i32_1920 : BitVec 32 := 8#32
  let v3315 : BitVec 32 := Scalar.muli v3314 c8_i32_1920
  v3315
def k0_mult48 (k0_t4 : Fin k0_t4_loop.trips) : BitVec 32 :=
  let c511_i32_1924 : BitVec 32 := 511#32
  let c256_i32_1923 : BitVec 32 := 256#32
  let c0_i32_481 : BitVec 32 := 0#32
  let c1_i32_483 : BitVec 32 := 1#32
  let arg24 : BitVec 32 := Scf.iv c0_i32_481 c1_i32_483 k0_t4
  let c8_i32_1911 : BitVec 32 := 8#32
  let v3288 : BitVec 32 := Scalar.muli arg24 c8_i32_1911
  let c3_i32 : BitVec 32 := 3#32
  let v3289 : BitVec 32 := Scalar.addi v3288 c3_i32
  let v3329 : BitVec 32 := Scalar.addi c256_i32_1923 v3289
  let v3330 : BitVec 32 := Scalar.subi c511_i32_1924 v3329
  let c8_i32_1925 : BitVec 32 := 8#32
  let v3331 : BitVec 32 := Scalar.muli v3330 c8_i32_1925
  v3331
def k0_mult49 (k0_t4 : Fin k0_t4_loop.trips) : BitVec 32 :=
  let c511_i32_1924 : BitVec 32 := 511#32
  let c256_i32_1923 : BitVec 32 := 256#32
  let c0_i32_481 : BitVec 32 := 0#32
  let c1_i32_483 : BitVec 32 := 1#32
  let arg24 : BitVec 32 := Scf.iv c0_i32_481 c1_i32_483 k0_t4
  let c8_i32_1911 : BitVec 32 := 8#32
  let v3288 : BitVec 32 := Scalar.muli arg24 c8_i32_1911
  let c3_i32 : BitVec 32 := 3#32
  let v3289 : BitVec 32 := Scalar.addi v3288 c3_i32
  let v3329 : BitVec 32 := Scalar.addi c256_i32_1923 v3289
  let v3330 : BitVec 32 := Scalar.subi c511_i32_1924 v3329
  let c1_i32_1930 : BitVec 32 := 1#32
  let v3353 : BitVec 32 := Scalar.subi v3330 c1_i32_1930
  let c8_i32_1931 : BitVec 32 := 8#32
  let v3354 : BitVec 32 := Scalar.muli v3353 c8_i32_1931
  v3354
def k0_mult50 (k0_t4 : Fin k0_t4_loop.trips) : BitVec 32 :=
  let c511_i32_1936 : BitVec 32 := 511#32
  let c0_i32_1935 : BitVec 32 := 0#32
  let c0_i32_481 : BitVec 32 := 0#32
  let c1_i32_483 : BitVec 32 := 1#32
  let arg24 : BitVec 32 := Scf.iv c0_i32_481 c1_i32_483 k0_t4
  let c8_i32_1934 : BitVec 32 := 8#32
  let v3368 : BitVec 32 := Scalar.muli arg24 c8_i32_1934
  let c4_i32 : BitVec 32 := 4#32
  let v3369 : BitVec 32 := Scalar.addi v3368 c4_i32
  let v3370 : BitVec 32 := Scalar.addi c0_i32_1935 v3369
  let v3371 : BitVec 32 := Scalar.subi c511_i32_1936 v3370
  let c8_i32_1937 : BitVec 32 := 8#32
  let v3372 : BitVec 32 := Scalar.muli v3371 c8_i32_1937
  v3372
def k0_mult51 (k0_t4 : Fin k0_t4_loop.trips) : BitVec 32 :=
  let c511_i32_1936 : BitVec 32 := 511#32
  let c0_i32_1935 : BitVec 32 := 0#32
  let c0_i32_481 : BitVec 32 := 0#32
  let c1_i32_483 : BitVec 32 := 1#32
  let arg24 : BitVec 32 := Scf.iv c0_i32_481 c1_i32_483 k0_t4
  let c8_i32_1934 : BitVec 32 := 8#32
  let v3368 : BitVec 32 := Scalar.muli arg24 c8_i32_1934
  let c4_i32 : BitVec 32 := 4#32
  let v3369 : BitVec 32 := Scalar.addi v3368 c4_i32
  let v3370 : BitVec 32 := Scalar.addi c0_i32_1935 v3369
  let v3371 : BitVec 32 := Scalar.subi c511_i32_1936 v3370
  let c1_i32_1942 : BitVec 32 := 1#32
  let v3394 : BitVec 32 := Scalar.subi v3371 c1_i32_1942
  let c8_i32_1943 : BitVec 32 := 8#32
  let v3395 : BitVec 32 := Scalar.muli v3394 c8_i32_1943
  v3395
def k0_mult52 (k0_t4 : Fin k0_t4_loop.trips) : BitVec 32 :=
  let c511_i32_1947 : BitVec 32 := 511#32
  let c256_i32_1946 : BitVec 32 := 256#32
  let c0_i32_481 : BitVec 32 := 0#32
  let c1_i32_483 : BitVec 32 := 1#32
  let arg24 : BitVec 32 := Scf.iv c0_i32_481 c1_i32_483 k0_t4
  let c8_i32_1934 : BitVec 32 := 8#32
  let v3368 : BitVec 32 := Scalar.muli arg24 c8_i32_1934
  let c4_i32 : BitVec 32 := 4#32
  let v3369 : BitVec 32 := Scalar.addi v3368 c4_i32
  let v3409 : BitVec 32 := Scalar.addi c256_i32_1946 v3369
  let v3410 : BitVec 32 := Scalar.subi c511_i32_1947 v3409
  let c8_i32_1948 : BitVec 32 := 8#32
  let v3411 : BitVec 32 := Scalar.muli v3410 c8_i32_1948
  v3411
def k0_mult53 (k0_t4 : Fin k0_t4_loop.trips) : BitVec 32 :=
  let c511_i32_1947 : BitVec 32 := 511#32
  let c256_i32_1946 : BitVec 32 := 256#32
  let c0_i32_481 : BitVec 32 := 0#32
  let c1_i32_483 : BitVec 32 := 1#32
  let arg24 : BitVec 32 := Scf.iv c0_i32_481 c1_i32_483 k0_t4
  let c8_i32_1934 : BitVec 32 := 8#32
  let v3368 : BitVec 32 := Scalar.muli arg24 c8_i32_1934
  let c4_i32 : BitVec 32 := 4#32
  let v3369 : BitVec 32 := Scalar.addi v3368 c4_i32
  let v3409 : BitVec 32 := Scalar.addi c256_i32_1946 v3369
  let v3410 : BitVec 32 := Scalar.subi c511_i32_1947 v3409
  let c1_i32_1953 : BitVec 32 := 1#32
  let v3433 : BitVec 32 := Scalar.subi v3410 c1_i32_1953
  let c8_i32_1954 : BitVec 32 := 8#32
  let v3434 : BitVec 32 := Scalar.muli v3433 c8_i32_1954
  v3434
def k0_mult54 (k0_t4 : Fin k0_t4_loop.trips) : BitVec 32 :=
  let c511_i32_1959 : BitVec 32 := 511#32
  let c0_i32_1958 : BitVec 32 := 0#32
  let c0_i32_481 : BitVec 32 := 0#32
  let c1_i32_483 : BitVec 32 := 1#32
  let arg24 : BitVec 32 := Scf.iv c0_i32_481 c1_i32_483 k0_t4
  let c8_i32_1957 : BitVec 32 := 8#32
  let v3448 : BitVec 32 := Scalar.muli arg24 c8_i32_1957
  let c5_i32 : BitVec 32 := 5#32
  let v3449 : BitVec 32 := Scalar.addi v3448 c5_i32
  let v3450 : BitVec 32 := Scalar.addi c0_i32_1958 v3449
  let v3451 : BitVec 32 := Scalar.subi c511_i32_1959 v3450
  let c8_i32_1960 : BitVec 32 := 8#32
  let v3452 : BitVec 32 := Scalar.muli v3451 c8_i32_1960
  v3452
def k0_mult55 (k0_t4 : Fin k0_t4_loop.trips) : BitVec 32 :=
  let c511_i32_1959 : BitVec 32 := 511#32
  let c0_i32_1958 : BitVec 32 := 0#32
  let c0_i32_481 : BitVec 32 := 0#32
  let c1_i32_483 : BitVec 32 := 1#32
  let arg24 : BitVec 32 := Scf.iv c0_i32_481 c1_i32_483 k0_t4
  let c8_i32_1957 : BitVec 32 := 8#32
  let v3448 : BitVec 32 := Scalar.muli arg24 c8_i32_1957
  let c5_i32 : BitVec 32 := 5#32
  let v3449 : BitVec 32 := Scalar.addi v3448 c5_i32
  let v3450 : BitVec 32 := Scalar.addi c0_i32_1958 v3449
  let v3451 : BitVec 32 := Scalar.subi c511_i32_1959 v3450
  let c1_i32_1965 : BitVec 32 := 1#32
  let v3474 : BitVec 32 := Scalar.subi v3451 c1_i32_1965
  let c8_i32_1966 : BitVec 32 := 8#32
  let v3475 : BitVec 32 := Scalar.muli v3474 c8_i32_1966
  v3475
def k0_mult56 (k0_t4 : Fin k0_t4_loop.trips) : BitVec 32 :=
  let c511_i32_1970 : BitVec 32 := 511#32
  let c256_i32_1969 : BitVec 32 := 256#32
  let c0_i32_481 : BitVec 32 := 0#32
  let c1_i32_483 : BitVec 32 := 1#32
  let arg24 : BitVec 32 := Scf.iv c0_i32_481 c1_i32_483 k0_t4
  let c8_i32_1957 : BitVec 32 := 8#32
  let v3448 : BitVec 32 := Scalar.muli arg24 c8_i32_1957
  let c5_i32 : BitVec 32 := 5#32
  let v3449 : BitVec 32 := Scalar.addi v3448 c5_i32
  let v3489 : BitVec 32 := Scalar.addi c256_i32_1969 v3449
  let v3490 : BitVec 32 := Scalar.subi c511_i32_1970 v3489
  let c8_i32_1971 : BitVec 32 := 8#32
  let v3491 : BitVec 32 := Scalar.muli v3490 c8_i32_1971
  v3491
def k0_mult57 (k0_t4 : Fin k0_t4_loop.trips) : BitVec 32 :=
  let c511_i32_1970 : BitVec 32 := 511#32
  let c256_i32_1969 : BitVec 32 := 256#32
  let c0_i32_481 : BitVec 32 := 0#32
  let c1_i32_483 : BitVec 32 := 1#32
  let arg24 : BitVec 32 := Scf.iv c0_i32_481 c1_i32_483 k0_t4
  let c8_i32_1957 : BitVec 32 := 8#32
  let v3448 : BitVec 32 := Scalar.muli arg24 c8_i32_1957
  let c5_i32 : BitVec 32 := 5#32
  let v3449 : BitVec 32 := Scalar.addi v3448 c5_i32
  let v3489 : BitVec 32 := Scalar.addi c256_i32_1969 v3449
  let v3490 : BitVec 32 := Scalar.subi c511_i32_1970 v3489
  let c1_i32_1976 : BitVec 32 := 1#32
  let v3513 : BitVec 32 := Scalar.subi v3490 c1_i32_1976
  let c8_i32_1977 : BitVec 32 := 8#32
  let v3514 : BitVec 32 := Scalar.muli v3513 c8_i32_1977
  v3514
def k0_mult58 (k0_t4 : Fin k0_t4_loop.trips) : BitVec 32 :=
  let c511_i32_1982 : BitVec 32 := 511#32
  let c0_i32_1981 : BitVec 32 := 0#32
  let c0_i32_481 : BitVec 32 := 0#32
  let c1_i32_483 : BitVec 32 := 1#32
  let arg24 : BitVec 32 := Scf.iv c0_i32_481 c1_i32_483 k0_t4
  let c8_i32_1980 : BitVec 32 := 8#32
  let v3528 : BitVec 32 := Scalar.muli arg24 c8_i32_1980
  let c6_i32 : BitVec 32 := 6#32
  let v3529 : BitVec 32 := Scalar.addi v3528 c6_i32
  let v3530 : BitVec 32 := Scalar.addi c0_i32_1981 v3529
  let v3531 : BitVec 32 := Scalar.subi c511_i32_1982 v3530
  let c8_i32_1983 : BitVec 32 := 8#32
  let v3532 : BitVec 32 := Scalar.muli v3531 c8_i32_1983
  v3532
def k0_mult59 (k0_t4 : Fin k0_t4_loop.trips) : BitVec 32 :=
  let c511_i32_1982 : BitVec 32 := 511#32
  let c0_i32_1981 : BitVec 32 := 0#32
  let c0_i32_481 : BitVec 32 := 0#32
  let c1_i32_483 : BitVec 32 := 1#32
  let arg24 : BitVec 32 := Scf.iv c0_i32_481 c1_i32_483 k0_t4
  let c8_i32_1980 : BitVec 32 := 8#32
  let v3528 : BitVec 32 := Scalar.muli arg24 c8_i32_1980
  let c6_i32 : BitVec 32 := 6#32
  let v3529 : BitVec 32 := Scalar.addi v3528 c6_i32
  let v3530 : BitVec 32 := Scalar.addi c0_i32_1981 v3529
  let v3531 : BitVec 32 := Scalar.subi c511_i32_1982 v3530
  let c1_i32_1988 : BitVec 32 := 1#32
  let v3554 : BitVec 32 := Scalar.subi v3531 c1_i32_1988
  let c8_i32_1989 : BitVec 32 := 8#32
  let v3555 : BitVec 32 := Scalar.muli v3554 c8_i32_1989
  v3555
def k0_mult60 (k0_t4 : Fin k0_t4_loop.trips) : BitVec 32 :=
  let c511_i32_1993 : BitVec 32 := 511#32
  let c256_i32_1992 : BitVec 32 := 256#32
  let c0_i32_481 : BitVec 32 := 0#32
  let c1_i32_483 : BitVec 32 := 1#32
  let arg24 : BitVec 32 := Scf.iv c0_i32_481 c1_i32_483 k0_t4
  let c8_i32_1980 : BitVec 32 := 8#32
  let v3528 : BitVec 32 := Scalar.muli arg24 c8_i32_1980
  let c6_i32 : BitVec 32 := 6#32
  let v3529 : BitVec 32 := Scalar.addi v3528 c6_i32
  let v3569 : BitVec 32 := Scalar.addi c256_i32_1992 v3529
  let v3570 : BitVec 32 := Scalar.subi c511_i32_1993 v3569
  let c8_i32_1994 : BitVec 32 := 8#32
  let v3571 : BitVec 32 := Scalar.muli v3570 c8_i32_1994
  v3571
def k0_mult61 (k0_t4 : Fin k0_t4_loop.trips) : BitVec 32 :=
  let c511_i32_1993 : BitVec 32 := 511#32
  let c256_i32_1992 : BitVec 32 := 256#32
  let c0_i32_481 : BitVec 32 := 0#32
  let c1_i32_483 : BitVec 32 := 1#32
  let arg24 : BitVec 32 := Scf.iv c0_i32_481 c1_i32_483 k0_t4
  let c8_i32_1980 : BitVec 32 := 8#32
  let v3528 : BitVec 32 := Scalar.muli arg24 c8_i32_1980
  let c6_i32 : BitVec 32 := 6#32
  let v3529 : BitVec 32 := Scalar.addi v3528 c6_i32
  let v3569 : BitVec 32 := Scalar.addi c256_i32_1992 v3529
  let v3570 : BitVec 32 := Scalar.subi c511_i32_1993 v3569
  let c1_i32_1999 : BitVec 32 := 1#32
  let v3593 : BitVec 32 := Scalar.subi v3570 c1_i32_1999
  let c8_i32_2000 : BitVec 32 := 8#32
  let v3594 : BitVec 32 := Scalar.muli v3593 c8_i32_2000
  v3594
def k0_mult62 (k0_t4 : Fin k0_t4_loop.trips) : BitVec 32 :=
  let c511_i32_2006 : BitVec 32 := 511#32
  let c0_i32_2005 : BitVec 32 := 0#32
  let c0_i32_481 : BitVec 32 := 0#32
  let c1_i32_483 : BitVec 32 := 1#32
  let arg24 : BitVec 32 := Scf.iv c0_i32_481 c1_i32_483 k0_t4
  let c8_i32_2003 : BitVec 32 := 8#32
  let v3608 : BitVec 32 := Scalar.muli arg24 c8_i32_2003
  let c7_i32_2004 : BitVec 32 := 7#32
  let v3609 : BitVec 32 := Scalar.addi v3608 c7_i32_2004
  let v3610 : BitVec 32 := Scalar.addi c0_i32_2005 v3609
  let v3611 : BitVec 32 := Scalar.subi c511_i32_2006 v3610
  let c8_i32_2007 : BitVec 32 := 8#32
  let v3612 : BitVec 32 := Scalar.muli v3611 c8_i32_2007
  v3612
def k0_mult63 (k0_t4 : Fin k0_t4_loop.trips) : BitVec 32 :=
  let c511_i32_2006 : BitVec 32 := 511#32
  let c0_i32_2005 : BitVec 32 := 0#32
  let c0_i32_481 : BitVec 32 := 0#32
  let c1_i32_483 : BitVec 32 := 1#32
  let arg24 : BitVec 32 := Scf.iv c0_i32_481 c1_i32_483 k0_t4
  let c8_i32_2003 : BitVec 32 := 8#32
  let v3608 : BitVec 32 := Scalar.muli arg24 c8_i32_2003
  let c7_i32_2004 : BitVec 32 := 7#32
  let v3609 : BitVec 32 := Scalar.addi v3608 c7_i32_2004
  let v3610 : BitVec 32 := Scalar.addi c0_i32_2005 v3609
  let v3611 : BitVec 32 := Scalar.subi c511_i32_2006 v3610
  let c1_i32_2012 : BitVec 32 := 1#32
  let v3634 : BitVec 32 := Scalar.subi v3611 c1_i32_2012
  let c8_i32_2013 : BitVec 32 := 8#32
  let v3635 : BitVec 32 := Scalar.muli v3634 c8_i32_2013
  v3635
def k0_mult64 (k0_t4 : Fin k0_t4_loop.trips) : BitVec 32 :=
  let c511_i32_2017 : BitVec 32 := 511#32
  let c256_i32_2016 : BitVec 32 := 256#32
  let c0_i32_481 : BitVec 32 := 0#32
  let c1_i32_483 : BitVec 32 := 1#32
  let arg24 : BitVec 32 := Scf.iv c0_i32_481 c1_i32_483 k0_t4
  let c8_i32_2003 : BitVec 32 := 8#32
  let v3608 : BitVec 32 := Scalar.muli arg24 c8_i32_2003
  let c7_i32_2004 : BitVec 32 := 7#32
  let v3609 : BitVec 32 := Scalar.addi v3608 c7_i32_2004
  let v3649 : BitVec 32 := Scalar.addi c256_i32_2016 v3609
  let v3650 : BitVec 32 := Scalar.subi c511_i32_2017 v3649
  let c8_i32_2018 : BitVec 32 := 8#32
  let v3651 : BitVec 32 := Scalar.muli v3650 c8_i32_2018
  v3651
def k0_mult65 (k0_t4 : Fin k0_t4_loop.trips) : BitVec 32 :=
  let c511_i32_2017 : BitVec 32 := 511#32
  let c256_i32_2016 : BitVec 32 := 256#32
  let c0_i32_481 : BitVec 32 := 0#32
  let c1_i32_483 : BitVec 32 := 1#32
  let arg24 : BitVec 32 := Scf.iv c0_i32_481 c1_i32_483 k0_t4
  let c8_i32_2003 : BitVec 32 := 8#32
  let v3608 : BitVec 32 := Scalar.muli arg24 c8_i32_2003
  let c7_i32_2004 : BitVec 32 := 7#32
  let v3609 : BitVec 32 := Scalar.addi v3608 c7_i32_2004
  let v3649 : BitVec 32 := Scalar.addi c256_i32_2016 v3609
  let v3650 : BitVec 32 := Scalar.subi c511_i32_2017 v3649
  let c1_i32_2023 : BitVec 32 := 1#32
  let v3673 : BitVec 32 := Scalar.subi v3650 c1_i32_2023
  let c8_i32_2024 : BitVec 32 := 8#32
  let v3674 : BitVec 32 := Scalar.muli v3673 c8_i32_2024
  v3674
@[reducible] def k0_t5_loop : Scf.Loop 32 :=
  let c0_i32_674 : BitVec 32 := 0#32
  let c2_i32_675 : BitVec 32 := 2#32
  let v1371 : BitVec 32 := Scalar.addi c0_i32_674 c2_i32_675
  let c1_i32_676 : BitVec 32 := 1#32
  ⟨c0_i32_674, v1371, c1_i32_676⟩
def k0_mult66 (k0_t5 : Fin k0_t5_loop.trips) : BitVec 32 :=
  let c0_i32_674 : BitVec 32 := 0#32
  let c1_i32_676 : BitVec 32 := 1#32
  let arg24 : BitVec 32 := Scf.iv c0_i32_674 c1_i32_676 k0_t5
  let c2048_i32 : BitVec 32 := 2048#32
  let v3048 : BitVec 32 := Scalar.muli arg24 c2048_i32
  v3048
def k0_off7 (k0_t5 : Fin k0_t5_loop.trips) : Fin 2 → Nat :=
  let c0_i32_674 : BitVec 32 := 0#32
  let c1_i32_676 : BitVec 32 := 1#32
  let arg24 : BitVec 32 := Scf.iv c0_i32_674 c1_i32_676 k0_t5
  let c2048_i32 : BitVec 32 := 2048#32
  let v3048 : BitVec 32 := Scalar.muli arg24 c2048_i32
  let v3049 : BitVec 32 := v3048
  let v3050 : Index := Scalar.indexCast v3049
  let c0_1842 : Index := 0#32
  ![v3050.toNat, 0]
def k0_off8 (k0_t5 : Fin k0_t5_loop.trips) : Fin 2 → Nat :=
  let c0_i32_674 : BitVec 32 := 0#32
  let c1_i32_676 : BitVec 32 := 1#32
  let arg24 : BitVec 32 := Scf.iv c0_i32_674 c1_i32_676 k0_t5
  let c2048_i32 : BitVec 32 := 2048#32
  let v3048 : BitVec 32 := Scalar.muli arg24 c2048_i32
  let v3049 : BitVec 32 := v3048
  let v3056 : Index := Scalar.indexCast v3049
  let c0_1844 : Index := 0#32
  ![v3056.toNat, 0]
@[reducible] def k0_t6_loop : Scf.Loop 32 :=
  let c0_i32_1197 : BitVec 32 := 0#32
  let c2_i32_1198 : BitVec 32 := 2#32
  let v1923 : BitVec 32 := Scalar.addi c0_i32_1197 c2_i32_1198
  let c1_i32_1199 : BitVec 32 := 1#32
  ⟨c0_i32_1197, v1923, c1_i32_1199⟩
def k0_mult67 (k0_t6 : Fin k0_t6_loop.trips) : BitVec 32 :=
  let c0_i32_1197 : BitVec 32 := 0#32
  let c1_i32_1199 : BitVec 32 := 1#32
  let arg24 : BitVec 32 := Scf.iv c0_i32_1197 c1_i32_1199 k0_t6
  let c2048_i32 : BitVec 32 := 2048#32
  let v3048 : BitVec 32 := Scalar.muli arg24 c2048_i32
  v3048
def k0_off9 (k0_t6 : Fin k0_t6_loop.trips) : Fin 2 → Nat :=
  let c0_i32_1197 : BitVec 32 := 0#32
  let c1_i32_1199 : BitVec 32 := 1#32
  let arg24 : BitVec 32 := Scf.iv c0_i32_1197 c1_i32_1199 k0_t6
  let c2048_i32 : BitVec 32 := 2048#32
  let v3048 : BitVec 32 := Scalar.muli arg24 c2048_i32
  let v3049 : BitVec 32 := v3048
  let v3050 : Index := Scalar.indexCast v3049
  let c0_1842 : Index := 0#32
  ![v3050.toNat, 0]
def k0_off10 (k0_t6 : Fin k0_t6_loop.trips) : Fin 2 → Nat :=
  let c0_i32_1197 : BitVec 32 := 0#32
  let c1_i32_1199 : BitVec 32 := 1#32
  let arg24 : BitVec 32 := Scf.iv c0_i32_1197 c1_i32_1199 k0_t6
  let c2048_i32 : BitVec 32 := 2048#32
  let v3048 : BitVec 32 := Scalar.muli arg24 c2048_i32
  let v3049 : BitVec 32 := v3048
  let v3057 : Index := Scalar.indexCast v3049
  let c0_1847 : Index := 0#32
  ![v3057.toNat, 0]
@[reducible] def k0_t7_loop : Scf.Loop 32 :=
  let c0_i32_1221 : BitVec 32 := 0#32
  let c31_i32_1222 : BitVec 32 := 31#32
  let v1936 : BitVec 32 := Scalar.addi c0_i32_1221 c31_i32_1222
  let c1_i32_1223 : BitVec 32 := 1#32
  ⟨c0_i32_1221, v1936, c1_i32_1223⟩
def k0_mult68 (k0_t7 : Fin k0_t7_loop.trips) : BitVec 32 :=
  let c511_i32 : BitVec 32 := 511#32
  let c0_i32_1843 : BitVec 32 := 0#32
  let c0_i32_1221 : BitVec 32 := 0#32
  let c1_i32_1223 : BitVec 32 := 1#32
  let arg24 : BitVec 32 := Scf.iv c0_i32_1221 c1_i32_1223 k0_t7
  let c8_i32 : BitVec 32 := 8#32
  let v3048 : BitVec 32 := Scalar.muli arg24 c8_i32
  let c0_i32_1842 : BitVec 32 := 0#32
  let v3049 : BitVec 32 := Scalar.addi v3048 c0_i32_1842
  let v3050 : BitVec 32 := Scalar.addi c0_i32_1843 v3049
  let v3051 : BitVec 32 := Scalar.subi c511_i32 v3050
  let c8_i32_1844 : BitVec 32 := 8#32
  let v3052 : BitVec 32 := Scalar.muli v3051 c8_i32_1844
  v3052
def k0_off11 (k0_t7 : Fin k0_t7_loop.trips) (c0_i32_1843 : BitVec 32) (c0_i32_1842 : BitVec 32) : Fin 2 → Nat :=
  let c511_i32 : BitVec 32 := 511#32
  let c0_i32_1221 : BitVec 32 := 0#32
  let c1_i32_1223 : BitVec 32 := 1#32
  let arg24 : BitVec 32 := Scf.iv c0_i32_1221 c1_i32_1223 k0_t7
  let c8_i32 : BitVec 32 := 8#32
  let v3048 : BitVec 32 := Scalar.muli arg24 c8_i32
  let v3049 : BitVec 32 := Scalar.addi v3048 c0_i32_1842
  let v3050 : BitVec 32 := Scalar.addi c0_i32_1843 v3049
  let v3051 : BitVec 32 := Scalar.subi c511_i32 v3050
  let c8_i32_1844 : BitVec 32 := 8#32
  let v3052 : BitVec 32 := Scalar.muli v3051 c8_i32_1844
  let v3053 : BitVec 32 := v3052
  let v3060 : Index := Scalar.indexCast v3053
  let c0_1845 : Index := 0#32
  ![v3060.toNat, 0]
def k0_mult69 (k0_t7 : Fin k0_t7_loop.trips) : BitVec 32 :=
  let c511_i32_1849 : BitVec 32 := 511#32
  let c256_i32 : BitVec 32 := 256#32
  let c0_i32_1221 : BitVec 32 := 0#32
  let c1_i32_1223 : BitVec 32 := 1#32
  let arg24 : BitVec 32 := Scf.iv c0_i32_1221 c1_i32_1223 k0_t7
  let c8_i32 : BitVec 32 := 8#32
  let v3048 : BitVec 32 := Scalar.muli arg24 c8_i32
  let c0_i32_1842 : BitVec 32 := 0#32
  let v3049 : BitVec 32 := Scalar.addi v3048 c0_i32_1842
  let v3074 : BitVec 32 := Scalar.addi c256_i32 v3049
  let v3075 : BitVec 32 := Scalar.subi c511_i32_1849 v3074
  let c8_i32_1850 : BitVec 32 := 8#32
  let v3076 : BitVec 32 := Scalar.muli v3075 c8_i32_1850
  v3076
def k0_mult70 (k0_t7 : Fin k0_t7_loop.trips) : BitVec 32 :=
  let c511_i32_1858 : BitVec 32 := 511#32
  let c0_i32_1857 : BitVec 32 := 0#32
  let c0_i32_1221 : BitVec 32 := 0#32
  let c1_i32_1223 : BitVec 32 := 1#32
  let arg24 : BitVec 32 := Scf.iv c0_i32_1221 c1_i32_1223 k0_t7
  let c8_i32_1855 : BitVec 32 := 8#32
  let v3098 : BitVec 32 := Scalar.muli arg24 c8_i32_1855
  let c1_i32_1856 : BitVec 32 := 1#32
  let v3099 : BitVec 32 := Scalar.addi v3098 c1_i32_1856
  let v3100 : BitVec 32 := Scalar.addi c0_i32_1857 v3099
  let v3101 : BitVec 32 := Scalar.subi c511_i32_1858 v3100
  let c8_i32_1859 : BitVec 32 := 8#32
  let v3102 : BitVec 32 := Scalar.muli v3101 c8_i32_1859
  v3102
def k0_mult71 (k0_t7 : Fin k0_t7_loop.trips) : BitVec 32 :=
  let c511_i32_1865 : BitVec 32 := 511#32
  let c256_i32_1864 : BitVec 32 := 256#32
  let c0_i32_1221 : BitVec 32 := 0#32
  let c1_i32_1223 : BitVec 32 := 1#32
  let arg24 : BitVec 32 := Scf.iv c0_i32_1221 c1_i32_1223 k0_t7
  let c8_i32_1855 : BitVec 32 := 8#32
  let v3098 : BitVec 32 := Scalar.muli arg24 c8_i32_1855
  let c1_i32_1856 : BitVec 32 := 1#32
  let v3099 : BitVec 32 := Scalar.addi v3098 c1_i32_1856
  let v3124 : BitVec 32 := Scalar.addi c256_i32_1864 v3099
  let v3125 : BitVec 32 := Scalar.subi c511_i32_1865 v3124
  let c8_i32_1866 : BitVec 32 := 8#32
  let v3126 : BitVec 32 := Scalar.muli v3125 c8_i32_1866
  v3126
def k0_mult72 (k0_t7 : Fin k0_t7_loop.trips) : BitVec 32 :=
  let c511_i32_1874 : BitVec 32 := 511#32
  let c0_i32_1873 : BitVec 32 := 0#32
  let c0_i32_1221 : BitVec 32 := 0#32
  let c1_i32_1223 : BitVec 32 := 1#32
  let arg24 : BitVec 32 := Scf.iv c0_i32_1221 c1_i32_1223 k0_t7
  let c8_i32_1871 : BitVec 32 := 8#32
  let v3148 : BitVec 32 := Scalar.muli arg24 c8_i32_1871
  let c2_i32_1872 : BitVec 32 := 2#32
  let v3149 : BitVec 32 := Scalar.addi v3148 c2_i32_1872
  let v3150 : BitVec 32 := Scalar.addi c0_i32_1873 v3149
  let v3151 : BitVec 32 := Scalar.subi c511_i32_1874 v3150
  let c8_i32_1875 : BitVec 32 := 8#32
  let v3152 : BitVec 32 := Scalar.muli v3151 c8_i32_1875
  v3152
def k0_mult73 (k0_t7 : Fin k0_t7_loop.trips) : BitVec 32 :=
  let c511_i32_1881 : BitVec 32 := 511#32
  let c256_i32_1880 : BitVec 32 := 256#32
  let c0_i32_1221 : BitVec 32 := 0#32
  let c1_i32_1223 : BitVec 32 := 1#32
  let arg24 : BitVec 32 := Scf.iv c0_i32_1221 c1_i32_1223 k0_t7
  let c8_i32_1871 : BitVec 32 := 8#32
  let v3148 : BitVec 32 := Scalar.muli arg24 c8_i32_1871
  let c2_i32_1872 : BitVec 32 := 2#32
  let v3149 : BitVec 32 := Scalar.addi v3148 c2_i32_1872
  let v3174 : BitVec 32 := Scalar.addi c256_i32_1880 v3149
  let v3175 : BitVec 32 := Scalar.subi c511_i32_1881 v3174
  let c8_i32_1882 : BitVec 32 := 8#32
  let v3176 : BitVec 32 := Scalar.muli v3175 c8_i32_1882
  v3176
def k0_mult74 (k0_t7 : Fin k0_t7_loop.trips) : BitVec 32 :=
  let c511_i32_1889 : BitVec 32 := 511#32
  let c0_i32_1888 : BitVec 32 := 0#32
  let c0_i32_1221 : BitVec 32 := 0#32
  let c1_i32_1223 : BitVec 32 := 1#32
  let arg24 : BitVec 32 := Scf.iv c0_i32_1221 c1_i32_1223 k0_t7
  let c8_i32_1887 : BitVec 32 := 8#32
  let v3198 : BitVec 32 := Scalar.muli arg24 c8_i32_1887
  let c3_i32 : BitVec 32 := 3#32
  let v3199 : BitVec 32 := Scalar.addi v3198 c3_i32
  let v3200 : BitVec 32 := Scalar.addi c0_i32_1888 v3199
  let v3201 : BitVec 32 := Scalar.subi c511_i32_1889 v3200
  let c8_i32_1890 : BitVec 32 := 8#32
  let v3202 : BitVec 32 := Scalar.muli v3201 c8_i32_1890
  v3202
def k0_mult75 (k0_t7 : Fin k0_t7_loop.trips) : BitVec 32 :=
  let c511_i32_1896 : BitVec 32 := 511#32
  let c256_i32_1895 : BitVec 32 := 256#32
  let c0_i32_1221 : BitVec 32 := 0#32
  let c1_i32_1223 : BitVec 32 := 1#32
  let arg24 : BitVec 32 := Scf.iv c0_i32_1221 c1_i32_1223 k0_t7
  let c8_i32_1887 : BitVec 32 := 8#32
  let v3198 : BitVec 32 := Scalar.muli arg24 c8_i32_1887
  let c3_i32 : BitVec 32 := 3#32
  let v3199 : BitVec 32 := Scalar.addi v3198 c3_i32
  let v3224 : BitVec 32 := Scalar.addi c256_i32_1895 v3199
  let v3225 : BitVec 32 := Scalar.subi c511_i32_1896 v3224
  let c8_i32_1897 : BitVec 32 := 8#32
  let v3226 : BitVec 32 := Scalar.muli v3225 c8_i32_1897
  v3226
def k0_mult76 (k0_t7 : Fin k0_t7_loop.trips) : BitVec 32 :=
  let c511_i32_1904 : BitVec 32 := 511#32
  let c0_i32_1903 : BitVec 32 := 0#32
  let c0_i32_1221 : BitVec 32 := 0#32
  let c1_i32_1223 : BitVec 32 := 1#32
  let arg24 : BitVec 32 := Scf.iv c0_i32_1221 c1_i32_1223 k0_t7
  let c8_i32_1902 : BitVec 32 := 8#32
  let v3248 : BitVec 32 := Scalar.muli arg24 c8_i32_1902
  let c4_i32 : BitVec 32 := 4#32
  let v3249 : BitVec 32 := Scalar.addi v3248 c4_i32
  let v3250 : BitVec 32 := Scalar.addi c0_i32_1903 v3249
  let v3251 : BitVec 32 := Scalar.subi c511_i32_1904 v3250
  let c8_i32_1905 : BitVec 32 := 8#32
  let v3252 : BitVec 32 := Scalar.muli v3251 c8_i32_1905
  v3252
def k0_mult77 (k0_t7 : Fin k0_t7_loop.trips) : BitVec 32 :=
  let c511_i32_1911 : BitVec 32 := 511#32
  let c256_i32_1910 : BitVec 32 := 256#32
  let c0_i32_1221 : BitVec 32 := 0#32
  let c1_i32_1223 : BitVec 32 := 1#32
  let arg24 : BitVec 32 := Scf.iv c0_i32_1221 c1_i32_1223 k0_t7
  let c8_i32_1902 : BitVec 32 := 8#32
  let v3248 : BitVec 32 := Scalar.muli arg24 c8_i32_1902
  let c4_i32 : BitVec 32 := 4#32
  let v3249 : BitVec 32 := Scalar.addi v3248 c4_i32
  let v3274 : BitVec 32 := Scalar.addi c256_i32_1910 v3249
  let v3275 : BitVec 32 := Scalar.subi c511_i32_1911 v3274
  let c8_i32_1912 : BitVec 32 := 8#32
  let v3276 : BitVec 32 := Scalar.muli v3275 c8_i32_1912
  v3276
def k0_mult78 (k0_t7 : Fin k0_t7_loop.trips) : BitVec 32 :=
  let c511_i32_1919 : BitVec 32 := 511#32
  let c0_i32_1918 : BitVec 32 := 0#32
  let c0_i32_1221 : BitVec 32 := 0#32
  let c1_i32_1223 : BitVec 32 := 1#32
  let arg24 : BitVec 32 := Scf.iv c0_i32_1221 c1_i32_1223 k0_t7
  let c8_i32_1917 : BitVec 32 := 8#32
  let v3298 : BitVec 32 := Scalar.muli arg24 c8_i32_1917
  let c5_i32 : BitVec 32 := 5#32
  let v3299 : BitVec 32 := Scalar.addi v3298 c5_i32
  let v3300 : BitVec 32 := Scalar.addi c0_i32_1918 v3299
  let v3301 : BitVec 32 := Scalar.subi c511_i32_1919 v3300
  let c8_i32_1920 : BitVec 32 := 8#32
  let v3302 : BitVec 32 := Scalar.muli v3301 c8_i32_1920
  v3302
def k0_mult79 (k0_t7 : Fin k0_t7_loop.trips) : BitVec 32 :=
  let c511_i32_1926 : BitVec 32 := 511#32
  let c256_i32_1925 : BitVec 32 := 256#32
  let c0_i32_1221 : BitVec 32 := 0#32
  let c1_i32_1223 : BitVec 32 := 1#32
  let arg24 : BitVec 32 := Scf.iv c0_i32_1221 c1_i32_1223 k0_t7
  let c8_i32_1917 : BitVec 32 := 8#32
  let v3298 : BitVec 32 := Scalar.muli arg24 c8_i32_1917
  let c5_i32 : BitVec 32 := 5#32
  let v3299 : BitVec 32 := Scalar.addi v3298 c5_i32
  let v3324 : BitVec 32 := Scalar.addi c256_i32_1925 v3299
  let v3325 : BitVec 32 := Scalar.subi c511_i32_1926 v3324
  let c8_i32_1927 : BitVec 32 := 8#32
  let v3326 : BitVec 32 := Scalar.muli v3325 c8_i32_1927
  v3326
def k0_mult80 (k0_t7 : Fin k0_t7_loop.trips) : BitVec 32 :=
  let c511_i32_1934 : BitVec 32 := 511#32
  let c0_i32_1933 : BitVec 32 := 0#32
  let c0_i32_1221 : BitVec 32 := 0#32
  let c1_i32_1223 : BitVec 32 := 1#32
  let arg24 : BitVec 32 := Scf.iv c0_i32_1221 c1_i32_1223 k0_t7
  let c8_i32_1932 : BitVec 32 := 8#32
  let v3348 : BitVec 32 := Scalar.muli arg24 c8_i32_1932
  let c6_i32 : BitVec 32 := 6#32
  let v3349 : BitVec 32 := Scalar.addi v3348 c6_i32
  let v3350 : BitVec 32 := Scalar.addi c0_i32_1933 v3349
  let v3351 : BitVec 32 := Scalar.subi c511_i32_1934 v3350
  let c8_i32_1935 : BitVec 32 := 8#32
  let v3352 : BitVec 32 := Scalar.muli v3351 c8_i32_1935
  v3352
def k0_mult81 (k0_t7 : Fin k0_t7_loop.trips) : BitVec 32 :=
  let c511_i32_1941 : BitVec 32 := 511#32
  let c256_i32_1940 : BitVec 32 := 256#32
  let c0_i32_1221 : BitVec 32 := 0#32
  let c1_i32_1223 : BitVec 32 := 1#32
  let arg24 : BitVec 32 := Scf.iv c0_i32_1221 c1_i32_1223 k0_t7
  let c8_i32_1932 : BitVec 32 := 8#32
  let v3348 : BitVec 32 := Scalar.muli arg24 c8_i32_1932
  let c6_i32 : BitVec 32 := 6#32
  let v3349 : BitVec 32 := Scalar.addi v3348 c6_i32
  let v3374 : BitVec 32 := Scalar.addi c256_i32_1940 v3349
  let v3375 : BitVec 32 := Scalar.subi c511_i32_1941 v3374
  let c8_i32_1942 : BitVec 32 := 8#32
  let v3376 : BitVec 32 := Scalar.muli v3375 c8_i32_1942
  v3376
def k0_mult82 (k0_t7 : Fin k0_t7_loop.trips) : BitVec 32 :=
  let c511_i32_1950 : BitVec 32 := 511#32
  let c0_i32_1949 : BitVec 32 := 0#32
  let c0_i32_1221 : BitVec 32 := 0#32
  let c1_i32_1223 : BitVec 32 := 1#32
  let arg24 : BitVec 32 := Scf.iv c0_i32_1221 c1_i32_1223 k0_t7
  let c8_i32_1947 : BitVec 32 := 8#32
  let v3398 : BitVec 32 := Scalar.muli arg24 c8_i32_1947
  let c7_i32_1948 : BitVec 32 := 7#32
  let v3399 : BitVec 32 := Scalar.addi v3398 c7_i32_1948
  let v3400 : BitVec 32 := Scalar.addi c0_i32_1949 v3399
  let v3401 : BitVec 32 := Scalar.subi c511_i32_1950 v3400
  let c8_i32_1951 : BitVec 32 := 8#32
  let v3402 : BitVec 32 := Scalar.muli v3401 c8_i32_1951
  v3402
def k0_mult83 (k0_t7 : Fin k0_t7_loop.trips) : BitVec 32 :=
  let c511_i32_1957 : BitVec 32 := 511#32
  let c256_i32_1956 : BitVec 32 := 256#32
  let c0_i32_1221 : BitVec 32 := 0#32
  let c1_i32_1223 : BitVec 32 := 1#32
  let arg24 : BitVec 32 := Scf.iv c0_i32_1221 c1_i32_1223 k0_t7
  let c8_i32_1947 : BitVec 32 := 8#32
  let v3398 : BitVec 32 := Scalar.muli arg24 c8_i32_1947
  let c7_i32_1948 : BitVec 32 := 7#32
  let v3399 : BitVec 32 := Scalar.addi v3398 c7_i32_1948
  let v3424 : BitVec 32 := Scalar.addi c256_i32_1956 v3399
  let v3425 : BitVec 32 := Scalar.subi c511_i32_1957 v3424
  let c8_i32_1958 : BitVec 32 := 8#32
  let v3426 : BitVec 32 := Scalar.muli v3425 c8_i32_1958
  v3426
@[reducible] def k0_t8_loop : Scf.Loop 32 :=
  let c0_i32_1356 : BitVec 32 := 0#32
  let c32_i32_1357 : BitVec 32 := 32#32
  let v2198 : BitVec 32 := Scalar.addi c0_i32_1356 c32_i32_1357
  let c1_i32_1358 : BitVec 32 := 1#32
  ⟨c0_i32_1356, v2198, c1_i32_1358⟩
def k0_mult84 (k0_t8 : Fin k0_t8_loop.trips) : BitVec 32 :=
  let c0_i32_1843 : BitVec 32 := 0#32
  let c0_i32_1356 : BitVec 32 := 0#32
  let c1_i32_1358 : BitVec 32 := 1#32
  let arg24 : BitVec 32 := Scf.iv c0_i32_1356 c1_i32_1358 k0_t8
  let c8_i32 : BitVec 32 := 8#32
  let v3048 : BitVec 32 := Scalar.muli arg24 c8_i32
  let c0_i32_1842 : BitVec 32 := 0#32
  let v3049 : BitVec 32 := Scalar.addi v3048 c0_i32_1842
  let v3050 : BitVec 32 := Scalar.addi c0_i32_1843 v3049
  let c8_i32_1844 : BitVec 32 := 8#32
  let v3051 : BitVec 32 := Scalar.muli v3050 c8_i32_1844
  v3051
def k0_off12 (k0_t8 : Fin k0_t8_loop.trips) (c0_i32_1843 : BitVec 32) (c0_i32_1842 : BitVec 32) : Fin 2 → Nat :=
  let c0_i32_1356 : BitVec 32 := 0#32
  let c1_i32_1358 : BitVec 32 := 1#32
  let arg24 : BitVec 32 := Scf.iv c0_i32_1356 c1_i32_1358 k0_t8
  let c8_i32 : BitVec 32 := 8#32
  let v3048 : BitVec 32 := Scalar.muli arg24 c8_i32
  let v3049 : BitVec 32 := Scalar.addi v3048 c0_i32_1842
  let v3050 : BitVec 32 := Scalar.addi c0_i32_1843 v3049
  let c8_i32_1844 : BitVec 32 := 8#32
  let v3051 : BitVec 32 := Scalar.muli v3050 c8_i32_1844
  let v3052 : BitVec 32 := v3051
  let v3059 : Index := Scalar.indexCast v3052
  let c0_1845 : Index := 0#32
  ![v3059.toNat, 0]
def k0_mult85 (k0_t8 : Fin k0_t8_loop.trips) : BitVec 32 :=
  let c256_i32 : BitVec 32 := 256#32
  let c0_i32_1356 : BitVec 32 := 0#32
  let c1_i32_1358 : BitVec 32 := 1#32
  let arg24 : BitVec 32 := Scf.iv c0_i32_1356 c1_i32_1358 k0_t8
  let c8_i32 : BitVec 32 := 8#32
  let v3048 : BitVec 32 := Scalar.muli arg24 c8_i32
  let c0_i32_1842 : BitVec 32 := 0#32
  let v3049 : BitVec 32 := Scalar.addi v3048 c0_i32_1842
  let v3065 : BitVec 32 := Scalar.addi c256_i32 v3049
  let c8_i32_1847 : BitVec 32 := 8#32
  let v3066 : BitVec 32 := Scalar.muli v3065 c8_i32_1847
  v3066
def k0_mult86 (k0_t8 : Fin k0_t8_loop.trips) : BitVec 32 :=
  let c0_i32_1852 : BitVec 32 := 0#32
  let c0_i32_1356 : BitVec 32 := 0#32
  let c1_i32_1358 : BitVec 32 := 1#32
  let arg24 : BitVec 32 := Scf.iv c0_i32_1356 c1_i32_1358 k0_t8
  let c8_i32_1850 : BitVec 32 := 8#32
  let v3080 : BitVec 32 := Scalar.muli arg24 c8_i32_1850
  let c1_i32_1851 : BitVec 32 := 1#32
  let v3081 : BitVec 32 := Scalar.addi v3080 c1_i32_1851
  let v3082 : BitVec 32 := Scalar.addi c0_i32_1852 v3081
  let c8_i32_1853 : BitVec 32 := 8#32
  let v3083 : BitVec 32 := Scalar.muli v3082 c8_i32_1853
  v3083
def k0_mult87 (k0_t8 : Fin k0_t8_loop.trips) : BitVec 32 :=
  let c256_i32_1856 : BitVec 32 := 256#32
  let c0_i32_1356 : BitVec 32 := 0#32
  let c1_i32_1358 : BitVec 32 := 1#32
  let arg24 : BitVec 32 := Scf.iv c0_i32_1356 c1_i32_1358 k0_t8
  let c8_i32_1850 : BitVec 32 := 8#32
  let v3080 : BitVec 32 := Scalar.muli arg24 c8_i32_1850
  let c1_i32_1851 : BitVec 32 := 1#32
  let v3081 : BitVec 32 := Scalar.addi v3080 c1_i32_1851
  let v3097 : BitVec 32 := Scalar.addi c256_i32_1856 v3081
  let c8_i32_1857 : BitVec 32 := 8#32
  let v3098 : BitVec 32 := Scalar.muli v3097 c8_i32_1857
  v3098
def k0_mult88 (k0_t8 : Fin k0_t8_loop.trips) : BitVec 32 :=
  let c0_i32_1862 : BitVec 32 := 0#32
  let c0_i32_1356 : BitVec 32 := 0#32
  let c1_i32_1358 : BitVec 32 := 1#32
  let arg24 : BitVec 32 := Scf.iv c0_i32_1356 c1_i32_1358 k0_t8
  let c8_i32_1860 : BitVec 32 := 8#32
  let v3112 : BitVec 32 := Scalar.muli arg24 c8_i32_1860
  let c2_i32_1861 : BitVec 32 := 2#32
  let v3113 : BitVec 32 := Scalar.addi v3112 c2_i32_1861
  let v3114 : BitVec 32 := Scalar.addi c0_i32_1862 v3113
  let c8_i32_1863 : BitVec 32 := 8#32
  let v3115 : BitVec 32 := Scalar.muli v3114 c8_i32_1863
  v3115
def k0_mult89 (k0_t8 : Fin k0_t8_loop.trips) : BitVec 32 :=
  let c256_i32_1866 : BitVec 32 := 256#32
  let c0_i32_1356 : BitVec 32 := 0#32
  let c1_i32_1358 : BitVec 32 := 1#32
  let arg24 : BitVec 32 := Scf.iv c0_i32_1356 c1_i32_1358 k0_t8
  let c8_i32_1860 : BitVec 32 := 8#32
  let v3112 : BitVec 32 := Scalar.muli arg24 c8_i32_1860
  let c2_i32_1861 : BitVec 32 := 2#32
  let v3113 : BitVec 32 := Scalar.addi v3112 c2_i32_1861
  let v3129 : BitVec 32 := Scalar.addi c256_i32_1866 v3113
  let c8_i32_1867 : BitVec 32 := 8#32
  let v3130 : BitVec 32 := Scalar.muli v3129 c8_i32_1867
  v3130
def k0_mult90 (k0_t8 : Fin k0_t8_loop.trips) : BitVec 32 :=
  let c0_i32_1871 : BitVec 32 := 0#32
  let c0_i32_1356 : BitVec 32 := 0#32
  let c1_i32_1358 : BitVec 32 := 1#32
  let arg24 : BitVec 32 := Scf.iv c0_i32_1356 c1_i32_1358 k0_t8
  let c8_i32_1870 : BitVec 32 := 8#32
  let v3144 : BitVec 32 := Scalar.muli arg24 c8_i32_1870
  let c3_i32 : BitVec 32 := 3#32
  let v3145 : BitVec 32 := Scalar.addi v3144 c3_i32
  let v3146 : BitVec 32 := Scalar.addi c0_i32_1871 v3145
  let c8_i32_1872 : BitVec 32 := 8#32
  let v3147 : BitVec 32 := Scalar.muli v3146 c8_i32_1872
  v3147
def k0_mult91 (k0_t8 : Fin k0_t8_loop.trips) : BitVec 32 :=
  let c256_i32_1875 : BitVec 32 := 256#32
  let c0_i32_1356 : BitVec 32 := 0#32
  let c1_i32_1358 : BitVec 32 := 1#32
  let arg24 : BitVec 32 := Scf.iv c0_i32_1356 c1_i32_1358 k0_t8
  let c8_i32_1870 : BitVec 32 := 8#32
  let v3144 : BitVec 32 := Scalar.muli arg24 c8_i32_1870
  let c3_i32 : BitVec 32 := 3#32
  let v3145 : BitVec 32 := Scalar.addi v3144 c3_i32
  let v3161 : BitVec 32 := Scalar.addi c256_i32_1875 v3145
  let c8_i32_1876 : BitVec 32 := 8#32
  let v3162 : BitVec 32 := Scalar.muli v3161 c8_i32_1876
  v3162
def k0_mult92 (k0_t8 : Fin k0_t8_loop.trips) : BitVec 32 :=
  let c0_i32_1880 : BitVec 32 := 0#32
  let c0_i32_1356 : BitVec 32 := 0#32
  let c1_i32_1358 : BitVec 32 := 1#32
  let arg24 : BitVec 32 := Scf.iv c0_i32_1356 c1_i32_1358 k0_t8
  let c8_i32_1879 : BitVec 32 := 8#32
  let v3176 : BitVec 32 := Scalar.muli arg24 c8_i32_1879
  let c4_i32 : BitVec 32 := 4#32
  let v3177 : BitVec 32 := Scalar.addi v3176 c4_i32
  let v3178 : BitVec 32 := Scalar.addi c0_i32_1880 v3177
  let c8_i32_1881 : BitVec 32 := 8#32
  let v3179 : BitVec 32 := Scalar.muli v3178 c8_i32_1881
  v3179
def k0_mult93 (k0_t8 : Fin k0_t8_loop.trips) : BitVec 32 :=
  let c256_i32_1884 : BitVec 32 := 256#32
  let c0_i32_1356 : BitVec 32 := 0#32
  let c1_i32_1358 : BitVec 32 := 1#32
  let arg24 : BitVec 32 := Scf.iv c0_i32_1356 c1_i32_1358 k0_t8
  let c8_i32_1879 : BitVec 32 := 8#32
  let v3176 : BitVec 32 := Scalar.muli arg24 c8_i32_1879
  let c4_i32 : BitVec 32 := 4#32
  let v3177 : BitVec 32 := Scalar.addi v3176 c4_i32
  let v3193 : BitVec 32 := Scalar.addi c256_i32_1884 v3177
  let c8_i32_1885 : BitVec 32 := 8#32
  let v3194 : BitVec 32 := Scalar.muli v3193 c8_i32_1885
  v3194
def k0_mult94 (k0_t8 : Fin k0_t8_loop.trips) : BitVec 32 :=
  let c0_i32_1889 : BitVec 32 := 0#32
  let c0_i32_1356 : BitVec 32 := 0#32
  let c1_i32_1358 : BitVec 32 := 1#32
  let arg24 : BitVec 32 := Scf.iv c0_i32_1356 c1_i32_1358 k0_t8
  let c8_i32_1888 : BitVec 32 := 8#32
  let v3208 : BitVec 32 := Scalar.muli arg24 c8_i32_1888
  let c5_i32 : BitVec 32 := 5#32
  let v3209 : BitVec 32 := Scalar.addi v3208 c5_i32
  let v3210 : BitVec 32 := Scalar.addi c0_i32_1889 v3209
  let c8_i32_1890 : BitVec 32 := 8#32
  let v3211 : BitVec 32 := Scalar.muli v3210 c8_i32_1890
  v3211
def k0_mult95 (k0_t8 : Fin k0_t8_loop.trips) : BitVec 32 :=
  let c256_i32_1893 : BitVec 32 := 256#32
  let c0_i32_1356 : BitVec 32 := 0#32
  let c1_i32_1358 : BitVec 32 := 1#32
  let arg24 : BitVec 32 := Scf.iv c0_i32_1356 c1_i32_1358 k0_t8
  let c8_i32_1888 : BitVec 32 := 8#32
  let v3208 : BitVec 32 := Scalar.muli arg24 c8_i32_1888
  let c5_i32 : BitVec 32 := 5#32
  let v3209 : BitVec 32 := Scalar.addi v3208 c5_i32
  let v3225 : BitVec 32 := Scalar.addi c256_i32_1893 v3209
  let c8_i32_1894 : BitVec 32 := 8#32
  let v3226 : BitVec 32 := Scalar.muli v3225 c8_i32_1894
  v3226
def k0_mult96 (k0_t8 : Fin k0_t8_loop.trips) : BitVec 32 :=
  let c0_i32_1898 : BitVec 32 := 0#32
  let c0_i32_1356 : BitVec 32 := 0#32
  let c1_i32_1358 : BitVec 32 := 1#32
  let arg24 : BitVec 32 := Scf.iv c0_i32_1356 c1_i32_1358 k0_t8
  let c8_i32_1897 : BitVec 32 := 8#32
  let v3240 : BitVec 32 := Scalar.muli arg24 c8_i32_1897
  let c6_i32 : BitVec 32 := 6#32
  let v3241 : BitVec 32 := Scalar.addi v3240 c6_i32
  let v3242 : BitVec 32 := Scalar.addi c0_i32_1898 v3241
  let c8_i32_1899 : BitVec 32 := 8#32
  let v3243 : BitVec 32 := Scalar.muli v3242 c8_i32_1899
  v3243
def k0_mult97 (k0_t8 : Fin k0_t8_loop.trips) : BitVec 32 :=
  let c256_i32_1902 : BitVec 32 := 256#32
  let c0_i32_1356 : BitVec 32 := 0#32
  let c1_i32_1358 : BitVec 32 := 1#32
  let arg24 : BitVec 32 := Scf.iv c0_i32_1356 c1_i32_1358 k0_t8
  let c8_i32_1897 : BitVec 32 := 8#32
  let v3240 : BitVec 32 := Scalar.muli arg24 c8_i32_1897
  let c6_i32 : BitVec 32 := 6#32
  let v3241 : BitVec 32 := Scalar.addi v3240 c6_i32
  let v3257 : BitVec 32 := Scalar.addi c256_i32_1902 v3241
  let c8_i32_1903 : BitVec 32 := 8#32
  let v3258 : BitVec 32 := Scalar.muli v3257 c8_i32_1903
  v3258
def k0_mult98 (k0_t8 : Fin k0_t8_loop.trips) : BitVec 32 :=
  let c0_i32_1908 : BitVec 32 := 0#32
  let c0_i32_1356 : BitVec 32 := 0#32
  let c1_i32_1358 : BitVec 32 := 1#32
  let arg24 : BitVec 32 := Scf.iv c0_i32_1356 c1_i32_1358 k0_t8
  let c8_i32_1906 : BitVec 32 := 8#32
  let v3272 : BitVec 32 := Scalar.muli arg24 c8_i32_1906
  let c7_i32_1907 : BitVec 32 := 7#32
  let v3273 : BitVec 32 := Scalar.addi v3272 c7_i32_1907
  let v3274 : BitVec 32 := Scalar.addi c0_i32_1908 v3273
  let c8_i32_1909 : BitVec 32 := 8#32
  let v3275 : BitVec 32 := Scalar.muli v3274 c8_i32_1909
  v3275
def k0_mult99 (k0_t8 : Fin k0_t8_loop.trips) : BitVec 32 :=
  let c256_i32_1912 : BitVec 32 := 256#32
  let c0_i32_1356 : BitVec 32 := 0#32
  let c1_i32_1358 : BitVec 32 := 1#32
  let arg24 : BitVec 32 := Scf.iv c0_i32_1356 c1_i32_1358 k0_t8
  let c8_i32_1906 : BitVec 32 := 8#32
  let v3272 : BitVec 32 := Scalar.muli arg24 c8_i32_1906
  let c7_i32_1907 : BitVec 32 := 7#32
  let v3273 : BitVec 32 := Scalar.addi v3272 c7_i32_1907
  let v3289 : BitVec 32 := Scalar.addi c256_i32_1912 v3273
  let c8_i32_1913 : BitVec 32 := 8#32
  let v3290 : BitVec 32 := Scalar.muli v3289 c8_i32_1913
  v3290
@[reducible] def k0_t9_loop : Scf.Loop 32 :=
  let c0_i32_1408 : BitVec 32 := 0#32
  let c31_i32_1409 : BitVec 32 := 31#32
  let v2457 : BitVec 32 := Scalar.addi c0_i32_1408 c31_i32_1409
  let c1_i32_1410 : BitVec 32 := 1#32
  ⟨c0_i32_1408, v2457, c1_i32_1410⟩
def k0_mult100 (k0_t9 : Fin k0_t9_loop.trips) : BitVec 32 :=
  let c0_i32_1843 : BitVec 32 := 0#32
  let c0_i32_1408 : BitVec 32 := 0#32
  let c1_i32_1410 : BitVec 32 := 1#32
  let arg24 : BitVec 32 := Scf.iv c0_i32_1408 c1_i32_1410 k0_t9
  let c8_i32 : BitVec 32 := 8#32
  let v3048 : BitVec 32 := Scalar.muli arg24 c8_i32
  let c0_i32_1842 : BitVec 32 := 0#32
  let v3049 : BitVec 32 := Scalar.addi v3048 c0_i32_1842
  let v3050 : BitVec 32 := Scalar.addi c0_i32_1843 v3049
  let c8_i32_1844 : BitVec 32 := 8#32
  let v3051 : BitVec 32 := Scalar.muli v3050 c8_i32_1844
  v3051
def k0_off13 (k0_t9 : Fin k0_t9_loop.trips) (c0_i32_1843 : BitVec 32) (c0_i32_1842 : BitVec 32) : Fin 2 → Nat :=
  let c0_i32_1408 : BitVec 32 := 0#32
  let c1_i32_1410 : BitVec 32 := 1#32
  let arg24 : BitVec 32 := Scf.iv c0_i32_1408 c1_i32_1410 k0_t9
  let c8_i32 : BitVec 32 := 8#32
  let v3048 : BitVec 32 := Scalar.muli arg24 c8_i32
  let v3049 : BitVec 32 := Scalar.addi v3048 c0_i32_1842
  let v3050 : BitVec 32 := Scalar.addi c0_i32_1843 v3049
  let c8_i32_1844 : BitVec 32 := 8#32
  let v3051 : BitVec 32 := Scalar.muli v3050 c8_i32_1844
  let v3052 : BitVec 32 := v3051
  let v3059 : Index := Scalar.indexCast v3052
  let c0_1845 : Index := 0#32
  ![v3059.toNat, 0]
def k0_mult101 (k0_t9 : Fin k0_t9_loop.trips) : BitVec 32 :=
  let c0_i32_1843 : BitVec 32 := 0#32
  let c0_i32_1408 : BitVec 32 := 0#32
  let c1_i32_1410 : BitVec 32 := 1#32
  let arg24 : BitVec 32 := Scf.iv c0_i32_1408 c1_i32_1410 k0_t9
  let c8_i32 : BitVec 32 := 8#32
  let v3048 : BitVec 32 := Scalar.muli arg24 c8_i32
  let c0_i32_1842 : BitVec 32 := 0#32
  let v3049 : BitVec 32 := Scalar.addi v3048 c0_i32_1842
  let v3050 : BitVec 32 := Scalar.addi c0_i32_1843 v3049
  let c1_i32_1849 : BitVec 32 := 1#32
  let v3073 : BitVec 32 := Scalar.addi v3050 c1_i32_1849
  let c8_i32_1850 : BitVec 32 := 8#32
  let v3074 : BitVec 32 := Scalar.muli v3073 c8_i32_1850
  v3074
def k0_off14 (k0_t9 : Fin k0_t9_loop.trips) (c0_i32_1843 : BitVec 32) (c0_i32_1842 : BitVec 32) : Fin 2 → Nat :=
  let c0_i32_1408 : BitVec 32 := 0#32
  let c1_i32_1410 : BitVec 32 := 1#32
  let arg24 : BitVec 32 := Scf.iv c0_i32_1408 c1_i32_1410 k0_t9
  let c8_i32 : BitVec 32 := 8#32
  let v3048 : BitVec 32 := Scalar.muli arg24 c8_i32
  let v3049 : BitVec 32 := Scalar.addi v3048 c0_i32_1842
  let v3050 : BitVec 32 := Scalar.addi c0_i32_1843 v3049
  let c1_i32_1849 : BitVec 32 := 1#32
  let v3073 : BitVec 32 := Scalar.addi v3050 c1_i32_1849
  let c8_i32_1850 : BitVec 32 := 8#32
  let v3074 : BitVec 32 := Scalar.muli v3073 c8_i32_1850
  let v3075 : BitVec 32 := v3074
  let v3076 : Index := Scalar.indexCast v3075
  let c0_1851 : Index := 0#32
  ![v3076.toNat, 0]
def k0_mult102 (k0_t9 : Fin k0_t9_loop.trips) : BitVec 32 :=
  let c256_i32 : BitVec 32 := 256#32
  let c0_i32_1408 : BitVec 32 := 0#32
  let c1_i32_1410 : BitVec 32 := 1#32
  let arg24 : BitVec 32 := Scf.iv c0_i32_1408 c1_i32_1410 k0_t9
  let c8_i32 : BitVec 32 := 8#32
  let v3048 : BitVec 32 := Scalar.muli arg24 c8_i32
  let c0_i32_1842 : BitVec 32 := 0#32
  let v3049 : BitVec 32 := Scalar.addi v3048 c0_i32_1842
  let v3088 : BitVec 32 := Scalar.addi c256_i32 v3049
  let c8_i32_1853 : BitVec 32 := 8#32
  let v3089 : BitVec 32 := Scalar.muli v3088 c8_i32_1853
  v3089
def k0_mult103 (k0_t9 : Fin k0_t9_loop.trips) : BitVec 32 :=
  let c256_i32 : BitVec 32 := 256#32
  let c0_i32_1408 : BitVec 32 := 0#32
  let c1_i32_1410 : BitVec 32 := 1#32
  let arg24 : BitVec 32 := Scf.iv c0_i32_1408 c1_i32_1410 k0_t9
  let c8_i32 : BitVec 32 := 8#32
  let v3048 : BitVec 32 := Scalar.muli arg24 c8_i32
  let c0_i32_1842 : BitVec 32 := 0#32
  let v3049 : BitVec 32 := Scalar.addi v3048 c0_i32_1842
  let v3088 : BitVec 32 := Scalar.addi c256_i32 v3049
  let c1_i32_1858 : BitVec 32 := 1#32
  let v3111 : BitVec 32 := Scalar.addi v3088 c1_i32_1858
  let c8_i32_1859 : BitVec 32 := 8#32
  let v3112 : BitVec 32 := Scalar.muli v3111 c8_i32_1859
  v3112
def k0_mult104 (k0_t9 : Fin k0_t9_loop.trips) : BitVec 32 :=
  let c0_i32_1864 : BitVec 32 := 0#32
  let c0_i32_1408 : BitVec 32 := 0#32
  let c1_i32_1410 : BitVec 32 := 1#32
  let arg24 : BitVec 32 := Scf.iv c0_i32_1408 c1_i32_1410 k0_t9
  let c8_i32_1862 : BitVec 32 := 8#32
  let v3126 : BitVec 32 := Scalar.muli arg24 c8_i32_1862
  let c1_i32_1863 : BitVec 32 := 1#32
  let v3127 : BitVec 32 := Scalar.addi v3126 c1_i32_1863
  let v3128 : BitVec 32 := Scalar.addi c0_i32_1864 v3127
  let c8_i32_1865 : BitVec 32 := 8#32
  let v3129 : BitVec 32 := Scalar.muli v3128 c8_i32_1865
  v3129
def k0_mult105 (k0_t9 : Fin k0_t9_loop.trips) : BitVec 32 :=
  let c0_i32_1864 : BitVec 32 := 0#32
  let c0_i32_1408 : BitVec 32 := 0#32
  let c1_i32_1410 : BitVec 32 := 1#32
  let arg24 : BitVec 32 := Scf.iv c0_i32_1408 c1_i32_1410 k0_t9
  let c8_i32_1862 : BitVec 32 := 8#32
  let v3126 : BitVec 32 := Scalar.muli arg24 c8_i32_1862
  let c1_i32_1863 : BitVec 32 := 1#32
  let v3127 : BitVec 32 := Scalar.addi v3126 c1_i32_1863
  let v3128 : BitVec 32 := Scalar.addi c0_i32_1864 v3127
  let c1_i32_1870 : BitVec 32 := 1#32
  let v3151 : BitVec 32 := Scalar.addi v3128 c1_i32_1870
  let c8_i32_1871 : BitVec 32 := 8#32
  let v3152 : BitVec 32 := Scalar.muli v3151 c8_i32_1871
  v3152
def k0_mult106 (k0_t9 : Fin k0_t9_loop.trips) : BitVec 32 :=
  let c256_i32_1874 : BitVec 32 := 256#32
  let c0_i32_1408 : BitVec 32 := 0#32
  let c1_i32_1410 : BitVec 32 := 1#32
  let arg24 : BitVec 32 := Scf.iv c0_i32_1408 c1_i32_1410 k0_t9
  let c8_i32_1862 : BitVec 32 := 8#32
  let v3126 : BitVec 32 := Scalar.muli arg24 c8_i32_1862
  let c1_i32_1863 : BitVec 32 := 1#32
  let v3127 : BitVec 32 := Scalar.addi v3126 c1_i32_1863
  let v3166 : BitVec 32 := Scalar.addi c256_i32_1874 v3127
  let c8_i32_1875 : BitVec 32 := 8#32
  let v3167 : BitVec 32 := Scalar.muli v3166 c8_i32_1875
  v3167
def k0_mult107 (k0_t9 : Fin k0_t9_loop.trips) : BitVec 32 :=
  let c256_i32_1874 : BitVec 32 := 256#32
  let c0_i32_1408 : BitVec 32 := 0#32
  let c1_i32_1410 : BitVec 32 := 1#32
  let arg24 : BitVec 32 := Scf.iv c0_i32_1408 c1_i32_1410 k0_t9
  let c8_i32_1862 : BitVec 32 := 8#32
  let v3126 : BitVec 32 := Scalar.muli arg24 c8_i32_1862
  let c1_i32_1863 : BitVec 32 := 1#32
  let v3127 : BitVec 32 := Scalar.addi v3126 c1_i32_1863
  let v3166 : BitVec 32 := Scalar.addi c256_i32_1874 v3127
  let c1_i32_1880 : BitVec 32 := 1#32
  let v3189 : BitVec 32 := Scalar.addi v3166 c1_i32_1880
  let c8_i32_1881 : BitVec 32 := 8#32
  let v3190 : BitVec 32 := Scalar.muli v3189 c8_i32_1881
  v3190
def k0_mult108 (k0_t9 : Fin k0_t9_loop.trips) : BitVec 32 :=
  let c0_i32_1886 : BitVec 32 := 0#32
  let c0_i32_1408 : BitVec 32 := 0#32
  let c1_i32_1410 : BitVec 32 := 1#32
  let arg24 : BitVec 32 := Scf.iv c0_i32_1408 c1_i32_1410 k0_t9
  let c8_i32_1884 : BitVec 32 := 8#32
  let v3204 : BitVec 32 := Scalar.muli arg24 c8_i32_1884
  let c2_i32_1885 : BitVec 32 := 2#32
  let v3205 : BitVec 32 := Scalar.addi v3204 c2_i32_1885
  let v3206 : BitVec 32 := Scalar.addi c0_i32_1886 v3205
  let c8_i32_1887 : BitVec 32 := 8#32
  let v3207 : BitVec 32 := Scalar.muli v3206 c8_i32_1887
  v3207
def k0_mult109 (k0_t9 : Fin k0_t9_loop.trips) : BitVec 32 :=
  let c0_i32_1886 : BitVec 32 := 0#32
  let c0_i32_1408 : BitVec 32 := 0#32
  let c1_i32_1410 : BitVec 32 := 1#32
  let arg24 : BitVec 32 := Scf.iv c0_i32_1408 c1_i32_1410 k0_t9
  let c8_i32_1884 : BitVec 32 := 8#32
  let v3204 : BitVec 32 := Scalar.muli arg24 c8_i32_1884
  let c2_i32_1885 : BitVec 32 := 2#32
  let v3205 : BitVec 32 := Scalar.addi v3204 c2_i32_1885
  let v3206 : BitVec 32 := Scalar.addi c0_i32_1886 v3205
  let c1_i32_1892 : BitVec 32 := 1#32
  let v3229 : BitVec 32 := Scalar.addi v3206 c1_i32_1892
  let c8_i32_1893 : BitVec 32 := 8#32
  let v3230 : BitVec 32 := Scalar.muli v3229 c8_i32_1893
  v3230
def k0_mult110 (k0_t9 : Fin k0_t9_loop.trips) : BitVec 32 :=
  let c256_i32_1896 : BitVec 32 := 256#32
  let c0_i32_1408 : BitVec 32 := 0#32
  let c1_i32_1410 : BitVec 32 := 1#32
  let arg24 : BitVec 32 := Scf.iv c0_i32_1408 c1_i32_1410 k0_t9
  let c8_i32_1884 : BitVec 32 := 8#32
  let v3204 : BitVec 32 := Scalar.muli arg24 c8_i32_1884
  let c2_i32_1885 : BitVec 32 := 2#32
  let v3205 : BitVec 32 := Scalar.addi v3204 c2_i32_1885
  let v3244 : BitVec 32 := Scalar.addi c256_i32_1896 v3205
  let c8_i32_1897 : BitVec 32 := 8#32
  let v3245 : BitVec 32 := Scalar.muli v3244 c8_i32_1897
  v3245
def k0_mult111 (k0_t9 : Fin k0_t9_loop.trips) : BitVec 32 :=
  let c256_i32_1896 : BitVec 32 := 256#32
  let c0_i32_1408 : BitVec 32 := 0#32
  let c1_i32_1410 : BitVec 32 := 1#32
  let arg24 : BitVec 32 := Scf.iv c0_i32_1408 c1_i32_1410 k0_t9
  let c8_i32_1884 : BitVec 32 := 8#32
  let v3204 : BitVec 32 := Scalar.muli arg24 c8_i32_1884
  let c2_i32_1885 : BitVec 32 := 2#32
  let v3205 : BitVec 32 := Scalar.addi v3204 c2_i32_1885
  let v3244 : BitVec 32 := Scalar.addi c256_i32_1896 v3205
  let c1_i32_1902 : BitVec 32 := 1#32
  let v3267 : BitVec 32 := Scalar.addi v3244 c1_i32_1902
  let c8_i32_1903 : BitVec 32 := 8#32
  let v3268 : BitVec 32 := Scalar.muli v3267 c8_i32_1903
  v3268
def k0_mult112 (k0_t9 : Fin k0_t9_loop.trips) : BitVec 32 :=
  let c0_i32_1907 : BitVec 32 := 0#32
  let c0_i32_1408 : BitVec 32 := 0#32
  let c1_i32_1410 : BitVec 32 := 1#32
  let arg24 : BitVec 32 := Scf.iv c0_i32_1408 c1_i32_1410 k0_t9
  let c8_i32_1906 : BitVec 32 := 8#32
  let v3282 : BitVec 32 := Scalar.muli arg24 c8_i32_1906
  let c3_i32 : BitVec 32 := 3#32
  let v3283 : BitVec 32 := Scalar.addi v3282 c3_i32
  let v3284 : BitVec 32 := Scalar.addi c0_i32_1907 v3283
  let c8_i32_1908 : BitVec 32 := 8#32
  let v3285 : BitVec 32 := Scalar.muli v3284 c8_i32_1908
  v3285
def k0_mult113 (k0_t9 : Fin k0_t9_loop.trips) : BitVec 32 :=
  let c0_i32_1907 : BitVec 32 := 0#32
  let c0_i32_1408 : BitVec 32 := 0#32
  let c1_i32_1410 : BitVec 32 := 1#32
  let arg24 : BitVec 32 := Scf.iv c0_i32_1408 c1_i32_1410 k0_t9
  let c8_i32_1906 : BitVec 32 := 8#32
  let v3282 : BitVec 32 := Scalar.muli arg24 c8_i32_1906
  let c3_i32 : BitVec 32 := 3#32
  let v3283 : BitVec 32 := Scalar.addi v3282 c3_i32
  let v3284 : BitVec 32 := Scalar.addi c0_i32_1907 v3283
  let c1_i32_1913 : BitVec 32 := 1#32
  let v3307 : BitVec 32 := Scalar.addi v3284 c1_i32_1913
  let c8_i32_1914 : BitVec 32 := 8#32
  let v3308 : BitVec 32 := Scalar.muli v3307 c8_i32_1914
  v3308
def k0_mult114 (k0_t9 : Fin k0_t9_loop.trips) : BitVec 32 :=
  let c256_i32_1917 : BitVec 32 := 256#32
  let c0_i32_1408 : BitVec 32 := 0#32
  let c1_i32_1410 : BitVec 32 := 1#32
  let arg24 : BitVec 32 := Scf.iv c0_i32_1408 c1_i32_1410 k0_t9
  let c8_i32_1906 : BitVec 32 := 8#32
  let v3282 : BitVec 32 := Scalar.muli arg24 c8_i32_1906
  let c3_i32 : BitVec 32 := 3#32
  let v3283 : BitVec 32 := Scalar.addi v3282 c3_i32
  let v3322 : BitVec 32 := Scalar.addi c256_i32_1917 v3283
  let c8_i32_1918 : BitVec 32 := 8#32
  let v3323 : BitVec 32 := Scalar.muli v3322 c8_i32_1918
  v3323
def k0_mult115 (k0_t9 : Fin k0_t9_loop.trips) : BitVec 32 :=
  let c256_i32_1917 : BitVec 32 := 256#32
  let c0_i32_1408 : BitVec 32 := 0#32
  let c1_i32_1410 : BitVec 32 := 1#32
  let arg24 : BitVec 32 := Scf.iv c0_i32_1408 c1_i32_1410 k0_t9
  let c8_i32_1906 : BitVec 32 := 8#32
  let v3282 : BitVec 32 := Scalar.muli arg24 c8_i32_1906
  let c3_i32 : BitVec 32 := 3#32
  let v3283 : BitVec 32 := Scalar.addi v3282 c3_i32
  let v3322 : BitVec 32 := Scalar.addi c256_i32_1917 v3283
  let c1_i32_1923 : BitVec 32 := 1#32
  let v3345 : BitVec 32 := Scalar.addi v3322 c1_i32_1923
  let c8_i32_1924 : BitVec 32 := 8#32
  let v3346 : BitVec 32 := Scalar.muli v3345 c8_i32_1924
  v3346
def k0_mult116 (k0_t9 : Fin k0_t9_loop.trips) : BitVec 32 :=
  let c0_i32_1928 : BitVec 32 := 0#32
  let c0_i32_1408 : BitVec 32 := 0#32
  let c1_i32_1410 : BitVec 32 := 1#32
  let arg24 : BitVec 32 := Scf.iv c0_i32_1408 c1_i32_1410 k0_t9
  let c8_i32_1927 : BitVec 32 := 8#32
  let v3360 : BitVec 32 := Scalar.muli arg24 c8_i32_1927
  let c4_i32 : BitVec 32 := 4#32
  let v3361 : BitVec 32 := Scalar.addi v3360 c4_i32
  let v3362 : BitVec 32 := Scalar.addi c0_i32_1928 v3361
  let c8_i32_1929 : BitVec 32 := 8#32
  let v3363 : BitVec 32 := Scalar.muli v3362 c8_i32_1929
  v3363
def k0_mult117 (k0_t9 : Fin k0_t9_loop.trips) : BitVec 32 :=
  let c0_i32_1928 : BitVec 32 := 0#32
  let c0_i32_1408 : BitVec 32 := 0#32
  let c1_i32_1410 : BitVec 32 := 1#32
  let arg24 : BitVec 32 := Scf.iv c0_i32_1408 c1_i32_1410 k0_t9
  let c8_i32_1927 : BitVec 32 := 8#32
  let v3360 : BitVec 32 := Scalar.muli arg24 c8_i32_1927
  let c4_i32 : BitVec 32 := 4#32
  let v3361 : BitVec 32 := Scalar.addi v3360 c4_i32
  let v3362 : BitVec 32 := Scalar.addi c0_i32_1928 v3361
  let c1_i32_1934 : BitVec 32 := 1#32
  let v3385 : BitVec 32 := Scalar.addi v3362 c1_i32_1934
  let c8_i32_1935 : BitVec 32 := 8#32
  let v3386 : BitVec 32 := Scalar.muli v3385 c8_i32_1935
  v3386
def k0_mult118 (k0_t9 : Fin k0_t9_loop.trips) : BitVec 32 :=
  let c256_i32_1938 : BitVec 32 := 256#32
  let c0_i32_1408 : BitVec 32 := 0#32
  let c1_i32_1410 : BitVec 32 := 1#32
  let arg24 : BitVec 32 := Scf.iv c0_i32_1408 c1_i32_1410 k0_t9
  let c8_i32_1927 : BitVec 32 := 8#32
  let v3360 : BitVec 32 := Scalar.muli arg24 c8_i32_1927
  let c4_i32 : BitVec 32 := 4#32
  let v3361 : BitVec 32 := Scalar.addi v3360 c4_i32
  let v3400 : BitVec 32 := Scalar.addi c256_i32_1938 v3361
  let c8_i32_1939 : BitVec 32 := 8#32
  let v3401 : BitVec 32 := Scalar.muli v3400 c8_i32_1939
  v3401
def k0_mult119 (k0_t9 : Fin k0_t9_loop.trips) : BitVec 32 :=
  let c256_i32_1938 : BitVec 32 := 256#32
  let c0_i32_1408 : BitVec 32 := 0#32
  let c1_i32_1410 : BitVec 32 := 1#32
  let arg24 : BitVec 32 := Scf.iv c0_i32_1408 c1_i32_1410 k0_t9
  let c8_i32_1927 : BitVec 32 := 8#32
  let v3360 : BitVec 32 := Scalar.muli arg24 c8_i32_1927
  let c4_i32 : BitVec 32 := 4#32
  let v3361 : BitVec 32 := Scalar.addi v3360 c4_i32
  let v3400 : BitVec 32 := Scalar.addi c256_i32_1938 v3361
  let c1_i32_1944 : BitVec 32 := 1#32
  let v3423 : BitVec 32 := Scalar.addi v3400 c1_i32_1944
  let c8_i32_1945 : BitVec 32 := 8#32
  let v3424 : BitVec 32 := Scalar.muli v3423 c8_i32_1945
  v3424
def k0_mult120 (k0_t9 : Fin k0_t9_loop.trips) : BitVec 32 :=
  let c0_i32_1949 : BitVec 32 := 0#32
  let c0_i32_1408 : BitVec 32 := 0#32
  let c1_i32_1410 : BitVec 32 := 1#32
  let arg24 : BitVec 32 := Scf.iv c0_i32_1408 c1_i32_1410 k0_t9
  let c8_i32_1948 : BitVec 32 := 8#32
  let v3438 : BitVec 32 := Scalar.muli arg24 c8_i32_1948
  let c5_i32 : BitVec 32 := 5#32
  let v3439 : BitVec 32 := Scalar.addi v3438 c5_i32
  let v3440 : BitVec 32 := Scalar.addi c0_i32_1949 v3439
  let c8_i32_1950 : BitVec 32 := 8#32
  let v3441 : BitVec 32 := Scalar.muli v3440 c8_i32_1950
  v3441
def k0_mult121 (k0_t9 : Fin k0_t9_loop.trips) : BitVec 32 :=
  let c0_i32_1949 : BitVec 32 := 0#32
  let c0_i32_1408 : BitVec 32 := 0#32
  let c1_i32_1410 : BitVec 32 := 1#32
  let arg24 : BitVec 32 := Scf.iv c0_i32_1408 c1_i32_1410 k0_t9
  let c8_i32_1948 : BitVec 32 := 8#32
  let v3438 : BitVec 32 := Scalar.muli arg24 c8_i32_1948
  let c5_i32 : BitVec 32 := 5#32
  let v3439 : BitVec 32 := Scalar.addi v3438 c5_i32
  let v3440 : BitVec 32 := Scalar.addi c0_i32_1949 v3439
  let c1_i32_1955 : BitVec 32 := 1#32
  let v3463 : BitVec 32 := Scalar.addi v3440 c1_i32_1955
  let c8_i32_1956 : BitVec 32 := 8#32
  let v3464 : BitVec 32 := Scalar.muli v3463 c8_i32_1956
  v3464
def k0_mult122 (k0_t9 : Fin k0_t9_loop.trips) : BitVec 32 :=
  let c256_i32_1959 : BitVec 32 := 256#32
  let c0_i32_1408 : BitVec 32 := 0#32
  let c1_i32_1410 : BitVec 32 := 1#32
  let arg24 : BitVec 32 := Scf.iv c0_i32_1408 c1_i32_1410 k0_t9
  let c8_i32_1948 : BitVec 32 := 8#32
  let v3438 : BitVec 32 := Scalar.muli arg24 c8_i32_1948
  let c5_i32 : BitVec 32 := 5#32
  let v3439 : BitVec 32 := Scalar.addi v3438 c5_i32
  let v3478 : BitVec 32 := Scalar.addi c256_i32_1959 v3439
  let c8_i32_1960 : BitVec 32 := 8#32
  let v3479 : BitVec 32 := Scalar.muli v3478 c8_i32_1960
  v3479
def k0_mult123 (k0_t9 : Fin k0_t9_loop.trips) : BitVec 32 :=
  let c256_i32_1959 : BitVec 32 := 256#32
  let c0_i32_1408 : BitVec 32 := 0#32
  let c1_i32_1410 : BitVec 32 := 1#32
  let arg24 : BitVec 32 := Scf.iv c0_i32_1408 c1_i32_1410 k0_t9
  let c8_i32_1948 : BitVec 32 := 8#32
  let v3438 : BitVec 32 := Scalar.muli arg24 c8_i32_1948
  let c5_i32 : BitVec 32 := 5#32
  let v3439 : BitVec 32 := Scalar.addi v3438 c5_i32
  let v3478 : BitVec 32 := Scalar.addi c256_i32_1959 v3439
  let c1_i32_1965 : BitVec 32 := 1#32
  let v3501 : BitVec 32 := Scalar.addi v3478 c1_i32_1965
  let c8_i32_1966 : BitVec 32 := 8#32
  let v3502 : BitVec 32 := Scalar.muli v3501 c8_i32_1966
  v3502
def k0_mult124 (k0_t9 : Fin k0_t9_loop.trips) : BitVec 32 :=
  let c0_i32_1970 : BitVec 32 := 0#32
  let c0_i32_1408 : BitVec 32 := 0#32
  let c1_i32_1410 : BitVec 32 := 1#32
  let arg24 : BitVec 32 := Scf.iv c0_i32_1408 c1_i32_1410 k0_t9
  let c8_i32_1969 : BitVec 32 := 8#32
  let v3516 : BitVec 32 := Scalar.muli arg24 c8_i32_1969
  let c6_i32 : BitVec 32 := 6#32
  let v3517 : BitVec 32 := Scalar.addi v3516 c6_i32
  let v3518 : BitVec 32 := Scalar.addi c0_i32_1970 v3517
  let c8_i32_1971 : BitVec 32 := 8#32
  let v3519 : BitVec 32 := Scalar.muli v3518 c8_i32_1971
  v3519
def k0_mult125 (k0_t9 : Fin k0_t9_loop.trips) : BitVec 32 :=
  let c0_i32_1970 : BitVec 32 := 0#32
  let c0_i32_1408 : BitVec 32 := 0#32
  let c1_i32_1410 : BitVec 32 := 1#32
  let arg24 : BitVec 32 := Scf.iv c0_i32_1408 c1_i32_1410 k0_t9
  let c8_i32_1969 : BitVec 32 := 8#32
  let v3516 : BitVec 32 := Scalar.muli arg24 c8_i32_1969
  let c6_i32 : BitVec 32 := 6#32
  let v3517 : BitVec 32 := Scalar.addi v3516 c6_i32
  let v3518 : BitVec 32 := Scalar.addi c0_i32_1970 v3517
  let c1_i32_1976 : BitVec 32 := 1#32
  let v3541 : BitVec 32 := Scalar.addi v3518 c1_i32_1976
  let c8_i32_1977 : BitVec 32 := 8#32
  let v3542 : BitVec 32 := Scalar.muli v3541 c8_i32_1977
  v3542
def k0_mult126 (k0_t9 : Fin k0_t9_loop.trips) : BitVec 32 :=
  let c256_i32_1980 : BitVec 32 := 256#32
  let c0_i32_1408 : BitVec 32 := 0#32
  let c1_i32_1410 : BitVec 32 := 1#32
  let arg24 : BitVec 32 := Scf.iv c0_i32_1408 c1_i32_1410 k0_t9
  let c8_i32_1969 : BitVec 32 := 8#32
  let v3516 : BitVec 32 := Scalar.muli arg24 c8_i32_1969
  let c6_i32 : BitVec 32 := 6#32
  let v3517 : BitVec 32 := Scalar.addi v3516 c6_i32
  let v3556 : BitVec 32 := Scalar.addi c256_i32_1980 v3517
  let c8_i32_1981 : BitVec 32 := 8#32
  let v3557 : BitVec 32 := Scalar.muli v3556 c8_i32_1981
  v3557
def k0_mult127 (k0_t9 : Fin k0_t9_loop.trips) : BitVec 32 :=
  let c256_i32_1980 : BitVec 32 := 256#32
  let c0_i32_1408 : BitVec 32 := 0#32
  let c1_i32_1410 : BitVec 32 := 1#32
  let arg24 : BitVec 32 := Scf.iv c0_i32_1408 c1_i32_1410 k0_t9
  let c8_i32_1969 : BitVec 32 := 8#32
  let v3516 : BitVec 32 := Scalar.muli arg24 c8_i32_1969
  let c6_i32 : BitVec 32 := 6#32
  let v3517 : BitVec 32 := Scalar.addi v3516 c6_i32
  let v3556 : BitVec 32 := Scalar.addi c256_i32_1980 v3517
  let c1_i32_1986 : BitVec 32 := 1#32
  let v3579 : BitVec 32 := Scalar.addi v3556 c1_i32_1986
  let c8_i32_1987 : BitVec 32 := 8#32
  let v3580 : BitVec 32 := Scalar.muli v3579 c8_i32_1987
  v3580
def k0_mult128 (k0_t9 : Fin k0_t9_loop.trips) : BitVec 32 :=
  let c0_i32_1992 : BitVec 32 := 0#32
  let c0_i32_1408 : BitVec 32 := 0#32
  let c1_i32_1410 : BitVec 32 := 1#32
  let arg24 : BitVec 32 := Scf.iv c0_i32_1408 c1_i32_1410 k0_t9
  let c8_i32_1990 : BitVec 32 := 8#32
  let v3594 : BitVec 32 := Scalar.muli arg24 c8_i32_1990
  let c7_i32_1991 : BitVec 32 := 7#32
  let v3595 : BitVec 32 := Scalar.addi v3594 c7_i32_1991
  let v3596 : BitVec 32 := Scalar.addi c0_i32_1992 v3595
  let c8_i32_1993 : BitVec 32 := 8#32
  let v3597 : BitVec 32 := Scalar.muli v3596 c8_i32_1993
  v3597
def k0_mult129 (k0_t9 : Fin k0_t9_loop.trips) : BitVec 32 :=
  let c0_i32_1992 : BitVec 32 := 0#32
  let c0_i32_1408 : BitVec 32 := 0#32
  let c1_i32_1410 : BitVec 32 := 1#32
  let arg24 : BitVec 32 := Scf.iv c0_i32_1408 c1_i32_1410 k0_t9
  let c8_i32_1990 : BitVec 32 := 8#32
  let v3594 : BitVec 32 := Scalar.muli arg24 c8_i32_1990
  let c7_i32_1991 : BitVec 32 := 7#32
  let v3595 : BitVec 32 := Scalar.addi v3594 c7_i32_1991
  let v3596 : BitVec 32 := Scalar.addi c0_i32_1992 v3595
  let c1_i32_1998 : BitVec 32 := 1#32
  let v3619 : BitVec 32 := Scalar.addi v3596 c1_i32_1998
  let c8_i32_1999 : BitVec 32 := 8#32
  let v3620 : BitVec 32 := Scalar.muli v3619 c8_i32_1999
  v3620
def k0_mult130 (k0_t9 : Fin k0_t9_loop.trips) : BitVec 32 :=
  let c256_i32_2002 : BitVec 32 := 256#32
  let c0_i32_1408 : BitVec 32 := 0#32
  let c1_i32_1410 : BitVec 32 := 1#32
  let arg24 : BitVec 32 := Scf.iv c0_i32_1408 c1_i32_1410 k0_t9
  let c8_i32_1990 : BitVec 32 := 8#32
  let v3594 : BitVec 32 := Scalar.muli arg24 c8_i32_1990
  let c7_i32_1991 : BitVec 32 := 7#32
  let v3595 : BitVec 32 := Scalar.addi v3594 c7_i32_1991
  let v3634 : BitVec 32 := Scalar.addi c256_i32_2002 v3595
  let c8_i32_2003 : BitVec 32 := 8#32
  let v3635 : BitVec 32 := Scalar.muli v3634 c8_i32_2003
  v3635
def k0_mult131 (k0_t9 : Fin k0_t9_loop.trips) : BitVec 32 :=
  let c256_i32_2002 : BitVec 32 := 256#32
  let c0_i32_1408 : BitVec 32 := 0#32
  let c1_i32_1410 : BitVec 32 := 1#32
  let arg24 : BitVec 32 := Scf.iv c0_i32_1408 c1_i32_1410 k0_t9
  let c8_i32_1990 : BitVec 32 := 8#32
  let v3594 : BitVec 32 := Scalar.muli arg24 c8_i32_1990
  let c7_i32_1991 : BitVec 32 := 7#32
  let v3595 : BitVec 32 := Scalar.addi v3594 c7_i32_1991
  let v3634 : BitVec 32 := Scalar.addi c256_i32_2002 v3595
  let c1_i32_2008 : BitVec 32 := 1#32
  let v3657 : BitVec 32 := Scalar.addi v3634 c1_i32_2008
  let c8_i32_2009 : BitVec 32 := 8#32
  let v3658 : BitVec 32 := Scalar.muli v3657 c8_i32_2009
  v3658
@[reducible] def k0_t10_loop : Scf.Loop 32 :=
  let c0_i32_1614 : BitVec 32 := 0#32
  let c2_i32_1615 : BitVec 32 := 2#32
  let v2887 : BitVec 32 := Scalar.addi c0_i32_1614 c2_i32_1615
  let c1_i32_1616 : BitVec 32 := 1#32
  ⟨c0_i32_1614, v2887, c1_i32_1616⟩
def k0_mult132 (k0_t10 : Fin k0_t10_loop.trips) : BitVec 32 :=
  let c0_i32_1614 : BitVec 32 := 0#32
  let c1_i32_1616 : BitVec 32 := 1#32
  let arg24 : BitVec 32 := Scf.iv c0_i32_1614 c1_i32_1616 k0_t10
  let c2048_i32 : BitVec 32 := 2048#32
  let v3048 : BitVec 32 := Scalar.muli arg24 c2048_i32
  v3048
def k0_off15 (k0_t10 : Fin k0_t10_loop.trips) : Fin 2 → Nat :=
  let c0_i32_1614 : BitVec 32 := 0#32
  let c1_i32_1616 : BitVec 32 := 1#32
  let arg24 : BitVec 32 := Scf.iv c0_i32_1614 c1_i32_1616 k0_t10
  let c2048_i32 : BitVec 32 := 2048#32
  let v3048 : BitVec 32 := Scalar.muli arg24 c2048_i32
  let v3049 : BitVec 32 := v3048
  let v3050 : Index := Scalar.indexCast v3049
  let c0_1842 : Index := 0#32
  ![v3050.toNat, 0]
def k0_off16 (k0_t10 : Fin k0_t10_loop.trips) : Fin 2 → Nat :=
  let c0_i32_1614 : BitVec 32 := 0#32
  let c1_i32_1616 : BitVec 32 := 1#32
  let arg24 : BitVec 32 := Scf.iv c0_i32_1614 c1_i32_1616 k0_t10
  let c2048_i32 : BitVec 32 := 2048#32
  let v3048 : BitVec 32 := Scalar.muli arg24 c2048_i32
  let v3049 : BitVec 32 := v3048
  let v3056 : Index := Scalar.indexCast v3049
  let c0_1844 : Index := 0#32
  ![v3056.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x4x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x8x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x8x16x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x8x16x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x8x16x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x8x16x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2x72x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== SsmFwd.lean ====
abbrev S4096x1024 : Shape := ⟨2, ![4096, 1024]⟩
abbrev S2x64x64 : Shape := ⟨3, ![2, 64, 64]⟩
abbrev S2x64x1 : Shape := ⟨3, ![2, 64, 1]⟩
abbrev S2x64x16x64 : Shape := ⟨4, ![2, 64, 16, 64]⟩
abbrev S1x1024 : Shape := ⟨2, ![1, 1024]⟩
abbrev S8x2x4x8x512 : Shape := ⟨5, ![8, 2, 4, 8, 512]⟩
abbrev S4096x128 : Shape := ⟨2, ![4096, 128]⟩
abbrev S2x8x64 : Shape := ⟨3, ![2, 8, 64]⟩
abbrev S2x8x1 : Shape := ⟨3, ![2, 8, 1]⟩
abbrev S2x8x16x64 : Shape := ⟨4, ![2, 8, 16, 64]⟩
abbrev S1x128 : Shape := ⟨2, ![1, 128]⟩
abbrev S1x2x4x8x512 : Shape := ⟨5, ![1, 2, 4, 8, 512]⟩
abbrev S128x512 : Shape := ⟨2, ![128, 512]⟩
abbrev S4096x512 : Shape := ⟨2, ![4096, 512]⟩
abbrev S1x8x64 : Shape := ⟨3, ![1, 8, 64]⟩
abbrev S8x64 : Shape := ⟨2, ![8, 64]⟩
abbrev S1x8x1 : Shape := ⟨3, ![1, 8, 1]⟩
abbrev S8x1 : Shape := ⟨2, ![8, 1]⟩
abbrev S1x64 : Shape := ⟨2, ![1, 64]⟩
abbrev S1x1x16x64 : Shape := ⟨4, ![1, 1, 16, 64]⟩
abbrev S16x64 : Shape := ⟨2, ![16, 64]⟩
abbrev S1x512 : Shape := ⟨2, ![1, 512]⟩
abbrev S2048x128 : Shape := ⟨2, ![2048, 128]⟩
abbrev S2048x512 : Shape := ⟨2, ![2048, 512]⟩
abbrev S8x512 : Shape := ⟨2, ![8, 512]⟩
abbrev S1x1x1x8x512 : Shape := ⟨5, ![1, 1, 1, 8, 512]⟩

abbrev nBuf : Space → Nat
  | .hbm => 11
  | .vmem => 29
  | .smem => 0
  | _ => 0

abbrev bufTy : (tb : Table) → Fin (tcTables nBuf tb) → BufTy
  | .hbm, ⟨0, _⟩ => ⟨S4096x1024, .bf16⟩
  | .hbm, ⟨1, _⟩ => ⟨S2x64x64, .f32⟩
  | .hbm, ⟨2, _⟩ => ⟨S2x64x64, .f32⟩
  | .hbm, ⟨3, _⟩ => ⟨S2x64x1, .f32⟩
  | .hbm, ⟨4, _⟩ => ⟨S2x64x16x64, .f32⟩
  | .hbm, ⟨5, _⟩ => ⟨S2x64x16x64, .f32⟩
  | .hbm, ⟨6, _⟩ => ⟨S2x64x16x64, .f32⟩
  | .hbm, ⟨7, _⟩ => ⟨S2x64x16x64, .f32⟩
  | .hbm, ⟨8, _⟩ => ⟨S1x1024, .f32⟩
  | .hbm, ⟨9, _⟩ => ⟨S4096x1024, .f32⟩
  | .hbm, ⟨10, _⟩ => ⟨S8x2x4x8x512, .f32⟩
  | .local _ .vmem, ⟨0, _⟩ => ⟨S4096x128, .bf16⟩
  | .local _ .vmem, ⟨1, _⟩ => ⟨S4096x128, .bf16⟩
  | .local _ .vmem, ⟨2, _⟩ => ⟨S2x8x64, .f32⟩
  | .local _ .vmem, ⟨3, _⟩ => ⟨S2x8x64, .f32⟩
  | .local _ .vmem, ⟨4, _⟩ => ⟨S2x8x64, .f32⟩
  | .local _ .vmem, ⟨5, _⟩ => ⟨S2x8x64, .f32⟩
  | .local _ .vmem, ⟨6, _⟩ => ⟨S2x8x1, .f32⟩
  | .local _ .vmem, ⟨7, _⟩ => ⟨S2x8x1, .f32⟩
  | .local _ .vmem, ⟨8, _⟩ => ⟨S2x8x16x64, .f32⟩
  | .local _ .vmem, ⟨9, _⟩ => ⟨S2x8x16x64, .f32⟩
  | .local _ .vmem, ⟨10, _⟩ => ⟨S2x8x16x64, .f32⟩
  | .local _ .vmem, ⟨11, _⟩ => ⟨S2x8x16x64, .f32⟩
  | .local _ .vmem, ⟨12, _⟩ => ⟨S2x8x16x64, .f32⟩
  | .local _ .vmem, ⟨13, _⟩ => ⟨S2x8x16x64, .f32⟩
  | .local _ .vmem, ⟨14, _⟩ => ⟨S2x8x16x64, .f32⟩
  | .local _ .vmem, ⟨15, _⟩ => ⟨S2x8x16x64, .f32⟩
  | .local _ .vmem, ⟨16, _⟩ => ⟨S1x128, .f32⟩
  | .local _ .vmem, ⟨17, _⟩ => ⟨S1x128, .f32⟩
  | .local _ .vmem, ⟨18, _⟩ => ⟨S4096x128, .f32⟩
  | .local _ .vmem, ⟨19, _⟩ => ⟨S4096x128, .f32⟩
  | .local _ .vmem, ⟨20, _⟩ => ⟨S1x2x4x8x512, .f32⟩
  | .local _ .vmem, ⟨21, _⟩ => ⟨S1x2x4x8x512, .f32⟩
  | .local _ .vmem, ⟨22, _⟩ => ⟨S128x512, .f32⟩
  | .local _ .vmem, ⟨23, _⟩ => ⟨S128x512, .bf16⟩
  | .local _ .vmem, ⟨24, _⟩ => ⟨S128x512, .bf16⟩
  | .local _ .vmem, ⟨25, _⟩ => ⟨S128x512, .bf16⟩
  | .local _ .vmem, ⟨26, _⟩ => ⟨S128x512, .bf16⟩
  | .local _ .vmem, ⟨27, _⟩ => ⟨S4096x512, .f32⟩
  | .local _ .vmem, ⟨28, _⟩ => ⟨S4096x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c2_i32 : BitVec 32 := 2#32
  let v397 : BitVec 32 := Scalar.addi c0_i32 c2_i32
  let c1_i32 : BitVec 32 := 1#32
  ⟨c0_i32, v397, c1_i32⟩
def k0_mult1 (k0_t1 : Fin k0_t1_loop.trips) : BitVec 32 :=
  let c0_i32 : BitVec 32 := 0#32
  let c1_i32 : BitVec 32 := 1#32
  let arg19 : BitVec 32 := Scf.iv c0_i32 c1_i32 k0_t1
  let c2048_i32 : BitVec 32 := 2048#32
  let v1860 : BitVec 32 := Scalar.muli arg19 c2048_i32
  v1860
def k0_off1 (k0_t1 : Fin k0_t1_loop.trips) : Fin 2 → Nat :=
  let c0_i32 : BitVec 32 := 0#32
  let c1_i32 : BitVec 32 := 1#32
  let arg19 : BitVec 32 := Scf.iv c0_i32 c1_i32 k0_t1
  let c2048_i32 : BitVec 32 := 2048#32
  let v1860 : BitVec 32 := Scalar.muli arg19 c2048_i32
  let v1861 : BitVec 32 := v1860
  let v1862 : Index := Scalar.indexCast v1861
  let c0_966 : Index := 0#32
  ![v1862.toNat, 0]
def k0_off2 (k0_t1 : Fin k0_t1_loop.trips) : Fin 2 → Nat :=
  let c0_i32 : BitVec 32 := 0#32
  let c1_i32 : BitVec 32 := 1#32
  let arg19 : BitVec 32 := Scf.iv c0_i32 c1_i32 k0_t1
  let c2048_i32 : BitVec 32 := 2048#32
  let v1860 : BitVec 32 := Scalar.muli arg19 c2048_i32
  let v1861 : BitVec 32 := v1860
  let v1866 : Index := Scalar.indexCast v1861
  let c0_970 : Index := 0#32
  ![v1866.toNat, 0]
@[reducible] def k0_t2_loop : Scf.Loop 32 :=
  let c0_i32_281 : BitVec 32 := 0#32
  let c32_i32 : BitVec 32 := 32#32
  let v403 : BitVec 32 := Scalar.addi c0_i32_281 c32_i32
  let c1_i32_282 : BitVec 32 := 1#32
  ⟨c0_i32_281, v403, c1_i32_282⟩
def k0_mult2 (k0_t2 : Fin k0_t2_loop.trips) : BitVec 32 :=
  let c0_i32_967 : BitVec 32 := 0#32
  let c0_i32_281 : BitVec 32 := 0#32
  let c1_i32_282 : BitVec 32 := 1#32
  let arg19 : BitVec 32 := Scf.iv c0_i32_281 c1_i32_282 k0_t2
  let c8_i32 : BitVec 32 := 8#32
  let v1860 : BitVec 32 := Scalar.muli arg19 c8_i32
  let c0_i32_966 : BitVec 32 := 0#32
  let v1861 : BitVec 32 := Scalar.addi v1860 c0_i32_966
  let v1862 : BitVec 32 := Scalar.addi c0_i32_967 v1861
  let c8_i32_968 : BitVec 32 := 8#32
  let v1863 : BitVec 32 := Scalar.muli v1862 c8_i32_968
  v1863
def k0_off3 (k0_t2 : Fin k0_t2_loop.trips) (c0_i32_967 : BitVec 32) (c0_i32_966 : BitVec 32) : Fin 2 → Nat :=
  let c0_i32_281 : BitVec 32 := 0#32
  let c1_i32_282 : BitVec 32 := 1#32
  let arg19 : BitVec 32 := Scf.iv c0_i32_281 c1_i32_282 k0_t2
  let c8_i32 : BitVec 32 := 8#32
  let v1860 : BitVec 32 := Scalar.muli arg19 c8_i32
  let v1861 : BitVec 32 := Scalar.addi v1860 c0_i32_966
  let v1862 : BitVec 32 := Scalar.addi c0_i32_967 v1861
  let c8_i32_968 : BitVec 32 := 8#32
  let v1863 : BitVec 32 := Scalar.muli v1862 c8_i32_968
  let v1864 : BitVec 32 := v1863
  let v1871 : Index := Scalar.indexCast v1864
  let c0_969 : Index := 0#32
  ![v1871.toNat, 0]
def k0_mult3 (k0_t2 : Fin k0_t2_loop.trips) : BitVec 32 :=
  let c256_i32 : BitVec 32 := 256#32
  let c0_i32_281 : BitVec 32 := 0#32
  let c1_i32_282 : BitVec 32 := 1#32
  let arg19 : BitVec 32 := Scf.iv c0_i32_281 c1_i32_282 k0_t2
  let c8_i32 : BitVec 32 := 8#32
  let v1860 : BitVec 32 := Scalar.muli arg19 c8_i32
  let c0_i32_966 : BitVec 32 := 0#32
  let v1861 : BitVec 32 := Scalar.addi v1860 c0_i32_966
  let v1877 : BitVec 32 := Scalar.addi c256_i32 v1861
  let c8_i32_971 : BitVec 32 := 8#32
  let v1878 : BitVec 32 := Scalar.muli v1877 c8_i32_971
  v1878
def k0_mult4 (k0_t2 : Fin k0_t2_loop.trips) : BitVec 32 :=
  let c0_i32_976 : BitVec 32 := 0#32
  let c0_i32_281 : BitVec 32 := 0#32
  let c1_i32_282 : BitVec 32 := 1#32
  let arg19 : BitVec 32 := Scf.iv c0_i32_281 c1_i32_282 k0_t2
  let c8_i32_974 : BitVec 32 := 8#32
  let v1892 : BitVec 32 := Scalar.muli arg19 c8_i32_974
  let c1_i32_975 : BitVec 32 := 1#32
  let v1893 : BitVec 32 := Scalar.addi v1892 c1_i32_975
  let v1894 : BitVec 32 := Scalar.addi c0_i32_976 v1893
  let c8_i32_977 : BitVec 32 := 8#32
  let v1895 : BitVec 32 := Scalar.muli v1894 c8_i32_977
  v1895
def k0_mult5 (k0_t2 : Fin k0_t2_loop.trips) : BitVec 32 :=
  let c256_i32_980 : BitVec 32 := 256#32
  let c0_i32_281 : BitVec 32 := 0#32
  let c1_i32_282 : BitVec 32 := 1#32
  let arg19 : BitVec 32 := Scf.iv c0_i32_281 c1_i32_282 k0_t2
  let c8_i32_974 : BitVec 32 := 8#32
  let v1892 : BitVec 32 := Scalar.muli arg19 c8_i32_974
  let c1_i32_975 : BitVec 32 := 1#32
  let v1893 : BitVec 32 := Scalar.addi v1892 c1_i32_975
  let v1909 : BitVec 32 := Scalar.addi c256_i32_980 v1893
  let c8_i32_981 : BitVec 32 := 8#32
  let v1910 : BitVec 32 := Scalar.muli v1909 c8_i32_981
  v1910
def k0_mult6 (k0_t2 : Fin k0_t2_loop.trips) : BitVec 32 :=
  let c0_i32_986 : BitVec 32 := 0#32
  let c0_i32_281 : BitVec 32 := 0#32
  let c1_i32_282 : BitVec 32 := 1#32
  let arg19 : BitVec 32 := Scf.iv c0_i32_281 c1_i32_282 k0_t2
  let c8_i32_984 : BitVec 32 := 8#32
  let v1924 : BitVec 32 := Scalar.muli arg19 c8_i32_984
  let c2_i32_985 : BitVec 32 := 2#32
  let v1925 : BitVec 32 := Scalar.addi v1924 c2_i32_985
  let v1926 : BitVec 32 := Scalar.addi c0_i32_986 v1925
  let c8_i32_987 : BitVec 32 := 8#32
  let v1927 : BitVec 32 := Scalar.muli v1926 c8_i32_987
  v1927
def k0_mult7 (k0_t2 : Fin k0_t2_loop.trips) : BitVec 32 :=
  let c256_i32_990 : BitVec 32 := 256#32
  let c0_i32_281 : BitVec 32 := 0#32
  let c1_i32_282 : BitVec 32 := 1#32
  let arg19 : BitVec 32 := Scf.iv c0_i32_281 c1_i32_282 k0_t2
  let c8_i32_984 : BitVec 32 := 8#32
  let v1924 : BitVec 32 := Scalar.muli arg19 c8_i32_984
  let c2_i32_985 : BitVec 32 := 2#32
  let v1925 : BitVec 32 := Scalar.addi v1924 c2_i32_985
  let v1941 : BitVec 32 := Scalar.addi c256_i32_990 v1925
  let c8_i32_991 : BitVec 32 := 8#32
  let v1942 : BitVec 32 := Scalar.muli v1941 c8_i32_991
  v1942
def k0_mult8 (k0_t2 : Fin k0_t2_loop.trips) : BitVec 32 :=
  let c0_i32_995 : BitVec 32 := 0#32
  let c0_i32_281 : BitVec 32 := 0#32
  let c1_i32_282 : BitVec 32 := 1#32
  let arg19 : BitVec 32 := Scf.iv c0_i32_281 c1_i32_282 k0_t2
  let c8_i32_994 : BitVec 32 := 8#32
  let v1956 : BitVec 32 := Scalar.muli arg19 c8_i32_994
  let c3_i32 : BitVec 32 := 3#32
  let v1957 : BitVec 32 := Scalar.addi v1956 c3_i32
  let v1958 : BitVec 32 := Scalar.addi c0_i32_995 v1957
  let c8_i32_996 : BitVec 32 := 8#32
  let v1959 : BitVec 32 := Scalar.muli v1958 c8_i32_996
  v1959
def k0_mult9 (k0_t2 : Fin k0_t2_loop.trips) : BitVec 32 :=
  let c256_i32_999 : BitVec 32 := 256#32
  let c0_i32_281 : BitVec 32 := 0#32
  let c1_i32_282 : BitVec 32 := 1#32
  let arg19 : BitVec 32 := Scf.iv c0_i32_281 c1_i32_282 k0_t2
  let c8_i32_994 : BitVec 32 := 8#32
  let v1956 : BitVec 32 := Scalar.muli arg19 c8_i32_994
  let c3_i32 : BitVec 32 := 3#32
  let v1957 : BitVec 32 := Scalar.addi v1956 c3_i32
  let v1973 : BitVec 32 := Scalar.addi c256_i32_999 v1957
  let c8_i32_1000 : BitVec 32 := 8#32
  let v1974 : BitVec 32 := Scalar.muli v1973 c8_i32_1000
  v1974
def k0_mult10 (k0_t2 : Fin k0_t2_loop.trips) : BitVec 32 :=
  let c0_i32_1004 : BitVec 32 := 0#32
  let c0_i32_281 : BitVec 32 := 0#32
  let c1_i32_282 : BitVec 32 := 1#32
  let arg19 : BitVec 32 := Scf.iv c0_i32_281 c1_i32_282 k0_t2
  let c8_i32_1003 : BitVec 32 := 8#32
  let v1988 : BitVec 32 := Scalar.muli arg19 c8_i32_1003
  let c4_i32 : BitVec 32 := 4#32
  let v1989 : BitVec 32 := Scalar.addi v1988 c4_i32
  let v1990 : BitVec 32 := Scalar.addi c0_i32_1004 v1989
  let c8_i32_1005 : BitVec 32 := 8#32
  let v1991 : BitVec 32 := Scalar.muli v1990 c8_i32_1005
  v1991
def k0_mult11 (k0_t2 : Fin k0_t2_loop.trips) : BitVec 32 :=
  let c256_i32_1008 : BitVec 32 := 256#32
  let c0_i32_281 : BitVec 32 := 0#32
  let c1_i32_282 : BitVec 32 := 1#32
  let arg19 : BitVec 32 := Scf.iv c0_i32_281 c1_i32_282 k0_t2
  let c8_i32_1003 : BitVec 32 := 8#32
  let v1988 : BitVec 32 := Scalar.muli arg19 c8_i32_1003
  let c4_i32 : BitVec 32 := 4#32
  let v1989 : BitVec 32 := Scalar.addi v1988 c4_i32
  let v2005 : BitVec 32 := Scalar.addi c256_i32_1008 v1989
  let c8_i32_1009 : BitVec 32 := 8#32
  let v2006 : BitVec 32 := Scalar.muli v2005 c8_i32_1009
  v2006
def k0_mult12 (k0_t2 : Fin k0_t2_loop.trips) : BitVec 32 :=
  let c0_i32_1013 : BitVec 32 := 0#32
  let c0_i32_281 : BitVec 32 := 0#32
  let c1_i32_282 : BitVec 32 := 1#32
  let arg19 : BitVec 32 := Scf.iv c0_i32_281 c1_i32_282 k0_t2
  let c8_i32_1012 : BitVec 32 := 8#32
  let v2020 : BitVec 32 := Scalar.muli arg19 c8_i32_1012
  let c5_i32 : BitVec 32 := 5#32
  let v2021 : BitVec 32 := Scalar.addi v2020 c5_i32
  let v2022 : BitVec 32 := Scalar.addi c0_i32_1013 v2021
  let c8_i32_1014 : BitVec 32 := 8#32
  let v2023 : BitVec 32 := Scalar.muli v2022 c8_i32_1014
  v2023
def k0_mult13 (k0_t2 : Fin k0_t2_loop.trips) : BitVec 32 :=
  let c256_i32_1017 : BitVec 32 := 256#32
  let c0_i32_281 : BitVec 32 := 0#32
  let c1_i32_282 : BitVec 32 := 1#32
  let arg19 : BitVec 32 := Scf.iv c0_i32_281 c1_i32_282 k0_t2
  let c8_i32_1012 : BitVec 32 := 8#32
  let v2020 : BitVec 32 := Scalar.muli arg19 c8_i32_1012
  let c5_i32 : BitVec 32 := 5#32
  let v2021 : BitVec 32 := Scalar.addi v2020 c5_i32
  let v2037 : BitVec 32 := Scalar.addi c256_i32_1017 v2021
  let c8_i32_1018 : BitVec 32 := 8#32
  let v2038 : BitVec 32 := Scalar.muli v2037 c8_i32_1018
  v2038
def k0_mult14 (k0_t2 : Fin k0_t2_loop.trips) : BitVec 32 :=
  let c0_i32_1022 : BitVec 32 := 0#32
  let c0_i32_281 : BitVec 32 := 0#32
  let c1_i32_282 : BitVec 32 := 1#32
  let arg19 : BitVec 32 := Scf.iv c0_i32_281 c1_i32_282 k0_t2
  let c8_i32_1021 : BitVec 32 := 8#32
  let v2052 : BitVec 32 := Scalar.muli arg19 c8_i32_1021
  let c6_i32 : BitVec 32 := 6#32
  let v2053 : BitVec 32 := Scalar.addi v2052 c6_i32
  let v2054 : BitVec 32 := Scalar.addi c0_i32_1022 v2053
  let c8_i32_1023 : BitVec 32 := 8#32
  let v2055 : BitVec 32 := Scalar.muli v2054 c8_i32_1023
  v2055
def k0_mult15 (k0_t2 : Fin k0_t2_loop.trips) : BitVec 32 :=
  let c256_i32_1026 : BitVec 32 := 256#32
  let c0_i32_281 : BitVec 32 := 0#32
  let c1_i32_282 : BitVec 32 := 1#32
  let arg19 : BitVec 32 := Scf.iv c0_i32_281 c1_i32_282 k0_t2
  let c8_i32_1021 : BitVec 32 := 8#32
  let v2052 : BitVec 32 := Scalar.muli arg19 c8_i32_1021
  let c6_i32 : BitVec 32 := 6#32
  let v2053 : BitVec 32 := Scalar.addi v2052 c6_i32
  let v2069 : BitVec 32 := Scalar.addi c256_i32_1026 v2053
  let c8_i32_1027 : BitVec 32 := 8#32
  let v2070 : BitVec 32 := Scalar.muli v2069 c8_i32_1027
  v2070
def k0_mult16 (k0_t2 : Fin k0_t2_loop.trips) : BitVec 32 :=
  let c0_i32_1032 : BitVec 32 := 0#32
  let c0_i32_281 : BitVec 32 := 0#32
  let c1_i32_282 : BitVec 32 := 1#32
  let arg19 : BitVec 32 := Scf.iv c0_i32_281 c1_i32_282 k0_t2
  let c8_i32_1030 : BitVec 32 := 8#32
  let v2084 : BitVec 32 := Scalar.muli arg19 c8_i32_1030
  let c7_i32_1031 : BitVec 32 := 7#32
  let v2085 : BitVec 32 := Scalar.addi v2084 c7_i32_1031
  let v2086 : BitVec 32 := Scalar.addi c0_i32_1032 v2085
  let c8_i32_1033 : BitVec 32 := 8#32
  let v2087 : BitVec 32 := Scalar.muli v2086 c8_i32_1033
  v2087
def k0_mult17 (k0_t2 : Fin k0_t2_loop.trips) : BitVec 32 :=
  let c256_i32_1036 : BitVec 32 := 256#32
  let c0_i32_281 : BitVec 32 := 0#32
  let c1_i32_282 : BitVec 32 := 1#32
  let arg19 : BitVec 32 := Scf.iv c0_i32_281 c1_i32_282 k0_t2
  let c8_i32_1030 : BitVec 32 := 8#32
  let v2084 : BitVec 32 := Scalar.muli arg19 c8_i32_1030
  let c7_i32_1031 : BitVec 32 := 7#32
  let v2085 : BitVec 32 := Scalar.addi v2084 c7_i32_1031
  let v2101 : BitVec 32 := Scalar.addi c256_i32_1036 v2085
  let c8_i32_1037 : BitVec 32 := 8#32
  let v2102 : BitVec 32 := Scalar.muli v2101 c8_i32_1037
  v2102
@[reducible] def k0_t3_loop : Scf.Loop 32 :=
  let c0_i32_332 : BitVec 32 := 0#32
  let c31_i32 : BitVec 32 := 31#32
  let v662 : BitVec 32 := Scalar.addi c0_i32_332 c31_i32
  let c1_i32_333 : BitVec 32 := 1#32
  ⟨c0_i32_332, v662, c1_i32_333⟩
def k0_mult18 (k0_t3 : Fin k0_t3_loop.trips) : BitVec 32 :=
  let c0_i32_967 : BitVec 32 := 0#32
  let c0_i32_332 : BitVec 32 := 0#32
  let c1_i32_333 : BitVec 32 := 1#32
  let arg19 : BitVec 32 := Scf.iv c0_i32_332 c1_i32_333 k0_t3
  let c8_i32 : BitVec 32 := 8#32
  let v1860 : BitVec 32 := Scalar.muli arg19 c8_i32
  let c0_i32_966 : BitVec 32 := 0#32
  let v1861 : BitVec 32 := Scalar.addi v1860 c0_i32_966
  let v1862 : BitVec 32 := Scalar.addi c0_i32_967 v1861
  let c8_i32_968 : BitVec 32 := 8#32
  let v1863 : BitVec 32 := Scalar.muli v1862 c8_i32_968
  v1863
def k0_off4 (k0_t3 : Fin k0_t3_loop.trips) (c0_i32_967 : BitVec 32) (c0_i32_966 : BitVec 32) : Fin 2 → Nat :=
  let c0_i32_332 : BitVec 32 := 0#32
  let c1_i32_333 : BitVec 32 := 1#32
  let arg19 : BitVec 32 := Scf.iv c0_i32_332 c1_i32_333 k0_t3
  let c8_i32 : BitVec 32 := 8#32
  let v1860 : BitVec 32 := Scalar.muli arg19 c8_i32
  let v1861 : BitVec 32 := Scalar.addi v1860 c0_i32_966
  let v1862 : BitVec 32 := Scalar.addi c0_i32_967 v1861
  let c8_i32_968 : BitVec 32 := 8#32
  let v1863 : BitVec 32 := Scalar.muli v1862 c8_i32_968
  let v1864 : BitVec 32 := v1863
  let v1871 : Index := Scalar.indexCast v1864
  let c0_969 : Index := 0#32
  ![v1871.toNat, 0]
def k0_mult19 (k0_t3 : Fin k0_t3_loop.trips) : BitVec 32 :=
  let c256_i32 : BitVec 32 := 256#32
  let c0_i32_332 : BitVec 32 := 0#32
  let c1_i32_333 : BitVec 32 := 1#32
  let arg19 : BitVec 32 := Scf.iv c0_i32_332 c1_i32_333 k0_t3
  let c8_i32 : BitVec 32 := 8#32
  let v1860 : BitVec 32 := Scalar.muli arg19 c8_i32
  let c0_i32_966 : BitVec 32 := 0#32
  let v1861 : BitVec 32 := Scalar.addi v1860 c0_i32_966
  let v1885 : BitVec 32 := Scalar.addi c256_i32 v1861
  let c8_i32_973 : BitVec 32 := 8#32
  let v1886 : BitVec 32 := Scalar.muli v1885 c8_i32_973
  v1886
def k0_mult20 (k0_t3 : Fin k0_t3_loop.trips) : BitVec 32 :=
  let c0_i32_980 : BitVec 32 := 0#32
  let c0_i32_332 : BitVec 32 := 0#32
  let c1_i32_333 : BitVec 32 := 1#32
  let arg19 : BitVec 32 := Scf.iv c0_i32_332 c1_i32_333 k0_t3
  let c8_i32_978 : BitVec 32 := 8#32
  let v1908 : BitVec 32 := Scalar.muli arg19 c8_i32_978
  let c1_i32_979 : BitVec 32 := 1#32
  let v1909 : BitVec 32 := Scalar.addi v1908 c1_i32_979
  let v1910 : BitVec 32 := Scalar.addi c0_i32_980 v1909
  let c8_i32_981 : BitVec 32 := 8#32
  let v1911 : BitVec 32 := Scalar.muli v1910 c8_i32_981
  v1911
def k0_mult21 (k0_t3 : Fin k0_t3_loop.trips) : BitVec 32 :=
  let c256_i32_986 : BitVec 32 := 256#32
  let c0_i32_332 : BitVec 32 := 0#32
  let c1_i32_333 : BitVec 32 := 1#32
  let arg19 : BitVec 32 := Scf.iv c0_i32_332 c1_i32_333 k0_t3
  let c8_i32_978 : BitVec 32 := 8#32
  let v1908 : BitVec 32 := Scalar.muli arg19 c8_i32_978
  let c1_i32_979 : BitVec 32 := 1#32
  let v1909 : BitVec 32 := Scalar.addi v1908 c1_i32_979
  let v1933 : BitVec 32 := Scalar.addi c256_i32_986 v1909
  let c8_i32_987 : BitVec 32 := 8#32
  let v1934 : BitVec 32 := Scalar.muli v1933 c8_i32_987
  v1934
def k0_mult22 (k0_t3 : Fin k0_t3_loop.trips) : BitVec 32 :=
  let c0_i32_994 : BitVec 32 := 0#32
  let c0_i32_332 : BitVec 32 := 0#32
  let c1_i32_333 : BitVec 32 := 1#32
  let arg19 : BitVec 32 := Scf.iv c0_i32_332 c1_i32_333 k0_t3
  let c8_i32_992 : BitVec 32 := 8#32
  let v1956 : BitVec 32 := Scalar.muli arg19 c8_i32_992
  let c2_i32_993 : BitVec 32 := 2#32
  let v1957 : BitVec 32 := Scalar.addi v1956 c2_i32_993
  let v1958 : BitVec 32 := Scalar.addi c0_i32_994 v1957
  let c8_i32_995 : BitVec 32 := 8#32
  let v1959 : BitVec 32 := Scalar.muli v1958 c8_i32_995
  v1959
def k0_mult23 (k0_t3 : Fin k0_t3_loop.trips) : BitVec 32 :=
  let c256_i32_1000 : BitVec 32 := 256#32
  let c0_i32_332 : BitVec 32 := 0#32
  let c1_i32_333 : BitVec 32 := 1#32
  let arg19 : BitVec 32 := Scf.iv c0_i32_332 c1_i32_333 k0_t3
  let c8_i32_992 : BitVec 32 := 8#32
  let v1956 : BitVec 32 := Scalar.muli arg19 c8_i32_992
  let c2_i32_993 : BitVec 32 := 2#32
  let v1957 : BitVec 32 := Scalar.addi v1956 c2_i32_993
  let v1981 : BitVec 32 := Scalar.addi c256_i32_1000 v1957
  let c8_i32_1001 : BitVec 32 := 8#32
  let v1982 : BitVec 32 := Scalar.muli v1981 c8_i32_1001
  v1982
def k0_mult24 (k0_t3 : Fin k0_t3_loop.trips) : BitVec 32 :=
  let c0_i32_1007 : BitVec 32 := 0#32
  let c0_i32_332 : BitVec 32 := 0#32
  let c1_i32_333 : BitVec 32 := 1#32
  let arg19 : BitVec 32 := Scf.iv c0_i32_332 c1_i32_333 k0_t3
  let c8_i32_1006 : BitVec 32 := 8#32
  let v2004 : BitVec 32 := Scalar.muli arg19 c8_i32_1006
  let c3_i32 : BitVec 32 := 3#32
  let v2005 : BitVec 32 := Scalar.addi v2004 c3_i32
  let v2006 : BitVec 32 := Scalar.addi c0_i32_1007 v2005
  let c8_i32_1008 : BitVec 32 := 8#32
  let v2007 : BitVec 32 := Scalar.muli v2006 c8_i32_1008
  v2007
def k0_mult25 (k0_t3 : Fin k0_t3_loop.trips) : BitVec 32 :=
  let c256_i32_1013 : BitVec 32 := 256#32
  let c0_i32_332 : BitVec 32 := 0#32
  let c1_i32_333 : BitVec 32 := 1#32
  let arg19 : BitVec 32 := Scf.iv c0_i32_332 c1_i32_333 k0_t3
  let c8_i32_1006 : BitVec 32 := 8#32
  let v2004 : BitVec 32 := Scalar.muli arg19 c8_i32_1006
  let c3_i32 : BitVec 32 := 3#32
  let v2005 : BitVec 32 := Scalar.addi v2004 c3_i32
  let v2029 : BitVec 32 := Scalar.addi c256_i32_1013 v2005
  let c8_i32_1014 : BitVec 32 := 8#32
  let v2030 : BitVec 32 := Scalar.muli v2029 c8_i32_1014
  v2030
def k0_mult26 (k0_t3 : Fin k0_t3_loop.trips) : BitVec 32 :=
  let c0_i32_1020 : BitVec 32 := 0#32
  let c0_i32_332 : BitVec 32 := 0#32
  let c1_i32_333 : BitVec 32 := 1#32
  let arg19 : BitVec 32 := Scf.iv c0_i32_332 c1_i32_333 k0_t3
  let c8_i32_1019 : BitVec 32 := 8#32
  let v2052 : BitVec 32 := Scalar.muli arg19 c8_i32_1019
  let c4_i32 : BitVec 32 := 4#32
  let v2053 : BitVec 32 := Scalar.addi v2052 c4_i32
  let v2054 : BitVec 32 := Scalar.addi c0_i32_1020 v2053
  let c8_i32_1021 : BitVec 32 := 8#32
  let v2055 : BitVec 32 := Scalar.muli v2054 c8_i32_1021
  v2055
def k0_mult27 (k0_t3 : Fin k0_t3_loop.trips) : BitVec 32 :=
  let c256_i32_1026 : BitVec 32 := 256#32
  let c0_i32_332 : BitVec 32 := 0#32
  let c1_i32_333 : BitVec 32 := 1#32
  let arg19 : BitVec 32 := Scf.iv c0_i32_332 c1_i32_333 k0_t3
  let c8_i32_1019 : BitVec 32 := 8#32
  let v2052 : BitVec 32 := Scalar.muli arg19 c8_i32_1019
  let c4_i32 : BitVec 32 := 4#32
  let v2053 : BitVec 32 := Scalar.addi v2052 c4_i32
  let v2077 : BitVec 32 := Scalar.addi c256_i32_1026 v2053
  let c8_i32_1027 : BitVec 32 := 8#32
  let v2078 : BitVec 32 := Scalar.muli v2077 c8_i32_1027
  v2078
def k0_mult28 (k0_t3 : Fin k0_t3_loop.trips) : BitVec 32 :=
  let c0_i32_1033 : BitVec 32 := 0#32
  let c0_i32_332 : BitVec 32 := 0#32
  let c1_i32_333 : BitVec 32 := 1#32
  let arg19 : BitVec 32 := Scf.iv c0_i32_332 c1_i32_333 k0_t3
  let c8_i32_1032 : BitVec 32 := 8#32
  let v2100 : BitVec 32 := Scalar.muli arg19 c8_i32_1032
  let c5_i32 : BitVec 32 := 5#32
  let v2101 : BitVec 32 := Scalar.addi v2100 c5_i32
  let v2102 : BitVec 32 := Scalar.addi c0_i32_1033 v2101
  let c8_i32_1034 : BitVec 32 := 8#32
  let v2103 : BitVec 32 := Scalar.muli v2102 c8_i32_1034
  v2103
def k0_mult29 (k0_t3 : Fin k0_t3_loop.trips) : BitVec 32 :=
  let c256_i32_1039 : BitVec 32 := 256#32
  let c0_i32_332 : BitVec 32 := 0#32
  let c1_i32_333 : BitVec 32 := 1#32
  let arg19 : BitVec 32 := Scf.iv c0_i32_332 c1_i32_333 k0_t3
  let c8_i32_1032 : BitVec 32 := 8#32
  let v2100 : BitVec 32 := Scalar.muli arg19 c8_i32_1032
  let c5_i32 : BitVec 32 := 5#32
  let v2101 : BitVec 32 := Scalar.addi v2100 c5_i32
  let v2125 : BitVec 32 := Scalar.addi c256_i32_1039 v2101
  let c8_i32_1040 : BitVec 32 := 8#32
  let v2126 : BitVec 32 := Scalar.muli v2125 c8_i32_1040
  v2126
def k0_mult30 (k0_t3 : Fin k0_t3_loop.trips) : BitVec 32 :=
  let c0_i32_1046 : BitVec 32 := 0#32
  let c0_i32_332 : BitVec 32 := 0#32
  let c1_i32_333 : BitVec 32 := 1#32
  let arg19 : BitVec 32 := Scf.iv c0_i32_332 c1_i32_333 k0_t3
  let c8_i32_1045 : BitVec 32 := 8#32
  let v2148 : BitVec 32 := Scalar.muli arg19 c8_i32_1045
  let c6_i32 : BitVec 32 := 6#32
  let v2149 : BitVec 32 := Scalar.addi v2148 c6_i32
  let v2150 : BitVec 32 := Scalar.addi c0_i32_1046 v2149
  let c8_i32_1047 : BitVec 32 := 8#32
  let v2151 : BitVec 32 := Scalar.muli v2150 c8_i32_1047
  v2151
def k0_mult31 (k0_t3 : Fin k0_t3_loop.trips) : BitVec 32 :=
  let c256_i32_1052 : BitVec 32 := 256#32
  let c0_i32_332 : BitVec 32 := 0#32
  let c1_i32_333 : BitVec 32 := 1#32
  let arg19 : BitVec 32 := Scf.iv c0_i32_332 c1_i32_333 k0_t3
  let c8_i32_1045 : BitVec 32 := 8#32
  let v2148 : BitVec 32 := Scalar.muli arg19 c8_i32_1045
  let c6_i32 : BitVec 32 := 6#32
  let v2149 : BitVec 32 := Scalar.addi v2148 c6_i32
  let v2173 : BitVec 32 := Scalar.addi c256_i32_1052 v2149
  let c8_i32_1053 : BitVec 32 := 8#32
  let v2174 : BitVec 32 := Scalar.muli v2173 c8_i32_1053
  v2174
def k0_mult32 (k0_t3 : Fin k0_t3_loop.trips) : BitVec 32 :=
  let c0_i32_1060 : BitVec 32 := 0#32
  let c0_i32_332 : BitVec 32 := 0#32
  let c1_i32_333 : BitVec 32 := 1#32
  let arg19 : BitVec 32 := Scf.iv c0_i32_332 c1_i32_333 k0_t3
  let c8_i32_1058 : BitVec 32 := 8#32
  let v2196 : BitVec 32 := Scalar.muli arg19 c8_i32_1058
  let c7_i32_1059 : BitVec 32 := 7#32
  let v2197 : BitVec 32 := Scalar.addi v2196 c7_i32_1059
  let v2198 : BitVec 32 := Scalar.addi c0_i32_1060 v2197
  let c8_i32_1061 : BitVec 32 := 8#32
  let v2199 : BitVec 32 := Scalar.muli v2198 c8_i32_1061
  v2199
def k0_mult33 (k0_t3 : Fin k0_t3_loop.trips) : BitVec 32 :=
  let c256_i32_1066 : BitVec 32 := 256#32
  let c0_i32_332 : BitVec 32 := 0#32
  let c1_i32_333 : BitVec 32 := 1#32
  let arg19 : BitVec 32 := Scf.iv c0_i32_332 c1_i32_333 k0_t3
  let c8_i32_1058 : BitVec 32 := 8#32
  let v2196 : BitVec 32 := Scalar.muli arg19 c8_i32_1058
  let c7_i32_1059 : BitVec 32 := 7#32
  let v2197 : BitVec 32 := Scalar.addi v2196 c7_i32_1059
  let v2221 : BitVec 32 := Scalar.addi c256_i32_1066 v2197
  let c8_i32_1067 : BitVec 32 := 8#32
  let v2222 : BitVec 32 := Scalar.muli v2221 c8_i32_1067
  v2222
@[reducible] def k0_t4_loop : Scf.Loop 32 :=
  let c0_i32_467 : BitVec 32 := 0#32
  let c2_i32_468 : BitVec 32 := 2#32
  let v932 : BitVec 32 := Scalar.addi c0_i32_467 c2_i32_468
  let c1_i32_469 : BitVec 32 := 1#32
  ⟨c0_i32_467, v932, c1_i32_469⟩
def k0_mult34 (k0_t4 : Fin k0_t4_loop.trips) : BitVec 32 :=
  let c0_i32_467 : BitVec 32 := 0#32
  let c1_i32_469 : BitVec 32 := 1#32
  let arg19 : BitVec 32 := Scf.iv c0_i32_467 c1_i32_469 k0_t4
  let c2048_i32 : BitVec 32 := 2048#32
  let v1860 : BitVec 32 := Scalar.muli arg19 c2048_i32
  v1860
def k0_off5 (k0_t4 : Fin k0_t4_loop.trips) : Fin 2 → Nat :=
  let c0_i32_467 : BitVec 32 := 0#32
  let c1_i32_469 : BitVec 32 := 1#32
  let arg19 : BitVec 32 := Scf.iv c0_i32_467 c1_i32_469 k0_t4
  let c2048_i32 : BitVec 32 := 2048#32
  let v1860 : BitVec 32 := Scalar.muli arg19 c2048_i32
  let v1861 : BitVec 32 := v1860
  let v1862 : Index := Scalar.indexCast v1861
  let c0_966 : Index := 0#32
  ![v1862.toNat, 0]
def k0_off6 (k0_t4 : Fin k0_t4_loop.trips) : Fin 2 → Nat :=
  let c0_i32_467 : BitVec 32 := 0#32
  let c1_i32_469 : BitVec 32 := 1#32
  let arg19 : BitVec 32 := Scf.iv c0_i32_467 c1_i32_469 k0_t4
  let c2048_i32 : BitVec 32 := 2048#32
  let v1860 : BitVec 32 := Scalar.muli arg19 c2048_i32
  let v1861 : BitVec 32 := v1860
  let v1865 : Index := Scalar.indexCast v1861
  let c0_967 : Index := 0#32
  ![v1865.toNat, 0]
@[reducible] def k0_t5_loop : Scf.Loop 32 :=
  let c0_i32_766 : BitVec 32 := 0#32
  let c2_i32_767 : BitVec 32 := 2#32
  let v1324 : BitVec 32 := Scalar.addi c0_i32_766 c2_i32_767
  let c1_i32_768 : BitVec 32 := 1#32
  ⟨c0_i32_766, v1324, c1_i32_768⟩
def k0_mult35 (k0_t5 : Fin k0_t5_loop.trips) : BitVec 32 :=
  let c0_i32_766 : BitVec 32 := 0#32
  let c1_i32_768 : BitVec 32 := 1#32
  let arg19 : BitVec 32 := Scf.iv c0_i32_766 c1_i32_768 k0_t5
  let c2048_i32 : BitVec 32 := 2048#32
  let v1860 : BitVec 32 := Scalar.muli arg19 c2048_i32
  v1860
def k0_off7 (k0_t5 : Fin k0_t5_loop.trips) : Fin 2 → Nat :=
  let c0_i32_766 : BitVec 32 := 0#32
  let c1_i32_768 : BitVec 32 := 1#32
  let arg19 : BitVec 32 := Scf.iv c0_i32_766 c1_i32_768 k0_t5
  let c2048_i32 : BitVec 32 := 2048#32
  let v1860 : BitVec 32 := Scalar.muli arg19 c2048_i32
  let v1861 : BitVec 32 := v1860
  let v1862 : Index := Scalar.indexCast v1861
  let c0_966 : Index := 0#32
  ![v1862.toNat, 0]
def k0_off8 (k0_t5 : Fin k0_t5_loop.trips) : Fin 2 → Nat :=
  let c0_i32_766 : BitVec 32 := 0#32
  let c1_i32_768 : BitVec 32 := 1#32
  let arg19 : BitVec 32 := Scf.iv c0_i32_766 c1_i32_768 k0_t5
  let c2048_i32 : BitVec 32 := 2048#32
  let v1860 : BitVec 32 := Scalar.muli arg19 c2048_i32
  let v1861 : BitVec 32 := v1860
  let v1866 : Index := Scalar.indexCast v1861
  let c0_970 : Index := 0#32
  ![v1866.toNat, 0]
@[reducible] def k0_t6_loop : Scf.Loop 32 :=
  let c0_i32_771 : BitVec 32 := 0#32
  let c32_i32_772 : BitVec 32 := 32#32
  let v1330 : BitVec 32 := Scalar.addi c0_i32_771 c32_i32_772
  let c1_i32_773 : BitVec 32 := 1#32
  ⟨c0_i32_771, v1330, c1_i32_773⟩
def k0_mult36 (k0_t6 : Fin k0_t6_loop.trips) : BitVec 32 :=
  let c511_i32 : BitVec 32 := 511#32
  let c0_i32_967 : BitVec 32 := 0#32
  let c0_i32_771 : BitVec 32 := 0#32
  let c1_i32_773 : BitVec 32 := 1#32
  let arg19 : BitVec 32 := Scf.iv c0_i32_771 c1_i32_773 k0_t6
  let c8_i32 : BitVec 32 := 8#32
  let v1860 : BitVec 32 := Scalar.muli arg19 c8_i32
  let c0_i32_966 : BitVec 32 := 0#32
  let v1861 : BitVec 32 := Scalar.addi v1860 c0_i32_966
  let v1862 : BitVec 32 := Scalar.addi c0_i32_967 v1861
  let v1863 : BitVec 32 := Scalar.subi c511_i32 v1862
  let c8_i32_968 : BitVec 32 := 8#32
  let v1864 : BitVec 32 := Scalar.muli v1863 c8_i32_968
  v1864
def k0_off9 (k0_t6 : Fin k0_t6_loop.trips) (c0_i32_967 : BitVec 32) (c0_i32_966 : BitVec 32) : Fin 2 → Nat :=
  let c511_i32 : BitVec 32 := 511#32
  let c0_i32_771 : BitVec 32 := 0#32
  let c1_i32_773 : BitVec 32 := 1#32
  let arg19 : BitVec 32 := Scf.iv c0_i32_771 c1_i32_773 k0_t6
  let c8_i32 : BitVec 32 := 8#32
  let v1860 : BitVec 32 := Scalar.muli arg19 c8_i32
  let v1861 : BitVec 32 := Scalar.addi v1860 c0_i32_966
  let v1862 : BitVec 32 := Scalar.addi c0_i32_967 v1861
  let v1863 : BitVec 32 := Scalar.subi c511_i32 v1862
  let c8_i32_968 : BitVec 32 := 8#32
  let v1864 : BitVec 32 := Scalar.muli v1863 c8_i32_968
  let v1865 : BitVec 32 := v1864
  let v1872 : Index := Scalar.indexCast v1865
  let c0_969 : Index := 0#32
  ![v1872.toNat, 0]
def k0_mult37 (k0_t6 : Fin k0_t6_loop.trips) : BitVec 32 :=
  let c511_i32_971 : BitVec 32 := 511#32
  let c256_i32 : BitVec 32 := 256#32
  let c0_i32_771 : BitVec 32 := 0#32
  let c1_i32_773 : BitVec 32 := 1#32
  let arg19 : BitVec 32 := Scf.iv c0_i32_771 c1_i32_773 k0_t6
  let c8_i32 : BitVec 32 := 8#32
  let v1860 : BitVec 32 := Scalar.muli arg19 c8_i32
  let c0_i32_966 : BitVec 32 := 0#32
  let v1861 : BitVec 32 := Scalar.addi v1860 c0_i32_966
  let v1878 : BitVec 32 := Scalar.addi c256_i32 v1861
  let v1879 : BitVec 32 := Scalar.subi c511_i32_971 v1878
  let c8_i32_972 : BitVec 32 := 8#32
  let v1880 : BitVec 32 := Scalar.muli v1879 c8_i32_972
  v1880
def k0_mult38 (k0_t6 : Fin k0_t6_loop.trips) : BitVec 32 :=
  let c511_i32_978 : BitVec 32 := 511#32
  let c0_i32_977 : BitVec 32 := 0#32
  let c0_i32_771 : BitVec 32 := 0#32
  let c1_i32_773 : BitVec 32 := 1#32
  let arg19 : BitVec 32 := Scf.iv c0_i32_771 c1_i32_773 k0_t6
  let c8_i32_975 : BitVec 32 := 8#32
  let v1894 : BitVec 32 := Scalar.muli arg19 c8_i32_975
  let c1_i32_976 : BitVec 32 := 1#32
  let v1895 : BitVec 32 := Scalar.addi v1894 c1_i32_976
  let v1896 : BitVec 32 := Scalar.addi c0_i32_977 v1895
  let v1897 : BitVec 32 := Scalar.subi c511_i32_978 v1896
  let c8_i32_979 : BitVec 32 := 8#32
  let v1898 : BitVec 32 := Scalar.muli v1897 c8_i32_979
  v1898
def k0_mult39 (k0_t6 : Fin k0_t6_loop.trips) : BitVec 32 :=
  let c511_i32_983 : BitVec 32 := 511#32
  let c256_i32_982 : BitVec 32 := 256#32
  let c0_i32_771 : BitVec 32 := 0#32
  let c1_i32_773 : BitVec 32 := 1#32
  let arg19 : BitVec 32 := Scf.iv c0_i32_771 c1_i32_773 k0_t6
  let c8_i32_975 : BitVec 32 := 8#32
  let v1894 : BitVec 32 := Scalar.muli arg19 c8_i32_975
  let c1_i32_976 : BitVec 32 := 1#32
  let v1895 : BitVec 32 := Scalar.addi v1894 c1_i32_976
  let v1912 : BitVec 32 := Scalar.addi c256_i32_982 v1895
  let v1913 : BitVec 32 := Scalar.subi c511_i32_983 v1912
  let c8_i32_984 : BitVec 32 := 8#32
  let v1914 : BitVec 32 := Scalar.muli v1913 c8_i32_984
  v1914
def k0_mult40 (k0_t6 : Fin k0_t6_loop.trips) : BitVec 32 :=
  let c511_i32_990 : BitVec 32 := 511#32
  let c0_i32_989 : BitVec 32 := 0#32
  let c0_i32_771 : BitVec 32 := 0#32
  let c1_i32_773 : BitVec 32 := 1#32
  let arg19 : BitVec 32 := Scf.iv c0_i32_771 c1_i32_773 k0_t6
  let c8_i32_987 : BitVec 32 := 8#32
  let v1928 : BitVec 32 := Scalar.muli arg19 c8_i32_987
  let c2_i32_988 : BitVec 32 := 2#32
  let v1929 : BitVec 32 := Scalar.addi v1928 c2_i32_988
  let v1930 : BitVec 32 := Scalar.addi c0_i32_989 v1929
  let v1931 : BitVec 32 := Scalar.subi c511_i32_990 v1930
  let c8_i32_991 : BitVec 32 := 8#32
  let v1932 : BitVec 32 := Scalar.muli v1931 c8_i32_991
  v1932
def k0_mult41 (k0_t6 : Fin k0_t6_loop.trips) : BitVec 32 :=
  let c511_i32_995 : BitVec 32 := 511#32
  let c256_i32_994 : BitVec 32 := 256#32
  let c0_i32_771 : BitVec 32 := 0#32
  let c1_i32_773 : BitVec 32 := 1#32
  let arg19 : BitVec 32 := Scf.iv c0_i32_771 c1_i32_773 k0_t6
  let c8_i32_987 : BitVec 32 := 8#32
  let v1928 : BitVec 32 := Scalar.muli arg19 c8_i32_987
  let c2_i32_988 : BitVec 32 := 2#32
  let v1929 : BitVec 32 := Scalar.addi v1928 c2_i32_988
  let v1946 : BitVec 32 := Scalar.addi c256_i32_994 v1929
  let v1947 : BitVec 32 := Scalar.subi c511_i32_995 v1946
  let c8_i32_996 : BitVec 32 := 8#32
  let v1948 : BitVec 32 := Scalar.muli v1947 c8_i32_996
  v1948
def k0_mult42 (k0_t6 : Fin k0_t6_loop.trips) : BitVec 32 :=
  let c511_i32_1001 : BitVec 32 := 511#32
  let c0_i32_1000 : BitVec 32 := 0#32
  let c0_i32_771 : BitVec 32 := 0#32
  let c1_i32_773 : BitVec 32 := 1#32
  let arg19 : BitVec 32 := Scf.iv c0_i32_771 c1_i32_773 k0_t6
  let c8_i32_999 : BitVec 32 := 8#32
  let v1962 : BitVec 32 := Scalar.muli arg19 c8_i32_999
  let c3_i32 : BitVec 32 := 3#32
  let v1963 : BitVec 32 := Scalar.addi v1962 c3_i32
  let v1964 : BitVec 32 := Scalar.addi c0_i32_1000 v1963
  let v1965 : BitVec 32 := Scalar.subi c511_i32_1001 v1964
  let c8_i32_1002 : BitVec 32 := 8#32
  let v1966 : BitVec 32 := Scalar.muli v1965 c8_i32_1002
  v1966
def k0_mult43 (k0_t6 : Fin k0_t6_loop.trips) : BitVec 32 :=
  let c511_i32_1006 : BitVec 32 := 511#32
  let c256_i32_1005 : BitVec 32 := 256#32
  let c0_i32_771 : BitVec 32 := 0#32
  let c1_i32_773 : BitVec 32 := 1#32
  let arg19 : BitVec 32 := Scf.iv c0_i32_771 c1_i32_773 k0_t6
  let c8_i32_999 : BitVec 32 := 8#32
  let v1962 : BitVec 32 := Scalar.muli arg19 c8_i32_999
  let c3_i32 : BitVec 32 := 3#32
  let v1963 : BitVec 32 := Scalar.addi v1962 c3_i32
  let v1980 : BitVec 32 := Scalar.addi c256_i32_1005 v1963
  let v1981 : BitVec 32 := Scalar.subi c511_i32_1006 v1980
  let c8_i32_1007 : BitVec 32 := 8#32
  let v1982 : BitVec 32 := Scalar.muli v1981 c8_i32_1007
  v1982
def k0_mult44 (k0_t6 : Fin k0_t6_loop.trips) : BitVec 32 :=
  let c511_i32_1012 : BitVec 32 := 511#32
  let c0_i32_1011 : BitVec 32 := 0#32
  let c0_i32_771 : BitVec 32 := 0#32
  let c1_i32_773 : BitVec 32 := 1#32
  let arg19 : BitVec 32 := Scf.iv c0_i32_771 c1_i32_773 k0_t6
  let c8_i32_1010 : BitVec 32 := 8#32
  let v1996 : BitVec 32 := Scalar.muli arg19 c8_i32_1010
  let c4_i32 : BitVec 32 := 4#32
  let v1997 : BitVec 32 := Scalar.addi v1996 c4_i32
  let v1998 : BitVec 32 := Scalar.addi c0_i32_1011 v1997
  let v1999 : BitVec 32 := Scalar.subi c511_i32_1012 v1998
  let c8_i32_1013 : BitVec 32 := 8#32
  let v2000 : BitVec 32 := Scalar.muli v1999 c8_i32_1013
  v2000
def k0_mult45 (k0_t6 : Fin k0_t6_loop.trips) : BitVec 32 :=
  let c511_i32_1017 : BitVec 32 := 511#32
  let c256_i32_1016 : BitVec 32 := 256#32
  let c0_i32_771 : BitVec 32 := 0#32
  let c1_i32_773 : BitVec 32 := 1#32
  let arg19 : BitVec 32 := Scf.iv c0_i32_771 c1_i32_773 k0_t6
  let c8_i32_1010 : BitVec 32 := 8#32
  let v1996 : BitVec 32 := Scalar.muli arg19 c8_i32_1010
  let c4_i32 : BitVec 32 := 4#32
  let v1997 : BitVec 32 := Scalar.addi v1996 c4_i32
  let v2014 : BitVec 32 := Scalar.addi c256_i32_1016 v1997
  let v2015 : BitVec 32 := Scalar.subi c511_i32_1017 v2014
  let c8_i32_1018 : BitVec 32 := 8#32
  let v2016 : BitVec 32 := Scalar.muli v2015 c8_i32_1018
  v2016
def k0_mult46 (k0_t6 : Fin k0_t6_loop.trips) : BitVec 32 :=
  let c511_i32_1023 : BitVec 32 := 511#32
  let c0_i32_1022 : BitVec 32 := 0#32
  let c0_i32_771 : BitVec 32 := 0#32
  let c1_i32_773 : BitVec 32 := 1#32
  let arg19 : BitVec 32 := Scf.iv c0_i32_771 c1_i32_773 k0_t6
  let c8_i32_1021 : BitVec 32 := 8#32
  let v2030 : BitVec 32 := Scalar.muli arg19 c8_i32_1021
  let c5_i32 : BitVec 32 := 5#32
  let v2031 : BitVec 32 := Scalar.addi v2030 c5_i32
  let v2032 : BitVec 32 := Scalar.addi c0_i32_1022 v2031
  let v2033 : BitVec 32 := Scalar.subi c511_i32_1023 v2032
  let c8_i32_1024 : BitVec 32 := 8#32
  let v2034 : BitVec 32 := Scalar.muli v2033 c8_i32_1024
  v2034
def k0_mult47 (k0_t6 : Fin k0_t6_loop.trips) : BitVec 32 :=
  let c511_i32_1028 : BitVec 32 := 511#32
  let c256_i32_1027 : BitVec 32 := 256#32
  let c0_i32_771 : BitVec 32 := 0#32
  let c1_i32_773 : BitVec 32 := 1#32
  let arg19 : BitVec 32 := Scf.iv c0_i32_771 c1_i32_773 k0_t6
  let c8_i32_1021 : BitVec 32 := 8#32
  let v2030 : BitVec 32 := Scalar.muli arg19 c8_i32_1021
  let c5_i32 : BitVec 32 := 5#32
  let v2031 : BitVec 32 := Scalar.addi v2030 c5_i32
  let v2048 : BitVec 32 := Scalar.addi c256_i32_1027 v2031
  let v2049 : BitVec 32 := Scalar.subi c511_i32_1028 v2048
  let c8_i32_1029 : BitVec 32 := 8#32
  let v2050 : BitVec 32 := Scalar.muli v2049 c8_i32_1029
  v2050
def k0_mult48 (k0_t6 : Fin k0_t6_loop.trips) : BitVec 32 :=
  let c511_i32_1034 : BitVec 32 := 511#32
  let c0_i32_1033 : BitVec 32 := 0#32
  let c0_i32_771 : BitVec 32 := 0#32
  let c1_i32_773 : BitVec 32 := 1#32
  let arg19 : BitVec 32 := Scf.iv c0_i32_771 c1_i32_773 k0_t6
  let c8_i32_1032 : BitVec 32 := 8#32
  let v2064 : BitVec 32 := Scalar.muli arg19 c8_i32_1032
  let c6_i32 : BitVec 32 := 6#32
  let v2065 : BitVec 32 := Scalar.addi v2064 c6_i32
  let v2066 : BitVec 32 := Scalar.addi c0_i32_1033 v2065
  let v2067 : BitVec 32 := Scalar.subi c511_i32_1034 v2066
  let c8_i32_1035 : BitVec 32 := 8#32
  let v2068 : BitVec 32 := Scalar.muli v2067 c8_i32_1035
  v2068
def k0_mult49 (k0_t6 : Fin k0_t6_loop.trips) : BitVec 32 :=
  let c511_i32_1039 : BitVec 32 := 511#32
  let c256_i32_1038 : BitVec 32 := 256#32
  let c0_i32_771 : BitVec 32 := 0#32
  let c1_i32_773 : BitVec 32 := 1#32
  let arg19 : BitVec 32 := Scf.iv c0_i32_771 c1_i32_773 k0_t6
  let c8_i32_1032 : BitVec 32 := 8#32
  let v2064 : BitVec 32 := Scalar.muli arg19 c8_i32_1032
  let c6_i32 : BitVec 32 := 6#32
  let v2065 : BitVec 32 := Scalar.addi v2064 c6_i32
  let v2082 : BitVec 32 := Scalar.addi c256_i32_1038 v2065
  let v2083 : BitVec 32 := Scalar.subi c511_i32_1039 v2082
  let c8_i32_1040 : BitVec 32 := 8#32
  let v2084 : BitVec 32 := Scalar.muli v2083 c8_i32_1040
  v2084
def k0_mult50 (k0_t6 : Fin k0_t6_loop.trips) : BitVec 32 :=
  let c511_i32_1046 : BitVec 32 := 511#32
  let c0_i32_1045 : BitVec 32 := 0#32
  let c0_i32_771 : BitVec 32 := 0#32
  let c1_i32_773 : BitVec 32 := 1#32
  let arg19 : BitVec 32 := Scf.iv c0_i32_771 c1_i32_773 k0_t6
  let c8_i32_1043 : BitVec 32 := 8#32
  let v2098 : BitVec 32 := Scalar.muli arg19 c8_i32_1043
  let c7_i32_1044 : BitVec 32 := 7#32
  let v2099 : BitVec 32 := Scalar.addi v2098 c7_i32_1044
  let v2100 : BitVec 32 := Scalar.addi c0_i32_1045 v2099
  let v2101 : BitVec 32 := Scalar.subi c511_i32_1046 v2100
  let c8_i32_1047 : BitVec 32 := 8#32
  let v2102 : BitVec 32 := Scalar.muli v2101 c8_i32_1047
  v2102
def k0_mult51 (k0_t6 : Fin k0_t6_loop.trips) : BitVec 32 :=
  let c511_i32_1051 : BitVec 32 := 511#32
  let c256_i32_1050 : BitVec 32 := 256#32
  let c0_i32_771 : BitVec 32 := 0#32
  let c1_i32_773 : BitVec 32 := 1#32
  let arg19 : BitVec 32 := Scf.iv c0_i32_771 c1_i32_773 k0_t6
  let c8_i32_1043 : BitVec 32 := 8#32
  let v2098 : BitVec 32 := Scalar.muli arg19 c8_i32_1043
  let c7_i32_1044 : BitVec 32 := 7#32
  let v2099 : BitVec 32 := Scalar.addi v2098 c7_i32_1044
  let v2116 : BitVec 32 := Scalar.addi c256_i32_1050 v2099
  let v2117 : BitVec 32 := Scalar.subi c511_i32_1051 v2116
  let c8_i32_1052 : BitVec 32 := 8#32
  let v2118 : BitVec 32 := Scalar.muli v2117 c8_i32_1052
  v2118
@[reducible] def k0_t7_loop : Scf.Loop 32 :=
  let c0_i32_822 : BitVec 32 := 0#32
  let c31_i32_823 : BitVec 32 := 31#32
  let v1589 : BitVec 32 := Scalar.addi c0_i32_822 c31_i32_823
  let c1_i32_824 : BitVec 32 := 1#32
  ⟨c0_i32_822, v1589, c1_i32_824⟩
def k0_mult52 (k0_t7 : Fin k0_t7_loop.trips) : BitVec 32 :=
  let c511_i32 : BitVec 32 := 511#32
  let c0_i32_967 : BitVec 32 := 0#32
  let c0_i32_822 : BitVec 32 := 0#32
  let c1_i32_824 : BitVec 32 := 1#32
  let arg19 : BitVec 32 := Scf.iv c0_i32_822 c1_i32_824 k0_t7
  let c8_i32 : BitVec 32 := 8#32
  let v1860 : BitVec 32 := Scalar.muli arg19 c8_i32
  let c0_i32_966 : BitVec 32 := 0#32
  let v1861 : BitVec 32 := Scalar.addi v1860 c0_i32_966
  let v1862 : BitVec 32 := Scalar.addi c0_i32_967 v1861
  let v1863 : BitVec 32 := Scalar.subi c511_i32 v1862
  let c8_i32_968 : BitVec 32 := 8#32
  let v1864 : BitVec 32 := Scalar.muli v1863 c8_i32_968
  v1864
def k0_off10 (k0_t7 : Fin k0_t7_loop.trips) (c0_i32_967 : BitVec 32) (c0_i32_966 : BitVec 32) : Fin 2 → Nat :=
  let c511_i32 : BitVec 32 := 511#32
  let c0_i32_822 : BitVec 32 := 0#32
  let c1_i32_824 : BitVec 32 := 1#32
  let arg19 : BitVec 32 := Scf.iv c0_i32_822 c1_i32_824 k0_t7
  let c8_i32 : BitVec 32 := 8#32
  let v1860 : BitVec 32 := Scalar.muli arg19 c8_i32
  let v1861 : BitVec 32 := Scalar.addi v1860 c0_i32_966
  let v1862 : BitVec 32 := Scalar.addi c0_i32_967 v1861
  let v1863 : BitVec 32 := Scalar.subi c511_i32 v1862
  let c8_i32_968 : BitVec 32 := 8#32
  let v1864 : BitVec 32 := Scalar.muli v1863 c8_i32_968
  let v1865 : BitVec 32 := v1864
  let v1872 : Index := Scalar.indexCast v1865
  let c0_969 : Index := 0#32
  ![v1872.toNat, 0]
def k0_mult53 (k0_t7 : Fin k0_t7_loop.trips) : BitVec 32 :=
  let c511_i32_973 : BitVec 32 := 511#32
  let c256_i32 : BitVec 32 := 256#32
  let c0_i32_822 : BitVec 32 := 0#32
  let c1_i32_824 : BitVec 32 := 1#32
  let arg19 : BitVec 32 := Scf.iv c0_i32_822 c1_i32_824 k0_t7
  let c8_i32 : BitVec 32 := 8#32
  let v1860 : BitVec 32 := Scalar.muli arg19 c8_i32
  let c0_i32_966 : BitVec 32 := 0#32
  let v1861 : BitVec 32 := Scalar.addi v1860 c0_i32_966
  let v1886 : BitVec 32 := Scalar.addi c256_i32 v1861
  let v1887 : BitVec 32 := Scalar.subi c511_i32_973 v1886
  let c8_i32_974 : BitVec 32 := 8#32
  let v1888 : BitVec 32 := Scalar.muli v1887 c8_i32_974
  v1888
def k0_mult54 (k0_t7 : Fin k0_t7_loop.trips) : BitVec 32 :=
  let c511_i32_982 : BitVec 32 := 511#32
  let c0_i32_981 : BitVec 32 := 0#32
  let c0_i32_822 : BitVec 32 := 0#32
  let c1_i32_824 : BitVec 32 := 1#32
  let arg19 : BitVec 32 := Scf.iv c0_i32_822 c1_i32_824 k0_t7
  let c8_i32_979 : BitVec 32 := 8#32
  let v1910 : BitVec 32 := Scalar.muli arg19 c8_i32_979
  let c1_i32_980 : BitVec 32 := 1#32
  let v1911 : BitVec 32 := Scalar.addi v1910 c1_i32_980
  let v1912 : BitVec 32 := Scalar.addi c0_i32_981 v1911
  let v1913 : BitVec 32 := Scalar.subi c511_i32_982 v1912
  let c8_i32_983 : BitVec 32 := 8#32
  let v1914 : BitVec 32 := Scalar.muli v1913 c8_i32_983
  v1914
def k0_mult55 (k0_t7 : Fin k0_t7_loop.trips) : BitVec 32 :=
  let c511_i32_989 : BitVec 32 := 511#32
  let c256_i32_988 : BitVec 32 := 256#32
  let c0_i32_822 : BitVec 32 := 0#32
  let c1_i32_824 : BitVec 32 := 1#32
  let arg19 : BitVec 32 := Scf.iv c0_i32_822 c1_i32_824 k0_t7
  let c8_i32_979 : BitVec 32 := 8#32
  let v1910 : BitVec 32 := Scalar.muli arg19 c8_i32_979
  let c1_i32_980 : BitVec 32 := 1#32
  let v1911 : BitVec 32 := Scalar.addi v1910 c1_i32_980
  let v1936 : BitVec 32 := Scalar.addi c256_i32_988 v1911
  let v1937 : BitVec 32 := Scalar.subi c511_i32_989 v1936
  let c8_i32_990 : BitVec 32 := 8#32
  let v1938 : BitVec 32 := Scalar.muli v1937 c8_i32_990
  v1938
def k0_mult56 (k0_t7 : Fin k0_t7_loop.trips) : BitVec 32 :=
  let c511_i32_998 : BitVec 32 := 511#32
  let c0_i32_997 : BitVec 32 := 0#32
  let c0_i32_822 : BitVec 32 := 0#32
  let c1_i32_824 : BitVec 32 := 1#32
  let arg19 : BitVec 32 := Scf.iv c0_i32_822 c1_i32_824 k0_t7
  let c8_i32_995 : BitVec 32 := 8#32
  let v1960 : BitVec 32 := Scalar.muli arg19 c8_i32_995
  let c2_i32_996 : BitVec 32 := 2#32
  let v1961 : BitVec 32 := Scalar.addi v1960 c2_i32_996
  let v1962 : BitVec 32 := Scalar.addi c0_i32_997 v1961
  let v1963 : BitVec 32 := Scalar.subi c511_i32_998 v1962
  let c8_i32_999 : BitVec 32 := 8#32
  let v1964 : BitVec 32 := Scalar.muli v1963 c8_i32_999
  v1964
def k0_mult57 (k0_t7 : Fin k0_t7_loop.trips) : BitVec 32 :=
  let c511_i32_1005 : BitVec 32 := 511#32
  let c256_i32_1004 : BitVec 32 := 256#32
  let c0_i32_822 : BitVec 32 := 0#32
  let c1_i32_824 : BitVec 32 := 1#32
  let arg19 : BitVec 32 := Scf.iv c0_i32_822 c1_i32_824 k0_t7
  let c8_i32_995 : BitVec 32 := 8#32
  let v1960 : BitVec 32 := Scalar.muli arg19 c8_i32_995
  let c2_i32_996 : BitVec 32 := 2#32
  let v1961 : BitVec 32 := Scalar.addi v1960 c2_i32_996
  let v1986 : BitVec 32 := Scalar.addi c256_i32_1004 v1961
  let v1987 : BitVec 32 := Scalar.subi c511_i32_1005 v1986
  let c8_i32_1006 : BitVec 32 := 8#32
  let v1988 : BitVec 32 := Scalar.muli v1987 c8_i32_1006
  v1988
def k0_mult58 (k0_t7 : Fin k0_t7_loop.trips) : BitVec 32 :=
  let c511_i32_1013 : BitVec 32 := 511#32
  let c0_i32_1012 : BitVec 32 := 0#32
  let c0_i32_822 : BitVec 32 := 0#32
  let c1_i32_824 : BitVec 32 := 1#32
  let arg19 : BitVec 32 := Scf.iv c0_i32_822 c1_i32_824 k0_t7
  let c8_i32_1011 : BitVec 32 := 8#32
  let v2010 : BitVec 32 := Scalar.muli arg19 c8_i32_1011
  let c3_i32 : BitVec 32 := 3#32
  let v2011 : BitVec 32 := Scalar.addi v2010 c3_i32
  let v2012 : BitVec 32 := Scalar.addi c0_i32_1012 v2011
  let v2013 : BitVec 32 := Scalar.subi c511_i32_1013 v2012
  let c8_i32_1014 : BitVec 32 := 8#32
  let v2014 : BitVec 32 := Scalar.muli v2013 c8_i32_1014
  v2014
def k0_mult59 (k0_t7 : Fin k0_t7_loop.trips) : BitVec 32 :=
  let c511_i32_1020 : BitVec 32 := 511#32
  let c256_i32_1019 : BitVec 32 := 256#32
  let c0_i32_822 : BitVec 32 := 0#32
  let c1_i32_824 : BitVec 32 := 1#32
  let arg19 : BitVec 32 := Scf.iv c0_i32_822 c1_i32_824 k0_t7
  let c8_i32_1011 : BitVec 32 := 8#32
  let v2010 : BitVec 32 := Scalar.muli arg19 c8_i32_1011
  let c3_i32 : BitVec 32 := 3#32
  let v2011 : BitVec 32 := Scalar.addi v2010 c3_i32
  let v2036 : BitVec 32 := Scalar.addi c256_i32_1019 v2011
  let v2037 : BitVec 32 := Scalar.subi c511_i32_1020 v2036
  let c8_i32_1021 : BitVec 32 := 8#32
  let v2038 : BitVec 32 := Scalar.muli v2037 c8_i32_1021
  v2038
def k0_mult60 (k0_t7 : Fin k0_t7_loop.trips) : BitVec 32 :=
  let c511_i32_1028 : BitVec 32 := 511#32
  let c0_i32_1027 : BitVec 32 := 0#32
  let c0_i32_822 : BitVec 32 := 0#32
  let c1_i32_824 : BitVec 32 := 1#32
  let arg19 : BitVec 32 := Scf.iv c0_i32_822 c1_i32_824 k0_t7
  let c8_i32_1026 : BitVec 32 := 8#32
  let v2060 : BitVec 32 := Scalar.muli arg19 c8_i32_1026
  let c4_i32 : BitVec 32 := 4#32
  let v2061 : BitVec 32 := Scalar.addi v2060 c4_i32
  let v2062 : BitVec 32 := Scalar.addi c0_i32_1027 v2061
  let v2063 : BitVec 32 := Scalar.subi c511_i32_1028 v2062
  let c8_i32_1029 : BitVec 32 := 8#32
  let v2064 : BitVec 32 := Scalar.muli v2063 c8_i32_1029
  v2064
def k0_mult61 (k0_t7 : Fin k0_t7_loop.trips) : BitVec 32 :=
  let c511_i32_1035 : BitVec 32 := 511#32
  let c256_i32_1034 : BitVec 32 := 256#32
  let c0_i32_822 : BitVec 32 := 0#32
  let c1_i32_824 : BitVec 32 := 1#32
  let arg19 : BitVec 32 := Scf.iv c0_i32_822 c1_i32_824 k0_t7
  let c8_i32_1026 : BitVec 32 := 8#32
  let v2060 : BitVec 32 := Scalar.muli arg19 c8_i32_1026
  let c4_i32 : BitVec 32 := 4#32
  let v2061 : BitVec 32 := Scalar.addi v2060 c4_i32
  let v2086 : BitVec 32 := Scalar.addi c256_i32_1034 v2061
  let v2087 : BitVec 32 := Scalar.subi c511_i32_1035 v2086
  let c8_i32_1036 : BitVec 32 := 8#32
  let v2088 : BitVec 32 := Scalar.muli v2087 c8_i32_1036
  v2088
def k0_mult62 (k0_t7 : Fin k0_t7_loop.trips) : BitVec 32 :=
  let c511_i32_1043 : BitVec 32 := 511#32
  let c0_i32_1042 : BitVec 32 := 0#32
  let c0_i32_822 : BitVec 32 := 0#32
  let c1_i32_824 : BitVec 32 := 1#32
  let arg19 : BitVec 32 := Scf.iv c0_i32_822 c1_i32_824 k0_t7
  let c8_i32_1041 : BitVec 32 := 8#32
  let v2110 : BitVec 32 := Scalar.muli arg19 c8_i32_1041
  let c5_i32 : BitVec 32 := 5#32
  let v2111 : BitVec 32 := Scalar.addi v2110 c5_i32
  let v2112 : BitVec 32 := Scalar.addi c0_i32_1042 v2111
  let v2113 : BitVec 32 := Scalar.subi c511_i32_1043 v2112
  let c8_i32_1044 : BitVec 32 := 8#32
  let v2114 : BitVec 32 := Scalar.muli v2113 c8_i32_1044
  v2114
def k0_mult63 (k0_t7 : Fin k0_t7_loop.trips) : BitVec 32 :=
  let c511_i32_1050 : BitVec 32 := 511#32
  let c256_i32_1049 : BitVec 32 := 256#32
  let c0_i32_822 : BitVec 32 := 0#32
  let c1_i32_824 : BitVec 32 := 1#32
  let arg19 : BitVec 32 := Scf.iv c0_i32_822 c1_i32_824 k0_t7
  let c8_i32_1041 : BitVec 32 := 8#32
  let v2110 : BitVec 32 := Scalar.muli arg19 c8_i32_1041
  let c5_i32 : BitVec 32 := 5#32
  let v2111 : BitVec 32 := Scalar.addi v2110 c5_i32
  let v2136 : BitVec 32 := Scalar.addi c256_i32_1049 v2111
  let v2137 : BitVec 32 := Scalar.subi c511_i32_1050 v2136
  let c8_i32_1051 : BitVec 32 := 8#32
  let v2138 : BitVec 32 := Scalar.muli v2137 c8_i32_1051
  v2138
def k0_mult64 (k0_t7 : Fin k0_t7_loop.trips) : BitVec 32 :=
  let c511_i32_1058 : BitVec 32 := 511#32
  let c0_i32_1057 : BitVec 32 := 0#32
  let c0_i32_822 : BitVec 32 := 0#32
  let c1_i32_824 : BitVec 32 := 1#32
  let arg19 : BitVec 32 := Scf.iv c0_i32_822 c1_i32_824 k0_t7
  let c8_i32_1056 : BitVec 32 := 8#32
  let v2160 : BitVec 32 := Scalar.muli arg19 c8_i32_1056
  let c6_i32 : BitVec 32 := 6#32
  let v2161 : BitVec 32 := Scalar.addi v2160 c6_i32
  let v2162 : BitVec 32 := Scalar.addi c0_i32_1057 v2161
  let v2163 : BitVec 32 := Scalar.subi c511_i32_1058 v2162
  let c8_i32_1059 : BitVec 32 := 8#32
  let v2164 : BitVec 32 := Scalar.muli v2163 c8_i32_1059
  v2164
def k0_mult65 (k0_t7 : Fin k0_t7_loop.trips) : BitVec 32 :=
  let c511_i32_1065 : BitVec 32 := 511#32
  let c256_i32_1064 : BitVec 32 := 256#32
  let c0_i32_822 : BitVec 32 := 0#32
  let c1_i32_824 : BitVec 32 := 1#32
  let arg19 : BitVec 32 := Scf.iv c0_i32_822 c1_i32_824 k0_t7
  let c8_i32_1056 : BitVec 32 := 8#32
  let v2160 : BitVec 32 := Scalar.muli arg19 c8_i32_1056
  let c6_i32 : BitVec 32 := 6#32
  let v2161 : BitVec 32 := Scalar.addi v2160 c6_i32
  let v2186 : BitVec 32 := Scalar.addi c256_i32_1064 v2161
  let v2187 : BitVec 32 := Scalar.subi c511_i32_1065 v2186
  let c8_i32_1066 : BitVec 32 := 8#32
  let v2188 : BitVec 32 := Scalar.muli v2187 c8_i32_1066
  v2188
def k0_mult66 (k0_t7 : Fin k0_t7_loop.trips) : BitVec 32 :=
  let c511_i32_1074 : BitVec 32 := 511#32
  let c0_i32_1073 : BitVec 32 := 0#32
  let c0_i32_822 : BitVec 32 := 0#32
  let c1_i32_824 : BitVec 32 := 1#32
  let arg19 : BitVec 32 := Scf.iv c0_i32_822 c1_i32_824 k0_t7
  let c8_i32_1071 : BitVec 32 := 8#32
  let v2210 : BitVec 32 := Scalar.muli arg19 c8_i32_1071
  let c7_i32_1072 : BitVec 32 := 7#32
  let v2211 : BitVec 32 := Scalar.addi v2210 c7_i32_1072
  let v2212 : BitVec 32 := Scalar.addi c0_i32_1073 v2211
  let v2213 : BitVec 32 := Scalar.subi c511_i32_1074 v2212
  let c8_i32_1075 : BitVec 32 := 8#32
  let v2214 : BitVec 32 := Scalar.muli v2213 c8_i32_1075
  v2214
def k0_mult67 (k0_t7 : Fin k0_t7_loop.trips) : BitVec 32 :=
  let c511_i32_1081 : BitVec 32 := 511#32
  let c256_i32_1080 : BitVec 32 := 256#32
  let c0_i32_822 : BitVec 32 := 0#32
  let c1_i32_824 : BitVec 32 := 1#32
  let arg19 : BitVec 32 := Scf.iv c0_i32_822 c1_i32_824 k0_t7
  let c8_i32_1071 : BitVec 32 := 8#32
  let v2210 : BitVec 32 := Scalar.muli arg19 c8_i32_1071
  let c7_i32_1072 : BitVec 32 := 7#32
  let v2211 : BitVec 32 := Scalar.addi v2210 c7_i32_1072
  let v2236 : BitVec 32 := Scalar.addi c256_i32_1080 v2211
  let v2237 : BitVec 32 := Scalar.subi c511_i32_1081 v2236
  let c8_i32_1082 : BitVec 32 := 8#32
  let v2238 : BitVec 32 := Scalar.muli v2237 c8_i32_1082
  v2238
@[reducible] def k0_t8_loop : Scf.Loop 32 :=
  let c0_i32_962 : BitVec 32 := 0#32
  let c2_i32_963 : BitVec 32 := 2#32
  let v1859 : BitVec 32 := Scalar.addi c0_i32_962 c2_i32_963
  let c1_i32_964 : BitVec 32 := 1#32
  ⟨c0_i32_962, v1859, c1_i32_964⟩
def k0_mult68 (k0_t8 : Fin k0_t8_loop.trips) : BitVec 32 :=
  let c0_i32_962 : BitVec 32 := 0#32
  let c1_i32_964 : BitVec 32 := 1#32
  let arg19 : BitVec 32 := Scf.iv c0_i32_962 c1_i32_964 k0_t8
  let c2048_i32 : BitVec 32 := 2048#32
  let v1860 : BitVec 32 := Scalar.muli arg19 c2048_i32
  v1860
def k0_off11 (k0_t8 : Fin k0_t8_loop.trips) : Fin 2 → Nat :=
  let c0_i32_962 : BitVec 32 := 0#32
  let c1_i32_964 : BitVec 32 := 1#32
  let arg19 : BitVec 32 := Scf.iv c0_i32_962 c1_i32_964 k0_t8
  let c2048_i32 : BitVec 32 := 2048#32
  let v1860 : BitVec 32 := Scalar.muli arg19 c2048_i32
  let v1861 : BitVec 32 := v1860
  let v1862 : Index := Scalar.indexCast v1861
  let c0_966 : Index := 0#32
  ![v1862.toNat, 0]
def k0_off12 (k0_t8 : Fin k0_t8_loop.trips) : Fin 2 → Nat :=
  let c0_i32_962 : BitVec 32 := 0#32
  let c1_i32_964 : BitVec 32 := 1#32
  let arg19 : BitVec 32 := Scf.iv c0_i32_962 c1_i32_964 k0_t8
  let c2048_i32 : BitVec 32 := 2048#32
  let v1860 : BitVec 32 := Scalar.muli arg19 c2048_i32
  let v1861 : BitVec 32 := v1860
  let v1865 : Index := Scalar.indexCast v1861
  let c0_967 : Index := 0#32
  ![v1865.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x8x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x8x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x8x16x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x8x16x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x4x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamOut.lean ====
abbrev S256x2048 : Shape := ⟨2, ![256, 2048]⟩
abbrev S8x256x2048 : Shape := ⟨3, ![8, 256, 2048]⟩
abbrev S128x2048 : Shape := ⟨2, ![128, 2048]⟩
abbrev S8x128x2048 : Shape := ⟨3, ![8, 128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S256x2048, .f32⟩
  | .hbm, ⟨1, _⟩ => ⟨S8x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S8x128x2048, .bf16⟩
  | .local _ .vmem, ⟨3, _⟩ => ⟨S8x128x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S256x2048 : Shape := ⟨2, ![256, 2048]⟩
abbrev S8x256x2048 : Shape := ⟨3, ![8, 256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S8x256x2048, .bf16⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamC.lean ====
abbrev S2x64x16x64 : Shape := ⟨4, ![2, 64, 16, 64]⟩
abbrev S2048x64 : Shape := ⟨2, ![2048, 64]⟩

abbrev nBuf : Space → Nat
  | .hbm => 11
  | .vmem => 7
  | .smem => 0
  | _ => 0

abbrev bufTy : (tb : Table) → Fin (tcTables nBuf tb) → BufTy
  | .hbm, ⟨0, _⟩ => ⟨S2x64x16x64, .f32⟩
  | .hbm, ⟨1, _⟩ => ⟨S2x64x16x64, .f32⟩
  | .hbm, ⟨2, _⟩ => ⟨S2x64x16x64, .f32⟩
  | .hbm, ⟨3, _⟩ => ⟨S2x64x16x64, .f32⟩
  | .hbm, ⟨4, _⟩ => ⟨S2048x64, .f32⟩
  | .hbm, ⟨5, _⟩ => ⟨S2048x64, .f32⟩
  | .hbm, ⟨6, _⟩ => ⟨S2048x64, .f32⟩
  | .hbm, ⟨7, _⟩ => ⟨S2048x64, .f32⟩
  | .hbm, ⟨8, _⟩ => ⟨S2048x64, .f32⟩
  | .hbm, ⟨9, _⟩ => ⟨S2048x64, .f32⟩
  | .hbm, ⟨10, _⟩ => ⟨S2048x64, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | _, _ => ⟨S2x64x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamCRefIdeal.lean ====
abbrev S2x64x16x64 : Shape := ⟨4, ![2, 64, 16, 64]⟩
abbrev S_ : Shape := ⟨0, ![]⟩
abbrev S2048x64 : Shape := ⟨2, ![2048, 64]⟩

abbrev nBuf : Space → Nat
  | .hbm => 40
  | .vmem => 0
  | .smem => 0
  | _ => 0

abbrev bufTy : (tb : Table) → Fin (tcTables nBuf tb) → BufTy
  | .hbm, ⟨0, _⟩ => ⟨S2x64x16x64, .f32⟩
  | .hbm, ⟨1, _⟩ => ⟨S2x64x16x64, .f32⟩
  | .hbm, ⟨2, _⟩ => ⟨S2x64x16x64, .f32⟩
  | .hbm, ⟨3, _⟩ => ⟨S2x64x16x64, .f32⟩
  | .hbm, ⟨4, _⟩ => ⟨S_, .f32⟩
  | .hbm, ⟨5, _⟩ => ⟨S2x64x16x64, .f32⟩
  | .hbm, ⟨6, _⟩ => ⟨S2x64x16x64, .f32⟩
  | .hbm, ⟨7, _⟩ => ⟨S_, .f32⟩
  | .hbm, ⟨8, _⟩ => ⟨S2x64x16x64, .f32⟩
  | .hbm, ⟨9, _⟩ => ⟨S2x64x16x64, .f32⟩
  | .hbm, ⟨10, _⟩ => ⟨S2x64x16x64, .f32⟩
  | .hbm, ⟨11, _⟩ => ⟨S_, .f32⟩
  | .hbm, ⟨12, _⟩ => ⟨S2x64x16x64, .f32⟩
  | .hbm, ⟨13, _⟩ => ⟨S2x64x16x64, .f32⟩
  | .hbm, ⟨14, _⟩ => ⟨S2x64x16x64, .f32⟩
  | .hbm, ⟨15, _⟩ => ⟨S_, .f32⟩
  | .hbm, ⟨16, _⟩ => ⟨S2x64x16x64, .f32⟩
  | .hbm, ⟨17, _⟩ => ⟨S2x64x16x64, .f32⟩
  | .hbm, ⟨18, _⟩ => ⟨S2x64x16x64, .f32⟩
  | .hbm, ⟨19, _⟩ => ⟨S_, .f32⟩
  | .hbm, ⟨20, _⟩ => ⟨S2x64x16x64, .f32⟩
  | .hbm, ⟨21, _⟩ => ⟨S2x64x16x64, .f32⟩
  | .hbm, ⟨22, _⟩ => ⟨S_, .f32⟩
  | .hbm, ⟨23, _⟩ => ⟨S2x64x16x64, .f32⟩
  | .hbm, ⟨24, _⟩ => ⟨S2x64x16x64, .f32⟩
  | .hbm, ⟨25, _⟩ => ⟨S2x64x16x64, .f32⟩
  | .hbm, ⟨26, _⟩ => ⟨S_, .f32⟩
  | .hbm, ⟨27, _⟩ => ⟨S2x64x16x64, .f32⟩
  | .hbm, ⟨28, _⟩ => ⟨S2x64x16x64, .f32⟩
  | .hbm, ⟨29, _⟩ => ⟨S2x64x16x64, .f32⟩
  | .hbm, ⟨30, _⟩ => ⟨S_, .f32⟩
  | .hbm, ⟨31, _⟩ => ⟨S2x64x16x64, .f32⟩
  | .hbm, ⟨32, _⟩ => ⟨S2x64x16x64, .f32⟩
  | .hbm, ⟨33, _⟩ => ⟨S2x64x16x64, .f32⟩
  | .hbm, ⟨34, _⟩ => ⟨S_, .f32⟩
  | .hbm, ⟨35, _⟩ => ⟨S2x64x16x64, .f32⟩
  | .hbm, ⟨36, _⟩ => ⟨S2x64x16x64, .f32⟩
  | .hbm, ⟨37, _⟩ => ⟨S2048x64, .f32⟩
  | .hbm, ⟨38, _⟩ => ⟨S2048x64, .f32⟩
  | .hbm, ⟨39, _⟩ => ⟨S2048x64, .f32⟩
  | _, _ => ⟨S2x64x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== SumBlocks.lean ====
abbrev S8x144x512 : Shape := ⟨3, ![8, 144, 512]⟩
abbrev S144x512 : Shape := ⟨2, ![144, 512]⟩
abbrev S1x144x512 : Shape := ⟨3, ![1, 144, 512]⟩

abbrev nBuf : Space → Nat
  | .hbm => 2
  | .vmem => 2
  | .smem => 0
  | _ => 0

abbrev bufTy : (tb : Table) → Fin (tcTables nBuf tb) → BufTy
  | .hbm, ⟨0, _⟩ => ⟨S8x144x512, .f32⟩
  | .hbm, ⟨1, _⟩ => ⟨S144x512, .f32⟩
  | .local _ .vmem, ⟨0, _⟩ => ⟨S8x144x512, .f32⟩
  | .local _ .vmem, ⟨1, _⟩ => ⟨S144x512, .f32⟩
  | _, _ => ⟨S8x144x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x144x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S144x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumRefIdeal.lean ====
abbrev S8x144x512 : Shape := ⟨3, ![8, 144, 512]⟩
abbrev S_ : Shape := ⟨0, ![]⟩
abbrev S144x512 : Shape := ⟨2, ![144, 512]⟩

abbrev nBuf : Space → Nat
  | .hbm => 3
  | .vmem => 0
  | .smem => 0
  | _ => 0

abbrev bufTy : (tb : Table) → Fin (tcTables nBuf tb) → BufTy
  | .hbm, ⟨0, _⟩ => ⟨S8x144x512, .f32⟩
  | .hbm, ⟨1, _⟩ => ⟨S_, .f32⟩
  | .hbm, ⟨2, _⟩ => ⟨S144x512, .f32⟩
  | _, _ => ⟨S8x144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DOutProj.lean ====
abbrev S4096x2048 : Shape := ⟨2, ![4096, 2048]⟩
abbrev S2048x2048 : Shape := ⟨2, ![2048, 2048]⟩
abbrev S2048x1024 : Shape := ⟨2, ![2048, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DOutRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== PairSum.lean ====
abbrev S1 : Shape := ⟨1, ![1]⟩
abbrev S8x576x2048 : Shape := ⟨3, ![8, 576, 2048]⟩
abbrev S4x576x2048 : Shape := ⟨3, ![4, 576, 2048]⟩
abbrev S1x576x2048 : Shape := ⟨3, ![1, 576, 2048]⟩

abbrev nBuf : Space → Nat
  | .hbm => 3
  | .vmem => 6
  | .smem => 1
  | _ => 0

abbrev bufTy : (tb : Table) → Fin (tcTables nBuf tb) → BufTy
  | .hbm, ⟨0, _⟩ => ⟨S8x576x2048, .bf16⟩
  | .hbm, ⟨1, _⟩ => ⟨S4x576x2048, .bf16⟩
  | .hbm, ⟨2, _⟩ => ⟨S4x576x2048, .bf16⟩
  | .local _ .vmem, ⟨0, _⟩ => ⟨S1x576x2048, .bf16⟩
  | .local _ .vmem, ⟨1, _⟩ => ⟨S1x576x2048, .bf16⟩
  | .local _ .vmem, ⟨2, _⟩ => ⟨S1x576x2048, .bf16⟩
  | .local _ .vmem, ⟨3, _⟩ => ⟨S1x576x2048, .bf16⟩
  | .local _ .vmem, ⟨4, _⟩ => ⟨S1x576x2048, .bf16⟩
  | .local _ .vmem, ⟨5, _⟩ => ⟨S1x576x2048, .bf16⟩
  | .local _ .smem, ⟨0, _⟩ => ⟨S1, .i32⟩
  | _, _ => ⟨S8x576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x576x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x576x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x576x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairRefIdeal.lean ====
abbrev S1 : Shape := ⟨1, ![1]⟩
abbrev S8x576x2048 : Shape := ⟨3, ![8, 576, 2048]⟩
abbrev S4x576x2048 : Shape := ⟨3, ![4, 576, 2048]⟩
abbrev S4x2x576x2048 : Shape := ⟨4, ![4, 2, 576, 2048]⟩
abbrev S_ : Shape := ⟨0, ![]⟩
abbrev S4x1x576x2048 : Shape := ⟨4, ![4, 1, 576, 2048]⟩

abbrev nBuf : Space → Nat
  | .hbm => 17
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x576x2048, .bf16⟩
  | .hbm, ⟨2, _⟩ => ⟨S4x576x2048, .bf16⟩
  | .hbm, ⟨3, _⟩ => ⟨S8x576x2048, .f32⟩
  | .hbm, ⟨4, _⟩ => ⟨S4x2x576x2048, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S4x576x2048, .i1⟩
  | .hbm, ⟨9, _⟩ => ⟨S4x1x576x2048, .f32⟩
  | .hbm, ⟨10, _⟩ => ⟨S4x576x2048, .f32⟩
  | .hbm, ⟨11, _⟩ => ⟨S4x1x576x2048, .f32⟩
  | .hbm, ⟨12, _⟩ => ⟨S4x576x2048, .f32⟩
  | .hbm, ⟨13, _⟩ => ⟨S4x576x2048, .f32⟩
  | .hbm, ⟨14, _⟩ => ⟨S4x576x2048, .f32⟩
  | .hbm, ⟨15, _⟩ => ⟨S4x576x2048, .f32⟩
  | .hbm, ⟨16, _⟩ => ⟨S4x576x2048, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Proof.In.Common.lean ====
/-
  Facts used by several calls: finite arguments as real numbers, sums of them, the values of literals, and a sum over
  two axes of extent one.
-/
module

public import Idealize.ShloMosaic.Lib.Pipeline.ValueKit
public import Idealize.ShloMosaic.Lib.Pointwise
public import Idealize.ShloMosaic.Lib.ReduceAll
public import Idealize.ShloMosaic.Lib.Affine

@[expose] public section

set_option maxRecDepth 16384

noncomputable section

namespace Cert.Common

open Idealize.ShloMosaic Idealize.ShloMosaic.TcCoe

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- An extended real whose absolute value compares below infinity is real. -/
theorem real_of_abs_lt {x : EReal} (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x using EReal.rec with
  | coe r => exact ⟨r, rfl⟩
  | bot => simp [Ideal.cmp] at h
  | top => simp [Ideal.cmp] at h

/-- A tensor whose elements all compare finite is a tensor of real numbers. -/
theorem reals_of_all {s t u : Shape} [Subsingleton t.Idx] {axes : List (Fin s.rank)} (x : s.Idx → EReal) (z : s.Idx → EReal)
    (hz : ∀ i, z i = Ideal.ofBits .f32 0x7F800000#32) (init : u.Idx → BitVec 1) (h : s.ReducesTo axes t) (hu : 0 < u.numel) (j : t.Idx)
    (e : Host.reduce IntOp.andi (cmpf (F := Ideal) (φ := .f32) .olt (Host.absf (F := Ideal) (φ := .f32) x) z) init h hu j = 1#1) :
    ∃ r : s.Idx → ℝ, ∀ i, x i = r i := by
  have hr : ∀ i, ∃ r : ℝ, x i = r := fun i => by
    have := Host.reduce_andi_all _ init h hu j e i
    refine real_of_abs_lt ?_
    rw [← hz i]
    exact this
  exact ⟨fun i => (hr i).choose, fun i => (hr i).choose_spec⟩

/-- A host sum over the unit axes of a rank 3 array keeps the element: one index drops to `j`, the index `e`. -/
theorem hostReduceAdd_one {s t : Shape} {axes : List (Fin s.rank)} (h : s.ReducesTo axes t) (v : s.Idx → EReal)
    (z : EReal) (j : t.Idx) (e : s.Idx) (key : ∀ i, h.drop i = j ↔ i = e) :
    Ideal.hostReduceAdd h v z j = z + v e := by
  unfold Ideal.hostReduceAdd
  simp only [key]
  rw [Finset.filter_eq' Finset.univ, if_pos (Finset.mem_univ _), Finset.sum_singleton]

theorem hostReduceAdd_middle {n : ℕ} {t : Shape} (h : (⟨3, ![1, n, 1]⟩ : Shape).ReducesTo [0, 2] t) (v : (⟨3, ![1, n, 1]⟩ : Shape).Idx → EReal)
    (z : EReal) (j : t.Idx) (k : Fin n) (hk : ∀ a : Fin t.rank, (j a).val = k.val) :
    Ideal.hostReduceAdd h v z j = z + v (ix3 0 k 0) := by
  have hr : t.rank = 1 := h.1
  refine hostReduceAdd_one h v z j _ fun i => ⟨fun e => ?_, ?_⟩
  · funext a; apply Fin.ext
    match a with
    | ⟨0, _⟩ => exact Nat.lt_one_iff.mp (i 0).isLt
    | ⟨1, _⟩ => exact (congrArg Fin.val (congrFun e ⟨0, by omega⟩)).trans (hk _)
    | ⟨2, _⟩ => exact Nat.lt_one_iff.mp (i 2).isLt
  · rintro rfl
    funext b
    apply Fin.ext
    match b with
    | ⟨0, _⟩ => exact (hk _).symm
    | ⟨_ + 1, hb⟩ => exact absurd hb (by omega)

theorem hostReduceAdd_last {n : ℕ} {t : Shape} (h : (⟨3, ![1, 1, n]⟩ : Shape).ReducesTo [0, 1] t) (v : (⟨3, ![1, 1, n]⟩ : Shape).Idx → EReal)
    (z : EReal) (j : t.Idx) (k : Fin n) (hk : ∀ a : Fin t.rank, (j a).val = k.val) :
    Ideal.hostReduceAdd h v z j = z + v (ix3 0 0 k) := by
  have hr : t.rank = 1 := h.1
  refine hostReduceAdd_one h v z j _ fun i => ⟨fun e => ?_, ?_⟩
  · funext a; apply Fin.ext
    match a with
    | ⟨0, _⟩ => exact Nat.lt_one_iff.mp (i 0).isLt
    | ⟨1, _⟩ => exact Nat.lt_one_iff.mp (i 1).isLt
    | ⟨2, _⟩ => exact (congrArg Fin.val (congrFun e ⟨0, by omega⟩)).trans (hk _)
  · rintro rfl
    funext b
    apply Fin.ext
    match b with
    | ⟨0, _⟩ => exact (hk _).symm
    | ⟨_ + 1, hb⟩ => exact absurd hb (by omega)

/-! ### Literals -/

theorem lit_2048 : Ideal.ofBits .f32 0x45000000#32 = ((2048 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

/-- The word of the norms' small constant is a positive real number. -/
theorem lit_eps : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

end Cert.Common
-- ==== Proof.In.Algebra.lean ====
/-
  The derivative of a row's root mean square norm, in the closed form of the kernel and as reverse mode differentiation
  writes it: equal at finite rows.
-/
module

public import proofs.«01_k».proof.Proof.In.Common

@[expose] public section

set_option maxRecDepth 16384

noncomputable section

namespace Cert.Norm

open Idealize.ShloMosaic

/-- The mean square of a row and the norm's small constant. -/
def meanSq (x : Fin 2048 → EReal) : EReal :=
  Ideal.div (∑ k, x k * x k) (Ideal.ofBits .f32 0x45000000#32) + Ideal.ofBits .f32 0x358637BD#32

/-- The reciprocal root mean square of a row. -/
def rinv (x : Fin 2048 → EReal) : EReal := Ideal.rsqrt (meanSq x)

/-- One element of the gradient of the residual stream in closed form: the row `x`, the cotangent `d` of the norm, the
    gain `g`, the cotangent `e` of the residual branch. -/
def dx (x d g : Fin 2048 → EReal) (e : EReal) (k : Fin 2048) : EReal :=
  e + rinv x * (d k * g k - x k * rinv x * Ideal.div (∑ j, d j * g j * (x j * rinv x)) (Ideal.ofBits .f32 0x45000000#32))

/-- The mean square's cotangent over the number of columns, as reverse mode writes it. -/
def dMeanSq (x d g : Fin 2048 → EReal) : EReal :=
  Ideal.div ((∑ j, x j * (d j * g j)) * (Ideal.ofBits .f32 0xBF000000#32 * Ideal.div (rinv x) (meanSq x)))
    (Ideal.ofBits .f32 0x45000000#32)

/-- The same element as reverse mode writes it: the square's two factors apart. -/
def dxRev (x d g : Fin 2048 → EReal) (e : EReal) (k : Fin 2048) : EReal :=
  e + d k * g k * rinv x + x k * dMeanSq x d g + dMeanSq x d g * x k

/-- At a real row the mean square is a positive real number and `rinv` its inverse square root. -/
theorem meanSq_coe (x : Fin 2048 → ℝ) : ∃ u r : ℝ, 0 < u ∧ 0 < r ∧ r * r = u⁻¹
    ∧ meanSq (fun k => (x k : EReal)) = u ∧ rinv (fun k => (x k : EReal)) = r := by
  obtain ⟨e, he, hl⟩ := Common.lit_eps
  have hs : 0 ≤ ∑ k, x k * x k := Finset.sum_nonneg fun k _ => mul_self_nonneg (x k)
  have hu : 0 < (∑ k, x k * x k) * (1 / 2048) + e := by positivity
  have hm : meanSq (fun k => (x k : EReal)) = (((∑ k, x k * x k) * (1 / 2048) + e : ℝ) : EReal) := by
    unfold meanSq
    simp only [← EReal.coe_mul]
    rw [Common.coe_sum, Common.lit_2048, Ideal.div_coe (by norm_num), hl, ← EReal.coe_mul, ← EReal.coe_add]
  refine ⟨_, (√((∑ k, x k * x k) * (1 / 2048) + e))⁻¹, hu, by positivity, ?_, hm, ?_⟩
  · rw [← mul_inv, Real.mul_self_sqrt hu.le]
  · unfold rinv
    rw [hm, Ideal.rsqrt_coe, if_neg hu.not_gt, if_neg hu.ne']

theorem dxRev_eq_dx (x d g : Fin 2048 → ℝ) (e : EReal) (k : Fin 2048) :
    dxRev (fun k => (x k : EReal)) (fun k => (d k : EReal)) (fun k => (g k : EReal)) e k
      = dx (fun k => (x k : EReal)) (fun k => (d k : EReal)) (fun k => (g k : EReal)) e k := by
  obtain ⟨u, r, hu, hr, hru, hm, hrx⟩ := meanSq_coe x
  unfold dxRev dx dMeanSq
  rw [hm, hrx, Common.lit_2048, Common.lit_neg_half, Ideal.div_coe hu.ne', Ideal.div_coe (by norm_num), Ideal.div_coe (by norm_num)]
  simp only [← EReal.coe_mul, Common.coe_sum, ← EReal.coe_sub, add_assoc, ← EReal.coe_add]
  congr 2
  have hs : ∑ j, d j * g j * (x j * r) = (∑ j, x j * (d j * g j)) * r := by
    rw [Finset.sum_mul]
    exact Finset.sum_congr rfl fun j _ => by ring
  rw [hs, one_div, one_div, ← hru]
  ring

end Cert.Norm
-- ==== Proof.In.Kernel.lean ====
/-
  What the backward of the first norm leaves in its two result arrays, element by element.
-/
module

public import proofs.«01_k».proof.Proof.Gen.InBwdIdeal.Value
public import proofs.«01_k».proof.Proof.In.Algebra

@[expose] public section

set_option maxRecDepth 16384

noncomputable section

namespace Cert.InKernel

open Cert.InBwdIdeal Cert.InBwdIdeal.Gen Idealize.ShloMosaic Idealize.ShloMosaic.TcCoe Idealize.SL.Sem
open Idealize.ShloMosaic.Pipeline (Dat)
open Cert.Norm

variable (m : (ℓ : Loc nD τ sig) → Buf (Elt Ideal) ℓ) (c : Dev nD)

abbrev X (r : Fin 4096) (k : Fin 2048) : EReal := m ((c : Thread nD τ).loc main_arg0) (ix3 0 r k)
abbrev G (k : Fin 2048) : EReal := m ((c : Thread nD τ).loc main_arg1) (ix2 0 k)
abbrev D (r : Fin 4096) (k : Fin 2048) : EReal := m ((c : Thread nD τ).loc main_arg2) (ix2 r k)
abbrev E (r : Fin 4096) (k : Fin 2048) : EReal := m ((c : Thread nD τ).loc main_arg3) (ix2 r k)

theorem idx : ∀ t : Fin grid0.N, win0_0.index t = ![t.val, 0] ∧ win0_1.index t = ![t.val, 0] ∧ win0_2.index t = ![t.val, 0]
    ∧ win0_3.index t = ![0, 0] ∧ win0_4.index t = ![t.val, 0] := by decide +kernel

/-- Row `a` of the `t`-th block of 256 rows. -/
def row (t : Fin cfg0.N) (a : Fin 256) : Fin 4096 :=
  ⟨t.val * 256 + a.val, by have := t.isLt; have : cfg0.N = 16 := N_0; omega⟩

theorem read0 (t : Fin cfg0.N) (a : Fin 256) (k : Fin 2048) : iblk m c 0 t (ix2 a k) = X m c (row t a) k := by
  unfold X row; blk_ext! [iblk, V, idx t]

theorem read1 (t : Fin cfg0.N) (a : Fin 256) (k : Fin 2048) : iblk m c 1 t (ix2 a k) = D m c (row t a) k := by
  unfold D row; blk_ext! [iblk, V, idx t]

theorem read2 (t : Fin cfg0.N) (a : Fin 256) (k : Fin 2048) : iblk m c 2 t (ix2 a k) = E m c (row t a) k := by
  unfold E row; blk_ext! [iblk, V, idx t]

theorem read3 (t : Fin cfg0.N) (a : Fin 1) (k : Fin 2048) : iblk m c 3 t (ix2 a k) = G m c k := by
  unfold G; blk_ext! [iblk, V, idx t]

theorem emb4 (t : Fin cfg0.N) (a : Fin 256) (k : Fin 2048) : ((cfg0.win 4).blk t).view.emb (ix2 a k) = ix2 (row t a) k := by
  unfold row; blk_ext! [idx t]

theorem final4 : (dats m 0 c).arrAt 4 cfg0.N
    = fun i => dx (X m c (i 0)) (D m c (i 0)) (G m c) (E m c (i 0) (i 1)) (i 1) := by
  refine (dats m 0 c).arrAt_eq_of_covers 4 _ (by decide +kernel) fun t hf y => ?_
  idx_vars y
  rw [emb4]
  blk_simp
  rw [after0_4]
  by_cases h0 : t.val % 16 = 0
  all_goals
    first | rw [outsAt0_A m c t h0] | rw [outsAt0_B m c t h0]
    frame_out
    unfold_payloads
    pointwise
    simp only [read0, read1, read2, read3]
    rfl

theorem final5 : (dats m 0 c).arrAt 5 cfg0.N
    = fun i => ∑ r : Fin 4096, D m c r (i 1) * (X m c r (i 1) * rinv (X m c r)) := by
  refine (dats m 0 c).arrAt_eq_of_after_last 5 t0_15 (by decide +kernel) _ fun j => ?_
  idx_vars j
  rw [after0_5]
  refine (Pipeline.eq_sum_fin_of_reset_step_apply_last (fun n h => (outsAt0 m c n h).2) 16 (fun _ => (0 : EReal))
     (fun t i => ∑ a : Fin 256, D m c (row t a) (i 1) * (X m c (row t a) (i 1) * rinv (X m c (row t a))))
      (fun t h j => ?_) (fun t h j => ?_) (by decide) t0_15 rfl _).trans ?_
  · rw [outsAt0_A m c t h]; frame_out; unfold_payloads; idx_vars j; pointwise; simp only [read0, read1]; rfl
  · rw [outsAt0_B m c t h]; frame_out; unfold_payloads; idx_vars j; pointwise; simp only [read0, read1]; rfl
  · rw [zero_add]
    exact Fin.sum_mul_add_congr (S := 16) (n := 256) (fun s k hl => rfl) rfl

end Cert.InKernel
-- ==== Proof.In.Ref.lean ====
/-
  The derivative of the first norm and its residual branch, element by element, after the reference's run.
-/
module

public import proofs.«01_k».proof.Proof.Gen.InRefIdeal.Run
public import proofs.«01_k».proof.Proof.In.Algebra
public import Idealize.ShloMosaic.Lib.Tactic.CleanTypes

@[expose] public section

set_option maxRecDepth 16384

noncomputable section

namespace Cert.InRef

open Cert.InRefIdeal Idealize.ShloMosaic Idealize.ShloMosaic.TcCoe Idealize.SL.Sem
open Cert.Norm

variable (m : (ℓ : Loc nD τ sig) → Buf (Elt Ideal) ℓ) (ρ : Dev nD → PrngReg) (c : Dev nD)

abbrev X (r : Fin 4096) (k : Fin 2048) : EReal := m ((c.tc : Thread nD τ).loc main_arg0) (ix3 0 r k)
abbrev G (k : Fin 2048) : EReal := m ((c.tc : Thread nD τ).loc main_arg1) (ix2 0 k)
abbrev D (r : Fin 4096) (k : Fin 2048) : EReal := m ((c.tc : Thread nD τ).loc main_arg2) (ix2 r k)
abbrev E (r : Fin 4096) (k : Fin 2048) : EReal := m ((c.tc : Thread nD τ).loc main_arg3) (ix2 r k)

theorem dx_apply (a : Fin 4096) (k : Fin 2048) :
    Cert.InRefIdeal.Value.res_out0 m c (ix2 a k) = dxRev (X m c a) (D m c a) (G m c) (E m c a k) k := by
  unfold Cert.InRefIdeal.Value.res_out0 Cert.InRefIdeal.Value.res_main_v43
  clean_types
  pointwise
  simp only [Common.hostReduceAdd_middle Gen.reducesTo_S1x4096x1_S4096_d0_2 _ _ (ix1 a) a (fun b => by match b with | ⟨0, _⟩ => rfl)]
  pointwise
  rfl

theorem run : θ_run defs (onTc (τ := τ) (main (F := Ideal))) ⟨m, fun _ => 0, ρ⟩ fun r => ∀ c : Dev nD,
      r.2.mem ((c.tc : Thread nD τ).loc main_v43) = (fun i => dxRev (X m c (i 0)) (D m c (i 0)) (G m c) (E m c (i 0) (i 1)) (i 1))
      ∧ r.2.mem ((c.tc : Thread nD τ).loc main_v42) = (fun i => ∑ a : Fin 4096, X m c a (i 1) * rinv (X m c a) * D m c a (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2⟩) (Cert.InRefIdeal.Value.run m ρ)
  · funext i
    obtain ⟨a, k, rfl⟩ : ∃ (a : Fin 4096) (k : Fin 2048), i = ix2 a k := ⟨i 0, i 1, eq_ix2 i⟩
    exact dx_apply m c a k
  · funext i
    obtain ⟨a, k, rfl⟩ : ∃ (a : Fin 1) (k : Fin 2048), i = ix2 a k := ⟨i 0, i 1, eq_ix2 i⟩
    clean_types
    pointwise
    rw [Common.hostReduceAdd_last Gen.reducesTo_S1x1x2048_S2048_d0_1 _ _ (ix1 k) k (fun b => by match b with | ⟨0, _⟩ => rfl)]
    pointwise
    rfl

end Cert.InRef
-- ==== Proof.In.Value.lean ====
/-
  The backward of the first norm: the kernel's two results are the derivative's, at finite arguments.
-/
module

public import proofs.«01_k».proof.Defs
public import proofs.«01_k».proof.Proof.Gen.Pre_in_bwd_finite
public import proofs.«01_k».proof.Proof.Gen.InBwdIdeal.Value
public import proofs.«01_k».proof.Proof.In.Kernel
public import proofs.«01_k».proof.Proof.In.Ref

@[expose] public section

set_option maxRecDepth 16384

noncomputable section

namespace Cert.In

open Idealize.ShloMosaic Idealize.ShloMosaic.TcCoe Idealize.SL.Sem

instance : Subsingleton (Cert.Pre_in_bwd_finite.S_).Idx := ⟨fun a b => funext fun i => i.elim0⟩

theorem frame_ref : Cert.quiescent_InRefIdeal := fun m ρ _ =>
  (θ_run _ _ _).mono (fun r h => ⟨fun c => (h c).2.2, sem_eq_zero_of_no_sems (by decide) r.2⟩) (InRef.run m ρ)

/-- The precondition makes the row arguments and the gain real numbers. -/
theorem reals (m : (ℓ : Loc Cert.InBwdIdeal.nD Cert.InBwdIdeal.τ Cert.InBwdIdeal.sig) → Buf (Elt Ideal) ℓ)
    (h : Pre_InBwdIdeal_in_bwd_finite m) (c : Dev Cert.InBwdIdeal.nD) :
    (∃ x : Fin 4096 → Fin 2048 → ℝ, ∀ r k, InKernel.X m c r k = x r k) ∧ (∃ g : Fin 2048 → ℝ, ∀ k, InKernel.G m c k = g k)
      ∧ ∃ d : Fin 4096 → Fin 2048 → ℝ, ∀ r k, InKernel.D m c r k = d r k := by
  have hc := congrFun (h c) fun i => i.elim0
  obtain ⟨h01, h2⟩ := IntOp.andi_eq_one.mp hc
  obtain ⟨h0, h1⟩ := IntOp.andi_eq_one.mp h01
  obtain ⟨x, hx⟩ := Common.reals_of_all _ _ (fun _ => rfl) _ _ _ _ h0
  obtain ⟨g, hg⟩ := Common.reals_of_all _ _ (fun _ => rfl) _ _ _ _ h1
  obtain ⟨d, hd⟩ := Common.reals_of_all _ _ (fun _ => rfl) _ _ _ _ h2
  exact ⟨⟨fun r k => x (ix3 0 r k), fun r k => hx _⟩, ⟨fun k => g (ix2 0 k), fun k => hg _⟩, ⟨fun r k => d (ix2 r k), fun r k => hd _⟩⟩

theorem algebraic : Cert.algebraic_InBwdIdeal_InRefIdeal_pre_in_bwd_finite := fun m ρ m' ρ' hpre hag => by
  refine ⟨fun c => (Cert.InBwdIdeal.Gen.dats m 0 c).arrAt 4 Cert.InBwdIdeal.cfg0.N,
    fun c => (Cert.InBwdIdeal.Gen.dats m 0 c).arrAt 5 Cert.InBwdIdeal.cfg0.N, Cert.InBwdIdeal.Value.run_blocks m ρ,
    (θ_run _ _ _).mono (fun r h c => ⟨(h c).1.trans ?_, (h c).2.1.trans ?_, (h c).2.2⟩) (InRef.run m' ρ')⟩
  all_goals
    obtain ⟨⟨x, hx⟩, ⟨g, hg⟩, ⟨d, hd⟩⟩ := reals m hpre c
    have hX : InRef.X m' c = InKernel.X m c := by unfold InRef.X; rw [(hag c).1]
    have hG : InRef.G m' c = InKernel.G m c := by unfold InRef.G; rw [(hag c).2.1]
    have hD : InRef.D m' c = InKernel.D m c := by unfold InRef.D; rw [(hag c).2.2.1]
    have hE : InRef.E m' c = InKernel.E m c := by unfold InRef.E; rw [(hag c).2.2.2]
    have h1 : InKernel.X m c = fun r k => (x r k : EReal) := funext₂ hx
    have h2 : InKernel.D m c = fun r k => (d r k : EReal) := funext₂ hd
    have h3 : InKernel.G m c = fun k => (g k : EReal) := funext hg
  · refine Eq.trans (funext fun i => ?_) (InKernel.final4 m c).symm
    rw [hX, hD, hG, hE, h1, h2, h3]
    exact Norm.dxRev_eq_dx _ _ _ _ _
  · refine Eq.trans (funext fun i => ?_) (InKernel.final5 m c).symm
    rw [hX, hD]
    exact Finset.sum_congr rfl fun a _ => mul_comm _ _

end Cert.In
-- ==== Proof.Attn.Soft.lean ====
/-
  Softmax over the real numbers, and attention with its gradients as sums of real numbers. The programs shift a row's
  scores by their maximum; the shift cancels, whichever real number it is.
-/
module

public import proofs.«01_k».proof.Proof.In.Common
public import Mathlib.Analysis.SpecialFunctions.Log.Basic

@[expose] public section

set_option maxRecDepth 16384

noncomputable section

namespace Cert.Soft

open Idealize.ShloMosaic

/-! ### A row of scores -/

variable {n : ℕ}

def Z (s : Fin n → ℝ) : ℝ := ∑ j, Real.exp (s j)

/-- The softmax of a row. -/
def P (s : Fin n → ℝ) (j : Fin n) : ℝ := Real.exp (s j) / Z s

theorem Z_pos [NeZero n] (s : Fin n → ℝ) : 0 < Z s :=
  Finset.sum_pos (fun j _ => Real.exp_pos _) ⟨0, Finset.mem_univ _⟩

theorem sum_shift (s : Fin n → ℝ) (M : ℝ) : ∑ j, Real.exp (s j - M) = Z s * Real.exp (-M) := by
  unfold Z
  rw [Finset.sum_mul]
  exact Finset.sum_congr rfl fun j _ => by rw [sub_eq_add_neg, Real.exp_add]

theorem shift_div [NeZero n] (s : Fin n → ℝ) (M : ℝ) (j : Fin n) : Real.exp (s j - M) / (Z s * Real.exp (-M)) = P s j := by
  have := (Real.exp_pos (-M)).ne'
  have := (Z_pos s).ne'
  unfold P
  rw [sub_eq_add_neg, Real.exp_add]
  field_simp

theorem neg_inf : Ideal.ofBits .f32 0xFF800000#32 = ⊥ := by simp [Ideal.ofBits, Ideal.ieee]

/-- The maximum of finitely many real numbers, at least one, is a real number. -/
theorem fold_max [NeZero n] (s : Fin n → ℝ) :
    ∃ M : ℝ, Finset.univ.fold max (Ideal.ofBits .f32 0xFF800000#32) (fun j => (s j : EReal)) = M := by
  rw [neg_inf]
  have h : ∀ t : Finset (Fin n), t.fold max (⊥ : EReal) (fun j => (s j : EReal)) = ⊥ ∧ t = ∅
      ∨ ∃ M : ℝ, t.fold max (⊥ : EReal) (fun j => (s j : EReal)) = M := by
    intro t
    induction t using Finset.induction_on with
    | empty => exact .inl ⟨Finset.fold_empty, rfl⟩
    | insert a t ha ih =>
      right
      rw [Finset.fold_insert ha]
      rcases ih with ⟨h, -⟩ | ⟨M, h⟩
      · exact ⟨s a, by rw [h, max_bot_right]⟩
      · exact ⟨max (s a) M, by rw [h]; exact (EReal.coe_strictMono.monotone.map_max).symm⟩
  rcases h Finset.univ with ⟨-, h⟩ | h
  · exact absurd (h ▸ Finset.mem_univ (0 : Fin n)) (Finset.notMem_empty _)
  · exact h

theorem exp_sub (a b : ℝ) : Ideal.exp ((a : EReal) - (b : EReal)) = ((Real.exp (a - b) : ℝ) : EReal) := by
  rw [← EReal.coe_sub, Ideal.exp_coe]

theorem div_real {a b : ℝ} (h : b ≠ 0) : Ideal.div (a : EReal) (b : EReal) = ((a / b : ℝ) : EReal) := by
  rw [Ideal.div_coe h, ← EReal.coe_mul, mul_one_div]

/-- The weighted mean of a column under the shifted exponentials, divided at the end. -/
theorem mean_div [NeZero n] (s v : Fin n → ℝ) (M : ℝ) :
    Ideal.div (∑ j, Ideal.exp ((s j : EReal) - (M : EReal)) * (v j : EReal)) (∑ j, Ideal.exp ((s j : EReal) - (M : EReal)))
      = ((∑ j, P s j * v j : ℝ) : EReal) := by
  have h : Z s * Real.exp (-M) ≠ 0 := (mul_pos (Z_pos s) (Real.exp_pos _)).ne'
  simp only [exp_sub, ← EReal.coe_mul, Common.coe_sum]
  rw [sum_shift, div_real h, Finset.sum_div]
  refine congrArg _ (Finset.sum_congr rfl fun j _ => ?_)
  rw [← shift_div s M j]
  ring

/-- The row's log-sum is the logarithm of the unshifted sum. -/
theorem log_sum [NeZero n] (s : Fin n → ℝ) (M : ℝ) :
    (M : EReal) + Ideal.log (∑ j, Ideal.exp ((s j : EReal) - (M : EReal))) = ((Real.log (Z s) : ℝ) : EReal) := by
  have h := mul_pos (Z_pos s) (Real.exp_pos (-M))
  simp only [exp_sub, Common.coe_sum]
  rw [sum_shift, Ideal.log_coe, if_neg h.not_ge, ← EReal.coe_add, Real.log_mul (Z_pos s).ne' (Real.exp_pos _).ne', Real.log_exp]
  exact congrArg _ (by ring)

/-- The exponential of a score over the saved log-sum is its softmax. -/
theorem exp_log_sum [NeZero n] (s : Fin n → ℝ) (j : Fin n) : Real.exp (s j - Real.log (Z s)) = P s j := by
  rw [Real.exp_sub, Real.exp_log (Z_pos s)]
  rfl

/-- A sum picked by the comparison of two positions is the picked term. -/
theorem sum_select {n : ℕ} (hn : n ≤ 2 ^ 32) (f : Fin n → EReal) (j : Fin n) :
    ∑ i : Fin n, Scalar.select (IntOp.cmpi .eq (BitVec.ofNat 32 i.val) (BitVec.ofNat 32 j.val)) (f i) 0 = f j := by
  refine (Finset.sum_eq_single j (fun i _ hij => ?_) (fun h => absurd (Finset.mem_univ _) h)).trans ?_
  · have : BitVec.ofNat 32 i.val ≠ BitVec.ofNat 32 j.val := fun e => hij <| Fin.ext <| by
      have := congrArg BitVec.toNat e
      rwa [BitVec.toNat_ofNat, BitVec.toNat_ofNat, Nat.mod_eq_of_lt (i.isLt.trans_le hn), Nat.mod_eq_of_lt (j.isLt.trans_le hn)] at this
    simp [Scalar.select, IntOp.cmpi, beq_eq_false_iff_ne.mpr this]
  · simp [Scalar.select, IntOp.cmpi]

/-! ### Attention over the real numbers

    `q` is the array of scaled queries: 8 heads of 128 columns; `k` and `v` hold 2 heads, each of 4 query heads. -/

def qcol (h : Fin 8) (d : Fin 128) : Fin 1024 := ⟨h.val * 128 + d.val, by omega⟩
def kcol (g : Fin 2) (d : Fin 128) : Fin 256 := ⟨g.val * 128 + d.val, by omega⟩
def pair (h : Fin 8) : Fin 2 := ⟨h.val / 4, by omega⟩
def head (g : Fin 2) (r : Fin 4) : Fin 8 := ⟨g.val * 4 + r.val, by omega⟩
def headOf (x : Fin 1024) : Fin 8 := ⟨x.val / 128, by omega⟩
def dimOf (x : Fin 1024) : Fin 128 := ⟨x.val % 128, by omega⟩
def pairOf (x : Fin 256) : Fin 2 := ⟨x.val / 128, by omega⟩
def kdimOf (x : Fin 256) : Fin 128 := ⟨x.val % 128, by omega⟩

variable (q do' : Fin 4096 → Fin 1024 → ℝ) (k v : Fin 4096 → Fin 256 → ℝ)

def score (h : Fin 8) (i j : Fin 4096) : ℝ := ∑ d, q i (qcol h d) * k j (kcol (pair h) d)

/-- The attention's weights. -/
def A (h : Fin 8) (i j : Fin 4096) : ℝ := P (score q k h i) j

/-- The output, of head `h`. -/
def O (h : Fin 8) (i : Fin 4096) (d : Fin 128) : ℝ := ∑ j, A q k h i j * v j (kcol (pair h) d)

/-- The weights' cotangent. -/
def dA (h : Fin 8) (i j : Fin 4096) : ℝ := ∑ d, do' i (qcol h d) * v j (kcol (pair h) d)

/-- The scores' cotangent. -/
def dS (h : Fin 8) (i j : Fin 4096) : ℝ := A q k h i j * (dA do' v h i j - ∑ d, do' i (qcol h d) * O q k v h i d)

def dQ (h : Fin 8) (i : Fin 4096) (d : Fin 128) : ℝ := ∑ j, k j (kcol (pair h) d) * dS q do' k v h i j

def dK (g : Fin 2) (j : Fin 4096) (d : Fin 128) : ℝ :=
  ∑ r : Fin 4, ∑ i, dS q do' k v (head g r) i j * q i (qcol (head g r) d)

def dV (g : Fin 2) (j : Fin 4096) (d : Fin 128) : ℝ :=
  ∑ r : Fin 4, ∑ i, A q k (head g r) i j * do' i (qcol (head g r) d)

/-- The weights' cotangent summed with the weights is the output's sum with its own cotangent. -/
theorem sum_dA (h : Fin 8) (i : Fin 4096) :
    ∑ j, A q k h i j * dA do' v h i j = ∑ d, do' i (qcol h d) * O q k v h i d := by
  unfold dA O
  simp only [Finset.mul_sum]
  rw [Finset.sum_comm]
  exact Finset.sum_congr rfl fun d _ => Finset.sum_congr rfl fun j _ => by ring

/-- The scale of the scores, as the program spells it. -/
def scale : ℝ := 11863283 / 134217728

theorem scale_eq : Ideal.ofBits .f32 0x3DB504F3#32 = ((scale : ℝ) : EReal) := by
  unfold scale
  simp [Ideal.ofBits, Ideal.ieee, -EReal.coe_mul]; norm_num

/-- The queries scaled. -/
def sq (q : Fin 4096 → Fin 1024 → ℝ) (i : Fin 4096) (d : Fin 1024) : ℝ := q i d * scale

theorem pair_head (g : Fin 2) (r : Fin 4) : pair (head g r) = g := Fin.ext (by simp [pair, head]; omega)
theorem kcol_at (g : Fin 2) (r : Fin 4) (d : Fin 128) (h : g.val * 128 + d.val < 256) :
    (⟨g.val * 128 + d.val, h⟩ : Fin 256) = kcol (pair (head g r)) d := by rw [pair_head]; rfl
theorem qcol_at (g : Fin 2) (r : Fin 4) (d : Fin 128) (h : g.val * 512 + r.val * 128 + d.val < 1024) :
    (⟨g.val * 512 + r.val * 128 + d.val, h⟩ : Fin 1024) = qcol (head g r) d := Fin.ext (by simp [qcol, head]; omega)
theorem head_at (x : Fin 1024) (h : x.val / 512 < 2) (h' : x.val / 128 % 4 < 4) :
    head ⟨x.val / 512, h⟩ ⟨x.val / 128 % 4, h'⟩ = headOf x := Fin.ext (by simp [head, headOf]; omega)

theorem kcol_of (x : Fin 1024) (h : x.val / 512 * 128 + x.val % 128 < 256) :
    (⟨x.val / 512 * 128 + x.val % 128, h⟩ : Fin 256) = kcol (pair (headOf x)) (dimOf x) :=
  Fin.ext (by simp [kcol, pair, headOf, dimOf]; omega)
theorem qcol_of (x : Fin 256) (r : Fin 4) (h : x.val / 128 * 512 + r.val * 128 + x.val % 128 < 1024) :
    (⟨x.val / 128 * 512 + r.val * 128 + x.val % 128, h⟩ : Fin 1024) = qcol (head (pairOf x) r) (kdimOf x) :=
  Fin.ext (by simp [qcol, head, pairOf, kdimOf]; omega)

end Cert.Soft
-- ==== Proof.Attn.Fwd.lean ====
/-
  What the forward call leaves in its two result arrays, element by element.
-/
module

public import proofs.«01_k».proof.Proof.Gen.AttnIdeal.Frame
public import proofs.«01_k».proof.Proof.Attn.Soft
public import Idealize.ShloMosaic.Lib.Pipeline.ValueKit
public import Idealize.ShloMosaic.Lib.Pointwise

@[expose] public section

set_option maxRecDepth 16384

noncomputable section

namespace Cert.AttnFwd

open Cert.AttnIdeal Cert.AttnIdeal.Gen Idealize.ShloMosaic Idealize.ShloMosaic.TcCoe Idealize.SL.Sem
open Idealize.ShloMosaic.Pipeline (Dat)
open Cert.Soft (qcol pair headOf dimOf score O Z)

variable (V : (c : Dev nD) → (b : Ref sig .tc) → Buf (Elt Ideal) ((c : Thread nD τ).loc b)) (c : Dev nD)

/-- The scaled queries, the keys and the values as the call finds them. -/
abbrev Q (i : Fin 4096) (d : Fin 1024) : EReal := V c main_v3 (ix2 i d)
abbrev K (j : Fin 4096) (d : Fin 256) : EReal := V c main_arg1 (ix2 j d)
abbrev W (j : Fin 4096) (d : Fin 256) : EReal := V c main_arg2 (ix2 j d)

theorem idx : ∀ t : Fin grid0.N, win0_0.index t = ![t.val % 16, t.val / 16] ∧ win0_1.index t = ![0, t.val / 64]
    ∧ win0_2.index t = ![0, t.val / 64] ∧ win0_3.index t = ![t.val % 16, t.val / 16] ∧ win0_4.index t = ![t.val / 16, 0, t.val % 16] := by decide +kernel

theorem lt_N (t : Fin cfg0.N) : t.val < 128 := by have := t.isLt; have : cfg0.N = 128 := N_0; omega

/-- Row `a` of the point's block of 256 rows, column `d` of its head and of its pair of key and value heads. -/
def row (t : Fin cfg0.N) (a : Fin 256) : Fin 4096 := ⟨t.val % 16 * 256 + a.val, by omega⟩
def col (t : Fin cfg0.N) (d : Fin 128) : Fin 1024 := ⟨t.val / 16 * 128 + d.val, by have := lt_N t; omega⟩
def kcol (t : Fin cfg0.N) (d : Fin 128) : Fin 256 := ⟨t.val / 64 * 128 + d.val, by have := lt_N t; omega⟩

theorem read0 (t : Fin cfg0.N) (a : Fin 256) (d : Fin 128) : iblk0 V c 0 t (ix2 a d) = Q V c (row t a) (col t d) := by
  unfold Q row col; blk_ext! [iblk0, idx t]

theorem read1 (t : Fin cfg0.N) (j : Fin 4096) (d : Fin 128) : iblk0 V c 1 t (ix2 j d) = K V c j (kcol t d) := by
  unfold K kcol; blk_ext! [iblk0, idx t]

theorem read2 (t : Fin cfg0.N) (j : Fin 4096) (d : Fin 128) : iblk0 V c 2 t (ix2 j d) = W V c j (kcol t d) := by
  unfold W kcol; blk_ext! [iblk0, idx t]

theorem emb3 (t : Fin cfg0.N) (a : Fin 256) (d : Fin 128) : ((cfg0.win 3).blk t).view.emb (ix2 a d) = ix2 (row t a) (col t d) := by
  unfold row col; blk_ext! [idx t]

theorem emb4 (t : Fin cfg0.N) (a : Fin 256) : ((cfg0.win 4).blk t).view.emb (ix3 0 0 a) = ix3 (⟨t.val / 16, by have := lt_N t; omega⟩ : Fin 8) 0 (row t a) := by
  unfold row; blk_ext! [idx t]

/-- The head a point works on, and the columns of a head. -/
def hd (t : Fin cfg0.N) : Fin 8 := ⟨t.val / 16, by have := lt_N t; omega⟩

theorem col_eq (t : Fin cfg0.N) (d : Fin 128) : col t d = qcol (hd t) d := rfl
theorem kcol_eq (t : Fin cfg0.N) (d : Fin 128) : kcol t d = Soft.kcol (pair (hd t)) d := Fin.ext (by
  have : t.val / 64 = t.val / 16 / 4 := by omega
  simp [kcol, Soft.kcol, pair, hd, this])
theorem headOf_col (t : Fin cfg0.N) (d : Fin 128) : headOf (col t d) = hd t := Fin.ext (by simp [headOf, col, hd]; omega)
theorem dimOf_col (t : Fin cfg0.N) (d : Fin 128) : dimOf (col t d) = d := Fin.ext (by simp [dimOf, col])

variable {q : Fin 4096 → Fin 1024 → ℝ} {k v : Fin 4096 → Fin 256 → ℝ}

/-- The output array. -/
theorem final3 (hQ : ∀ i d, Q V c i d = q i d) (hK : ∀ j d, K V c j d = k j d) (hW : ∀ j d, W V c j d = v j d) :
    (dat0 V c).arrAt 3 cfg0.N = fun i => ((O q k v (headOf (i 1)) (i 0) (dimOf (i 1)) : ℝ) : EReal) := by
  refine (dat0 V c).arrAt_eq_of_covers 3 _ (by decide +kernel) fun t hf y => ?_
  idx_vars y
  rw [emb3]
  blk_simp
  rw [after0_3]
  frame_out
  unfold_payloads
  pointwise
  simp only [read0, read1, read2, hQ, hK, hW, col_eq, kcol_eq, ← EReal.coe_mul, Common.coe_sum]
  obtain ⟨M, hM⟩ := Soft.fold_max (score q k (hd t) (row t y0))
  unfold score at hM
  rw [hM]
  refine (Soft.mean_div (score q k (hd t) (row t y0)) _ M).trans ?_
  rw [← col_eq, headOf_col, dimOf_col]
  rfl

/-- The rows' log-sums. -/
theorem final4 (hQ : ∀ i d, Q V c i d = q i d) (hK : ∀ j d, K V c j d = k j d) :
    (dat0 V c).arrAt 4 cfg0.N = fun i => ((Real.log (Z (score q k (i 0) (i 2))) : ℝ) : EReal) := by
  refine (dat0 V c).arrAt_eq_of_covers 4 _ (by decide +kernel) fun t hf y => ?_
  idx_vars y
  obtain rfl := Subsingleton.elim y0 0
  obtain rfl := Subsingleton.elim y1 0
  rw [emb4]
  blk_simp
  rw [after0_4]
  frame_out
  unfold_payloads
  pointwise
  rw [Soft.sum_select (by norm_num)]
  simp only [read0, read1, hQ, hK, col_eq, kcol_eq, ← EReal.coe_mul, Common.coe_sum]
  obtain ⟨M, hM⟩ := Soft.fold_max (score q k (hd t) (row t y2))
  unfold score at hM
  rw [hM]
  exact Soft.log_sum (score q k (hd t) (row t y2)) M

end Cert.AttnFwd
-- ==== Proof.Attn.Bwd.lean ====
/-
  What the backward call leaves in its three result arrays, element by element.
-/
module

public import proofs.«01_k».proof.Proof.Gen.AttnIdeal.Frame
public import proofs.«01_k».proof.Proof.Attn.Soft

@[expose] public section

set_option maxRecDepth 16384

noncomputable section

namespace Cert.AttnBwd

open Cert.AttnIdeal Cert.AttnIdeal.Gen Idealize.ShloMosaic Idealize.ShloMosaic.TcCoe Idealize.SL.Sem
open Idealize.ShloMosaic.Pipeline (Dat)
open Cert.Soft (qcol pair headOf dimOf score O Z)

variable (V : (c : Dev nD) → (b : Ref sig .tc) → Buf (Elt Ideal) ((c : Thread nD τ).loc b)) (c : Dev nD)

/-- The arrays as the call finds them: scaled queries, the output's cotangent, the saved output and log-sums, the keys,
    the values, the transposed keys. -/
abbrev Q (i : Fin 4096) (d : Fin 1024) : EReal := V c main_v3 (ix2 i d)
abbrev G (i : Fin 4096) (d : Fin 1024) : EReal := V c main_arg3 (ix2 i d)
abbrev Y (i : Fin 4096) (d : Fin 1024) : EReal := V c main_v5_0 (ix2 i d)
abbrev L (h : Fin 8) (i : Fin 4096) : EReal := V c main_v5_1 (ix3 h 0 i)
abbrev K (j : Fin 4096) (d : Fin 256) : EReal := V c main_arg1 (ix2 j d)
abbrev W (j : Fin 4096) (d : Fin 256) : EReal := V c main_arg2 (ix2 j d)
abbrev T (d : Fin 256) (j : Fin 4096) : EReal := V c main_v4 (ix2 d j)

theorem idx : ∀ t : Fin grid1.N, win1_0.index t = ![t.val % 16, t.val / 16] ∧ win1_1.index t = ![t.val % 16, t.val / 16]
    ∧ win1_2.index t = ![t.val % 16, t.val / 16] ∧ win1_3.index t = ![t.val / 16, 0, t.val % 16]
    ∧ win1_4.index t = ![0, t.val / 64] ∧ win1_5.index t = ![0, t.val / 64] ∧ win1_6.index t = ![t.val / 64, 0]
    ∧ win1_7.index t = ![t.val % 16, t.val / 16] ∧ win1_8.index t = ![0, t.val / 64] ∧ win1_9.index t = ![0, t.val / 64] := by
  decide +kernel

theorem lt_N (t : Fin cfg1.N) : t.val < 128 := by have := t.isLt; have : cfg1.N = 128 := N_1; omega

/-- The head a point works on and its pair of key and value heads; row `a` of its block of 256 rows. -/
def hd (t : Fin cfg1.N) : Fin 8 := ⟨t.val / 16, by have := lt_N t; omega⟩
def pr (t : Fin cfg1.N) : Fin 2 := ⟨t.val / 64, by have := lt_N t; omega⟩
def row (t : Fin cfg1.N) (a : Fin 256) : Fin 4096 := ⟨t.val % 16 * 256 + a.val, by omega⟩

theorem read0 (t : Fin cfg1.N) (a : Fin 256) (d : Fin 128) : iblk1 V c 0 t (ix2 a d) = Q V c (row t a) (qcol (hd t) d) := by
  unfold Q row qcol hd; blk_ext! [iblk1, idx t]
theorem read1 (t : Fin cfg1.N) (a : Fin 256) (d : Fin 128) : iblk1 V c 1 t (ix2 a d) = G V c (row t a) (qcol (hd t) d) := by
  unfold G row qcol hd; blk_ext! [iblk1, idx t]
theorem read2 (t : Fin cfg1.N) (a : Fin 256) (d : Fin 128) : iblk1 V c 2 t (ix2 a d) = Y V c (row t a) (qcol (hd t) d) := by
  unfold Y row qcol hd; blk_ext! [iblk1, idx t]
theorem read3 (t : Fin cfg1.N) (a : Fin 256) : iblk1 V c 3 t (ix3 0 0 a) = L V c (hd t) (row t a) := by
  unfold L row hd; blk_ext! [iblk1, idx t]
theorem read4 (t : Fin cfg1.N) (j : Fin 4096) (d : Fin 128) : iblk1 V c 4 t (ix2 j d) = K V c j (Soft.kcol (pr t) d) := by
  unfold K Soft.kcol pr; blk_ext! [iblk1, idx t]
theorem read5 (t : Fin cfg1.N) (j : Fin 4096) (d : Fin 128) : iblk1 V c 5 t (ix2 j d) = W V c j (Soft.kcol (pr t) d) := by
  unfold W Soft.kcol pr; blk_ext! [iblk1, idx t]
theorem read6 (t : Fin cfg1.N) (d : Fin 128) (j : Fin 4096) : iblk1 V c 6 t (ix2 d j) = T V c (Soft.kcol (pr t) d) j := by
  unfold T Soft.kcol pr; blk_ext! [iblk1, idx t]

theorem emb7 (t : Fin cfg1.N) (a : Fin 256) (d : Fin 128) : ((cfg1.win 7).blk t).view.emb (ix2 a d) = ix2 (row t a) (qcol (hd t) d) := by
  unfold row qcol hd; blk_ext! [idx t]
theorem emb8 (t : Fin cfg1.N) (j : Fin 4096) (d : Fin 128) : ((cfg1.win 8).blk t).view.emb (ix2 j d) = ix2 j (Soft.kcol (pr t) d) := by
  unfold Soft.kcol pr; blk_ext! [idx t]
theorem emb9 (t : Fin cfg1.N) (j : Fin 4096) (d : Fin 128) : ((cfg1.win 9).blk t).view.emb (ix2 j d) = ix2 j (Soft.kcol (pr t) d) := by
  unfold Soft.kcol pr; blk_ext! [idx t]

end Cert.AttnBwd
-- ==== Proof.Attn.BwdValue.lean ====
/-
  The backward call's three arrays as real numbers: at a point of the grid the eight stretches of keys and values the
  body takes one after the other make one sum, and the 64 points that share a block of `dk` and `dv` make the sum over
  the four heads of a pair and all rows.
-/
module

public import proofs.«01_k».proof.Proof.Attn.Bwd
public import Idealize.ShloMosaic.Lib.Pipeline.ReadBack

@[expose] public section

set_option maxRecDepth 16384

noncomputable section

namespace Cert.AttnBwd

open Cert.AttnIdeal Cert.AttnIdeal.Gen Idealize.ShloMosaic Idealize.ShloMosaic.TcCoe Idealize.SL.Sem
open Idealize.ShloMosaic.Pipeline (Dat)
open Cert.Soft (qcol pair head headOf dimOf pairOf kdimOf score A O dA dS dQ dK dV Z)

variable (V : (c : Dev nD) → (b : Ref sig .tc) → Buf (Elt Ideal) ((c : Thread nD τ).loc b)) (c : Dev nD)

/-- The weight of key `j` for row `a` of a point's block, made again from the saved log-sum. -/
def prob (t : Fin cfg1.N) (j : Fin 4096) (a : Fin 256) : EReal :=
  Ideal.exp (∑ d, K V c j (Soft.kcol (pr t) d) * Q V c (row t a) (qcol (hd t) d) - L V c (hd t) (row t a))

/-- The cotangent of that score. -/
def dst (t : Fin cfg1.N) (j : Fin 4096) (a : Fin 256) : EReal :=
  prob V c t j a * (∑ d, W V c j (Soft.kcol (pr t) d) * G V c (row t a) (qcol (hd t) d)
    - ∑ d, G V c (row t a) (qcol (hd t) d) * Y V c (row t a) (qcol (hd t) d))

/-- A sum over 4096 keys taken in eight stretches of 512. -/
theorem sum_stretches (f : Fin 4096 → EReal) :
    (∑ x : Fin 512, f ⟨x.val, by omega⟩) + (∑ x : Fin 512, f ⟨512 + x.val, by omega⟩) + (∑ x : Fin 512, f ⟨1024 + x.val, by omega⟩)
      + (∑ x : Fin 512, f ⟨1536 + x.val, by omega⟩) + (∑ x : Fin 512, f ⟨2048 + x.val, by omega⟩) + (∑ x : Fin 512, f ⟨2560 + x.val, by omega⟩)
      + (∑ x : Fin 512, f ⟨3072 + x.val, by omega⟩) + (∑ x : Fin 512, f ⟨3584 + x.val, by omega⟩) = ∑ j, f j := by
  refine Eq.trans ?_ (Fin.sum_mul_add_congr (S := 8) (n := 512) (F := fun s k => f ⟨s.val * 512 + k.val, by omega⟩) (fun s k hl => rfl) rfl)
  rw [Fin.sum_univ_eight]
  simp

/-- Row `a` of the block of `dq` a point writes. -/
theorem point7 (t : Fin cfg1.N) (a : Fin 256) (d : Fin 128) :
    (outsAt1 V c t.val t.isLt).1 (ix2 a d) = ∑ j, T V c (Soft.kcol (pr t) d) j * dst V c t j a := by
  by_cases h0 : t.val % 64 = 0
  · rw [outsAt1_A V c t h0]
    frame_out
    unfold_payloads
    pointwise
    simp only [read0, read1, read2, read3, read4, read5, read6, Soft.sum_select (show 256 ≤ 2 ^ 32 by norm_num)]
    exact sum_stretches fun j => T V c (Soft.kcol (pr t) d) j * dst V c t j a
  · rw [outsAt1_B V c t h0]
    frame_out
    unfold_payloads
    pointwise
    simp only [read0, read1, read2, read3, read4, read5, read6, Soft.sum_select (show 256 ≤ 2 ^ 32 by norm_num)]
    exact sum_stretches fun j => T V c (Soft.kcol (pr t) d) j * dst V c t j a

theorem emb_rows (o : ℕ) (inb : ∀ a : Fin 2, ![o, 0] a + ![512, 128] a ≤ ![4096, 128] a) (x : Fin 512) (d : Fin 128) :
    (Rect.unit (s := S4096x128) ![o, 0] ![512, 128] inb).emb (ix2 x d) = ix2 ⟨o + x.val, by have : o + 512 ≤ 4096 := inb 0; omega⟩ d := by
  funext a
  refine Fin.ext ?_
  revert a
  refine Fin.forall_fin_two.mpr ⟨?_, ?_⟩
  · show o + 1 * x.val = o + x.val
    omega
  · show 0 + 1 * d.val = d.val
    omega

theorem mem_rows (o : ℕ) (inb : ∀ a : Fin 2, ![o, 0] a + ![512, 128] a ≤ ![4096, 128] a) (i : S4096x128.Idx)
    (h : o ≤ (i 0).val ∧ (i 0).val < o + 512) : i ∈ (Rect.unit (s := S4096x128) ![o, 0] ![512, 128] inb).set :=
  Rect.mem_set_unit.mpr (Fin.forall_fin_two.mpr ⟨h, Nat.zero_le _, (i 1).isLt⟩)

/-- The eight stretches of rows cover every row, whatever is stored there. -/
theorem covered (w0 w1 w2 w3 w4 w5 w6 w7 : S512x128.Idx → Elt Ideal .f32) (i : S4096x128.Idx) :
    ∃ p ∈ ([⟨Rect.unit ![3584, 0] ![512, 128] inb_S4096x128_S512x128_3584_0, w0⟩, ⟨Rect.unit ![3072, 0] ![512, 128] inb_S4096x128_S512x128_3072_0, w1⟩, ⟨Rect.unit ![2560, 0] ![512, 128] inb_S4096x128_S512x128_2560_0, w2⟩, ⟨Rect.unit ![2048, 0] ![512, 128] inb_S4096x128_S512x128_2048_0, w3⟩, ⟨Rect.unit ![1536, 0] ![512, 128] inb_S4096x128_S512x128_1536_0, w4⟩, ⟨Rect.unit ![1024, 0] ![512, 128] inb_S4096x128_S512x128_1024_0, w5⟩, ⟨Rect.unit ![512, 0] ![512, 128] inb_S4096x128_S512x128_512_0, w6⟩, ⟨Rect.unit ![0, 0] ![512, 128] inb_S4096x128_S512x128_0_0, w7⟩] : List (View.Piece (Elt Ideal) S4096x128 .f32)), i ∈ p.1.set := by
  have hi : (i 0).val < 4096 := (i 0).isLt
  simp only [List.mem_cons, List.not_mem_nil, or_false, exists_eq_or_imp, exists_eq_left]
  rcases (show 3584 ≤ (i 0).val ∨ (3072 ≤ (i 0).val ∧ (i 0).val < 3584) ∨ (2560 ≤ (i 0).val ∧ (i 0).val < 3072)
      ∨ (2048 ≤ (i 0).val ∧ (i 0).val < 2560) ∨ (1536 ≤ (i 0).val ∧ (i 0).val < 2048) ∨ (1024 ≤ (i 0).val ∧ (i 0).val < 1536)
      ∨ (512 ≤ (i 0).val ∧ (i 0).val < 1024) ∨ (i 0).val < 512 from by omega) with h | h | h | h | h | h | h | h
  · exact .inl (mem_rows _ _ i (by omega))
  · exact .inr (.inl (mem_rows _ _ i (by omega)))
  · exact .inr (.inr (.inl (mem_rows _ _ i (by omega))))
  · exact .inr (.inr (.inr (.inl (mem_rows _ _ i (by omega)))))
  · exact .inr (.inr (.inr (.inr (.inl (mem_rows _ _ i (by omega))))))
  · exact .inr (.inr (.inr (.inr (.inr (.inl (mem_rows _ _ i (by omega)))))))
  · exact .inr (.inr (.inr (.inr (.inr (.inr (.inl (mem_rows _ _ i (by omega))))))))
  · exact .inr (.inr (.inr (.inr (.inr (.inr (.inr (mem_rows _ _ i (by omega))))))))

theorem reset8 (t : Fin cfg1.N) (h0 : t.val % 64 = 0) (i : S4096x128.Idx) : (outsAt1 V c t.val t.isLt).2.1 i
    = 0 + ∑ a, dst V c t (i 0) a * Q V c (row t a) (qcol (hd t) (i 1)) := by
  rw [outsAt1_A V c t h0]
  frame_open
  simp (disch := decide) only [↓ View.readCov_skip, ↓ View.readCov_cons_toLoadRect, ↓ View.readCov_fill]
  frame_out
  show View.canon ([_, _, _, _, _, _, _, _] ++ [_]) _ = _
  refine View.canon_append_of_piecesOf (Val := Elt Ideal) (e := .f32) (fun i : S4096x128.Idx => 0 + ∑ a, dst V c t (i 0) a * Q V c (row t a) (qcol (hd t) (i 1))) _ _ ?_ _ ?_
  · refine ⟨fun x => ?_, fun x => ?_, fun x => ?_, fun x => ?_, fun x => ?_, fun x => ?_, fun x => ?_, fun x => ?_, trivial⟩
    all_goals
      idx_vars x
      unfold_payloads
      pointwise
      simp only [read0, read1, read2, read3, read4, read5, read6, Soft.sum_select (show 256 ≤ 2 ^ 32 by norm_num)]
      rw [emb_rows]
      first | rfl | simp only [Nat.zero_add]; rfl
  · exact covered _ _ _ _ _ _ _ _ i

theorem step8 (t : Fin cfg1.N) (h0 : ¬ t.val % 64 = 0) (i : S4096x128.Idx) : (outsAt1 V c t.val t.isLt).2.1 i
    = (outsAt1 V c (t.val - 1) (Nat.lt_of_le_of_lt (Nat.sub_le _ _) t.isLt)).2.1 i
      + ∑ a, dst V c t (i 0) a * Q V c (row t a) (qcol (hd t) (i 1)) := by
  rw [outsAt1_B V c t h0]
  frame_open
  simp (disch := decide) only [↓ View.readCov_skip, ↓ View.readCov_cons_toLoadRect, ↓ View.readCov_fill]
  frame_out
  show View.canon ([_, _, _, _, _, _, _, _] ++ []) _ = _
  refine View.canon_append_of_piecesOf (fun i : S4096x128.Idx => (outsAt1 V c (t.val - 1) (Nat.lt_of_le_of_lt (Nat.sub_le _ _) t.isLt)).2.1 i
      + ∑ a, dst V c t (i 0) a * Q V c (row t a) (qcol (hd t) (i 1))) _ _ ?_ _ ?_
  · refine ⟨fun x => ?_, fun x => ?_, fun x => ?_, fun x => ?_, fun x => ?_, fun x => ?_, fun x => ?_, fun x => ?_, trivial⟩
    all_goals
      idx_vars x
      unfold_payloads
      pointwise
      simp only [read0, read1, read2, read3, read4, read5, read6, Soft.sum_select (show 256 ≤ 2 ^ 32 by norm_num)]
      rw [emb_rows]
      first | rfl | simp only [Nat.zero_add]; rfl
  · exact covered _ _ _ _ _ _ _ _ i

theorem reset9 (t : Fin cfg1.N) (h0 : t.val % 64 = 0) (i : S4096x128.Idx) : (outsAt1 V c t.val t.isLt).2.2 i
    = 0 + ∑ a, prob V c t (i 0) a * G V c (row t a) (qcol (hd t) (i 1)) := by
  rw [outsAt1_A V c t h0]
  frame_open
  simp (disch := decide) only [↓ View.readCov_skip, ↓ View.readCov_cons_toLoadRect, ↓ View.readCov_fill]
  frame_out
  show View.canon ([_, _, _, _, _, _, _, _] ++ [_]) _ = _
  refine View.canon_append_of_piecesOf (Val := Elt Ideal) (e := .f32) (fun i : S4096x128.Idx => 0 + ∑ a, prob V c t (i 0) a * G V c (row t a) (qcol (hd t) (i 1))) _ _ ?_ _ ?_
  · refine ⟨fun x => ?_, fun x => ?_, fun x => ?_, fun x => ?_, fun x => ?_, fun x => ?_, fun x => ?_, fun x => ?_, trivial⟩
    all_goals
      idx_vars x
      unfold_payloads
      pointwise
      simp only [read0, read1, read2, read3, read4, read5, read6, Soft.sum_select (show 256 ≤ 2 ^ 32 by norm_num)]
      rw [emb_rows]
      first | rfl | simp only [Nat.zero_add]; rfl
  · exact covered _ _ _ _ _ _ _ _ i

theorem step9 (t : Fin cfg1.N) (h0 : ¬ t.val % 64 = 0) (i : S4096x128.Idx) : (outsAt1 V c t.val t.isLt).2.2 i
    = (outsAt1 V c (t.val - 1) (Nat.lt_of_le_of_lt (Nat.sub_le _ _) t.isLt)).2.2 i
      + ∑ a, prob V c t (i 0) a * G V c (row t a) (qcol (hd t) (i 1)) := by
  rw [outsAt1_B V c t h0]
  frame_open
  simp (disch := decide) only [↓ View.readCov_skip, ↓ View.readCov_cons_toLoadRect, ↓ View.readCov_fill]
  frame_out
  show View.canon ([_, _, _, _, _, _, _, _] ++ []) _ = _
  refine View.canon_append_of_piecesOf (fun i : S4096x128.Idx => (outsAt1 V c (t.val - 1) (Nat.lt_of_le_of_lt (Nat.sub_le _ _) t.isLt)).2.2 i
      + ∑ a, prob V c t (i 0) a * G V c (row t a) (qcol (hd t) (i 1))) _ _ ?_ _ ?_
  · refine ⟨fun x => ?_, fun x => ?_, fun x => ?_, fun x => ?_, fun x => ?_, fun x => ?_, fun x => ?_, fun x => ?_, trivial⟩
    all_goals
      idx_vars x
      unfold_payloads
      pointwise
      simp only [read0, read1, read2, read3, read4, read5, read6, Soft.sum_select (show 256 ≤ 2 ^ 32 by norm_num)]
      rw [emb_rows]
      first | rfl | simp only [Nat.zero_add]; rfl
  · exact covered _ _ _ _ _ _ _ _ i

/-! The arrays as real numbers, under the hypothesis that the call finds real numbers in its arguments, the attention's
output in `main_v5_0` and the log-sums of its scores in `main_v5_1`. -/

/-- The seven arrays a call finds, as real numbers. -/
structure Holds (q do' : Fin 4096 → Fin 1024 → ℝ) (k v : Fin 4096 → Fin 256 → ℝ) : Prop where
  hq : ∀ i d, Q V c i d = q i d
  hg : ∀ i d, G V c i d = do' i d
  hk : ∀ j d, K V c j d = k j d
  hw : ∀ j d, W V c j d = v j d
  ht : ∀ d j, T V c d j = k j d
  hy : ∀ h i d, Y V c i (qcol h d) = ((O q k v h i d : ℝ) : EReal)
  hl : ∀ h i, L V c h i = ((Real.log (Z (score q k h i)) : ℝ) : EReal)

variable {q do' : Fin 4096 → Fin 1024 → ℝ} {k v : Fin 4096 → Fin 256 → ℝ} {V c}

theorem pr_eq (t : Fin cfg1.N) : pr t = pair (hd t) := Fin.ext (by
  have : t.val / 64 = t.val / 16 / 4 := by omega
  simp [pr, pair, hd, this])

theorem prob_eq (H : Holds V c q do' k v) (t : Fin cfg1.N) (j : Fin 4096) (a : Fin 256) :
    prob V c t j a = ((A q k (hd t) (row t a) j : ℝ) : EReal) := by
  unfold prob
  simp only [H.hq, H.hk, H.hl, pr_eq, ← EReal.coe_mul, Common.coe_sum, Soft.exp_sub]
  refine congrArg _ (Eq.trans ?_ (Soft.exp_log_sum (score q k (hd t) (row t a)) j))
  simp only [score, mul_comm]

theorem dst_eq (H : Holds V c q do' k v) (t : Fin cfg1.N) (j : Fin 4096) (a : Fin 256) :
    dst V c t j a = ((dS q do' k v (hd t) (row t a) j : ℝ) : EReal) := by
  unfold dst dS dA
  rw [prob_eq H]
  simp only [H.hg, H.hw, H.hy, pr_eq, ← EReal.coe_mul, Common.coe_sum, ← EReal.coe_sub]
  refine congrArg _ (congrArg₂ _ rfl (congrArg₂ _ ?_ rfl))
  exact Finset.sum_congr rfl fun d _ => mul_comm _ _

theorem headOf_col (h : Fin 8) (d : Fin 128) : headOf (qcol h d) = h := Fin.ext (by simp [headOf, qcol]; omega)
theorem dimOf_col (h : Fin 8) (d : Fin 128) : dimOf (qcol h d) = d := Fin.ext (by simp [dimOf, qcol])
theorem pairOf_col (g : Fin 2) (d : Fin 128) : pairOf (Soft.kcol g d) = g := Fin.ext (by simp [pairOf, Soft.kcol]; omega)
theorem kdimOf_col (g : Fin 2) (d : Fin 128) : kdimOf (Soft.kcol g d) = d := Fin.ext (by simp [kdimOf, Soft.kcol])

/-- The queries' gradient. -/
theorem final7 (H : Holds V c q do' k v) :
    (dat1 V c).arrAt 7 cfg1.N = fun i => ((dQ q do' k v (headOf (i 1)) (i 0) (dimOf (i 1)) : ℝ) : EReal) := by
  refine (dat1 V c).arrAt_eq_of_covers 7 _ (by decide +kernel) fun t hf y => ?_
  idx_vars y
  rw [emb7]
  blk_simp
  rw [after1_7, point7]
  simp only [dst_eq H, H.ht, pr_eq, ← EReal.coe_mul, Common.coe_sum]
  show _ = ((dQ q do' k v (headOf (qcol (hd t) y1)) (row t y0) (dimOf (qcol (hd t) y1)) : ℝ) : EReal)
  rw [headOf_col, dimOf_col]
  rfl

/-- The points that share a block of `dk` and `dv` go through a pair's four heads and all rows. -/
theorem sum_run (t : Fin cfg1.N) (h : ∀ s : Fin 64, 64 * (t.val / 64) + s.val < cfg1.N) (F : Fin 8 → Fin 4096 → ℝ) :
    ∑ s : Fin 64, ∑ a : Fin 256, F (hd ⟨64 * (t.val / 64) + s.val, h s⟩) (row ⟨64 * (t.val / 64) + s.val, h s⟩ a)
      = ∑ r : Fin 4, ∑ i : Fin 4096, F (head (pr t) r) i := by
  refine Fin.sum_points_lanes_congr 16 (fun s a hr hi => ?_)
  have e1 : hd ⟨64 * (t.val / 64) + s.val, h s⟩ = head (pr t) ⟨s.val / 16, hr⟩ := Fin.ext (by simp [hd, head, pr]; omega)
  have e2 : row ⟨64 * (t.val / 64) + s.val, h s⟩ a = ⟨s.val % 16 * 256 + a.val, hi⟩ := Fin.ext (by simp [row]; omega)
  rw [e1, e2]

/-- The keys' gradient. -/
theorem final8 (H : Holds V c q do' k v) :
    (dat1 V c).arrAt 8 cfg1.N = fun i => ((dK q do' k v (pairOf (i 1)) (i 0) (kdimOf (i 1)) : ℝ) : EReal) := by
  refine (dat1 V c).arrAt_eq_of_covers 8 _ (by decide +kernel) fun t hf y => ?_
  idx_vars y
  rw [emb8]
  blk_simp
  rw [after1_8]
  refine (Pipeline.eq_sum_fin_of_reset_step_apply_of_flush (fun n h => (outsAt1 V c n h).2.1) 64 (fun _ => (0 : EReal))
    (fun t i => ∑ a, dst V c t (i 0) a * Q V c (row t a) (qcol (hd t) (i 1)))
    (reset8 V c) (step8 V c) t ((flush1_8 t).mp hf) (ix2 y0 y1)).trans ?_
  have hs : ∀ s : Fin 64, 64 * (t.val / 64) + s.val < cfg1.N := Pipeline.run_point_lt_of_flush t ((flush1_8 t).mp hf)
  show (0 : EReal) + ∑ s : Fin 64, ∑ a, dst V c ⟨64 * (t.val / 64) + s.val, hs s⟩ y0 a
    * Q V c (row ⟨64 * (t.val / 64) + s.val, hs s⟩ a) (qcol (hd ⟨64 * (t.val / 64) + s.val, hs s⟩) y1) = _
  simp only [dst_eq H, H.hq, ← EReal.coe_mul, Common.coe_sum]
  rw [sum_run t hs fun h i => dS q do' k v h i y0 * q i (qcol h y1), zero_add]
  show _ = ((dK q do' k v (pairOf (Soft.kcol (pr t) y1)) y0 (kdimOf (Soft.kcol (pr t) y1)) : ℝ) : EReal)
  rw [pairOf_col, kdimOf_col]
  rfl

/-- The values' gradient. -/
theorem final9 (H : Holds V c q do' k v) :
    (dat1 V c).arrAt 9 cfg1.N = fun i => ((dV q do' k (pairOf (i 1)) (i 0) (kdimOf (i 1)) : ℝ) : EReal) := by
  refine (dat1 V c).arrAt_eq_of_covers 9 _ (by decide +kernel) fun t hf y => ?_
  idx_vars y
  rw [emb9]
  blk_simp
  rw [after1_9]
  refine (Pipeline.eq_sum_fin_of_reset_step_apply_of_flush (fun n h => (outsAt1 V c n h).2.2) 64 (fun _ => (0 : EReal))
    (fun t i => ∑ a, prob V c t (i 0) a * G V c (row t a) (qcol (hd t) (i 1)))
    (reset9 V c) (step9 V c) t ((flush1_9 t).mp hf) (ix2 y0 y1)).trans ?_
  have hs : ∀ s : Fin 64, 64 * (t.val / 64) + s.val < cfg1.N := Pipeline.run_point_lt_of_flush t ((flush1_9 t).mp hf)
  show (0 : EReal) + ∑ s : Fin 64, ∑ a, prob V c ⟨64 * (t.val / 64) + s.val, hs s⟩ y0 a
    * G V c (row ⟨64 * (t.val / 64) + s.val, hs s⟩ a) (qcol (hd ⟨64 * (t.val / 64) + s.val, hs s⟩) y1) = _
  simp only [prob_eq H, H.hg, ← EReal.coe_mul, Common.coe_sum]
  rw [sum_run t hs fun h i => A q k h i y0 * do' i (qcol h y1), zero_add]
  show _ = ((dV q do' k (pairOf (Soft.kcol (pr t) y1)) y0 (kdimOf (Soft.kcol (pr t) y1)) : ℝ) : EReal)
  rw [pairOf_col, kdimOf_col]
  rfl

end Cert.AttnBwd
-- ==== Proof.Attn.Run.lean ====
/-
  The run of attention's two calls, with what its four result buffers hold at the end.
-/
module

public import proofs.«01_k».proof.Proof.Gen.AttnIdeal.Frame
public import proofs.«01_k».proof.Proof.In.Common
public import Idealize.ShloMosaic.Lib.StableHlo.Run

@[expose] public section

set_option maxRecDepth 16384

noncomputable section

namespace Cert.AttnRun

open Cert.AttnIdeal Cert.AttnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable (m : (ℓ : Loc nD τ sig) → Buf (Elt Ideal) ℓ) (ρ : Dev nD → PrngReg)

set_option backward.isDefEq.respectTransparency.types false in
/-- Every execution ends with the results at the last boundary's contents and the arguments as launched. -/
theorem run : θ_run defs (onTc (τ := τ) (main (F := Ideal))) ⟨m, fun _ => 0, ρ⟩ (fun r => ∀ c : Dev nD,
      (r.2.mem ((c.tc : Thread nD τ).loc main_v5_0) = W4 m ρ c (Proc.devRef .tc main_v5_0)
      ∧ r.2.mem ((c.tc : Thread nD τ).loc main_v8) = W4 m ρ c (Proc.devRef .tc main_v8)
      ∧ r.2.mem ((c.tc : Thread nD τ).loc main_v6_1) = W4 m ρ c (Proc.devRef .tc main_v6_1)
      ∧ r.2.mem ((c.tc : Thread nD τ).loc main_v6_2) = W4 m ρ c (Proc.devRef .tc main_v6_2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨⟨h c _ (mem_uc main_v5_0 (by decide)), h c _ (mem_uc main_v8 (by decide)), h c _ (mem_uc main_v6_1 (by decide)),
        h c _ (mem_uc main_v6_2 (by decide))⟩,
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-! What the calls find: the queries scaled, the keys transposed, the other arguments as launched, the first call's two
results. -/

abbrev Qa (c : Dev nD) (i : Fin 4096) (d : Fin 1024) : EReal := m ((c : Thread nD τ).loc main_arg0) (ix2 i d)
abbrev Ka (c : Dev nD) (j : Fin 4096) (d : Fin 256) : EReal := m ((c : Thread nD τ).loc main_arg1) (ix2 j d)
abbrev Wa (c : Dev nD) (j : Fin 4096) (d : Fin 256) : EReal := m ((c : Thread nD τ).loc main_arg2) (ix2 j d)
abbrev Ga (c : Dev nD) (i : Fin 4096) (d : Fin 1024) : EReal := m ((c : Thread nD τ).loc main_arg3) (ix2 i d)

theorem entry_q (c : Dev nD) (i : Fin 4096) (d : Fin 1024) :
    V1 m ρ c main_v3 (ix2 i d) = Qa m c i d * Ideal.ofBits .f32 0x3DB504F3#32 := by
  show StableHlo.after hostOps0 (W0 m ρ c) (Proc.devRef .tc main_v3) (ix2 i d) = _
  after_results
  pointwise

theorem entry_t (c : Dev nD) (d : Fin 256) (j : Fin 4096) : V1 m ρ c main_v4 (ix2 d j) = Ka m c j d := by
  show StableHlo.after hostOps0 (W0 m ρ c) (Proc.devRef .tc main_v4) (ix2 d j) = _
  after_results
  pointwise

theorem entry (c : Dev nD) (a : Ref sig .tc) (h : a ∈ argRefs) : V1 m ρ c a = m ((c : Thread nD τ).loc a) := W1_args m ρ c a h

theorem result_dq (c : Dev nD) (i : Fin 4096) (d : Fin 1024) :
    W4 m ρ c (Proc.devRef .tc main_v8) (ix2 i d)
      = (show EReal from (dat1 (V2 m ρ) c).arrAt 7 cfg1.N (ix2 i d)) * Ideal.ofBits .f32 0x3DB504F3#32 := by
  show StableHlo.after hostOps2 (W3 m ρ c) (Proc.devRef .tc main_v8) (ix2 i d) = _
  after_results
  pointwise
  rw [show W3 m ρ c (Proc.devRef .tc main_v6_0) = _ from W3_arr m ρ c 7]

theorem result_o (c : Dev nD) : W4 m ρ c (Proc.devRef .tc main_v5_0) = (dat0 (V1 m ρ) c).arrAt 3 cfg0.N :=
  (W4_of m ρ c main_v5_0 (by decide)).trans ((W3_of m ρ c main_v5_0 (by decide)).trans (W2_arr m ρ c 3))
theorem result_dk (c : Dev nD) : W4 m ρ c (Proc.devRef .tc main_v6_1) = (dat1 (V2 m ρ) c).arrAt 8 cfg1.N :=
  (W4_of m ρ c main_v6_1 (by decide)).trans (W3_arr m ρ c 8)
theorem result_dv (c : Dev nD) : W4 m ρ c (Proc.devRef .tc main_v6_2) = (dat1 (V2 m ρ) c).arrAt 9 cfg1.N :=
  (W4_of m ρ c main_v6_2 (by decide)).trans (W3_arr m ρ c 9)

theorem second_o (c : Dev nD) : V2 m ρ c main_v5_0 = (dat0 (V1 m ρ) c).arrAt 3 cfg0.N := W2_arr m ρ c 3
theorem second_l (c : Dev nD) : V2 m ρ c main_v5_1 = (dat0 (V1 m ρ) c).arrAt 4 cfg0.N := W2_arr m ρ c 4
theorem second (c : Dev nD) (a : Ref sig .tc) (h : ∀ w : Fin cfg0.W, Pipeline.arrRef spec0 w = a → (cfg0.win w).isOut = false) :
    V2 m ρ c a = V1 m ρ c a := W2_of m ρ c a h

end Cert.AttnRun
-- ==== Proof.Attn.Kernel.lean ====
/-
  The four results of attention's two calls as real numbers, the arguments being real numbers: the queries enter scaled
  and the queries' gradient is scaled at the end.
-/
module

public import proofs.«01_k».proof.Proof.Attn.Fwd
public import proofs.«01_k».proof.Proof.Attn.BwdValue
public import proofs.«01_k».proof.Proof.Attn.Run

@[expose] public section

set_option maxRecDepth 16384

noncomputable section

namespace Cert.AttnRun

open Cert.AttnIdeal Cert.AttnIdeal.Gen Idealize.ShloMosaic Idealize.ShloMosaic.TcCoe Idealize.SL.Sem
open Cert.Soft (scale scale_eq sq qcol headOf dimOf pairOf kdimOf score O dQ dK dV Z)

variable (m : (ℓ : Loc nD τ sig) → Buf (Elt Ideal) ℓ) (ρ : Dev nD → PrngReg)

/-- The four arguments are real numbers. -/
structure Real (c : Dev nD) (q do' : Fin 4096 → Fin 1024 → ℝ) (k v : Fin 4096 → Fin 256 → ℝ) : Prop where
  hq : ∀ i d, Qa m c i d = q i d
  hk : ∀ j d, Ka m c j d = k j d
  hw : ∀ j d, Wa m c j d = v j d
  hg : ∀ i d, Ga m c i d = do' i d

variable {m} {c : Dev nD} {q do' : Fin 4096 → Fin 1024 → ℝ} {k v : Fin 4096 → Fin 256 → ℝ}

theorem first_q (H : Real m c q do' k v) (i : Fin 4096) (d : Fin 1024) : AttnFwd.Q (V1 m ρ) c i d = sq q i d := by
  show V1 m ρ c main_v3 (ix2 i d) = _
  rw [entry_q, H.hq, scale_eq]
  exact (EReal.coe_mul _ _).symm

theorem first_k (H : Real m c q do' k v) (j : Fin 4096) (d : Fin 256) : AttnFwd.K (V1 m ρ) c j d = k j d := by
  show V1 m ρ c main_arg1 (ix2 j d) = _
  rw [entry m ρ c main_arg1 (by decide)]
  exact H.hk j d

theorem first_w (H : Real m c q do' k v) (j : Fin 4096) (d : Fin 256) : AttnFwd.W (V1 m ρ) c j d = v j d := by
  show V1 m ρ c main_arg2 (ix2 j d) = _
  rw [entry m ρ c main_arg2 (by decide)]
  exact H.hw j d

theorem holds (H : Real m c q do' k v) : AttnBwd.Holds (V2 m ρ) c (sq q) do' k v where
  hq i d := by
    show V2 m ρ c main_v3 (ix2 i d) = _
    rw [second m ρ c main_v3 (by decide)]
    exact first_q ρ H i d
  hg i d := by
    show V2 m ρ c main_arg3 (ix2 i d) = _
    rw [second m ρ c main_arg3 (by decide), entry m ρ c main_arg3 (by decide)]
    exact H.hg i d
  hk j d := by
    show V2 m ρ c main_arg1 (ix2 j d) = _
    rw [second m ρ c main_arg1 (by decide)]
    exact first_k ρ H j d
  hw j d := by
    show V2 m ρ c main_arg2 (ix2 j d) = _
    rw [second m ρ c main_arg2 (by decide)]
    exact first_w ρ H j d
  ht d j := by
    show V2 m ρ c main_v4 (ix2 d j) = _
    rw [second m ρ c main_v4 (by decide), entry_t]
    exact H.hk j d
  hy h i d := by
    show V2 m ρ c main_v5_0 (ix2 i (qcol h d)) = _
    rw [second_o, AttnFwd.final3 (V1 m ρ) c (first_q ρ H) (first_k ρ H) (first_w ρ H)]
    show ((O (sq q) k v (headOf (qcol h d)) i (dimOf (qcol h d)) : ℝ) : EReal) = _
    rw [AttnBwd.headOf_col, AttnBwd.dimOf_col]
  hl h i := by
    show V2 m ρ c main_v5_1 (ix3 h 0 i) = _
    rw [second_l, AttnFwd.final4 (V1 m ρ) c (first_q ρ H) (first_k ρ H)]
    rfl

theorem res_o (H : Real m c q do' k v) : W4 m ρ c (Proc.devRef .tc main_v5_0)
    = fun i => ((O (sq q) k v (headOf (i 1)) (i 0) (dimOf (i 1)) : ℝ) : EReal) :=
  (result_o m ρ c).trans (AttnFwd.final3 (V1 m ρ) c (first_q ρ H) (first_k ρ H) (first_w ρ H))

theorem res_dq (H : Real m c q do' k v) : W4 m ρ c (Proc.devRef .tc main_v8)
    = fun i => ((dQ (sq q) do' k v (headOf (i 1)) (i 0) (dimOf (i 1)) * scale : ℝ) : EReal) := by
  funext i
  idx_vars i
  rw [result_dq, AttnBwd.final7 (holds ρ H), scale_eq]
  exact (EReal.coe_mul _ _).symm

theorem res_dk (H : Real m c q do' k v) : W4 m ρ c (Proc.devRef .tc main_v6_1)
    = fun i => ((dK (sq q) do' k v (pairOf (i 1)) (i 0) (kdimOf (i 1)) : ℝ) : EReal) :=
  (result_dk m ρ c).trans (AttnBwd.final8 (holds ρ H))

theorem res_dv (H : Real m c q do' k v) : W4 m ρ c (Proc.devRef .tc main_v6_2)
    = fun i => ((dV (sq q) do' k (pairOf (i 1)) (i 0) (kdimOf (i 1)) : ℝ) : EReal) :=
  (result_dv m ρ c).trans (AttnBwd.final9 (holds ρ H))

end Cert.AttnRun
-- ==== Proof.Attn.Ref.lean ====
/-
  The reference, operation by operation, as real numbers.
-/
module

public import proofs.«01_k».proof.Proof.Gen.AttnRefIdeal.Read
public import proofs.«01_k».proof.Proof.Attn.Soft

@[expose] public section

set_option maxRecDepth 16384

noncomputable section

namespace Cert.AttnRef

open Cert.AttnRefIdeal Cert.AttnRefIdeal.Gen Cert.AttnRefIdeal.Read Idealize.ShloMosaic Idealize.ShloMosaic.TcCoe Idealize.SL.Sem
open Cert.Soft (scale scale_eq sq P qcol head pair headOf dimOf pairOf kdimOf score A O dA dS dQ dK dV Z)

variable (x0 x3 : S4096x1024.Idx → EReal) (x1 x2 : S4096x256.Idx → EReal)

variable {x0 x3 : S4096x1024.Idx → EReal} {x1 x2 : S4096x256.Idx → EReal}
  {q do' : Fin 4096 → Fin 1024 → ℝ} {k v : Fin 4096 → Fin 256 → ℝ}

theorem scores (h0 : ∀ i d, x0 (ix2 i d) = q i d) (h1 : ∀ j d, x1 (ix2 j d) = k j d) (g : Fin 2) (r : Fin 4) (i j : Fin 4096) :
    val_main_v10 (F := Ideal) x0 x1 (ix5 0 g r i j) = ((score (sq q) k (head g r) i j : ℝ) : EReal) := by
  unfold val_main_v10 val_main_v9 val_main_cst val_main_v8 val_main_v7 val_main_v6 val_main_v3 val_main_v1 val_main_v2 val_main_v0
  pointwise
  simp only [h0, h1, scale_eq, ← EReal.coe_mul, Common.coe_sum, Soft.qcol_at, Soft.kcol_at g r]
  refine congrArg _ ?_
  unfold score Soft.sq
  rw [Finset.sum_mul]
  exact Finset.sum_congr rfl fun d _ => by ring

/-- A row's maximum, of any array of the scores' shape. -/
theorem row_max (y : S1x2x4x4096x4096.Idx → Elt Ideal .f32) (z : S_.Idx → Elt Ideal .f32) (g : Fin 2) (r : Fin 4) (i : Fin 4096) :
    Host.reduce (FloatOps.maximumf (F := Ideal) (φ := .f32)) y z reducesTo_S1x2x4x4096x4096_S1x2x4x4096_d4 h_S_ (ix4 0 g r i)
      = Finset.univ.fold max (z (Shape.Idx.first h_S_) : EReal) (fun j : Fin 4096 => (y (ix5 0 g r i j) : EReal)) := by
  pointwise

theorem maxima (h0 : ∀ i d, x0 (ix2 i d) = q i d) (h1 : ∀ j d, x1 (ix2 j d) = k j d) (g : Fin 2) (r : Fin 4) (i : Fin 4096) :
    ∃ M : ℝ, val_main_v18 (F := Ideal) x0 x1 (ix4 0 g r i) = M := by
  obtain ⟨M, hM⟩ := Soft.fold_max (score (Soft.sq q) k (head g r) i)
  have e : val_main_v11 (F := Ideal) x0 x1 (ix4 0 g r i) = (M : EReal) := by
    refine (row_max _ _ g r i).trans (Eq.trans ?_ hM)
    rw [show val_main_cst_0 (F := Ideal) (Shape.Idx.first h_S_) = Ideal.ofBits .f32 0xFF800000#32 from rfl]
    exact Finset.fold_congr fun j _ => scores h0 h1 g r i j
  refine ⟨M, ?_⟩
  rw [val_main_v18_apply, e]
  exact (congrArg (max · (M : EReal)) Soft.neg_inf).trans (max_eq_right bot_le)

/-- The scores of a row less a real number: the weights the reference forms, before and after it divides. -/
theorem weights (h0 : ∀ i d, x0 (ix2 i d) = q i d) (h1 : ∀ j d, x1 (ix2 j d) = k j d) (g : Fin 2) (r : Fin 4) (i : Fin 4096) :
    ∃ M : ℝ, (∀ j, val_main_v31 (F := Ideal) x0 x1 (ix5 0 g r i j) = ((Real.exp (score (sq q) k (head g r) i j - M) : ℝ) : EReal))
      ∧ val_main_v33 (F := Ideal) x0 x1 (ix5 0 g r i 0) = ((Z (score (sq q) k (head g r) i) * Real.exp (-M) : ℝ) : EReal) := by
  obtain ⟨M, hM⟩ := maxima h0 h1 g r i
  have h := scores h0 h1 g r i
  have e : ∀ j, val_main_v31 (F := Ideal) x0 x1 (ix5 0 g r i j) = ((Real.exp (score (sq q) k (head g r) i j - M) : ℝ) : EReal) := fun j => by
    unfold val_main_v31 val_main_v30 val_main_v29 val_main_v28
    generalize val_main_v10 (F := Ideal) x0 x1 = y at h ⊢
    generalize val_main_v18 (F := Ideal) x0 x1 = z at hM ⊢
    pointwise
    rw [h, hM, Soft.exp_sub]
  refine ⟨M, e, ?_⟩
  unfold val_main_v33 val_main_v32 val_main_cst_8
  generalize val_main_v31 (F := Ideal) x0 x1 = y at e ⊢
  pointwise
  simp only [e, Common.coe_sum, Soft.sum_shift]

theorem probs (h0 : ∀ i d, x0 (ix2 i d) = q i d) (h1 : ∀ j d, x1 (ix2 j d) = k j d) (g : Fin 2) (r : Fin 4) (i j : Fin 4096) :
    val_main_v35 (F := Ideal) x0 x1 (ix5 0 g r i j) = ((A (sq q) k (head g r) i j : ℝ) : EReal) := by
  obtain ⟨M, e, l⟩ := weights h0 h1 g r i
  unfold val_main_v35 val_main_v34
  generalize val_main_v31 (F := Ideal) x0 x1 = y at e ⊢
  generalize val_main_v33 (F := Ideal) x0 x1 = z at l ⊢
  pointwise
  rw [e, l, Soft.div_real (mul_pos (Soft.Z_pos _) (Real.exp_pos _)).ne', Soft.shift_div]
  rfl

theorem dots (h3 : ∀ i d, x3 (ix2 i d) = do' i d) (h2 : ∀ j d, x2 (ix2 j d) = v j d) (g : Fin 2) (r : Fin 4) (i j : Fin 4096) :
    val_main_v46 (F := Ideal) x2 x3 (ix5 0 g r i j) = ((dA do' v (head g r) i j : ℝ) : EReal) := by
  unfold val_main_v46 val_main_v45 val_main_v44 val_main_v43 val_main_v42 val_main_v5 val_main_v4
  pointwise
  simp only [h2, h3, ← EReal.coe_mul, Common.coe_sum, Soft.qcol_at, Soft.kcol_at g r]
  rfl

theorem one_eq : Ideal.ofBits .f32 0x3F800000#32 = ((1 : ℝ) : EReal) := by
  simp [Ideal.ofBits, Ideal.ieee, -EReal.coe_mul]; norm_num

/-- The scores' cotangent, scaled. -/
theorem cots (h0 : ∀ i d, x0 (ix2 i d) = q i d) (h1 : ∀ j d, x1 (ix2 j d) = k j d) (h3 : ∀ i d, x3 (ix2 i d) = do' i d)
    (h2 : ∀ j d, x2 (ix2 j d) = v j d) (g : Fin 2) (r : Fin 4) (i j : Fin 4096) :
    val_main_v63 (F := Ideal) x0 x1 x2 x3 (ix5 0 g r i j) = ((dS (sq q) do' k v (head g r) i j * scale : ℝ) : EReal) := by
  obtain ⟨M, e, l⟩ := weights h0 h1 g r i
  have d := dots h3 h2 g r i
  have p := mul_pos (Soft.Z_pos (score (sq q) k (head g r) i)) (Real.exp_pos (-M))
  unfold val_main_v63 val_main_v62 val_main_cst_12 val_main_v61 val_main_v60 val_main_v59 val_main_v58 val_main_v57 val_main_v56
    val_main_v55 val_main_v54 val_main_v53 val_main_v52 val_main_v51 val_main_v50 val_main_v49 val_main_v38 val_main_v37 val_main_v36
    val_main_cst_9 val_main_cst_10 val_main_cst_11
  generalize val_main_v31 (F := Ideal) x0 x1 = y at e ⊢
  generalize val_main_v33 (F := Ideal) x0 x1 = z at l ⊢
  generalize val_main_v46 (F := Ideal) x2 x3 = w at d ⊢
  pointwise
  rw [Common.hostReduceAdd_one (e := ix5 0 g r i 0) _ _ _ _ (fun i' => ?_)]
  · pointwise
    simp only [d, e, l, scale_eq, one_eq]
    have n := p.ne'
    rw [Soft.div_real n, ← EReal.coe_one, ← EReal.coe_mul, Soft.div_real (mul_ne_zero n n)]
    simp only [← EReal.coe_mul, Common.coe_sum, ← EReal.coe_neg, ← EReal.coe_add]
    refine congrArg _ (congrArg (· * scale) ?_)
    unfold dS
    rw [← Soft.sum_dA]
    have a : ∀ x, A (Soft.sq q) k (head g r) i x
        = Real.exp (score (Soft.sq q) k (head g r) i x - M) / (Z (score (Soft.sq q) k (head g r) i) * Real.exp (-M)) :=
      fun x => (Soft.shift_div _ M x).symm
    simp only [a]
    generalize Z (score (Soft.sq q) k (head g r) i) * Real.exp (-M) = l at n ⊢
    rw [add_mul, neg_mul, Finset.sum_mul, mul_sub, Finset.mul_sum, sub_eq_add_neg]
    refine congrArg₂ _ (by field_simp) (congrArg _ (Finset.sum_congr rfl fun x _ => by field_simp))
  · refine ⟨fun e' => ?_, ?_⟩
    · funext a
      apply Fin.ext
      match a with
      | ⟨0, _⟩ => exact Nat.lt_one_iff.mp (i' 0).isLt
      | ⟨1, _⟩ => exact congrArg Fin.val (congrFun e' 0)
      | ⟨2, _⟩ => exact congrArg Fin.val (congrFun e' 1)
      | ⟨3, _⟩ => exact congrArg Fin.val (congrFun e' 2)
      | ⟨4, _⟩ => exact Nat.lt_one_iff.mp (i' 4).isLt
    · rintro rfl
      funext b
      apply Fin.ext
      match b with
      | ⟨0, _⟩ => rfl
      | ⟨1, _⟩ => rfl
      | ⟨2, _⟩ => rfl

/-! ### The four results -/

theorem res_o (h0 : ∀ i d, x0 (ix2 i d) = q i d) (h1 : ∀ j d, x1 (ix2 j d) = k j d)
    (h2 : ∀ j d, x2 (ix2 j d) = v j d) : val_main_v71 (F := Ideal) x0 x1 x2
    = fun i => ((O (Soft.sq q) k v (headOf (i 1)) (i 0) (dimOf (i 1)) : ℝ) : EReal) := by
  funext i
  idx_vars i
  have p := probs h0 h1
  unfold val_main_v71 val_main_v70 val_main_v41 val_main_v40 val_main_v39 val_main_v5 val_main_v4
  generalize val_main_v35 (F := Ideal) x0 x1 = y at p ⊢
  pointwise
  simp only [p, h2, ← EReal.coe_mul, Common.coe_sum]
  simp only [Soft.head_at, Soft.kcol_of]
  exact congrArg _ (Finset.sum_congr rfl fun j _ => mul_comm _ _)

theorem res_dq (h0 : ∀ i d, x0 (ix2 i d) = q i d) (h1 : ∀ j d, x1 (ix2 j d) = k j d)
    (h3 : ∀ i d, x3 (ix2 i d) = do' i d) (h2 : ∀ j d, x2 (ix2 j d) = v j d) : val_main_v72 (F := Ideal) x0 x1 x2 x3
    = fun i => ((dQ (Soft.sq q) do' k v (headOf (i 1)) (i 0) (dimOf (i 1)) * scale : ℝ) : EReal) := by
  funext i
  idx_vars i
  have p := cots h0 h1 h3 h2
  unfold val_main_v72 val_main_v69 val_main_v66 val_main_v65 val_main_v64 val_main_v3 val_main_v2
  generalize val_main_v63 (F := Ideal) x0 x1 x2 x3 = y at p ⊢
  pointwise
  simp only [p, h1, ← EReal.coe_mul, Common.coe_sum]
  simp only [Soft.head_at, Soft.kcol_of]
  refine congrArg _ (Eq.trans ?_ (Finset.sum_mul _ _ _).symm)
  exact Finset.sum_congr rfl fun j _ => by ring

theorem res_dk (h0 : ∀ i d, x0 (ix2 i d) = q i d) (h1 : ∀ j d, x1 (ix2 j d) = k j d)
    (h3 : ∀ i d, x3 (ix2 i d) = do' i d) (h2 : ∀ j d, x2 (ix2 j d) = v j d) : val_main_v73 (F := Ideal) x0 x1 x2 x3
    = fun i => ((dK (Soft.sq q) do' k v (pairOf (i 1)) (i 0) (kdimOf (i 1)) : ℝ) : EReal) := by
  funext i
  idx_vars i
  have p := cots h0 h1 h3 h2
  unfold val_main_v73 val_main_v68 val_main_v67 val_main_v64 val_main_v6 val_main_v1 val_main_v0
  generalize val_main_v63 (F := Ideal) x0 x1 x2 x3 = y at p ⊢
  pointwise
  simp only [p, h0, ← EReal.coe_mul, Common.coe_sum]
  simp only [Soft.qcol_of]
  refine congrArg _ (Finset.sum_comm.trans ?_)
  exact Finset.sum_congr rfl fun r _ => Finset.sum_congr rfl fun i _ => by unfold Soft.sq pairOf; ring

theorem res_dv (h0 : ∀ i d, x0 (ix2 i d) = q i d) (h1 : ∀ j d, x1 (ix2 j d) = k j d)
    (h3 : ∀ i d, x3 (ix2 i d) = do' i d) : val_main_v74 (F := Ideal) x0 x1 x3
    = fun i => ((dV (Soft.sq q) do' k (pairOf (i 1)) (i 0) (kdimOf (i 1)) : ℝ) : EReal) := by
  funext i
  idx_vars i
  have p := probs h0 h1
  unfold val_main_v74 val_main_v48 val_main_v47 val_main_v45 val_main_v44 val_main_v43 val_main_v42
  generalize val_main_v35 (F := Ideal) x0 x1 = y at p ⊢
  pointwise
  simp only [p, h3, ← EReal.coe_mul, Common.coe_sum]
  simp only [Soft.qcol_of]
  exact congrArg _ (Finset.sum_congr rfl fun r _ => Finset.sum_congr rfl fun i _ => mul_comm _ _)

end Cert.AttnRef
-- ==== Proof.Attn.Value.lean ====
/-
  Attention, forward and backward: at finite arguments the kernel's four results are the reference's.
-/
module

public import proofs.«01_k».proof.Defs
public import proofs.«01_k».proof.Proof.Gen.Pre_attn_finite
public import proofs.«01_k».proof.Proof.Gen.AttnRefIdeal.Run
public import proofs.«01_k».proof.Proof.In.Common
public import proofs.«01_k».proof.Proof.Attn.Kernel
public import proofs.«01_k».proof.Proof.Attn.Ref

@[expose] public section

set_option maxRecDepth 16384

noncomputable section

namespace Cert.Attn

open Idealize.ShloMosaic Idealize.ShloMosaic.TcCoe Idealize.SL.Sem

instance : Subsingleton (Cert.Pre_attn_finite.S_).Idx := ⟨fun a b => funext fun i => i.elim0⟩

theorem frame_ref : Cert.quiescent_AttnRefIdeal := fun m ρ _ =>
  (θ_run _ _ _).mono (fun r h => ⟨fun c => (h c).2.2.2.2, sem_eq_zero_of_no_sems (by decide) r.2⟩) (AttnRefIdeal.Value.run m ρ)

/-- The precondition makes the four arguments real numbers. -/
theorem reals (m : (ℓ : Loc Cert.AttnIdeal.nD Cert.AttnIdeal.τ Cert.AttnIdeal.sig) → Buf (Elt Ideal) ℓ)
    (h : Pre_AttnIdeal_attn_finite m) (c : Dev Cert.AttnIdeal.nD) : ∃ q do' k v, AttnRun.Real m c q do' k v := by
  have hc := congrFun (h c) fun i => i.elim0
  obtain ⟨h012, h3⟩ := IntOp.andi_eq_one.mp hc
  obtain ⟨h01, h2⟩ := IntOp.andi_eq_one.mp h012
  obtain ⟨h0, h1⟩ := IntOp.andi_eq_one.mp h01
  obtain ⟨q, hq⟩ := Common.reals_of_all _ _ (fun _ => rfl) _ _ _ _ h0
  obtain ⟨k, hk⟩ := Common.reals_of_all _ _ (fun _ => rfl) _ _ _ _ h1
  obtain ⟨v, hv⟩ := Common.reals_of_all _ _ (fun _ => rfl) _ _ _ _ h2
  obtain ⟨g, hg⟩ := Common.reals_of_all _ _ (fun _ => rfl) _ _ _ _ h3
  exact ⟨fun i d => q (ix2 i d), fun i d => g (ix2 i d), fun j d => k (ix2 j d), fun j d => v (ix2 j d),
    fun i d => hq _, fun j d => hk _, fun j d => hv _, fun i d => hg _⟩

theorem algebraic : Cert.algebraic_AttnIdeal_AttnRefIdeal_pre_attn_finite := fun m ρ m' ρ' hpre hag => by
  refine ⟨_, _, _, _, (θ_run _ _ _).mono (fun r h c =>
      ⟨(h c).1.1, (h c).1.2.1, (h c).1.2.2.1, (h c).1.2.2.2, (h c).2⟩) (AttnRun.run m ρ),
    (θ_run _ _ _).mono (fun r h c => ⟨(h c).1.trans ?_, (h c).2.1.trans ?_, (h c).2.2.1.trans ?_, (h c).2.2.2.1.trans ?_, (h c).2.2.2.2⟩)
      (AttnRefIdeal.Value.run m' ρ')⟩
  all_goals
    obtain ⟨q, do', k, v, H⟩ := reals m hpre c
    obtain ⟨g0, g1, g2, g3⟩ := hag c
    have a0 : ∀ i d, m' ((c.tc : Thread AttnRefIdeal.nD AttnRefIdeal.τ).loc AttnRefIdeal.main_arg0) (ix2 i d) = (q i d : EReal) :=
      fun i d => (congrFun g0 _).trans (H.hq i d)
    have a1 : ∀ j d, m' ((c.tc : Thread AttnRefIdeal.nD AttnRefIdeal.τ).loc AttnRefIdeal.main_arg1) (ix2 j d) = (k j d : EReal) :=
      fun j d => (congrFun g1 _).trans (H.hk j d)
    have a2 : ∀ j d, m' ((c.tc : Thread AttnRefIdeal.nD AttnRefIdeal.τ).loc AttnRefIdeal.main_arg2) (ix2 j d) = (v j d : EReal) :=
      fun j d => (congrFun g2 _).trans (H.hw j d)
    have a3 : ∀ i d, m' ((c.tc : Thread AttnRefIdeal.nD AttnRefIdeal.τ).loc AttnRefIdeal.main_arg3) (ix2 i d) = (do' i d : EReal) :=
      fun i d => (congrFun g3 _).trans (H.hg i d)
  · exact (AttnRefIdeal.Read.val_main_v71_eq (F := Ideal) _ _ _).trans ((AttnRef.res_o a0 a1 a2).trans (AttnRun.res_o ρ H).symm)
  · exact (AttnRefIdeal.Read.val_main_v72_eq (F := Ideal) m' c).trans ((AttnRef.res_dq a0 a1 a3 a2).trans (AttnRun.res_dq ρ H).symm)
  · exact (AttnRefIdeal.Read.val_main_v73_eq (F := Ideal) m' c).trans ((AttnRef.res_dk a0 a1 a3 a2).trans (AttnRun.res_dk ρ H).symm)
  · exact (AttnRefIdeal.Read.val_main_v74_eq (F := Ideal) _ _ _).trans ((AttnRef.res_dv a0 a1 a3).trans (AttnRun.res_dv ρ H).symm)

end Cert.Attn
-- ==== Proof.Ple.Kernel.lean ====
/-
  What the backward of the per-layer gate's norm leaves in its three result arrays, element by element.
-/
module

public import proofs.«01_k».proof.Proof.Gen.PleBwdIdeal.Value
public import proofs.«01_k».proof.Proof.In.Algebra

@[expose] public section

set_option maxRecDepth 16384

noncomputable section

namespace Cert.PleKernel

open Cert.PleBwdIdeal Cert.PleBwdIdeal.Gen Idealize.ShloMosaic Idealize.ShloMosaic.TcCoe Idealize.SL.Sem
open Idealize.ShloMosaic.Pipeline (Dat)
open Cert.Norm

variable (m : (ℓ : Loc nD τ sig) → Buf (Elt Ideal) ℓ) (c : Dev nD)

abbrev S (r : Fin 4096) (k : Fin 2048) : EReal := m ((c : Thread nD τ).loc main_arg0) (ix2 r k)
abbrev W (j k : Fin 2048) : EReal := m ((c : Thread nD τ).loc main_arg1) (ix2 j k)
abbrev X (r : Fin 4096) (k : Fin 2048) : EReal := m ((c : Thread nD τ).loc main_arg2) (ix2 r k)
abbrev E (r : Fin 4096) (k : Fin 2048) : EReal := m ((c : Thread nD τ).loc main_arg3) (ix2 r k)
abbrev G (k : Fin 2048) : EReal := m ((c : Thread nD τ).loc main_arg4) (ix2 0 k)

/-- The cotangent of the norm: the gate's cotangent times the weight transposed. -/
abbrev D (r : Fin 4096) (k : Fin 2048) : EReal := ∑ j, S m c r j * W m c k j

theorem idx : ∀ t : Fin grid0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0] := by
  decide +kernel

/-- Row `a` of the `t`-th block of 512 rows. -/
def row (t : Fin cfg0.N) (a : Fin 512) : Fin 4096 :=
  ⟨t.val * 512 + a.val, by have := t.isLt; have : cfg0.N = 8 := N_0; omega⟩

theorem read0 (t : Fin cfg0.N) (a : Fin 512) (k : Fin 2048) : iblk m c 0 t (ix2 a k) = S m c (row t a) k := by
  unfold S row; blk_ext! [iblk, V, idx t]
theorem read1 (t : Fin cfg0.N) (j k : Fin 2048) : iblk m c 1 t (ix2 j k) = W m c j k := by
  unfold W; blk_ext! [iblk, V, idx t]
theorem read2 (t : Fin cfg0.N) (a : Fin 512) (k : Fin 2048) : iblk m c 2 t (ix2 a k) = X m c (row t a) k := by
  unfold X row; blk_ext! [iblk, V, idx t]
theorem read3 (t : Fin cfg0.N) (a : Fin 512) (k : Fin 2048) : iblk m c 3 t (ix2 a k) = E m c (row t a) k := by
  unfold E row; blk_ext! [iblk, V, idx t]
theorem read4 (t : Fin cfg0.N) (a : Fin 1) (k : Fin 2048) : iblk m c 4 t (ix2 a k) = G m c k := by
  unfold G; blk_ext! [iblk, V, idx t]

theorem emb5 (t : Fin cfg0.N) (a : Fin 512) (k : Fin 2048) : ((cfg0.win 5).blk t).view.emb (ix2 a k) = ix2 (row t a) k := by
  unfold row; blk_ext! [idx t]
theorem emb6 (t : Fin cfg0.N) (a : Fin 512) (k : Fin 2048) : ((cfg0.win 6).blk t).view.emb (ix2 a k) = ix2 (row t a) k := by
  unfold row; blk_ext! [idx t]

theorem final5 : (dats m 0 c).arrAt 5 cfg0.N
    = fun i => dx (X m c (i 0)) (D m c (i 0)) (G m c) (E m c (i 0) (i 1)) (i 1) := by
  refine (dats m 0 c).arrAt_eq_of_covers 5 _ (by decide +kernel) fun t hf y => ?_
  idx_vars y
  rw [emb5]
  blk_simp
  rw [after0_5]
  by_cases h0 : t.val % 8 = 0
  all_goals
    first | rw [outsAt0_A m c t h0] | rw [outsAt0_B m c t h0]
    frame_out
    unfold_payloads
    pointwise
    simp only [read0, read1, read2, read3, read4]
    rfl

theorem final6 : (dats m 0 c).arrAt 6 cfg0.N
    = fun i => dx (X m c (i 0)) (D m c (i 0)) (G m c) (E m c (i 0) (i 1)) (i 1) := by
  refine (dats m 0 c).arrAt_eq_of_covers 6 _ (by decide +kernel) fun t hf y => ?_
  idx_vars y
  rw [emb6]
  blk_simp
  rw [after0_6]
  by_cases h0 : t.val % 8 = 0
  all_goals
    first | rw [outsAt0_A m c t h0] | rw [outsAt0_B m c t h0]
    frame_out
    unfold_payloads
    pointwise
    simp only [read0, read1, read2, read3, read4]
    rfl

theorem final7 : (dats m 0 c).arrAt 7 cfg0.N
    = fun i => ∑ r : Fin 4096, D m c r (i 1) * (X m c r (i 1) * rinv (X m c r)) := by
  refine (dats m 0 c).arrAt_eq_of_after_last 7 t0_7 (by decide +kernel) _ fun j => ?_
  idx_vars j
  rw [after0_7]
  refine (Pipeline.eq_sum_fin_of_reset_step_apply_last (fun n h => (outsAt0 m c n h).2.2) 8 (fun _ => (0 : EReal))
      (fun t i => ∑ a : Fin 512, D m c (row t a) (i 1) * (X m c (row t a) (i 1) * rinv (X m c (row t a))))
      (fun t h j => ?_) (fun t h j => ?_) (by decide) t0_7 rfl _).trans ?_
  · rw [outsAt0_A m c t h]; frame_out; unfold_payloads; idx_vars j; pointwise; simp only [read0, read1, read2]; rfl
  · rw [outsAt0_B m c t h]; frame_out; unfold_payloads; idx_vars j; pointwise; simp only [read0, read1, read2]; rfl
  · rw [zero_add]
    exact Fin.sum_mul_add_congr (S := 8) (n := 512) (fun s k hl => rfl) rfl

end Cert.PleKernel
-- ==== Proof.Ple.Ref.lean ====
/-
  The derivative of the per-layer gate's norm and product and of the residual branch, element by element, after the
  reference's run.
-/
module

public import proofs.«01_k».proof.Proof.Gen.PleRefIdeal.Run
public import proofs.«01_k».proof.Proof.In.Algebra
public import Idealize.ShloMosaic.Lib.Tactic.CleanTypes

@[expose] public section

set_option maxRecDepth 16384

noncomputable section

namespace Cert.PleRef

open Cert.PleRefIdeal Idealize.ShloMosaic Idealize.ShloMosaic.TcCoe Idealize.SL.Sem
open Cert.Norm

variable (m : (ℓ : Loc nD τ sig) → Buf (Elt Ideal) ℓ) (ρ : Dev nD → PrngReg) (c : Dev nD)

abbrev S (r : Fin 4096) (k : Fin 2048) : EReal := m ((c.tc : Thread nD τ).loc main_arg0) (ix2 r k)
abbrev W (j k : Fin 2048) : EReal := m ((c.tc : Thread nD τ).loc main_arg1) (ix2 j k)
abbrev X (r : Fin 4096) (k : Fin 2048) : EReal := m ((c.tc : Thread nD τ).loc main_arg2) (ix2 r k)
abbrev E (r : Fin 4096) (k : Fin 2048) : EReal := m ((c.tc : Thread nD τ).loc main_arg3) (ix2 r k)
abbrev G (k : Fin 2048) : EReal := m ((c.tc : Thread nD τ).loc main_arg4) (ix2 0 k)
abbrev D (r : Fin 4096) (k : Fin 2048) : EReal := ∑ j, S m c r j * W m c k j

theorem dx_apply (a : Fin 4096) (k : Fin 2048) :
    Cert.PleRefIdeal.Value.res_out0 m c (ix2 a k) = dxRev (X m c a) (D m c a) (G m c) (E m c a k) k := by
  unfold Cert.PleRefIdeal.Value.res_out0 Cert.PleRefIdeal.Value.res_main_v41
  clean_types
  pointwise
  simp only [Fin.sum_univ_one]
  rfl

theorem dxb_apply (a : Fin 4096) (k : Fin 2048) :
    Cert.PleRefIdeal.Value.res_out1 m c (ix2 a k) = dxRev (X m c a) (D m c a) (G m c) (E m c a k) k := by
  exact dx_apply m c a k

theorem run : θ_run defs (onTc (τ := τ) (main (F := Ideal))) ⟨m, fun _ => 0, ρ⟩ fun r => ∀ c : Dev nD,
      (r.2.mem ((c.tc : Thread nD τ).loc main_v41) = (fun i => dxRev (X m c (i 0)) (D m c (i 0)) (G m c) (E m c (i 0) (i 1)) (i 1))
      ∧ r.2.mem ((c.tc : Thread nD τ).loc main_v43) = (fun i => dxRev (X m c (i 0)) (D m c (i 0)) (G m c) (E m c (i 0) (i 1)) (i 1))
      ∧ r.2.mem ((c.tc : Thread nD τ).loc main_v42) = (fun i => ∑ a : Fin 4096, X m c a (i 1) * rinv (X m c a) * D m c a (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨⟨(h c).1.trans ?_, (h c).2.1.trans ?_, (h c).2.2.1.trans ?_⟩, (h c).2.2.2⟩)
    (Cert.PleRefIdeal.Value.run m ρ)
  · funext i
    obtain ⟨a, k, rfl⟩ : ∃ (a : Fin 4096) (k : Fin 2048), i = ix2 a k := ⟨i 0, i 1, eq_ix2 i⟩
    exact dx_apply m c a k
  · funext i
    obtain ⟨a, k, rfl⟩ : ∃ (a : Fin 4096) (k : Fin 2048), i = ix2 a k := ⟨i 0, i 1, eq_ix2 i⟩
    exact dxb_apply m c a k
  · funext i
    obtain ⟨a, k, rfl⟩ : ∃ (a : Fin 1) (k : Fin 2048), i = ix2 a k := ⟨i 0, i 1, eq_ix2 i⟩
    clean_types
    pointwise
    rw [Fin.sum_univ_one]
    rfl

end Cert.PleRef
-- ==== Proof.Ple.Value.lean ====
/-
  The backward of the per-layer gate's norm: the kernel's three results are the derivative's, at finite arguments.
-/
module

public import proofs.«01_k».proof.Defs
public import proofs.«01_k».proof.Proof.Gen.Pre_ple_finite
public import proofs.«01_k».proof.Proof.Ple.Kernel
public import proofs.«01_k».proof.Proof.Ple.Ref

@[expose] public section

set_option maxRecDepth 16384

noncomputable section

namespace Cert.Ple

open Idealize.ShloMosaic Idealize.ShloMosaic.TcCoe Idealize.SL.Sem

instance : Subsingleton (Cert.Pre_ple_finite.S_).Idx := ⟨fun a b => funext fun i => i.elim0⟩

theorem frame_ref : Cert.quiescent_PleRefIdeal := fun m ρ _ =>
  (θ_run _ _ _).mono (fun r h => ⟨fun c => (h c).2, sem_eq_zero_of_no_sems (by decide) r.2⟩) (PleRef.run m ρ)

/-- The precondition makes the cotangent, the weight, the rows and the gain real numbers, and with them the product. -/
theorem reals (m : (ℓ : Loc Cert.PleBwdIdeal.nD Cert.PleBwdIdeal.τ Cert.PleBwdIdeal.sig) → Buf (Elt Ideal) ℓ)
    (h : Pre_PleBwdIdeal_ple_finite m) (c : Dev Cert.PleBwdIdeal.nD) :
    ∃ (d x : Fin 4096 → Fin 2048 → ℝ) (g : Fin 2048 → ℝ), PleKernel.D m c = (fun r k => (d r k : EReal))
      ∧ PleKernel.X m c = (fun r k => (x r k : EReal)) ∧ PleKernel.G m c = fun k => (g k : EReal) := by
  have hc := congrFun (h c) fun i => i.elim0
  obtain ⟨h012, h3⟩ := IntOp.andi_eq_one.mp hc
  obtain ⟨h01, h2⟩ := IntOp.andi_eq_one.mp h012
  obtain ⟨h0, h1⟩ := IntOp.andi_eq_one.mp h01
  obtain ⟨s, hs⟩ := Common.reals_of_all _ _ (fun _ => rfl) _ _ _ _ h0
  obtain ⟨w, hw⟩ := Common.reals_of_all _ _ (fun _ => rfl) _ _ _ _ h1
  obtain ⟨x, hx⟩ := Common.reals_of_all _ _ (fun _ => rfl) _ _ _ _ h2
  obtain ⟨g, hg⟩ := Common.reals_of_all _ _ (fun _ => rfl) _ _ _ _ h3
  refine ⟨fun r k => ∑ j, s (ix2 r j) * w (ix2 k j), fun r k => x (ix2 r k), fun k => g (ix2 0 k), funext₂ fun r k => ?_,
    funext₂ fun r k => hx _, funext fun k => hg _⟩
  rw [← Common.coe_sum]
  exact Finset.sum_congr rfl fun j _ => (congrArg₂ (· * ·) (hs (ix2 r j)) (hw (ix2 k j))).trans (EReal.coe_mul _ _).symm

theorem algebraic : Cert.algebraic_PleBwdIdeal_PleRefIdeal_pre_ple_finite := fun m ρ m' ρ' hpre hag => by
  refine ⟨fun c => (Cert.PleBwdIdeal.Gen.dats m 0 c).arrAt 5 Cert.PleBwdIdeal.cfg0.N,
    fun c => (Cert.PleBwdIdeal.Gen.dats m 0 c).arrAt 6 Cert.PleBwdIdeal.cfg0.N,
    fun c => (Cert.PleBwdIdeal.Gen.dats m 0 c).arrAt 7 Cert.PleBwdIdeal.cfg0.N, Cert.PleBwdIdeal.Value.run_blocks m ρ,
    (θ_run _ _ _).mono (fun r h c => ⟨(h c).1.1.trans ?_, (h c).1.2.1.trans ?_, (h c).1.2.2.trans ?_, (h c).2⟩) (PleRef.run m' ρ')⟩
  all_goals
    obtain ⟨d, x, g, h2, h1, h3⟩ := reals m hpre c
    obtain ⟨g0, g1, g2, g3, g4⟩ := hag c
    have hX : PleRef.X m' c = PleKernel.X m c := by unfold PleRef.X; rw [g2]
    have hG : PleRef.G m' c = PleKernel.G m c := by unfold PleRef.G; rw [g4]
    have hD : PleRef.D m' c = PleKernel.D m c := by unfold PleRef.D PleRef.S PleRef.W; rw [g0, g1]
    have hE : PleRef.E m' c = PleKernel.E m c := by unfold PleRef.E; rw [g3]
  · refine Eq.trans (funext fun i => ?_) (PleKernel.final5 m c).symm
    rw [hX, hD, hG, hE, h1, h2, h3]
    exact Norm.dxRev_eq_dx _ _ _ _ _
  · refine Eq.trans (funext fun i => ?_) (PleKernel.final6 m c).symm
    rw [hX, hD, hG, hE, h1, h2, h3]
    exact Norm.dxRev_eq_dx _ _ _ _ _
  · refine Eq.trans (funext fun i => ?_) (PleKernel.final7 m c).symm
    rw [hX, hD]
    exact Finset.sum_congr rfl fun a _ => mul_comm _ _

end Cert.Ple
-- ==== Proof.TailCall.Algebra.lean ====
/-
  The last norm under a squared error: the kernel's closed forms and those of reverse mode differentiation, equal at
  finite rows.
-/
module

public import proofs.«01_k».proof.Proof.In.Algebra

@[expose] public section

set_option maxRecDepth 16384

noncomputable section

namespace Cert.Loss

open Idealize.ShloMosaic
open Cert.Norm

/-- One element of a gated row: the residual stream `h`, the gate's argument `s`, the gated input `p`. -/
def mixed (h s p : EReal) : EReal := h + Ideal.logistic s * p

/-- The error of one element of a normed row against its target. -/
def err (x g t : Fin 2048 → EReal) (k : Fin 2048) : EReal := x k * rinv x * g k - t k

/-- Half the mean squared error's derivative in closed form. -/
def dy (x g t : Fin 2048 → EReal) (k : Fin 2048) : EReal := err x g t k * Ideal.ofBits .f32 0x3A000000#32

/-- The same as reverse mode writes it: the mean's cotangent times twice the error. -/
def dyRev (x g t : Fin 2048 → EReal) (k : Fin 2048) : EReal :=
  Ideal.div (Ideal.ofBits .f32 0x3F000000#32) (Ideal.ofBits .f32 0x45000000#32)
    * (Ideal.ofBits .f32 0x40000000#32 * err x g t k)

/-- The norm's derivative without a residual branch. -/
def dh (x d g : Fin 2048 → EReal) (k : Fin 2048) : EReal :=
  rinv x * (d k * g k - x k * rinv x * Ideal.div (∑ j, d j * g j * (x j * rinv x)) (Ideal.ofBits .f32 0x45000000#32))

def dhRev (x d g : Fin 2048 → EReal) (k : Fin 2048) : EReal :=
  d k * g k * rinv x + x k * dMeanSq x d g + dMeanSq x d g * x k

theorem dhRev_eq_dh (x d g : Fin 2048 → ℝ) (k : Fin 2048) :
    dhRev (fun k => (x k : EReal)) (fun k => (d k : EReal)) (fun k => (g k : EReal)) k
      = dh (fun k => (x k : EReal)) (fun k => (d k : EReal)) (fun k => (g k : EReal)) k := by
  have h := dxRev_eq_dx x d g 0 k
  unfold dxRev dx at h
  rw [zero_add, zero_add] at h
  exact h

/-- At real arguments the error is a real number, and the two derivatives of half its mean square agree. -/
theorem dyRev_eq_dy (x g t : Fin 2048 → ℝ) : ∃ d : Fin 2048 → ℝ,
    dy (fun k => (x k : EReal)) (fun k => (g k : EReal)) (fun k => (t k : EReal)) = (fun k => (d k : EReal))
    ∧ dyRev (fun k => (x k : EReal)) (fun k => (g k : EReal)) (fun k => (t k : EReal)) = fun k => (d k : EReal) := by
  obtain ⟨u, r, hu, hr, hru, hm, hrx⟩ := meanSq_coe x
  have ha : Ideal.ofBits .f32 0x3A000000#32 = ((1 / 2048 : ℝ) : EReal) := by simp [Ideal.ofBits, Ideal.ieee, -EReal.coe_mul]; norm_num
  have hb : Ideal.ofBits .f32 0x3F000000#32 = ((1 / 2 : ℝ) : EReal) := by simp [Ideal.ofBits, Ideal.ieee, -EReal.coe_mul]; norm_num
  have hc : Ideal.ofBits .f32 0x40000000#32 = ((2 : ℝ) : EReal) := by simp [Ideal.ofBits, Ideal.ieee, -EReal.coe_mul]; norm_num
  refine ⟨fun k => (x k * r * g k - t k) * (1 / 2048), funext fun k => ?_, funext fun k => ?_⟩
  · unfold dy err
    rw [hrx, ha]
    simp only [← EReal.coe_mul, ← EReal.coe_sub]
  · unfold dyRev err
    rw [hrx, hb, hc, Common.lit_2048, Ideal.div_coe (by norm_num)]
    simp only [← EReal.coe_mul, ← EReal.coe_sub]
    congr 1
    ring

/-- A gated element of real parts is real: the gate lies between its limits whatever its argument. -/
theorem logistic_real (s : EReal) : ∃ a : ℝ, Ideal.logistic s = a := by
  induction s with
  | bot => exact ⟨0, by simp⟩
  | top => exact ⟨1, by simp⟩
  | coe s => exact ⟨_, Ideal.logistic_coe s⟩

theorem half_sum {n : ℕ} (f : Fin n → EReal) :
    ∑ i, Ideal.ofBits .f32 0x3F000000#32 * f i = Ideal.ofBits .f32 0x3F000000#32 * ∑ i, f i := by
  have hb : Ideal.ofBits .f32 0x3F000000#32 = ((1 / 2 : ℝ) : EReal) := by simp [Ideal.ofBits, Ideal.ieee, -EReal.coe_mul]; norm_num
  rw [hb]
  induction n with
  | zero => simp
  | succ n ih =>
    rw [Fin.sum_univ_succ, ih, Fin.sum_univ_succ,
      EReal.left_distrib_of_nonneg_of_ne_top (by exact_mod_cast (by norm_num : (0 : ℝ) ≤ 1 / 2)) (EReal.coe_ne_top _)]

end Cert.Loss
-- ==== Proof.TailCall.Kernel.lean ====
/-
  What the last part of the forward pass with its gradients leaves in its five result arrays, element by element.
-/
module

public import proofs.«01_k».proof.Proof.Gen.TailIdeal.Value
public import proofs.«01_k».proof.Proof.TailCall.Algebra

@[expose] public section

set_option maxRecDepth 16384

noncomputable section

namespace Cert.TailKernel

open Cert.TailIdeal Cert.TailIdeal.Gen Idealize.ShloMosaic Idealize.ShloMosaic.TcCoe Idealize.SL.Sem
open Idealize.ShloMosaic.Pipeline (Dat)
open Cert.Norm Cert.Loss

variable (m : (ℓ : Loc nD τ sig) → Buf (Elt Ideal) ℓ) (c : Dev nD)

abbrev N2 (r : Fin 4096) (k : Fin 2048) : EReal := m ((c : Thread nD τ).loc main_arg0) (ix2 r k)
abbrev W (j k : Fin 2048) : EReal := m ((c : Thread nD τ).loc main_arg1) (ix2 j k)
abbrev H1 (r : Fin 4096) (k : Fin 2048) : EReal := m ((c : Thread nD τ).loc main_arg2) (ix2 r k)
abbrev PP (r : Fin 4096) (k : Fin 2048) : EReal := m ((c : Thread nD τ).loc main_arg3) (ix2 r k)
abbrev T (r : Fin 4096) (k : Fin 2048) : EReal := m ((c : Thread nD τ).loc main_arg4) (ix2 r k)
abbrev G (k : Fin 2048) : EReal := m ((c : Thread nD τ).loc main_arg5) (ix1 k)

/-- The rows of the gated residual stream. -/
abbrev X (r : Fin 4096) (k : Fin 2048) : EReal := mixed (H1 m c r k) (∑ j, N2 m c r j * W m c j k) (PP m c r k)
/-- The gate. -/
abbrev A (r : Fin 4096) (k : Fin 2048) : EReal := Ideal.logistic (∑ j, N2 m c r j * W m c j k)
/-- The gradient of the gated residual stream. -/
abbrev DH (r : Fin 4096) (k : Fin 2048) : EReal := dh (X m c r) (dy (X m c r) (G m c) (T m c r)) (G m c) k
/-- A row's mean squared error. -/
abbrev MS (r : Fin 4096) : EReal :=
  Ideal.div (∑ k, err (X m c r) (G m c) (T m c r) k * err (X m c r) (G m c) (T m c r) k) (Ideal.ofBits .f32 0x45000000#32)

theorem idx : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![0, 0]
    ∧ win0_6.index t = ![t.val, 0] ∧ win0_7.index t = ![t.val, 0] ∧ win0_8.index t = ![t.val, 0] := by
  decide +kernel

/-- Row `a` of the `t`-th block of 256 rows. -/
def row (t : Fin cfg0.N) (a : Fin 256) : Fin 4096 :=
  ⟨t.val * 256 + a.val, by have := t.isLt; have : cfg0.N = 16 := N_0; omega⟩

theorem read0 (t : Fin cfg0.N) (a : Fin 256) (k : Fin 2048) : iblk m c 0 t (ix2 a k) = N2 m c (row t a) k := by
  unfold N2 row; blk_ext! [iblk, V, idx t]
theorem read1 (t : Fin cfg0.N) (j k : Fin 2048) : iblk m c 1 t (ix2 j k) = W m c j k := by
  unfold W; blk_ext! [iblk, V, idx t]
theorem read2 (t : Fin cfg0.N) (a : Fin 256) (k : Fin 2048) : iblk m c 2 t (ix2 a k) = H1 m c (row t a) k := by
  unfold H1 row; blk_ext! [iblk, V, idx t]
theorem read3 (t : Fin cfg0.N) (a : Fin 256) (k : Fin 2048) : iblk m c 3 t (ix2 a k) = PP m c (row t a) k := by
  unfold PP row; blk_ext! [iblk, V, idx t]
theorem read4 (t : Fin cfg0.N) (a : Fin 256) (k : Fin 2048) : iblk m c 4 t (ix2 a k) = T m c (row t a) k := by
  unfold T row; blk_ext! [iblk, V, idx t]
theorem read5 (t : Fin cfg0.N) (a : Fin 1) (k : Fin 2048) : iblk m c 5 t (ix2 a k) = G m c k := by
  unfold G; blk_ext! [iblk, V, idx t]

theorem emb6 (t : Fin cfg0.N) (a : Fin 256) (k : Fin 2048) : ((cfg0.win 6).blk t).view.emb (ix2 a k) = ix2 (row t a) k := by
  unfold row; blk_ext! [idx t]
theorem emb7 (t : Fin cfg0.N) (a : Fin 256) (k : Fin 2048) : ((cfg0.win 7).blk t).view.emb (ix2 a k) = ix2 (row t a) k := by
  unfold row; blk_ext! [idx t]
theorem emb8 (t : Fin cfg0.N) (a : Fin 256) (k : Fin 2048) : ((cfg0.win 8).blk t).view.emb (ix2 a k) = ix2 (row t a) k := by
  unfold row; blk_ext! [idx t]

theorem final6 : (dats m 0 c).arrAt 6 cfg0.N = fun i => DH m c (i 0) (i 1) := by
  refine (dats m 0 c).arrAt_eq_of_covers 6 _ (by decide +kernel) fun t hf y => ?_
  idx_vars y
  rw [emb6]
  blk_simp
  rw [after0_6]
  by_cases h0 : t.val % 16 = 0
  all_goals
    first | rw [outsAt0_A m c t h0 h0] | rw [outsAt0_B m c t h0 h0]
    frame_out
    unfold_payloads
    pointwise
    simp only [read0, read1, read2, read3, read4, read5]
    rfl

theorem final7 : (dats m 0 c).arrAt 7 cfg0.N = fun i => DH m c (i 0) (i 1) * A m c (i 0) (i 1) := by
  refine (dats m 0 c).arrAt_eq_of_covers 7 _ (by decide +kernel) fun t hf y => ?_
  idx_vars y
  rw [emb7]
  blk_simp
  rw [after0_7]
  by_cases h0 : t.val % 16 = 0
  all_goals
    first | rw [outsAt0_A m c t h0 h0] | rw [outsAt0_B m c t h0 h0]
    frame_out
    unfold_payloads
    pointwise
    simp only [read0, read1, read2, read3, read4, read5]
    rfl

theorem final8 : (dats m 0 c).arrAt 8 cfg0.N = fun i => DH m c (i 0) (i 1) * PP m c (i 0) (i 1) * A m c (i 0) (i 1) * (1 - A m c (i 0) (i 1)) := by
  refine (dats m 0 c).arrAt_eq_of_covers 8 _ (by decide +kernel) fun t hf y => ?_
  idx_vars y
  rw [emb8]
  blk_simp
  rw [after0_8]
  by_cases h0 : t.val % 16 = 0
  all_goals
    first | rw [outsAt0_A m c t h0 h0] | rw [outsAt0_B m c t h0 h0]
    frame_out
    unfold_payloads
    pointwise
    simp only [read0, read1, read2, read3, read4, read5]
    rfl

theorem final9 : (dats m 0 c).arrAt 9 cfg0.N = fun _ => Ideal.ofBits .f32 0x3F000000#32 * ∑ r : Fin 4096, MS m c r := by
  refine (dats m 0 c).arrAt_eq_of_after_last 9 t0_15 (by decide +kernel) _ fun j => ?_
  idx_vars j
  rw [after0_9]
  refine (Pipeline.eq_sum_fin_of_reset_step_apply_last (fun n h => (outsAt0 m c n h).2.2.2.1) 16 (fun _ => (0 : EReal))
      (fun t i => Ideal.ofBits .f32 0x3F000000#32 * ∑ a : Fin 256, MS m c (row t a))
      (fun t h j => ?_) (fun t h j => ?_) (by decide) t0_15 rfl _).trans ?_
  · rw [outsAt0_A m c t h h]; frame_out; unfold_payloads; idx_vars j; pointwise; simp only [read0, read1, read2, read3, read4, read5, Fin.sum_univ_one]; rfl
  · rw [outsAt0_B m c t h h]; frame_out; unfold_payloads; idx_vars j; pointwise; simp only [read0, read1, read2, read3, read4, read5, Fin.sum_univ_one]; rfl
  · rw [zero_add, half_sum]
    exact congrArg _ (Fin.sum_mul_add_congr (S := 16) (n := 256) (fun s k hl => rfl) rfl)

theorem final10 : (dats m 0 c).arrAt 10 cfg0.N = fun i => ∑ r : Fin 4096,
    dy (X m c r) (G m c) (T m c r) (i 1) * (X m c r (i 1) * rinv (X m c r)) := by
  refine (dats m 0 c).arrAt_eq_of_after_last 10 t0_15 (by decide +kernel) _ fun j => ?_
  idx_vars j
  rw [after0_10]
  refine (Pipeline.eq_sum_fin_of_reset_step_apply_last (fun n h => (outsAt0 m c n h).2.2.2.2) 16 (fun _ => (0 : EReal))
      (fun t i => ∑ a : Fin 256, dy (X m c (row t a)) (G m c) (T m c (row t a)) (i 1)
        * (X m c (row t a) (i 1) * rinv (X m c (row t a))))
      (fun t h j => ?_) (fun t h j => ?_) (by decide) t0_15 rfl _).trans ?_
  · rw [outsAt0_A m c t h h]; frame_out; unfold_payloads; idx_vars j; pointwise; simp only [read0, read1, read2, read3, read4, read5]; rfl
  · rw [outsAt0_B m c t h h]; frame_out; unfold_payloads; idx_vars j; pointwise; simp only [read0, read1, read2, read3, read4, read5]; rfl
  · rw [zero_add]
    exact Fin.sum_mul_add_congr (S := 16) (n := 256) (fun s k hl => rfl) rfl

end Cert.TailKernel
-- ==== Proof.TailCall.Ref.lean ====
module

public import proofs.«01_k».proof.Proof.Gen.TailRefIdeal.Run
public import proofs.«01_k».proof.Proof.TailCall.Algebra
public import Idealize.ShloMosaic.Lib.Tactic.CleanTypes

@[expose] public section

set_option maxRecDepth 16384

noncomputable section

namespace Cert.TailRef

open Cert.TailRefIdeal Idealize.ShloMosaic Idealize.ShloMosaic.TcCoe Idealize.SL.Sem
open Cert.Norm Cert.Loss

variable (m : (ℓ : Loc nD τ sig) → Buf (Elt Ideal) ℓ) (ρ : Dev nD → PrngReg) (c : Dev nD)

abbrev N2 (r : Fin 4096) (k : Fin 2048) : EReal := m ((c.tc : Thread nD τ).loc main_arg0) (ix2 r k)
abbrev W (j k : Fin 2048) : EReal := m ((c.tc : Thread nD τ).loc main_arg1) (ix2 j k)
abbrev H1 (r : Fin 4096) (k : Fin 2048) : EReal := m ((c.tc : Thread nD τ).loc main_arg2) (ix2 r k)
abbrev PP (r : Fin 4096) (k : Fin 2048) : EReal := m ((c.tc : Thread nD τ).loc main_arg3) (ix2 r k)
abbrev T (r : Fin 4096) (k : Fin 2048) : EReal := m ((c.tc : Thread nD τ).loc main_arg4) (ix2 r k)
abbrev G (k : Fin 2048) : EReal := m ((c.tc : Thread nD τ).loc main_arg5) (ix1 k)

/-- The rows of the gated residual stream. -/
abbrev X (r : Fin 4096) (k : Fin 2048) : EReal := mixed (H1 m c r k) (∑ j, N2 m c r j * W m c j k) (PP m c r k)
/-- The gate. -/
abbrev A (r : Fin 4096) (k : Fin 2048) : EReal := Ideal.logistic (∑ j, N2 m c r j * W m c j k)
/-- The gradient of the gated residual stream. -/
abbrev DH (r : Fin 4096) (k : Fin 2048) : EReal := dhRev (X m c r) (dyRev (X m c r) (G m c) (T m c r)) (G m c) k
/-- A row's mean squared error. -/
abbrev MS (r : Fin 4096) : EReal :=
  Ideal.div (∑ k, err (X m c r) (G m c) (T m c r) k * err (X m c r) (G m c) (T m c r) k) (Ideal.ofBits .f32 0x45000000#32)

theorem out0_apply (a : Fin 4096) (k : Fin 2048) : Cert.TailRefIdeal.Value.res_out0 m c (ix2 a k) = DH m c a k := by
  unfold Cert.TailRefIdeal.Value.res_out0 Cert.TailRefIdeal.Value.res_main_v65
  clean_types
  pointwise
  simp only [Fin.sum_univ_one]
  rfl

theorem out1_apply (a : Fin 4096) (k : Fin 2048) : Cert.TailRefIdeal.Value.res_out1 m c (ix2 a k) = A m c a k * DH m c a k := by
  unfold Cert.TailRefIdeal.Value.res_out1 Cert.TailRefIdeal.Value.res_main_v69
  clean_types
  pointwise
  simp only [Fin.sum_univ_one]
  rfl

theorem out2_apply (a : Fin 4096) (k : Fin 2048) : Cert.TailRefIdeal.Value.res_out2 m c (ix2 a k) = DH m c a k * PP m c a k * (A m c a k * (1 - A m c a k)) := by
  unfold Cert.TailRefIdeal.Value.res_out2 Cert.TailRefIdeal.Value.res_main_v70
  clean_types
  pointwise
  simp only [Fin.sum_univ_one]
  rfl

theorem run : θ_run defs (onTc (τ := τ) (main (F := Ideal))) ⟨m, fun _ => 0, ρ⟩ fun r => ∀ c : Dev nD,
      (r.2.mem ((c.tc : Thread nD τ).loc main_v65) = (fun i => DH m c (i 0) (i 1))
      ∧ r.2.mem ((c.tc : Thread nD τ).loc main_v69) = (fun i => A m c (i 0) (i 1) * DH m c (i 0) (i 1))
      ∧ r.2.mem ((c.tc : Thread nD τ).loc main_v70)
        = (fun i => DH m c (i 0) (i 1) * PP m c (i 0) (i 1) * (A m c (i 0) (i 1) * (1 - A m c (i 0) (i 1))))
      ∧ r.2.mem ((c.tc : Thread nD τ).loc main_v71) = (fun i => Ideal.ofBits .f32 0x3F000000#32 * ∑ r : Fin 4096, MS m c r)
      ∧ r.2.mem ((c.tc : Thread nD τ).loc main_v72) = (fun i => ∑ r : Fin 4096,
        X m c r (i 1) * rinv (X m c r) * dyRev (X m c r) (G m c) (T m c r) (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨⟨(h c).1.trans ?_, (h c).2.1.trans ?_, (h c).2.2.1.trans ?_,
    (h c).2.2.2.1.trans ?_, (h c).2.2.2.2.1.trans ?_⟩, (h c).2.2.2.2.2⟩) (Cert.TailRefIdeal.Value.run m ρ)
  · funext i
    rw [eq_ix2 i]
    exact out0_apply m c _ _
  · funext i
    rw [eq_ix2 i]
    exact out1_apply m c _ _
  · funext i
    rw [eq_ix2 i]
    exact out2_apply m c _ _
  · funext i
    clear h
    obtain ⟨a, k, rfl⟩ : ∃ (a : Fin 1) (k : Fin 128), i = ix2 a k := ⟨i 0, i 1, eq_ix2 i⟩
    unfold Cert.TailRefIdeal.Value.res_main_v71
    clean_types
    pointwise
    rfl
  · funext i
    clear h
    obtain ⟨a, k, rfl⟩ : ∃ (a : Fin 1) (k : Fin 2048), i = ix2 a k := ⟨i 0, i 1, eq_ix2 i⟩
    unfold Cert.TailRefIdeal.Value.res_main_v72
    clean_types
    pointwise
    simp only [Fin.sum_univ_one]
    rfl

end Cert.TailRef
-- ==== Proof.TailCall.Value.lean ====
/-
  The gate, the last norm and the loss with their gradients: the kernel's five results are the loss and its derivative
  where the arguments behind the gate are finite.
-/
module

public import proofs.«01_k».proof.Defs
public import proofs.«01_k».proof.Proof.Gen.Pre_tail_finite
public import proofs.«01_k».proof.Proof.TailCall.Kernel
public import proofs.«01_k».proof.Proof.TailCall.Ref

@[expose] public section

set_option maxRecDepth 16384

noncomputable section

namespace Cert.TailCall

open Idealize.ShloMosaic Idealize.ShloMosaic.TcCoe Idealize.SL.Sem

instance : Subsingleton (Cert.Pre_tail_finite.S_).Idx := ⟨fun a b => funext fun i => i.elim0⟩

theorem frame_ref : Cert.quiescent_TailRefIdeal := fun m ρ _ =>
  (θ_run _ _ _).mono (fun r h => ⟨fun c => (h c).2, sem_eq_zero_of_no_sems (by decide) r.2⟩) (TailRef.run m ρ)

/-- The precondition makes the gated rows, the targets and the gain real numbers. -/
theorem reals (m : (ℓ : Loc Cert.TailIdeal.nD Cert.TailIdeal.τ Cert.TailIdeal.sig) → Buf (Elt Ideal) ℓ)
    (h : Pre_TailIdeal_tail_finite m) (c : Dev Cert.TailIdeal.nD) :
    ∃ (x t : Fin 4096 → Fin 2048 → ℝ) (g : Fin 2048 → ℝ), TailKernel.X m c = (fun r k => (x r k : EReal))
      ∧ TailKernel.T m c = (fun r k => (t r k : EReal)) ∧ TailKernel.G m c = fun k => (g k : EReal) := by
  have hc := congrFun (h c) fun i => i.elim0
  obtain ⟨h012, h3⟩ := IntOp.andi_eq_one.mp hc
  obtain ⟨h01, h2⟩ := IntOp.andi_eq_one.mp h012
  obtain ⟨h0, h1⟩ := IntOp.andi_eq_one.mp h01
  obtain ⟨s, hs⟩ := Common.reals_of_all _ _ (fun _ => rfl) _ _ _ _ h0
  obtain ⟨p, hp⟩ := Common.reals_of_all _ _ (fun _ => rfl) _ _ _ _ h1
  obtain ⟨t, ht⟩ := Common.reals_of_all _ _ (fun _ => rfl) _ _ _ _ h2
  obtain ⟨g, hg⟩ := Common.reals_of_all _ _ (fun _ => rfl) _ _ _ _ h3
  choose a ha using fun r k => Loss.logistic_real (∑ j, TailKernel.N2 m c r j * TailKernel.W m c j k)
  refine ⟨fun r k => s (ix2 r k) + a r k * p (ix2 r k), fun r k => t (ix2 r k), fun k => g (ix1 k), funext₂ fun r k => ?_,
    funext₂ fun r k => ht _, funext fun k => hg _⟩
  have hs' : TailKernel.H1 m c r k = s (ix2 r k) := hs _
  have hp' : TailKernel.PP m c r k = p (ix2 r k) := hp _
  show Loss.mixed _ _ _ = _
  unfold Loss.mixed
  rw [hs', hp', ha, ← EReal.coe_mul, ← EReal.coe_add]

theorem algebraic : Cert.algebraic_TailIdeal_TailRefIdeal_pre_tail_finite := fun m ρ m' ρ' hpre hag => by
  refine ⟨fun c => (Cert.TailIdeal.Gen.dats m 0 c).arrAt 6 Cert.TailIdeal.cfg0.N,
    fun c => (Cert.TailIdeal.Gen.dats m 0 c).arrAt 7 Cert.TailIdeal.cfg0.N,
    fun c => (Cert.TailIdeal.Gen.dats m 0 c).arrAt 8 Cert.TailIdeal.cfg0.N,
    fun c => (Cert.TailIdeal.Gen.dats m 0 c).arrAt 9 Cert.TailIdeal.cfg0.N,
    fun c => (Cert.TailIdeal.Gen.dats m 0 c).arrAt 10 Cert.TailIdeal.cfg0.N, Cert.TailIdeal.Value.run_blocks m ρ,
    (θ_run _ _ _).mono (fun r h c => ⟨(h c).1.1.trans ?_, (h c).1.2.1.trans ?_, (h c).1.2.2.1.trans ?_,
      (h c).1.2.2.2.1.trans ?_, (h c).1.2.2.2.2.trans ?_, (h c).2⟩) (TailRef.run m' ρ')⟩
  all_goals
    obtain ⟨x, t, g, h1, h2, h3⟩ := reals m hpre c
    obtain ⟨g0, g1, g2, g3, g4, g5⟩ := hag c
    have hX : TailRef.X m' c = TailKernel.X m c := by
      unfold TailRef.X TailRef.H1 TailRef.N2 TailRef.W TailRef.PP; rw [g0, g1, g2, g3]
    have hA : TailRef.A m' c = TailKernel.A m c := by unfold TailRef.A TailRef.N2 TailRef.W; rw [g0, g1]
    have hP : TailRef.PP m' c = TailKernel.PP m c := by unfold TailRef.PP; rw [g3]
    have hT : TailRef.T m' c = TailKernel.T m c := by unfold TailRef.T; rw [g4]
    have hG : TailRef.G m' c = TailKernel.G m c := by unfold TailRef.G; rw [g5]
    have hD : ∀ r, Loss.dyRev (TailKernel.X m c r) (TailKernel.G m c) (TailKernel.T m c r)
        = Loss.dy (TailKernel.X m c r) (TailKernel.G m c) (TailKernel.T m c r) := fun r => by
      rw [h1, h2, h3]
      obtain ⟨d, e1, e2⟩ := Loss.dyRev_eq_dy (x r) g (t r)
      exact e2.trans e1.symm
    have hH : ∀ r k, TailRef.DH m' c r k = TailKernel.DH m c r k := fun r k => by
      unfold TailRef.DH TailKernel.DH
      rw [hX, hG, hT, hD, h1, h2, h3]
      obtain ⟨d, e1, e2⟩ := Loss.dyRev_eq_dy (x r) g (t r)
      rw [e1]
      exact Loss.dhRev_eq_dh _ _ _ _
  · refine Eq.trans (funext fun i => ?_) (TailKernel.final6 m c).symm
    exact hH _ _
  · refine Eq.trans (funext fun i => ?_) (TailKernel.final7 m c).symm
    have e : ∀ r k, TailRef.A m' c r k * TailRef.DH m' c r k = TailKernel.DH m c r k * TailKernel.A m c r k := fun r k => by
      rw [hH, hA, mul_comm]
    exact e _ _
  · refine Eq.trans (funext fun i => ?_) (TailKernel.final8 m c).symm
    have e : ∀ r k, TailRef.DH m' c r k * TailRef.PP m' c r k * (TailRef.A m' c r k * (1 - TailRef.A m' c r k))
        = TailKernel.DH m c r k * TailKernel.PP m c r k * TailKernel.A m c r k * (1 - TailKernel.A m c r k) := fun r k => by
      rw [hH, hA, hP, ← mul_assoc]
    exact e _ _
  · refine Eq.trans (funext fun i => ?_) (TailKernel.final9 m c).symm
    refine congrArg _ (Finset.sum_congr rfl fun r _ => ?_)
    unfold TailRef.MS
    rw [hX, hG, hT]
  · refine Eq.trans (funext fun i => ?_) (TailKernel.final10 m c).symm
    refine Finset.sum_congr rfl fun r _ => ?_
    rw [hX, hG, hT, hD, mul_comm]

end Cert.TailCall
-- ==== Proof.Mix.Algebra.lean ====
/-
  The derivative of a gate `z · σ(z)` in the kernel's closed form and as reverse mode writes it, equal at finite arguments.
-/
module

public import proofs.«01_k».proof.Proof.In.Common

@[expose] public section

noncomputable section

namespace Cert.Gate

open Idealize.ShloMosaic

/-- The gate's cotangent in closed form, from the cotangent `u` of the gate's value. -/
def dsilu (u z : EReal) : EReal := u * Ideal.logistic z * (1 + z * (1 - Ideal.logistic z))

/-- The same by the product rule. -/
def dsiluRev (u z : EReal) : EReal := u * Ideal.logistic z + z * u * (Ideal.logistic z * (1 - Ideal.logistic z))

theorem dsiluRev_eq_dsilu (u z : ℝ) : dsiluRev u z = dsilu u z := by
  obtain ⟨s, hs⟩ : ∃ s : ℝ, Ideal.logistic (z : EReal) = s := ⟨_, Ideal.logistic_coe z⟩
  unfold dsilu dsiluRev
  rw [hs, ← EReal.coe_one]
  simp only [← EReal.coe_mul, ← EReal.coe_sub, ← EReal.coe_add]
  congr 1
  ring

/-- Two pieces side by side, each padded with zeros to the whole: exactly one of them is there. -/
theorem halves {p q : Prop} [Decidable p] [Decidable q] (no : q → ¬ p) (yes : ¬ q → p) (f : p → EReal) (g : q → EReal) :
    ((if h : p then f h else 0) + if h : q then g h else 0) = if h : q then g h else f (yes h) := by
  by_cases h : q
  · rw [dif_neg (no h), dif_pos h, dif_pos h, zero_add]
  · rw [dif_pos (yes h), dif_neg h, dif_neg h, add_zero]

/-- The sum of one piece or of the other. -/
theorem sum_halves {p q : Prop} [Decidable q] (yes : ¬ q → p) {ι : Type} [Fintype ι] (f : p → ι → EReal) (g : q → ι → EReal) :
    (∑ x, if h : q then g h x else f (yes h) x) = if h : q then ∑ x, g h x else ∑ x, f (yes h) x := by
  by_cases h : q
  · rw [dif_pos h]
    exact Finset.sum_congr rfl fun x _ => dif_pos h
  · rw [dif_neg h]
    exact Finset.sum_congr rfl fun x _ => dif_neg h

end Cert.Gate
-- ==== Proof.Mix.Kernel.lean ====
/-
  What the backward of the output projection and of the gates leaves in its five result arrays, element by element.
-/
module

public import proofs.«01_k».proof.Proof.Gen.MixBwdIdeal.Value
public import proofs.«01_k».proof.Proof.Mix.Algebra

@[expose] public section

set_option maxRecDepth 16384

noncomputable section

namespace Cert.MixKernel

open Cert.MixBwdIdeal Cert.MixBwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev DH (r : Fin 4096) (k : Fin 2048) : EReal := m ((c : Thread nD τ).loc main_arg0) (ix2 r k)
abbrev W (j k : Fin 2048) : EReal := m ((c : Thread nD τ).loc main_arg1) (ix2 j k)
abbrev O (r : Fin 4096) (k : Fin 1024) : EReal := m ((c : Thread nD τ).loc main_arg2) (ix2 r k)
abbrev Z (r : Fin 4096) (k : Fin 4608) : EReal := m ((c : Thread nD τ).loc main_arg3) (ix2 r k)
abbrev P (r : Fin 4096) (k : Fin 2048) : EReal := m ((c : Thread nD τ).loc main_arg4) (ix2 r k)
abbrev B (k : Fin 2048) : EReal := m ((c : Thread nD τ).loc main_arg5) (ix2 0 k)
/-- The gated linear unit's argument. -/
abbrev PB (r : Fin 4096) (k : Fin 2048) : EReal :=
  P m c r k + B m c k

theorem idx : ∀ t : Fin grid0.N, win0_0.index t = ![t.val, 0] ∧ win0_1.index t = ![0, 0] ∧ win0_2.index t = ![t.val, 0]
    ∧ win0_3.index t = ![t.val, 1] ∧ win0_4.index t = ![t.val, 0] ∧ win0_5.index t = ![t.val, 3]
    ∧ win0_6.index t = ![t.val, 0] ∧ win0_7.index t = ![t.val, 0] ∧ win0_8.index t = ![t.val, 0]
    ∧ win0_9.index t = ![t.val, 0] := by
  decide +kernel

/-- Row `a` of the `t`-th block of 256 rows. -/
def row (t : Fin cfg0.N) (a : Fin 256) : Fin 4096 :=
  ⟨t.val * 256 + a.val, by have := t.isLt; have : cfg0.N = 16 := N_0; omega⟩

/-- Column `k` of the attention heads' gate among the projection's columns. -/
def colA (k : Fin 1024) : Fin 4608 := ⟨1536 + k.val, by omega⟩
/-- Column `k` of the state space heads' gate. -/
def colS (k : Fin 1024) : Fin 4608 := ⟨3584 + k.val, by omega⟩
/-- Column `k` of the first half of a pair of halves. -/
def lo (k : Fin 1024) : Fin 2048 := ⟨k.val, by omega⟩
/-- Column `k` of the second half. -/
def hi (k : Fin 1024) : Fin 2048 := ⟨1024 + k.val, by omega⟩

theorem read0 (t : Fin cfg0.N) (a : Fin 256) (k : Fin 2048) : iblk m c 0 t (ix2 a k) = DH m c (row t a) k := by
  unfold DH row; blk_ext! [iblk, V, idx t]
theorem read1 (t : Fin cfg0.N) (j k : Fin 2048) : iblk m c 1 t (ix2 j k) = W m c j k := by
  unfold W; blk_ext! [iblk, V, idx t]
theorem read2 (t : Fin cfg0.N) (a : Fin 256) (k : Fin 1024) : iblk m c 2 t (ix2 a k) = O m c (row t a) k := by
  unfold O row; blk_ext! [iblk, V, idx t]
theorem glu_arg (r : Fin 4096) (k : Fin 2048) : (V m c main_v2 : S4096x2048.Idx → EReal) (ix2 r k) = PB m c r k := by
  simp only [V, hostOps0]
  after_results_simp
  pointwise
theorem read4 (t : Fin cfg0.N) (a : Fin 256) (k : Fin 2048) : iblk m c 4 t (ix2 a k) = PB m c (row t a) k := by
  refine Eq.trans ?_ (glu_arg m c (row t a) k)
  unfold iblk row
  generalize V m c main_v2 = v
  blk_ext! [idx t]
/-- The projection's columns in the order of the kernel: both head groups' gates before the key and value columns. -/
theorem cols : (V m c main_v6 : S4096x4608.Idx → EReal) = concatenate (α := EReal) S4096x4608 1
    [⟨S4096x1024, extractStridedSlice S4096x1024 ![0, 0] (m ((c : Thread nD τ).loc main_arg3)) slices_S4096x4608_S4096x1024_0_0⟩,
      ⟨S4096x3072, extractStridedSlice S4096x3072 ![0, 1536] (m ((c : Thread nD τ).loc main_arg3)) slices_S4096x4608_S4096x3072_0_1536⟩,
      ⟨S4096x512, extractStridedSlice S4096x512 ![0, 1024] (m ((c : Thread nD τ).loc main_arg3)) slices_S4096x4608_S4096x512_0_1024⟩]
    concatenates_S4096x1024_S4096x3072_S4096x512_S4096x4608_d1 := by
  simp only [V, hostOps0]
  after_results_simp
  rfl
theorem gate_attn (r : Fin 4096) (k : Fin 1024) :
    (V m c main_v6 : S4096x4608.Idx → EReal) (ix2 r ⟨1024 + k.val, by omega⟩) = Z m c r (colA k) := by
  rw [cols]
  unfold colA
  pointwise
  exact dif_pos (by omega)
theorem gate_ssm (r : Fin 4096) (k : Fin 1024) :
    (V m c main_v6 : S4096x4608.Idx → EReal) (ix2 r ⟨3072 + k.val, by omega⟩) = Z m c r (colS k) := by
  rw [cols]
  unfold colS
  pointwise
  rw [dif_neg (by omega), dif_pos (by omega)]
  exact congrArg (fun k' => Z m c r k') (Fin.ext (by show 1536 + (3072 + k.val - 1024) = 3584 + k.val; omega))
theorem read3 (t : Fin cfg0.N) (a : Fin 256) (k : Fin 1024) : X0_3 m c t (ix2 a k) = Z m c (row t a) (colA k) := by
  unfold X0_3 Pipeline.Window.fill
  rw [dif_pos (moved0_3 t _)]
  refine Eq.trans ?_ (gate_attn m c (row t a) k)
  unfold iblk row
  generalize V m c main_v6 = v
  blk_ext! [idx t]
theorem read5 (t : Fin cfg0.N) (a : Fin 256) (k : Fin 1024) : X0_5 m c t (ix2 a k) = Z m c (row t a) (colS k) := by
  unfold X0_5 Pipeline.Window.fill
  rw [dif_pos (moved0_5 t _)]
  refine Eq.trans ?_ (gate_ssm m c (row t a) k)
  unfold iblk row
  generalize V m c main_v6 = v
  blk_ext! [idx t]

theorem emb6 (t : Fin cfg0.N) (a : Fin 256) (k : Fin 1024) : ((cfg0.win 6).blk t).view.emb (ix2 a k) = ix2 (row t a) k := by
  unfold row; blk_ext! [idx t]
theorem emb7 (t : Fin cfg0.N) (a : Fin 256) (k : Fin 1024) : ((cfg0.win 7).blk t).view.emb (ix2 a k) = ix2 (row t a) k := by
  unfold row; blk_ext! [idx t]
theorem emb8 (t : Fin cfg0.N) (a : Fin 256) (k : Fin 1024) : ((cfg0.win 8).blk t).view.emb (ix2 a k) = ix2 (row t a) k := by
  unfold row; blk_ext! [idx t]
theorem emb9 (t : Fin cfg0.N) (a : Fin 256) (k : Fin 2048) : ((cfg0.win 9).blk t).view.emb (ix2 a k) = ix2 (row t a) k := by
  unfold row; blk_ext! [idx t]

/-- The cotangents of both head groups' gated outputs. -/
abbrev DA (r : Fin 4096) (k : Fin 1024) : EReal := ∑ j, DH m c r j * W m c (lo k) j
abbrev DS (r : Fin 4096) (k : Fin 1024) : EReal := ∑ j, DH m c r j * W m c (hi k) j
/-- The cotangent of the gated linear unit's value. -/
abbrev DY (r : Fin 4096) (k : Fin 1024) : EReal :=
  DS m c r k * Z m c r (colS k) * Ideal.logistic (Z m c r (colS k))
/-- The cotangents of its two halves. -/
abbrev GA (r : Fin 4096) (k : Fin 1024) : EReal := DY m c r k * Ideal.logistic (PB m c r (hi k))
abbrev GB (r : Fin 4096) (k : Fin 1024) : EReal :=
  DY m c r k * PB m c r (lo k) * Ideal.logistic (PB m c r (hi k)) * (1 - Ideal.logistic (PB m c r (hi k)))

theorem final6 : (dats m 0 c).arrAt 6 cfg0.N = fun i => DA m c (i 0) (i 1) * Z m c (i 0) (colA (i 1)) * Ideal.logistic (Z m c (i 0) (colA (i 1))) := by
  refine (dats m 0 c).arrAt_eq_of_covers 6 _ (by decide +kernel) fun t hf y => ?_
  idx_vars y
  rw [emb6]
  blk_simp
  rw [after0_6]
  by_cases h0 : t.val % 16 = 0
  all_goals
    first | rw [outsAt0_A m c t h0] | rw [outsAt0_B m c t h0]
    frame_out
    unfold_payloads
    pointwise
    simp only [read0, read1, read2, read3, read4, read5]
    rfl

theorem final7 : (dats m 0 c).arrAt 7 cfg0.N = fun i => Gate.dsilu (DA m c (i 0) (i 1) * O m c (i 0) (i 1)) (Z m c (i 0) (colA (i 1))) := by
  refine (dats m 0 c).arrAt_eq_of_covers 7 _ (by decide +kernel) fun t hf y => ?_
  idx_vars y
  rw [emb7]
  blk_simp
  rw [after0_7]
  by_cases h0 : t.val % 16 = 0
  all_goals
    first | rw [outsAt0_A m c t h0] | rw [outsAt0_B m c t h0]
    frame_out
    unfold_payloads
    pointwise
    simp only [read0, read1, read2, read3, read4, read5]
    rfl

theorem final8 : (dats m 0 c).arrAt 8 cfg0.N = fun i => Gate.dsilu
    (DS m c (i 0) (i 1) * PB m c (i 0) (lo (i 1)) * Ideal.logistic (PB m c (i 0) (hi (i 1)))) (Z m c (i 0) (colS (i 1))) := by
  refine (dats m 0 c).arrAt_eq_of_covers 8 _ (by decide +kernel) fun t hf y => ?_
  idx_vars y
  rw [emb8]
  blk_simp
  rw [after0_8]
  by_cases h0 : t.val % 16 = 0
  all_goals
    first | rw [outsAt0_A m c t h0] | rw [outsAt0_B m c t h0]
    frame_out
    unfold_payloads
    pointwise
    simp only [read0, read1, read2, read3, read4, read5]
    rfl

theorem final9 : (dats m 0 c).arrAt 9 cfg0.N = fun i => if h : (i 1).val < 1024 then GA m c (i 0) ⟨(i 1).val, h⟩ else
    GB m c (i 0) ⟨(i 1).val - 1024, by have : (i 1).val < 2048 := (i 1).isLt; omega⟩ := by
  refine (dats m 0 c).arrAt_eq_of_covers 9 _ (by decide +kernel) fun t hf y => ?_
  idx_vars y
  rw [emb9]
  blk_simp
  rw [after0_9]
  by_cases h0 : t.val % 16 = 0
  all_goals
    first | rw [outsAt0_A m c t h0] | rw [outsAt0_B m c t h0]
    frame_out
    unfold_payloads
    pointwise
    simp only [read0, read1, read2, read3, read4, read5]
    rfl

/-- Column `k` of a block of rows' part of the bias gradient. -/
def part (t : Fin cfg0.N) (k : Fin 2048) : EReal :=
  if h : k.val < 1024 then ∑ a : Fin 256, GA m c (row t a) ⟨k.val, h⟩ else ∑ a : Fin 256, GB m c (row t a) ⟨k.val - 1024, by omega⟩

theorem final10 : (dats m 0 c).arrAt 10 cfg0.N = fun i => if h : (i 1).val < 1024 then ∑ r : Fin 4096, GA m c r ⟨(i 1).val, h⟩
    else ∑ r : Fin 4096, GB m c r ⟨(i 1).val - 1024, by have : (i 1).val < 2048 := (i 1).isLt; omega⟩ := by
  refine (dats m 0 c).arrAt_eq_of_after_last 10 t0_15 (by decide +kernel) _ fun j => ?_
  idx_vars j
  rw [after0_10]
  refine (Pipeline.eq_sum_fin_of_reset_step_apply_last (fun n h => (outsAt0 m c n h).2.2.2.2) 16 (fun _ => (0 : EReal))
      (fun t i => part m c t (i 1))
      (fun t h j => ?_) (fun t h j => ?_) (by decide) t0_15 rfl _).trans ?_
  · rw [outsAt0_A m c t h]; frame_out; unfold_payloads; idx_vars j; pointwise; simp only [read0, read1, read2, read3, read4, read5]; rfl
  · rw [outsAt0_B m c t h]; frame_out; unfold_payloads; idx_vars j; pointwise; simp only [read0, read1, read2, read3, read4, read5]; rfl
  · rw [zero_add]
    by_cases hj : j1.val < 1024
    · refine Eq.trans (Finset.sum_congr rfl fun s _ => dif_pos hj) (Eq.trans ?_ (dif_pos hj).symm)
      exact Fin.sum_mul_add_congr (S := 16) (n := 256) (fun s k hl => rfl) rfl
    · refine Eq.trans (Finset.sum_congr rfl fun s _ => dif_neg hj) (Eq.trans ?_ (dif_neg hj).symm)
      exact Fin.sum_mul_add_congr (S := 16) (n := 256) (fun s k hl => rfl) rfl

end Cert.MixKernel
-- ==== Proof.Mix.Ref.lean ====
/-
  What reverse mode differentiation of both gates and the output projection writes, element by element.
-/
module

public import proofs.«01_k».proof.Proof.Gen.MixRefIdeal.Run
public import proofs.«01_k».proof.Proof.Mix.Algebra
public import Idealize.ShloMosaic.Lib.Tactic.CleanTypes

@[expose] public section

set_option maxRecDepth 16384

noncomputable section

namespace Cert.MixRef

open Cert.MixRefIdeal Idealize.ShloMosaic Idealize.ShloMosaic.TcCoe Idealize.SL.Sem

variable (m : (ℓ : Loc nD τ sig) → Buf (Elt Ideal) ℓ) (ρ : Dev nD → PrngReg) (c : Dev nD)

abbrev DH (r : Fin 4096) (k : Fin 2048) : EReal := m ((c.tc : Thread nD τ).loc main_arg0) (ix2 r k)
abbrev W (j k : Fin 2048) : EReal := m ((c.tc : Thread nD τ).loc main_arg1) (ix2 j k)
abbrev O (r : Fin 4096) (k : Fin 1024) : EReal := m ((c.tc : Thread nD τ).loc main_arg2) (ix2 r k)
abbrev Z (r : Fin 4096) (k : Fin 4608) : EReal := m ((c.tc : Thread nD τ).loc main_arg3) (ix2 r k)
abbrev P (r : Fin 4096) (k : Fin 2048) : EReal := m ((c.tc : Thread nD τ).loc main_arg4) (ix2 r k)
abbrev B (k : Fin 2048) : EReal := m ((c.tc : Thread nD τ).loc main_arg5) (ix2 0 k)
/-- The gated linear unit's argument. -/
abbrev PB (r : Fin 4096) (k : Fin 2048) : EReal :=
  P m c r k + B m c k

/-- Column `k` of the attention heads' gate among the projection's columns. -/
def colA (k : Fin 1024) : Fin 4608 := ⟨1536 + k.val, by omega⟩
/-- Column `k` of the state space heads' gate. -/
def colS (k : Fin 1024) : Fin 4608 := ⟨3584 + k.val, by omega⟩
/-- Column `k` of the first half of a pair of halves. -/
def lo (k : Fin 1024) : Fin 2048 := ⟨k.val, by omega⟩
/-- Column `k` of the second half. -/
def hi (k : Fin 1024) : Fin 2048 := ⟨1024 + k.val, by omega⟩

/-- The cotangents of both head groups' gated outputs. -/
abbrev DA (r : Fin 4096) (k : Fin 1024) : EReal := ∑ j, DH m c r j * W m c (lo k) j
abbrev DS (r : Fin 4096) (k : Fin 1024) : EReal := ∑ j, DH m c r j * W m c (hi k) j
/-- The cotangent of the gated linear unit's value. -/
abbrev DY (r : Fin 4096) (k : Fin 1024) : EReal :=
  DS m c r k * (Z m c r (colS k) * Ideal.logistic (Z m c r (colS k)))
/-- The cotangents of its two halves. -/
abbrev GA (r : Fin 4096) (k : Fin 1024) : EReal := DY m c r k * Ideal.logistic (PB m c r (hi k))
abbrev GB (r : Fin 4096) (k : Fin 1024) : EReal :=
  PB m c r (lo k) * DY m c r k * (Ideal.logistic (PB m c r (hi k)) * (1 - Ideal.logistic (PB m c r (hi k))))

theorem run : θ_run defs (onTc (τ := τ) (main (F := Ideal))) ⟨m, fun _ => 0, ρ⟩ fun r => ∀ c : Dev nD,
      (r.2.mem ((c.tc : Thread nD τ).loc main_v51)
        = (fun i => DA m c (i 0) (i 1) * (Z m c (i 0) (colA (i 1)) * Ideal.logistic (Z m c (i 0) (colA (i 1)))))
      ∧ r.2.mem ((c.tc : Thread nD τ).loc main_v52)
        = (fun i => Gate.dsiluRev (O m c (i 0) (i 1) * DA m c (i 0) (i 1)) (Z m c (i 0) (colA (i 1))))
      ∧ r.2.mem ((c.tc : Thread nD τ).loc main_v53) = (fun i => Gate.dsiluRev
        (PB m c (i 0) (lo (i 1)) * Ideal.logistic (PB m c (i 0) (hi (i 1))) * DS m c (i 0) (i 1)) (Z m c (i 0) (colS (i 1))))
      ∧ r.2.mem ((c.tc : Thread nD τ).loc main_v54) = (fun i => if h : (i 1).val < 1024 then GA m c (i 0) ⟨(i 1).val, h⟩
        else GB m c (i 0) ⟨(i 1).val - 1024, by have : (i 1).val < 2048 := (i 1).isLt; omega⟩)
      ∧ r.2.mem ((c.tc : Thread nD τ).loc main_v47)
        = (fun i => if h : (i 1).val < 1024 then ∑ r : Fin 4096, GA m c r ⟨(i 1).val, h⟩
          else ∑ r : Fin 4096, GB m c r ⟨(i 1).val - 1024, by have : (i 1).val < 2048 := (i 1).isLt; omega⟩))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨⟨(h c).1.trans ?_, (h c).2.1.trans ?_, (h c).2.2.1.trans ?_,
    (h c).2.2.2.1.trans ?_, (h c).2.2.2.2.1.trans ?_⟩, (h c).2.2.2.2.2⟩) (Cert.MixRefIdeal.Value.run m ρ)
  · funext i
    clear h
    obtain ⟨a, k, rfl⟩ : ∃ (a : Fin 4096) (k : Fin 1024), i = ix2 a k := ⟨i 0, i 1, eq_ix2 i⟩
    clean_types
    pointwise
    rfl
  · funext i
    clear h
    obtain ⟨a, k, rfl⟩ : ∃ (a : Fin 4096) (k : Fin 1024), i = ix2 a k := ⟨i 0, i 1, eq_ix2 i⟩
    clean_types
    pointwise
    rfl
  · funext i
    clear h
    obtain ⟨a, k, rfl⟩ : ∃ (a : Fin 4096) (k : Fin 1024), i = ix2 a k := ⟨i 0, i 1, eq_ix2 i⟩
    clean_types
    pointwise
    rfl
  · funext i
    clear h
    obtain ⟨a, k, rfl⟩ : ∃ (a : Fin 4096) (k : Fin 2048), i = ix2 a k := ⟨i 0, i 1, eq_ix2 i⟩
    clean_types
    pointwise
    exact Gate.halves (by omega) (by omega) _ _
  · funext i
    clear h
    obtain ⟨a, k, rfl⟩ : ∃ (a : Fin 1) (k : Fin 2048), i = ix2 a k := ⟨i 0, i 1, eq_ix2 i⟩
    unfold Cert.MixRefIdeal.Value.res_main_v47
    clean_types
    pointwise
    rw [Fin.sum_univ_one]
    refine Eq.trans (Finset.sum_congr rfl fun x _ => ?_)
      (Gate.sum_halves (p := 1024 ≤ k.val ∧ k.val - 1024 < 1024) (q := k.val < 1024) (by omega)
        (fun _ x => GB m c x ⟨k.val - 1024, by omega⟩) fun h x => GA m c x ⟨k.val, h⟩)
    exact Gate.halves (by omega) (by omega) _ _

end Cert.MixRef
-- ==== Proof.Mix.Value.lean ====
/-
  The backward of both gates and the output projection: the kernel's five results are the derivative's at finite arguments.
-/
module

public import proofs.«01_k».proof.Defs
public import proofs.«01_k».proof.Proof.Gen.Pre_mix_finite
public import proofs.«01_k».proof.Proof.Mix.Kernel
public import proofs.«01_k».proof.Proof.Mix.Ref

@[expose] public section

set_option maxRecDepth 16384

noncomputable section

namespace Cert.Mix

open Idealize.ShloMosaic Idealize.ShloMosaic.TcCoe Idealize.SL.Sem

instance : Subsingleton (Cert.Pre_mix_finite.S_).Idx := ⟨fun a b => funext fun i => i.elim0⟩

theorem frame_ref : Cert.quiescent_MixRefIdeal := fun m ρ _ =>
  (θ_run _ _ _).mono (fun r h => ⟨fun c => (h c).2, sem_eq_zero_of_no_sems (by decide) r.2⟩) (MixRef.run m ρ)

/-- The precondition makes every argument real, and with them the product and the gated linear unit's argument. -/
theorem reals (m : (ℓ : Loc Cert.MixBwdIdeal.nD Cert.MixBwdIdeal.τ Cert.MixBwdIdeal.sig) → Buf (Elt Ideal) ℓ)
    (h : Pre_MixBwdIdeal_mix_finite m) (c : Dev Cert.MixBwdIdeal.nD) :
    ∃ (da ds o : Fin 4096 → Fin 1024 → ℝ) (z : Fin 4096 → Fin 4608 → ℝ) (pb : Fin 4096 → Fin 2048 → ℝ),
      (∀ r k, MixKernel.DA m c r k = da r k) ∧ (∀ r k, MixKernel.DS m c r k = ds r k) ∧ (∀ r k, MixKernel.O m c r k = o r k)
      ∧ (∀ r k, MixKernel.Z m c r k = z r k) ∧ ∀ r k, MixKernel.PB m c r k = pb r k := by
  have hc := congrFun (h c) fun i => i.elim0
  obtain ⟨h4, hb⟩ := IntOp.andi_eq_one.mp hc
  obtain ⟨h3, hp⟩ := IntOp.andi_eq_one.mp h4
  obtain ⟨h2, hz⟩ := IntOp.andi_eq_one.mp h3
  obtain ⟨h1, ho⟩ := IntOp.andi_eq_one.mp h2
  obtain ⟨hd, hw⟩ := IntOp.andi_eq_one.mp h1
  obtain ⟨d, hd⟩ := Common.reals_of_all _ _ (fun _ => rfl) _ _ _ _ hd
  obtain ⟨w, hw⟩ := Common.reals_of_all _ _ (fun _ => rfl) _ _ _ _ hw
  obtain ⟨o, ho⟩ := Common.reals_of_all _ _ (fun _ => rfl) _ _ _ _ ho
  obtain ⟨z, hz⟩ := Common.reals_of_all _ _ (fun _ => rfl) _ _ _ _ hz
  obtain ⟨p, hp⟩ := Common.reals_of_all _ _ (fun _ => rfl) _ _ _ _ hp
  obtain ⟨b, hb⟩ := Common.reals_of_all _ _ (fun _ => rfl) _ _ _ _ hb
  have prod : ∀ (r : Fin 4096) (k : Fin 2048), (∑ j, MixKernel.DH m c r j * MixKernel.W m c k j : EReal)
      = ((∑ j, d (ix2 r j) * w (ix2 k j) : ℝ) : EReal) := fun r k => by
    rw [← Common.coe_sum]
    exact Finset.sum_congr rfl fun j _ => (congrArg₂ (· * ·) (hd (ix2 r j)) (hw (ix2 k j))).trans (EReal.coe_mul _ _).symm
  exact ⟨_, _, fun r k => o (ix2 r k), fun r k => z (ix2 r k), fun r k => p (ix2 r k) + b (ix2 0 k), fun r k => prod r _,
    fun r k => prod r _, fun r k => ho _, fun r k => hz _,
    fun r k => (congrArg₂ (· + ·) (hp (ix2 r k)) (hb (ix2 0 k))).trans (EReal.coe_add _ _).symm⟩

theorem algebraic : Cert.algebraic_MixBwdIdeal_MixRefIdeal_pre_mix_finite := fun m ρ m' ρ' hpre hag => by
  refine ⟨fun c => (Cert.MixBwdIdeal.Gen.dats m 0 c).arrAt 6 Cert.MixBwdIdeal.cfg0.N,
    fun c => (Cert.MixBwdIdeal.Gen.dats m 0 c).arrAt 7 Cert.MixBwdIdeal.cfg0.N,
    fun c => (Cert.MixBwdIdeal.Gen.dats m 0 c).arrAt 8 Cert.MixBwdIdeal.cfg0.N,
    fun c => (Cert.MixBwdIdeal.Gen.dats m 0 c).arrAt 9 Cert.MixBwdIdeal.cfg0.N,
    fun c => (Cert.MixBwdIdeal.Gen.dats m 0 c).arrAt 10 Cert.MixBwdIdeal.cfg0.N, Cert.MixBwdIdeal.Value.run_blocks m ρ,
    (θ_run _ _ _).mono (fun r h c => ⟨(h c).1.1.trans ?_, (h c).1.2.1.trans ?_, (h c).1.2.2.1.trans ?_,
      (h c).1.2.2.2.1.trans ?_, (h c).1.2.2.2.2.trans ?_, (h c).2⟩) (MixRef.run m' ρ')⟩
  all_goals
    obtain ⟨da, ds, o, z, pb, e1, e2, e3, e4, e5⟩ := reals m hpre c
    obtain ⟨g0, g1, g2, g3, g4, g5⟩ := hag c
    have hA : MixRef.DA m' c = MixKernel.DA m c := by unfold MixRef.DA MixRef.DH MixRef.W; rw [g0, g1]; rfl
    have hS : MixRef.DS m' c = MixKernel.DS m c := by unfold MixRef.DS MixRef.DH MixRef.W; rw [g0, g1]; rfl
    have hO : MixRef.O m' c = MixKernel.O m c := by unfold MixRef.O; rw [g2]
    have hZ : MixRef.Z m' c = MixKernel.Z m c := by unfold MixRef.Z; rw [g3]
    have hP : MixRef.PB m' c = MixKernel.PB m c := by unfold MixRef.PB MixRef.P MixRef.B; rw [g4, g5]
    have hY : ∀ r k, MixRef.DY m' c r k = MixKernel.DY m c r k := fun r k => by
      unfold MixRef.DY MixKernel.DY; rw [hS, hZ, ← mul_assoc]; rfl
    have hGA : ∀ r k, MixRef.GA m' c r k = MixKernel.GA m c r k := fun r k => by
      unfold MixRef.GA MixKernel.GA; rw [hY, hP]; rfl
    have hGB : ∀ r k, MixRef.GB m' c r k = MixKernel.GB m c r k := fun r k => by
      unfold MixRef.GB MixKernel.GB; rw [hY, hP, ← mul_assoc, mul_comm (MixKernel.PB m c r _)]; rfl
  · refine Eq.trans (funext fun i => ?_) (MixKernel.final6 m c).symm
    rw [hA, hZ]
    exact (mul_assoc _ _ _).symm
  · refine Eq.trans (funext fun i => ?_) (MixKernel.final7 m c).symm
    have e : ∀ r k, Gate.dsiluRev (MixKernel.O m c r k * MixKernel.DA m c r k) (MixKernel.Z m c r (MixRef.colA k))
        = Gate.dsilu (MixKernel.DA m c r k * MixKernel.O m c r k) (MixKernel.Z m c r (MixKernel.colA k)) := fun r k => by
      rw [mul_comm, e1, e3, e4, e4, ← EReal.coe_mul]
      exact Gate.dsiluRev_eq_dsilu _ _
    rw [hA, hO, hZ]
    exact e _ _
  · refine Eq.trans (funext fun i => ?_) (MixKernel.final8 m c).symm
    have e : ∀ r k, Gate.dsiluRev (MixKernel.PB m c r (MixRef.lo k) * Ideal.logistic (MixKernel.PB m c r (MixRef.hi k))
          * MixKernel.DS m c r k) (MixKernel.Z m c r (MixRef.colS k))
        = Gate.dsilu (MixKernel.DS m c r k * MixKernel.PB m c r (MixKernel.lo k)
          * Ideal.logistic (MixKernel.PB m c r (MixKernel.hi k))) (MixKernel.Z m c r (MixKernel.colS k)) := fun r k => by
      rw [mul_comm, ← mul_assoc, e2, e4, e4, e5, e5, e5, e5, Ideal.logistic_coe, Ideal.logistic_coe, ← EReal.coe_mul,
        ← EReal.coe_mul, ← EReal.coe_mul, ← EReal.coe_mul]
      exact Gate.dsiluRev_eq_dsilu _ _
    rw [hS, hP, hZ]
    exact e _ _
  · refine Eq.trans (funext fun i => ?_) (MixKernel.final9 m c).symm
    exact dite_congr rfl (fun h => hGA _ _) fun h => hGB _ _
  · refine Eq.trans (funext fun i => ?_) (MixKernel.final10 m c).symm
    exact dite_congr rfl (fun h => Finset.sum_congr rfl fun r _ => hGA _ _) fun h => Finset.sum_congr rfl fun r _ => hGB _ _

end Cert.Mix
-- ==== Proof.Gelu.Algebra.lean ====
/-
  The derivative of the GELU in its tanh form: the product rule's order of multiplications and a hand-written one agree
  at real numbers.
-/
module

public import proofs.«01_k».proof.Proof.In.Common

@[expose] public section

noncomputable section

namespace Cert.Gelu

open Idealize.ShloMosaic

/-- The tanh form's factor before the cube, `0.044715`. -/
abbrev q : EReal := ((8943 / 200000 : ℝ) : EReal)
/-- Its factor before the sum. -/
abbrev s : EReal := Ideal.ofBits .f32 0x3F4C422A#32

/-- The hand-written derivative times a cotangent: the tanh's argument by Horner's order, three times `q` folded. -/
abbrev back (d v : EReal) : EReal :=
  d * (Ideal.ofBits .f32 0x3F000000#32 * (1 + Ideal.tanh (s * (v + q * v * v * v)))
    + Ideal.ofBits .f32 0x3F000000#32 * v * (1 - Ideal.tanh (s * (v + q * v * v * v)) * Ideal.tanh (s * (v + q * v * v * v))) * s
      * (1 + ((26829 / 200000 : ℝ) : EReal) * v * v))

/-- The cotangent of the tanh's argument in reverse mode, times the factor before the sum. -/
abbrev backArg (d v t : EReal) : EReal :=
  s * (Ideal.ofBits .f32 0x3F000000#32 * (v * d) * ((1 + t) * (1 - t)))

/-- The reverse-mode cotangent. -/
abbrev backRev (d v : EReal) : EReal :=
  d * (Ideal.ofBits .f32 0x3F000000#32 * (1 + Ideal.tanh (s * (v + q * (v * v * v)))))
    + backArg d v (Ideal.tanh (s * (v + q * (v * v * v))))
    + q * backArg d v (Ideal.tanh (s * (v + q * (v * v * v)))) * (Ideal.ofBits .f32 0x40400000#32 * (v * v))

theorem lit_half : Ideal.ofBits .f32 0x3F000000#32 = ((1 / 2 : ℝ) : EReal) := by
  simp [Ideal.ofBits, Ideal.ieee, -EReal.coe_mul]; norm_num
theorem lit_3 : Ideal.ofBits .f32 0x40400000#32 = ((3 : ℝ) : EReal) := by
  simp [Ideal.ofBits, Ideal.ieee, -EReal.coe_mul]; norm_num
theorem lit_8943 : Ideal.ofBits .f32 0x460BBC00#32 = ((8943 : ℝ) : EReal) := by
  simp [Ideal.ofBits, Ideal.ieee, -EReal.coe_mul]; norm_num
theorem lit_200000 : Ideal.ofBits .f32 0x48435000#32 = ((200000 : ℝ) : EReal) := by
  simp [Ideal.ofBits, Ideal.ieee, -EReal.coe_mul]; norm_num
theorem lit_s : ∃ r : ℝ, s = (r : EReal) :=
  ⟨13386282 / 16777216, by simp [s, Ideal.ofBits, Ideal.ieee, -EReal.coe_mul]; norm_num⟩

/-- The quotient of the decimal's digits. -/
theorem quotient : Ideal.div (Ideal.ofBits .f32 0x460BBC00#32) (Ideal.ofBits .f32 0x48435000#32) = q := by
  rw [lit_8943, lit_200000]
  rw [Ideal.div_coe (by norm_num : (200000 : ℝ) ≠ 0), ← EReal.coe_mul]
  congr 1
  norm_num

theorem backRev_eq_back (d v : ℝ) : backRev d v = back d v := by
  obtain ⟨r, hr⟩ := lit_s
  unfold backRev back backArg
  rw [hr, lit_half, lit_3]
  have e : (v : EReal) + q * v * v * v = (v : EReal) + q * (v * v * v) := by simp only [mul_assoc]
  rw [e]
  have t : Ideal.tanh ((r : EReal) * ((v : EReal) + q * (v * v * v))) = ((Real.tanh (r * (v + 8943 / 200000 * (v * v * v))) : ℝ) : EReal) := rfl
  rw [t]
  generalize Real.tanh (r * (v + 8943 / 200000 * (v * v * v))) = t
  norm_cast
  congr 1
  ring

end Cert.Gelu
-- ==== Proof.Gelu.Kernel.lean ====
/-
  What the backward of the GELU leaves in its result array, element by element.
-/
module

public import proofs.«01_k».proof.Proof.Gen.GeluBwdIdeal.Value
public import proofs.«01_k».proof.Proof.Gelu.Algebra

@[expose] public section

set_option maxRecDepth 16384

noncomputable section

namespace Cert.GeluKernel

open Cert.GeluBwdIdeal Cert.GeluBwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev DG (r : Fin 4096) (k : Fin 2048) : EReal := m ((c : Thread nD τ).loc main_arg0) (ix2 r k)
abbrev W (j : Fin 1024) (k : Fin 2048) : EReal := m ((c : Thread nD τ).loc main_arg1) (ix2 j k)
abbrev Y (r : Fin 4096) (k : Fin 1024) : EReal := m ((c : Thread nD τ).loc main_arg2) (ix2 r k)
/-- The cotangent of the GELU. -/
abbrev D (r : Fin 4096) (k : Fin 1024) : EReal := ∑ j, DG m c r j * W m c k j

theorem idx : ∀ t : Fin grid0.N, win0_0.index t = ![t.val / 8, t.val % 8] ∧ win0_1.index t = ![t.val % 8, 0, 0]
    ∧ win0_2.index t = ![t.val / 8, 0] ∧ win0_3.index t = ![t.val / 8, 0] := by
  decide +kernel

/-- Row `a` of the block of 1024 rows of point `t`. -/
def row (t : Fin cfg0.N) (a : Fin 1024) : Fin 4096 :=
  ⟨t.val / 8 * 1024 + a.val, by have := t.isLt; have : cfg0.N = 32 := N_0; omega⟩
/-- Column `k` of its block of 256 columns. -/
def col (t : Fin cfg0.N) (k : Fin 256) : Fin 2048 := ⟨t.val % 8 * 256 + k.val, by omega⟩

theorem read0 (t : Fin cfg0.N) (a : Fin 1024) (k : Fin 256) : iblk m c 0 t (ix2 a k) = DG m c (row t a) (col t k) := by
  unfold DG row col; blk_ext! [iblk, V, idx t]
theorem blocks (s : Fin 8) (j : Fin 1024) (k : Fin 256) :
    (V m c main_v1 : S8x1024x256.Idx → EReal) (ix3 s j k) = W m c j ⟨s.val * 256 + k.val, by omega⟩ := by
  simp only [V, hostOps0]
  after_results_simp
  pointwise
theorem read1 (t : Fin cfg0.N) (j : Fin 1024) (k : Fin 256) : iblk m c 1 t (ix3 0 j k) = W m c j (col t k) := by
  refine Eq.trans ?_ (blocks m c ⟨t.val % 8, by omega⟩ j k)
  unfold iblk
  generalize V m c main_v1 = v
  blk_ext! [idx t]
theorem read2 (t : Fin cfg0.N) (a k : Fin 1024) : iblk m c 2 t (ix2 a k) = Y m c (row t a) k := by
  unfold Y row; blk_ext! [iblk, V, idx t]
theorem emb3 (t : Fin cfg0.N) (a k : Fin 1024) : ((cfg0.win 3).blk t).view.emb (ix2 a k) = ix2 (row t a) k := by
  unfold row; blk_ext! [idx t]

/-- What a run of eight points leaves in the accumulator: the whole product. -/
theorem acc (t : Fin cfg0.N) (h : t.val % 8 = 7) (a k : Fin 1024) :
    (outsAt0 m c t.val t.isLt).2 (ix2 a k) = D m c (row t a) k := by
  refine (Pipeline.eq_sum_fin_of_reset_step_apply_of_flush (fun n h => (outsAt0 m c n h).2) 8 (fun _ => (0 : EReal))
      (fun t i => ∑ l : Fin 256, DG m c (row t (i 0)) (col t l) * W m c (i 1) (col t l))
      (fun t h j => ?_) (fun t h j => ?_) t h (ix2 a k)).trans ?_
  · rw [outsAt0_A m c t h (by omega)]; frame_out; unfold_payloads; idx_vars j; pointwise; simp only [read0, read1]
  · by_cases h7 : t.val % 8 = 7
    all_goals
      first | rw [outsAt0_B m c t h h7] | rw [outsAt0_C m c t h h7]
      frame_out; unfold_payloads; idx_vars j; pointwise; simp only [read0, read1]
      exact congrArg (· + _) (congrFun (Memref.IsWhole.read_unread _ _) _)
  · rw [zero_add]
    have : cfg0.N = 32 := N_0
    have := t.isLt
    refine Fin.sum_mul_add_congr (S := 8) (n := 256) (fun s l hl => ?_) rfl
    have hr : row ⟨8 * (t.val / 8) + s.val, by omega⟩ a = row t a :=
      Fin.ext (by show (8 * (t.val / 8) + s.val) / 8 * 1024 + a.val = t.val / 8 * 1024 + a.val; omega)
    have hc : col ⟨8 * (t.val / 8) + s.val, by omega⟩ l = ⟨s.val * 256 + l.val, hl⟩ :=
      Fin.ext (by show (8 * (t.val / 8) + s.val) % 8 * 256 + l.val = s.val * 256 + l.val; omega)
    exact congrArg₂ (fun r k' => DG m c r k' * W m c k k') hr hc

/-- The last point of a run multiplies the accumulator by the derivative. -/
theorem out (t : Fin cfg0.N) (h : t.val % 8 = 7) (a k : Fin 1024) :
    (outsAt0 m c t.val t.isLt).1 (ix2 a k) = Gelu.back ((outsAt0 m c t.val t.isLt).2 (ix2 a k)) (Y m c (row t a) k) := by
  rw [outsAt0_C m c t (by omega) h]
  frame_out
  unfold_payloads
  pointwise
  simp only [read0, read1, read2]
  rfl

theorem final : (dats m 0 c).arrAt 3 cfg0.N = fun i => Gelu.back (D m c (i 0) (i 1)) (Y m c (i 0) (i 1)) := by
  refine (dats m 0 c).arrAt_eq_of_covers 3 _ (by decide +kernel) fun t hf y => ?_
  idx_vars y
  rw [emb3]
  blk_simp
  rw [after0_3]
  have h7 : t.val % 8 = 7 := by
    have := (flush0_3 t).mp hf
    omega
  rw [out m c t h7, acc m c t h7]
  rfl

end Cert.GeluKernel
-- ==== Proof.Gelu.Ref.lean ====
/-
  What reverse mode differentiation of the GELU and its product writes, element by element.
-/
module

public import proofs.«01_k».proof.Proof.Gen.GeluRefIdeal.Run
public import proofs.«01_k».proof.Proof.Gelu.Algebra
public import Idealize.ShloMosaic.Lib.Tactic.CleanTypes

@[expose] public section

set_option maxRecDepth 16384

noncomputable section

namespace Cert.GeluRef

open Cert.GeluRefIdeal Idealize.ShloMosaic Idealize.ShloMosaic.TcCoe Idealize.SL.Sem

variable (m : (ℓ : Loc nD τ sig) → Buf (Elt Ideal) ℓ) (ρ : Dev nD → PrngReg) (c : Dev nD)

abbrev DG (r : Fin 4096) (k : Fin 2048) : EReal := m ((c.tc : Thread nD τ).loc main_arg0) (ix2 r k)
abbrev W (j : Fin 1024) (k : Fin 2048) : EReal := m ((c.tc : Thread nD τ).loc main_arg1) (ix2 j k)
abbrev Y (r : Fin 4096) (k : Fin 1024) : EReal := m ((c.tc : Thread nD τ).loc main_arg2) (ix2 r k)
/-- The cotangent of the GELU. -/
abbrev D (r : Fin 4096) (k : Fin 1024) : EReal := ∑ j, DG m c r j * W m c k j

theorem run : θ_run defs (onTc (τ := τ) (main (F := Ideal))) ⟨m, fun _ => 0, ρ⟩ fun r => ∀ c : Dev nD,
      r.2.mem ((c.tc : Thread nD τ).loc main_v37) = (fun i => Gelu.backRev (D m c (i 0) (i 1)) (Y m c (i 0) (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨(h c).1.trans ?_, (h c).2⟩) (Cert.GeluRefIdeal.Value.run m ρ)
  unfold Cert.GeluRefIdeal.Value.res_main_v37
  clear h
  funext i
  obtain ⟨a, k, rfl⟩ : ∃ (a : Fin 4096) (k : Fin 1024), i = ix2 a k := ⟨i 0, i 1, eq_ix2 i⟩
  clean_types
  pointwise
  simp only [Gelu.quotient]

end Cert.GeluRef
-- ==== Proof.Gelu.Value.lean ====
/-
  The backward of the GELU and its product: the kernel's result is the derivative's at finite arguments.
-/
module

public import proofs.«01_k».proof.Defs
public import proofs.«01_k».proof.Proof.Gen.Pre_gelu_finite
public import proofs.«01_k».proof.Proof.Gelu.Kernel
public import proofs.«01_k».proof.Proof.Gelu.Ref

@[expose] public section

set_option maxRecDepth 16384

noncomputable section

namespace Cert.Gelu

open Idealize.ShloMosaic Idealize.ShloMosaic.TcCoe Idealize.SL.Sem

instance : Subsingleton (Cert.Pre_gelu_finite.S_).Idx := ⟨fun a b => funext fun i => i.elim0⟩

theorem frame_ref : Cert.quiescent_GeluRefIdeal := fun m ρ _ =>
  (θ_run _ _ _).mono (fun r h => ⟨fun c => (h c).2, sem_eq_zero_of_no_sems (by decide) r.2⟩) (GeluRef.run m ρ)

theorem preserves : Cert.preserves_GeluBwd_GeluBwdIdeal :=
  ⟨IdealRules.named_const.statement Cert.GeluBwdIdeal.κ "gelu_k" .f32 0x3D372713#32 ((8943 / 200000 : ℝ) : EReal) rfl,
    IdealRules.named_const.statement Cert.GeluBwdIdeal.κ "gelu_3k" .f32 0x3E095D4F#32 ((26829 / 200000 : ℝ) : EReal) rfl⟩

theorem reals (m : (ℓ : Loc Cert.GeluBwdIdeal.nD Cert.GeluBwdIdeal.τ Cert.GeluBwdIdeal.sig) → Buf (Elt Ideal) ℓ)
    (h : Pre_GeluBwdIdeal_gelu_finite m) (c : Dev Cert.GeluBwdIdeal.nD) :
    ∃ d y : Fin 4096 → Fin 1024 → ℝ, (∀ r k, GeluKernel.D m c r k = d r k) ∧ ∀ r k, GeluKernel.Y m c r k = y r k := by
  have hc := congrFun (h c) fun i => i.elim0
  obtain ⟨h1, hy⟩ := IntOp.andi_eq_one.mp hc
  obtain ⟨hd, hw⟩ := IntOp.andi_eq_one.mp h1
  obtain ⟨d, hd⟩ := Common.reals_of_all _ _ (fun _ => rfl) _ _ _ _ hd
  obtain ⟨w, hw⟩ := Common.reals_of_all _ _ (fun _ => rfl) _ _ _ _ hw
  obtain ⟨y, hy⟩ := Common.reals_of_all _ _ (fun _ => rfl) _ _ _ _ hy
  refine ⟨fun r k => ∑ j, d (ix2 r j) * w (ix2 k j), fun r k => y (ix2 r k), fun r k => ?_, fun r k => hy _⟩
  rw [← Common.coe_sum]
  exact Finset.sum_congr rfl fun j _ => (congrArg₂ (· * ·) (hd (ix2 r j)) (hw (ix2 k j))).trans (EReal.coe_mul _ _).symm

theorem algebraic : Cert.algebraic_GeluBwdIdeal_GeluRefIdeal_pre_gelu_finite := fun m ρ m' ρ' hpre hag => by
  refine ⟨fun c => (Cert.GeluBwdIdeal.Gen.dats m 0 c).arrAt 3 Cert.GeluBwdIdeal.cfg0.N, Cert.GeluBwdIdeal.Value.run_blocks m ρ,
    (θ_run _ _ _).mono (fun r h c => ⟨(h c).1.trans ?_, (h c).2⟩) (GeluRef.run m' ρ')⟩
  obtain ⟨d, y, hd, hy⟩ := reals m hpre c
  obtain ⟨g0, g1, g2⟩ := hag c
  have hD : GeluRef.D m' c = GeluKernel.D m c := by unfold GeluRef.D GeluRef.DG GeluRef.W; rw [g0, g1]
  have hY : GeluRef.Y m' c = GeluKernel.Y m c := by unfold GeluRef.Y; rw [g2]
  refine Eq.trans (funext fun i => ?_) (GeluKernel.final m c).symm
  have e : ∀ r k, backRev (GeluKernel.D m c r k) (GeluKernel.Y m c r k) = back (GeluKernel.D m c r k) (GeluKernel.Y m c r k) :=
    fun r k => by rw [hd, hy]; exact backRev_eq_back _ _
  rw [hD, hY]
  exact e _ _

end Cert.Gelu
-- ==== Proof.Qkv.Algebra.lean ====
/-
  A head of 128 lanes, its norm and its rotation: the cotangent turned back, and the derivative of the norm in the closed
  form of the kernel and as reverse mode differentiation writes it, equal at finite rows.
-/
module

public import proofs.«01_k».proof.Proof.In.Common

@[expose] public section

set_option maxRecDepth 16384

noncomputable section

namespace Cert.Heads

open Idealize.ShloMosaic

/-! ### The rotation -/

/-- Whether a lane lies in the first half of its group of 64, as the kernel computes it: the lane's remainder by 64,
    made nonnegative, compared with 32. -/
def first (k : Fin 128) : BitVec 1 :=
  IntOp.cmpi CmpIPredicate.slt
    (Scalar.select
      (IntOp.andi
        (IntOp.xori
          (IntOp.cmpi CmpIPredicate.slt
            (IntOp.remsi ArithUnit.vector (BitVec.ofNat 32 k.val) (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne
          (IntOp.remsi ArithUnit.vector (BitVec.ofNat 32 k.val) (Scalar.select (Scalar.cmpi CmpIPredicate.eq 64#32 0#32) 1#32 64#32)) 0#32))
      (IntOp.addi
        (IntOp.remsi ArithUnit.vector (BitVec.ofNat 32 k.val) (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 k.val) (Scalar.select (Scalar.cmpi CmpIPredicate.eq 64#32 0#32) 1#32 64#32)))
    32#32

theorem first_eq : ∀ k : Fin 128, first k = if k.val % 64 < 32 then 1#1 else 0#1 := by decide +kernel

/-- The lane 32 above, around the end. -/
def up (k : Fin 128) : Fin 128 := ⟨(k.val + 128 - 96) % 128, Nat.mod_lt _ (by norm_num)⟩
/-- The lane 32 below, around the start. -/
def down (k : Fin 128) : Fin 128 := ⟨(k.val + 128 - 32) % 128, Nat.mod_lt _ (by norm_num)⟩

/-- The cotangent `g` of a rotated head turned back by the tables `c` and `s`: the partner lane comes by one of two rolls. -/
def turn (g c s : Fin 128 → EReal) (k : Fin 128) : EReal :=
  g k * c k + Scalar.select (first k) (g (up k) * s (up k)) (g (down k) * s (down k))

/-- A lane is the `j`-th of one of the four quarters of a head. -/
theorem quarters (k : Fin 128) : ∃ j : Fin 32, k = ⟨j.val, by omega⟩ ∨ k = ⟨j.val + 32, by omega⟩ ∨ k = ⟨j.val + 64, by omega⟩
    ∨ k = ⟨j.val + 96, by omega⟩ := by
  refine ⟨⟨k.val % 32, by omega⟩, ?_⟩
  simp only [Fin.ext_iff]
  omega

/-- The two tables at a row: the cosines of a quarter's angles, and the sines with the first quarter's of each pair negated. -/
def cosTab (a b : Fin 32 → EReal) (k : Fin 128) : EReal :=
  if k.val < 64 then Ideal.cos (a ⟨k.val % 32, by omega⟩) else Ideal.cos (b ⟨k.val % 32, by omega⟩)
def sinTab (a b : Fin 32 → EReal) (k : Fin 128) : EReal :=
  if k.val < 32 then -Ideal.sin (a ⟨k.val % 32, by omega⟩) else if k.val < 64 then Ideal.sin (a ⟨k.val % 32, by omega⟩)
    else if k.val < 96 then -Ideal.sin (b ⟨k.val % 32, by omega⟩) else Ideal.sin (b ⟨k.val % 32, by omega⟩)

/-- The same cotangent as reverse mode writes it: quarter by quarter. -/
def turnRev (g : Fin 128 → EReal) (a b : Fin 32 → EReal) (k : Fin 128) : EReal :=
  if k.val < 32 then g ⟨k.val % 32 + 32, by omega⟩ * Ideal.sin (a ⟨k.val % 32, by omega⟩) + g ⟨k.val % 32, by omega⟩ * Ideal.cos (a ⟨k.val % 32, by omega⟩)
  else if k.val < 64 then g ⟨k.val % 32 + 32, by omega⟩ * Ideal.cos (a ⟨k.val % 32, by omega⟩) + -g ⟨k.val % 32, by omega⟩ * Ideal.sin (a ⟨k.val % 32, by omega⟩)
  else if k.val < 96 then g ⟨k.val % 32 + 96, by omega⟩ * Ideal.sin (b ⟨k.val % 32, by omega⟩) + g ⟨k.val % 32 + 64, by omega⟩ * Ideal.cos (b ⟨k.val % 32, by omega⟩)
  else g ⟨k.val % 32 + 96, by omega⟩ * Ideal.cos (b ⟨k.val % 32, by omega⟩) + -g ⟨k.val % 32 + 64, by omega⟩ * Ideal.sin (b ⟨k.val % 32, by omega⟩)

theorem turn_eq (g : Fin 128 → EReal) (a b : Fin 32 → EReal) (k : Fin 128) : turn g (cosTab a b) (sinTab a b) k = turnRev g a b k := by
  obtain ⟨j, rfl | rfl | rfl | rfl⟩ := quarters k
  all_goals
    have hj : j.val % 32 = j.val := Nat.mod_eq_of_lt j.isLt
    have h64 : j.val % 64 < 32 := by omega
    have far : j.val < 64 ∧ j.val + 32 < 64 ∧ ¬ j.val + 64 < 32 ∧ j.val + 64 < 96 ∧ ¬ j.val + 96 < 32 ∧ ¬ j.val + 96 < 64 := by omega
    unfold turn turnRev
    rw [first_eq]
  · rw [show up ⟨j.val, by omega⟩ = ⟨j.val + 32, by omega⟩ from Fin.ext (by show (j.val + 128 - 96) % 128 = j.val + 32; omega)]
    simp [cosTab, sinTab, hj, h64, far, Scalar.select]
    exact add_comm _ _
  · rw [show down ⟨j.val + 32, by omega⟩ = ⟨j.val, by omega⟩ from Fin.ext (by show (j.val + 32 + 128 - 32) % 128 = j.val; omega)]
    simp [cosTab, sinTab, hj, show ¬ (j.val + 32) % 64 < 32 by omega, far, Scalar.select]
  · rw [show up ⟨j.val + 64, by omega⟩ = ⟨j.val + 96, by omega⟩ from Fin.ext (by show (j.val + 64 + 128 - 96) % 128 = j.val + 96; omega)]
    simp [cosTab, sinTab, hj, h64, far, Scalar.select, show (j.val + 64) % 32 = j.val by omega, show (j.val + 96) % 32 = j.val by omega]
    exact add_comm _ _
  · rw [show down ⟨j.val + 96, by omega⟩ = ⟨j.val + 64, by omega⟩ from Fin.ext (by show (j.val + 96 + 128 - 32) % 128 = j.val + 64; omega)]
    simp [cosTab, sinTab, hj, show ¬ (j.val + 96) % 64 < 32 by omega, far, Scalar.select,
      show (j.val + 64) % 32 = j.val by omega, show (j.val + 96) % 32 = j.val by omega]

/-- A turned row of real numbers at real angles is real. -/
theorem turnRev_coe (g : Fin 128 → ℝ) (a b : Fin 32 → ℝ) : ∃ d : Fin 128 → ℝ, ∀ k,
    turnRev (fun k => (g k : EReal)) (fun j => (a j : EReal)) (fun j => (b j : EReal)) k = d k := by
  have h : ∀ k, ∃ d : ℝ, turnRev (fun k => (g k : EReal)) (fun j => (a j : EReal)) (fun j => (b j : EReal)) k = d := fun k => by
    unfold turnRev
    simp only [Ideal.cos_coe, Ideal.sin_coe, ← EReal.coe_neg, ← EReal.coe_mul, ← EReal.coe_add]
    split_ifs <;> exact ⟨_, rfl⟩
  exact ⟨fun k => (h k).choose, fun k => (h k).choose_spec⟩

/-! ### The norm -/

theorem lit_128 : Ideal.ofBits .f32 0x43000000#32 = ((128 : ℝ) : EReal) := by
  simp [Ideal.ofBits, Ideal.ieee, -EReal.coe_mul]; norm_num

def meanSq (x : Fin 128 → EReal) : EReal :=
  Ideal.div (∑ k, x k * x k) (Ideal.ofBits .f32 0x43000000#32) + Ideal.ofBits .f32 0x358637BD#32

/-- The reciprocal root mean square of a head. -/
def rinv (x : Fin 128 → EReal) : EReal := Ideal.rsqrt (meanSq x)

/-- The normed head's gradient in closed form: the head `x`, the cotangent `d`, the gain `w`. -/
def dx (x d w : Fin 128 → EReal) (k : Fin 128) : EReal :=
  rinv x * (d k * w k - x k * rinv x * Ideal.div (∑ j, d j * w j * (x j * rinv x)) (Ideal.ofBits .f32 0x43000000#32))

/-- As reverse mode writes it: the factor beside the head, twice. -/
def half (x d w : Fin 128 → EReal) : EReal :=
  Ideal.div ((∑ j, x j * (d j * w j)) * (Ideal.ofBits .f32 0xBF000000#32 * Ideal.div (rinv x) (meanSq x)))
    (Ideal.ofBits .f32 0x43000000#32)
def dxRev (x d w : Fin 128 → EReal) (k : Fin 128) : EReal :=
  d k * w k * rinv x + x k * half x d w + half x d w * x k

theorem dxRev_eq (x d w : Fin 128 → ℝ) (k : Fin 128) :
    dxRev (fun k => (x k : EReal)) (fun k => (d k : EReal)) (fun k => (w k : EReal)) k
      = dx (fun k => (x k : EReal)) (fun k => (d k : EReal)) (fun k => (w k : EReal)) k := by
  obtain ⟨e, he, hl⟩ := Common.lit_eps
  obtain ⟨u, hu, hm⟩ : ∃ u : ℝ, 0 < u ∧ meanSq (fun k => (x k : EReal)) = u := by
    refine ⟨(∑ k, x k * x k) * (1 / 128) + e, ?_, ?_⟩
    · have : 0 ≤ ∑ k, x k * x k := Finset.sum_nonneg fun k _ => mul_self_nonneg (x k)
      positivity
    · unfold meanSq
      simp only [← EReal.coe_mul]
      rw [Common.coe_sum, lit_128, Ideal.div_coe (by norm_num), hl, ← EReal.coe_mul, ← EReal.coe_add]
  have hr : rinv (fun k => (x k : EReal)) = ((√u)⁻¹ : ℝ) := by
    unfold rinv
    rw [hm, Ideal.rsqrt_coe, if_neg hu.not_gt, if_neg hu.ne']
  have hru : u⁻¹ = (√u)⁻¹ * (√u)⁻¹ := by rw [← mul_inv, Real.mul_self_sqrt hu.le]
  unfold dxRev dx half
  rw [hm, hr, lit_128, Common.lit_neg_half, Ideal.div_coe hu.ne', Ideal.div_coe (by norm_num), Ideal.div_coe (by norm_num)]
  generalize (√u)⁻¹ = r at hru
  simp only [← EReal.coe_mul, Common.coe_sum, ← EReal.coe_sub, ← EReal.coe_add]
  have hs : ∑ j, d j * w j * (x j * r) = (∑ j, x j * (d j * w j)) * r := by
    rw [Finset.sum_mul]
    exact Finset.sum_congr rfl fun j _ => by ring
  rw [hs, one_div, one_div, hru]
  congr 1
  ring

end Cert.Heads
-- ==== Proof.Qkv.Kernel.lean ====
/-
  What the backward of the heads' norms and rotations leaves in its three result arrays, element by element.
-/
module

public import proofs.«01_k».proof.Proof.Gen.QkvBwdIdeal.Value
public import proofs.«01_k».proof.Proof.Qkv.Algebra

@[expose] public section

set_option maxRecDepth 16384

noncomputable section

namespace Cert.QkvKernel

open Cert.QkvBwdIdeal Cert.QkvBwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev DQ (r : Fin 4096) (k : Fin 1024) : EReal := m ((c : Thread nD τ).loc main_arg0) (ix2 r k)
abbrev DK (r : Fin 4096) (k : Fin 256) : EReal := m ((c : Thread nD τ).loc main_arg1) (ix2 r k)
abbrev DV (r : Fin 4096) (k : Fin 256) : EReal := m ((c : Thread nD τ).loc main_arg2) (ix2 r k)
abbrev Z (r : Fin 4096) (k : Fin 4608) : EReal := m ((c : Thread nD τ).loc main_arg3) (ix2 r k)
abbrev AR (r : Fin 4096) (k : Fin 32) : EReal := m ((c : Thread nD τ).loc main_arg4) (ix2 r k)
abbrev AC (r : Fin 4096) (k : Fin 32) : EReal := m ((c : Thread nD τ).loc main_arg5) (ix2 r k)
abbrev QN (k : Fin 128) : EReal := m ((c : Thread nD τ).loc main_arg6) (ix2 0 k)
abbrev KN (k : Fin 128) : EReal := m ((c : Thread nD τ).loc main_arg7) (ix2 0 k)
abbrev GA (r : Fin 4096) (k : Fin 1024) : EReal := m ((c : Thread nD τ).loc main_arg8) (ix2 r k)
abbrev DU (r : Fin 4096) (k : Fin 1024) : EReal := m ((c : Thread nD τ).loc main_arg9) (ix2 r k)
abbrev GS (r : Fin 4096) (k : Fin 1024) : EReal := m ((c : Thread nD τ).loc main_arg10) (ix2 r k)

theorem idx : ∀ t : Fin grid0.N, win0_0.index t = ![t.val, 0] ∧ win0_1.index t = ![t.val, 0] ∧ win0_2.index t = ![t.val, 0]
    ∧ win0_3.index t = ![t.val, 0] ∧ win0_4.index t = ![t.val, 16] ∧ win0_5.index t = ![t.val, 0]
    ∧ win0_6.index t = ![t.val, 0] ∧ win0_7.index t = ![0, 0] ∧ win0_8.index t = ![0, 0]
    ∧ win0_9.index t = ![t.val, 0] ∧ win0_10.index t = ![t.val, 0] ∧ win0_11.index t = ![t.val, 0]
    ∧ win0_12.index t = ![t.val, 0] := by
  decide +kernel

/-- Row `a` of the `t`-th block of 256 rows. -/
def row (t : Fin cfg0.N) (a : Fin 256) : Fin 4096 :=
  ⟨t.val * 256 + a.val, by have := t.isLt; have : cfg0.N = 16 := N_0; omega⟩

/-- Lane `k` of query head `h` among the query columns, and of key head `h` among the key columns. -/
def qc (h : Fin 8) (k : Fin 128) : Fin 1024 := ⟨128 * h.val + k.val, by omega⟩
def kc (h : Fin 2) (k : Fin 128) : Fin 256 := ⟨128 * h.val + k.val, by omega⟩
theorem qc_zero (k : Fin 128) : qc 0 k = ⟨k.val, by omega⟩ := Fin.ext (by show 128 * 0 + k.val = k.val; omega)
theorem kc_zero (k : Fin 128) : kc 0 k = ⟨k.val, by omega⟩ := Fin.ext (by show 128 * 0 + k.val = k.val; omega)

/-! ### The arrays that the host lines prepare -/

/-- The projection's columns in the order of the kernel: the key and value columns last. -/
theorem cols : (V m c main_v3 : S4096x4608.Idx → EReal) = concatenate (α := EReal) S4096x4608 1
    [⟨S4096x1024, extractStridedSlice S4096x1024 ![0, 0] (m ((c : Thread nD τ).loc main_arg3)) slices_S4096x4608_S4096x1024_0_0⟩,
      ⟨S4096x3072, extractStridedSlice S4096x3072 ![0, 1536] (m ((c : Thread nD τ).loc main_arg3)) slices_S4096x4608_S4096x3072_0_1536⟩,
      ⟨S4096x512, extractStridedSlice S4096x512 ![0, 1024] (m ((c : Thread nD τ).loc main_arg3)) slices_S4096x4608_S4096x512_0_1024⟩]
    concatenates_S4096x1024_S4096x3072_S4096x512_S4096x4608_d1 := by
  simp only [V, hostOps0]
  after_results_simp
  rfl
theorem cols_q (r : Fin 4096) (k : Fin 1024) :
    (V m c main_v3 : S4096x4608.Idx → EReal) (ix2 r ⟨k.val, by omega⟩) = Z m c r ⟨k.val, by omega⟩ := by
  rw [cols]
  pointwise
theorem cols_k (r : Fin 4096) (k : Fin 256) :
    (V m c main_v3 : S4096x4608.Idx → EReal) (ix2 r ⟨4096 + k.val, by omega⟩) = Z m c r ⟨1024 + k.val, by omega⟩ := by
  rw [cols]
  pointwise
  rw [dif_neg (by omega), dif_neg (by omega)]
  exact congrArg (fun k' => Z m c r k') (Fin.ext (by show 1024 + (4096 + k.val - 4096) = 1024 + k.val; omega))

theorem cos_cols : (V m c main_v8 : S4096x128.Idx → EReal) = concatenate (α := EReal) S4096x128 1
    [⟨S4096x32, Host.cos (F := Ideal) (φ := .f32) (m ((c : Thread nD τ).loc main_arg4))⟩, ⟨S4096x32, Host.cos (F := Ideal) (φ := .f32) (m ((c : Thread nD τ).loc main_arg4))⟩,
      ⟨S4096x32, Host.cos (F := Ideal) (φ := .f32) (m ((c : Thread nD τ).loc main_arg5))⟩, ⟨S4096x32, Host.cos (F := Ideal) (φ := .f32) (m ((c : Thread nD τ).loc main_arg5))⟩]
    concatenates_S4096x32_S4096x32_S4096x32_S4096x32_S4096x128_d1 := by
  simp only [V, hostOps0]
  after_results_simp
  rfl
theorem cosines (r : Fin 4096) (k : Fin 128) :
    (V m c main_v8 : S4096x128.Idx → EReal) (ix2 r k) = Heads.cosTab (AR m c r) (AC m c r) k := by
  rw [cos_cols]
  unfold Heads.cosTab
  pointwise
  repeat' split
  all_goals first
    | omega
    | refine congrArg (fun k' => Ideal.cos (AR m c r k')) (Fin.ext ?_); dsimp only; omega
    | refine congrArg (fun k' => Ideal.cos (AC m c r k')) (Fin.ext ?_); dsimp only; omega

theorem sin_cols : (V m c main_v11 : S4096x128.Idx → EReal) = concatenate (α := EReal) S4096x128 1
    [⟨S4096x32, Host.negf (F := Ideal) (φ := .f32) (Host.sin (F := Ideal) (φ := .f32) (m ((c : Thread nD τ).loc main_arg4)))⟩, ⟨S4096x32, Host.sin (F := Ideal) (φ := .f32) (m ((c : Thread nD τ).loc main_arg4))⟩,
      ⟨S4096x32, Host.negf (F := Ideal) (φ := .f32) (Host.sin (F := Ideal) (φ := .f32) (m ((c : Thread nD τ).loc main_arg5)))⟩, ⟨S4096x32, Host.sin (F := Ideal) (φ := .f32) (m ((c : Thread nD τ).loc main_arg5))⟩]
    concatenates_S4096x32_S4096x32_S4096x32_S4096x32_S4096x128_d1 := by
  simp only [V, hostOps0]
  after_results_simp
  rfl
theorem sines (r : Fin 4096) (k : Fin 128) :
    (V m c main_v11 : S4096x128.Idx → EReal) (ix2 r k) = Heads.sinTab (AR m c r) (AC m c r) k := by
  rw [sin_cols]
  unfold Heads.sinTab
  pointwise
  repeat' split
  all_goals first
    | omega
    | refine congrArg (fun k' => Ideal.sin (AR m c r k')) (Fin.ext ?_); dsimp only; omega
    | refine congrArg (fun k' => Ideal.sin (AC m c r k')) (Fin.ext ?_); dsimp only; omega
    | refine congrArg (fun k' => -Ideal.sin (AR m c r k')) (Fin.ext ?_); dsimp only; omega
    | refine congrArg (fun k' => -Ideal.sin (AC m c r k')) (Fin.ext ?_); dsimp only; omega

theorem read0 (t : Fin cfg0.N) (a : Fin 256) (k : Fin 1024) : iblk m c 0 t (ix2 a k) = DQ m c (row t a) k := by
  unfold DQ row; blk_ext! [iblk, V, idx t]
theorem read1 (t : Fin cfg0.N) (a : Fin 256) (k : Fin 256) : iblk m c 1 t (ix2 a k) = DK m c (row t a) k := by
  unfold DK row; blk_ext! [iblk, V, idx t]
theorem read2 (t : Fin cfg0.N) (a : Fin 256) (k : Fin 256) : iblk m c 2 t (ix2 a k) = DV m c (row t a) k := by
  unfold DV row; blk_ext! [iblk, V, idx t]
theorem read3 (t : Fin cfg0.N) (a : Fin 256) (k : Fin 1024) : X0_3 m c t (ix2 a k) = Z m c (row t a) ⟨k.val, by omega⟩ := by
  unfold X0_3 Pipeline.Window.fill
  rw [dif_pos (moved0_3 t _)]
  refine Eq.trans ?_ (cols_q m c (row t a) k)
  unfold iblk row
  generalize V m c main_v3 = v
  blk_ext! [idx t]
theorem read4 (t : Fin cfg0.N) (a : Fin 256) (k : Fin 256) : iblk m c 4 t (ix2 a k) = Z m c (row t a) ⟨1024 + k.val, by omega⟩ := by
  refine Eq.trans ?_ (cols_k m c (row t a) k)
  unfold iblk row
  generalize V m c main_v3 = v
  blk_ext! [idx t]
theorem read5 (t : Fin cfg0.N) (a : Fin 256) (k : Fin 128) : iblk m c 5 t (ix2 a k) = Heads.cosTab (AR m c (row t a)) (AC m c (row t a)) k := by
  refine Eq.trans ?_ (cosines m c (row t a) k)
  unfold iblk row
  generalize V m c main_v8 = v
  blk_ext! [idx t]
theorem read6 (t : Fin cfg0.N) (a : Fin 256) (k : Fin 128) : iblk m c 6 t (ix2 a k) = Heads.sinTab (AR m c (row t a)) (AC m c (row t a)) k := by
  refine Eq.trans ?_ (sines m c (row t a) k)
  unfold iblk row
  generalize V m c main_v11 = v
  blk_ext! [idx t]
theorem read7 (t : Fin cfg0.N) (k : Fin 128) : iblk m c 7 t (ix2 0 k) = QN m c k := by
  unfold QN; blk_ext! [iblk, V, idx t]
theorem read8 (t : Fin cfg0.N) (k : Fin 128) : iblk m c 8 t (ix2 0 k) = KN m c k := by
  unfold KN; blk_ext! [iblk, V, idx t]
theorem read9 (t : Fin cfg0.N) (a : Fin 256) (k : Fin 1024) : iblk m c 9 t (ix2 a k) = GA m c (row t a) k := by
  unfold GA row; blk_ext! [iblk, V, idx t]
theorem read10 (t : Fin cfg0.N) (a : Fin 256) (k : Fin 1024) : iblk m c 10 t (ix2 a k) = DU m c (row t a) k := by
  unfold DU row; blk_ext! [iblk, V, idx t]
theorem read11 (t : Fin cfg0.N) (a : Fin 256) (k : Fin 1024) : iblk m c 11 t (ix2 a k) = GS m c (row t a) k := by
  unfold GS row; blk_ext! [iblk, V, idx t]
theorem emb12 (t : Fin cfg0.N) (a : Fin 256) (k : Fin 4608) : ((cfg0.win 12).blk t).view.emb (ix2 a k) = ix2 (row t a) k := by
  unfold row; blk_ext! [idx t]

/-! ### A row's heads -/

/-- Query head `h` of row `r`, and the cotangent of its norm's output. -/
def QX (r : Fin 4096) (h : Fin 8) (k : Fin 128) : EReal := Z m c r ⟨(qc h k).val, by omega⟩
def QD (r : Fin 4096) (h : Fin 8) : Fin 128 → EReal :=
  Heads.turn (fun k => DQ m c r (qc h k) * Ideal.ofBits .f32 0x3DB504F3#32) (Heads.cosTab (AR m c r) (AC m c r)) (Heads.sinTab (AR m c r) (AC m c r))
/-- Key head `h` of row `r`, and the cotangent of its norm's output. -/
def KX (r : Fin 4096) (h : Fin 2) (k : Fin 128) : EReal := Z m c r ⟨1024 + (kc h k).val, by omega⟩
def KD (r : Fin 4096) (h : Fin 2) : Fin 128 → EReal :=
  Heads.turn (fun k => DK m c r (kc h k)) (Heads.cosTab (AR m c r) (AC m c r)) (Heads.sinTab (AR m c r) (AC m c r))

/-- One element of the projection's cotangent: by the column, a query head's, a key head's or one of the other four parts. -/
def DZ (r : Fin 4096) (j : Fin 4608) : EReal :=
  if h : j.val < 1024 then Heads.dx (QX m c r ⟨j.val / 128, by omega⟩) (QD m c r ⟨j.val / 128, by omega⟩) (QN m c) ⟨j.val % 128, by omega⟩
  else if h : j.val < 1280 then Heads.dx (KX m c r ⟨(j.val - 1024) / 128, by omega⟩) (KD m c r ⟨(j.val - 1024) / 128, by omega⟩) (KN m c) ⟨j.val % 128, by omega⟩
  else if h : j.val < 1536 then DV m c r ⟨j.val - 1280, by omega⟩
  else if h : j.val < 2560 then GA m c r ⟨j.val - 1536, by omega⟩
  else if h : j.val < 3584 then DU m c r ⟨j.val - 2560, by omega⟩
  else GS m c r ⟨j.val - 3584, by omega⟩

theorem dz_q (r : Fin 4096) (h : Fin 8) (k : Fin 128) :
    DZ m c r ⟨128 * h.val + k.val, by omega⟩ = Heads.dx (QX m c r h) (QD m c r h) (QN m c) k := by
  have e1 : (128 * h.val + k.val) / 128 = h.val := by omega
  have e2 : (128 * h.val + k.val) % 128 = k.val := by omega
  unfold DZ
  rw [dif_pos (by show 128 * h.val + k.val < 1024; omega)]
  simp only [e1, e2]
theorem dz_k (r : Fin 4096) (h : Fin 2) (k : Fin 128) :
    DZ m c r ⟨1024 + 128 * h.val + k.val, by omega⟩ = Heads.dx (KX m c r h) (KD m c r h) (KN m c) k := by
  have e1 : (1024 + 128 * h.val + k.val - 1024) / 128 = h.val := by omega
  have e2 : (1024 + 128 * h.val + k.val) % 128 = k.val := by omega
  unfold DZ
  rw [dif_neg (by show ¬ 1024 + 128 * h.val + k.val < 1024; omega), dif_pos (by show 1024 + 128 * h.val + k.val < 1280; omega)]
  simp only [e1, e2]
theorem dz_v (r : Fin 4096) (k : Fin 256) : DZ m c r ⟨1280 + k.val, by omega⟩ = DV m c r k := by
  unfold DZ
  rw [dif_neg (by dsimp only; omega), dif_neg (by dsimp only; omega), dif_pos (by dsimp only; omega)]
  exact congrArg (fun k' => DV m c r k') (Fin.ext (Nat.add_sub_cancel_left ..))
theorem dz_ga (r : Fin 4096) (k : Fin 1024) : DZ m c r ⟨1536 + k.val, by omega⟩ = GA m c r k := by
  unfold DZ
  rw [dif_neg (by dsimp only; omega), dif_neg (by dsimp only; omega), dif_neg (by dsimp only; omega), dif_pos (by dsimp only; omega)]
  exact congrArg (fun k' => GA m c r k') (Fin.ext (Nat.add_sub_cancel_left ..))
theorem dz_du (r : Fin 4096) (k : Fin 1024) : DZ m c r ⟨2560 + k.val, by omega⟩ = DU m c r k := by
  unfold DZ
  rw [dif_neg (by dsimp only; omega), dif_neg (by dsimp only; omega), dif_neg (by dsimp only; omega), dif_neg (by dsimp only; omega), dif_pos (by dsimp only; omega)]
  exact congrArg (fun k' => DU m c r k') (Fin.ext (Nat.add_sub_cancel_left ..))
theorem dz_gs (r : Fin 4096) (k : Fin 1024) : DZ m c r ⟨3584 + k.val, by omega⟩ = GS m c r k := by
  unfold DZ
  rw [dif_neg (by dsimp only; omega), dif_neg (by dsimp only; omega), dif_neg (by dsimp only; omega), dif_neg (by dsimp only; omega), dif_neg (by dsimp only; omega)]
  exact congrArg (fun k' => GS m c r k') (Fin.ext (Nat.add_sub_cancel_left ..))

/-- A store into the columns from `o` on holds the part of a block that it names. -/
theorem piece {o n : ℕ} (inb : ∀ a, (![0, o] : Fin 2 → ℕ) a + (![256, n] : Fin 2 → ℕ) a ≤ S256x4608.size a) (w : (⟨2, ![256, n]⟩ : Shape).Idx → EReal)
    (f : Fin 256 → Fin 4608 → EReal) (ho : o + n ≤ 4608) (h : ∀ (a : Fin 256) (k : Fin n), w (ix2 a k) = f a ⟨o + k.val, by omega⟩) :
    ∀ x : (Rect.unit (s := S256x4608) ![0, o] ![256, n] inb).shape.Idx,
      w x = (fun y : S256x4608.Idx => f (y 0) (y 1)) ((Rect.unit (s := S256x4608) ![0, o] ![256, n] inb).emb x) := fun x => by
  have e : x = ix2 (x 0) (x 1) := eq_ix2 (n0 := 256) (n1 := n) x
  refine (congrArg w e).trans ((h (x 0) (x 1)).trans ?_)
  have e0 : ((Rect.unit (s := S256x4608) ![0, o] ![256, n] inb).emb x 0) = (x 0 : Fin 256) := Fin.ext (by show 0 + 1 * (x 0).val = (x 0).val; omega)
  have e1 : ((Rect.unit (s := S256x4608) ![0, o] ![256, n] inb).emb x 1) = (⟨o + (x 1).val, by have : (x 1).val < n := (x 1).isLt; omega⟩ : Fin 4608) :=
    Fin.ext (by show o + 1 * (x 1).val = o + (x 1).val; omega)
  exact (congrArg₂ f e0 e1).symm

set_option maxHeartbeats 2000000 in
theorem final12 : (dats m 0 c).arrAt 12 cfg0.N = fun i => DZ m c (i 0) (i 1) := by
  refine (dats m 0 c).arrAt_eq_of_covers 12 _ (by decide +kernel) fun t hf y => ?_
  idx_vars y
  rw [emb12]
  blk_simp
  rw [after0_12]
  by_cases h0 : t.val % 16 = 0
  all_goals
    first | rw [outsAt0_A m c t h0 h0] | rw [outsAt0_B m c t h0 h0]
    frame_out
    refine (View.canon_apply_of_pieces (fun y : S256x4608.Idx => DZ m c (row t (y 0)) (y 1)) _ ?_ _
      (View.cover_of_tiledBy _ ![256, 128] (by sl_kernel_rfl) _)).trans rfl
    simp only [List.forall_mem_cons]
    refine ⟨?_, ?_, ?_, ?_, ?_, ?_, ?_, ?_, ?_, ?_, ?_, ?_, ?_, ?_, fun p hp => absurd hp List.not_mem_nil⟩
    all_goals
      refine piece _ _ (fun a => DZ m c (row t a)) (by norm_num) fun a k => ?_
    on_goal 1 => refine Eq.trans ?_ (dz_v m c (row t a) k).symm
    on_goal 2 => refine Eq.trans ?_ (dz_k m c (row t a) 1 k).symm
    on_goal 3 => refine Eq.trans ?_ (dz_k m c (row t a) 0 k).symm
    on_goal 4 => refine Eq.trans ?_ (dz_q m c (row t a) 7 k).symm
    on_goal 5 => refine Eq.trans ?_ (dz_q m c (row t a) 6 k).symm
    on_goal 6 => refine Eq.trans ?_ (dz_q m c (row t a) 5 k).symm
    on_goal 7 => refine Eq.trans ?_ (dz_q m c (row t a) 4 k).symm
    on_goal 8 => refine Eq.trans ?_ (dz_q m c (row t a) 3 k).symm
    on_goal 9 => refine Eq.trans ?_ (dz_q m c (row t a) 2 k).symm
    on_goal 10 => refine Eq.trans ?_ (dz_q m c (row t a) 1 k).symm
    on_goal 11 => refine Eq.trans ?_ (dz_q m c (row t a) 0 k).symm
    on_goal 12 => refine Eq.trans ?_ (dz_gs m c (row t a) k).symm
    on_goal 13 => refine Eq.trans ?_ (dz_du m c (row t a) k).symm
    on_goal 14 => refine Eq.trans ?_ (dz_ga m c (row t a) k).symm
    all_goals
      unfold_payloads
      pointwise
      simp only [read0, read1, read2, read3, read4, read5, read6, read7, read8, read9, read10, read11]
    all_goals first
      | done
      | rfl
      | unfold QX QD; simp only [qc_zero]; rfl
      | unfold KX KD; simp only [kc_zero]; rfl

/-- A block of rows' part of a gain's gradient. -/
def partQ (t : Fin cfg0.N) (k : Fin 128) : EReal := ∑ h : Fin 8, ∑ a : Fin 256, QD m c (row t a) h k * (QX m c (row t a) h k * Heads.rinv (QX m c (row t a) h))
def partK (t : Fin cfg0.N) (k : Fin 128) : EReal := ∑ h : Fin 2, ∑ a : Fin 256, KD m c (row t a) h k * (KX m c (row t a) h k * Heads.rinv (KX m c (row t a) h))

theorem final14 : (dats m 0 c).arrAt 14 cfg0.N = fun i =>
    ∑ h : Fin 2, ∑ r : Fin 4096, KD m c r h (i 1) * (KX m c r h (i 1) * Heads.rinv (KX m c r h)) := by
  refine (dats m 0 c).arrAt_eq_of_after_last 14 t0_15 (by decide +kernel) _ fun j => ?_
  idx_vars j
  rw [after0_14]
  refine (Pipeline.eq_sum_fin_of_reset_step_apply_last (fun n h => (outsAt0 m c n h).2.2) 16 (fun _ => (0 : EReal))
      (fun t i => partK m c t (i 1))
      (fun t h j => ?_) (fun t h j => ?_) (by decide) t0_15 rfl _).trans ?_
  · rw [outsAt0_A m c t h h]; frame_out; unfold_payloads; idx_vars j; pointwise
    simp only [read1, read4, read5, read6]
    unfold partK KX KD
    simp only [Fin.sum_univ_two, kc_zero]
    rfl
  · rw [outsAt0_B m c t h h]; frame_out; unfold_payloads; idx_vars j; pointwise
    simp only [read1, read4, read5, read6]
    unfold partK KX KD
    simp only [Fin.sum_univ_two, kc_zero]
    rfl
  · rw [zero_add]
    refine Finset.sum_comm.trans (Finset.sum_congr rfl fun h _ => ?_)
    exact Fin.sum_mul_add_congr (S := 16) (n := 256) (fun s k hl => rfl) rfl

theorem final13 : (dats m 0 c).arrAt 13 cfg0.N = fun i =>
    ∑ h : Fin 8, ∑ r : Fin 4096, QD m c r h (i 1) * (QX m c r h (i 1) * Heads.rinv (QX m c r h)) := by
  refine (dats m 0 c).arrAt_eq_of_after_last 13 t0_15 (by decide +kernel) _ fun j => ?_
  idx_vars j
  rw [after0_13]
  refine (Pipeline.eq_sum_fin_of_reset_step_apply_last (fun n h => (outsAt0 m c n h).2.1) 16 (fun _ => (0 : EReal))
      (fun t i => partQ m c t (i 1))
      (fun t h j => ?_) (fun t h j => ?_) (by decide) t0_15 rfl _).trans ?_
  · rw [outsAt0_A m c t h h]; frame_out; unfold_payloads; idx_vars j; pointwise
    simp only [read0, read3, read5, read6]
    unfold partQ QX QD
    simp only [Fin.sum_univ_eight, qc_zero]
    rfl
  · rw [outsAt0_B m c t h h]; frame_out; unfold_payloads; idx_vars j; pointwise
    simp only [read0, read3, read5, read6]
    unfold partQ QX QD
    simp only [Fin.sum_univ_eight, qc_zero]
    rfl
  · rw [zero_add]
    refine Finset.sum_comm.trans (Finset.sum_congr rfl fun h _ => ?_)
    exact Fin.sum_mul_add_congr (S := 16) (n := 256) (fun s k hl => rfl) rfl

end Cert.QkvKernel
-- ==== Proof.Qkv.Ref.lean ====
/-
  What the derivative of the heads' norms and rotations returns, element by element.
-/
module

public import proofs.«01_k».proof.Proof.Gen.QkvRefIdeal.Run
public import proofs.«01_k».proof.Proof.Qkv.Algebra
public import Idealize.ShloMosaic.Lib.Tactic.CleanTypes
public import Idealize.ShloMosaic.Lib.KernelVsHost

@[expose] public section

set_option maxRecDepth 16384

noncomputable section

namespace Cert.QkvRef

open Cert.QkvRefIdeal Idealize.ShloMosaic Idealize.ShloMosaic.StableHlo Idealize.ShloMosaic.TcCoe Idealize.SL.Sem

variable (m : (ℓ : Loc nD τ sig) → Buf (Elt Ideal) ℓ) (ρ : Dev nD → PrngReg) (c : Dev nD)

abbrev DQ (r : Fin 4096) (k : Fin 1024) : EReal := m ((c.tc : Thread nD τ).loc main_arg0) (ix2 r k)
abbrev DK (r : Fin 4096) (k : Fin 256) : EReal := m ((c.tc : Thread nD τ).loc main_arg1) (ix2 r k)
abbrev DV (r : Fin 4096) (k : Fin 256) : EReal := m ((c.tc : Thread nD τ).loc main_arg2) (ix2 r k)
abbrev Z (r : Fin 4096) (k : Fin 4608) : EReal := m ((c.tc : Thread nD τ).loc main_arg3) (ix2 r k)
abbrev AR (r : Fin 4096) (k : Fin 32) : EReal := m ((c.tc : Thread nD τ).loc main_arg4) (ix2 r k)
abbrev AC (r : Fin 4096) (k : Fin 32) : EReal := m ((c.tc : Thread nD τ).loc main_arg5) (ix2 r k)
abbrev QN (k : Fin 128) : EReal := m ((c.tc : Thread nD τ).loc main_arg6) (ix2 0 k)
abbrev KN (k : Fin 128) : EReal := m ((c.tc : Thread nD τ).loc main_arg7) (ix2 0 k)
abbrev GA (r : Fin 4096) (k : Fin 1024) : EReal := m ((c.tc : Thread nD τ).loc main_arg8) (ix2 r k)
abbrev DU (r : Fin 4096) (k : Fin 1024) : EReal := m ((c.tc : Thread nD τ).loc main_arg9) (ix2 r k)
abbrev GS (r : Fin 4096) (k : Fin 1024) : EReal := m ((c.tc : Thread nD τ).loc main_arg10) (ix2 r k)

/-- Query head `h` of row `r`, and the cotangent of its norm's output; the same of the key heads. -/
def QX (r : Fin 4096) (h : Fin 8) (k : Fin 128) : EReal := Z m c r ⟨h.val * 128 + k.val, by omega⟩
def QD (r : Fin 4096) (h : Fin 8) : Fin 128 → EReal :=
  Heads.turnRev (fun k => DQ m c r ⟨h.val * 128 + k.val, by omega⟩ * Ideal.ofBits .f32 0x3DB504F3#32) (AR m c r) (AC m c r)
def KX (r : Fin 4096) (h : Fin 2) (k : Fin 128) : EReal := Z m c r ⟨1024 + (h.val * 128 + k.val), by omega⟩
def KD (r : Fin 4096) (h : Fin 2) : Fin 128 → EReal :=
  Heads.turnRev (fun k => DK m c r ⟨h.val * 128 + k.val, by omega⟩) (AR m c r) (AC m c r)

theorem zero_word : Ideal.ofBits .f32 0#32 = 0 := by
  simp [Ideal.ofBits, Ideal.ieee]

/-- Two arrays of half a head's lanes, each padded by zeros to a head and added: the first fills the upper half. -/
theorem padded {H : Nat} (a b : (⟨3, ![4096, H, 64]⟩ : Shape).Idx → EReal)
    (ha : (⟨3, ![4096, H, 64]⟩ : Shape).Pads ![0, 0, 64] ![0, 0, 0] ![0, 0, 0] ⟨3, ![4096, H, 128]⟩)
    (hb : (⟨3, ![4096, H, 64]⟩ : Shape).Pads ![0, 0, 0] ![0, 0, 64] ![0, 0, 0] ⟨3, ![4096, H, 128]⟩) (hu hu' : 0 < S_.numel)
    (r : Fin 4096) (h : Fin H) (k : Fin 128) :
    addf (F := Ideal) (φ := .f32) (pad ⟨3, ![4096, H, 128]⟩ ![0, 0, 64] ![0, 0, 0] ![0, 0, 0] a (constant (F := Ideal) S_ .f32 0#32) ha hu)
        (pad ⟨3, ![4096, H, 128]⟩ ![0, 0, 0] ![0, 0, 64] ![0, 0, 0] b (constant (F := Ideal) S_ .f32 0#32) hb hu') (ix3 r h k)
      = if hk : k.val < 64 then b (ix3 r h ⟨k.val, hk⟩) else a (ix3 r h ⟨k.val - 64, by omega⟩) := by
  refine (show _ = (_ + _ : EReal) from rfl).trans ?_
  split
  next hk =>
    rw [pad_apply_of_not_inside _ _ _ a _ ha hu (ix3 r h k) (2 : Fin 3) (fun hn => hk.not_ge hn.1)]
    refine (congrArg (· + _) zero_word).trans ((zero_add _).trans ?_)
    refine pad_apply_of_inside _ _ _ b _ hb hu' _ (ix3 r h ⟨k.val, hk⟩) fun x => ?_
    match x with
    | ⟨0, _⟩ => show r.val = 0 + r.val * 1; omega
    | ⟨1, _⟩ => show h.val = 0 + h.val * 1; omega
    | ⟨2, _⟩ => show k.val = 0 + k.val * 1; omega
  next hk =>
    rw [pad_apply_of_not_inside _ _ _ b _ hb hu' (ix3 r h k) (2 : Fin 3) (fun hn => absurd (show (k.val - 0) / 1 < 64 from hn.2.2) (by omega))]
    refine (congrArg (_ + ·) zero_word).trans ((add_zero _).trans ?_)
    refine pad_apply_of_inside _ _ _ a _ ha hu _ (ix3 r h ⟨k.val - 64, by omega⟩) fun x => ?_
    match x with
    | ⟨0, _⟩ => show r.val = 0 + r.val * 1; omega
    | ⟨1, _⟩ => show h.val = 0 + h.val * 1; omega
    | ⟨2, _⟩ => show k.val = 64 + (k.val - 64) * 1; omega

/-- A sum over the two leading axes of three. -/
theorem sum_leading {n p q : Nat} {t : Shape} (h : (⟨3, ![n, p, q]⟩ : Shape).ReducesTo [0, 1] t) (v : (⟨3, ![n, p, q]⟩ : Shape).Idx → EReal)
    (z : EReal) (j : t.Idx) (k : Fin q) (hk : ∀ a : Fin t.rank, (j a).val = k.val) :
    Ideal.hostReduceAdd h v z j = z + ∑ b : Fin p, ∑ a : Fin n, v (ix3 a b k) := by
  have hr : t.rank = 1 := h.1
  have key : ∀ i, h.drop i = j ↔ (i 2 : Fin q) = k := fun i => by
    constructor
    · intro e
      exact Fin.ext ((congrArg Fin.val (congrFun e ⟨0, by omega⟩)).trans (hk _))
    · intro e
      funext b
      apply Fin.ext
      match b with
      | ⟨0, _⟩ => exact (congrArg Fin.val e).trans (hk _).symm
      | ⟨_ + 1, hb⟩ => exact absurd hb (by omega)
  unfold Ideal.hostReduceAdd
  rw [← Fintype.sum_prod_type' (f := fun (b : Fin p) (a : Fin n) => v (ix3 a b k))]
  refine congrArg (z + ·) (Finset.sum_nbij' (fun i => ((i 1 : Fin p), (i 0 : Fin n))) (fun x => ix3 x.2 x.1 k) (fun _ _ => Finset.mem_univ _)
    (fun x _ => Finset.mem_filter.mpr ⟨Finset.mem_univ _, (key _).mpr rfl⟩) (fun i hi => ?_) (fun x _ => rfl) (fun i hi => ?_))
  · rw [← (key i).mp (Finset.mem_filter.mp hi).2]
    exact (eq_ix3 i).symm
  · rw [← (key i).mp (Finset.mem_filter.mp hi).2]
    exact congrArg v (eq_ix3 i)

/-- The two lanes of a turned pair, read at equal places. -/
theorem pair_first {n : Nat} (g : Fin n → EReal) (t : Fin 32 → EReal) {i i' j j' : Fin n} {a a' : Fin 32} (hi : i = i') (hj : j = j') (ha : a = a') :
    g i * Ideal.sin (t a) + g j * Ideal.cos (t a) = g i' * Ideal.sin (t a') + g j' * Ideal.cos (t a') := by rw [hi, hj, ha]
theorem pair_second {n : Nat} (g : Fin n → EReal) (t : Fin 32 → EReal) {i i' j j' : Fin n} {a a' : Fin 32} (hi : i = i') (hj : j = j') (ha : a = a') :
    g i * Ideal.cos (t a) + -g j * Ideal.sin (t a) = g i' * Ideal.cos (t a') + -g j' * Ideal.sin (t a') := by rw [hi, hj, ha]

section
open Cert.QkvRefIdeal.Value

theorem qx (r : Fin 4096) (h : Fin 8) (k : Fin 128) : (res_main_v7 (launchContents m c) : S4096x8x128.Idx → EReal) (ix3 r h k) = QX m c r h k := by
  unfold res_main_v7 res_main_v0 QX
  clean_types
  pointwise

theorem kx (r : Fin 4096) (h : Fin 2) (k : Fin 128) : (res_main_v64 (launchContents m c) : S4096x2x128.Idx → EReal) (ix3 r h k) = KX m c r h k := by
  unfold res_main_v64 res_main_v0 KX
  clean_types
  pointwise

theorem qd (r : Fin 4096) (h : Fin 8) (k : Fin 128) : (res_main_v214 (launchContents m c) : S4096x8x128.Idx → EReal) (ix3 r h k) = QD m c r h k := by
  unfold res_main_v214 res_main_v184 res_main_v185 res_main_v199 res_main_v200 res_main_v182 res_main_v183 res_main_v181
    res_main_v49 res_main_v47 res_main_v31 res_main_v29 QD
  clean_types
  refine (padded _ _ _ _ _ _ r h k).trans ?_
  unfold Heads.turnRev
  obtain ⟨j, rfl | rfl | rfl | rfl⟩ := Heads.quarters k
  all_goals
    pointwise
    repeat' split
    all_goals first
      | omega
      | (refine pair_first (fun k => DQ m c r k * Ideal.ofBits .f32 0x3DB504F3#32) (AR m c r) (Fin.ext ?_) (Fin.ext ?_) (Fin.ext ?_) <;> dsimp only <;> omega)
      | (refine pair_second (fun k => DQ m c r k * Ideal.ofBits .f32 0x3DB504F3#32) (AR m c r) (Fin.ext ?_) (Fin.ext ?_) (Fin.ext ?_) <;> dsimp only <;> omega)
      | (refine pair_first (fun k => DQ m c r k * Ideal.ofBits .f32 0x3DB504F3#32) (AC m c r) (Fin.ext ?_) (Fin.ext ?_) (Fin.ext ?_) <;> dsimp only <;> omega)
      | (refine pair_second (fun k => DQ m c r k * Ideal.ofBits .f32 0x3DB504F3#32) (AC m c r) (Fin.ext ?_) (Fin.ext ?_) (Fin.ext ?_) <;> dsimp only <;> omega)

theorem kd (r : Fin 4096) (h : Fin 2) (k : Fin 128) : (res_main_v157 (launchContents m c) : S4096x2x128.Idx → EReal) (ix3 r h k) = KD m c r h k := by
  unfold res_main_v157 res_main_v128 res_main_v127 res_main_v142 res_main_v143 res_main_v125 res_main_v126 res_main_v123
    res_main_v106 res_main_v104 res_main_v88 res_main_v86 KD
  clean_types
  refine (padded _ _ _ _ _ _ r h k).trans ?_
  unfold Heads.turnRev
  obtain ⟨j, rfl | rfl | rfl | rfl⟩ := Heads.quarters k
  all_goals
    pointwise
    repeat' split
    all_goals first
      | omega
      | (refine pair_first (DK m c r) (AR m c r) (Fin.ext ?_) (Fin.ext ?_) (Fin.ext ?_) <;> dsimp only <;> omega)
      | (refine pair_second (DK m c r) (AR m c r) (Fin.ext ?_) (Fin.ext ?_) (Fin.ext ?_) <;> dsimp only <;> omega)
      | (refine pair_first (DK m c r) (AC m c r) (Fin.ext ?_) (Fin.ext ?_) (Fin.ext ?_) <;> dsimp only <;> omega)
      | (refine pair_second (DK m c r) (AC m c r) (Fin.ext ?_) (Fin.ext ?_) (Fin.ext ?_) <;> dsimp only <;> omega)

theorem qmean (r : Fin 4096) (h : Fin 8) : (res_main_v15 (launchContents m c) : S4096x8x1.Idx → EReal) (ix3 r h 0) = Heads.meanSq (QX m c r h) := by
  unfold res_main_v15 Heads.meanSq
  clean_types
  pointwise
  simp only [qx]

theorem kmean (r : Fin 4096) (h : Fin 2) : (res_main_v72 (launchContents m c) : S4096x2x1.Idx → EReal) (ix3 r h 0) = Heads.meanSq (KX m c r h) := by
  unfold res_main_v72 Heads.meanSq
  clean_types
  pointwise
  simp only [kx]

theorem qrinv (r : Fin 4096) (h : Fin 8) : (res_main_v16 (launchContents m c) : S4096x8x1.Idx → EReal) (ix3 r h 0) = Heads.rinv (QX m c r h) :=
  congrArg Ideal.rsqrt (qmean m c r h)

theorem krinv (r : Fin 4096) (h : Fin 2) : (res_main_v73 (launchContents m c) : S4096x2x1.Idx → EReal) (ix3 r h 0) = Heads.rinv (KX m c r h) :=
  congrArg Ideal.rsqrt (kmean m c r h)

theorem qdw (r : Fin 4096) (h : Fin 8) (k : Fin 128) :
    (res_main_v219 (launchContents m c) : S4096x8x128.Idx → EReal) (ix3 r h k) = QD m c r h k * QN m c k := by
  unfold res_main_v219 res_main_v22
  clean_types
  pointwise
  simp only [qd]

theorem kdw (r : Fin 4096) (h : Fin 2) (k : Fin 128) :
    (res_main_v162 (launchContents m c) : S4096x2x128.Idx → EReal) (ix3 r h k) = KD m c r h k * KN m c k := by
  unfold res_main_v162 res_main_v79
  clean_types
  pointwise
  simp only [kd]

theorem qhalf (r : Fin 4096) (h : Fin 8) (k : Fin 128) :
    (res_main_v230 (launchContents m c) : S4096x8x128.Idx → EReal) (ix3 r h k) = Heads.half (QX m c r h) (QD m c r h) (QN m c) := by
  unfold res_main_v230 Heads.half
  clean_types
  pointwise
  simp only [Fin.sum_univ_one, qx, qdw]
  rw [qrinv, qmean]

theorem khalf (r : Fin 4096) (h : Fin 2) (k : Fin 128) :
    (res_main_v173 (launchContents m c) : S4096x2x128.Idx → EReal) (ix3 r h k) = Heads.half (KX m c r h) (KD m c r h) (KN m c) := by
  unfold res_main_v173 Heads.half
  clean_types
  pointwise
  simp only [Fin.sum_univ_one, kx, kdw]
  rw [krinv, kmean]

theorem qg (r : Fin 4096) (h : Fin 8) (k : Fin 128) :
    (res_main_v21 (launchContents m c) : S4096x8x128.Idx → EReal) (ix3 r h k) = QX m c r h k * Heads.rinv (QX m c r h) := by
  unfold res_main_v21
  clean_types
  pointwise
  rw [qx, qrinv]

theorem kg (r : Fin 4096) (h : Fin 2) (k : Fin 128) :
    (res_main_v78 (launchContents m c) : S4096x2x128.Idx → EReal) (ix3 r h k) = KX m c r h k * Heads.rinv (KX m c r h) := by
  unfold res_main_v78
  clean_types
  pointwise
  rw [kx, krinv]

end

/-- The projection's cotangent at row `r`, column `j`. -/
def DZ (r : Fin 4096) (j : Fin 4608) : EReal :=
  if h : j.val < 1024 then Heads.dxRev (QX m c r ⟨j.val / 128, by omega⟩) (QD m c r ⟨j.val / 128, by omega⟩) (QN m c) ⟨j.val % 128, by omega⟩
  else if h : j.val < 1280 then Heads.dxRev (KX m c r ⟨(j.val - 1024) / 128, by omega⟩) (KD m c r ⟨(j.val - 1024) / 128, by omega⟩) (KN m c) ⟨j.val % 128, by omega⟩
  else if h : j.val < 1536 then DV m c r ⟨j.val - 1280, by omega⟩
  else if h : j.val < 2560 then GA m c r ⟨j.val - 1536, by omega⟩
  else if h : j.val < 3584 then DU m c r ⟨j.val - 2560, by omega⟩
  else GS m c r ⟨j.val - 3584, by omega⟩

theorem run : θ_run defs (onTc (τ := τ) (main (F := Ideal))) ⟨m, fun _ => 0, ρ⟩ fun r => ∀ c : Dev nD,
      (r.2.mem ((c.tc : Thread nD τ).loc main_v238) = (fun i => DZ m c (i 0) (i 1))
      ∧ r.2.mem ((c.tc : Thread nD τ).loc main_v235)
        = (fun i => ∑ h : Fin 8, ∑ r : Fin 4096, QX m c r h (i 1) * Heads.rinv (QX m c r h) * QD m c r h (i 1))
      ∧ r.2.mem ((c.tc : Thread nD τ).loc main_v178)
        = (fun i => ∑ h : Fin 2, ∑ r : Fin 4096, KX m c r h (i 1) * Heads.rinv (KX m c r h) * KD m c r h (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ⟨⟨(h c).1.trans ?_, (h c).2.1.trans ?_, (h c).2.2.1.trans ?_⟩, (h c).2.2.2⟩)
    (Cert.QkvRefIdeal.Value.run m ρ)
  · funext i
    clear h
    obtain ⟨a, k, rfl⟩ : ∃ (a : Fin 4096) (k : Fin 4608), i = ix2 a k := ⟨i 0, i 1, eq_ix2 i⟩
    clean_types
    pointwise
    unfold DZ Heads.dxRev
    repeat' split
    all_goals first
      | omega
      | (rw [qdw, qrinv, qx, qhalf])
      | (rw [kdw, krinv, kx, khalf]; simp only [show (k.val - 1024) % 128 = k.val % 128 by omega])
      | (refine congrArg (fun k' => DV m c a k') (Fin.ext ?_); dsimp only; omega)
      | (refine congrArg (fun k' => GA m c a k') (Fin.ext ?_); dsimp only; omega)
      | (refine congrArg (fun k' => DU m c a k') (Fin.ext ?_); dsimp only; omega)
      | (refine congrArg (fun k' => GS m c a k') (Fin.ext ?_); dsimp only; omega)
  · funext i
    clear h
    obtain ⟨a, k, rfl⟩ : ∃ (a : Fin 1) (k : Fin 128), i = ix2 a k := ⟨i 0, i 1, eq_ix2 i⟩
    clean_types
    pointwise
    rw [sum_leading _ _ _ _ k (fun a => by match a with | ⟨0, _⟩ => rfl), zero_add, Fin.sum_univ_one, Fin.sum_univ_one]
    pointwise
    rw [sum_leading _ _ _ _ k (fun a => by match a with | ⟨0, _⟩ => rfl), zero_add]
    refine Finset.sum_congr rfl fun h _ => Finset.sum_congr rfl fun r _ => ?_
    pointwise
    rw [qg, qd]
  · funext i
    clear h
    obtain ⟨a, k, rfl⟩ : ∃ (a : Fin 1) (k : Fin 128), i = ix2 a k := ⟨i 0, i 1, eq_ix2 i⟩
    clean_types
    pointwise
    rw [sum_leading _ _ _ _ k (fun a => by match a with | ⟨0, _⟩ => rfl), zero_add, Fin.sum_univ_one, Fin.sum_univ_one]
    pointwise
    rw [sum_leading _ _ _ _ k (fun a => by match a with | ⟨0, _⟩ => rfl), zero_add]
    refine Finset.sum_congr rfl fun h _ => Finset.sum_congr rfl fun r _ => ?_
    pointwise
    rw [kg, kd]

end Cert.QkvRef
-- ==== Proof.Qkv.Value.lean ====
/-
  The backward of the heads' norms and rotations: the kernel's three results are the derivative's at finite arguments.
-/
module

public import proofs.«01_k».proof.Defs
public import proofs.«01_k».proof.Proof.Gen.Pre_qkv_finite
public import proofs.«01_k».proof.Proof.Qkv.Kernel
public import proofs.«01_k».proof.Proof.Qkv.Ref

@[expose] public section

set_option maxRecDepth 16384

noncomputable section

namespace Cert.Qkv

open Idealize.ShloMosaic Idealize.ShloMosaic.TcCoe Idealize.SL.Sem

instance : Subsingleton (Cert.Pre_qkv_finite.S_).Idx := ⟨fun a b => funext fun i => i.elim0⟩

theorem frame_ref : Cert.quiescent_QkvRefIdeal := fun m ρ _ =>
  (θ_run _ _ _).mono (fun r h => ⟨fun c => (h c).2, sem_eq_zero_of_no_sems (by decide) r.2⟩) (QkvRef.run m ρ)

theorem scale_coe : Ideal.ofBits .f32 0x3DB504F3#32 = ((11863283 / 134217728 : ℝ) : EReal) := by
  simp [Ideal.ofBits, Ideal.ieee, -EReal.coe_mul]; norm_num

/-- The precondition makes the heads, the turned cotangents and both gains real. -/
theorem reals (m : (ℓ : Loc Cert.QkvBwdIdeal.nD Cert.QkvBwdIdeal.τ Cert.QkvBwdIdeal.sig) → Buf (Elt Ideal) ℓ)
    (h : Pre_QkvBwdIdeal_qkv_finite m) (c : Dev Cert.QkvBwdIdeal.nD) :
    (∀ r h, ∃ x d : Fin 128 → ℝ, QkvKernel.QX m c r h = (fun k => (x k : EReal)) ∧ QkvKernel.QD m c r h = fun k => (d k : EReal))
      ∧ (∀ r h, ∃ x d : Fin 128 → ℝ, QkvKernel.KX m c r h = (fun k => (x k : EReal)) ∧ QkvKernel.KD m c r h = fun k => (d k : EReal))
      ∧ (∃ w : Fin 128 → ℝ, QkvKernel.QN m c = fun k => (w k : EReal)) ∧ ∃ w : Fin 128 → ℝ, QkvKernel.KN m c = fun k => (w k : EReal) := by
  have hc := congrFun (h c) fun i => i.elim0
  obtain ⟨h6, hkn⟩ := IntOp.andi_eq_one.mp hc
  obtain ⟨h5, hqn⟩ := IntOp.andi_eq_one.mp h6
  obtain ⟨h4, hac⟩ := IntOp.andi_eq_one.mp h5
  obtain ⟨h3, har⟩ := IntOp.andi_eq_one.mp h4
  obtain ⟨h2, hz⟩ := IntOp.andi_eq_one.mp h3
  obtain ⟨hdq, hdk⟩ := IntOp.andi_eq_one.mp h2
  obtain ⟨dq, hdq⟩ := Common.reals_of_all _ _ (fun _ => rfl) _ _ _ _ hdq
  obtain ⟨dk, hdk⟩ := Common.reals_of_all _ _ (fun _ => rfl) _ _ _ _ hdk
  obtain ⟨z, hz⟩ := Common.reals_of_all _ _ (fun _ => rfl) _ _ _ _ hz
  obtain ⟨ar, har⟩ := Common.reals_of_all _ _ (fun _ => rfl) _ _ _ _ har
  obtain ⟨ac, hac⟩ := Common.reals_of_all _ _ (fun _ => rfl) _ _ _ _ hac
  obtain ⟨qn, hqn⟩ := Common.reals_of_all _ _ (fun _ => rfl) _ _ _ _ hqn
  obtain ⟨kn, hkn⟩ := Common.reals_of_all _ _ (fun _ => rfl) _ _ _ _ hkn
  have turned : ∀ (r : Fin 4096) (g : Fin 128 → EReal), (∃ g' : Fin 128 → ℝ, g = fun k => (g' k : EReal)) →
      ∃ d : Fin 128 → ℝ, Heads.turn g (Heads.cosTab (QkvKernel.AR m c r) (QkvKernel.AC m c r)) (Heads.sinTab (QkvKernel.AR m c r) (QkvKernel.AC m c r))
        = fun k => (d k : EReal) := fun r g hg => by
    obtain ⟨g', rfl⟩ := hg
    obtain ⟨d, hd⟩ := Heads.turnRev_coe g' (fun j => ar (ix2 r j)) (fun j => ac (ix2 r j))
    refine ⟨d, funext fun k => (Heads.turn_eq _ _ _ k).trans (Eq.trans ?_ (hd k))⟩
    rw [show QkvKernel.AR m c r = fun j => (ar (ix2 r j) : EReal) from funext fun j => har _,
      show QkvKernel.AC m c r = fun j => (ac (ix2 r j) : EReal) from funext fun j => hac _]
  refine ⟨fun r h => ?_, fun r h => ?_, ⟨fun k => qn (ix2 0 k), funext fun k => hqn _⟩, ⟨fun k => kn (ix2 0 k), funext fun k => hkn _⟩⟩
  · obtain ⟨d, hd⟩ := turned r (fun k => QkvKernel.DQ m c r (QkvKernel.qc h k) * Ideal.ofBits .f32 0x3DB504F3#32)
      ⟨fun k => dq (ix2 r (QkvKernel.qc h k)) * (11863283 / 134217728),
        funext fun k => (congrArg₂ (· * ·) (hdq (ix2 r (QkvKernel.qc h k))) scale_coe).trans (EReal.coe_mul _ _).symm⟩
    exact ⟨fun k => z (ix2 r _), d, funext fun k => hz (ix2 r _), hd⟩
  · obtain ⟨d, hd⟩ := turned r (fun k => QkvKernel.DK m c r (QkvKernel.kc h k))
      ⟨fun k => dk (ix2 r (QkvKernel.kc h k)), funext fun k => hdk (ix2 r (QkvKernel.kc h k))⟩
    exact ⟨fun k => z (ix2 r _), d, funext fun k => hz (ix2 r _), hd⟩

theorem algebraic : Cert.algebraic_QkvBwdIdeal_QkvRefIdeal_pre_qkv_finite := fun m ρ m' ρ' hpre hag => by
  refine ⟨fun c => (Cert.QkvBwdIdeal.Gen.dats m 0 c).arrAt 12 Cert.QkvBwdIdeal.cfg0.N,
    fun c => (Cert.QkvBwdIdeal.Gen.dats m 0 c).arrAt 13 Cert.QkvBwdIdeal.cfg0.N,
    fun c => (Cert.QkvBwdIdeal.Gen.dats m 0 c).arrAt 14 Cert.QkvBwdIdeal.cfg0.N, Cert.QkvBwdIdeal.Value.run_blocks m ρ,
    (θ_run _ _ _).mono (fun r h c => ⟨(h c).1.1.trans ?_, (h c).1.2.1.trans ?_, (h c).1.2.2.trans ?_, (h c).2⟩) (QkvRef.run m' ρ')⟩
  all_goals
    obtain ⟨eq, ek, ⟨qn, eqn⟩, ⟨kn, ekn⟩⟩ := reals m hpre c
    obtain ⟨g0, g1, g2, g3, g4, g5, g6, g7, g8, g9, g10⟩ := hag c
    have hAR : QkvRef.AR m' c = QkvKernel.AR m c := by unfold QkvRef.AR; rw [g4]
    have hAC : QkvRef.AC m' c = QkvKernel.AC m c := by unfold QkvRef.AC; rw [g5]
    have hQN : QkvRef.QN m' c = QkvKernel.QN m c := by unfold QkvRef.QN; rw [g6]
    have hKN : QkvRef.KN m' c = QkvKernel.KN m c := by unfold QkvRef.KN; rw [g7]
    have hQX : ∀ r h, QkvRef.QX m' c r h = QkvKernel.QX m c r h := fun r h => funext fun k => by
      unfold QkvRef.QX QkvRef.Z
      rw [g3]
      refine congrArg (fun k' => QkvKernel.Z m c r k') (Fin.ext ?_)
      dsimp only [QkvKernel.qc]
      omega
    have hKX : ∀ r h, QkvRef.KX m' c r h = QkvKernel.KX m c r h := fun r h => funext fun k => by
      unfold QkvRef.KX QkvRef.Z
      rw [g3]
      refine congrArg (fun k' => QkvKernel.Z m c r k') (Fin.ext ?_)
      dsimp only [QkvKernel.kc]
      omega
    have hQD : ∀ r h, QkvRef.QD m' c r h = QkvKernel.QD m c r h := fun r h => funext fun k => by
      unfold QkvRef.QD QkvRef.DQ
      rw [hAR, hAC, g0]
      refine Eq.trans ?_ (Heads.turn_eq _ _ _ k).symm
      refine congrArg (fun g => Heads.turnRev g _ _ k) (funext fun k => ?_)
      refine congrArg (fun k' => QkvKernel.DQ m c r k' * _) (Fin.ext ?_)
      dsimp only [QkvKernel.qc]
      omega
    have hKD : ∀ r h, QkvRef.KD m' c r h = QkvKernel.KD m c r h := fun r h => funext fun k => by
      unfold QkvRef.KD QkvRef.DK
      rw [hAR, hAC, g1]
      refine Eq.trans ?_ (Heads.turn_eq _ _ _ k).symm
      refine congrArg (fun g => Heads.turnRev g _ _ k) (funext fun k => ?_)
      refine congrArg (fun k' => QkvKernel.DK m c r k') (Fin.ext ?_)
      dsimp only [QkvKernel.kc]
      omega
  · refine Eq.trans (funext fun i => ?_) (QkvKernel.final12 m c).symm
    have e : ∀ r j, QkvRef.DZ m' c r j = QkvKernel.DZ m c r j := fun r j => by
      unfold QkvRef.DZ QkvKernel.DZ
      refine dite_congr rfl (fun _ => ?_) fun _ => dite_congr rfl (fun _ => ?_) fun _ => dite_congr rfl (fun _ => ?_) fun _ =>
        dite_congr rfl (fun _ => ?_) fun _ => dite_congr rfl (fun _ => ?_) fun _ => ?_
      · rw [hQX, hQD, hQN]
        obtain ⟨x, d, e1, e2⟩ := eq r ⟨j.val / 128, by omega⟩
        rw [e1, e2, eqn]
        exact Heads.dxRev_eq _ _ _ _
      · rw [hKX, hKD, hKN]
        obtain ⟨x, d, e1, e2⟩ := ek r ⟨(j.val - 1024) / 128, by omega⟩
        rw [e1, e2, ekn]
        exact Heads.dxRev_eq _ _ _ _
      · unfold QkvRef.DV; rw [g2]
      · unfold QkvRef.GA; rw [g8]
      · unfold QkvRef.DU; rw [g9]
      · unfold QkvRef.GS; rw [g10]
    exact e _ _
  · refine Eq.trans (funext fun i => ?_) (QkvKernel.final13 m c).symm
    refine Finset.sum_congr rfl fun h _ => Finset.sum_congr rfl fun r _ => ?_
    rw [hQX, hQD]
    exact mul_comm _ _
  · refine Eq.trans (funext fun i => ?_) (QkvKernel.final14 m c).symm
    refine Finset.sum_congr rfl fun h _ => Finset.sum_congr rfl fun r _ => ?_
    rw [hKX, hKD]
    exact mul_comm _ _

end Cert.Qkv
-- ==== Proof.SsmParam.Algebra.lean ====
/-
  The discretisation of a diagonal state space model by a zero-order hold, at one pole, and its derivative: in the closed
  form of the kernel, by complex products, and as reverse mode differentiation of the real and imaginary parts writes it.
-/
module

public import proofs.«01_k».proof.Proof.In.Common

@[expose] public section

set_option maxRecDepth 16384

noncomputable section

namespace Cert.Zoh

open Idealize.ShloMosaic

/-- The bound that a pole's real part stays below, and the pole's real part. -/
abbrev bound : EReal := Ideal.ofBits .f32 0xB8D1B717#32
def left (a : EReal) : EReal := min a bound
/-- The discrete pole's two parts at the pole `(a, b)` and the step `t`. -/
def barRe (a b t : EReal) : EReal := Ideal.exp (left a * t) * Ideal.cos (b * t)
def barIm (a b t : EReal) : EReal := Ideal.exp (left a * t) * Ideal.sin (b * t)
def den (a b : EReal) : EReal := left a * left a + b * b
/-- The factor of the input matrix. -/
def numRe (a b t : EReal) : EReal := (barRe a b t - 1) * left a + barIm a b t * b
def numIm (a b t : EReal) : EReal := barIm a b t * left a - (barRe a b t - 1) * b
def facRe (a b t : EReal) : EReal := Ideal.div (numRe a b t) (den a b)
def facIm (a b t : EReal) : EReal := Ideal.div (numIm a b t) (den a b)
/-- The pole's inverse. -/
def invRe (a b : EReal) : EReal := Ideal.div (left a) (den a b)
def invIm (a b : EReal) : EReal := Ideal.div (0 - b) (den a b)

/-! ### The kernel's form: `u`, `v` the cotangent of the discrete pole, `p`, `q` that of the factor -/

def totRe (a b u p q : EReal) : EReal := u + (invRe a b * p - (0 - invIm a b) * q)
def totIm (a b v p q : EReal) : EReal := v + (invRe a b * q + (0 - invIm a b) * p)
def holdRe (a b t u v p q : EReal) : EReal := barRe a b t * totRe a b u p q - (0 - barIm a b t) * totIm a b v p q
def holdIm (a b t u v p q : EReal) : EReal := barRe a b t * totIm a b v p q + (0 - barIm a b t) * totRe a b u p q
def poleRe (a b t u v p q : EReal) : EReal :=
  (0 - (facRe a b t * invRe a b - facIm a b t * invIm a b)) * p - (facRe a b t * invIm a b + facIm a b t * invRe a b) * q
    + t * holdRe a b t u v p q
def poleIm (a b t u v p q : EReal) : EReal :=
  (0 - (facRe a b t * invRe a b - facIm a b t * invIm a b)) * q + (facRe a b t * invIm a b + facIm a b t * invRe a b) * p
    + t * holdIm a b t u v p q
def dRe (a b t u v p q : EReal) : EReal :=
  if a < bound then poleRe a b t u v p q else if a = bound then Ideal.ofBits .f32 0x3F000000#32 * poleRe a b t u v p q else 0
def dStep (a b t u v p q : EReal) : EReal := left a * holdRe a b t u v p q + b * holdIm a b t u v p q

/-! ### The form of reverse mode -/

/-- What the factor's cotangent adds to the derivative of the squared modulus. -/
def quot (a b t p q : EReal) : EReal :=
  -(q * Ideal.div 1 (den a b * den a b) * numIm a b t) + -(p * Ideal.div 1 (den a b * den a b) * numRe a b t)
def sumRe (a b u p q : EReal) : EReal := u + -Ideal.div q (den a b) * b + Ideal.div p (den a b) * left a
def sumIm (a b v p q : EReal) : EReal := v + Ideal.div q (den a b) * left a + Ideal.div p (den a b) * b
def revRe (a b t u v p q : EReal) : EReal :=
  (barIm a b t * Ideal.div q (den a b) + (barRe a b t - 1) * Ideal.div p (den a b) + left a * quot a b t p q
      + quot a b t p q * left a
    + (sumIm a b v p q * Ideal.sin (b * t) + sumRe a b u p q * Ideal.cos (b * t)) * Ideal.exp (left a * t) * t)
    * if a < bound then 1 else if bound = a then Ideal.ofBits .f32 0x3F000000#32 else 0
def revIm (a b t u v p q : EReal) : EReal :=
  (barRe a b t - 1) * -Ideal.div q (den a b) + barIm a b t * Ideal.div p (den a b) + b * quot a b t p q + quot a b t p q * b
    + Ideal.exp (left a * t) * sumIm a b v p q * Ideal.cos (b * t) * t
    + -(Ideal.exp (left a * t) * sumRe a b u p q) * Ideal.sin (b * t) * t
def revStep (a b t u v p q : EReal) : EReal :=
  b * (Ideal.exp (left a * t) * sumIm a b v p q * Ideal.cos (b * t))
    + b * (-(Ideal.exp (left a * t) * sumRe a b u p q) * Ideal.sin (b * t))
    + left a * ((sumIm a b v p q * Ideal.sin (b * t) + sumRe a b u p q * Ideal.cos (b * t)) * Ideal.exp (left a * t))

/-! ### Over the reals -/

theorem bound_eq : bound = ((-(13743895 / 137438953472) : ℝ) : EReal) := by
  unfold bound
  simp [Ideal.ofBits, Ideal.ieee, -EReal.coe_mul]
  norm_num
theorem left_coe (a : ℝ) : ∃ l : ℝ, left (a : EReal) = (l : EReal) ∧ l < 0 := by
  refine ⟨min a (-(13743895 / 137438953472)), ?_, (min_le_right _ _).trans_lt (by norm_num)⟩
  unfold left
  rw [bound_eq]
  exact (EReal.coe_strictMono.monotone.map_min).symm

/-- The values at a real pole and step by four real numbers: the left part, and the exponential, cosine and sine. -/
structure Vals (a b t : ℝ) where
  l : ℝ
  e : ℝ
  c : ℝ
  s : ℝ
  neg : l < 0
  hl : left (a : EReal) = (l : EReal)
  he : Ideal.exp (left (a : EReal) * t) = (e : EReal)
  hc : Ideal.cos ((b : EReal) * t) = (c : EReal)
  hs : Ideal.sin ((b : EReal) * t) = (s : EReal)

theorem vals (a b t : ℝ) : Nonempty (Vals a b t) := by
  obtain ⟨l, hl, hn⟩ := left_coe a
  refine ⟨⟨l, Real.exp (l * t), Real.cos (b * t), Real.sin (b * t), hn, hl, ?_, ?_, ?_⟩⟩
  · rw [hl, ← EReal.coe_mul, Ideal.exp_coe]
  · rw [← EReal.coe_mul, Ideal.cos_coe]
  · rw [← EReal.coe_mul, Ideal.sin_coe]

variable {a b t : ℝ} (x : Vals a b t)

def Vals.d : ℝ := x.l * x.l + b * b
theorem Vals.d_pos : 0 < x.d := by
  have := mul_pos_of_neg_of_neg x.neg x.neg
  have := mul_self_nonneg b
  unfold Vals.d
  linarith
theorem Vals.den_eq : den a b = (x.d : EReal) := by
  unfold den Vals.d
  rw [x.hl]
  push_cast
  rfl
theorem Vals.over (y : ℝ) : Ideal.div (y : EReal) (den a b) = ((y / x.d : ℝ) : EReal) := by
  rw [x.den_eq, Ideal.div_coe x.d_pos.ne', ← EReal.coe_mul, mul_one_div]
theorem Vals.barRe_eq : barRe a b t = ((x.e * x.c : ℝ) : EReal) := by
  unfold barRe; rw [x.he, x.hc, EReal.coe_mul]
theorem Vals.barIm_eq : barIm a b t = ((x.e * x.s : ℝ) : EReal) := by
  unfold barIm; rw [x.he, x.hs, EReal.coe_mul]
theorem Vals.numRe_eq : numRe a b t = (((x.e * x.c - 1) * x.l + x.e * x.s * b : ℝ) : EReal) := by
  unfold numRe; rw [x.barRe_eq, x.barIm_eq, x.hl]; push_cast; rfl
theorem Vals.numIm_eq : numIm a b t = ((x.e * x.s * x.l - (x.e * x.c - 1) * b : ℝ) : EReal) := by
  unfold numIm; rw [x.barRe_eq, x.barIm_eq, x.hl]; push_cast; rfl
theorem Vals.facRe_eq : facRe a b t = ((((x.e * x.c - 1) * x.l + x.e * x.s * b) / x.d : ℝ) : EReal) := by
  unfold facRe; rw [x.numRe_eq, x.over]
theorem Vals.facIm_eq : facIm a b t = (((x.e * x.s * x.l - (x.e * x.c - 1) * b) / x.d : ℝ) : EReal) := by
  unfold facIm; rw [x.numIm_eq, x.over]
theorem Vals.invRe_eq : invRe a b = ((x.l / x.d : ℝ) : EReal) := by
  unfold invRe; rw [x.hl, x.over]
theorem Vals.invIm_eq : invIm a b = ((-b / x.d : ℝ) : EReal) := by
  unfold invIm; rw [zero_sub, ← EReal.coe_neg, x.over]

variable (u v p q : ℝ)

theorem Vals.totRe_eq : totRe a b u p q = ((u + (x.l / x.d * p - b / x.d * q) : ℝ) : EReal) := by
  unfold totRe; rw [x.invRe_eq, x.invIm_eq]; norm_cast; ring
theorem Vals.totIm_eq : totIm a b v p q = ((v + (x.l / x.d * q + b / x.d * p) : ℝ) : EReal) := by
  unfold totIm; rw [x.invRe_eq, x.invIm_eq]; norm_cast; ring
theorem Vals.sumRe_eq : sumRe a b u p q = ((u + (x.l / x.d * p - b / x.d * q) : ℝ) : EReal) := by
  unfold sumRe; rw [x.over, x.over, x.hl]; norm_cast; ring
theorem Vals.sumIm_eq : sumIm a b v p q = ((v + (x.l / x.d * q + b / x.d * p) : ℝ) : EReal) := by
  unfold sumIm; rw [x.over, x.over, x.hl]; norm_cast; ring
theorem Vals.quot_eq : quot a b t p q
    = ((-(q * (x.e * x.s * x.l - (x.e * x.c - 1) * b) + p * ((x.e * x.c - 1) * x.l + x.e * x.s * b)) / (x.d * x.d) : ℝ) : EReal) := by
  have h : Ideal.div 1 (den a b * den a b) = ((1 / (x.d * x.d) : ℝ) : EReal) := by
    rw [x.den_eq, ← EReal.coe_mul, ← EReal.coe_one, Ideal.div_coe (mul_pos x.d_pos x.d_pos).ne', ← EReal.coe_mul, one_mul]
  unfold quot
  rw [h, x.numRe_eq, x.numIm_eq]
  norm_cast
  ring

/-- The derivative of the discrete pole with respect to the pole's exponent, in both forms. -/
def Vals.hr : ℝ := x.e * x.c * (u + (x.l / x.d * p - b / x.d * q)) + x.e * x.s * (v + (x.l / x.d * q + b / x.d * p))
def Vals.hi : ℝ := x.e * x.c * (v + (x.l / x.d * q + b / x.d * p)) - x.e * x.s * (u + (x.l / x.d * p - b / x.d * q))
theorem Vals.holdRe_eq : holdRe a b t u v p q = (x.hr u v p q : EReal) := by
  unfold holdRe Vals.hr; rw [x.barRe_eq, x.barIm_eq, x.totRe_eq, x.totIm_eq]; norm_cast; ring
theorem Vals.holdIm_eq : holdIm a b t u v p q = (x.hi u v p q : EReal) := by
  unfold holdIm Vals.hi; rw [x.barRe_eq, x.barIm_eq, x.totRe_eq, x.totIm_eq]; norm_cast; ring

include x

theorem Vals.poleRe_rev : poleRe a b t u v p q = barIm a b t * Ideal.div q (den a b) + (barRe a b t - 1) * Ideal.div p (den a b)
      + left a * quot a b t p q + quot a b t p q * left a
      + (sumIm a b v p q * Ideal.sin (b * t) + sumRe a b u p q * Ideal.cos (b * t)) * Ideal.exp (left a * t) * t := by
  unfold poleRe
  rw [x.facRe_eq, x.facIm_eq, x.invRe_eq, x.invIm_eq, x.holdRe_eq, x.barRe_eq, x.barIm_eq, x.over, x.over, x.hs, x.hc, x.he,
    x.sumRe_eq, x.sumIm_eq, x.quot_eq, x.hl]
  norm_cast
  have hd : x.d ≠ 0 := x.d_pos.ne'
  have e : x.d = x.l * x.l + b * b := rfl
  unfold Vals.hr
  field_simp
  simp only [e]
  ring
theorem Vals.poleIm_rev : poleIm a b t u v p q = revIm a b t u v p q := by
  unfold poleIm revIm
  rw [x.facRe_eq, x.facIm_eq, x.invRe_eq, x.invIm_eq, x.holdIm_eq, x.barRe_eq, x.barIm_eq, x.over, x.over, x.hs, x.hc, x.he,
    x.sumRe_eq, x.sumIm_eq, x.quot_eq]
  norm_cast
  have hd : x.d ≠ 0 := x.d_pos.ne'
  have e : x.d = x.l * x.l + b * b := rfl
  unfold Vals.hi
  field_simp
  simp only [e]
  ring
theorem Vals.dRe_rev : dRe a b t u v p q = revRe a b t u v p q := by
  unfold dRe revRe
  rw [← x.poleRe_rev]
  split
  · rw [mul_one]
  · by_cases h : a = bound
    · rw [if_pos h, if_pos h.symm, mul_comm]
    · rw [if_neg h, if_neg (fun h' => h h'.symm), mul_zero]
theorem Vals.dStep_rev : dStep a b t u v p q = revStep a b t u v p q := by
  unfold dStep revStep
  rw [x.holdRe_eq, x.holdIm_eq, x.hs, x.hc, x.he, x.sumRe_eq, x.sumIm_eq, x.hl]
  norm_cast
  unfold Vals.hr Vals.hi
  ring

end Cert.Zoh
-- ==== Proof.SsmParam.Kernel.lean ====
/-
  What the backward of the state space model's parameters leaves in its eight result arrays, element by element.
-/
module

public import proofs.«01_k».proof.Proof.Gen.SsmParamIdeal.Value
public import proofs.«01_k».proof.Proof.SsmParam.Algebra
public import Idealize.ShloMosaic.Lib.KernelVsHost
public import Idealize.ShloMosaic.Lib.Tactic.CleanTypes

@[expose] public section

set_option maxRecDepth 16384

noncomputable section

namespace Cert.SsmParamKernel

open Cert.SsmParamIdeal Cert.SsmParamIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The cotangents of the discrete pole, the discrete input matrix, the output matrix and the skip weight; the parameters. -/
abbrev LR (d : Fin 2) (g p : Fin 64) : EReal := m ((c : Thread nD τ).loc main_arg0) (ix3 d g p)
abbrev LI (d : Fin 2) (g p : Fin 64) : EReal := m ((c : Thread nD τ).loc main_arg1) (ix3 d g p)
abbrev BR (d : Fin 2) (g p : Fin 64) (h : Fin 16) : EReal := m ((c : Thread nD τ).loc main_arg2) (ix4 d g p h)
abbrev BI (d : Fin 2) (g p : Fin 64) (h : Fin 16) : EReal := m ((c : Thread nD τ).loc main_arg3) (ix4 d g p h)
abbrev CR (d : Fin 2) (g : Fin 64) (h : Fin 16) (p : Fin 64) : EReal := m ((c : Thread nD τ).loc main_arg4) (ix4 d g h p)
abbrev CI (d : Fin 2) (g : Fin 64) (h : Fin 16) (p : Fin 64) : EReal := m ((c : Thread nD τ).loc main_arg5) (ix4 d g h p)
abbrev SK (k : Fin 1024) : EReal := m ((c : Thread nD τ).loc main_arg6) (ix1 k)
abbrev AR (d : Fin 2) (g p : Fin 64) : EReal := m ((c : Thread nD τ).loc main_arg7) (ix3 d g p)
abbrev AI (d : Fin 2) (g p : Fin 64) : EReal := m ((c : Thread nD τ).loc main_arg8) (ix3 d g p)
abbrev DT (d : Fin 2) (g : Fin 64) : EReal := m ((c : Thread nD τ).loc main_arg9) (ix2 d g)
abbrev WR (d : Fin 2) (g p : Fin 64) (h : Fin 16) : EReal := m ((c : Thread nD τ).loc main_arg10) (ix4 d g p h)
abbrev WI (d : Fin 2) (g p : Fin 64) (h : Fin 16) : EReal := m ((c : Thread nD τ).loc main_arg11) (ix4 d g p h)

theorem idx : ∀ t : Fin grid0.N, win0_0.index t = ![t.val, 0, 0, 0] ∧ win0_1.index t = ![0, t.val, 0] ∧ win0_2.index t = ![0, t.val, 0]
    ∧ win0_3.index t = ![0, t.val, 0] ∧ win0_4.index t = ![0, t.val, 0, 0] ∧ win0_5.index t = ![0, t.val, 0, 0]
    ∧ win0_6.index t = ![0, t.val, 0, 0] ∧ win0_7.index t = ![0, t.val, 0, 0] ∧ win0_8.index t = ![0, t.val, 0, 0]
    ∧ win0_9.index t = ![0, t.val, 0, 0] ∧ win0_10.index t = ![0, t.val, 0] ∧ win0_11.index t = ![0, t.val, 0]
    ∧ win0_12.index t = ![0, t.val, 0] ∧ win0_13.index t = ![0, t.val] := by
  decide +kernel

/-- Group `g` of the `t`-th slab of 8 groups, and the lane of pole `p` of group `g` in a slab's rows. -/
def grp (t : Fin cfg0.N) (g : Fin 8) : Fin 64 :=
  ⟨t.val * 8 + g.val, by have := t.isLt; have : cfg0.N = 8 := N_0; omega⟩
def slab (t : Fin cfg0.N) : Fin 8 := ⟨t.val, by have := t.isLt; have : cfg0.N = 8 := N_0; omega⟩
abbrev lane (g : Fin 8) (p : Fin 64) : Fin 512 := ⟨64 * g.val + p.val, by omega⟩

theorem lane_div (g : Fin 8) (p : Fin 64) : (64 * g.val + p.val) / 64 = g.val := by omega
theorem lane_mod (g : Fin 8) (p : Fin 64) : (64 * g.val + p.val) % 64 = p.val := by omega

/-! ### The arrays that the host lines prepare -/

/-- The slabs' rows: the two parts of each matrix's cotangent, then of the pole's, then the skip weights'. -/
theorem rows : (V m c main_v21 : S8x2x72x512.Idx → EReal) = concatenate (α := EReal) S8x2x72x512 2
    [⟨S8x2x16x512, V m c main_v5⟩, ⟨S8x2x16x512, V m c main_v9⟩, ⟨S8x2x16x512, V m c main_v12⟩, ⟨S8x2x16x512, V m c main_v15⟩,
      ⟨S8x2x1x512, V m c main_v17⟩, ⟨S8x2x1x512, V m c main_v19⟩, ⟨S8x2x1x512, V m c main_v1⟩, ⟨S8x2x5x512, V m c main_v20⟩]
    concatenates_S8x2x16x512_S8x2x16x512_S8x2x16x512_S8x2x16x512_S8x2x1x512_S8x2x1x512_S8x2x1x512_S8x2x5x512_S8x2x72x512_d2 := by
  simp only [V, hostOps0, hostOps0_1, hostOps0_2, List.flatten_cons, List.flatten_nil, List.append_nil, List.cons_append, List.nil_append]
  after_results_simp
  rfl

theorem bar_re (t : Fin cfg0.N) (d : Fin 2) (h : Fin 16) (g : Fin 8) (p : Fin 64) :
    (V m c main_v5 : S8x2x16x512.Idx → EReal) (ix4 (slab t) d h (lane g p)) = BR m c d (grp t g) p h := by
  simp only [V, hostOps0, hostOps0_1, hostOps0_2, List.flatten_cons, List.flatten_nil, List.append_nil, List.cons_append, List.nil_append]
  after_results_simp
  unfold grp slab
  pointwise
  simp only [lane_div, lane_mod]
theorem bar_im (t : Fin cfg0.N) (d : Fin 2) (h : Fin 16) (g : Fin 8) (p : Fin 64) :
    (V m c main_v9 : S8x2x16x512.Idx → EReal) (ix4 (slab t) d h (lane g p)) = BI m c d (grp t g) p h := by
  simp only [V, hostOps0, hostOps0_1, hostOps0_2, List.flatten_cons, List.flatten_nil, List.append_nil, List.cons_append, List.nil_append]
  after_results_simp
  unfold grp slab
  pointwise
  simp only [lane_div, lane_mod]
theorem c_re (t : Fin cfg0.N) (d : Fin 2) (h : Fin 16) (g : Fin 8) (p : Fin 64) :
    (V m c main_v12 : S8x2x16x512.Idx → EReal) (ix4 (slab t) d h (lane g p)) = CR m c d (grp t g) h p := by
  simp only [V, hostOps0, hostOps0_1, hostOps0_2, List.flatten_cons, List.flatten_nil, List.append_nil, List.cons_append, List.nil_append]
  after_results_simp
  unfold grp slab
  pointwise
  simp only [lane_div, lane_mod]
theorem c_im (t : Fin cfg0.N) (d : Fin 2) (h : Fin 16) (g : Fin 8) (p : Fin 64) :
    (V m c main_v15 : S8x2x16x512.Idx → EReal) (ix4 (slab t) d h (lane g p)) = CI m c d (grp t g) h p := by
  simp only [V, hostOps0, hostOps0_1, hostOps0_2, List.flatten_cons, List.flatten_nil, List.append_nil, List.cons_append, List.nil_append]
  after_results_simp
  unfold grp slab
  pointwise
  simp only [lane_div, lane_mod]
theorem lam_re (t : Fin cfg0.N) (d : Fin 2) (g : Fin 8) (p : Fin 64) :
    (V m c main_v17 : S8x2x1x512.Idx → EReal) (ix4 (slab t) d 0 (lane g p)) = LR m c d (grp t g) p := by
  simp only [V, hostOps0, hostOps0_1, hostOps0_2, List.flatten_cons, List.flatten_nil, List.append_nil, List.cons_append, List.nil_append]
  after_results_simp
  unfold grp slab
  pointwise
  simp only [lane_div, lane_mod]
theorem lam_im (t : Fin cfg0.N) (d : Fin 2) (g : Fin 8) (p : Fin 64) :
    (V m c main_v19 : S8x2x1x512.Idx → EReal) (ix4 (slab t) d 0 (lane g p)) = LI m c d (grp t g) p := by
  simp only [V, hostOps0, hostOps0_1, hostOps0_2, List.flatten_cons, List.flatten_nil, List.append_nil, List.cons_append, List.nil_append]
  after_results_simp
  unfold grp slab
  pointwise
  simp only [lane_div, lane_mod]
theorem skip_eq : (V m c main_v1 : S8x2x1x512.Idx → EReal) = pad S8x2x1x512 ![0, 0, 0, 0] ![0, 1, 0, 384] ![0, 0, 0, 0]
    (shapeCast S8x1x1x128 (m ((c : Thread nD τ).loc main_arg6)) shapeCasts_S1024_S8x1x1x128)
    (sitofp (F := Ideal) .f32 (constantI S_ 32 0#32)) pads_S8x1x1x128_S8x2x1x512_000_010_000_03840 h_S_ := by
  simp only [V, hostOps0, hostOps0_1, hostOps0_2, List.flatten_cons, List.flatten_nil, List.append_nil, List.cons_append, List.nil_append]
  after_results_simp
  rfl
theorem skip (t : Fin cfg0.N) (k : Fin 128) : (V m c main_v1 : S8x2x1x512.Idx → EReal) (ix4 (slab t) 0 0 ⟨k.val, by omega⟩)
    = SK m c ⟨(slab t).val * 128 + k.val, by omega⟩ := by
  rw [skip_eq, pad_apply_of_inside _ _ _ _ _ _ _ _ (ix4 (slab t) 0 0 k) (by
    intro a
    fin_cases a <;> simp [ix4])]
  pointwise

/-! ### The blocks -/

theorem read_bar_re (t : Fin cfg0.N) (d : Fin 2) (h : Fin 16) (g : Fin 8) (p : Fin 64) :
    iblk m c 0 t (ix4 0 d ⟨h.val, by omega⟩ (lane g p)) = BR m c d (grp t g) p h := by
  refine Eq.trans ?_ (bar_re m c t d h g p)
  have e : (V m c main_v21 : S8x2x72x512.Idx → EReal) (ix4 (slab t) d ⟨h.val, by omega⟩ (lane g p)) = V m c main_v5 (ix4 (slab t) d h (lane g p)) := by
    rw [rows]
    pointwise
  refine Eq.trans ?_ e
  unfold iblk slab
  generalize V m c main_v21 = v
  blk_ext! [idx t]
theorem read_bar_im (t : Fin cfg0.N) (d : Fin 2) (h : Fin 16) (g : Fin 8) (p : Fin 64) :
    iblk m c 0 t (ix4 0 d ⟨16 + h.val, by omega⟩ (lane g p)) = BI m c d (grp t g) p h := by
  refine Eq.trans ?_ (bar_im m c t d h g p)
  have e : (V m c main_v21 : S8x2x72x512.Idx → EReal) (ix4 (slab t) d ⟨16 + h.val, by omega⟩ (lane g p)) = V m c main_v9 (ix4 (slab t) d h (lane g p)) := by
    rw [rows]
    pointwise
  refine Eq.trans ?_ e
  unfold iblk slab
  generalize V m c main_v21 = v
  blk_ext! [idx t]
theorem read_c_re (t : Fin cfg0.N) (d : Fin 2) (h : Fin 16) (g : Fin 8) (p : Fin 64) :
    iblk m c 0 t (ix4 0 d ⟨32 + h.val, by omega⟩ (lane g p)) = CR m c d (grp t g) h p := by
  refine Eq.trans ?_ (c_re m c t d h g p)
  have e : (V m c main_v21 : S8x2x72x512.Idx → EReal) (ix4 (slab t) d ⟨32 + h.val, by omega⟩ (lane g p)) = V m c main_v12 (ix4 (slab t) d h (lane g p)) := by
    rw [rows]
    pointwise
    rw [dif_neg (by omega), dif_neg (by omega), dif_pos (by omega)]
    exact congrArg (fun h' => (V m c main_v12 : S8x2x16x512.Idx → EReal) (ix4 (slab t) d h' (lane g p))) (Fin.ext (by dsimp only; omega))
  refine Eq.trans ?_ e
  unfold iblk slab
  generalize V m c main_v21 = v
  blk_ext! [idx t]
theorem read_c_im (t : Fin cfg0.N) (d : Fin 2) (h : Fin 16) (g : Fin 8) (p : Fin 64) :
    iblk m c 0 t (ix4 0 d ⟨48 + h.val, by omega⟩ (lane g p)) = CI m c d (grp t g) h p := by
  refine Eq.trans ?_ (c_im m c t d h g p)
  have e : (V m c main_v21 : S8x2x72x512.Idx → EReal) (ix4 (slab t) d ⟨48 + h.val, by omega⟩ (lane g p)) = V m c main_v15 (ix4 (slab t) d h (lane g p)) := by
    rw [rows]
    pointwise
    rw [dif_neg (by omega), dif_neg (by omega), dif_neg (by omega), dif_pos (by omega)]
    exact congrArg (fun h' => (V m c main_v15 : S8x2x16x512.Idx → EReal) (ix4 (slab t) d h' (lane g p))) (Fin.ext (by dsimp only; omega))
  refine Eq.trans ?_ e
  unfold iblk slab
  generalize V m c main_v21 = v
  blk_ext! [idx t]
theorem read_lam_re (t : Fin cfg0.N) (d : Fin 2) (g : Fin 8) (p : Fin 64) :
    iblk m c 0 t (ix4 0 d 64 (lane g p)) = LR m c d (grp t g) p := by
  refine Eq.trans ?_ (lam_re m c t d g p)
  have e : (V m c main_v21 : S8x2x72x512.Idx → EReal) (ix4 (slab t) d 64 (lane g p)) = V m c main_v17 (ix4 (slab t) d 0 (lane g p)) := by
    rw [rows]
    pointwise
  refine Eq.trans ?_ e
  unfold iblk slab
  generalize V m c main_v21 = v
  blk_ext! [idx t]
theorem read_lam_im (t : Fin cfg0.N) (d : Fin 2) (g : Fin 8) (p : Fin 64) :
    iblk m c 0 t (ix4 0 d 65 (lane g p)) = LI m c d (grp t g) p := by
  refine Eq.trans ?_ (lam_im m c t d g p)
  have e : (V m c main_v21 : S8x2x72x512.Idx → EReal) (ix4 (slab t) d 65 (lane g p)) = V m c main_v19 (ix4 (slab t) d 0 (lane g p)) := by
    rw [rows]
    pointwise
  refine Eq.trans ?_ e
  unfold iblk slab
  generalize V m c main_v21 = v
  blk_ext! [idx t]
theorem read_skip (t : Fin cfg0.N) (k : Fin 128) :
    iblk m c 0 t (ix4 0 0 66 ⟨k.val, by omega⟩) = SK m c ⟨(slab t).val * 128 + k.val, by omega⟩ := by
  refine Eq.trans ?_ (skip m c t k)
  have e : (V m c main_v21 : S8x2x72x512.Idx → EReal) (ix4 (slab t) 0 66 ⟨k.val, by omega⟩) = V m c main_v1 (ix4 (slab t) 0 0 ⟨k.val, by omega⟩) := by
    rw [rows]
    pointwise
  refine Eq.trans ?_ e
  unfold iblk slab
  generalize V m c main_v21 = v
  blk_ext! [idx t]
theorem read1 (t : Fin cfg0.N) (d : Fin 2) (g : Fin 8) (p : Fin 64) : iblk m c 1 t (ix3 d g p) = AR m c d (grp t g) p := by
  unfold AR grp; blk_ext! [iblk, V, idx t]
theorem read2 (t : Fin cfg0.N) (d : Fin 2) (g : Fin 8) (p : Fin 64) : iblk m c 2 t (ix3 d g p) = AI m c d (grp t g) p := by
  unfold AI grp; blk_ext! [iblk, V, idx t]
theorem read3 (t : Fin cfg0.N) (d : Fin 2) (g : Fin 8) : iblk m c 3 t (ix3 d g 0) = DT m c d (grp t g) := by
  have e : (V m c main_v22 : S2x64x1.Idx → EReal) (ix3 d (grp t g) 0) = DT m c d (grp t g) := by
    simp only [V, hostOps0, hostOps0_1, hostOps0_2, List.flatten_cons, List.flatten_nil, List.append_nil, List.cons_append, List.nil_append]
    after_results_simp
    pointwise
  refine Eq.trans ?_ e
  unfold iblk grp
  generalize V m c main_v22 = v
  blk_ext! [idx t]
theorem read4 (t : Fin cfg0.N) (d : Fin 2) (g : Fin 8) (h : Fin 16) (p : Fin 64) : iblk m c 4 t (ix4 d g h p) = WR m c d (grp t g) p h := by
  have e : (V m c main_v23 : S2x64x16x64.Idx → EReal) (ix4 d (grp t g) h p) = WR m c d (grp t g) p h := by
    simp only [V, hostOps0, hostOps0_1, hostOps0_2, List.flatten_cons, List.flatten_nil, List.append_nil, List.cons_append, List.nil_append]
    after_results_simp
    pointwise
  refine Eq.trans ?_ e
  unfold iblk grp
  generalize V m c main_v23 = v
  blk_ext! [idx t]
theorem read5 (t : Fin cfg0.N) (d : Fin 2) (g : Fin 8) (h : Fin 16) (p : Fin 64) : iblk m c 5 t (ix4 d g h p) = WI m c d (grp t g) p h := by
  have e : (V m c main_v24 : S2x64x16x64.Idx → EReal) (ix4 d (grp t g) h p) = WI m c d (grp t g) p h := by
    simp only [V, hostOps0, hostOps0_1, hostOps0_2, List.flatten_cons, List.flatten_nil, List.append_nil, List.cons_append, List.nil_append]
    after_results_simp
    pointwise
  refine Eq.trans ?_ e
  unfold iblk grp
  generalize V m c main_v24 = v
  blk_ext! [idx t]
-- ==== Proof.SsmParam.Block.lean ====
/-
  One step of the backward of the state space model's parameters: what its stores hold, from the blocks it reads.
-/
module

public import proofs.«01_k».proof.Proof.Gen.SsmParamIdeal.Value
public import proofs.«01_k».proof.Proof.SsmParam.Algebra

@[expose] public section

set_option maxRecDepth 16384

noncomputable section

namespace Cert.SsmParamBlock

open Cert.SsmParamIdeal Cert.SsmParamIdeal.Gen Idealize.ShloMosaic Idealize.ShloMosaic.TcCoe Idealize.SL.Sem

/-- The lane of pole `p` of group `g` in a slab's rows. -/
abbrev lane (g : Fin 8) (p : Fin 64) : Fin 512 := ⟨64 * g.val + p.val, by omega⟩

variable (x0 : Vec Ideal S1x2x72x512 .f32) (x1 x2 : Vec Ideal S2x8x64 .f32) (x3 : Vec Ideal S2x8x1 .f32) (x4 x5 : Vec Ideal S2x8x16x64 .f32)

/-- The pole, its step, and the cotangents of the discrete pole and of the input matrix's factor. -/
abbrev a (d : Fin 2) (g : Fin 8) (p : Fin 64) : EReal := x1 (ix3 d g p)
abbrev b (d : Fin 2) (g : Fin 8) (p : Fin 64) : EReal := x2 (ix3 d g p)
abbrev dt (d : Fin 2) (g : Fin 8) : EReal := Ideal.exp (x3 (ix3 d g 0))
abbrev gb (d : Fin 2) (g : Fin 8) (h : Fin 16) (p : Fin 64) : EReal := x0 (ix4 0 d ⟨h.val, by omega⟩ (lane g p))
abbrev gc (d : Fin 2) (g : Fin 8) (h : Fin 16) (p : Fin 64) : EReal := x0 (ix4 0 d ⟨16 + h.val, by omega⟩ (lane g p))
abbrev gl (d : Fin 2) (g : Fin 8) (p : Fin 64) : EReal := x0 (ix4 0 d 64 (lane g p))
abbrev gm (d : Fin 2) (g : Fin 8) (p : Fin 64) : EReal := x0 (ix4 0 d 65 (lane g p))
def fre (d : Fin 2) (g : Fin 8) (p : Fin 64) : EReal := ∑ h : Fin 16, (gb x0 d g h p * x4 (ix4 d g h p) + gc x0 d g h p * x5 (ix4 d g h p))
def fim (d : Fin 2) (g : Fin 8) (p : Fin 64) : EReal := ∑ h : Fin 16, (gc x0 d g h p * x4 (ix4 d g h p) - gb x0 d g h p * x5 (ix4 d g h p))

theorem eight (g : Fin 8) : g = 0 ∨ g = 1 ∨ g = 2 ∨ g = 3 ∨ g = 4 ∨ g = 5 ∨ g = 6 ∨ g = 7 := by omega

theorem lane_zero (p : Fin 64) : lane 0 p = ⟨p.val, by omega⟩ := Fin.ext (by show 64 * 0 + p.val = p.val; omega)

/-! ### The values that the stores share -/

theorem im0 (g : Fin 8) (p : Fin 64) : k0_pay299 x0 x1 x2 x3 x4 x5 (ix2 g p) = b x2 0 g p := by
  unfold_payloads
  pointwise
theorem l0 (g : Fin 8) (p : Fin 64) : k0_pay300 x0 x1 x2 x3 x4 x5 (ix2 g p) = Zoh.left (a x1 0 g p) := by
  unfold_payloads
  pointwise
  rfl
theorem dt0 (g : Fin 8) : k0_pay301 x0 x1 x2 x3 x4 x5 (ix2 g 0) = dt x3 0 g := by
  unfold_payloads
  pointwise
theorem er0 (g : Fin 8) (p : Fin 64) : k0_pay302 x0 x1 x2 x3 x4 x5 (ix2 g p) = Zoh.barRe (a x1 0 g p) (b x2 0 g p) (dt x3 0 g) := by
  unfold_payloads
  pointwise
  rfl
theorem ei0 (g : Fin 8) (p : Fin 64) : k0_pay303 x0 x1 x2 x3 x4 x5 (ix2 g p) = Zoh.barIm (a x1 0 g p) (b x2 0 g p) (dt x3 0 g) := by
  unfold_payloads
  pointwise
  rfl
theorem fr0 (g : Fin 8) (p : Fin 64) : k0_pay304 x0 x1 x2 x3 x4 x5 (ix2 g p) = Zoh.facRe (a x1 0 g p) (b x2 0 g p) (dt x3 0 g) := by
  unfold_payloads
  pointwise
  rfl
theorem fi0 (g : Fin 8) (p : Fin 64) : k0_pay305 x0 x1 x2 x3 x4 x5 (ix2 g p) = Zoh.facIm (a x1 0 g p) (b x2 0 g p) (dt x3 0 g) := by
  unfold_payloads
  pointwise
  rfl
theorem im1 (g : Fin 8) (p : Fin 64) : k0_pay332 x0 x1 x2 x3 x4 x5 (ix2 g p) = b x2 1 g p := by
  unfold_payloads
  pointwise
theorem l1 (g : Fin 8) (p : Fin 64) : k0_pay333 x0 x1 x2 x3 x4 x5 (ix2 g p) = Zoh.left (a x1 1 g p) := by
  unfold_payloads
  pointwise
  rfl
theorem dt1 (g : Fin 8) : k0_pay334 x0 x1 x2 x3 x4 x5 (ix2 g 0) = dt x3 1 g := by
  unfold_payloads
  pointwise
theorem er1 (g : Fin 8) (p : Fin 64) : k0_pay335 x0 x1 x2 x3 x4 x5 (ix2 g p) = Zoh.barRe (a x1 1 g p) (b x2 1 g p) (dt x3 1 g) := by
  unfold_payloads
  pointwise
  rfl
theorem ei1 (g : Fin 8) (p : Fin 64) : k0_pay336 x0 x1 x2 x3 x4 x5 (ix2 g p) = Zoh.barIm (a x1 1 g p) (b x2 1 g p) (dt x3 1 g) := by
  unfold_payloads
  pointwise
  rfl
theorem fr1 (g : Fin 8) (p : Fin 64) : k0_pay340 x0 x1 x2 x3 x4 x5 (ix2 g p) = Zoh.facRe (a x1 1 g p) (b x2 1 g p) (dt x3 1 g) := by
  unfold_payloads
  pointwise
  rfl
theorem fi1 (g : Fin 8) (p : Fin 64) : k0_pay341 x0 x1 x2 x3 x4 x5 (ix2 g p) = Zoh.facIm (a x1 1 g p) (b x2 1 g p) (dt x3 1 g) := by
  unfold_payloads
  pointwise
  rfl
theorem ir0 (g : Fin 8) (p : Fin 64) : k0_pay329 x0 x1 x2 x3 x4 x5 (ix2 g p) = Zoh.invRe (a x1 0 g p) (b x2 0 g p) := by
  unfold_payloads
  pointwise
  rfl
theorem ii0 (g : Fin 8) (p : Fin 64) : k0_pay330 x0 x1 x2 x3 x4 x5 (ix2 g p) = Zoh.invIm (a x1 0 g p) (b x2 0 g p) := by
  unfold_payloads
  pointwise
  rfl
theorem fre0 (g : Fin 8) (p : Fin 64) : k0_pay325 x0 x1 x2 x3 x4 x5 (ix2 g p) = fre x0 x4 x5 0 g p := by
  obtain rfl | rfl | rfl | rfl | rfl | rfl | rfl | rfl := eight g
  all_goals
    unfold_payloads
    pointwise
  all_goals first
    | done
    | rfl
    | simp only [gl, gm, lane_zero]
    | simp only [fre, gb, gc, lane_zero]
    | simp only [fim, gb, gc, lane_zero]
theorem fim0 (g : Fin 8) (p : Fin 64) : k0_pay326 x0 x1 x2 x3 x4 x5 (ix2 g p) = fim x0 x4 x5 0 g p := by
  obtain rfl | rfl | rfl | rfl | rfl | rfl | rfl | rfl := eight g
  all_goals
    unfold_payloads
    pointwise
  all_goals first
    | done
    | rfl
    | simp only [gl, gm, lane_zero]
    | simp only [fre, gb, gc, lane_zero]
    | simp only [fim, gb, gc, lane_zero]
theorem gl0 (g : Fin 8) (p : Fin 64) : k0_pay327 x0 x1 x2 x3 x4 x5 (ix2 g p) = gl x0 0 g p := by
  obtain rfl | rfl | rfl | rfl | rfl | rfl | rfl | rfl := eight g
  all_goals
    unfold_payloads
    pointwise
  all_goals first
    | done
    | rfl
    | simp only [gl, gm, lane_zero]
    | simp only [fre, gb, gc, lane_zero]
    | simp only [fim, gb, gc, lane_zero]
theorem gm0 (g : Fin 8) (p : Fin 64) : k0_pay328 x0 x1 x2 x3 x4 x5 (ix2 g p) = gm x0 0 g p := by
  obtain rfl | rfl | rfl | rfl | rfl | rfl | rfl | rfl := eight g
  all_goals
    unfold_payloads
    pointwise
  all_goals first
    | done
    | rfl
    | simp only [gl, gm, lane_zero]
    | simp only [fre, gb, gc, lane_zero]
    | simp only [fim, gb, gc, lane_zero]
theorem fre1 (g : Fin 8) (p : Fin 64) : k0_pay370 x0 x1 x2 x3 x4 x5 (ix2 g p) = fre x0 x4 x5 1 g p := by
  obtain rfl | rfl | rfl | rfl | rfl | rfl | rfl | rfl := eight g
  all_goals
    unfold_payloads
    pointwise
  all_goals first
    | done
    | rfl
    | simp only [gl, gm, lane_zero]
    | simp only [fre, gb, gc, lane_zero]
    | simp only [fim, gb, gc, lane_zero]
theorem fim1 (g : Fin 8) (p : Fin 64) : k0_pay371 x0 x1 x2 x3 x4 x5 (ix2 g p) = fim x0 x4 x5 1 g p := by
  obtain rfl | rfl | rfl | rfl | rfl | rfl | rfl | rfl := eight g
  all_goals
    unfold_payloads
    pointwise
  all_goals first
    | done
    | rfl
    | simp only [gl, gm, lane_zero]
    | simp only [fre, gb, gc, lane_zero]
    | simp only [fim, gb, gc, lane_zero]
theorem gl1 (g : Fin 8) (p : Fin 64) : k0_pay372 x0 x1 x2 x3 x4 x5 (ix2 g p) = gl x0 1 g p := by
  obtain rfl | rfl | rfl | rfl | rfl | rfl | rfl | rfl := eight g
  all_goals
    unfold_payloads
    pointwise
  all_goals first
    | done
    | rfl
    | simp only [gl, gm, lane_zero]
    | simp only [fre, gb, gc, lane_zero]
    | simp only [fim, gb, gc, lane_zero]
theorem gm1_0 (p : Fin 64) : k0_pay342 x0 x1 x2 x3 x4 x5 (ix2 0 p) = gm x0 1 0 p := by
  unfold_payloads
  pointwise
  simp only [gm, lane_zero]
theorem gm1_1 (p : Fin 64) : k0_pay344 x0 x1 x2 x3 x4 x5 (ix2 0 p) = gm x0 1 1 p := by
  unfold_payloads
  pointwise
  rfl
theorem gm1_2 (p : Fin 64) : k0_pay350 x0 x1 x2 x3 x4 x5 (ix2 0 p) = gm x0 1 2 p := by
  unfold_payloads
  pointwise
  rfl
theorem gm1_3 (p : Fin 64) : k0_pay355 x0 x1 x2 x3 x4 x5 (ix2 0 p) = gm x0 1 3 p := by
  unfold_payloads
  pointwise
  rfl
theorem gm1_4 (p : Fin 64) : k0_pay356 x0 x1 x2 x3 x4 x5 (ix2 0 p) = gm x0 1 4 p := by
  unfold_payloads
  pointwise
  rfl
theorem gm1_5 (p : Fin 64) : k0_pay359 x0 x1 x2 x3 x4 x5 (ix2 0 p) = gm x0 1 5 p := by
  unfold_payloads
  pointwise
  rfl
theorem gm1_6 (p : Fin 64) : k0_pay364 x0 x1 x2 x3 x4 x5 (ix2 0 p) = gm x0 1 6 p := by
  unfold_payloads
  pointwise
  rfl
theorem gm1_7 (p : Fin 64) : k0_pay369 x0 x1 x2 x3 x4 x5 (ix2 0 p) = gm x0 1 7 p := by
  unfold_payloads
  pointwise
  rfl

/-! ### The pole's and the step's derivatives -/

def holdRe (er ei u v p q ir ii : EReal) : EReal := er * (u + (ir * p - (0 - ii) * q)) - (0 - ei) * (v + (ir * q + (0 - ii) * p))
def holdIm (er ei u v p q ir ii : EReal) : EReal := er * (v + (ir * q + (0 - ii) * p)) + (0 - ei) * (u + (ir * p - (0 - ii) * q))
def poleRe (s er ei fr fi p q u v ir ii : EReal) : EReal :=
  (0 - (fr * ir - fi * ii)) * p - (fr * ii + fi * ir) * q + s * holdRe er ei u v p q ir ii
def poleIm (s er ei fr fi p q u v ir ii : EReal) : EReal :=
  (0 - (fr * ir - fi * ii)) * q + (fr * ii + fi * ir) * p + s * holdIm er ei u v p q ir ii

section
variable (w : Vec Ideal S1x8x64 .f32) (a1 : FVec Ideal S8x1 .f32) (a2 a3 a4 a5 a6 a7 a8 a9 a10 a11 : FVec Ideal S8x64 .f32)

theorem re0 (g : Fin 8) (p : Fin 64) (z : EReal) (hw : w (ix3 0 g p) = z) :
    k0_pay143 (k0_pay3 w) a1 a2 a3 a4 a5 a6 a7 a8 a9 a10 a11 (Scalar.ofBits .f32 0x00000000#32) (ix3 0 g p)
      = let y := poleRe (a1 (ix2 g 0)) (a2 (ix2 g p)) (a3 (ix2 g p)) (a4 (ix2 g p)) (a5 (ix2 g p)) (a6 (ix2 g p)) (a7 (ix2 g p)) (a8 (ix2 g p))
          (a9 (ix2 g p)) (a10 (ix2 g p)) (a11 (ix2 g p))
        if z < Zoh.bound then y else if z = Zoh.bound then Ideal.ofBits .f32 0x3F000000#32 * y else 0 := by
  subst hw
  unfold_payloads
  pointwise
  rfl
theorem im0' (g : Fin 8) (p : Fin 64) :
    k0_pay144 (k0_pay142 a1 a2 a3 a4 a5 a6 a7 a8 a9 a10 a11 (Scalar.ofBits .f32 0x00000000#32)) (ix3 0 g p)
      = poleIm (a1 (ix2 g 0)) (a2 (ix2 g p)) (a3 (ix2 g p)) (a4 (ix2 g p)) (a5 (ix2 g p)) (a6 (ix2 g p)) (a7 (ix2 g p)) (a8 (ix2 g p))
          (a9 (ix2 g p)) (a10 (ix2 g p)) (a11 (ix2 g p)) := by
  unfold_payloads
  pointwise
  rfl
theorem step0 (g : Fin 8) :
    k0_pay145 a2 a3 a1 (k0_pay140 a4 a5 a6 a7 a8 a9 a10 a11 (Scalar.ofBits .f32 0x00000000#32))
        (k0_pay141 a4 a5 a6 a7 a8 a9 a10 a11 (Scalar.ofBits .f32 0x00000000#32)) (ix3 0 g 0)
      = (∑ p : Fin 64, (a3 (ix2 g p) * holdRe (a4 (ix2 g p)) (a5 (ix2 g p)) (a8 (ix2 g p)) (a9 (ix2 g p)) (a6 (ix2 g p)) (a7 (ix2 g p)) (a10 (ix2 g p)) (a11 (ix2 g p))
          + a2 (ix2 g p) * holdIm (a4 (ix2 g p)) (a5 (ix2 g p)) (a8 (ix2 g p)) (a9 (ix2 g p)) (a6 (ix2 g p)) (a7 (ix2 g p)) (a10 (ix2 g p)) (a11 (ix2 g p))))
        * a1 (ix2 g 0) := by
  unfold_payloads
  pointwise
  rfl

/-- The second direction reads the pole's inverse from the pole, and one cotangent from eight rows. -/
def invRe (im l : EReal) : EReal := Ideal.div l (l * l + im * im)
def invIm (im l : EReal) : EReal := Ideal.div (0 - im) (l * l + im * im)
variable (r0 r1 r2 r3 r4 r5 r6 r7 : FVec Ideal S1x64 .f32) (G : Fin 8 → Fin 64 → EReal)
  (h0 : ∀ p, r0 (ix2 0 p) = G 0 p) (h1 : ∀ p, r1 (ix2 0 p) = G 1 p) (h2 : ∀ p, r2 (ix2 0 p) = G 2 p) (h3 : ∀ p, r3 (ix2 0 p) = G 3 p)
  (h4 : ∀ p, r4 (ix2 0 p) = G 4 p) (h5 : ∀ p, r5 (ix2 0 p) = G 5 p) (h6 : ∀ p, r6 (ix2 0 p) = G 6 p) (h7 : ∀ p, r7 (ix2 0 p) = G 7 p)
include h0 h1 h2 h3 h4 h5 h6 h7

theorem re1 (g : Fin 8) (p : Fin 64) (z : EReal) (hw : w (ix3 0 g p) = z) :
    k0_pay296 (k0_pay291 a2 a3 a1 a4 a5 a6 a7 r0 r1 r2 r3 r4 r5 r6 r7 a8 a9 a10) (k0_pay293 (k0_pay146 w)) (k0_pay294 (k0_pay146 w))
        (k0_pay295 a2 a3 a1 a4 a5 a6 a7 r0 r1 r2 r3 r4 r5 r6 r7 a8 a9 a10) (Scalar.ofBits .f32 0x00000000#32) (ix3 0 g p)
      = let y := poleRe (a1 (ix2 g 0)) (a4 (ix2 g p)) (a5 (ix2 g p)) (a6 (ix2 g p)) (a7 (ix2 g p)) (a8 (ix2 g p)) (a9 (ix2 g p)) (a10 (ix2 g p))
          (G g p) (invRe (a2 (ix2 g p)) (a3 (ix2 g p))) (invIm (a2 (ix2 g p)) (a3 (ix2 g p)))
        if z < Zoh.bound then y else if z = Zoh.bound then Ideal.ofBits .f32 0x3F000000#32 * y else 0 := by
  subst hw
  obtain rfl | rfl | rfl | rfl | rfl | rfl | rfl | rfl := eight g
  all_goals
    unfold_payloads
    pointwise
    simp only [h0, h1, h2, h3, h4, h5, h6, h7]
    rfl
theorem im1' (g : Fin 8) (p : Fin 64) :
    k0_pay297 (k0_pay292 a2 a3 a1 a4 a5 a6 a7 r0 r1 r2 r3 r4 r5 r6 r7 a8 a9 a10) (ix3 0 g p)
      = poleIm (a1 (ix2 g 0)) (a4 (ix2 g p)) (a5 (ix2 g p)) (a6 (ix2 g p)) (a7 (ix2 g p)) (a8 (ix2 g p)) (a9 (ix2 g p)) (a10 (ix2 g p))
          (G g p) (invRe (a2 (ix2 g p)) (a3 (ix2 g p))) (invIm (a2 (ix2 g p)) (a3 (ix2 g p))) := by
  obtain rfl | rfl | rfl | rfl | rfl | rfl | rfl | rfl := eight g
  all_goals
    unfold_payloads
    pointwise
    simp only [h0, h1, h2, h3, h4, h5, h6, h7]
    rfl
theorem step1 (g : Fin 8) :
    k0_pay1 (k0_pay298 a2 a3 a1 (k0_pay289 a2 a3 a4 a5 r0 r1 r2 r3 r4 r5 r6 r7 a8 a9 a10)
        (k0_pay290 a2 a3 a4 a5 r0 r1 r2 r3 r4 r5 r6 r7 a8 a9 a10)) (ix3 0 g 0)
      = (∑ p : Fin 64, (a3 (ix2 g p) * holdRe (a4 (ix2 g p)) (a5 (ix2 g p)) (a10 (ix2 g p)) (G g p) (a8 (ix2 g p)) (a9 (ix2 g p))
            (invRe (a2 (ix2 g p)) (a3 (ix2 g p))) (invIm (a2 (ix2 g p)) (a3 (ix2 g p)))
          + a2 (ix2 g p) * holdIm (a4 (ix2 g p)) (a5 (ix2 g p)) (a10 (ix2 g p)) (G g p) (a8 (ix2 g p)) (a9 (ix2 g p))
            (invRe (a2 (ix2 g p)) (a3 (ix2 g p))) (invIm (a2 (ix2 g p)) (a3 (ix2 g p)))))
        * a1 (ix2 g 0) := by
  obtain rfl | rfl | rfl | rfl | rfl | rfl | rfl | rfl := eight g
  all_goals
    unfold_payloads
    pointwise
    simp only [h0, h1, h2, h3, h4, h5, h6, h7]
    rfl

end

end Cert.SsmParamBlock
-- ==== Proof.SsmParam.Stores.lean ====
/-
  One step of the backward of the state space model's parameters: its output blocks, from the blocks it reads.
-/
module

public import proofs.«01_k».proof.Proof.SsmParam.Block

@[expose] public section

set_option maxRecDepth 16384

noncomputable section

namespace Cert.SsmParamBlock

open Cert.SsmParamIdeal Cert.SsmParamIdeal.Gen Idealize.ShloMosaic Idealize.ShloMosaic.TcCoe Idealize.SL.Sem

variable (x0 : Vec Ideal S1x2x72x512 .f32) (x1 x2 : Vec Ideal S2x8x64 .f32) (x3 : Vec Ideal S2x8x1 .f32) (x4 x5 : Vec Ideal S2x8x16x64 .f32)

/-- A store of one group's matrix, of one direction's poles, of one direction's steps. -/
theorem piece4 {d g : ℕ} (inb : ∀ a, (![d, g, 0, 0] : Fin 4 → ℕ) a + (![1, 1, 16, 64] : Fin 4 → ℕ) a ≤ S2x8x16x64.size a)
    (w : (⟨4, ![1, 1, 16, 64]⟩ : Shape).Idx → EReal) (f : Fin 2 → Fin 8 → Fin 16 → Fin 64 → EReal) (hd : d < 2) (hg : g < 8)
    (e : ∀ (h : Fin 16) (p : Fin 64), w (ix4 0 0 h p) = f ⟨d, hd⟩ ⟨g, hg⟩ h p) :
    ∀ x : (Rect.unit (s := S2x8x16x64) ![d, g, 0, 0] ![1, 1, 16, 64] inb).shape.Idx,
      w x = (fun y : S2x8x16x64.Idx => f (y 0) (y 1) (y 2) (y 3)) ((Rect.unit (s := S2x8x16x64) ![d, g, 0, 0] ![1, 1, 16, 64] inb).emb x) := fun x => by
  have e1 : x = ix4 (x 0) (x 1) (x 2) (x 3) := eq_ix4 (n0 := 1) (n1 := 1) (n2 := 16) (n3 := 64) x
  have z0 : @Eq (Fin 1) (x 0) 0 := @Subsingleton.elim (Fin 1) _ (x 0) 0
  have z1 : @Eq (Fin 1) (x 1) 0 := @Subsingleton.elim (Fin 1) _ (x 1) 0
  have e2 : x = ix4 (0 : Fin 1) (0 : Fin 1) (x 2 : Fin 16) (x 3 : Fin 64) := by
    rw [e1]
    exact congrArg₂ (fun i j => ix4 (n0 := 1) (n1 := 1) (n2 := 16) (n3 := 64) i j (x 2) (x 3)) z0 z1
  refine (congrArg w e2).trans ((e (x 2) (x 3)).trans ?_)
  have v0 : (x 0).val = 0 := congrArg Fin.val z0
  have v1 : (x 1).val = 0 := congrArg Fin.val z1
  have k0 : (Rect.unit (s := S2x8x16x64) ![d, g, 0, 0] ![1, 1, 16, 64] inb).emb x 0 = (⟨d, hd⟩ : Fin 2) :=
    Fin.ext (by show d + 1 * (x 0).val = d; omega)
  have k1 : (Rect.unit (s := S2x8x16x64) ![d, g, 0, 0] ![1, 1, 16, 64] inb).emb x 1 = (⟨g, hg⟩ : Fin 8) :=
    Fin.ext (by show g + 1 * (x 1).val = g; omega)
  have k2 : (Rect.unit (s := S2x8x16x64) ![d, g, 0, 0] ![1, 1, 16, 64] inb).emb x 2 = (x 2 : Fin 16) :=
    Fin.ext (by show 0 + 1 * (x 2).val = (x 2).val; omega)
  have k3 : (Rect.unit (s := S2x8x16x64) ![d, g, 0, 0] ![1, 1, 16, 64] inb).emb x 3 = (x 3 : Fin 64) :=
    Fin.ext (by show 0 + 1 * (x 3).val = (x 3).val; omega)
  show _ = f _ _ _ _
  rw [k0, k1, k2, k3]
theorem piece3 {d n : ℕ} (inb : ∀ a, (![d, 0, 0] : Fin 3 → ℕ) a + (![1, 8, n] : Fin 3 → ℕ) a ≤ (⟨3, ![2, 8, n]⟩ : Shape).size a)
    (w : (⟨3, ![1, 8, n]⟩ : Shape).Idx → EReal) (f : Fin 2 → Fin 8 → Fin n → EReal) (hd : d < 2)
    (e : ∀ (g : Fin 8) (p : Fin n), w (ix3 0 g p) = f ⟨d, hd⟩ g p) :
    ∀ x : (Rect.unit (s := ⟨3, ![2, 8, n]⟩) ![d, 0, 0] ![1, 8, n] inb).shape.Idx,
      w x = (fun y : (⟨3, ![2, 8, n]⟩ : Shape).Idx => f (y 0) (y 1) (y 2)) ((Rect.unit (s := ⟨3, ![2, 8, n]⟩) ![d, 0, 0] ![1, 8, n] inb).emb x) := fun x => by
  have e1 : x = ix3 (x 0) (x 1) (x 2) := eq_ix3 (n0 := 1) (n1 := 8) (n2 := n) x
  have z0 : @Eq (Fin 1) (x 0) 0 := @Subsingleton.elim (Fin 1) _ (x 0) 0
  have e2 : x = ix3 (0 : Fin 1) (x 1 : Fin 8) (x 2 : Fin n) := by
    rw [e1]
    exact congrArg (fun i => ix3 (n0 := 1) (n1 := 8) (n2 := n) i (x 1) (x 2)) z0
  refine (congrArg w e2).trans ((e (x 1) (x 2)).trans ?_)
  have v0 : (x 0).val = 0 := congrArg Fin.val z0
  have k0 : (Rect.unit (s := ⟨3, ![2, 8, n]⟩) ![d, 0, 0] ![1, 8, n] inb).emb x 0 = (⟨d, hd⟩ : Fin 2) :=
    Fin.ext (by show d + 1 * (x 0).val = d; omega)
  have k1 : (Rect.unit (s := ⟨3, ![2, 8, n]⟩) ![d, 0, 0] ![1, 8, n] inb).emb x 1 = (x 1 : Fin 8) :=
    Fin.ext (by show 0 + 1 * (x 1).val = (x 1).val; omega)
  have k2 : (Rect.unit (s := ⟨3, ![2, 8, n]⟩) ![d, 0, 0] ![1, 8, n] inb).emb x 2 = (x 2 : Fin n) :=
    Fin.ext (by show 0 + 1 * (x 2).val = (x 2).val; omega)
  show _ = f _ _ _
  rw [k0, k1, k2]

/-! ### The matrices -/

def matRe (d : Fin 2) (g : Fin 8) (h : Fin 16) (p : Fin 64) : EReal :=
  Zoh.facRe (a x1 d g p) (b x2 d g p) (dt x3 d g) * gb x0 d g h p + Zoh.facIm (a x1 d g p) (b x2 d g p) (dt x3 d g) * gc x0 d g h p
def matIm (d : Fin 2) (g : Fin 8) (h : Fin 16) (p : Fin 64) : EReal :=
  Zoh.facRe (a x1 d g p) (b x2 d g p) (dt x3 d g) * gc x0 d g h p - Zoh.facIm (a x1 d g p) (b x2 d g p) (dt x3 d g) * gb x0 d g h p
def outRe (d : Fin 2) (g : Fin 8) (h : Fin 16) (p : Fin 64) : EReal := x0 (ix4 0 d ⟨32 + h.val, by omega⟩ (lane g p))
def outIm (d : Fin 2) (g : Fin 8) (h : Fin 16) (p : Fin 64) : EReal := x0 (ix4 0 d ⟨48 + h.val, by omega⟩ (lane g p))

set_option maxHeartbeats 4000000 in
theorem block6 (y : S2x8x16x64.Idx) : out0_6 x0 x1 x2 x3 x4 x5 y = matRe x0 x1 x2 x3 (y 0) (y 1) (y 2) (y 3) := by
  unfold out0_6
  refine (View.canon_apply_of_pieces (fun y : S2x8x16x64.Idx => matRe x0 x1 x2 x3 (y 0) (y 1) (y 2) (y 3)) _ ?_ _ (cover0_6 _ _ _ _ _ _ _ _ _ _ _ _ _ _ _ _ _)).trans rfl
  simp only [List.forall_mem_cons]
  refine ⟨?_, ?_, ?_, ?_, ?_, ?_, ?_, ?_, ?_, ?_, ?_, ?_, ?_, ?_, ?_, ?_, fun p hp => absurd hp List.not_mem_nil⟩
  all_goals
    refine piece4 _ _ (matRe x0 x1 x2 x3) (by norm_num) (by norm_num) fun h p => ?_
    unfold_payloads
    pointwise
    first
      | rfl
      | (unfold matRe; simp only [gb, gc, lane_zero]; rfl)
      | (unfold matRe; simp only [gb, gc, lane_zero])

set_option maxHeartbeats 4000000 in
theorem block7 (y : S2x8x16x64.Idx) : out0_7 x0 x1 x2 x3 x4 x5 y = matIm x0 x1 x2 x3 (y 0) (y 1) (y 2) (y 3) := by
  unfold out0_7
  refine (View.canon_apply_of_pieces (fun y : S2x8x16x64.Idx => matIm x0 x1 x2 x3 (y 0) (y 1) (y 2) (y 3)) _ ?_ _ (cover0_7 _ _ _ _ _ _ _ _ _ _ _ _ _ _ _ _ _)).trans rfl
  simp only [List.forall_mem_cons]
  refine ⟨?_, ?_, ?_, ?_, ?_, ?_, ?_, ?_, ?_, ?_, ?_, ?_, ?_, ?_, ?_, ?_, fun p hp => absurd hp List.not_mem_nil⟩
  all_goals
    refine piece4 _ _ (matIm x0 x1 x2 x3) (by norm_num) (by norm_num) fun h p => ?_
    unfold_payloads
    pointwise
    first
      | rfl
      | (unfold matIm; simp only [gb, gc, lane_zero]; rfl)
      | (unfold matIm; simp only [gb, gc, lane_zero])

set_option maxHeartbeats 4000000 in
theorem block8 (y : S2x8x16x64.Idx) : out0_8 x0 x1 x2 x3 x4 x5 y = outRe x0 (y 0) (y 1) (y 2) (y 3) := by
  unfold out0_8
  refine (View.canon_apply_of_pieces (fun y : S2x8x16x64.Idx => outRe x0 (y 0) (y 1) (y 2) (y 3)) _ ?_ _ (cover0_8 _ _ _ _ _ _ _ _ _ _ _ _ _ _ _ _ _)).trans rfl
  simp only [List.forall_mem_cons]
  refine ⟨?_, ?_, ?_, ?_, ?_, ?_, ?_, ?_, ?_, ?_, ?_, ?_, ?_, ?_, ?_, ?_, fun p hp => absurd hp List.not_mem_nil⟩
  all_goals
    refine piece4 _ _ (outRe x0) (by norm_num) (by norm_num) fun h p => ?_
    unfold_payloads
    pointwise
    first
      | rfl
      | (unfold outRe; simp only [lane_zero]; rfl)
      | (unfold outRe; simp only [lane_zero])

set_option maxHeartbeats 4000000 in
theorem block9 (y : S2x8x16x64.Idx) : out0_9 x0 x1 x2 x3 x4 x5 y = outIm x0 (y 0) (y 1) (y 2) (y 3) := by
  unfold out0_9
  refine (View.canon_apply_of_pieces (fun y : S2x8x16x64.Idx => outIm x0 (y 0) (y 1) (y 2) (y 3)) _ ?_ _ (cover0_9 _ _ _ _ _ _ _ _ _ _ _ _ _ _ _ _ _)).trans rfl
  simp only [List.forall_mem_cons]
  refine ⟨?_, ?_, ?_, ?_, ?_, ?_, ?_, ?_, ?_, ?_, ?_, ?_, ?_, ?_, ?_, ?_, fun p hp => absurd hp List.not_mem_nil⟩
  all_goals
    refine piece4 _ _ (outIm x0) (by norm_num) (by norm_num) fun h p => ?_
    unfold_payloads
    pointwise
    first
      | rfl
      | (unfold outIm; simp only [lane_zero]; rfl)
      | (unfold outIm; simp only [lane_zero])

/-! ### The pole and the step -/

theorem ld0 (g : Fin 8) (p : Fin 64) : View.ld x1 r0_2 (ix3 0 g p) = a x1 0 g p := by
  pointwise
theorem ld1 (g : Fin 8) (p : Fin 64) : View.ld x1 r0_60 (ix3 0 g p) = a x1 1 g p := by
  pointwise

def poleAt (d : Fin 2) (g : Fin 8) (p : Fin 64) : EReal :=
  Zoh.dRe (a x1 d g p) (b x2 d g p) (dt x3 d g) (gl x0 d g p) (gm x0 d g p) (fre x0 x4 x5 d g p) (fim x0 x4 x5 d g p)
def poleImAt (d : Fin 2) (g : Fin 8) (p : Fin 64) : EReal :=
  Zoh.poleIm (a x1 d g p) (b x2 d g p) (dt x3 d g) (gl x0 d g p) (gm x0 d g p) (fre x0 x4 x5 d g p) (fim x0 x4 x5 d g p)
def stepAt (d : Fin 2) (g : Fin 8) : EReal :=
  (∑ p : Fin 64, Zoh.dStep (a x1 d g p) (b x2 d g p) (dt x3 d g) (gl x0 d g p) (gm x0 d g p) (fre x0 x4 x5 d g p) (fim x0 x4 x5 d g p)) * dt x3 d g

set_option maxHeartbeats 4000000 in
theorem block10 (y : S2x8x64.Idx) : out0_10 x0 x1 x2 x3 x4 x5 y = (poleAt x0 x1 x2 x3 x4 x5) (y 0) (y 1) (y 2) := by
  unfold out0_10
  refine (View.canon_apply_of_pieces (fun y : S2x8x64.Idx => (poleAt x0 x1 x2 x3 x4 x5) (y 0) (y 1) (y 2)) _ ?_ _ (cover0_10 _ _ _)).trans rfl
  simp only [List.forall_mem_cons]
  refine ⟨?_, ?_, fun p hp => absurd hp List.not_mem_nil⟩
  · refine piece3 _ _ (poleAt x0 x1 x2 x3 x4 x5) (by norm_num) fun g p => ?_
    refine (re1 _ _ _ _ _ _ _ _ _ _ _ _ _ _ _ _ _ _ _ (gm x0 1) (gm1_0 x0 x1 x2 x3 x4 x5) (gm1_1 x0 x1 x2 x3 x4 x5) (gm1_2 x0 x1 x2 x3 x4 x5) (gm1_3 x0 x1 x2 x3 x4 x5) (gm1_4 x0 x1 x2 x3 x4 x5) (gm1_5 x0 x1 x2 x3 x4 x5) (gm1_6 x0 x1 x2 x3 x4 x5) (gm1_7 x0 x1 x2 x3 x4 x5) g p _ (ld1 x1 g p)).trans ?_
    simp only [im1, l1, dt1, er1, ei1, fr1, fi1, fre1, fim1, gl1]
    rfl
  · refine piece3 _ _ (poleAt x0 x1 x2 x3 x4 x5) (by norm_num) fun g p => ?_
    refine (re0 _ _ _ _ _ _ _ _ _ _ _ _ g p _ (ld0 x1 g p)).trans ?_
    simp only [im0, l0, dt0, er0, ei0, fr0, fi0, fre0, fim0, gl0, gm0, ir0, ii0]
    rfl

set_option maxHeartbeats 4000000 in
theorem block11 (y : S2x8x64.Idx) : out0_11 x0 x1 x2 x3 x4 x5 y = (poleImAt x0 x1 x2 x3 x4 x5) (y 0) (y 1) (y 2) := by
  unfold out0_11
  refine (View.canon_apply_of_pieces (fun y : S2x8x64.Idx => (poleImAt x0 x1 x2 x3 x4 x5) (y 0) (y 1) (y 2)) _ ?_ _ (cover0_11 _ _ _)).trans rfl
  simp only [List.forall_mem_cons]
  refine ⟨?_, ?_, fun p hp => absurd hp List.not_mem_nil⟩
  · refine piece3 _ _ (poleImAt x0 x1 x2 x3 x4 x5) (by norm_num) fun g p => ?_
    refine (im1' _ _ _ _ _ _ _ _ _ _ _ _ _ _ _ _ _ _ (gm x0 1) (gm1_0 x0 x1 x2 x3 x4 x5) (gm1_1 x0 x1 x2 x3 x4 x5) (gm1_2 x0 x1 x2 x3 x4 x5) (gm1_3 x0 x1 x2 x3 x4 x5) (gm1_4 x0 x1 x2 x3 x4 x5) (gm1_5 x0 x1 x2 x3 x4 x5) (gm1_6 x0 x1 x2 x3 x4 x5) (gm1_7 x0 x1 x2 x3 x4 x5) g p).trans ?_
    simp only [im1, l1, dt1, er1, ei1, fr1, fi1, fre1, fim1, gl1]
    rfl
  · refine piece3 _ _ (poleImAt x0 x1 x2 x3 x4 x5) (by norm_num) fun g p => ?_
    refine (im0' _ _ _ _ _ _ _ _ _ _ _ g p).trans ?_
    simp only [im0, l0, dt0, er0, ei0, fr0, fi0, fre0, fim0, gl0, gm0, ir0, ii0]
    rfl

set_option maxHeartbeats 4000000 in
theorem block12 (y : S2x8x1.Idx) : out0_12 x0 x1 x2 x3 x4 x5 y = (fun d g _ => stepAt x0 x1 x2 x3 x4 x5 d g) (y 0) (y 1) (y 2) := by
  unfold out0_12
  refine (View.canon_apply_of_pieces (fun y : S2x8x1.Idx => (fun d g _ => stepAt x0 x1 x2 x3 x4 x5 d g) (y 0) (y 1) (y 2)) _ ?_ _ (cover0_12 _ _ _)).trans rfl
  simp only [List.forall_mem_cons]
  refine ⟨?_, ?_, fun p hp => absurd hp List.not_mem_nil⟩
  · refine piece3 _ _ (fun d g _ => stepAt x0 x1 x2 x3 x4 x5 d g) (by norm_num) fun g p => ?_
    obtain rfl : p = 0 := Subsingleton.elim _ _
    refine (step1 _ _ _ _ _ _ _ _ _ _ _ _ _ _ _ _ (gm x0 1) (gm1_0 x0 x1 x2 x3 x4 x5) (gm1_1 x0 x1 x2 x3 x4 x5) (gm1_2 x0 x1 x2 x3 x4 x5) (gm1_3 x0 x1 x2 x3 x4 x5) (gm1_4 x0 x1 x2 x3 x4 x5) (gm1_5 x0 x1 x2 x3 x4 x5) (gm1_6 x0 x1 x2 x3 x4 x5) (gm1_7 x0 x1 x2 x3 x4 x5) g).trans ?_
    simp only [im1, l1, dt1, er1, ei1, fr1, fi1, fre1, fim1, gl1]
    rfl
  · refine piece3 _ _ (fun d g _ => stepAt x0 x1 x2 x3 x4 x5 d g) (by norm_num) fun g p => ?_
    obtain rfl : p = 0 := Subsingleton.elim _ _
    refine (step0 _ _ _ _ _ _ _ _ _ _ _ g).trans ?_
    simp only [im0, l0, dt0, er0, ei0, fr0, fi0, fre0, fim0, gl0, gm0, ir0, ii0]
    rfl

def skipAt (k : Fin 128) : EReal := x0 (ix4 0 0 66 ⟨k.val, by omega⟩)

theorem block13 (y : S1x128.Idx) : out0_13 x0 x1 x2 x3 x4 x5 y = skipAt x0 (y 1) := by
  obtain ⟨i, k, rfl⟩ : ∃ (i : Fin 1) (k : Fin 128), y = ix2 i k := ⟨y 0, y 1, eq_ix2 (n0 := 1) (n1 := 128) y⟩
  unfold out0_13
  refine (Value.canon13_eq _ _).trans ?_
  unfold Value.E13 skipAt
  pointwise

end Cert.SsmParamBlock
-- ==== Proof.SsmParam.Final.lean ====
/-
  What the backward of the state space model's parameters leaves in its eight result arrays, element by element.
-/
module

public import proofs.«01_k».proof.Proof.SsmParam.Kernel
public import proofs.«01_k».proof.Proof.SsmParam.Stores

@[expose] public section

set_option maxRecDepth 16384

noncomputable section

namespace Cert.SsmParamKernel

open Cert.SsmParamIdeal Cert.SsmParamIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The step, the cotangent of the input matrix's factor, and the eight results. -/
def T (d : Fin 2) (g : Fin 64) : EReal := Ideal.exp (DT m c d g)
def FRE (d : Fin 2) (g p : Fin 64) : EReal := ∑ h : Fin 16, (BR m c d g p h * WR m c d g p h + BI m c d g p h * WI m c d g p h)
def FIM (d : Fin 2) (g p : Fin 64) : EReal := ∑ h : Fin 16, (BI m c d g p h * WR m c d g p h - BR m c d g p h * WI m c d g p h)
def R6 (d : Fin 2) (g : Fin 64) (h : Fin 16) (p : Fin 64) : EReal :=
  Zoh.facRe (AR m c d g p) (AI m c d g p) (T m c d g) * BR m c d g p h + Zoh.facIm (AR m c d g p) (AI m c d g p) (T m c d g) * BI m c d g p h
def R7 (d : Fin 2) (g : Fin 64) (h : Fin 16) (p : Fin 64) : EReal :=
  Zoh.facRe (AR m c d g p) (AI m c d g p) (T m c d g) * BI m c d g p h - Zoh.facIm (AR m c d g p) (AI m c d g p) (T m c d g) * BR m c d g p h
def R10 (d : Fin 2) (g p : Fin 64) : EReal :=
  Zoh.dRe (AR m c d g p) (AI m c d g p) (T m c d g) (LR m c d g p) (LI m c d g p) (FRE m c d g p) (FIM m c d g p)
def R11 (d : Fin 2) (g p : Fin 64) : EReal :=
  Zoh.poleIm (AR m c d g p) (AI m c d g p) (T m c d g) (LR m c d g p) (LI m c d g p) (FRE m c d g p) (FIM m c d g p)
def R12 (d : Fin 2) (g : Fin 64) : EReal :=
  (∑ p : Fin 64, Zoh.dStep (AR m c d g p) (AI m c d g p) (T m c d g) (LR m c d g p) (LI m c d g p) (FRE m c d g p) (FIM m c d g p)) * T m c d g

/-! ### The values of a step, of its slab's groups -/

variable (t : Fin cfg0.N) (d : Fin 2) (g : Fin 8)
theorem step_dt : SsmParamBlock.dt (iblk m c 3 t) d g = T m c d (grp t g) := congrArg Ideal.exp (read3 m c t d g)
theorem step_a (p : Fin 64) : SsmParamBlock.a (iblk m c 1 t) d g p = AR m c d (grp t g) p := read1 m c t d g p
theorem step_b (p : Fin 64) : SsmParamBlock.b (iblk m c 2 t) d g p = AI m c d (grp t g) p := read2 m c t d g p
theorem step_gb (h : Fin 16) (p : Fin 64) : SsmParamBlock.gb (iblk m c 0 t) d g h p = BR m c d (grp t g) p h := read_bar_re m c t d h g p
theorem step_gc (h : Fin 16) (p : Fin 64) : SsmParamBlock.gc (iblk m c 0 t) d g h p = BI m c d (grp t g) p h := read_bar_im m c t d h g p
theorem step_gl (p : Fin 64) : SsmParamBlock.gl (iblk m c 0 t) d g p = LR m c d (grp t g) p := read_lam_re m c t d g p
theorem step_gm (p : Fin 64) : SsmParamBlock.gm (iblk m c 0 t) d g p = LI m c d (grp t g) p := read_lam_im m c t d g p
theorem step_fre (p : Fin 64) : SsmParamBlock.fre (iblk m c 0 t) (iblk m c 4 t) (iblk m c 5 t) d g p = FRE m c d (grp t g) p :=
  Finset.sum_congr rfl fun h _ => congrArg₂ (· + ·) (congrArg₂ (· * ·) (read_bar_re m c t d h g p) (read4 m c t d g h p))
    (congrArg₂ (· * ·) (read_bar_im m c t d h g p) (read5 m c t d g h p))
theorem step_fim (p : Fin 64) : SsmParamBlock.fim (iblk m c 0 t) (iblk m c 4 t) (iblk m c 5 t) d g p = FIM m c d (grp t g) p :=
  Finset.sum_congr rfl fun h _ => congrArg₂ (· - ·) (congrArg₂ (· * ·) (read_bar_im m c t d h g p) (read4 m c t d g h p))
    (congrArg₂ (· * ·) (read_bar_re m c t d h g p) (read5 m c t d g h p))

theorem emb6 (h : Fin 16) (p : Fin 64) : ((cfg0.win 6).blk t).view.emb (ix4 d g h p) = ix4 d (grp t g) h p := by
  unfold grp; blk_ext! [idx t]
theorem emb7 (h : Fin 16) (p : Fin 64) : ((cfg0.win 7).blk t).view.emb (ix4 d g h p) = ix4 d (grp t g) h p := by
  unfold grp; blk_ext! [idx t]
theorem emb8 (h : Fin 16) (p : Fin 64) : ((cfg0.win 8).blk t).view.emb (ix4 d g h p) = ix4 d (grp t g) h p := by
  unfold grp; blk_ext! [idx t]
theorem emb9 (h : Fin 16) (p : Fin 64) : ((cfg0.win 9).blk t).view.emb (ix4 d g h p) = ix4 d (grp t g) h p := by
  unfold grp; blk_ext! [idx t]
theorem emb10 (p : Fin 64) : ((cfg0.win 10).blk t).view.emb (ix3 d g p) = ix3 d (grp t g) p := by
  unfold grp; blk_ext! [idx t]
theorem emb11 (p : Fin 64) : ((cfg0.win 11).blk t).view.emb (ix3 d g p) = ix3 d (grp t g) p := by
  unfold grp; blk_ext! [idx t]
theorem emb12 (z : Fin 1) : ((cfg0.win 12).blk t).view.emb (ix3 d g z) = ix3 d (grp t g) z := by
  unfold grp; blk_ext! [idx t]
theorem emb13 (z : Fin 1) (k : Fin 128) : ((cfg0.win 13).blk t).view.emb (ix2 z k) = ix2 z (⟨(slab t).val * 128 + k.val, by omega⟩ : Fin 1024) := by
  unfold slab; blk_ext! [idx t]

theorem final6 : (dats m 0 c).arrAt 6 cfg0.N = fun i => R6 m c (i 0) (i 1) (i 2) (i 3) := by
  refine (dats m 0 c).arrAt_eq_of_covers 6 _ (by decide +kernel) fun t hf y => ?_
  obtain ⟨d, g, h, p, rfl⟩ : ∃ (d : Fin 2) (g : Fin 8) (h : Fin 16) (p : Fin 64), y = ix4 d g h p :=
    ⟨y 0, y 1, y 2, y 3, eq_ix4 (n0 := 2) (n1 := 8) (n2 := 16) (n3 := 64) y⟩
  rw [emb6]
  blk_simp
  rw [after0_6, SsmParamBlock.block6]
  show SsmParamBlock.matRe _ _ _ _ d g h p = R6 m c d (grp t g) h p
  unfold SsmParamBlock.matRe R6
  rw [step_dt, step_a, step_b, step_gb, step_gc]
theorem final7 : (dats m 0 c).arrAt 7 cfg0.N = fun i => R7 m c (i 0) (i 1) (i 2) (i 3) := by
  refine (dats m 0 c).arrAt_eq_of_covers 7 _ (by decide +kernel) fun t hf y => ?_
  obtain ⟨d, g, h, p, rfl⟩ : ∃ (d : Fin 2) (g : Fin 8) (h : Fin 16) (p : Fin 64), y = ix4 d g h p :=
    ⟨y 0, y 1, y 2, y 3, eq_ix4 (n0 := 2) (n1 := 8) (n2 := 16) (n3 := 64) y⟩
  rw [emb7]
  blk_simp
  rw [after0_7, SsmParamBlock.block7]
  show SsmParamBlock.matIm _ _ _ _ d g h p = R7 m c d (grp t g) h p
  unfold SsmParamBlock.matIm R7
  rw [step_dt, step_a, step_b, step_gb, step_gc]
theorem final8 : (dats m 0 c).arrAt 8 cfg0.N = fun i => CR m c (i 0) (i 1) (i 2) (i 3) := by
  refine (dats m 0 c).arrAt_eq_of_covers 8 _ (by decide +kernel) fun t hf y => ?_
  obtain ⟨d, g, h, p, rfl⟩ : ∃ (d : Fin 2) (g : Fin 8) (h : Fin 16) (p : Fin 64), y = ix4 d g h p :=
    ⟨y 0, y 1, y 2, y 3, eq_ix4 (n0 := 2) (n1 := 8) (n2 := 16) (n3 := 64) y⟩
  rw [emb8]
  blk_simp
  rw [after0_8, SsmParamBlock.block8]
  exact read_c_re m c t d h g p
theorem final9 : (dats m 0 c).arrAt 9 cfg0.N = fun i => CI m c (i 0) (i 1) (i 2) (i 3) := by
  refine (dats m 0 c).arrAt_eq_of_covers 9 _ (by decide +kernel) fun t hf y => ?_
  obtain ⟨d, g, h, p, rfl⟩ : ∃ (d : Fin 2) (g : Fin 8) (h : Fin 16) (p : Fin 64), y = ix4 d g h p :=
    ⟨y 0, y 1, y 2, y 3, eq_ix4 (n0 := 2) (n1 := 8) (n2 := 16) (n3 := 64) y⟩
  rw [emb9]
  blk_simp
  rw [after0_9, SsmParamBlock.block9]
  exact read_c_im m c t d h g p
theorem final10 : (dats m 0 c).arrAt 10 cfg0.N = fun i => R10 m c (i 0) (i 1) (i 2) := by
  refine (dats m 0 c).arrAt_eq_of_covers 10 _ (by decide +kernel) fun t hf y => ?_
  obtain ⟨d, g, p, rfl⟩ : ∃ (d : Fin 2) (g : Fin 8) (p : Fin 64), y = ix3 d g p := ⟨y 0, y 1, y 2, eq_ix3 (n0 := 2) (n1 := 8) (n2 := 64) y⟩
  rw [emb10]
  blk_simp
  rw [after0_10, SsmParamBlock.block10]
  show SsmParamBlock.poleAt _ _ _ _ _ _ d g p = R10 m c d (grp t g) p
  unfold SsmParamBlock.poleAt R10
  rw [step_dt, step_fre, step_fim, step_a, step_b, step_gl, step_gm]
theorem final11 : (dats m 0 c).arrAt 11 cfg0.N = fun i => R11 m c (i 0) (i 1) (i 2) := by
  refine (dats m 0 c).arrAt_eq_of_covers 11 _ (by decide +kernel) fun t hf y => ?_
  obtain ⟨d, g, p, rfl⟩ : ∃ (d : Fin 2) (g : Fin 8) (p : Fin 64), y = ix3 d g p := ⟨y 0, y 1, y 2, eq_ix3 (n0 := 2) (n1 := 8) (n2 := 64) y⟩
  rw [emb11]
  blk_simp
  rw [after0_11, SsmParamBlock.block11]
  show SsmParamBlock.poleImAt _ _ _ _ _ _ d g p = R11 m c d (grp t g) p
  unfold SsmParamBlock.poleImAt R11
  rw [step_dt, step_fre, step_fim, step_a, step_b, step_gl, step_gm]
theorem final12 : (dats m 0 c).arrAt 12 cfg0.N = fun i => R12 m c (i 0) (i 1) := by
  refine (dats m 0 c).arrAt_eq_of_covers 12 _ (by decide +kernel) fun t hf y => ?_
  obtain ⟨d, g, p, rfl⟩ : ∃ (d : Fin 2) (g : Fin 8) (p : Fin 1), y = ix3 d g p := ⟨y 0, y 1, y 2, eq_ix3 (n0 := 2) (n1 := 8) (n2 := 1) y⟩
  rw [emb12]
  blk_simp
  rw [after0_12, SsmParamBlock.block12]
  show SsmParamBlock.stepAt _ _ _ _ _ _ d g = R12 m c d (grp t g)
  unfold SsmParamBlock.stepAt R12
  rw [step_dt]
  refine congrArg (· * _) (Finset.sum_congr rfl fun q _ => ?_)
  rw [step_fre, step_fim, step_a, step_b, step_gl, step_gm]
theorem final13 : (dats m 0 c).arrAt 13 cfg0.N = fun i => SK m c (i 1) := by
  refine (dats m 0 c).arrAt_eq_of_covers 13 _ (by decide +kernel) fun t hf y => ?_
  obtain ⟨z, k, rfl⟩ : ∃ (z : Fin 1) (k : Fin 128), y = ix2 z k := ⟨y 0, y 1, eq_ix2 (n0 := 1) (n1 := 128) y⟩
  rw [emb13]
  blk_simp
  rw [after0_13, SsmParamBlock.block13]
  exact read_skip m c t k

end Cert.SsmParamKernel
-- ==== Proof.SsmParam.Ref.lean ====
/-
  What reverse mode differentiation of the zero-order hold writes, element by element.
-/
module

public import proofs.«01_k».proof.Proof.Gen.SsmParamRefIdeal.Run
public import proofs.«01_k».proof.Proof.SsmParam.Algebra
public import Idealize.ShloMosaic.Lib.Tactic.CleanTypes

@[expose] public section

set_option maxRecDepth 16384

noncomputable section

namespace Cert.SsmParamRef

open Cert.SsmParamRefIdeal Cert.SsmParamRefIdeal.Value Idealize.ShloMosaic Idealize.ShloMosaic.TcCoe Idealize.SL.Sem

variable (m : (ℓ : Loc nD τ sig) → Buf (Elt Ideal) ℓ) (ρ : Dev nD → PrngReg) (c : Dev nD)

/-- The cotangents of the discrete pole, the discrete input matrix, the output matrix and the skip weight; the parameters. -/
abbrev LR (d : Fin 2) (g p : Fin 64) : EReal := m ((c.tc : Thread nD τ).loc main_arg0) (ix3 d g p)
abbrev LI (d : Fin 2) (g p : Fin 64) : EReal := m ((c.tc : Thread nD τ).loc main_arg1) (ix3 d g p)
abbrev BR (d : Fin 2) (g p : Fin 64) (h : Fin 16) : EReal := m ((c.tc : Thread nD τ).loc main_arg2) (ix4 d g p h)
abbrev BI (d : Fin 2) (g p : Fin 64) (h : Fin 16) : EReal := m ((c.tc : Thread nD τ).loc main_arg3) (ix4 d g p h)
abbrev CR (d : Fin 2) (g : Fin 64) (h : Fin 16) (p : Fin 64) : EReal := m ((c.tc : Thread nD τ).loc main_arg4) (ix4 d g h p)
abbrev CI (d : Fin 2) (g : Fin 64) (h : Fin 16) (p : Fin 64) : EReal := m ((c.tc : Thread nD τ).loc main_arg5) (ix4 d g h p)
abbrev SK (k : Fin 1024) : EReal := m ((c.tc : Thread nD τ).loc main_arg6) (ix1 k)
abbrev AR (d : Fin 2) (g p : Fin 64) : EReal := m ((c.tc : Thread nD τ).loc main_arg7) (ix3 d g p)
abbrev AI (d : Fin 2) (g p : Fin 64) : EReal := m ((c.tc : Thread nD τ).loc main_arg8) (ix3 d g p)
abbrev DT (d : Fin 2) (g : Fin 64) : EReal := m ((c.tc : Thread nD τ).loc main_arg9) (ix2 d g)
abbrev WR (d : Fin 2) (g p : Fin 64) (h : Fin 16) : EReal := m ((c.tc : Thread nD τ).loc main_arg10) (ix4 d g p h)
abbrev WI (d : Fin 2) (g p : Fin 64) (h : Fin 16) : EReal := m ((c.tc : Thread nD τ).loc main_arg11) (ix4 d g p h)

/-- The step, and the two parts of the cotangent of the input matrix's factor. -/
def T (d : Fin 2) (g : Fin 64) : EReal := Ideal.exp (DT m c d g)
def FP (d : Fin 2) (g p : Fin 64) : EReal := ∑ h : Fin 16, BI m c d g p h * WI m c d g p h + ∑ h : Fin 16, BR m c d g p h * WR m c d g p h
def FQ (d : Fin 2) (g p : Fin 64) : EReal := ∑ h : Fin 16, BI m c d g p h * WR m c d g p h + ∑ h : Fin 16, -BR m c d g p h * WI m c d g p h

theorem b_re (d : Fin 2) (g : Fin 64) (h : Fin 16) (p : Fin 64) : res_main_v153 m c (ix4 d g h p)
    = Zoh.facIm (AR m c d g p) (AI m c d g p) (T m c d g) * BI m c d g p h + Zoh.facRe (AR m c d g p) (AI m c d g p) (T m c d g) * BR m c d g p h := by
  unfold res_main_v153
  clean_types
  pointwise
  rfl
theorem b_im (d : Fin 2) (g : Fin 64) (h : Fin 16) (p : Fin 64) : res_main_v154 m c (ix4 d g h p)
    = Zoh.facRe (AR m c d g p) (AI m c d g p) (T m c d g) * BI m c d g p h + Zoh.facIm (AR m c d g p) (AI m c d g p) (T m c d g) * -BR m c d g p h := by
  unfold res_main_v154
  clean_types
  pointwise
  rfl
theorem a_re (d : Fin 2) (g p : Fin 64) : res_main_v152 m c (ix3 d g p)
    = Zoh.revRe (AR m c d g p) (AI m c d g p) (T m c d g) (LR m c d g p) (LI m c d g p) (FP m c d g p) (FQ m c d g p) := by
  unfold res_main_v152
  clean_types
  pointwise
  simp only [Fin.sum_univ_one]
  rfl
theorem a_im (d : Fin 2) (g p : Fin 64) : res_main_v141 m c (ix3 d g p)
    = Zoh.revIm (AR m c d g p) (AI m c d g p) (T m c d g) (LR m c d g p) (LI m c d g p) (FP m c d g p) (FQ m c d g p) := by
  unfold res_main_v141
  clean_types
  pointwise
  simp only [Fin.sum_univ_one]
  rfl
theorem step (d : Fin 2) (g : Fin 64) : res_main_v155 m c (ix3 d g 0)
    = (∑ p, Zoh.revStep (AR m c d g p) (AI m c d g p) (T m c d g) (LR m c d g p) (LI m c d g p) (FP m c d g p) (FQ m c d g p)) * T m c d g := by
  unfold res_main_v155
  clean_types
  pointwise
  simp only [Fin.sum_univ_one, Zoh.revStep, Finset.sum_add_distrib]
  rfl
theorem skip (h : Shape.ShapeCasts S1024 S1x1024) : shapeCast S1x1024 (m ((c.tc : Thread nD τ).loc main_arg6)) h = fun i => SK m c (i 1) := by
  funext i
  obtain ⟨z, k, rfl⟩ : ∃ (z : Fin 1) (k : Fin 1024), i = ix2 z k := ⟨i 0, i 1, eq_ix2 i⟩
  obtain rfl : z = 0 := Subsingleton.elim _ _
  pointwise

end Cert.SsmParamRef
-- ==== Proof.SsmParam.Value.lean ====
/-
  The backward of the state space model's parameters: the kernel's eight results are the derivative's at finite arguments.
-/
module

public import proofs.«01_k».proof.Defs
public import proofs.«01_k».proof.Proof.Gen.Pre_ssm_param_finite
public import proofs.«01_k».proof.Proof.SsmParam.Final
public import proofs.«01_k».proof.Proof.SsmParam.Ref

@[expose] public section

set_option maxRecDepth 16384

noncomputable section

namespace Cert.SsmParam

open Idealize.ShloMosaic Idealize.ShloMosaic.TcCoe Idealize.SL.Sem

instance : Subsingleton (Cert.Pre_ssm_param_finite.S_).Idx := ⟨fun a b => funext fun i => i.elim0⟩

theorem frame_ref : Cert.quiescent_SsmParamRefIdeal := fun m ρ _ =>
  (θ_run _ _ _).mono (fun r h => ⟨fun c => (h c).2.2.2.2.2.2.2.2, sem_eq_zero_of_no_sems (by decide) r.2⟩) (SsmParamRefIdeal.Value.run m ρ)

section
variable (m : (ℓ : Loc Cert.SsmParamIdeal.nD Cert.SsmParamIdeal.τ Cert.SsmParamIdeal.sig) → Buf (Elt Ideal) ℓ) (c : Dev Cert.SsmParamIdeal.nD)

/-- The arguments as reals: each value that a pole's and a step's derivative reads. -/
theorem reals (h : Pre_SsmParamIdeal_ssm_param_finite m) (d : Fin 2) (g p : Fin 64) : ∃ a b t u v x y : ℝ,
    SsmParamKernel.AR m c d g p = a ∧ SsmParamKernel.AI m c d g p = b ∧ SsmParamKernel.T m c d g = t ∧ SsmParamKernel.LR m c d g p = u
      ∧ SsmParamKernel.LI m c d g p = v ∧ SsmParamKernel.FRE m c d g p = x ∧ SsmParamKernel.FIM m c d g p = y := by
  have hc := congrFun (h c) fun i => i.elim0
  obtain ⟨hc, h11⟩ := IntOp.andi_eq_one.mp hc
  obtain ⟨hc, h10⟩ := IntOp.andi_eq_one.mp hc
  obtain ⟨hc, h9⟩ := IntOp.andi_eq_one.mp hc
  obtain ⟨hc, h8⟩ := IntOp.andi_eq_one.mp hc
  obtain ⟨hc, h7⟩ := IntOp.andi_eq_one.mp hc
  obtain ⟨hc, h3⟩ := IntOp.andi_eq_one.mp hc
  obtain ⟨hc, h2⟩ := IntOp.andi_eq_one.mp hc
  obtain ⟨h0, h1⟩ := IntOp.andi_eq_one.mp hc
  obtain ⟨u, h0⟩ := Common.reals_of_all _ _ (fun _ => rfl) _ _ _ _ h0
  obtain ⟨v, h1⟩ := Common.reals_of_all _ _ (fun _ => rfl) _ _ _ _ h1
  obtain ⟨br, h2⟩ := Common.reals_of_all _ _ (fun _ => rfl) _ _ _ _ h2
  obtain ⟨bi, h3⟩ := Common.reals_of_all _ _ (fun _ => rfl) _ _ _ _ h3
  obtain ⟨a, h7⟩ := Common.reals_of_all _ _ (fun _ => rfl) _ _ _ _ h7
  obtain ⟨b, h8⟩ := Common.reals_of_all _ _ (fun _ => rfl) _ _ _ _ h8
  obtain ⟨l, h9⟩ := Common.reals_of_all _ _ (fun _ => rfl) _ _ _ _ h9
  obtain ⟨wr, h10⟩ := Common.reals_of_all _ _ (fun _ => rfl) _ _ _ _ h10
  obtain ⟨wi, h11⟩ := Common.reals_of_all _ _ (fun _ => rfl) _ _ _ _ h11
  refine ⟨a (ix3 d g p), b (ix3 d g p), Real.exp (l (ix2 d g)), u (ix3 d g p), v (ix3 d g p),
    ∑ k : Fin 16, (br (ix4 d g p k) * wr (ix4 d g p k) + bi (ix4 d g p k) * wi (ix4 d g p k)),
    ∑ k : Fin 16, (bi (ix4 d g p k) * wr (ix4 d g p k) - br (ix4 d g p k) * wi (ix4 d g p k)),
    h7 _, h8 _, (congrArg Ideal.exp (h9 _)).trans (Ideal.exp_coe _), h0 _, h1 _, ?_, ?_⟩
  · rw [← Common.coe_sum]
    refine Finset.sum_congr rfl fun k _ => ?_
    rw [EReal.coe_add, EReal.coe_mul, EReal.coe_mul]
    exact congrArg₂ (· + ·) (congrArg₂ (· * ·) (h2 _) (h10 _)) (congrArg₂ (· * ·) (h3 _) (h11 _))
  · rw [← Common.coe_sum]
    refine Finset.sum_congr rfl fun k _ => ?_
    rw [EReal.coe_sub, EReal.coe_mul, EReal.coe_mul]
    exact congrArg₂ (· - ·) (congrArg₂ (· * ·) (h3 _) (h10 _)) (congrArg₂ (· * ·) (h2 _) (h11 _))

/-! ### The two forms at these arguments -/

variable (h : Pre_SsmParamIdeal_ssm_param_finite m) (d : Fin 2) (g p : Fin 64)
include h

theorem pole_re : Zoh.revRe (SsmParamKernel.AR m c d g p) (SsmParamKernel.AI m c d g p) (SsmParamKernel.T m c d g) (SsmParamKernel.LR m c d g p)
    (SsmParamKernel.LI m c d g p) (SsmParamKernel.FRE m c d g p) (SsmParamKernel.FIM m c d g p) = SsmParamKernel.R10 m c d g p := by
  unfold SsmParamKernel.R10
  obtain ⟨a, b, t, u, v, x, y, ha, hb, ht, hu, hv, hx, hy⟩ := reals m c h d g p
  obtain ⟨w⟩ := Zoh.vals a b t
  rw [ha, hb, ht, hu, hv, hx, hy, w.dRe_rev]
theorem pole_im : Zoh.revIm (SsmParamKernel.AR m c d g p) (SsmParamKernel.AI m c d g p) (SsmParamKernel.T m c d g) (SsmParamKernel.LR m c d g p)
    (SsmParamKernel.LI m c d g p) (SsmParamKernel.FRE m c d g p) (SsmParamKernel.FIM m c d g p) = SsmParamKernel.R11 m c d g p := by
  unfold SsmParamKernel.R11
  obtain ⟨a, b, t, u, v, x, y, ha, hb, ht, hu, hv, hx, hy⟩ := reals m c h d g p
  obtain ⟨w⟩ := Zoh.vals a b t
  rw [ha, hb, ht, hu, hv, hx, hy, w.poleIm_rev]
theorem step : (∑ p, Zoh.revStep (SsmParamKernel.AR m c d g p) (SsmParamKernel.AI m c d g p) (SsmParamKernel.T m c d g) (SsmParamKernel.LR m c d g p)
    (SsmParamKernel.LI m c d g p) (SsmParamKernel.FRE m c d g p) (SsmParamKernel.FIM m c d g p)) * SsmParamKernel.T m c d g = SsmParamKernel.R12 m c d g := by
  unfold SsmParamKernel.R12
  refine congrArg (· * _) (Finset.sum_congr rfl fun p _ => ?_)
  obtain ⟨a, b, t, u, v, x, y, ha, hb, ht, hu, hv, hx, hy⟩ := reals m c h d g p
  obtain ⟨w⟩ := Zoh.vals a b t
  rw [ha, hb, ht, hu, hv, hx, hy, w.dStep_rev]

end

/-! ### The reference's arrays are the kernel's -/

section
variable (m : (ℓ : Loc Cert.SsmParamIdeal.nD Cert.SsmParamIdeal.τ Cert.SsmParamIdeal.sig) → Buf (Elt Ideal) ℓ)
  (m' : (ℓ : Loc Cert.SsmParamRefIdeal.nD Cert.SsmParamRefIdeal.τ Cert.SsmParamRefIdeal.sig) → Buf (Elt Ideal) ℓ) (c : Dev Cert.SsmParamIdeal.nD)

/-- Both programs' arguments, as values, are the same. -/
structure Same : Prop where
  lr : SsmParamRef.LR m' c = SsmParamKernel.LR m c
  li : SsmParamRef.LI m' c = SsmParamKernel.LI m c
  br : SsmParamRef.BR m' c = SsmParamKernel.BR m c
  bi : SsmParamRef.BI m' c = SsmParamKernel.BI m c
  cr : SsmParamRef.CR m' c = SsmParamKernel.CR m c
  ci : SsmParamRef.CI m' c = SsmParamKernel.CI m c
  sk : SsmParamRef.SK m' c = SsmParamKernel.SK m c
  ar : SsmParamRef.AR m' c = SsmParamKernel.AR m c
  ai : SsmParamRef.AI m' c = SsmParamKernel.AI m c
  t : SsmParamRef.T m' c = SsmParamKernel.T m c
  wr : SsmParamRef.WR m' c = SsmParamKernel.WR m c
  wi : SsmParamRef.WI m' c = SsmParamKernel.WI m c

variable {m m' c} (s : Same m m' c)
include s

theorem Same.fp : SsmParamRef.FP m' c = SsmParamKernel.FRE m c := by
  funext d g p
  unfold SsmParamRef.FP SsmParamKernel.FRE
  rw [s.br, s.bi, s.wr, s.wi, Finset.sum_add_distrib, add_comm]
theorem Same.fq : SsmParamRef.FQ m' c = SsmParamKernel.FIM m c := by
  funext d g p
  unfold SsmParamRef.FQ SsmParamKernel.FIM
  rw [s.br, s.bi, s.wr, s.wi, ← Finset.sum_add_distrib]
  exact Finset.sum_congr rfl fun k _ => by rw [neg_mul, sub_eq_add_neg]
theorem Same.out0 : SsmParamRefIdeal.Value.res_main_v153 m' c = fun i => SsmParamKernel.R6 m c (i 0) (i 1) (i 2) (i 3) := by
  funext i
  obtain ⟨d, g, k, p, rfl⟩ : ∃ (d : Fin 2) (g : Fin 64) (k : Fin 16) (p : Fin 64), i = ix4 d g k p := ⟨i 0, i 1, i 2, i 3, eq_ix4 i⟩
  refine (SsmParamRef.b_re m' c d g k p).trans (Eq.trans ?_ (add_comm (G := EReal) _ _))
  rw [s.ar, s.ai, s.t, s.br, s.bi]
  rfl
theorem Same.out1 : SsmParamRefIdeal.Value.res_main_v154 m' c = fun i => SsmParamKernel.R7 m c (i 0) (i 1) (i 2) (i 3) := by
  funext i
  obtain ⟨d, g, k, p, rfl⟩ : ∃ (d : Fin 2) (g : Fin 64) (k : Fin 16) (p : Fin 64), i = ix4 d g k p := ⟨i 0, i 1, i 2, i 3, eq_ix4 i⟩
  refine (SsmParamRef.b_im m' c d g k p).trans ?_
  rw [s.ar, s.ai, s.t, s.br, s.bi, mul_neg, ← sub_eq_add_neg]
  rfl
theorem Same.out2 : m' ((c.tc : Thread Cert.SsmParamRefIdeal.nD Cert.SsmParamRefIdeal.τ).loc Cert.SsmParamRefIdeal.main_arg4)
    = fun i => SsmParamKernel.CR m c (i 0) (i 1) (i 2) (i 3) := by
  rw [← s.cr]
  exact funext fun i => congrArg (m' _) (eq_ix4 (n0 := 2) (n1 := 64) (n2 := 16) (n3 := 64) i)
theorem Same.out3 : m' ((c.tc : Thread Cert.SsmParamRefIdeal.nD Cert.SsmParamRefIdeal.τ).loc Cert.SsmParamRefIdeal.main_arg5)
    = fun i => SsmParamKernel.CI m c (i 0) (i 1) (i 2) (i 3) := by
  rw [← s.ci]
  exact funext fun i => congrArg (m' _) (eq_ix4 (n0 := 2) (n1 := 64) (n2 := 16) (n3 := 64) i)

variable (h : Pre_SsmParamIdeal_ssm_param_finite m)
include h

theorem Same.out4 : SsmParamRefIdeal.Value.res_main_v152 m' c = fun i => SsmParamKernel.R10 m c (i 0) (i 1) (i 2) := by
  funext i
  obtain ⟨d, g, p, rfl⟩ : ∃ (d : Fin 2) (g p : Fin 64), i = ix3 d g p := ⟨i 0, i 1, i 2, eq_ix3 i⟩
  refine (SsmParamRef.a_re m' c d g p).trans ?_
  rw [s.ar, s.ai, s.t, s.lr, s.li, s.fp, s.fq]
  exact pole_re m c h d g p
theorem Same.out5 : SsmParamRefIdeal.Value.res_main_v141 m' c = fun i => SsmParamKernel.R11 m c (i 0) (i 1) (i 2) := by
  funext i
  obtain ⟨d, g, p, rfl⟩ : ∃ (d : Fin 2) (g p : Fin 64), i = ix3 d g p := ⟨i 0, i 1, i 2, eq_ix3 i⟩
  refine (SsmParamRef.a_im m' c d g p).trans ?_
  rw [s.ar, s.ai, s.t, s.lr, s.li, s.fp, s.fq]
  exact pole_im m c h d g p
theorem Same.out6 : SsmParamRefIdeal.Value.res_main_v155 m' c = fun i => SsmParamKernel.R12 m c (i 0) (i 1) := by
  funext i
  obtain ⟨d, g, z, rfl⟩ : ∃ (d : Fin 2) (g : Fin 64) (z : Fin 1), i = ix3 d g z := ⟨i 0, i 1, i 2, eq_ix3 i⟩
  obtain rfl : z = 0 := Subsingleton.elim _ _
  refine (SsmParamRef.step m' c d g).trans ?_
  rw [s.ar, s.ai, s.t, s.lr, s.li, s.fp, s.fq]
  exact step m c h d g

end

theorem algebraic : Cert.algebraic_SsmParamIdeal_SsmParamRefIdeal_pre_ssm_param_finite := fun m ρ m' ρ' hpre hag => by
  have hs : ∀ c, Same m m' c := fun c => by
    obtain ⟨g0, g1, g2, g3, g4, g5, g6, g7, g8, g9, g10, g11⟩ := hag c
    constructor
    · unfold SsmParamRef.LR; rw [g0]
    · unfold SsmParamRef.LI; rw [g1]
    · unfold SsmParamRef.BR; rw [g2]
    · unfold SsmParamRef.BI; rw [g3]
    · unfold SsmParamRef.CR; rw [g4]
    · unfold SsmParamRef.CI; rw [g5]
    · unfold SsmParamRef.SK; rw [g6]
    · unfold SsmParamRef.AR; rw [g7]
    · unfold SsmParamRef.AI; rw [g8]
    · unfold SsmParamRef.T SsmParamRef.DT SsmParamKernel.T; rw [g9]
    · unfold SsmParamRef.WR; rw [g10]
    · unfold SsmParamRef.WI; rw [g11]
  refine ⟨fun c => (Cert.SsmParamIdeal.Gen.dats m 0 c).arrAt 6 Cert.SsmParamIdeal.cfg0.N, fun c => (Cert.SsmParamIdeal.Gen.dats m 0 c).arrAt 7 Cert.SsmParamIdeal.cfg0.N,
    fun c => (Cert.SsmParamIdeal.Gen.dats m 0 c).arrAt 8 Cert.SsmParamIdeal.cfg0.N, fun c => (Cert.SsmParamIdeal.Gen.dats m 0 c).arrAt 9 Cert.SsmParamIdeal.cfg0.N,
    fun c => (Cert.SsmParamIdeal.Gen.dats m 0 c).arrAt 10 Cert.SsmParamIdeal.cfg0.N, fun c => (Cert.SsmParamIdeal.Gen.dats m 0 c).arrAt 11 Cert.SsmParamIdeal.cfg0.N,
    fun c => (Cert.SsmParamIdeal.Gen.dats m 0 c).arrAt 12 Cert.SsmParamIdeal.cfg0.N, fun c => (Cert.SsmParamIdeal.Gen.dats m 0 c).arrAt 13 Cert.SsmParamIdeal.cfg0.N,
    Cert.SsmParamIdeal.Value.run_blocks m ρ, (θ_run _ _ _).mono (fun r h c => ?_) (Cert.SsmParamRefIdeal.Value.run m' ρ')⟩
  obtain ⟨e0, e1, e2, e3, e4, e5, e6, e7, hrest⟩ := h c
  exact ⟨e0.trans ((hs c).out0.trans (SsmParamKernel.final6 m c).symm), e1.trans ((hs c).out1.trans (SsmParamKernel.final7 m c).symm),
    e2.trans ((hs c).out2.trans (SsmParamKernel.final8 m c).symm), e3.trans ((hs c).out3.trans (SsmParamKernel.final9 m c).symm),
    e4.trans (((hs c).out4 hpre).trans (SsmParamKernel.final10 m c).symm), e5.trans (((hs c).out5 hpre).trans (SsmParamKernel.final11 m c).symm),
    e6.trans (((hs c).out6 hpre).trans (SsmParamKernel.final12 m c).symm),
    e7.trans ((SsmParamRef.skip m' c _).trans ((congrArg (fun f => fun i : Cert.SsmParamRefIdeal.S1x1024.Idx => f (i 1)) (hs c).sk).trans
      (SsmParamKernel.final13 m c).symm)), hrest⟩

end Cert.SsmParam
-- ==== Proof.Norm.Value.lean ====
/-
  The first norm: what the kernel leaves in its result array is the reference's value, element by element.
-/
module

public import proofs.«01_k».proof.Defs
public import proofs.«01_k».proof.Proof.Gen.NormInIdeal.Value
public import proofs.«01_k».proof.Proof.Gen.NormRefIdeal.Run
public import proofs.«01_k».proof.Proof.In.Algebra
public import Idealize.ShloMosaic.Lib.Tactic.CleanTypes

@[expose] public section

set_option maxRecDepth 16384

noncomputable section

open Idealize.ShloMosaic Idealize.ShloMosaic.TcCoe Idealize.SL.Sem

/-- The root mean square norm of a row `x` with the gain `g`, at column `k`. -/
abbrev Cert.Norm.rms (x g : Fin 2048 → EReal) (k : Fin 2048) : EReal := x k * Cert.Norm.rinv x * g k

namespace Cert.NormKernel

open Cert.NormInIdeal Cert.NormInIdeal.Gen

variable (m : (ℓ : Loc nD τ sig) → Buf (Elt Ideal) ℓ) (c : Dev nD)

abbrev X (r : Fin 4096) (k : Fin 2048) : EReal := m ((c : Thread nD τ).loc main_arg0) (ix2 r k)
abbrev G (k : Fin 2048) : EReal := m ((c : Thread nD τ).loc main_arg1) (ix2 0 k)

theorem idx : ∀ t : Fin grid0.N, win0_0.index t = ![t.val, 0] ∧ win0_1.index t = ![0, 0] ∧ win0_2.index t = ![t.val, 0] := by
  decide +kernel

/-- Row `a` of the `t`-th block of 512 rows. -/
def row (t : Fin cfg0.N) (a : Fin 512) : Fin 4096 :=
  ⟨t.val * 512 + a.val, by have := t.isLt; have : cfg0.N = 8 := N_0; omega⟩

theorem read0 (t : Fin cfg0.N) (a : Fin 512) (k : Fin 2048) : iblk m c 0 t (ix2 a k) = X m c (row t a) k := by
  unfold X row; blk_ext! [iblk, V, idx t]
theorem read1 (t : Fin cfg0.N) (a : Fin 1) (k : Fin 2048) : iblk m c 1 t (ix2 a k) = G m c k := by
  unfold G; blk_ext! [iblk, V, idx t]
theorem emb2 (t : Fin cfg0.N) (a : Fin 512) (k : Fin 2048) : ((cfg0.win 2).blk t).view.emb (ix2 a k) = ix2 (row t a) k := by
  unfold row; blk_ext! [idx t]

theorem final : (dats m 0 c).arrAt 2 cfg0.N = fun i => Norm.rms (X m c (i 0)) (G m c) (i 1) := by
  refine (dats m 0 c).arrAt_eq_of_covers 2 _ (by decide +kernel) fun t hf y => ?_
  idx_vars y
  rw [emb2]
  blk_simp
  rw [after0_2]
  frame_out
  unfold_payloads
  pointwise
  simp only [read0, read1]
  rfl

end Cert.NormKernel

namespace Cert.NormRef

open Cert.NormRefIdeal

variable (m : (ℓ : Loc nD τ sig) → Buf (Elt Ideal) ℓ) (ρ : Dev nD → PrngReg)

abbrev X (c : Dev nD) (r : Fin 4096) (k : Fin 2048) : EReal := m ((c.tc : Thread nD τ).loc main_arg0) (ix2 r k)
abbrev G (c : Dev nD) (k : Fin 2048) : EReal := m ((c.tc : Thread nD τ).loc main_arg1) (ix2 0 k)

theorem run : θ_run defs (onTc (τ := τ) (main (F := Ideal))) ⟨m, fun _ => 0, ρ⟩ fun r => ∀ c : Dev nD,
      r.2.mem ((c.tc : Thread nD τ).loc main_v14) = (fun i => Norm.rms (X m c (i 0)) (G m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.NormRefIdeal.Value.run m ρ)
  clear h
  funext i
  obtain ⟨a, k, rfl⟩ : ∃ (a : Fin 4096) (k : Fin 2048), i = ix2 a k := ⟨i 0, i 1, eq_ix2 i⟩
  clean_types
  pointwise
  rfl

end Cert.NormRef

namespace Cert.Norm

theorem frame_ref : Cert.quiescent_NormRefIdeal := fun m ρ _ =>
  (θ_run _ _ _).mono (fun r h => ⟨fun c => (h c).2, sem_eq_zero_of_no_sems (by decide) r.2⟩) (NormRef.run m ρ)

theorem algebraic : Cert.algebraic_NormInIdeal_NormRefIdeal := fun m ρ m' ρ' _ hag => by
  refine ⟨fun c => (Cert.NormInIdeal.Gen.dats m 0 c).arrAt 2 Cert.NormInIdeal.cfg0.N, Cert.NormInIdeal.Value.run_blocks m ρ,
    (θ_run _ _ _).mono (fun r h c => ⟨(h c).1.trans ?_, (h c).2⟩) (NormRef.run m' ρ')⟩
  obtain ⟨g0, g1⟩ := hag c
  have hX : NormRef.X m' c = NormKernel.X m c := by unfold NormRef.X; rw [g0]
  have hG : NormRef.G m' c = NormKernel.G m c := by unfold NormRef.G; rw [g1]
  refine Eq.trans (funext fun i => ?_) (NormKernel.final m c).symm
  rw [hX, hG]

end Cert.Norm
-- ==== Proof.MixFwd.Algebra.lean ====
/-
  The GELU, the gated linear unit and the gates of one row of tokens, over the extended reals.
-/
module

public import proofs.«01_k».proof.Proof.In.Common

@[expose] public section

noncomputable section

namespace Cert.MixFwd

open Idealize.ShloMosaic

/-- Column `k` of the attention heads' gate among the projection's columns. -/
def colA (k : Fin 1024) : Fin 4608 := ⟨1536 + k.val, by omega⟩
/-- Column `k` of the state space heads' gate. -/
def colS (k : Fin 1024) : Fin 4608 := ⟨3584 + k.val, by omega⟩

/-- The GELU in its tanh form. -/
abbrev gelu (v : EReal) : EReal :=
  Ideal.ofBits .f32 0x3F000000#32 * v
    * (1 + Ideal.tanh (Ideal.ofBits .f32 0x3F4C422A#32 * (v + Ideal.ofBits .f32 0x3D372713#32 * v * v * v)))

/-- The gated linear unit's argument: the product with the weight, and the bias. -/
abbrev glu (y : Fin 1024 → EReal) (w : Fin 1024 → Fin 2048 → EReal) (b : Fin 2048 → EReal) (k : Fin 2048) : EReal :=
  (∑ j, gelu (y j) * w j k) + b k

/-- The gated outputs of both head groups side by side. -/
abbrev cat (o : Fin 1024 → EReal) (z : Fin 4608 → EReal) (g : Fin 2048 → EReal) (k : Fin 2048) : EReal :=
  if h : k.val < 1024 then o ⟨k.val, h⟩ * z (colA ⟨k.val, h⟩) * Ideal.logistic (z (colA ⟨k.val, h⟩))
  else
    g ⟨k.val - 1024, by omega⟩ * Ideal.logistic (g ⟨1024 + (k.val - 1024), by omega⟩) * z (colS ⟨k.val - 1024, by omega⟩)
      * Ideal.logistic (z (colS ⟨k.val - 1024, by omega⟩))

/-- The tanh form with the cube and the half grouped otherwise. -/
theorem gelu_eq (v : EReal) : v * (Ideal.ofBits .f32 0x3F000000#32
    * (1 + Ideal.tanh (Ideal.ofBits .f32 0x3F4C422A#32 * (v + Ideal.ofBits .f32 0x3D372713#32 * (v * v * v))))) = gelu v := by
  unfold gelu
  rw [← mul_assoc, mul_comm v, ← mul_assoc _ (v * v) v, ← mul_assoc _ v v]

end Cert.MixFwd
-- ==== Proof.MixFwd.Kernel.lean ====
/-
  What the forward of the GELU, the gated linear unit and the gates leaves in its three result arrays, element by element.
-/
module

public import proofs.«01_k».proof.Proof.Gen.MixFwdIdeal.Value
public import proofs.«01_k».proof.Proof.MixFwd.Algebra

@[expose] public section

set_option maxRecDepth 16384

noncomputable section

namespace Cert.MixFwdKernel

open Cert.MixFwdIdeal Cert.MixFwdIdeal.Gen Idealize.ShloMosaic Idealize.ShloMosaic.TcCoe Idealize.SL.Sem
open Idealize.ShloMosaic.Pipeline (Dat)
open Cert.MixFwd

variable (m : (ℓ : Loc nD τ sig) → Buf (Elt Ideal) ℓ) (c : Dev nD)

abbrev Y (r : Fin 4096) (k : Fin 1024) : EReal := m ((c : Thread nD τ).loc main_arg0) (ix2 r k)
abbrev W (j : Fin 1024) (k : Fin 2048) : EReal := m ((c : Thread nD τ).loc main_arg1) (ix2 j k)
abbrev O (r : Fin 4096) (k : Fin 1024) : EReal := m ((c : Thread nD τ).loc main_arg2) (ix2 r k)
abbrev Z (r : Fin 4096) (k : Fin 4608) : EReal := m ((c : Thread nD τ).loc main_arg3) (ix2 r k)
abbrev B (k : Fin 2048) : EReal := m ((c : Thread nD τ).loc main_arg4) (ix2 0 k)

theorem idx : ∀ t : Fin grid0.N, win0_0.index t = ![t.val, 0] ∧ win0_1.index t = ![0, 0] ∧ win0_2.index t = ![t.val, 0]
    ∧ win0_3.index t = ![t.val, 1] ∧ win0_4.index t = ![t.val, 3] ∧ win0_5.index t = ![0, 0]
    ∧ win0_6.index t = ![t.val, 0] ∧ win0_7.index t = ![t.val, 0] ∧ win0_8.index t = ![t.val, 0] := by
  decide +kernel

/-- Row `a` of the `t`-th block of 512 rows. -/
def row (t : Fin cfg0.N) (a : Fin 512) : Fin 4096 :=
  ⟨t.val * 512 + a.val, by have := t.isLt; have : cfg0.N = 8 := N_0; omega⟩

theorem read0 (t : Fin cfg0.N) (a : Fin 512) (k : Fin 1024) : iblk m c 0 t (ix2 a k) = Y m c (row t a) k := by
  unfold Y row; blk_ext! [iblk, V, idx t]
theorem read1 (t : Fin cfg0.N) (j : Fin 1024) (k : Fin 2048) : iblk m c 1 t (ix2 j k) = W m c j k := by
  unfold W; blk_ext! [iblk, V, idx t]
theorem read2 (t : Fin cfg0.N) (a : Fin 512) (k : Fin 1024) : iblk m c 2 t (ix2 a k) = O m c (row t a) k := by
  unfold O row; blk_ext! [iblk, V, idx t]
theorem read5 (t : Fin cfg0.N) (a : Fin 1) (k : Fin 2048) : iblk m c 5 t (ix2 a k) = B m c k := by
  unfold B; blk_ext! [iblk, V, idx t]
/-- The projection's columns in the order of the call: the gates stand before the keys and values. -/
theorem cols : (V m c main_v3 : S4096x4608.Idx → EReal) = concatenate (α := EReal) S4096x4608 1
    [⟨S4096x1024, extractStridedSlice S4096x1024 ![0, 0] (m ((c : Thread nD τ).loc main_arg3)) slices_S4096x4608_S4096x1024_0_0⟩,
      ⟨S4096x3072, extractStridedSlice S4096x3072 ![0, 1536] (m ((c : Thread nD τ).loc main_arg3)) slices_S4096x4608_S4096x3072_0_1536⟩,
      ⟨S4096x512, extractStridedSlice S4096x512 ![0, 1024] (m ((c : Thread nD τ).loc main_arg3)) slices_S4096x4608_S4096x512_0_1024⟩]
    concatenates_S4096x1024_S4096x3072_S4096x512_S4096x4608_d1 := by
  simp only [V, hostOps0]
  after_results_simp
  rfl
theorem gate_attn (r : Fin 4096) (k : Fin 1024) :
    (V m c main_v3 : S4096x4608.Idx → EReal) (ix2 r ⟨1024 + k.val, by omega⟩) = Z m c r (colA k) := by
  rw [cols]
  unfold colA
  pointwise
  exact dif_pos (by omega)
theorem gate_ssm (r : Fin 4096) (k : Fin 1024) :
    (V m c main_v3 : S4096x4608.Idx → EReal) (ix2 r ⟨3072 + k.val, by omega⟩) = Z m c r (colS k) := by
  rw [cols]
  unfold colS
  pointwise
  rw [dif_neg (by omega), dif_pos (by omega)]
  exact congrArg (fun k' => Z m c r k') (Fin.ext (by show 1536 + (3072 + k.val - 1024) = 3584 + k.val; omega))
theorem read3 (t : Fin cfg0.N) (a : Fin 512) (k : Fin 1024) : X0_3 m c t (ix2 a k) = Z m c (row t a) (colA k) := by
  refine Eq.trans ?_ (gate_attn m c (row t a) k)
  unfold X0_3 Pipeline.Window.fill iblk row
  rw [dif_pos (moved0_3 t _)]
  generalize V m c main_v3 = v
  blk_ext! [idx t]
theorem read4 (t : Fin cfg0.N) (a : Fin 512) (k : Fin 1024) : X0_4 m c t (ix2 a k) = Z m c (row t a) (colS k) := by
  refine Eq.trans ?_ (gate_ssm m c (row t a) k)
  unfold X0_4 Pipeline.Window.fill iblk row
  rw [dif_pos (moved0_4 t _)]
  generalize V m c main_v3 = v
  blk_ext! [idx t]
theorem emb6 (t : Fin cfg0.N) (a : Fin 512) (k : Fin 1024) : ((cfg0.win 6).blk t).view.emb (ix2 a k) = ix2 (row t a) k := by
  unfold row; blk_ext! [idx t]
theorem emb7 (t : Fin cfg0.N) (a : Fin 512) (k : Fin 2048) : ((cfg0.win 7).blk t).view.emb (ix2 a k) = ix2 (row t a) k := by
  unfold row; blk_ext! [idx t]
theorem emb8 (t : Fin cfg0.N) (a : Fin 512) (k : Fin 2048) : ((cfg0.win 8).blk t).view.emb (ix2 a k) = ix2 (row t a) k := by
  unfold row; blk_ext! [idx t]

theorem final6 : (dats m 0 c).arrAt 6 cfg0.N = fun i => gelu (Y m c (i 0) (i 1)) := by
  refine (dats m 0 c).arrAt_eq_of_covers 6 _ (by decide +kernel) fun t hf y => ?_
  idx_vars y
  rw [emb6]
  blk_simp
  rw [after0_6]
  unfold outsAt0
  frame_out
  unfold_payloads
  pointwise
  simp only [read0]

theorem final7 : (dats m 0 c).arrAt 7 cfg0.N = fun i => glu (Y m c (i 0)) (W m c) (B m c) (i 1) := by
  refine (dats m 0 c).arrAt_eq_of_covers 7 _ (by decide +kernel) fun t hf y => ?_
  idx_vars y
  rw [emb7]
  blk_simp
  rw [after0_7]
  unfold outsAt0
  frame_out
  unfold_payloads
  pointwise
  simp only [read0, read1, read5]

theorem final8 : (dats m 0 c).arrAt 8 cfg0.N
    = fun i => cat (O m c (i 0)) (Z m c (i 0)) (glu (Y m c (i 0)) (W m c) (B m c)) (i 1) := by
  refine (dats m 0 c).arrAt_eq_of_covers 8 _ (by decide +kernel) fun t hf y => ?_
  idx_vars y
  rw [emb8]
  blk_simp
  rw [after0_8]
  unfold outsAt0
  frame_out
  unfold_payloads
  pointwise
  simp only [read0, read1, read2, read3, read4, read5]

end Cert.MixFwdKernel
-- ==== Proof.MixFwd.Ref.lean ====
/-
  The GELU, the gated linear unit and the gates, element by element, after the reference's run.
-/
module

public import proofs.«01_k».proof.Proof.Gen.MixFwdRefIdeal.Run
public import proofs.«01_k».proof.Proof.MixFwd.Algebra
public import Idealize.ShloMosaic.Lib.Tactic.CleanTypes

@[expose] public section

set_option maxRecDepth 16384

noncomputable section

namespace Cert.MixFwdRef

open Cert.MixFwdRefIdeal Idealize.ShloMosaic Idealize.ShloMosaic.TcCoe Idealize.SL.Sem
open Cert.MixFwd

variable (m : (ℓ : Loc nD τ sig) → Buf (Elt Ideal) ℓ) (ρ : Dev nD → PrngReg) (c : Dev nD)

abbrev Y (r : Fin 4096) (k : Fin 1024) : EReal := m ((c.tc : Thread nD τ).loc main_arg0) (ix2 r k)
abbrev W (j : Fin 1024) (k : Fin 2048) : EReal := m ((c.tc : Thread nD τ).loc main_arg1) (ix2 j k)
abbrev O (r : Fin 4096) (k : Fin 1024) : EReal := m ((c.tc : Thread nD τ).loc main_arg2) (ix2 r k)
abbrev Z (r : Fin 4096) (k : Fin 4608) : EReal := m ((c.tc : Thread nD τ).loc main_arg3) (ix2 r k)
abbrev B (k : Fin 2048) : EReal := m ((c.tc : Thread nD τ).loc main_arg4) (ix2 0 k)

theorem run : θ_run defs (onTc (τ := τ) (main (F := Ideal))) ⟨m, fun _ => 0, ρ⟩ fun r => ∀ c : Dev nD,
      (r.2.mem ((c.tc : Thread nD τ).loc main_v40) = (fun i => gelu (Y m c (i 0) (i 1)))
      ∧ r.2.mem ((c.tc : Thread nD τ).loc main_v41) = (fun i => glu (Y m c (i 0)) (W m c) (B m c) (i 1))
      ∧ r.2.mem ((c.tc : Thread nD τ).loc main_v43) = (fun i => cat (O m c (i 0)) (Z m c (i 0)) (glu (Y m c (i 0)) (W m c) (B m c)) (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨⟨(h c).1.trans ?_, (h c).2.1.trans ?_, (h c).2.2.1.trans ?_⟩, (h c).2.2.2⟩)
    (Cert.MixFwdRefIdeal.Value.run m ρ)
  all_goals clear h; funext i
  · obtain ⟨a, k, rfl⟩ : ∃ (a : Fin 4096) (k : Fin 1024), i = ix2 a k := ⟨i 0, i 1, eq_ix2 i⟩
    clean_types
    pointwise
    exact gelu_eq _
  · obtain ⟨a, k, rfl⟩ : ∃ (a : Fin 4096) (k : Fin 2048), i = ix2 a k := ⟨i 0, i 1, eq_ix2 i⟩
    clean_types
    pointwise
    simp only [gelu_eq]
  · obtain ⟨a, k, rfl⟩ : ∃ (a : Fin 4096) (k : Fin 2048), i = ix2 a k := ⟨i 0, i 1, eq_ix2 i⟩
    clean_types
    pointwise
    simp only [gelu_eq]
    simp only [← mul_assoc]
    rfl

end Cert.MixFwdRef
-- ==== Proof.MixFwd.Value.lean ====
/-
  The forward of the GELU, the gated linear unit and the gates: the kernel's three results are the reference's.
-/
module

public import proofs.«01_k».proof.Defs
public import proofs.«01_k».proof.Proof.MixFwd.Kernel
public import proofs.«01_k».proof.Proof.MixFwd.Ref

@[expose] public section

set_option maxRecDepth 16384

noncomputable section

namespace Cert.MixFwd

open Idealize.ShloMosaic Idealize.ShloMosaic.TcCoe Idealize.SL.Sem

theorem frame_ref : Cert.quiescent_MixFwdRefIdeal := fun m ρ _ =>
  (θ_run _ _ _).mono (fun r h => ⟨fun c => (h c).2, sem_eq_zero_of_no_sems (by decide) r.2⟩) (MixFwdRef.run m ρ)

theorem algebraic : Cert.algebraic_MixFwdIdeal_MixFwdRefIdeal := fun m ρ m' ρ' _ hag => by
  refine ⟨fun c => (Cert.MixFwdIdeal.Gen.dats m 0 c).arrAt 6 Cert.MixFwdIdeal.cfg0.N,
    fun c => (Cert.MixFwdIdeal.Gen.dats m 0 c).arrAt 7 Cert.MixFwdIdeal.cfg0.N,
    fun c => (Cert.MixFwdIdeal.Gen.dats m 0 c).arrAt 8 Cert.MixFwdIdeal.cfg0.N, Cert.MixFwdIdeal.Value.run_blocks m ρ,
    (θ_run _ _ _).mono (fun r h c =>
      ⟨(h c).1.1.trans ?_, (h c).1.2.1.trans ?_, (h c).1.2.2.trans ?_, (h c).2⟩) (MixFwdRef.run m' ρ')⟩
  all_goals
    obtain ⟨g0, g1, g2, g3, g4⟩ := hag c
    have hY : MixFwdRef.Y m' c = MixFwdKernel.Y m c := by unfold MixFwdRef.Y; rw [g0]
    have hW : MixFwdRef.W m' c = MixFwdKernel.W m c := by unfold MixFwdRef.W; rw [g1]
    have hO : MixFwdRef.O m' c = MixFwdKernel.O m c := by unfold MixFwdRef.O; rw [g2]
    have hZ : MixFwdRef.Z m' c = MixFwdKernel.Z m c := by unfold MixFwdRef.Z; rw [g3]
    have hB : MixFwdRef.B m' c = MixFwdKernel.B m c := by unfold MixFwdRef.B; rw [g4]
    rw [hY]
    try rw [hW, hB]
    try rw [hO, hZ]
  · exact (MixFwdKernel.final6 m c).symm
  · exact (MixFwdKernel.final7 m c).symm
  · exact (MixFwdKernel.final8 m c).symm

end Cert.MixFwd
-- ==== Proof.OutP.Value.lean ====
/-
  The output projection with its residual branch and the norm after it: the kernel's two results are the reference's.
-/
module

public import proofs.«01_k».proof.Defs
public import proofs.«01_k».proof.Proof.Gen.OutProjIdeal.Value
public import proofs.«01_k».proof.Proof.Gen.OutRefIdeal.Run
public import proofs.«01_k».proof.Proof.Norm.Value

@[expose] public section

set_option maxRecDepth 16384

noncomputable section

open Idealize.ShloMosaic Idealize.ShloMosaic.TcCoe Idealize.SL.Sem

namespace Cert.OutKernel

open Cert.OutProjIdeal Cert.OutProjIdeal.Gen

variable (m : (ℓ : Loc nD τ sig) → Buf (Elt Ideal) ℓ) (c : Dev nD)

abbrev A (r : Fin 4096) (k : Fin 2048) : EReal := m ((c : Thread nD τ).loc main_arg0) (ix2 r k)
abbrev W (j k : Fin 2048) : EReal := m ((c : Thread nD τ).loc main_arg1) (ix2 j k)
abbrev X (r : Fin 4096) (k : Fin 2048) : EReal := m ((c : Thread nD τ).loc main_arg2) (ix2 r k)
abbrev G (k : Fin 2048) : EReal := m ((c : Thread nD τ).loc main_arg3) (ix2 0 k)
/-- The residual stream after the projection. -/
abbrev H (r : Fin 4096) (k : Fin 2048) : EReal := (∑ j, A m c r j * W m c j k) + X m c r k

theorem idx : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] := by
  decide +kernel

/-- Row `a` of the `t`-th block of 512 rows. -/
def row (t : Fin cfg0.N) (a : Fin 512) : Fin 4096 :=
  ⟨t.val * 512 + a.val, by have := t.isLt; have : cfg0.N = 8 := N_0; omega⟩

theorem read0 (t : Fin cfg0.N) (a : Fin 512) (k : Fin 2048) : iblk m c 0 t (ix2 a k) = A m c (row t a) k := by
  unfold A row; blk_ext! [iblk, V, idx t]
theorem read1 (t : Fin cfg0.N) (j k : Fin 2048) : iblk m c 1 t (ix2 j k) = W m c j k := by
  unfold W; blk_ext! [iblk, V, idx t]
theorem read2 (t : Fin cfg0.N) (a : Fin 512) (k : Fin 2048) : iblk m c 2 t (ix2 a k) = X m c (row t a) k := by
  unfold X row; blk_ext! [iblk, V, idx t]
theorem read3 (t : Fin cfg0.N) (a : Fin 1) (k : Fin 2048) : iblk m c 3 t (ix2 a k) = G m c k := by
  unfold G; blk_ext! [iblk, V, idx t]
theorem emb4 (t : Fin cfg0.N) (a : Fin 512) (k : Fin 2048) : ((cfg0.win 4).blk t).view.emb (ix2 a k) = ix2 (row t a) k := by
  unfold row; blk_ext! [idx t]
theorem emb5 (t : Fin cfg0.N) (a : Fin 512) (k : Fin 2048) : ((cfg0.win 5).blk t).view.emb (ix2 a k) = ix2 (row t a) k := by
  unfold row; blk_ext! [idx t]

theorem final4 : (dats m 0 c).arrAt 4 cfg0.N = fun i => H m c (i 0) (i 1) := by
  refine (dats m 0 c).arrAt_eq_of_covers 4 _ (by decide +kernel) fun t hf y => ?_
  idx_vars y
  rw [emb4]
  blk_simp
  rw [after0_4]
  frame_out
  unfold_payloads
  pointwise
  simp only [read0, read1, read2]

theorem final5 : (dats m 0 c).arrAt 5 cfg0.N = fun i => Norm.rms (H m c (i 0)) (G m c) (i 1) := by
  refine (dats m 0 c).arrAt_eq_of_covers 5 _ (by decide +kernel) fun t hf y => ?_
  idx_vars y
  rw [emb5]
  blk_simp
  rw [after0_5]
  frame_out
  unfold_payloads
  pointwise
  simp only [read0, read1, read2, read3]
  rfl

end Cert.OutKernel

namespace Cert.OutRef

open Cert.OutRefIdeal

variable (m : (ℓ : Loc nD τ sig) → Buf (Elt Ideal) ℓ) (ρ : Dev nD → PrngReg)

abbrev A (c : Dev nD) (r : Fin 4096) (k : Fin 2048) : EReal := m ((c.tc : Thread nD τ).loc main_arg0) (ix2 r k)
abbrev W (c : Dev nD) (j k : Fin 2048) : EReal := m ((c.tc : Thread nD τ).loc main_arg1) (ix2 j k)
abbrev X (c : Dev nD) (r : Fin 4096) (k : Fin 2048) : EReal := m ((c.tc : Thread nD τ).loc main_arg2) (ix2 r k)
abbrev G (c : Dev nD) (k : Fin 2048) : EReal := m ((c.tc : Thread nD τ).loc main_arg3) (ix2 0 k)
abbrev H (c : Dev nD) (r : Fin 4096) (k : Fin 2048) : EReal := X m c r k + ∑ j, A m c r j * W m c j k

theorem run : θ_run defs (onTc (τ := τ) (main (F := Ideal))) ⟨m, fun _ => 0, ρ⟩ fun r => ∀ c : Dev nD,
      (r.2.mem ((c.tc : Thread nD τ).loc main_v3) = (fun i => H m c (i 0) (i 1))
      ∧ r.2.mem ((c.tc : Thread nD τ).loc main_v18) = (fun i => Norm.rms (H m c (i 0)) (G m c) (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨⟨(h c).1.trans ?_, (h c).2.1.trans ?_⟩, (h c).2.2⟩) (Cert.OutRefIdeal.Value.run m ρ)
  all_goals
    clear h
    funext i
    obtain ⟨a, k, rfl⟩ : ∃ (a : Fin 4096) (k : Fin 2048), i = ix2 a k := ⟨i 0, i 1, eq_ix2 i⟩
    clean_types
    pointwise
  rfl

end Cert.OutRef

namespace Cert.OutP

theorem frame_ref : Cert.quiescent_OutRefIdeal := fun m ρ _ =>
  (θ_run _ _ _).mono (fun r h => ⟨fun c => (h c).2, sem_eq_zero_of_no_sems (by decide) r.2⟩) (OutRef.run m ρ)

theorem algebraic : Cert.algebraic_OutProjIdeal_OutRefIdeal := fun m ρ m' ρ' _ hag => by
  refine ⟨fun c => (Cert.OutProjIdeal.Gen.dats m 0 c).arrAt 4 Cert.OutProjIdeal.cfg0.N,
    fun c => (Cert.OutProjIdeal.Gen.dats m 0 c).arrAt 5 Cert.OutProjIdeal.cfg0.N, Cert.OutProjIdeal.Value.run_blocks m ρ,
    (θ_run _ _ _).mono (fun r h c => ⟨(h c).1.1.trans ?_, (h c).1.2.trans ?_, (h c).2⟩) (OutRef.run m' ρ')⟩
  all_goals
    obtain ⟨g0, g1, g2, g3⟩ := hag c
    have hH : OutRef.H m' c = OutKernel.H m c := by
      funext r k
      unfold OutRef.H OutRef.A OutRef.W OutRef.X
      rw [g0, g1, g2]
      exact add_comm _ _
    rw [hH]
  · exact (OutKernel.final4 m c).symm
  · have hG : OutRef.G m' c = OutKernel.G m c := by unfold OutRef.G; rw [g3]
    rw [hG]
    exact (OutKernel.final5 m c).symm

end Cert.OutP
-- ==== Proof.Prep.Algebra.lean ====
/-
  A normed head of 128 lanes rotated: by two tables and a partner lane that comes by one of two rolls, and pair by pair.
-/
module

public import proofs.«01_k».proof.Proof.Qkv.Algebra

@[expose] public section

set_option maxRecDepth 16384

noncomputable section

namespace Cert.Heads

open Idealize.ShloMosaic

/-- A head `x` normed, with the gain `w`. -/
def normed (x w : Fin 128 → EReal) (k : Fin 128) : EReal := x k * rinv x * w k

/-- A head `n` rotated by the tables `c` and `s`. -/
def spin (n c s : Fin 128 → EReal) (k : Fin 128) : EReal :=
  n k * c k + Scalar.select (first k) (n (up k)) (n (down k)) * s k

/-- The same pair by pair: the first 64 lanes by the angles `a`, the last by `b`. -/
def rotated (n : Fin 128 → EReal) (a b : Fin 32 → EReal) (k : Fin 128) : EReal :=
  if k.val < 32 then n ⟨k.val % 32, by omega⟩ * Ideal.cos (a ⟨k.val % 32, by omega⟩) - n ⟨k.val % 32 + 32, by omega⟩ * Ideal.sin (a ⟨k.val % 32, by omega⟩)
  else if k.val < 64 then n ⟨k.val % 32 + 32, by omega⟩ * Ideal.cos (a ⟨k.val % 32, by omega⟩) + n ⟨k.val % 32, by omega⟩ * Ideal.sin (a ⟨k.val % 32, by omega⟩)
  else if k.val < 96 then n ⟨k.val % 32 + 64, by omega⟩ * Ideal.cos (b ⟨k.val % 32, by omega⟩) - n ⟨k.val % 32 + 96, by omega⟩ * Ideal.sin (b ⟨k.val % 32, by omega⟩)
  else n ⟨k.val % 32 + 96, by omega⟩ * Ideal.cos (b ⟨k.val % 32, by omega⟩) + n ⟨k.val % 32 + 64, by omega⟩ * Ideal.sin (b ⟨k.val % 32, by omega⟩)

theorem spin_eq (n : Fin 128 → EReal) (a b : Fin 32 → EReal) (k : Fin 128) : spin n (cosTab a b) (sinTab a b) k = rotated n a b k := by
  obtain ⟨j, hj⟩ := quarters k
  have hl := j.isLt
  have hm : j.val % 32 = j.val ∧ j.val % 64 = j.val := ⟨Nat.mod_eq_of_lt hl, Nat.mod_eq_of_lt (by omega)⟩
  unfold spin rotated
  rw [first_eq]
  rcases hj with rfl | rfl | rfl | rfl
  · rw [show up ⟨j.val, by omega⟩ = ⟨j.val + 32, by omega⟩ from Fin.ext (by show (j.val + 128 - 96) % 128 = j.val + 32; omega)]
    simp [cosTab, sinTab, hm, Scalar.select, show j.val < 64 by omega, sub_eq_add_neg, mul_neg]
  · rw [show down ⟨j.val + 32, by omega⟩ = ⟨j.val, by omega⟩ from Fin.ext (by show (j.val + 32 + 128 - 32) % 128 = j.val; omega)]
    simp [cosTab, sinTab, hm, Scalar.select, show ¬ (j.val + 32) % 64 < 32 by omega, show j.val + 32 < 64 by omega]
  · rw [show up ⟨j.val + 64, by omega⟩ = ⟨j.val + 96, by omega⟩ from Fin.ext (by show (j.val + 64 + 128 - 96) % 128 = j.val + 96; omega)]
    simp [cosTab, sinTab, hm, Scalar.select, show ¬ j.val + 64 < 32 by omega, show j.val + 64 < 96 by omega,
      show (j.val + 64) % 32 = j.val by omega, sub_eq_add_neg, mul_neg]
  · rw [show down ⟨j.val + 96, by omega⟩ = ⟨j.val + 64, by omega⟩ from Fin.ext (by show (j.val + 96 + 128 - 32) % 128 = j.val + 64; omega)]
    simp [cosTab, sinTab, hm, Scalar.select, show ¬ (j.val + 96) % 64 < 32 by omega, show ¬ j.val + 96 < 32 by omega,
      show ¬ j.val + 96 < 64 by omega, show (j.val + 96) % 32 = j.val by omega]

/-- The two lanes of a rotated pair, read at equal places of a normed array. -/
theorem lane_first {n : Nat} (x : Fin n → EReal) (w : Fin 128 → EReal) (t : Fin 32 → EReal) (q : EReal) {i i' j j' : Fin n} {u u' v v' : Fin 128}
    {a a' : Fin 32} (hi : i = i') (hu : u = u') (hj : j = j') (hv : v = v') (ha : a = a') :
    x i * q * w u * Ideal.cos (t a) - x j * q * w v * Ideal.sin (t a)
      = x i' * q * w u' * Ideal.cos (t a') - x j' * q * w v' * Ideal.sin (t a') := by
  rw [hi, hu, hj, hv, ha]
theorem lane_second {n : Nat} (x : Fin n → EReal) (w : Fin 128 → EReal) (t : Fin 32 → EReal) (q : EReal) {i i' j j' : Fin n} {u u' v v' : Fin 128}
    {a a' : Fin 32} (hi : i = i') (hu : u = u') (hj : j = j') (hv : v = v') (ha : a = a') :
    x i * q * w u * Ideal.cos (t a) + x j * q * w v * Ideal.sin (t a)
      = x i' * q * w u' * Ideal.cos (t a') + x j' * q * w v' * Ideal.sin (t a') := by
  rw [hi, hu, hj, hv, ha]

end Cert.Heads
-- ==== Proof.Prep.Kernel.lean ====
/-
  What the heads' norms and rotations leave in their four result arrays, element by element.
-/
module

public import proofs.«01_k».proof.Proof.Gen.QkvPrepIdeal.Value
public import proofs.«01_k».proof.Proof.Prep.Algebra

@[expose] public section

set_option maxRecDepth 16384

noncomputable section

namespace Cert.PrepKernel

open Cert.QkvPrepIdeal Cert.QkvPrepIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev Z (r : Fin 4096) (k : Fin 4608) : EReal := m ((c : Thread nD τ).loc main_arg0) (ix2 r k)
abbrev AR (r : Fin 4096) (k : Fin 32) : EReal := m ((c : Thread nD τ).loc main_arg1) (ix2 r k)
abbrev AC (r : Fin 4096) (k : Fin 32) : EReal := m ((c : Thread nD τ).loc main_arg2) (ix2 r k)
abbrev QN (k : Fin 128) : EReal := m ((c : Thread nD τ).loc main_arg3) (ix2 0 k)
abbrev KN (k : Fin 128) : EReal := m ((c : Thread nD τ).loc main_arg4) (ix2 0 k)

theorem idx : ∀ t : Fin grid0.N, win0_0.index t = ![t.val, 0] ∧ win0_1.index t = ![t.val, 16] ∧ win0_2.index t = ![t.val, 17]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] ∧ win0_9.index t = ![t.val, 0] ∧ win0_10.index t = ![0, t.val] := by
  decide +kernel

/-- Row `a` of the `t`-th block of 512 rows. -/
def row (t : Fin cfg0.N) (a : Fin 512) : Fin 4096 :=
  ⟨t.val * 512 + a.val, by have := t.isLt; have : cfg0.N = 8 := N_0; omega⟩

/-! ### The arrays that the host lines prepare -/

/-- The projection's columns in the order of the kernel: the key and value columns last. -/
theorem cols : (V m c main_v3 : S4096x4608.Idx → EReal) = concatenate (α := EReal) S4096x4608 1
    [⟨S4096x1024, extractStridedSlice S4096x1024 ![0, 0] (m ((c : Thread nD τ).loc main_arg0)) slices_S4096x4608_S4096x1024_0_0⟩,
      ⟨S4096x3072, extractStridedSlice S4096x3072 ![0, 1536] (m ((c : Thread nD τ).loc main_arg0)) slices_S4096x4608_S4096x3072_0_1536⟩,
      ⟨S4096x512, extractStridedSlice S4096x512 ![0, 1024] (m ((c : Thread nD τ).loc main_arg0)) slices_S4096x4608_S4096x512_0_1024⟩]
    concatenates_S4096x1024_S4096x3072_S4096x512_S4096x4608_d1 := by
  simp only [V, hostOps0]
  after_results_simp
  rfl
theorem cols_q (r : Fin 4096) (k : Fin 1024) :
    (V m c main_v3 : S4096x4608.Idx → EReal) (ix2 r ⟨k.val, by omega⟩) = Z m c r ⟨k.val, by omega⟩ := by
  rw [cols]
  pointwise
theorem cols_k (r : Fin 4096) (k : Fin 256) :
    (V m c main_v3 : S4096x4608.Idx → EReal) (ix2 r ⟨4096 + k.val, by omega⟩) = Z m c r ⟨1024 + k.val, by omega⟩ := by
  rw [cols]
  pointwise
  rw [dif_neg (by omega), dif_neg (by omega)]
  exact congrArg (fun k' => Z m c r k') (Fin.ext (by show 1024 + (4096 + k.val - 4096) = 1024 + k.val; omega))
theorem cols_v (r : Fin 4096) (k : Fin 256) :
    (V m c main_v3 : S4096x4608.Idx → EReal) (ix2 r ⟨4352 + k.val, by omega⟩) = Z m c r ⟨1280 + k.val, by omega⟩ := by
  rw [cols]
  pointwise
  rw [dif_neg (by omega), dif_neg (by omega)]
  exact congrArg (fun k' => Z m c r k') (Fin.ext (by show 1024 + (4352 + k.val - 4096) = 1280 + k.val; omega))

theorem cos_cols : (V m c main_v8 : S4096x128.Idx → EReal) = concatenate (α := EReal) S4096x128 1
    [⟨S4096x32, Host.cos (F := Ideal) (φ := .f32) (m ((c : Thread nD τ).loc main_arg1))⟩, ⟨S4096x32, Host.cos (F := Ideal) (φ := .f32) (m ((c : Thread nD τ).loc main_arg1))⟩,
      ⟨S4096x32, Host.cos (F := Ideal) (φ := .f32) (m ((c : Thread nD τ).loc main_arg2))⟩, ⟨S4096x32, Host.cos (F := Ideal) (φ := .f32) (m ((c : Thread nD τ).loc main_arg2))⟩]
    concatenates_S4096x32_S4096x32_S4096x32_S4096x32_S4096x128_d1 := by
  simp only [V, hostOps0]
  after_results_simp
  rfl
theorem cosines (r : Fin 4096) (k : Fin 128) :
    (V m c main_v8 : S4096x128.Idx → EReal) (ix2 r k) = Heads.cosTab (AR m c r) (AC m c r) k := by
  rw [cos_cols]
  unfold Heads.cosTab
  pointwise
  repeat' split
  all_goals first
    | omega
    | refine congrArg (fun k' => Ideal.cos (AR m c r k')) (Fin.ext ?_); dsimp only; omega
    | refine congrArg (fun k' => Ideal.cos (AC m c r k')) (Fin.ext ?_); dsimp only; omega

theorem sin_cols : (V m c main_v11 : S4096x128.Idx → EReal) = concatenate (α := EReal) S4096x128 1
    [⟨S4096x32, Host.negf (F := Ideal) (φ := .f32) (Host.sin (F := Ideal) (φ := .f32) (m ((c : Thread nD τ).loc main_arg1)))⟩, ⟨S4096x32, Host.sin (F := Ideal) (φ := .f32) (m ((c : Thread nD τ).loc main_arg1))⟩,
      ⟨S4096x32, Host.negf (F := Ideal) (φ := .f32) (Host.sin (F := Ideal) (φ := .f32) (m ((c : Thread nD τ).loc main_arg2)))⟩, ⟨S4096x32, Host.sin (F := Ideal) (φ := .f32) (m ((c : Thread nD τ).loc main_arg2))⟩]
    concatenates_S4096x32_S4096x32_S4096x32_S4096x32_S4096x128_d1 := by
  simp only [V, hostOps0]
  after_results_simp
  rfl
theorem sines (r : Fin 4096) (k : Fin 128) :
    (V m c main_v11 : S4096x128.Idx → EReal) (ix2 r k) = Heads.sinTab (AR m c r) (AC m c r) k := by
  rw [sin_cols]
  unfold Heads.sinTab
  pointwise
  repeat' split
  all_goals first
    | omega
    | refine congrArg (fun k' => Ideal.sin (AR m c r k')) (Fin.ext ?_); dsimp only; omega
    | refine congrArg (fun k' => Ideal.sin (AC m c r k')) (Fin.ext ?_); dsimp only; omega
    | refine congrArg (fun k' => -Ideal.sin (AR m c r k')) (Fin.ext ?_); dsimp only; omega
    | refine congrArg (fun k' => -Ideal.sin (AC m c r k')) (Fin.ext ?_); dsimp only; omega

theorem read0 (t : Fin cfg0.N) (a : Fin 512) (k : Fin 1024) : X0_0 m c t (ix2 a k) = Z m c (row t a) ⟨k.val, by omega⟩ := by
  unfold X0_0 Pipeline.Window.fill
  rw [dif_pos (moved0_0 t _)]
  refine Eq.trans ?_ (cols_q m c (row t a) k)
  unfold iblk row
  generalize V m c main_v3 = v
  blk_ext! [idx t]
theorem read1 (t : Fin cfg0.N) (a : Fin 512) (k : Fin 256) : iblk m c 1 t (ix2 a k) = Z m c (row t a) ⟨1024 + k.val, by omega⟩ := by
  refine Eq.trans ?_ (cols_k m c (row t a) k)
  unfold iblk row
  generalize V m c main_v3 = v
  blk_ext! [idx t]
theorem read2 (t : Fin cfg0.N) (a : Fin 512) (k : Fin 256) : iblk m c 2 t (ix2 a k) = Z m c (row t a) ⟨1280 + k.val, by omega⟩ := by
  refine Eq.trans ?_ (cols_v m c (row t a) k)
  unfold iblk row
  generalize V m c main_v3 = v
  blk_ext! [idx t]
theorem read3 (t : Fin cfg0.N) (a : Fin 512) (k : Fin 128) : iblk m c 3 t (ix2 a k) = Heads.cosTab (AR m c (row t a)) (AC m c (row t a)) k := by
  refine Eq.trans ?_ (cosines m c (row t a) k)
  unfold iblk row
  generalize V m c main_v8 = v
  blk_ext! [idx t]
theorem read4 (t : Fin cfg0.N) (a : Fin 512) (k : Fin 128) : iblk m c 4 t (ix2 a k) = Heads.sinTab (AR m c (row t a)) (AC m c (row t a)) k := by
  refine Eq.trans ?_ (sines m c (row t a) k)
  unfold iblk row
  generalize V m c main_v11 = v
  blk_ext! [idx t]
theorem read5 (t : Fin cfg0.N) (k : Fin 128) : iblk m c 5 t (ix2 0 k) = QN m c k := by
  unfold QN; blk_ext! [iblk, V, idx t]
theorem read6 (t : Fin cfg0.N) (k : Fin 128) : iblk m c 6 t (ix2 0 k) = KN m c k := by
  unfold KN; blk_ext! [iblk, V, idx t]
theorem emb7 (t : Fin cfg0.N) (a : Fin 512) (k : Fin 1024) : ((cfg0.win 7).blk t).view.emb (ix2 a k) = ix2 (row t a) k := by
  unfold row; blk_ext! [idx t]
theorem emb8 (t : Fin cfg0.N) (a : Fin 512) (k : Fin 256) : ((cfg0.win 8).blk t).view.emb (ix2 a k) = ix2 (row t a) k := by
  unfold row; blk_ext! [idx t]
theorem emb9 (t : Fin cfg0.N) (a : Fin 512) (k : Fin 256) : ((cfg0.win 9).blk t).view.emb (ix2 a k) = ix2 (row t a) k := by
  unfold row; blk_ext! [idx t]
theorem emb10 (t : Fin cfg0.N) (a : Fin 512) (k : Fin 256) : ((cfg0.win 10).blk t).view.emb (ix2 k a) = ix2 k (row t a) := by
  unfold row; blk_ext! [idx t]

/-! ### A row's heads -/

/-- The rotated query columns of row `r`, and its rotated key columns. -/
def Q (r : Fin 4096) (j : Fin 1024) : EReal :=
  Heads.rotated (Heads.normed (fun k => Z m c r ⟨j.val / 128 * 128 + k.val, by omega⟩) (QN m c)) (AR m c r) (AC m c r) ⟨j.val % 128, by omega⟩
    * Ideal.ofBits .f32 0x3DB504F3#32
def K (r : Fin 4096) (j : Fin 256) : EReal :=
  Heads.rotated (Heads.normed (fun k => Z m c r ⟨1024 + (j.val / 128 * 128 + k.val), by omega⟩) (KN m c)) (AR m c r) (AC m c r) ⟨j.val % 128, by omega⟩

theorem q_head (r : Fin 4096) (h : Fin 8) (k : Fin 128) : Q m c r ⟨128 * h.val + k.val, by omega⟩
    = Heads.spin (Heads.normed (fun k => Z m c r ⟨128 * h.val + k.val, by omega⟩) (QN m c)) (Heads.cosTab (AR m c r) (AC m c r)) (Heads.sinTab (AR m c r) (AC m c r)) k
      * Ideal.ofBits .f32 0x3DB504F3#32 := by
  have e1 : (128 * h.val + k.val) / 128 * 128 = 128 * h.val := by omega
  have e2 : (128 * h.val + k.val) % 128 = k.val := by omega
  unfold Q
  rw [Heads.spin_eq]
  simp only [e1, e2]
theorem k_head (r : Fin 4096) (h : Fin 2) (k : Fin 128) : K m c r ⟨128 * h.val + k.val, by omega⟩
    = Heads.spin (Heads.normed (fun k => Z m c r ⟨1024 + (128 * h.val + k.val), by omega⟩) (KN m c)) (Heads.cosTab (AR m c r) (AC m c r)) (Heads.sinTab (AR m c r) (AC m c r)) k := by
  have e1 : (128 * h.val + k.val) / 128 * 128 = 128 * h.val := by omega
  have e2 : (128 * h.val + k.val) % 128 = k.val := by omega
  unfold K
  rw [Heads.spin_eq]
  simp only [e1, e2]

/-- A store of `p × q` elements at `(a, b)` holds the part of a block that it names. -/
theorem piece {p' q' a b p q : ℕ} (inb : ∀ d, (![a, b] : Fin 2 → ℕ) d + (![p, q] : Fin 2 → ℕ) d ≤ (⟨2, ![p', q']⟩ : Shape).size d)
    (w : (⟨2, ![p, q]⟩ : Shape).Idx → EReal) (f : Fin p' → Fin q' → EReal) (ha : a + p ≤ p') (hb : b + q ≤ q')
    (h : ∀ (x : Fin p) (y : Fin q), w (ix2 x y) = f ⟨a + x.val, by omega⟩ ⟨b + y.val, by omega⟩) :
    ∀ x : (Rect.unit (s := ⟨2, ![p', q']⟩) ![a, b] ![p, q] inb).shape.Idx,
      w x = (fun y : (⟨2, ![p', q']⟩ : Shape).Idx => f (y 0) (y 1)) ((Rect.unit (s := ⟨2, ![p', q']⟩) ![a, b] ![p, q] inb).emb x) := fun x => by
  have e : x = ix2 (x 0) (x 1) := eq_ix2 (n0 := p) (n1 := q) x
  refine (congrArg w e).trans ((h (x 0) (x 1)).trans ?_)
  have e0 : ((Rect.unit (s := ⟨2, ![p', q']⟩) ![a, b] ![p, q] inb).emb x 0) = (⟨a + (x 0).val, by have : (x 0).val < p := (x 0).isLt; omega⟩ : Fin p') :=
    Fin.ext (by show a + 1 * (x 0).val = a + (x 0).val; omega)
  have e1 : ((Rect.unit (s := ⟨2, ![p', q']⟩) ![a, b] ![p, q] inb).emb x 1) = (⟨b + (x 1).val, by have : (x 1).val < q := (x 1).isLt; omega⟩ : Fin q') :=
    Fin.ext (by show b + 1 * (x 1).val = b + (x 1).val; omega)
  exact (congrArg₂ f e0 e1).symm

set_option maxHeartbeats 2000000 in
theorem final7 : (dats m 0 c).arrAt 7 cfg0.N = fun i => Q m c (i 0) (i 1) := by
  refine (dats m 0 c).arrAt_eq_of_covers 7 _ (by decide +kernel) fun t hf y => ?_
  idx_vars y
  rw [emb7]
  blk_simp
  rw [after0_7]
  unfold outsAt0
  frame_out
  refine (View.canon_apply_of_pieces (fun y : S512x1024.Idx => Q m c (row t (y 0)) (y 1)) _ ?_ _
    (View.cover_of_tiledBy _ ![512, 128] (by sl_kernel_rfl) _)).trans rfl
  simp only [List.forall_mem_cons]
  refine ⟨?_, ?_, ?_, ?_, ?_, ?_, ?_, ?_, fun p hp => absurd hp List.not_mem_nil⟩
  all_goals
    refine piece _ _ (fun a => Q m c (row t a)) (by norm_num) (by norm_num) fun a k => ?_
  on_goal 1 => refine Eq.trans ?_ (q_head m c (row t ⟨0 + a.val, by omega⟩) 7 k).symm
  on_goal 2 => refine Eq.trans ?_ (q_head m c (row t ⟨0 + a.val, by omega⟩) 6 k).symm
  on_goal 3 => refine Eq.trans ?_ (q_head m c (row t ⟨0 + a.val, by omega⟩) 5 k).symm
  on_goal 4 => refine Eq.trans ?_ (q_head m c (row t ⟨0 + a.val, by omega⟩) 4 k).symm
  on_goal 5 => refine Eq.trans ?_ (q_head m c (row t ⟨0 + a.val, by omega⟩) 3 k).symm
  on_goal 6 => refine Eq.trans ?_ (q_head m c (row t ⟨0 + a.val, by omega⟩) 2 k).symm
  on_goal 7 => refine Eq.trans ?_ (q_head m c (row t ⟨0 + a.val, by omega⟩) 1 k).symm
  on_goal 8 => refine Eq.trans ?_ (q_head m c (row t ⟨0 + a.val, by omega⟩) 0 k).symm
  all_goals
    unfold_payloads
    pointwise
    simp only [read0, read3, read4, read5]
    rfl

theorem final8 : (dats m 0 c).arrAt 8 cfg0.N = fun i => K m c (i 0) (i 1) := by
  refine (dats m 0 c).arrAt_eq_of_covers 8 _ (by decide +kernel) fun t hf y => ?_
  idx_vars y
  rw [emb8]
  blk_simp
  rw [after0_8]
  unfold outsAt0
  frame_out
  refine (View.canon_apply_of_pieces (fun y : S512x256.Idx => K m c (row t (y 0)) (y 1)) _ ?_ _
    (View.cover_of_tiledBy _ ![512, 128] (by sl_kernel_rfl) _)).trans rfl
  simp only [List.forall_mem_cons]
  refine ⟨?_, ?_, fun p hp => absurd hp List.not_mem_nil⟩
  all_goals
    refine piece _ _ (fun a => K m c (row t a)) (by norm_num) (by norm_num) fun a k => ?_
  on_goal 1 => refine Eq.trans ?_ (k_head m c (row t ⟨0 + a.val, by omega⟩) 1 k).symm
  on_goal 2 => refine Eq.trans ?_ (k_head m c (row t ⟨0 + a.val, by omega⟩) 0 k).symm
  all_goals
    unfold_payloads
    pointwise
    simp only [read1, read3, read4, read6]
    rfl

theorem final9 : (dats m 0 c).arrAt 9 cfg0.N = fun i => Z m c (i 0) ⟨1280 + (i 1).val, by have : (i 1).val < 256 := (i 1).isLt; omega⟩ := by
  refine (dats m 0 c).arrAt_eq_of_covers 9 _ (by decide +kernel) fun t hf y => ?_
  idx_vars y
  rw [emb9]
  blk_simp
  rw [after0_9]
  unfold outsAt0
  frame_out
  unfold_payloads
  pointwise
  simp only [read2]

theorem final10 : (dats m 0 c).arrAt 10 cfg0.N = fun i => K m c (i 1) (i 0) := by
  refine (dats m 0 c).arrAt_eq_of_covers 10 _ (by decide +kernel) fun t hf y => ?_
  idx_vars y
  rw [emb10]
  blk_simp
  rw [after0_10]
  unfold outsAt0
  frame_out
  refine (View.canon_apply_of_pieces (fun y : S256x512.Idx => K m c (row t (y 1)) (y 0)) _ ?_ _
    (View.cover_of_tiledBy _ ![128, 512] (by sl_kernel_rfl) _)).trans rfl
  simp only [List.forall_mem_cons]
  refine ⟨?_, ?_, fun p hp => absurd hp List.not_mem_nil⟩
  all_goals
    refine piece _ _ (fun k a => K m c (row t a) k) (by norm_num) (by norm_num) fun k a => ?_
  on_goal 1 => refine Eq.trans ?_ (k_head m c (row t ⟨0 + a.val, by omega⟩) 1 k).symm
  on_goal 2 => refine Eq.trans ?_ (k_head m c (row t ⟨0 + a.val, by omega⟩) 0 k).symm
  all_goals
    unfold_payloads
    pointwise
    simp only [read1, read3, read4, read6]
    rfl

end Cert.PrepKernel
-- ==== Proof.Prep.Ref.lean ====
/-
  The heads normed and rotated, element by element, after the reference's run.
-/
module

public import proofs.«01_k».proof.Proof.Gen.PrepRefIdeal.Run
public import proofs.«01_k».proof.Proof.Prep.Algebra
public import Idealize.ShloMosaic.Lib.Tactic.CleanTypes

@[expose] public section

set_option maxRecDepth 16384

noncomputable section

namespace Cert.PrepRef

open Cert.PrepRefIdeal Idealize.ShloMosaic Idealize.ShloMosaic.TcCoe Idealize.SL.Sem

variable (m : (ℓ : Loc nD τ sig) → Buf (Elt Ideal) ℓ) (ρ : Dev nD → PrngReg) (c : Dev nD)

abbrev Z (r : Fin 4096) (k : Fin 4608) : EReal := m ((c.tc : Thread nD τ).loc main_arg0) (ix2 r k)
abbrev AR (r : Fin 4096) (k : Fin 32) : EReal := m ((c.tc : Thread nD τ).loc main_arg1) (ix2 r k)
abbrev AC (r : Fin 4096) (k : Fin 32) : EReal := m ((c.tc : Thread nD τ).loc main_arg2) (ix2 r k)
abbrev QN (k : Fin 128) : EReal := m ((c.tc : Thread nD τ).loc main_arg3) (ix2 0 k)
abbrev KN (k : Fin 128) : EReal := m ((c.tc : Thread nD τ).loc main_arg4) (ix2 0 k)

/-- The rotated query columns of row `r`, and its rotated key columns. -/
def Q (r : Fin 4096) (j : Fin 1024) : EReal :=
  Heads.rotated (Heads.normed (fun k => Z m c r ⟨j.val / 128 * 128 + k.val, by omega⟩) (QN m c)) (AR m c r) (AC m c r) ⟨j.val % 128, by omega⟩
    * Ideal.ofBits .f32 0x3DB504F3#32
def K (r : Fin 4096) (j : Fin 256) : EReal :=
  Heads.rotated (Heads.normed (fun k => Z m c r ⟨1024 + (j.val / 128 * 128 + k.val), by omega⟩) (KN m c)) (AR m c r) (AC m c r) ⟨j.val % 128, by omega⟩

theorem q_apply (r : Fin 4096) (j : Fin 1024) :
    (Cert.PrepRefIdeal.Value.res_main_v115 m c : S4096x1024.Idx → EReal) (ix2 r j) = Q m c r j := by
  unfold Cert.PrepRefIdeal.Value.res_main_v115
  clean_types
  pointwise
  unfold Q Heads.rotated Heads.normed Heads.rinv Heads.meanSq
  refine congrArg (· * _) ?_
  dsimp only
  repeat' split
  all_goals first
    | omega
    | (refine Heads.lane_first (Z m c r) (QN m c) (AR m c r) _ (Fin.ext ?_) (Fin.ext ?_) (Fin.ext ?_) (Fin.ext ?_) (Fin.ext ?_) <;> dsimp only <;> omega)
    | (refine Heads.lane_second (Z m c r) (QN m c) (AR m c r) _ (Fin.ext ?_) (Fin.ext ?_) (Fin.ext ?_) (Fin.ext ?_) (Fin.ext ?_) <;> dsimp only <;> omega)
    | (refine Heads.lane_first (Z m c r) (QN m c) (AC m c r) _ (Fin.ext ?_) (Fin.ext ?_) (Fin.ext ?_) (Fin.ext ?_) (Fin.ext ?_) <;> dsimp only <;> omega)
    | (refine Heads.lane_second (Z m c r) (QN m c) (AC m c r) _ (Fin.ext ?_) (Fin.ext ?_) (Fin.ext ?_) (Fin.ext ?_) (Fin.ext ?_) <;> dsimp only <;> omega)

theorem k_apply (r : Fin 4096) (j : Fin 256) :
    (Cert.PrepRefIdeal.Value.res_main_v116 m c : S4096x256.Idx → EReal) (ix2 r j) = K m c r j := by
  unfold Cert.PrepRefIdeal.Value.res_main_v116
  clean_types
  pointwise
  unfold K Heads.rotated Heads.normed Heads.rinv Heads.meanSq
  dsimp only
  repeat' split
  all_goals first
    | omega
    | (refine Heads.lane_first (Z m c r) (KN m c) (AR m c r) _ (Fin.ext ?_) (Fin.ext ?_) (Fin.ext ?_) (Fin.ext ?_) (Fin.ext ?_) <;> dsimp only <;> omega)
    | (refine Heads.lane_second (Z m c r) (KN m c) (AR m c r) _ (Fin.ext ?_) (Fin.ext ?_) (Fin.ext ?_) (Fin.ext ?_) (Fin.ext ?_) <;> dsimp only <;> omega)
    | (refine Heads.lane_first (Z m c r) (KN m c) (AC m c r) _ (Fin.ext ?_) (Fin.ext ?_) (Fin.ext ?_) (Fin.ext ?_) (Fin.ext ?_) <;> dsimp only <;> omega)
    | (refine Heads.lane_second (Z m c r) (KN m c) (AC m c r) _ (Fin.ext ?_) (Fin.ext ?_) (Fin.ext ?_) (Fin.ext ?_) (Fin.ext ?_) <;> dsimp only <;> omega)

theorem kt_apply (r : Fin 4096) (j : Fin 256) :
    (Cert.PrepRefIdeal.Value.res_main_v119 m c : S256x4096.Idx → EReal) (ix2 j r) = K m c r j := by
  refine Eq.trans ?_ (k_apply m c r j)
  unfold Cert.PrepRefIdeal.Value.res_main_v119 Cert.PrepRefIdeal.Value.res_main_v116
  clean_types
  pointwise

theorem run : θ_run defs (onTc (τ := τ) (main (F := Ideal))) ⟨m, fun _ => 0, ρ⟩ fun r => ∀ c : Dev nD,
      (r.2.mem ((c.tc : Thread nD τ).loc main_v115) = (fun i => Q m c (i 0) (i 1))
      ∧ r.2.mem ((c.tc : Thread nD τ).loc main_v116) = (fun i => K m c (i 0) (i 1))
      ∧ r.2.mem ((c.tc : Thread nD τ).loc main_v117) = (fun i => Z m c (i 0) ⟨1280 + (i 1).val, by have : (i 1).val < 256 := (i 1).isLt; omega⟩)
      ∧ r.2.mem ((c.tc : Thread nD τ).loc main_v119) = (fun i => K m c (i 1) (i 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨⟨(h c).1.trans ?_, (h c).2.1.trans ?_, (h c).2.2.1.trans ?_, (h c).2.2.2.1.trans ?_⟩, (h c).2.2.2.2⟩)
    (Cert.PrepRefIdeal.Value.run m ρ)
  all_goals clear h; funext i
  · obtain ⟨a, k, rfl⟩ : ∃ (a : Fin 4096) (k : Fin 1024), i = ix2 a k := ⟨i 0, i 1, eq_ix2 i⟩
    exact q_apply m c a k
  · obtain ⟨a, k, rfl⟩ : ∃ (a : Fin 4096) (k : Fin 256), i = ix2 a k := ⟨i 0, i 1, eq_ix2 i⟩
    exact k_apply m c a k
  · obtain ⟨a, k, rfl⟩ : ∃ (a : Fin 4096) (k : Fin 256), i = ix2 a k := ⟨i 0, i 1, eq_ix2 i⟩
    clean_types
    pointwise
  · obtain ⟨k, a, rfl⟩ : ∃ (k : Fin 256) (a : Fin 4096), i = ix2 k a := ⟨i 0, i 1, eq_ix2 i⟩
    exact kt_apply m c a k

end Cert.PrepRef
-- ==== Proof.Prep.Value.lean ====
/-
  The heads' norms and rotations against their reference: equal at all arguments, as the tables with a partner lane by one of
  two rolls rotate a head as its pairs do.
-/
module

public import proofs.«01_k».proof.Proof.Prep.Kernel
public import proofs.«01_k».proof.Proof.Prep.Ref
public import proofs.«01_k».proof.Proof.Gen.PrepRefIdeal.Read
public import proofs.«01_k».proof.Defs

@[expose] public section

set_option maxRecDepth 16384

noncomputable section

open Idealize.ShloMosaic Idealize.ShloMosaic.TcCoe Idealize.SL.Sem

namespace Cert.Prep

theorem frame_ref : Cert.quiescent_PrepRefIdeal := fun m ρ _ =>
  (θ_run _ _ _).mono (fun r h => ⟨fun c => (h c).2, sem_eq_zero_of_no_sems (by decide) r.2⟩) (PrepRef.run m ρ)

theorem algebraic : Cert.algebraic_QkvPrepIdeal_PrepRefIdeal := fun m ρ m' ρ' _ hag => by
  refine ⟨fun c => (Cert.QkvPrepIdeal.Gen.dats m 0 c).arrAt 7 Cert.QkvPrepIdeal.cfg0.N,
    fun c => (Cert.QkvPrepIdeal.Gen.dats m 0 c).arrAt 8 Cert.QkvPrepIdeal.cfg0.N,
    fun c => (Cert.QkvPrepIdeal.Gen.dats m 0 c).arrAt 9 Cert.QkvPrepIdeal.cfg0.N,
    fun c => (Cert.QkvPrepIdeal.Gen.dats m 0 c).arrAt 10 Cert.QkvPrepIdeal.cfg0.N, Cert.QkvPrepIdeal.Value.run_blocks m ρ,
    (θ_run _ _ _).mono (fun r h c => ⟨(h c).1.1.trans ?_, (h c).1.2.1.trans ?_, (h c).1.2.2.1.trans ?_, (h c).1.2.2.2.trans ?_, (h c).2⟩)
      (PrepRef.run m' ρ')⟩
  all_goals
    obtain ⟨g0, g1, g2, g3, g4⟩ := hag c
    have hZ : PrepRef.Z m' c = PrepKernel.Z m c := by unfold PrepRef.Z; rw [g0]
    have hR : PrepRef.AR m' c = PrepKernel.AR m c := by unfold PrepRef.AR; rw [g1]
    have hC : PrepRef.AC m' c = PrepKernel.AC m c := by unfold PrepRef.AC; rw [g2]
  · refine Eq.trans (funext fun i => ?_) (PrepKernel.final7 m c).symm
    have hQ : PrepRef.QN m' c = PrepKernel.QN m c := by unfold PrepRef.QN; rw [g3]
    unfold PrepRef.Q
    rw [hZ, hR, hC, hQ]
    rfl
  · refine Eq.trans (funext fun i => ?_) (PrepKernel.final8 m c).symm
    have hK : PrepRef.KN m' c = PrepKernel.KN m c := by unfold PrepRef.KN; rw [g4]
    unfold PrepRef.K
    rw [hZ, hR, hC, hK]
    rfl
  · rw [hZ]
    exact (PrepKernel.final9 m c).symm
  · refine Eq.trans (funext fun i => ?_) (PrepKernel.final10 m c).symm
    have hK : PrepRef.KN m' c = PrepKernel.KN m c := by unfold PrepRef.KN; rw [g4]
    unfold PrepRef.K
    rw [hZ, hR, hC, hK]
    rfl

end Cert.Prep
-- ==== Proof.ScanBwd.BodyIdeal.lean ====
/-
  The scan's backward, idealized: its frame. The body runs from staging buffers and scratch at any contents to the same, as nothing that
  it stores, loads or counts by depends on what a buffer holds; no window's contents are named.
-/
module

public import proofs.«01_k».proof.Proof.Gen.SsmBwdIdeal.Frame
public import proofs.«01_k».proof.Proof.Gen.SsmBwdIdeal.Loops
public import proofs.«01_k».proof.Proof.Gen.SsmBwdIdeal.Skeleton
public import Idealize.ShloMosaic.Lib.Pipeline.Frame
public import Idealize.ShloMosaic.Lib.Tactic

@[expose] public section

set_option maxRecDepth 16384

noncomputable section

namespace Cert.SsmBwdIdeal.Scan

open Cert.SsmBwdIdeal Cert.SsmBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The state that the assertions speak of. -/
abbrev 𝕄 (F : FTy → Type) : Type := MT nD τ sig Unit (Elt F) ℕ (UR sig nD τ) ℕ

variable (m : (ℓ : Loc nD τ sig) → Buf (Elt F) ℓ) (ρ : Dev nD → PrngReg)

/-- A buffer of core `c` that is owned whole at some contents. -/
abbrev held (c : Dev nD) {sp : Space} {S : Shape} {e : EltTy} (M : Memref sig .tc sp S e) : sProp (𝕄 F) :=
  iprop(∃ d, owns (c : Thread nD τ) M fullShare d)

/-- A buffer held whole at any contents is held. -/
theorem to_held (c : Dev nD) {sp : Space} {S : Shape} {e : EltTy} (M : Memref sig .tc sp S e)
    (f : Buf (Elt F) (M.view.loc (c : Thread nD τ))) :
    (M.view.loc (c : Thread nD τ) ↦[M.view.set]{fullShare} f : sProp (𝕄 F)) ⊢ held c M := by
  unfold held owns
  iintro H
  iexists _, _; isplitr; swap; · iexact H
  ipureintro; rfl

set_option maxHeartbeats 20000000 in
theorem body (c : Dev nD) (i : grid0.Coords) (arg1 : Memref sig .tc .vmem S4096x128 .bf16) (harg1 : arg1.IsWhole) (arg2 : Memref sig .tc .vmem S4096x128 .f32) (harg2 : arg2.IsWhole) (arg3 : Memref sig .tc .vmem S1x2x4x8x512 .f32) (harg3 : arg3.IsWhole) (arg4 : Memref sig .tc .vmem S2x8x64 .f32) (harg4 : arg4.IsWhole) (arg5 : Memref sig .tc .vmem S2x8x64 .f32) (harg5 : arg5.IsWhole) (arg6 : Memref sig .tc .vmem S2x8x1 .f32) (harg6 : arg6.IsWhole) (arg7 : Memref sig .tc .vmem S2x8x16x64 .f32) (harg7 : arg7.IsWhole) (arg8 : Memref sig .tc .vmem S2x8x16x64 .f32) (harg8 : arg8.IsWhole) (arg9 : Memref sig .tc .vmem S2x8x16x64 .f32) (harg9 : arg9.IsWhole) (arg10 : Memref sig .tc .vmem S2x8x16x64 .f32) (harg10 : arg10.IsWhole) (arg11 : Memref sig .tc .vmem S1x128 .f32) (harg11 : arg11.IsWhole) (arg12 : Memref sig .tc .vmem S4096x128 .f32) (harg12 : arg12.IsWhole) (arg13 : Memref sig .tc .vmem S1x2x72x512 .f32) (harg13 : arg13.IsWhole) (arg14 : Memref sig .tc .vmem S128x512 .f32) (harg14 : arg14.IsWhole) (arg15 : Memref sig .tc .vmem S128x512 .bf16) (harg15 : arg15.IsWhole) (arg16 : Memref sig .tc .vmem S128x512 .bf16) (harg16 : arg16.IsWhole) (arg17 : Memref sig .tc .vmem S128x512 .bf16) (harg17 : arg17.IsWhole) (arg18 : Memref sig .tc .vmem S128x512 .bf16) (harg18 : arg18.IsWhole) (arg19 : Memref sig .tc .vmem S4x128x512 .f32) (harg19 : arg19.IsWhole) (arg20 : Memref sig .tc .vmem S4096x512 .f32) (harg20 : arg20.IsWhole) (arg21 : Memref sig .tc .vmem S4096x512 .f32) (harg21 : arg21.IsWhole) (arg22 : Memref sig .tc .vmem S4096x512 .f32) (harg22 : arg22.IsWhole) (arg23 : Memref sig .tc .vmem S4096x512 .f32) (harg23 : arg23.IsWhole)
    (E : Set ℕ) (K : PUnit → sProp (𝕄 F)) :
    iprop(held c arg1 ∗ held c arg2 ∗ held c arg3 ∗ held c arg4 ∗ held c arg5 ∗ held c arg6 ∗ held c arg7 ∗ held c arg8 ∗ held c arg9 ∗ held c arg10 ∗ held c arg11 ∗ held c arg12 ∗ held c arg13 ∗ held c arg14 ∗ held c arg15 ∗ held c arg16 ∗ held c arg17 ∗ held c arg18 ∗ held c arg19 ∗ held c arg20 ∗ held c arg21 ∗ held c arg22 ∗ held c arg23 ∗ (iprop(held c arg1 ∗ held c arg2 ∗ held c arg3 ∗ held c arg4 ∗ held c arg5 ∗ held c arg6 ∗ held c arg7 ∗ held c arg8 ∗ held c arg9 ∗ held c arg10 ∗ held c arg11 ∗ held c arg12 ∗ held c arg13 ∗ held c arg14 ∗ held c arg15 ∗ held c arg16 ∗ held c arg17 ∗ held c arg18 ∗ held c arg19 ∗ held c arg20 ∗ held c arg21 ∗ held c arg22 ∗ held c arg23) -∗ K ⟨⟩))
      ⊢ wp frame (wpE (defs₀ (F := F)) Variants.none c none) E (cc0_ssm_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_ssm_bwd_eq_skeleton]; unfold cc0_ssm_bwd_skel
  simp only [k0_part146_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part73_eq_skeleton, k0_part74_eq_skeleton, k0_part75_eq_skeleton, k0_part76_eq_skeleton, k0_part77_eq_skeleton, k0_part78_eq_skeleton, k0_part79_eq_skeleton, k0_part9_eq_skeleton, k0_part10_eq_skeleton, k0_part11_eq_skeleton, k0_part12_eq_skeleton, k0_part13_eq_skeleton, k0_part14_eq_skeleton, k0_part80_eq_skeleton, k0_part81_eq_skeleton, k0_part82_eq_skeleton, k0_part83_eq_skeleton, k0_part84_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part29_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part116_eq_skeleton, k0_part117_eq_skeleton, k0_part118_eq_skeleton, k0_part119_eq_skeleton, k0_part120_eq_skeleton, k0_part121_eq_skeleton, k0_part122_eq_skeleton, k0_part39_eq_skeleton, k0_part40_eq_skeleton, k0_part41_eq_skeleton, k0_part42_eq_skeleton, k0_part43_eq_skeleton, k0_part123_eq_skeleton, k0_part124_eq_skeleton, k0_part125_eq_skeleton, k0_part126_eq_skeleton, k0_part127_eq_skeleton, k0_part128_eq_skeleton, k0_part57_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part58_eq_skeleton, k0_part140_eq_skeleton, k0_part141_eq_skeleton, k0_part142_eq_skeleton, k0_part143_eq_skeleton, k0_part144_eq_skeleton, k0_part145_eq_skeleton]
  unfold held owns
  iintro ⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  sl_exec
  sl_step
  iapply Hk
  isplitl [H0]; · iapply to_held; iexact H0
  isplitl [H1]; · iapply to_held; iexact H1
  isplitl [H2]; · iapply to_held; iexact H2
  isplitl [H3]; · iapply to_held; iexact H3
  isplitl [H4]; · iapply to_held; iexact H4
  isplitl [H5]; · iapply to_held; iexact H5
  isplitl [H6]; · iapply to_held; iexact H6
  isplitl [H7]; · iapply to_held; iexact H7
  isplitl [H8]; · iapply to_held; iexact H8
  isplitl [H9]; · iapply to_held; iexact H9
  isplitl [H10]; · iapply to_held; iexact H10
  isplitl [H11]; · iapply to_held; iexact H11
  isplitl [H12]; · iapply to_held; iexact H12
  isplitl [H13]; · iapply to_held; iexact H13
  isplitl [H14]; · iapply to_held; iexact H14
  isplitl [H15]; · iapply to_held; iexact H15
  isplitl [H16]; · iapply to_held; iexact H16
  isplitl [H17]; · iapply to_held; iexact H17
  isplitl [H18]; · iapply to_held; iexact H18
  isplitl [H19]; · iapply to_held; iexact H19
  isplitl [H20]; · iapply to_held; iexact H20
  isplitl [H21]; · iapply to_held; iexact H21
  iapply to_held; iexact H22

end Cert.SsmBwdIdeal.Scan
-- ==== Proof.ScanBwd.FrameIdeal.lean ====
/-
  The scan's backward, idealized: its launch. Every window is forgotten, so what is left is that the body runs at every point from any contents
  (`body`), that the arguments are inputs, which no write-back reaches, and that the counters end at zero.
-/
module

public import proofs.«01_k».proof.Proof.ScanBwd.BodyIdeal

@[expose] public section

set_option maxRecDepth 16384

noncomputable section

namespace Cert.SsmBwdIdeal.Scan

open Cert.SsmBwdIdeal Cert.SsmBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

variable (m : (ℓ : Loc nD τ sig) → Buf (Elt F) ℓ) (ρ : Dev nD → PrngReg)

/-- No window's contents are named. -/
def forgets : Fin 13 → Bool := fun _ => true

/-- The arrays as the region finds them; the scratch at any contents between the points. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- The ten scratch buffers of core `c`. -/
def scratch (c : Dev nD) : sProp (𝕄 F) := iprop(held c (Memref.whole cc0_scratch0) ∗ held c (Memref.whole cc0_scratch1) ∗ held c (Memref.whole cc0_scratch2) ∗ held c (Memref.whole cc0_scratch3) ∗ held c (Memref.whole cc0_scratch4) ∗ held c (Memref.whole cc0_scratch5) ∗ held c (Memref.whole cc0_scratch6) ∗ held c (Memref.whole cc0_scratch7) ∗ held c (Memref.whole cc0_scratch8) ∗ held c (Memref.whole cc0_scratch9))

/-- The thirteen staging buffers of the point `t`. -/
def stages (c : Dev nD) (t : Fin cfg0.N) : sProp (𝕄 F) := iprop(held c (win0_0.stage (cfg0.slots t 0)) ∗ held c (win0_1.stage (cfg0.slots t 1)) ∗ held c (win0_2.stage (cfg0.slots t 2)) ∗ held c (win0_3.stage (cfg0.slots t 3)) ∗ held c (win0_4.stage (cfg0.slots t 4)) ∗ held c (win0_5.stage (cfg0.slots t 5)) ∗ held c (win0_6.stage (cfg0.slots t 6)) ∗ held c (win0_7.stage (cfg0.slots t 7)) ∗ held c (win0_8.stage (cfg0.slots t 8)) ∗ held c (win0_9.stage (cfg0.slots t 9)) ∗ held c (win0_10.stage (cfg0.slots t 10)) ∗ held c (win0_11.stage (cfg0.slots t 11)) ∗ held c (win0_12.stage (cfg0.slots t 12)))

theorem invariant_eq (c : Dev nD) : (Pipeline.ΦA spec0 c : sProp (𝕄 F)) = iprop(scratch c ∗ (∃ r, prngReg c r)) := by
  unfold Pipeline.ΦA; rw [scopedRest0_eq]; unfold scratch; simp only [held, owns_whole]; try rfl

/-- What surrounds the body at the point `t`: the same before and after. -/
def around (c : Dev nD) (t : Fin cfg0.N) : sProp (𝕄 F) :=
  iprop(Pipeline.ΦA spec0 c ∗ (dats m 0 c).owesAt () t.castSucc ∗ stages c t)

theorem sound_body (c : Dev nD) (t : Fin cfg0.N) :
    around m c t ⊢ wp frame (wpE (defs₀ (F := F)) Variants.none c none) Set.univ (bodyAt0 t) (fun _ => around m c t) := by
  unfold around bodyAt0 stages
  rw [invariant_eq]
  unfold scratch
  iintro ⟨⟨⟨S0, S1, S2, S3, S4, S5, S6, S7, S8, S9⟩, Hg⟩, Ho, ⟨H0, H1, H2, H3, H4, H5, H6, H7, H8, H9, H10, H11, H12⟩⟩
  iapply (body c (grid0.coords t) _ _ _ _ _ _ _ _ _ _ _ _ _ _ _ _ _ _ _ _ _ _ _ _ _ _ _ _ _ _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iintro ⟨H0, H1, H2, H3, H4, H5, H6, H7, H8, H9, H10, H11, H12, S0, S1, S2, S3, S4, S5, S6, S7, S8, S9⟩
  isplitl [S0 S1 S2 S3 S4 S5 S6 S7 S8 S9 Hg]
  · isplitl [S0 S1 S2 S3 S4 S5 S6 S7 S8 S9]
    · iframe
    iexact Hg
  isplitl [Ho]; · iexact Ho
  iframe

theorem body_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, body_row]
  exact triple_restated (sound_body m c t) rfl .rfl fun _ => .rfl

-- the launch theorem's implicit arguments are found by unifying its conclusion with this statement
set_option backward.isDefEq.respectTransparency.types false in
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

variable {m ρ}

/-- An input's array ends as the region found it. -/
theorem input_kept {r : PUnit × MemSt nD τ sig (Elt F)}
    (h : Pipeline.RDat.FramePost (cfgs 0) (fun c => (dats (F := F) m 0 c).toRForget forgets) (V m) r) (c : Dev nD)
    (w : Fin cfg0.W) (hw : (cfg0.win w).isOut = false) :
    r.2.mem ((spec0 w).arr.view.loc (c.tc : Thread nD τ)) = V m c (Pipeline.arrRef spec0 w) := by
  have h1 := (h c).1 w
  rw [Pipeline.RDat.ArrAt_in _ w hw] at h1
  exact h1

variable (m ρ)

theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨input_kept h.1 c 0 rfl, input_kept h.1 c 1 rfl, input_kept h.1 c 2 rfl, input_kept h.1 c 3 rfl, input_kept h.1 c 4 rfl, input_kept h.1 c 5 rfl, input_kept h.1 c 6 rfl, input_kept h.1 c 7 rfl, input_kept h.1 c 8 rfl, input_kept h.1 c 9 rfl, input_kept h.1 c 10 rfl⟩, h.2⟩) (run_main m ρ)

end Cert.SsmBwdIdeal.Scan

end
-- ==== Proof.ScanFwd.BodyIdeal.lean ====
/-
  The scan, idealized: its frame. The body runs from staging buffers and scratch at any contents to the same, as nothing that
  it stores, loads or counts by depends on what a buffer holds; no window's contents are named.
-/
module

public import proofs.«01_k».proof.Proof.Gen.SsmFwdIdeal.Frame.Runs
public import proofs.«01_k».proof.Proof.Gen.SsmFwdIdeal.Loops
public import proofs.«01_k».proof.Proof.Gen.SsmFwdIdeal.Skeleton
public import Idealize.ShloMosaic.Lib.Pipeline.Frame
public import Idealize.ShloMosaic.Lib.Tactic

@[expose] public section

set_option maxRecDepth 16384

noncomputable section

namespace Cert.SsmFwdIdeal.Scan

open Cert.SsmFwdIdeal Cert.SsmFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The state that the assertions speak of. -/
abbrev 𝕄 (F : FTy → Type) : Type := MT nD τ sig Unit (Elt F) ℕ (UR sig nD τ) ℕ

variable (m : (ℓ : Loc nD τ sig) → Buf (Elt F) ℓ) (ρ : Dev nD → PrngReg)

/-- A buffer of core `c` that is owned whole at some contents. -/
abbrev held (c : Dev nD) {sp : Space} {S : Shape} {e : EltTy} (M : Memref sig .tc sp S e) : sProp (𝕄 F) :=
  iprop(∃ d, owns (c : Thread nD τ) M fullShare d)

/-- A buffer held whole at any contents is held. -/
theorem to_held (c : Dev nD) {sp : Space} {S : Shape} {e : EltTy} (M : Memref sig .tc sp S e)
    (f : Buf (Elt F) (M.view.loc (c : Thread nD τ))) :
    (M.view.loc (c : Thread nD τ) ↦[M.view.set]{fullShare} f : sProp (𝕄 F)) ⊢ held c M := by
  unfold held owns
  iintro H
  iexists _, _; isplitr; swap; · iexact H
  ipureintro; rfl

set_option maxHeartbeats 20000000 in
theorem body (c : Dev nD) (i : grid0.Coords) (arg1 : Memref sig .tc .vmem S4096x128 .bf16) (harg1 : arg1.IsWhole) (arg2 : Memref sig .tc .vmem S2x8x64 .f32) (harg2 : arg2.IsWhole) (arg3 : Memref sig .tc .vmem S2x8x64 .f32) (harg3 : arg3.IsWhole) (arg4 : Memref sig .tc .vmem S2x8x1 .f32) (harg4 : arg4.IsWhole) (arg5 : Memref sig .tc .vmem S2x8x16x64 .f32) (harg5 : arg5.IsWhole) (arg6 : Memref sig .tc .vmem S2x8x16x64 .f32) (harg6 : arg6.IsWhole) (arg7 : Memref sig .tc .vmem S2x8x16x64 .f32) (harg7 : arg7.IsWhole) (arg8 : Memref sig .tc .vmem S2x8x16x64 .f32) (harg8 : arg8.IsWhole) (arg9 : Memref sig .tc .vmem S1x128 .f32) (harg9 : arg9.IsWhole) (arg10 : Memref sig .tc .vmem S4096x128 .f32) (harg10 : arg10.IsWhole) (arg11 : Memref sig .tc .vmem S1x2x4x8x512 .f32) (harg11 : arg11.IsWhole) (arg12 : Memref sig .tc .vmem S128x512 .f32) (harg12 : arg12.IsWhole) (arg13 : Memref sig .tc .vmem S128x512 .bf16) (harg13 : arg13.IsWhole) (arg14 : Memref sig .tc .vmem S128x512 .bf16) (harg14 : arg14.IsWhole) (arg15 : Memref sig .tc .vmem S128x512 .bf16) (harg15 : arg15.IsWhole) (arg16 : Memref sig .tc .vmem S128x512 .bf16) (harg16 : arg16.IsWhole) (arg17 : Memref sig .tc .vmem S4096x512 .f32) (harg17 : arg17.IsWhole) (arg18 : Memref sig .tc .vmem S4096x512 .f32) (harg18 : arg18.IsWhole)
    (E : Set ℕ) (K : PUnit → sProp (𝕄 F)) :
    iprop(held c arg1 ∗ held c arg2 ∗ held c arg3 ∗ held c arg4 ∗ held c arg5 ∗ held c arg6 ∗ held c arg7 ∗ held c arg8 ∗ held c arg9 ∗ held c arg10 ∗ held c arg11 ∗ held c arg12 ∗ held c arg13 ∗ held c arg14 ∗ held c arg15 ∗ held c arg16 ∗ held c arg17 ∗ held c arg18 ∗ (iprop(held c arg1 ∗ held c arg2 ∗ held c arg3 ∗ held c arg4 ∗ held c arg5 ∗ held c arg6 ∗ held c arg7 ∗ held c arg8 ∗ held c arg9 ∗ held c arg10 ∗ held c arg11 ∗ held c arg12 ∗ held c arg13 ∗ held c arg14 ∗ held c arg15 ∗ held c arg16 ∗ held c arg17 ∗ held c arg18) -∗ K ⟨⟩))
      ⊢ wp frame (wpE (defs₀ (F := F)) Variants.none c none) E (cc0_ssm_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ssm_fwd_eq_skeleton]; unfold cc0_ssm_fwd_skel
  simp only [k0_part79_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part1_eq_skeleton, k0_part2_eq_skeleton, k0_part3_eq_skeleton, k0_part4_eq_skeleton, k0_part5_eq_skeleton, k0_part42_eq_skeleton, k0_part43_eq_skeleton, k0_part44_eq_skeleton, k0_part45_eq_skeleton, k0_part46_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part14_eq_skeleton, k0_part15_eq_skeleton, k0_part16_eq_skeleton, k0_part17_eq_skeleton, k0_part18_eq_skeleton, k0_part19_eq_skeleton, k0_part67_eq_skeleton, k0_part68_eq_skeleton, k0_part69_eq_skeleton, k0_part70_eq_skeleton, k0_part71_eq_skeleton, k0_part72_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part73_eq_skeleton, k0_part74_eq_skeleton, k0_part75_eq_skeleton, k0_part76_eq_skeleton, k0_part77_eq_skeleton, k0_part78_eq_skeleton]
  unfold held owns
  iintro ⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  sl_exec
  sl_step
  iapply Hk
  isplitl [H0]; · iapply to_held; iexact H0
  isplitl [H1]; · iapply to_held; iexact H1
  isplitl [H2]; · iapply to_held; iexact H2
  isplitl [H3]; · iapply to_held; iexact H3
  isplitl [H4]; · iapply to_held; iexact H4
  isplitl [H5]; · iapply to_held; iexact H5
  isplitl [H6]; · iapply to_held; iexact H6
  isplitl [H7]; · iapply to_held; iexact H7
  isplitl [H8]; · iapply to_held; iexact H8
  isplitl [H9]; · iapply to_held; iexact H9
  isplitl [H10]; · iapply to_held; iexact H10
  isplitl [H11]; · iapply to_held; iexact H11
  isplitl [H12]; · iapply to_held; iexact H12
  isplitl [H13]; · iapply to_held; iexact H13
  isplitl [H14]; · iapply to_held; iexact H14
  isplitl [H15]; · iapply to_held; iexact H15
  isplitl [H16]; · iapply to_held; iexact H16
  iapply to_held; iexact H17

end Cert.SsmFwdIdeal.Scan
-- ==== Proof.ScanFwd.FrameIdeal.lean ====
/-
  The scan, idealized: its launch. Every window is forgotten, so what is left is that the body runs at every point from any contents
  (`body`), that the arguments are inputs, which no write-back reaches, and that the counters end at zero.
-/
module

public import proofs.«01_k».proof.Proof.ScanFwd.BodyIdeal

@[expose] public section

set_option maxRecDepth 16384

noncomputable section

namespace Cert.SsmFwdIdeal.Scan

open Cert.SsmFwdIdeal Cert.SsmFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

variable (m : (ℓ : Loc nD τ sig) → Buf (Elt F) ℓ) (ρ : Dev nD → PrngReg)

/-- No window's contents are named. -/
def forgets : Fin 11 → Bool := fun _ => true

/-- The arrays as the region finds them; the scratch at any contents between the points. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- The scratch buffers of core `c`. -/
def scratch (c : Dev nD) : sProp (𝕄 F) := iprop(held c (Memref.whole cc0_scratch0) ∗ held c (Memref.whole cc0_scratch1) ∗ held c (Memref.whole cc0_scratch2) ∗ held c (Memref.whole cc0_scratch3) ∗ held c (Memref.whole cc0_scratch4) ∗ held c (Memref.whole cc0_scratch5) ∗ held c (Memref.whole cc0_scratch6))

/-- The staging buffers of the point `t`. -/
def stages (c : Dev nD) (t : Fin cfg0.N) : sProp (𝕄 F) := iprop(held c (win0_0.stage (cfg0.slots t 0)) ∗ held c (win0_1.stage (cfg0.slots t 1)) ∗ held c (win0_2.stage (cfg0.slots t 2)) ∗ held c (win0_3.stage (cfg0.slots t 3)) ∗ held c (win0_4.stage (cfg0.slots t 4)) ∗ held c (win0_5.stage (cfg0.slots t 5)) ∗ held c (win0_6.stage (cfg0.slots t 6)) ∗ held c (win0_7.stage (cfg0.slots t 7)) ∗ held c (win0_8.stage (cfg0.slots t 8)) ∗ held c (win0_9.stage (cfg0.slots t 9)) ∗ held c (win0_10.stage (cfg0.slots t 10)))

theorem invariant_eq (c : Dev nD) : (Pipeline.ΦA spec0 c : sProp (𝕄 F)) = iprop(scratch c ∗ (∃ r, prngReg c r)) := by
  unfold Pipeline.ΦA; rw [scopedRest0_eq]; unfold scratch; simp only [held, owns_whole]; try rfl

/-- What surrounds the body at the point `t`: the same before and after. -/
def around (c : Dev nD) (t : Fin cfg0.N) : sProp (𝕄 F) :=
  iprop(Pipeline.ΦA spec0 c ∗ (dats m 0 c).owesAt () t.castSucc ∗ stages c t)

theorem sound_body (c : Dev nD) (t : Fin cfg0.N) :
    around m c t ⊢ wp frame (wpE (defs₀ (F := F)) Variants.none c none) Set.univ (bodyAt0 t) (fun _ => around m c t) := by
  unfold around bodyAt0 stages
  rw [invariant_eq]
  unfold scratch
  iintro ⟨⟨⟨S0, S1, S2, S3, S4, S5, S6⟩, Hg⟩, Ho, ⟨H0, H1, H2, H3, H4, H5, H6, H7, H8, H9, H10⟩⟩
  iapply (body c (grid0.coords t) _ _ _ _ _ _ _ _ _ _ _ _ _ _ _ _ _ _ _ _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, H7, H8, H9, H10, S0, S1, S2, S3, S4, S5, S6⟩
  isplitl [S0 S1 S2 S3 S4 S5 S6 Hg]
  · isplitl [S0 S1 S2 S3 S4 S5 S6]
    · iframe
    iexact Hg
  isplitl [Ho]; · iexact Ho
  iframe

theorem body_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, body_row]
  exact triple_restated (sound_body m c t) rfl .rfl fun _ => .rfl

-- the launch theorem's implicit arguments are found by unifying its conclusion with this statement
set_option backward.isDefEq.respectTransparency.types false in
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

variable {m ρ}

/-- An input's array ends as the region found it. -/
theorem input_kept {r : PUnit × MemSt nD τ sig (Elt F)}
    (h : Pipeline.RDat.FramePost (cfgs 0) (fun c => (dats (F := F) m 0 c).toRForget forgets) (V m) r) (c : Dev nD)
    (w : Fin cfg0.W) (hw : (cfg0.win w).isOut = false) :
    r.2.mem ((spec0 w).arr.view.loc (c.tc : Thread nD τ)) = V m c (Pipeline.arrRef spec0 w) := by
  have h1 := (h c).1 w
  rw [Pipeline.RDat.ArrAt_in _ w hw] at h1
  exact h1

variable (m ρ)

theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨input_kept h.1 c 0 rfl, input_kept h.1 c 1 rfl, input_kept h.1 c 2 rfl, input_kept h.1 c 3 rfl, input_kept h.1 c 4 rfl, input_kept h.1 c 5 rfl, input_kept h.1 c 6 rfl, input_kept h.1 c 7 rfl, input_kept h.1 c 8 rfl⟩, h.2⟩) (run_main m ρ)

end Cert.SsmFwdIdeal.Scan

end
-- ==== Proof.StepOut.Step.lean ====
/-
  One entry of the optimiser's step, of the parameter `w`, its gradient `g` and the two moments `m` and `v`.
-/
module

public import proofs.«01_k».proof.Defs
public import Idealize.ShloMosaic.Lib.Affine
public import Idealize.ShloMosaic.Lib.Pipeline.ValueKit
public import Idealize.ShloMosaic.Lib.Pointwise
public import Idealize.ShloMosaic.Lib.ReduceAll
public import Idealize.ShloMosaic.Lib.Tactic.CleanTypes

@[expose] public section

set_option maxRecDepth 16384

noncomputable section

open Idealize.ShloMosaic Idealize.ShloMosaic.TcCoe Idealize.SL.Sem

namespace Cert.StepOut

/-- The new first moment. -/
def mom (m g : EReal) : EReal := Ideal.ofBits FTy.f32 1063675494#32 * m + Ideal.ofBits FTy.f32 1036831949#32 * g

/-- The new second moment. -/
def sq (v g : EReal) : EReal := Ideal.ofBits FTy.f32 1065336439#32 * v + Ideal.ofBits FTy.f32 981668463#32 * (g * g)

/-- The change of the parameter. -/
def delta (w g m v : EReal) : EReal :=
  Ideal.ofBits FTy.f32 3129152111#32 *
    (Ideal.div (Ideal.div (mom m g) (Ideal.ofBits FTy.f32 1059503362#32))
        (Ideal.sqrt (Ideal.div (sq v g) (Ideal.ofBits FTy.f32 1008933580#32)) + Ideal.ofBits FTy.f32 841731191#32)
      + Ideal.ofBits FTy.f32 1008981770#32 * w)

/-- Eight parts summed one after the other. -/
theorem sum8 (f : Fin 8 → EReal) : f 0 + f 1 + f 2 + f 3 + f 4 + f 5 + f 6 + f 7 = ∑ d, f d := (Fin.sum_univ_eight f).symm

end Cert.StepOut
-- ==== Proof.StepOut.Value.lean ====
/-
  The optimiser's step of w_out, its gradient summed from the parts that came in: the kernel's four results are the reference's.
-/
module

public import proofs.«01_k».proof.Defs
public import proofs.«01_k».proof.Proof.Gen.AdamOutIdeal.Value
public import proofs.«01_k».proof.Proof.Gen.AdamOutRefIdeal.Run
public import proofs.«01_k».proof.Proof.StepOut.Step

@[expose] public section

set_option maxRecDepth 16384

noncomputable section

open Idealize.ShloMosaic Idealize.ShloMosaic.TcCoe Idealize.SL.Sem

namespace Cert.AdamOutKernel

open Cert.AdamOutIdeal Cert.AdamOutIdeal.Gen

variable (m : (ℓ : Loc nD τ sig) → Buf (Elt Ideal) ℓ) (c : Dev nD)

abbrev W (r : Fin 256) (k : Fin 2048) : EReal := m ((c : Thread nD τ).loc main_arg0) (ix2 r k)
/-- One part of the gradient. -/
abbrev L (d : Fin 8) (r : Fin 256) (k : Fin 2048) : EReal := m ((c : Thread nD τ).loc main_arg1) (ix3 d r k)
/-- The sum of the parts of the gradient. -/
def G (r : Fin 256) (k : Fin 2048) : EReal := ∑ d, L m c d r k
abbrev M (r : Fin 256) (k : Fin 2048) : EReal := m ((c : Thread nD τ).loc main_arg2) (ix2 r k)
abbrev S (r : Fin 256) (k : Fin 2048) : EReal := m ((c : Thread nD τ).loc main_arg3) (ix2 r k)

theorem G_eq (r : Fin 256) (k : Fin 2048) : L m c 0 r k + L m c 1 r k + L m c 2 r k + L m c 3 r k + L m c 4 r k + L m c 5 r k
    + L m c 6 r k + L m c 7 r k = G m c r k := StepOut.sum8 fun d => L m c d r k

theorem idx : ∀ t : Fin grid0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] := by
  decide +kernel

/-- Row `a` of the `t`-th block of 128 rows. -/
def row (t : Fin cfg0.N) (a : Fin 128) : Fin 256 :=
  ⟨t.val * 128 + a.val, by have := t.isLt; have : cfg0.N = 2 := N_0; omega⟩

theorem read0 (t : Fin cfg0.N) (a : Fin 128) (k : Fin 2048) : iblk m c 0 t (ix2 a k) = W m c (row t a) k := by
  unfold W row; blk_ext! [iblk, V, idx t]
theorem read1 (t : Fin cfg0.N) (d : Fin 8) (a : Fin 128) (k : Fin 2048) : iblk m c 1 t (ix3 d a k) = L m c d (row t a) k := by
  unfold L row; blk_ext! [iblk, V, idx t]
theorem read2 (t : Fin cfg0.N) (a : Fin 128) (k : Fin 2048) : iblk m c 2 t (ix2 a k) = M m c (row t a) k := by
  unfold M row; blk_ext! [iblk, V, idx t]
theorem read3 (t : Fin cfg0.N) (a : Fin 128) (k : Fin 2048) : iblk m c 3 t (ix2 a k) = S m c (row t a) k := by
  unfold S row; blk_ext! [iblk, V, idx t]
theorem emb4 (t : Fin cfg0.N) (a : Fin 128) (k : Fin 2048) : ((cfg0.win 4).blk t).view.emb (ix2 a k) = ix2 (row t a) k := by
  unfold row; blk_ext! [idx t]
theorem emb5 (t : Fin cfg0.N) (a : Fin 128) (k : Fin 2048) : ((cfg0.win 5).blk t).view.emb (ix2 a k) = ix2 (row t a) k := by
  unfold row; blk_ext! [idx t]
theorem emb6 (t : Fin cfg0.N) (a : Fin 128) (k : Fin 2048) : ((cfg0.win 6).blk t).view.emb (ix2 a k) = ix2 (row t a) k := by
  unfold row; blk_ext! [idx t]
theorem emb7 (t : Fin cfg0.N) (a : Fin 128) (k : Fin 2048) : ((cfg0.win 7).blk t).view.emb (ix2 a k) = ix2 (row t a) k := by
  unfold row; blk_ext! [idx t]

theorem final4 : (dats m 0 c).arrAt 4 cfg0.N = fun i => G m c (i 0) (i 1) := by
  refine (dats m 0 c).arrAt_eq_of_covers 4 _ (by decide +kernel) fun t hf y => ?_
  idx_vars y
  rw [emb4]
  blk_simp
  rw [after0_4]
  frame_out
  unfold_payloads
  pointwise
  simp only [read0, read1, read2, read3, G_eq]

theorem final5 : (dats m 0 c).arrAt 5 cfg0.N = fun i => StepOut.delta (W m c (i 0) (i 1)) (G m c (i 0) (i 1)) (M m c (i 0) (i 1)) (S m c (i 0) (i 1)) := by
  refine (dats m 0 c).arrAt_eq_of_covers 5 _ (by decide +kernel) fun t hf y => ?_
  idx_vars y
  rw [emb5]
  blk_simp
  rw [after0_5]
  frame_out
  unfold_payloads
  pointwise
  simp only [read0, read1, read2, read3, G_eq]
  rfl

theorem final6 : (dats m 0 c).arrAt 6 cfg0.N = fun i => StepOut.mom (M m c (i 0) (i 1)) (G m c (i 0) (i 1)) := by
  refine (dats m 0 c).arrAt_eq_of_covers 6 _ (by decide +kernel) fun t hf y => ?_
  idx_vars y
  rw [emb6]
  blk_simp
  rw [after0_6]
  frame_out
  unfold_payloads
  pointwise
  simp only [read0, read1, read2, read3, G_eq]
  rfl

theorem final7 : (dats m 0 c).arrAt 7 cfg0.N = fun i => StepOut.sq (S m c (i 0) (i 1)) (G m c (i 0) (i 1)) := by
  refine (dats m 0 c).arrAt_eq_of_covers 7 _ (by decide +kernel) fun t hf y => ?_
  idx_vars y
  rw [emb7]
  blk_simp
  rw [after0_7]
  frame_out
  unfold_payloads
  pointwise
  simp only [read0, read1, read2, read3, G_eq]
  rfl

end Cert.AdamOutKernel

namespace Cert.AdamOutRef

open Cert.AdamOutRefIdeal

variable (m : (ℓ : Loc nD τ sig) → Buf (Elt Ideal) ℓ) (ρ : Dev nD → PrngReg) (c : Dev nD)

abbrev W (r : Fin 256) (k : Fin 2048) : EReal := m ((c.tc : Thread nD τ).loc main_arg0) (ix2 r k)
abbrev L (d : Fin 8) (r : Fin 256) (k : Fin 2048) : EReal := m ((c.tc : Thread nD τ).loc main_arg1) (ix3 d r k)
abbrev G (r : Fin 256) (k : Fin 2048) : EReal := ∑ d, L m c d r k
abbrev M (r : Fin 256) (k : Fin 2048) : EReal := m ((c.tc : Thread nD τ).loc main_arg2) (ix2 r k)
abbrev S (r : Fin 256) (k : Fin 2048) : EReal := m ((c.tc : Thread nD τ).loc main_arg3) (ix2 r k)

theorem run : θ_run defs (onTc (τ := τ) (main (F := Ideal))) ⟨m, fun _ => 0, ρ⟩ fun r => ∀ c : Dev nD,
      (r.2.mem ((c.tc : Thread nD τ).loc main_v1) = (fun i => G m c (i 0) (i 1))
      ∧ r.2.mem ((c.tc : Thread nD τ).loc main_v25) = (fun i => StepOut.delta (W m c (i 0) (i 1)) (G m c (i 0) (i 1)) (M m c (i 0) (i 1)) (S m c (i 0) (i 1)))
      ∧ r.2.mem ((c.tc : Thread nD τ).loc main_v6) = (fun i => StepOut.mom (M m c (i 0) (i 1)) (G m c (i 0) (i 1)))
      ∧ r.2.mem ((c.tc : Thread nD τ).loc main_v12) = (fun i => StepOut.sq (S m c (i 0) (i 1)) (G m c (i 0) (i 1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨⟨(h c).1.trans ?_, (h c).2.1.trans ?_, (h c).2.2.1.trans ?_, (h c).2.2.2.1.trans ?_⟩,
    (h c).2.2.2.2⟩) (Cert.AdamOutRefIdeal.Value.run m ρ)
  all_goals
    clear h
    funext i
    obtain ⟨a, k, rfl⟩ : ∃ (a : Fin 256) (k : Fin 2048), i = ix2 a k := ⟨i 0, i 1, eq_ix2 i⟩
    clean_types
    pointwise
  all_goals rfl

end Cert.AdamOutRef

namespace Cert.StepOut

theorem frame_ref : Cert.quiescent_AdamOutRefIdeal := fun m ρ _ =>
  (θ_run _ _ _).mono (fun r h => ⟨fun c => (h c).2, sem_eq_zero_of_no_sems (by decide) r.2⟩) (AdamOutRef.run m ρ)

theorem algebraic : Cert.algebraic_AdamOutIdeal_AdamOutRefIdeal := fun m ρ m' ρ' _ hag => by
  refine ⟨fun c => (Cert.AdamOutIdeal.Gen.dats m 0 c).arrAt 4 Cert.AdamOutIdeal.cfg0.N,
    fun c => (Cert.AdamOutIdeal.Gen.dats m 0 c).arrAt 5 Cert.AdamOutIdeal.cfg0.N,
    fun c => (Cert.AdamOutIdeal.Gen.dats m 0 c).arrAt 6 Cert.AdamOutIdeal.cfg0.N,
    fun c => (Cert.AdamOutIdeal.Gen.dats m 0 c).arrAt 7 Cert.AdamOutIdeal.cfg0.N, Cert.AdamOutIdeal.Value.run_blocks m ρ,
    (θ_run _ _ _).mono (fun r h c => ⟨(h c).1.1.trans ?_, (h c).1.2.1.trans ?_, (h c).1.2.2.1.trans ?_, (h c).1.2.2.2.trans ?_,
      (h c).2⟩) (AdamOutRef.run m' ρ')⟩
  all_goals
    obtain ⟨g0, g1, g2, g3⟩ := hag c
    have hW : AdamOutRef.W m' c = AdamOutKernel.W m c := by unfold AdamOutRef.W; rw [g0]
    have hG : AdamOutRef.G m' c = AdamOutKernel.G m c := by unfold AdamOutRef.G AdamOutRef.L; rw [g1]; rfl
    have hM : AdamOutRef.M m' c = AdamOutKernel.M m c := by unfold AdamOutRef.M; rw [g2]
    have hS : AdamOutRef.S m' c = AdamOutKernel.S m c := by unfold AdamOutRef.S; rw [g3]
  · rw [hG]
    exact (AdamOutKernel.final4 m c).symm
  · rw [hW, hG, hM, hS]
    exact (AdamOutKernel.final5 m c).symm
  · rw [hG, hM]
    exact (AdamOutKernel.final6 m c).symm
  · rw [hG, hS]
    exact (AdamOutKernel.final7 m c).symm

end Cert.StepOut
-- ==== Proof.StepC.Value.lean ====
/-
  The optimiser's step of a parameter kept in four dimensions: the kernel's three results are the reference's.
-/
module

public import proofs.«01_k».proof.Defs
public import proofs.«01_k».proof.Proof.Gen.AdamCIdeal.Value
public import proofs.«01_k».proof.Proof.Gen.AdamCRefIdeal.Run
public import proofs.«01_k».proof.Proof.StepOut.Step

@[expose] public section

set_option maxRecDepth 16384

noncomputable section

open Idealize.ShloMosaic Idealize.ShloMosaic.TcCoe Idealize.SL.Sem

namespace Cert.AdamCKernel

open Cert.AdamCIdeal Cert.AdamCIdeal.Gen

variable (m : (ℓ : Loc nD τ sig) → Buf (Elt Ideal) ℓ) (c : Dev nD)

def W (r : Fin 2048) (k : Fin 64) : EReal :=
  shapeCast (α := EReal) S2048x64 (m ((c : Thread nD τ).loc main_arg0)) shapeCasts_S2x64x16x64_S2048x64 (ix2 r k)
def G (r : Fin 2048) (k : Fin 64) : EReal :=
  shapeCast (α := EReal) S2048x64 (m ((c : Thread nD τ).loc main_arg1)) shapeCasts_S2x64x16x64_S2048x64 (ix2 r k)
def M (r : Fin 2048) (k : Fin 64) : EReal :=
  shapeCast (α := EReal) S2048x64 (m ((c : Thread nD τ).loc main_arg2)) shapeCasts_S2x64x16x64_S2048x64 (ix2 r k)
def S (r : Fin 2048) (k : Fin 64) : EReal :=
  shapeCast (α := EReal) S2048x64 (m ((c : Thread nD τ).loc main_arg3)) shapeCasts_S2x64x16x64_S2048x64 (ix2 r k)

theorem idx : ∀ t : Fin grid0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] := by
  decide +kernel

theorem cols0 : (V m c main_v0 : S2048x64.Idx → EReal)
    = shapeCast (α := EReal) S2048x64 (m ((c : Thread nD τ).loc main_arg0)) shapeCasts_S2x64x16x64_S2048x64 := by
  simp only [V, hostOps0]
  after_results_simp
  rfl
theorem read0 (t : Fin cfg0.N) (a : Fin 2048) (k : Fin 64) : iblk m c 0 t (ix2 a k) = W m c a k := by
  refine Eq.trans ?_ (congrFun (cols0 m c) (ix2 a k))
  unfold iblk
  generalize V m c main_v0 = v
  blk_ext! [idx t]
theorem cols1 : (V m c main_v1 : S2048x64.Idx → EReal)
    = shapeCast (α := EReal) S2048x64 (m ((c : Thread nD τ).loc main_arg1)) shapeCasts_S2x64x16x64_S2048x64 := by
  simp only [V, hostOps0]
  after_results_simp
  rfl
theorem read1 (t : Fin cfg0.N) (a : Fin 2048) (k : Fin 64) : iblk m c 1 t (ix2 a k) = G m c a k := by
  refine Eq.trans ?_ (congrFun (cols1 m c) (ix2 a k))
  unfold iblk
  generalize V m c main_v1 = v
  blk_ext! [idx t]
theorem cols2 : (V m c main_v2 : S2048x64.Idx → EReal)
    = shapeCast (α := EReal) S2048x64 (m ((c : Thread nD τ).loc main_arg2)) shapeCasts_S2x64x16x64_S2048x64 := by
  simp only [V, hostOps0]
  after_results_simp
  rfl
theorem read2 (t : Fin cfg0.N) (a : Fin 2048) (k : Fin 64) : iblk m c 2 t (ix2 a k) = M m c a k := by
  refine Eq.trans ?_ (congrFun (cols2 m c) (ix2 a k))
  unfold iblk
  generalize V m c main_v2 = v
  blk_ext! [idx t]
theorem cols3 : (V m c main_v3 : S2048x64.Idx → EReal)
    = shapeCast (α := EReal) S2048x64 (m ((c : Thread nD τ).loc main_arg3)) shapeCasts_S2x64x16x64_S2048x64 := by
  simp only [V, hostOps0]
  after_results_simp
  rfl
theorem read3 (t : Fin cfg0.N) (a : Fin 2048) (k : Fin 64) : iblk m c 3 t (ix2 a k) = S m c a k := by
  refine Eq.trans ?_ (congrFun (cols3 m c) (ix2 a k))
  unfold iblk
  generalize V m c main_v3 = v
  blk_ext! [idx t]
theorem emb4 (t : Fin cfg0.N) (a : Fin 2048) (k : Fin 64) : ((cfg0.win 4).blk t).view.emb (ix2 a k) = ix2 a k := by
  blk_ext! [idx t]
theorem emb5 (t : Fin cfg0.N) (a : Fin 2048) (k : Fin 64) : ((cfg0.win 5).blk t).view.emb (ix2 a k) = ix2 a k := by
  blk_ext! [idx t]
theorem emb6 (t : Fin cfg0.N) (a : Fin 2048) (k : Fin 64) : ((cfg0.win 6).blk t).view.emb (ix2 a k) = ix2 a k := by
  blk_ext! [idx t]

theorem final4 : (dats m 0 c).arrAt 4 cfg0.N = fun i => StepOut.delta (W m c (i 0) (i 1)) (G m c (i 0) (i 1)) (M m c (i 0) (i 1)) (S m c (i 0) (i 1)) := by
  refine (dats m 0 c).arrAt_eq_of_covers 4 _ (by decide +kernel) fun t hf y => ?_
  idx_vars y
  rw [emb4]
  blk_simp
  rw [after0_4]
  frame_out
  unfold_payloads
  pointwise
  simp only [read0, read1, read2, read3]
  rfl

theorem final5 : (dats m 0 c).arrAt 5 cfg0.N = fun i => StepOut.mom (M m c (i 0) (i 1)) (G m c (i 0) (i 1)) := by
  refine (dats m 0 c).arrAt_eq_of_covers 5 _ (by decide +kernel) fun t hf y => ?_
  idx_vars y
  rw [emb5]
  blk_simp
  rw [after0_5]
  frame_out
  unfold_payloads
  pointwise
  simp only [read0, read1, read2, read3]
  rfl

theorem final6 : (dats m 0 c).arrAt 6 cfg0.N = fun i => StepOut.sq (S m c (i 0) (i 1)) (G m c (i 0) (i 1)) := by
  refine (dats m 0 c).arrAt_eq_of_covers 6 _ (by decide +kernel) fun t hf y => ?_
  idx_vars y
  rw [emb6]
  blk_simp
  rw [after0_6]
  frame_out
  unfold_payloads
  pointwise
  simp only [read0, read1, read2, read3]
  rfl

end Cert.AdamCKernel

namespace Cert.AdamCRef

open Cert.AdamCRefIdeal Cert.AdamCRefIdeal.Gen

variable (m : (ℓ : Loc nD τ sig) → Buf (Elt Ideal) ℓ) (ρ : Dev nD → PrngReg) (c : Dev nD)

def W (r : Fin 2048) (k : Fin 64) : EReal :=
  shapeCast (α := EReal) S2048x64 (m ((c.tc : Thread nD τ).loc main_arg0)) shapeCasts_S2x64x16x64_S2048x64 (ix2 r k)
def G (r : Fin 2048) (k : Fin 64) : EReal :=
  shapeCast (α := EReal) S2048x64 (m ((c.tc : Thread nD τ).loc main_arg1)) shapeCasts_S2x64x16x64_S2048x64 (ix2 r k)
def M (r : Fin 2048) (k : Fin 64) : EReal :=
  shapeCast (α := EReal) S2048x64 (m ((c.tc : Thread nD τ).loc main_arg2)) shapeCasts_S2x64x16x64_S2048x64 (ix2 r k)
def S (r : Fin 2048) (k : Fin 64) : EReal :=
  shapeCast (α := EReal) S2048x64 (m ((c.tc : Thread nD τ).loc main_arg3)) shapeCasts_S2x64x16x64_S2048x64 (ix2 r k)

theorem run : θ_run defs (onTc (τ := τ) (main (F := Ideal))) ⟨m, fun _ => 0, ρ⟩ fun r => ∀ c : Dev nD,
      (r.2.mem ((c.tc : Thread nD τ).loc main_v24) = (fun i => StepOut.delta (W m c (i 0) (i 1)) (G m c (i 0) (i 1)) (M m c (i 0) (i 1)) (S m c (i 0) (i 1)))
      ∧ r.2.mem ((c.tc : Thread nD τ).loc main_v25) = (fun i => StepOut.mom (M m c (i 0) (i 1)) (G m c (i 0) (i 1)))
      ∧ r.2.mem ((c.tc : Thread nD τ).loc main_v26) = (fun i => StepOut.sq (S m c (i 0) (i 1)) (G m c (i 0) (i 1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨⟨(h c).1.trans ?_, (h c).2.1.trans ?_, (h c).2.2.1.trans ?_⟩, (h c).2.2.2⟩)
    (Cert.AdamCRefIdeal.Value.run m ρ)
  all_goals
    clear h
    funext i
    obtain ⟨a, k, rfl⟩ : ∃ (a : Fin 2048) (k : Fin 64), i = ix2 a k := ⟨i 0, i 1, eq_ix2 i⟩
    rfl

end Cert.AdamCRef

namespace Cert.StepC

theorem frame_ref : Cert.quiescent_AdamCRefIdeal := fun m ρ _ =>
  (θ_run _ _ _).mono (fun r h => ⟨fun c => (h c).2, sem_eq_zero_of_no_sems (by decide) r.2⟩) (AdamCRef.run m ρ)

theorem algebraic : Cert.algebraic_AdamCIdeal_AdamCRefIdeal := fun m ρ m' ρ' _ hag => by
  refine ⟨fun c => (Cert.AdamCIdeal.Gen.dats m 0 c).arrAt 4 Cert.AdamCIdeal.cfg0.N,
    fun c => (Cert.AdamCIdeal.Gen.dats m 0 c).arrAt 5 Cert.AdamCIdeal.cfg0.N,
    fun c => (Cert.AdamCIdeal.Gen.dats m 0 c).arrAt 6 Cert.AdamCIdeal.cfg0.N, Cert.AdamCIdeal.Value.run_blocks m ρ,
    (θ_run _ _ _).mono (fun r h c => ⟨(h c).1.1.trans ?_, (h c).1.2.1.trans ?_, (h c).1.2.2.trans ?_, (h c).2⟩) (AdamCRef.run m' ρ')⟩
  all_goals
    obtain ⟨g0, g1, g2, g3⟩ := hag c
    have hW : AdamCRef.W m' c = AdamCKernel.W m c := by unfold AdamCRef.W; rw [g0]; rfl
    have hG : AdamCRef.G m' c = AdamCKernel.G m c := by unfold AdamCRef.G; rw [g1]; rfl
    have hM : AdamCRef.M m' c = AdamCKernel.M m c := by unfold AdamCRef.M; rw [g2]; rfl
    have hS : AdamCRef.S m' c = AdamCKernel.S m c := by unfold AdamCRef.S; rw [g3]; rfl
  · rw [hW, hG, hM, hS]
    exact (AdamCKernel.final4 m c).symm
  · rw [hG, hM]
    exact (AdamCKernel.final5 m c).symm
  · rw [hG, hS]
    exact (AdamCKernel.final6 m c).symm

end Cert.StepC
-- ==== Proof.SumB.Value.lean ====
/-
  The sum of the blocks that came in: the kernel's result is the reference's.
-/
module

public import proofs.«01_k».proof.Defs
public import proofs.«01_k».proof.Proof.Gen.SumBlocksIdeal.Value
public import proofs.«01_k».proof.Proof.Gen.SumRefIdeal.Run
public import proofs.«01_k».proof.Proof.StepOut.Step

@[expose] public section

set_option maxRecDepth 16384

noncomputable section

open Idealize.ShloMosaic Idealize.ShloMosaic.TcCoe Idealize.SL.Sem

namespace Cert.SumKernel

open Cert.SumBlocksIdeal Cert.SumBlocksIdeal.Gen

variable (m : (ℓ : Loc nD τ sig) → Buf (Elt Ideal) ℓ) (c : Dev nD)

/-- One block. -/
abbrev B (d : Fin 8) (r : Fin 144) (k : Fin 512) : EReal := m ((c : Thread nD τ).loc main_arg0) (ix3 d r k)

theorem B_eq (r : Fin 144) (k : Fin 512) : B m c 0 r k + B m c 1 r k + B m c 2 r k + B m c 3 r k + B m c 4 r k + B m c 5 r k
    + B m c 6 r k + B m c 7 r k = ∑ d, B m c d r k := StepOut.sum8 fun d => B m c d r k

theorem idx : ∀ t : Fin grid0.N, win0_0.index t = ![0, 0, 0] ∧ win0_1.index t = ![0, 0] := by
  decide +kernel

theorem read0 (t : Fin cfg0.N) (d : Fin 8) (a : Fin 144) (k : Fin 512) : iblk m c 0 t (ix3 d a k) = B m c d a k := by
  unfold B; blk_ext! [iblk, V, idx t]
theorem emb1 (t : Fin cfg0.N) (a : Fin 144) (k : Fin 512) : ((cfg0.win 1).blk t).view.emb (ix2 a k) = ix2 a k := by
  blk_ext! [idx t]

theorem final1 : (dats m 0 c).arrAt 1 cfg0.N = fun i => ∑ d, B m c d (i 0) (i 1) := by
  refine (dats m 0 c).arrAt_eq_of_covers 1 _ (by decide +kernel) fun t hf y => ?_
  idx_vars y
  rw [emb1]
  blk_simp
  rw [after0_1]
  frame_out
  unfold_payloads
  pointwise
  simp only [read0, B_eq]

end Cert.SumKernel

namespace Cert.SumRef

open Cert.SumRefIdeal

variable (m : (ℓ : Loc nD τ sig) → Buf (Elt Ideal) ℓ) (ρ : Dev nD → PrngReg) (c : Dev nD)

abbrev B (d : Fin 8) (r : Fin 144) (k : Fin 512) : EReal := m ((c.tc : Thread nD τ).loc main_arg0) (ix3 d r k)

theorem run : θ_run defs (onTc (τ := τ) (main (F := Ideal))) ⟨m, fun _ => 0, ρ⟩ fun r => ∀ c : Dev nD,
      r.2.mem ((c.tc : Thread nD τ).loc main_v0) = (fun i => ∑ d, B m c d (i 0) (i 1))
      ∧ r.2.mem ((c.tc : Thread nD τ).loc main_arg0) = m ((c.tc : Thread nD τ).loc main_arg0) := by
  refine (θ_run defs _ _).mono (fun r h c => ⟨(h c).1.trans ?_, (h c).2⟩) (Cert.SumRefIdeal.Value.run m ρ)
  clear h
  funext i
  obtain ⟨a, k, rfl⟩ : ∃ (a : Fin 144) (k : Fin 512), i = ix2 a k := ⟨i 0, i 1, eq_ix2 i⟩
  clean_types
  pointwise

end Cert.SumRef

namespace Cert.SumB

theorem frame_ref : Cert.quiescent_SumRefIdeal := fun m ρ _ =>
  (θ_run _ _ _).mono (fun r h => ⟨fun c => (h c).2, sem_eq_zero_of_no_sems (by decide) r.2⟩) (SumRef.run m ρ)

theorem algebraic : Cert.algebraic_SumBlocksIdeal_SumRefIdeal := fun m ρ m' ρ' _ hag => by
  refine ⟨fun c => (Cert.SumBlocksIdeal.Gen.dats m 0 c).arrAt 1 Cert.SumBlocksIdeal.cfg0.N, Cert.SumBlocksIdeal.Value.run_blocks m ρ,
    (θ_run _ _ _).mono (fun r h c => ⟨(h c).1.trans ?_, (h c).2⟩) (SumRef.run m' ρ')⟩
  have hB : SumRef.B m' c = SumKernel.B m c := by unfold SumRef.B; rw [hag c]
  rw [hB]
  exact (SumKernel.final1 m c).symm

end Cert.SumB
-- ==== Proof.DOutP.Value.lean ====
/-
  The gradient of the output projection's weight, its products summed over two halves of the tokens: the kernel's result is the
  reference's.
-/
module

public import proofs.«01_k».proof.Defs
public import proofs.«01_k».proof.Proof.Gen.DOutProjIdeal.Value
public import proofs.«01_k».proof.Proof.Gen.DOutRefIdeal.Run
public import Idealize.ShloMosaic.Lib.Affine
public import Idealize.ShloMosaic.Lib.Pipeline.ValueKit
public import Idealize.ShloMosaic.Lib.Pipeline.ReadBack
public import Idealize.ShloMosaic.Lib.Pointwise
public import Idealize.ShloMosaic.Lib.ReduceAll
public import Idealize.ShloMosaic.Lib.Tactic.CleanTypes

@[expose] public section

set_option maxRecDepth 16384

noncomputable section

open Idealize.ShloMosaic Idealize.ShloMosaic.TcCoe Idealize.SL.Sem

namespace Cert.DOutKernel

open Cert.DOutProjIdeal Cert.DOutProjIdeal.Gen

variable (m : (ℓ : Loc nD τ sig) → Buf (Elt Ideal) ℓ) (c : Dev nD)

abbrev A (r : Fin 4096) (j : Fin 2048) : EReal := m ((c : Thread nD τ).loc main_arg0) (ix2 r j)
abbrev D (r : Fin 4096) (k : Fin 2048) : EReal := m ((c : Thread nD τ).loc main_arg1) (ix2 r k)

theorem idx : ∀ t : Fin grid0.N, win0_0.index t = ![t.val % 2, t.val / 2] ∧ win0_1.index t = ![t.val % 2, 0]
    ∧ win0_2.index t = ![t.val / 2, 0] := by
  decide +kernel

theorem odd_of_flush : ∀ t : Fin grid0.N, win0_2.flush t = true → t.val % 2 = 1 := by decide +kernel

/-- Column `a` of the weight's block at point `t`. -/
def col (t : Fin cfg0.N) (a : Fin 1024) : Fin 2048 :=
  ⟨t.val / 2 * 1024 + a.val, by have := t.isLt; have : cfg0.N = 4 := N_0; omega⟩

/-- Token `b` of the half `s` of the tokens. -/
def tok (s : Fin 2) (b : Fin 2048) : Fin 4096 := ⟨s.val * 2048 + b.val, by omega⟩

theorem read0 (t : Fin cfg0.N) (s : Fin 2) (hs : t.val % 2 = s.val) (b : Fin 2048) (a : Fin 1024) :
    iblk m c 0 t (ix2 b a) = A m c (tok s b) (col t a) := by
  unfold A tok col; blk_ext! [iblk, V, idx t, hs]
theorem read1 (t : Fin cfg0.N) (s : Fin 2) (hs : t.val % 2 = s.val) (b k : Fin 2048) :
    iblk m c 1 t (ix2 b k) = D m c (tok s b) k := by
  unfold D tok; blk_ext! [iblk, V, idx t, hs]
theorem emb2 (t : Fin cfg0.N) (a : Fin 1024) (k : Fin 2048) : ((cfg0.win 2).blk t).view.emb (ix2 a k) = ix2 (col t a) k := by
  unfold col; blk_ext! [idx t]

/-- The products of one half of the tokens. -/
abbrev half (s : Fin 2) (j k : Fin 2048) : EReal := ∑ b, A m c (tok s b) j * D m c (tok s b) k

/-- Before its last half, a block of the weight has the products of the first half in the scratch. -/
theorem first (t : Fin cfg0.N) (h : t.val % 2 = 0) (a : Fin 1024) (k : Fin 2048) :
    (outsAt0 m c t.val t.isLt).2 (ix2 a k) = half m c 0 (col t a) k := by
  rw [outsAt0_A m c t h (by omega)]
  frame_out
  unfold_payloads
  pointwise
  simp only [read0 m c t 0 h, read1 m c t 0 h]

theorem final2 : (dats m 0 c).arrAt 2 cfg0.N = fun i => half m c 0 (i 0) (i 1) + half m c 1 (i 0) (i 1) := by
  refine (dats m 0 c).arrAt_eq_of_covers 2 _ (by decide +kernel) fun t hf y => ?_
  have h : t.val % 2 = 1 := odd_of_flush t hf
  idx_vars y
  rw [emb2]
  blk_simp
  rw [after0_2, outsAt0_B m c t (by omega) h]
  frame_out
  unfold_payloads
  pointwise
  simp only [read0 m c t 1 h, read1 m c t 1 h]
  rw [read_unread_whole]
  have hp : t.val - 1 < cfg0.N := by exact (Nat.sub_le _ _).trans_lt t.isLt
  have hc : col ⟨t.val - 1, hp⟩ y0 = col t y0 := by unfold col; ext; show (t.val - 1) / 2 * 1024 + y0.val = t.val / 2 * 1024 + y0.val; omega
  have hq := first m c ⟨t.val - 1, hp⟩ (by show (t.val - 1) % 2 = 0; omega) y0 y1
  rw [hc] at hq
  exact congrArg (· + half m c 1 (col t y0) y1) hq

/-- The two halves of the tokens are all of them. -/
theorem whole (j k : Fin 2048) : ∑ r, D m c r k * A m c r j = half m c 0 j k + half m c 1 j k := by
  refine Eq.trans ?_ (Fin.sum_univ_two fun s => half m c s j k)
  exact (Fin.sum_mul_add_congr (S := 2) (n := 2048) (F := fun s b => A m c (tok s b) j * D m c (tok s b) k)
    (f := fun r => D m c r k * A m c r j) (fun s b hl => mul_comm _ _) rfl).symm

end Cert.DOutKernel

namespace Cert.DOutRef

open Cert.DOutRefIdeal

variable (m : (ℓ : Loc nD τ sig) → Buf (Elt Ideal) ℓ) (ρ : Dev nD → PrngReg) (c : Dev nD)

abbrev A (r : Fin 4096) (j : Fin 2048) : EReal := m ((c.tc : Thread nD τ).loc main_arg0) (ix2 r j)
abbrev D (r : Fin 4096) (k : Fin 2048) : EReal := m ((c.tc : Thread nD τ).loc main_arg1) (ix2 r k)

theorem run : θ_run defs (onTc (τ := τ) (main (F := Ideal))) ⟨m, fun _ => 0, ρ⟩ fun r => ∀ c : Dev nD,
      r.2.mem ((c.tc : Thread nD τ).loc main_v6) = (fun i => ∑ r, D m c r (i 1) * A m c r (i 0))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.DOutRefIdeal.Value.run m ρ)
  clear h
  funext i
  obtain ⟨a, k, rfl⟩ : ∃ (a : Fin 2048) (k : Fin 2048), i = ix2 a k := ⟨i 0, i 1, eq_ix2 i⟩
  clean_types
  pointwise

end Cert.DOutRef

namespace Cert.DOutP

theorem frame_ref : Cert.quiescent_DOutRefIdeal := fun m ρ _ =>
  (θ_run _ _ _).mono (fun r h => ⟨fun c => (h c).2, sem_eq_zero_of_no_sems (by decide) r.2⟩) (DOutRef.run m ρ)

theorem algebraic : Cert.algebraic_DOutProjIdeal_DOutRefIdeal := fun m ρ m' ρ' _ hag => by
  refine ⟨fun c => (Cert.DOutProjIdeal.Gen.dats m 0 c).arrAt 2 Cert.DOutProjIdeal.cfg0.N, Cert.DOutProjIdeal.Value.run_blocks m ρ,
    (θ_run _ _ _).mono (fun r h c => ⟨(h c).1.trans ?_, (h c).2⟩) (DOutRef.run m' ρ')⟩
  obtain ⟨g0, g1⟩ := hag c
  have hA : DOutRef.A m' c = DOutKernel.A m c := by unfold DOutRef.A; rw [g0]
  have hD : DOutRef.D m' c = DOutKernel.D m c := by unfold DOutRef.D; rw [g1]
  rw [hA, hD]
  exact (funext fun i : DOutProjIdeal.S2048x2048.Idx => DOutKernel.whole m c (i 0) (i 1)).trans (DOutKernel.final2 m c).symm

end Cert.DOutP
-- ==== Proof.Pair.Core.lean ====
/-
  A core's place on its chip is 0 or 1, and the block that the place names lies in the array.
-/
module

public import proofs.«01_k».proof.Defs
public import proofs.«01_k».proof.Proof.Gen.PairSum.Frame
public import proofs.«01_k».proof.Proof.Gen.PairSumIdeal.Frame
public import proofs.«01_k».proof.Proof.Gen.Pre_own_core
public import Idealize.ShloMosaic.Lib.Pipeline.ValueKit

@[expose] public section

set_option maxRecDepth 16384

noncomputable section

open Idealize.ShloMosaic Idealize.ShloMosaic.TcCoe Idealize.SL.Sem

namespace Cert.Pair

/-- A table of one word has one index. -/
theorem one (a b : (⟨1, ![1]⟩ : Shape).Idx) : a = b := by
  funext d
  match d with
  | ⟨0, _⟩ => exact Subsingleton.elim (α := Fin 1) _ _

/-- The precondition names the place. -/
theorem place_of_pre {F : FTy → Type} [FloatOps F] (p : IVec Cert.Pre_own_core.S1 32) (x : FVec F Cert.Pre_own_core.S8x576x2048 .bf16)
    (g : FVec F Cert.Pre_own_core.S4x576x2048 .bf16) (h : Cert.Pre_own_core.fn p x g = fun _ => 1#1) :
    ∃ w : Fin 2, p (ix1 0) = BitVec.ofNat 32 w.val := by
  have e := congrFun h (ix1 0)
  simp only [Cert.Pre_own_core.fn, andi, cmpi, broadcastInDim, constantI] at e
  have both : ∀ a b : Bool, IntOp.andi (BitVec.ofBool a) (BitVec.ofBool b) = 1#1 → a = true ∧ b = true := by decide
  obtain ⟨lo, hi⟩ := both _ _ e
  generalize p (ix1 0) = v at *
  simp only [BitVec.sle_eq_decide, BitVec.slt_eq_decide, decide_eq_true_eq] at lo hi
  have h0 : (0#32 : BitVec 32).toInt = 0 := by decide
  have h2 : (2#32 : BitVec 32).toInt = 2 := by decide
  have hv := BitVec.toInt_eq_toNat_cond v
  have lt := v.isLt
  refine ⟨⟨v.toNat, by split at hv <;> omega⟩, ?_⟩
  simp

end Cert.Pair

namespace Cert.PairSum

open Gen

/-- The block that the first window stages at a grid point, of the core's place. -/
abbrev own (w : BitVec 32) (i : grid0.Coords) : Fin 3 → Nat :=
  ![(Scalar.addi (Scalar.muli 2#32 (BitVec.ofNat 32 (i 0).val)) w).toNat, (BitVec.ofNat 32 (i 1).val).toNat, (0#32 : BitVec 32).toNat]

/-- The place that the launch memory names. -/
abbrev place (m : (ℓ : Loc nD τ sig) → Buf (Elt Bits) ℓ) : BitVec 32 := m (((0 : Dev nD) : Thread nD τ).loc main_arg0) (ix1 0)

theorem at_place (m : (ℓ : Loc nD τ sig) → Buf (Elt Bits) ℓ) (i : grid0.Coords) (h h1) :
    cc0_transform_0 h h1 (tbl m) i = own (place m) i := by
  have e : (tbl m).at 0 (Rect.unit (s := S1) ![0] S1.size h) h1 = place m := by
    exact congrArg (m (((0 : Dev nD) : Thread nD τ).loc main_arg0)) (Pair.one _ _)
  unfold cc0_transform_0 own
  rw [e]

theorem own_in : ∀ w : Fin 2, ∀ (i : grid0.Coords) (a : Fin 3), (own (BitVec.ofNat 32 w.val) i a + 1) * S1x576x2048.size a ≤ S8x576x2048.size a := by
  decide +kernel

theorem ok_of_pre (m : (ℓ : Loc nD τ sig) → Buf (Elt Bits) ℓ) (w : Fin 2) (hw : place m = BitVec.ofNat 32 w.val) : Ok m := by
  intro i
  refine ⟨?_, .inr (Affine.block_words_dvd (of_decide_eq_true rfl) (by decide))⟩
  rw [at_place, hw]
  exact own_in w i

end Cert.PairSum

namespace Cert.PairSumIdeal

open Gen

/-- The block that the first window stages at a grid point, of the core's place. -/
abbrev own (w : BitVec 32) (i : grid0.Coords) : Fin 3 → Nat :=
  ![(Scalar.addi (Scalar.muli 2#32 (BitVec.ofNat 32 (i 0).val)) w).toNat, (BitVec.ofNat 32 (i 1).val).toNat, (0#32 : BitVec 32).toNat]

/-- The place that the launch memory names. -/
abbrev place (m : (ℓ : Loc nD τ sig) → Buf (Elt Ideal) ℓ) : BitVec 32 := m (((0 : Dev nD) : Thread nD τ).loc main_arg0) (ix1 0)

theorem at_place (m : (ℓ : Loc nD τ sig) → Buf (Elt Ideal) ℓ) (i : grid0.Coords) (h h1) :
    cc0_transform_0 h h1 (tbl m) i = own (place m) i := by
  have e : (tbl m).at 0 (Rect.unit (s := S1) ![0] S1.size h) h1 = place m := by
    exact congrArg (m (((0 : Dev nD) : Thread nD τ).loc main_arg0)) (Pair.one _ _)
  unfold cc0_transform_0 own
  rw [e]

theorem own_in : ∀ w : Fin 2, ∀ (i : grid0.Coords) (a : Fin 3), (own (BitVec.ofNat 32 w.val) i a + 1) * S1x576x2048.size a ≤ S8x576x2048.size a := by
  decide +kernel

theorem ok_of_pre (m : (ℓ : Loc nD τ sig) → Buf (Elt Ideal) ℓ) (w : Fin 2) (hw : place m = BitVec.ofNat 32 w.val) : Ok m := by
  intro i
  refine ⟨?_, .inr (Affine.block_words_dvd (of_decide_eq_true rfl) (by decide))⟩
  rw [at_place, hw]
  exact own_in w i

end Cert.PairSumIdeal

end
-- ==== Proof.Pair.Ref.lean ====
/-
  The reference's sum of a core's own part and the part that came in.
-/
module

public import proofs.«01_k».proof.Defs
public import proofs.«01_k».proof.Proof.Gen.PairRefIdeal
public import Idealize.ShloMosaic.Lib.StableHlo.Run
public import Idealize.ShloMosaic.Lib.Pipeline.ValueKit
public import Idealize.ShloMosaic.Lib.Pipeline.Value
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.PairRef

open Cert.PairRefIdeal Cert.PairRefIdeal.Gen

section

variable {F : FTy → Type} [FloatOps F] (m : (ℓ : Loc nD τ sig) → Buf (Elt F) ℓ) (ρ : Dev nD → PrngReg)

/-- The lines of the reference. -/
abbrev lines : List (HloOp τ sig (Elt F)) :=
  [ unary main_arg1 main_v0 ((extf .f32 · bitsLt_bf16_f32) : (⟨S8x576x2048, .bf16⟩ : BufTy).Contents (Elt F) → (⟨S8x576x2048, .f32⟩ : BufTy).Contents (Elt F)),
    reshape main_v0 main_v1 (rfl : (.f32 : EltTy) = .f32) shapeCasts_S8x576x2048_S4x2x576x2048,
    reshape main_arg0 main_v2 (rfl : (.i32 : EltTy) = .i32) shapeCasts_S1_S_,
    nullary main_c (constantI S_ 32 0#32),
    binary main_v2 main_c main_v3 (cmpi .eq : (⟨S_, .i32⟩ : BufTy).Contents (Elt F) → (⟨S_, .i32⟩ : BufTy).Contents (Elt F) → (⟨S_, .i1⟩ : BufTy).Contents (Elt F)),
    unary main_v3 main_v4 (broadcastInDim S4x576x2048 ![] bcast_S_S4x576x2048 : (⟨S_, .i1⟩ : BufTy).Contents (Elt F) → (⟨S4x576x2048, .i1⟩ : BufTy).Contents (Elt F)),
    unary main_v1 main_v5 ((extractStridedSlice S4x1x576x2048 ![0, 0, 0, 0] · slices_S4x2x576x2048_S4x1x576x2048_0_0_0_0) : (⟨S4x2x576x2048, .f32⟩ : BufTy).Contents (Elt F) → (⟨S4x1x576x2048, .f32⟩ : BufTy).Contents (Elt F)),
    reshape main_v5 main_v6 (rfl : (.f32 : EltTy) = .f32) shapeCasts_S4x1x576x2048_S4x576x2048,
    unary main_v1 main_v7 ((extractStridedSlice S4x1x576x2048 ![0, 1, 0, 0] · slices_S4x2x576x2048_S4x1x576x2048_0_1_0_0) : (⟨S4x2x576x2048, .f32⟩ : BufTy).Contents (Elt F) → (⟨S4x1x576x2048, .f32⟩ : BufTy).Contents (Elt F)),
    reshape main_v7 main_v8 (rfl : (.f32 : EltTy) = .f32) shapeCasts_S4x1x576x2048_S4x576x2048,
    ternary main_v4 main_v6 main_v8 main_v9 (select : (⟨S4x576x2048, .i1⟩ : BufTy).Contents (Elt F) → (⟨S4x576x2048, .f32⟩ : BufTy).Contents (Elt F) → (⟨S4x576x2048, .f32⟩ : BufTy).Contents (Elt F) → (⟨S4x576x2048, .f32⟩ : BufTy).Contents (Elt F)),
    unary main_arg2 main_v10 ((extf .f32 · bitsLt_bf16_f32) : (⟨S4x576x2048, .bf16⟩ : BufTy).Contents (Elt F) → (⟨S4x576x2048, .f32⟩ : BufTy).Contents (Elt F)),
    binary main_v9 main_v10 main_v11 (addf : (⟨S4x576x2048, .f32⟩ : BufTy).Contents (Elt F) → (⟨S4x576x2048, .f32⟩ : BufTy).Contents (Elt F) → (⟨S4x576x2048, .f32⟩ : BufTy).Contents (Elt F)),
    unary main_v11 main_v12 ((truncf .bf16 · bitsLt_bf16_f32) : (⟨S4x576x2048, .f32⟩ : BufTy).Contents (Elt F) → (⟨S4x576x2048, .bf16⟩ : BufTy).Contents (Elt F)) ]

theorem lines_sub : (lines : List (HloOp τ sig (Elt F))).Forall fun op => op.bufs ⊆ tcRefs τ sig := by
  exact ⟨unary_bufs_sub .., reshape_bufs_sub .., reshape_bufs_sub .., nullary_bufs_sub .., binary_bufs_sub .., unary_bufs_sub ..,
    unary_bufs_sub .., reshape_bufs_sub .., unary_bufs_sub .., reshape_bufs_sub .., ternary_bufs_sub .., unary_bufs_sub .., binary_bufs_sub ..,
    unary_bufs_sub ..⟩

theorem ends : θ_run defs (onTc (τ := τ) (main (F := F))) ⟨m, fun _ => 0, ρ⟩ fun r => ∀ c : Dev nD,
      r.2.mem ((c.tc : Thread nD τ).loc main_v12) = after lines (fun b => m (c, b)) main_v12
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨h c main_v12, (h c main_arg0).trans (by after_results), (h c main_arg1).trans (by after_results),
      (h c main_arg2).trans (by after_results)⟩)
    (run_seq (by decide) (by decide) defs main (fun _ => lines) (fun _ => rfl) (fun _ => lines_sub) m ρ)

end

variable (m : (ℓ : Loc nD τ sig) → Buf (Elt Ideal) ℓ) (c : Dev nD)

abbrev place : BitVec 32 := m ((c.tc : Thread nD τ).loc main_arg0) (ix1 0)
abbrev X (p : Fin 4) (w : Fin 2) (r : Fin 576) (k : Fin 2048) : EReal :=
  m ((c.tc : Thread nD τ).loc main_arg1) (ix3 (⟨2 * p.val + w.val, by omega⟩ : Fin 8) r k)
abbrev G (p : Fin 4) (r : Fin 576) (k : Fin 2048) : EReal := m ((c.tc : Thread nD τ).loc main_arg2) (ix3 p r k)

/-- What the lines compute, of the place, the core's own parts and the parts that came in. -/
abbrev term (a : IVec S1 32) (x : FVec Ideal S8x576x2048 .bf16) (g : FVec Ideal S4x576x2048 .bf16) : FVec Ideal S4x576x2048 .bf16 :=
  let v : FVec Ideal S4x2x576x2048 .f32 := shapeCast S4x2x576x2048 (extf .f32 x bitsLt_bf16_f32) shapeCasts_S8x576x2048_S4x2x576x2048
  truncf .bf16 (addf (select (broadcastInDim S4x576x2048 ![] bcast_S_S4x576x2048
      (cmpi .eq (shapeCast S_ a shapeCasts_S1_S_) (constantI S_ 32 0#32)))
      (shapeCast S4x576x2048 (extractStridedSlice S4x1x576x2048 ![0, 0, 0, 0] v slices_S4x2x576x2048_S4x1x576x2048_0_0_0_0)
        shapeCasts_S4x1x576x2048_S4x576x2048)
      (shapeCast S4x576x2048 (extractStridedSlice S4x1x576x2048 ![0, 1, 0, 0] v slices_S4x2x576x2048_S4x1x576x2048_0_1_0_0)
        shapeCasts_S4x1x576x2048_S4x576x2048))
      (extf .f32 g bitsLt_bf16_f32)) bitsLt_bf16_f32

theorem after_eq : after lines (fun b => m (c, b)) main_v12 = term (m ((c.tc : Thread nD τ).loc main_arg0))
    (m ((c.tc : Thread nD τ).loc main_arg1)) (m ((c.tc : Thread nD τ).loc main_arg2)) := by
  after_results
  rfl

theorem value (w : Fin 2) (hw : place m c = BitVec.ofNat 32 w.val) :
    after lines (fun b => m (c, b)) main_v12 = fun i => X m c (i 0) w (i 1) (i 2) + G m c (i 0) (i 1) (i 2) := by
  rw [after_eq]
  funext i
  obtain ⟨p, r, k, rfl⟩ : ∃ (p : Fin 4) (r : Fin 576) (k : Fin 2048), i = ix3 p r k := ⟨i 0, i 1, i 2, eq_ix3 i⟩
  unfold term X G
  unfold place at hw
  generalize m ((c.tc : Thread nD τ).loc main_arg0) = a at *
  clean_types
  pointwise
  rw [hw]
  congr 1
  have e : ∀ (u v : Fin 8), u.val = v.val → m ((c.tc : Thread nD τ).loc main_arg1) (ix3 u r k) = m ((c.tc : Thread nD τ).loc main_arg1) (ix3 v r k) :=
    fun u v h => by rw [Fin.ext h]
  match w with
  | 0 => exact e _ _ (Nat.mul_comm ..)
  | 1 => exact e _ _ (congrArg Nat.succ (Nat.mul_comm ..))

theorem frame : Cert.quiescent_PairRefIdeal := fun m ρ _ =>
  (θ_run _ _ _).mono (fun r h => ⟨fun c => (h c).2, sem_eq_zero_of_no_sems (by decide) r.2⟩) (ends m ρ)

end Cert.PairRef

end
-- ==== Proof.Pair.Value.lean ====
/-
  The sum of a core's own part and the part that came in: the kernel's result is the reference's.
-/
module

public import proofs.«01_k».proof.Proof.Pair.Core
public import proofs.«01_k».proof.Proof.Pair.Ref

@[expose] public section

set_option maxRecDepth 16384

noncomputable section

open Idealize.ShloMosaic Idealize.ShloMosaic.TcCoe Idealize.SL.Sem

namespace Cert.PairSumIdeal

open Gen

variable (m : (ℓ : Loc nD τ sig) → Buf (Elt Ideal) ℓ) (c : Dev nD)

abbrev X (p : Fin 4) (w : Fin 2) (r : Fin 576) (k : Fin 2048) : EReal :=
  m ((c.tc : Thread nD τ).loc main_arg1) (ix3 (⟨2 * p.val + w.val, by omega⟩ : Fin 8) r k)
abbrev G (p : Fin 4) (r : Fin 576) (k : Fin 2048) : EReal := m ((c.tc : Thread nD τ).loc main_arg2) (ix3 p r k)

theorem own_at : ∀ (w : Fin 2) (t : Fin grid0.N), own (BitVec.ofNat 32 w.val) (grid0.coords t) = ![2 * t.val + w.val, 0, 0] := by
  decide +kernel

theorem rest_at : ∀ t : Fin grid0.N, cc0_transform_1 (grid0.coords t) = ![t.val, 0, 0] ∧ cc0_transform_2 (grid0.coords t) = ![t.val, 0, 0] := by
  decide +kernel

variable (hO : Ok m) (w : Fin 2) (hw : place m = BitVec.ofNat 32 w.val)

include hw in
theorem idx (t : Fin (cfgM m hO).N) : ((cfgM m hO).win 0).index t = ![2 * t.val + w.val, 0, 0]
    ∧ ((cfgM m hO).win 1).index t = ![t.val, 0, 0] ∧ ((cfgM m hO).win 2).index t = ![t.val, 0, 0] := by
  refine ⟨?_, (rest_at t).1, (rest_at t).2⟩
  refine (at_place m (grid0.coords t) _ _).trans ?_
  rw [hw]
  exact own_at w t

include hw in
theorem read0 (t : Fin (cfgM m hO).N) (z : Fin 1) (r : Fin 576) (k : Fin 2048) :
    iblk m hO c 0 t (ix3 z r k) = X m c ⟨t.val, t.isLt⟩ w r k := by
  unfold X; blk_ext! [iblk, V, idx m hO w hw t]

include hw in
theorem read1 (t : Fin (cfgM m hO).N) (z : Fin 1) (r : Fin 576) (k : Fin 2048) :
    iblk m hO c 1 t (ix3 z r k) = G m c ⟨t.val, t.isLt⟩ r k := by
  unfold G; blk_ext! [iblk, V, idx m hO w hw t]

include hw in
theorem emb2 (t : Fin (cfgM m hO).N) (z : Fin 1) (r : Fin 576) (k : Fin 2048) :
    (((cfgM m hO).win 2).blk t).view.emb (ix3 z r k) = ix3 (⟨t.val, t.isLt⟩ : Fin 4) r k := by
  blk_ext! [idx m hO w hw t]

/-- The result. -/
abbrev both : FVec Ideal S4x576x2048 .bf16 := fun i => X m c (i 0) w (i 1) (i 2) + G m c (i 0) (i 1) (i 2)

include hw in
theorem left2 (t : Fin (cfgM m hO).N) : (dats m hO 0 c).after 2 t
    = fun y : S1x576x2048.Idx => X m c ⟨t.val, t.isLt⟩ w (y 1) (y 2) + G m c ⟨t.val, t.isLt⟩ (y 1) (y 2) := by
  refine (after0_2 m hO c t).trans ?_
  unfold outsAt0
  frame_out
  refine funext fun y : S1x576x2048.Idx => ?_
  obtain ⟨z, r, k, rfl⟩ : ∃ (z : Fin 1) (r : Fin 576) (k : Fin 2048), y = ix3 z r k := ⟨y 0, y 1, y 2, eq_ix3 y⟩
  unfold_payloads
  pointwise
  exact congrArg₂ (fun a b : EReal => a + b) ((congrFun ((hs0_0 m hO t).read_unread _) (ix3 z r k)).trans (read0 m c hO w hw t z r k))
    ((congrFun ((hs0_1 m hO t).read_unread _) (ix3 z r k)).trans (read1 m c hO w hw t z r k))

include hw in
theorem final2 : (dats m hO 0 c).arrAt 2 (cfgM m hO).N = both m c w := by
  refine (dats m hO 0 c).arrAt_eq_of_cover 2 (both m c w) (fun t _ => ?_) fun i : S4x576x2048.Idx => ?_
  · show ((cfgM m hO).win 2).cut (grid0.coords t) ((dats m hO 0 c).after 2 t) = _
    rw [left2 m c hO w hw]
    refine funext fun y : S1x576x2048.Idx => ?_
    obtain ⟨z, r, k, rfl⟩ : ∃ (z : Fin 1) (r : Fin 576) (k : Fin 2048), y = ix3 z r k := ⟨y 0, y 1, y 2, eq_ix3 y⟩
    exact (congrArg (both m c w) (emb2 m hO w hw t z r k)).symm
  · obtain ⟨t, ht⟩ : ∃ t : Fin (cfgM m hO).N, t.val = (i 0).val := ⟨⟨(i 0).val, (i 0).isLt⟩, rfl⟩
    have h := (((cfgM m hO).win 2).blk t).view.emb_mem_set (ix3 (0 : Fin 1) (i 1) (i 2) : S1x576x2048.Idx)
    have e : (((cfgM m hO).win 2).blk t).view.emb (ix3 (0 : Fin 1) (i 1) (i 2) : S1x576x2048.Idx) = i :=
      (emb2 m hO w hw t 0 (i 1) (i 2)).trans ((congrArg (ix3 · (i 1) (i 2)) (Fin.ext ht)).trans (eq_ix3 i).symm)
    exact ⟨t, flush0_2 _ t, e ▸ h⟩

end Cert.PairSumIdeal

namespace Cert.Pair

open Cert.PairSumIdeal in
theorem kernel_ends (m : (ℓ : Loc nD τ sig) → Buf (Elt Ideal) ℓ) (ρ : Dev nD → PrngReg) (hO : Gen.Ok m) :
    θ_run defs (onTc (τ := τ) (main (F := Ideal))) ⟨m, fun _ => 0, ρ⟩ fun r => ∀ c : Dev nD,
      r.2.mem ((c.tc : Thread nD τ).loc main_v0) = (Gen.dats m hO 0 c).arrAt 2 (Gen.cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).1 2, h.2 c⟩) (θ_run_and (Gen.run_main m ρ hO) (Gen.unchanged m ρ hO))

theorem frame : Cert.quiescent_PairSum := fun m ρ h => by
  obtain ⟨w, hw⟩ := place_of_pre _ _ _ (h 0)
  exact PairSum.Gen.frame m ρ (PairSum.ok_of_pre m w hw)

theorem frame_ideal : Cert.quiescent_PairSumIdeal := fun m ρ h => by
  obtain ⟨w, hw⟩ := place_of_pre _ _ _ (h 0)
  exact PairSumIdeal.Gen.frame m ρ (PairSumIdeal.ok_of_pre m w hw)

theorem algebraic : Cert.algebraic_PairSumIdeal_PairRefIdeal := fun m ρ m' ρ' h hag => by
  obtain ⟨w, hw⟩ := place_of_pre _ _ _ (h 0)
  have hO := PairSumIdeal.ok_of_pre m w hw
  refine ⟨fun c => (PairSumIdeal.Gen.dats m hO 0 c).arrAt 2 (PairSumIdeal.Gen.cfgM m hO).N, kernel_ends m ρ hO,
    (θ_run _ _ _).mono (fun r h c => ⟨(h c).1.trans ?_, (h c).2⟩) (PairRef.ends m' ρ')⟩
  obtain rfl : c = 0 := Subsingleton.elim _ _
  obtain ⟨h0, h1, h2⟩ := hag 0
  have hX : PairRef.X m' 0 = PairSumIdeal.X m 0 := by unfold PairRef.X; rw [h1]
  have hG : PairRef.G m' 0 = PairSumIdeal.G m 0 := by unfold PairRef.G; rw [h2]
  rw [PairRef.value m' 0 w ((congrFun h0 (ix1 0)).trans hw), hX, hG]
  exact (PairSumIdeal.final2 m 0 hO w hw).symm

end Cert.Pair

end
-- ==== Proof.lean ====
/- Each claim about a call of the step: the frames are the generated ones, the values are proved in the modules of the call. -/
module

public import proofs.«01_k».proof.Defs
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InRefIdeal
public import proofs.«01_k».proof.Proof.Gen.InRefIdeal.Run
public import proofs.«01_k».proof.Proof.Gen.InRefIdeal.Read
public import proofs.«01_k».proof.Proof.Gen.Pre_in_bwd_finite
public import proofs.«01_k».proof.Proof.Gen.InBwdIdeal.Value
public import proofs.«01_k».proof.Proof.In.Value
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_attn_finite
public import proofs.«01_k».proof.Proof.Attn.Value
public import proofs.«01_k».proof.Proof.Gen.PleBwd
public import proofs.«01_k».proof.Proof.Gen.PleBwd.Skeleton
public import proofs.«01_k».proof.Proof.Gen.PleBwd.Launch
public import proofs.«01_k».proof.Proof.Gen.PleBwd.Points
public import proofs.«01_k».proof.Proof.Gen.PleBwd.Frame
public import proofs.«01_k».proof.Proof.Gen.PleBwdIdeal
public import proofs.«01_k».proof.Proof.Gen.PleBwdIdeal.Skeleton
public import proofs.«01_k».proof.Proof.Gen.PleBwdIdeal.Launch
public import proofs.«01_k».proof.Proof.Gen.PleBwdIdeal.Points
public import proofs.«01_k».proof.Proof.Gen.PleBwdIdeal.Frame
public import proofs.«01_k».proof.Proof.Gen.PleRefIdeal
public import proofs.«01_k».proof.Proof.Gen.PleRefIdeal.Run
public import proofs.«01_k».proof.Proof.Gen.PleRefIdeal.Read
public import proofs.«01_k».proof.Proof.Gen.Pre_ple_finite
public import proofs.«01_k».proof.Proof.Gen.PleBwdIdeal.Value
public import proofs.«01_k».proof.Proof.Ple.Value
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import proofs.«01_k».proof.Proof.Gen.TailRefIdeal.Run
public import proofs.«01_k».proof.Proof.Gen.TailRefIdeal.Read
public import proofs.«01_k».proof.Proof.Gen.Pre_tail_finite
public import proofs.«01_k».proof.Proof.Gen.TailIdeal.Value
public import proofs.«01_k».proof.Proof.TailCall.Value
public import proofs.«01_k».proof.Proof.Gen.MixBwd
public import proofs.«01_k».proof.Proof.Gen.MixBwd.Skeleton
public import proofs.«01_k».proof.Proof.Gen.MixBwd.Launch
public import proofs.«01_k».proof.Proof.Gen.MixBwd.Points
public import proofs.«01_k».proof.Proof.Gen.MixBwd.Frame
public import proofs.«01_k».proof.Proof.Gen.MixBwdIdeal
public import proofs.«01_k».proof.Proof.Gen.MixBwdIdeal.Skeleton
public import proofs.«01_k».proof.Proof.Gen.MixBwdIdeal.Launch
public import proofs.«01_k».proof.Proof.Gen.MixBwdIdeal.Points
public import proofs.«01_k».proof.Proof.Gen.MixBwdIdeal.Frame
public import proofs.«01_k».proof.Proof.Gen.MixRefIdeal
public import proofs.«01_k».proof.Proof.Gen.MixRefIdeal.Run
public import proofs.«01_k».proof.Proof.Gen.MixRefIdeal.Read
public import proofs.«01_k».proof.Proof.Gen.Pre_mix_finite
public import proofs.«01_k».proof.Proof.Gen.MixBwdIdeal.Value
public import proofs.«01_k».proof.Proof.Mix.Value
public import proofs.«01_k».proof.Proof.Gen.GeluBwd
public import proofs.«01_k».proof.Proof.Gen.GeluBwd.Skeleton
public import proofs.«01_k».proof.Proof.Gen.GeluBwd.Launch
public import proofs.«01_k».proof.Proof.Gen.GeluBwd.Points
public import proofs.«01_k».proof.Proof.Gen.GeluBwd.Frame
public import proofs.«01_k».proof.Proof.Gen.GeluBwdIdeal
public import proofs.«01_k».proof.Proof.Gen.GeluBwdIdeal.Skeleton
public import proofs.«01_k».proof.Proof.Gen.GeluBwdIdeal.Launch
public import proofs.«01_k».proof.Proof.Gen.GeluBwdIdeal.Points
public import proofs.«01_k».proof.Proof.Gen.GeluBwdIdeal.Frame
public import proofs.«01_k».proof.Proof.Gen.GeluRefIdeal
public import proofs.«01_k».proof.Proof.Gen.GeluRefIdeal.Run
public import proofs.«01_k».proof.Proof.Gen.GeluRefIdeal.Read
public import proofs.«01_k».proof.Proof.Gen.Pre_gelu_finite
public import proofs.«01_k».proof.Proof.Gen.GeluBwdIdeal.Value
public import proofs.«01_k».proof.Proof.Gelu.Value
public import proofs.«01_k».proof.Proof.Gen.QkvBwd
public import proofs.«01_k».proof.Proof.Gen.QkvBwd.Skeleton
public import proofs.«01_k».proof.Proof.Gen.QkvBwd.Launch
public import proofs.«01_k».proof.Proof.Gen.QkvBwd.Points
public import proofs.«01_k».proof.Proof.Gen.QkvBwd.Frame
public import proofs.«01_k».proof.Proof.Gen.QkvBwdIdeal
public import proofs.«01_k».proof.Proof.Gen.QkvBwdIdeal.Skeleton
public import proofs.«01_k».proof.Proof.Gen.QkvBwdIdeal.Launch
public import proofs.«01_k».proof.Proof.Gen.QkvBwdIdeal.Points
public import proofs.«01_k».proof.Proof.Gen.QkvBwdIdeal.Frame
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.Pre_qkv_finite
public import proofs.«01_k».proof.Proof.Gen.QkvBwdIdeal.Value
public import proofs.«01_k».proof.Proof.Qkv.Value
public import proofs.«01_k».proof.Proof.Gen.SsmParam
public import proofs.«01_k».proof.Proof.Gen.SsmParam.Skeleton
public import proofs.«01_k».proof.Proof.Gen.SsmParam.Launch
public import proofs.«01_k».proof.Proof.Gen.SsmParam.Points
public import proofs.«01_k».proof.Proof.Gen.SsmParam.Frame
public import proofs.«01_k».proof.Proof.Gen.SsmParamIdeal
public import proofs.«01_k».proof.Proof.Gen.SsmParamIdeal.Skeleton
public import proofs.«01_k».proof.Proof.Gen.SsmParamIdeal.Launch
public import proofs.«01_k».proof.Proof.Gen.SsmParamIdeal.Points
public import proofs.«01_k».proof.Proof.Gen.SsmParamIdeal.Frame
public import proofs.«01_k».proof.Proof.Gen.SsmParamRefIdeal
public import proofs.«01_k».proof.Proof.Gen.SsmParamRefIdeal.Run
public import proofs.«01_k».proof.Proof.Gen.SsmParamRefIdeal.Read
public import proofs.«01_k».proof.Proof.Gen.Pre_ssm_param_finite
public import proofs.«01_k».proof.Proof.Gen.SsmParamIdeal.Value
public import proofs.«01_k».proof.Proof.SsmParam.Value
public import proofs.«01_k».proof.Proof.Gen.NormIn
public import proofs.«01_k».proof.Proof.Gen.NormIn.Skeleton
public import proofs.«01_k».proof.Proof.Gen.NormIn.Launch
public import proofs.«01_k».proof.Proof.Gen.NormIn.Points
public import proofs.«01_k».proof.Proof.Gen.NormIn.Frame
public import proofs.«01_k».proof.Proof.Gen.NormInIdeal
public import proofs.«01_k».proof.Proof.Gen.NormInIdeal.Skeleton
public import proofs.«01_k».proof.Proof.Gen.NormInIdeal.Launch
public import proofs.«01_k».proof.Proof.Gen.NormInIdeal.Points
public import proofs.«01_k».proof.Proof.Gen.NormInIdeal.Frame
public import proofs.«01_k».proof.Proof.Gen.NormRefIdeal
public import proofs.«01_k».proof.Proof.Gen.NormRefIdeal.Run
public import proofs.«01_k».proof.Proof.Gen.NormRefIdeal.Read
public import proofs.«01_k».proof.Proof.Gen.NormInIdeal.Value
public import proofs.«01_k».proof.Proof.Norm.Value
public import proofs.«01_k».proof.Proof.Gen.MixFwd
public import proofs.«01_k».proof.Proof.Gen.MixFwd.Skeleton
public import proofs.«01_k».proof.Proof.Gen.MixFwd.Launch
public import proofs.«01_k».proof.Proof.Gen.MixFwd.Points
public import proofs.«01_k».proof.Proof.Gen.MixFwd.Frame
public import proofs.«01_k».proof.Proof.Gen.MixFwdIdeal
public import proofs.«01_k».proof.Proof.Gen.MixFwdIdeal.Skeleton
public import proofs.«01_k».proof.Proof.Gen.MixFwdIdeal.Launch
public import proofs.«01_k».proof.Proof.Gen.MixFwdIdeal.Points
public import proofs.«01_k».proof.Proof.Gen.MixFwdIdeal.Frame
public import proofs.«01_k».proof.Proof.Gen.MixFwdRefIdeal
public import proofs.«01_k».proof.Proof.Gen.MixFwdRefIdeal.Run
public import proofs.«01_k».proof.Proof.Gen.MixFwdRefIdeal.Read
public import proofs.«01_k».proof.Proof.Gen.MixFwdIdeal.Value
public import proofs.«01_k».proof.Proof.MixFwd.Value
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutRefIdeal
public import proofs.«01_k».proof.Proof.Gen.OutRefIdeal.Run
public import proofs.«01_k».proof.Proof.Gen.OutRefIdeal.Read
public import proofs.«01_k».proof.Proof.Gen.OutProjIdeal.Value
public import proofs.«01_k».proof.Proof.OutP.Value
public import proofs.«01_k».proof.Proof.Gen.QkvPrep
public import proofs.«01_k».proof.Proof.Gen.QkvPrep.Skeleton
public import proofs.«01_k».proof.Proof.Gen.QkvPrep.Launch
public import proofs.«01_k».proof.Proof.Gen.QkvPrep.Points
public import proofs.«01_k».proof.Proof.Gen.QkvPrep.Frame
public import proofs.«01_k».proof.Proof.Gen.QkvPrepIdeal
public import proofs.«01_k».proof.Proof.Gen.QkvPrepIdeal.Skeleton
public import proofs.«01_k».proof.Proof.Gen.QkvPrepIdeal.Launch
public import proofs.«01_k».proof.Proof.Gen.QkvPrepIdeal.Points
public import proofs.«01_k».proof.Proof.Gen.QkvPrepIdeal.Frame
public import proofs.«01_k».proof.Proof.Gen.PrepRefIdeal
public import proofs.«01_k».proof.Proof.Gen.PrepRefIdeal.Run
public import proofs.«01_k».proof.Proof.Gen.PrepRefIdeal.Read
public import proofs.«01_k».proof.Proof.Gen.QkvPrepIdeal.Value
public import proofs.«01_k».proof.Proof.Prep.Value
public import proofs.«01_k».proof.Proof.Gen.SsmBwd
public import proofs.«01_k».proof.Proof.Gen.SsmBwd.Skeleton
public import proofs.«01_k».proof.Proof.Gen.SsmBwd.Launch
public import proofs.«01_k».proof.Proof.Gen.SsmBwd.Points
public import proofs.«01_k».proof.Proof.ScanBwd.Frame
public import proofs.«01_k».proof.Proof.Gen.SsmBwdIdeal
public import proofs.«01_k».proof.Proof.Gen.SsmBwdIdeal.Skeleton
public import proofs.«01_k».proof.Proof.Gen.SsmBwdIdeal.Launch
public import proofs.«01_k».proof.Proof.Gen.SsmBwdIdeal.Points
public import proofs.«01_k».proof.Proof.ScanBwd.FrameIdeal
public import proofs.«01_k».proof.Proof.Gen.SsmFwd
public import proofs.«01_k».proof.Proof.Gen.SsmFwd.Skeleton
public import proofs.«01_k».proof.Proof.Gen.SsmFwd.Launch
public import proofs.«01_k».proof.Proof.Gen.SsmFwd.Points
public import proofs.«01_k».proof.Proof.ScanFwd.Frame
public import proofs.«01_k».proof.Proof.Gen.SsmFwdIdeal
public import proofs.«01_k».proof.Proof.Gen.SsmFwdIdeal.Skeleton
public import proofs.«01_k».proof.Proof.Gen.SsmFwdIdeal.Launch
public import proofs.«01_k».proof.Proof.Gen.SsmFwdIdeal.Points
public import proofs.«01_k».proof.Proof.ScanFwd.FrameIdeal
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamOutIdeal.Value
public import proofs.«01_k».proof.Proof.StepOut.Value
public import proofs.«01_k».proof.Proof.Gen.AdamC
public import proofs.«01_k».proof.Proof.Gen.AdamC.Skeleton
public import proofs.«01_k».proof.Proof.Gen.AdamC.Launch
public import proofs.«01_k».proof.Proof.Gen.AdamC.Points
public import proofs.«01_k».proof.Proof.Gen.AdamC.Frame
public import proofs.«01_k».proof.Proof.Gen.AdamCIdeal
public import proofs.«01_k».proof.Proof.Gen.AdamCIdeal.Skeleton
public import proofs.«01_k».proof.Proof.Gen.AdamCIdeal.Launch
public import proofs.«01_k».proof.Proof.Gen.AdamCIdeal.Points
public import proofs.«01_k».proof.Proof.Gen.AdamCIdeal.Frame
public import proofs.«01_k».proof.Proof.Gen.AdamCRefIdeal
public import proofs.«01_k».proof.Proof.Gen.AdamCRefIdeal.Run
public import proofs.«01_k».proof.Proof.Gen.AdamCRefIdeal.Read
public import proofs.«01_k».proof.Proof.Gen.AdamCIdeal.Value
public import proofs.«01_k».proof.Proof.StepC.Value
public import proofs.«01_k».proof.Proof.Gen.SumBlocks
public import proofs.«01_k».proof.Proof.Gen.SumBlocks.Skeleton
public import proofs.«01_k».proof.Proof.Gen.SumBlocks.Launch
public import proofs.«01_k».proof.Proof.Gen.SumBlocks.Points
public import proofs.«01_k».proof.Proof.Gen.SumBlocks.Frame
public import proofs.«01_k».proof.Proof.Gen.SumBlocksIdeal
public import proofs.«01_k».proof.Proof.Gen.SumBlocksIdeal.Skeleton
public import proofs.«01_k».proof.Proof.Gen.SumBlocksIdeal.Launch
public import proofs.«01_k».proof.Proof.Gen.SumBlocksIdeal.Points
public import proofs.«01_k».proof.Proof.Gen.SumBlocksIdeal.Frame
public import proofs.«01_k».proof.Proof.Gen.SumRefIdeal
public import proofs.«01_k».proof.Proof.Gen.SumRefIdeal.Run
public import proofs.«01_k».proof.Proof.Gen.SumRefIdeal.Read
public import proofs.«01_k».proof.Proof.Gen.SumBlocksIdeal.Value
public import proofs.«01_k».proof.Proof.SumB.Value
public import proofs.«01_k».proof.Proof.Gen.DOutProj
public import proofs.«01_k».proof.Proof.Gen.DOutProj.Skeleton
public import proofs.«01_k».proof.Proof.Gen.DOutProj.Launch
public import proofs.«01_k».proof.Proof.Gen.DOutProj.Points
public import proofs.«01_k».proof.Proof.Gen.DOutProj.Frame
public import proofs.«01_k».proof.Proof.Gen.DOutProjIdeal
public import proofs.«01_k».proof.Proof.Gen.DOutProjIdeal.Skeleton
public import proofs.«01_k».proof.Proof.Gen.DOutProjIdeal.Launch
public import proofs.«01_k».proof.Proof.Gen.DOutProjIdeal.Points
public import proofs.«01_k».proof.Proof.Gen.DOutProjIdeal.Frame
public import proofs.«01_k».proof.Proof.Gen.DOutRefIdeal
public import proofs.«01_k».proof.Proof.Gen.DOutRefIdeal.Run
public import proofs.«01_k».proof.Proof.Gen.DOutRefIdeal.Read
public import proofs.«01_k».proof.Proof.Gen.DOutProjIdeal.Value
public import proofs.«01_k».proof.Proof.DOutP.Value
public import Idealize.ShloMosaic.Adequacy
public import Idealize.ShloMosaic.Init
public import proofs.«01_k».proof.Proof.Gen.PairSum
public import proofs.«01_k».proof.Proof.Gen.PairSum.Skeleton
public import proofs.«01_k».proof.Proof.Gen.PairSum.Launch
public import proofs.«01_k».proof.Proof.Gen.PairSum.Points
public import proofs.«01_k».proof.Proof.Gen.PairSum.Frame
public import proofs.«01_k».proof.Proof.Gen.PairSumIdeal
public import proofs.«01_k».proof.Proof.Gen.PairSumIdeal.Skeleton
public import proofs.«01_k».proof.Proof.Gen.PairSumIdeal.Launch
public import proofs.«01_k».proof.Proof.Gen.PairSumIdeal.Points
public import proofs.«01_k».proof.Proof.Gen.PairSumIdeal.Frame
public import proofs.«01_k».proof.Proof.Gen.PairRefIdeal
public import proofs.«01_k».proof.Proof.Gen.Pre_own_core
public import proofs.«01_k».proof.Proof.Pair.Value

@[expose] public section

noncomputable section

namespace Cert.Proof

open Idealize.ShloMosaic Idealize.SL.Sem

theorem claim : Cert.Claim :=
  ⟨Cert.InBwd.Gen.facts,
    Cert.InBwdIdeal.Gen.facts,
    Cert.InRefIdeal.Gen.facts,
    Cert.Attn.Gen.facts,
    Cert.AttnIdeal.Gen.facts,
    Cert.AttnRefIdeal.Gen.facts,
    Cert.PleBwd.Gen.facts,
    Cert.PleBwdIdeal.Gen.facts,
    Cert.PleRefIdeal.Gen.facts,
    Cert.Tail.Gen.facts,
    Cert.TailIdeal.Gen.facts,
    Cert.TailRefIdeal.Gen.facts,
    Cert.MixBwd.Gen.facts,
    Cert.MixBwdIdeal.Gen.facts,
    Cert.MixRefIdeal.Gen.facts,
    Cert.GeluBwd.Gen.facts,
    Cert.GeluBwdIdeal.Gen.facts,
    Cert.GeluRefIdeal.Gen.facts,
    Cert.QkvBwd.Gen.facts,
    Cert.QkvBwdIdeal.Gen.facts,
    Cert.QkvRefIdeal.Gen.facts,
    Cert.SsmParam.Gen.facts,
    Cert.SsmParamIdeal.Gen.facts,
    Cert.SsmParamRefIdeal.Gen.facts,
    Cert.NormIn.Gen.facts,
    Cert.NormInIdeal.Gen.facts,
    Cert.NormRefIdeal.Gen.facts,
    Cert.MixFwd.Gen.facts,
    Cert.MixFwdIdeal.Gen.facts,
    Cert.MixFwdRefIdeal.Gen.facts,
    Cert.OutProj.Gen.facts,
    Cert.OutProjIdeal.Gen.facts,
    Cert.OutRefIdeal.Gen.facts,
    Cert.QkvPrep.Gen.facts,
    Cert.QkvPrepIdeal.Gen.facts,
    Cert.PrepRefIdeal.Gen.facts,
    Cert.SsmBwd.Gen.facts,
    Cert.SsmBwdIdeal.Gen.facts,
    Cert.SsmFwd.Gen.facts,
    Cert.SsmFwdIdeal.Gen.facts,
    Cert.AdamOut.Gen.facts,
    Cert.AdamOutIdeal.Gen.facts,
    Cert.AdamOutRefIdeal.Gen.facts,
    Cert.AdamC.Gen.facts,
    Cert.AdamCIdeal.Gen.facts,
    Cert.AdamCRefIdeal.Gen.facts,
    Cert.SumBlocks.Gen.facts,
    Cert.SumBlocksIdeal.Gen.facts,
    Cert.SumRefIdeal.Gen.facts,
    Cert.DOutProj.Gen.facts,
    Cert.DOutProjIdeal.Gen.facts,
    Cert.DOutRefIdeal.Gen.facts,
    Cert.PairSum.Gen.facts,
    Cert.PairSumIdeal.Gen.facts,
    Cert.PairRefIdeal.Gen.facts,
    Cert.Pre_in_bwd_finite.Gen.facts,
    Cert.Pre_attn_finite.Gen.facts,
    Cert.Pre_ple_finite.Gen.facts,
    Cert.Pre_tail_finite.Gen.facts,
    Cert.Pre_mix_finite.Gen.facts,
    Cert.Pre_gelu_finite.Gen.facts,
    Cert.Pre_qkv_finite.Gen.facts,
    Cert.Pre_ssm_param_finite.Gen.facts,
    Cert.Pre_own_core.Gen.facts,
    fun m ρ _ => Cert.InBwd.Gen.frame m ρ,
    fun m ρ _ => Cert.InBwdIdeal.Gen.frame m ρ,
    fun m ρ _ => Cert.InBwdIdeal.Gen.frame m ρ,
    In.frame_ref,
    fun m ρ _ => In.frame_ref m ρ trivial,
    fun m ρ _ => Cert.Attn.Gen.frame m ρ,
    fun m ρ _ => Cert.AttnIdeal.Gen.frame m ρ,
    fun m ρ _ => Cert.AttnIdeal.Gen.frame m ρ,
    Attn.frame_ref,
    fun m ρ _ => Attn.frame_ref m ρ trivial,
    fun m ρ _ => Cert.PleBwd.Gen.frame m ρ,
    fun m ρ _ => Cert.PleBwdIdeal.Gen.frame m ρ,
    fun m ρ _ => Cert.PleBwdIdeal.Gen.frame m ρ,
    Ple.frame_ref,
    fun m ρ _ => Ple.frame_ref m ρ trivial,
    fun m ρ _ => Cert.Tail.Gen.frame m ρ,
    fun m ρ _ => Cert.TailIdeal.Gen.frame m ρ,
    fun m ρ _ => Cert.TailIdeal.Gen.frame m ρ,
    TailCall.frame_ref,
    fun m ρ _ => TailCall.frame_ref m ρ trivial,
    fun m ρ _ => Cert.MixBwd.Gen.frame m ρ,
    fun m ρ _ => Cert.MixBwdIdeal.Gen.frame m ρ,
    fun m ρ _ => Cert.MixBwdIdeal.Gen.frame m ρ,
    Mix.frame_ref,
    fun m ρ _ => Mix.frame_ref m ρ trivial,
    fun m ρ _ => Cert.GeluBwd.Gen.frame m ρ,
    fun m ρ _ => Cert.GeluBwdIdeal.Gen.frame m ρ,
    fun m ρ _ => Cert.GeluBwdIdeal.Gen.frame m ρ,
    Gelu.frame_ref,
    fun m ρ _ => Gelu.frame_ref m ρ trivial,
    fun m ρ _ => Cert.QkvBwd.Gen.frame m ρ,
    fun m ρ _ => Cert.QkvBwdIdeal.Gen.frame m ρ,
    fun m ρ _ => Cert.QkvBwdIdeal.Gen.frame m ρ,
    Qkv.frame_ref,
    fun m ρ _ => Qkv.frame_ref m ρ trivial,
    fun m ρ _ => Cert.SsmParam.Gen.frame m ρ,
    fun m ρ _ => Cert.SsmParamIdeal.Gen.frame m ρ,
    fun m ρ _ => Cert.SsmParamIdeal.Gen.frame m ρ,
    SsmParam.frame_ref,
    fun m ρ _ => SsmParam.frame_ref m ρ trivial,
    fun m ρ _ => Cert.NormIn.Gen.frame m ρ,
    fun m ρ _ => Cert.NormInIdeal.Gen.frame m ρ,
    Norm.frame_ref,
    fun m ρ _ => Cert.MixFwd.Gen.frame m ρ,
    fun m ρ _ => Cert.MixFwdIdeal.Gen.frame m ρ,
    MixFwd.frame_ref,
    fun m ρ _ => Cert.OutProj.Gen.frame m ρ,
    fun m ρ _ => Cert.OutProjIdeal.Gen.frame m ρ,
    OutP.frame_ref,
    fun m ρ _ => Cert.QkvPrep.Gen.frame m ρ,
    fun m ρ _ => Cert.QkvPrepIdeal.Gen.frame m ρ,
    Prep.frame_ref,
    fun m ρ _ => Cert.SsmBwd.Scan.frame m ρ,
    fun m ρ _ => Cert.SsmBwdIdeal.Scan.frame m ρ,
    fun m ρ _ => Cert.SsmFwd.Scan.frame m ρ,
    fun m ρ _ => Cert.SsmFwdIdeal.Scan.frame m ρ,
    fun m ρ _ => Cert.AdamOut.Gen.frame m ρ,
    fun m ρ _ => Cert.AdamOutIdeal.Gen.frame m ρ,
    StepOut.frame_ref,
    fun m ρ _ => Cert.AdamC.Gen.frame m ρ,
    fun m ρ _ => Cert.AdamCIdeal.Gen.frame m ρ,
    StepC.frame_ref,
    fun m ρ _ => Cert.SumBlocks.Gen.frame m ρ,
    fun m ρ _ => Cert.SumBlocksIdeal.Gen.frame m ρ,
    SumB.frame_ref,
    fun m ρ _ => Cert.DOutProj.Gen.frame m ρ,
    fun m ρ _ => Cert.DOutProjIdeal.Gen.frame m ρ,
    DOutP.frame_ref,
   Pair.frame,
   Pair.frame_ideal,
   PairRef.frame,
   fun m ρ _ => PairRef.frame m ρ trivial,
    trivial,
    In.algebraic,
    trivial,
    Attn.algebraic,
    trivial,
    Ple.algebraic,
    trivial,
    TailCall.algebraic,
    trivial,
    Mix.algebraic,
    Gelu.preserves,
    Gelu.algebraic,
    trivial,
    Qkv.algebraic,
    trivial,
    SsmParam.algebraic,
    trivial,
    Norm.algebraic,
    trivial,
    MixFwd.algebraic,
    trivial,
    OutP.algebraic,
    trivial,
    Prep.algebraic,
    trivial,
    trivial,
    trivial,
    StepOut.algebraic,
    trivial,
    StepC.algebraic,
    trivial,
    SumB.algebraic,
    trivial,
    DOutP.algebraic,
   trivial,
   Pair.algebraic⟩

end Cert.Proof

end
